-- ==== Defs.lean ====
def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostIdeal_finite_post [hPre_finite_post : Cert.Pre_finite_post.Facts] (m : (ℓ : Loc Cert.PostIdeal.nD Cert.PostIdeal.τ Cert.PostIdeal.sig) → Buf (Elt Ideal) ℓ) : Prop :=
  ∀ c : Dev Cert.PostIdeal.nD,
    (Cert.Pre_finite_post.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6))) = (fun _ => 1#1)

def Pre_PostRefIdeal (m : (ℓ : Loc Cert.PostRefIdeal.nD Cert.PostRefIdeal.τ Cert.PostRefIdeal.sig) → Buf (Elt Ideal) ℓ) : Prop :=
  True

def Pre_PostRefIdeal_finite_post [hPre_finite_post : Cert.Pre_finite_post.Facts] (m : (ℓ : Loc Cert.PostRefIdeal.nD Cert.PostRefIdeal.τ Cert.PostRefIdeal.sig) → Buf (Elt Ideal) ℓ) : Prop :=
  ∀ c : Dev Cert.PostRefIdeal.nD,
    (Cert.Pre_finite_post.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6))) = (fun _ => 1#1)

def Pre_Pre (m : (ℓ : Loc Cert.Pre.nD Cert.Pre.τ Cert.Pre.sig) → Buf (Elt Bits) ℓ) : Prop :=
  True

def Pre_PreIdeal (m : (ℓ : Loc Cert.PreIdeal.nD Cert.PreIdeal.τ Cert.PreIdeal.sig) → Buf (Elt Ideal) ℓ) : Prop :=
  True

def Pre_PreIdeal_finite_pre [hPre_finite_pre : Cert.Pre_finite_pre.Facts] (m : (ℓ : Loc Cert.PreIdeal.nD Cert.PreIdeal.τ Cert.PreIdeal.sig) → Buf (Elt Ideal) ℓ) : Prop :=
  ∀ c : Dev Cert.PreIdeal.nD,
    (Cert.Pre_finite_pre.fn (F := Ideal) (m ((c.tc : Thread Cert.PreIdeal.nD Cert.PreIdeal.τ).loc Cert.PreIdeal.main_arg0)) (m ((c.tc : Thread Cert.PreIdeal.nD Cert.PreIdeal.τ).loc Cert.PreIdeal.main_arg1)) (m ((c.tc : Thread Cert.PreIdeal.nD Cert.PreIdeal.τ).loc Cert.PreIdeal.main_arg2)) (m ((c.tc : Thread Cert.PreIdeal.nD Cert.PreIdeal.τ).loc Cert.PreIdeal.main_arg3)) (m ((c.tc : Thread Cert.PreIdeal.nD Cert.PreIdeal.τ).loc Cert.PreIdeal.main_arg4)) (m ((c.tc : Thread Cert.PreIdeal.nD Cert.PreIdeal.τ).loc Cert.PreIdeal.main_arg5)) (m ((c.tc : Thread Cert.PreIdeal.nD Cert.PreIdeal.τ).loc Cert.PreIdeal.main_arg6)) (m ((c.tc : Thread Cert.PreIdeal.nD Cert.PreIdeal.τ).loc Cert.PreIdeal.main_arg7))) = (fun _ => 1#1)

def Pre_PreRefIdeal (m : (ℓ : Loc Cert.PreRefIdeal.nD Cert.PreRefIdeal.τ Cert.PreRefIdeal.sig) → Buf (Elt Ideal) ℓ) : Prop :=
  True

def Pre_PreRefIdeal_finite_pre [hPre_finite_pre : Cert.Pre_finite_pre.Facts] (m : (ℓ : Loc Cert.PreRefIdeal.nD Cert.PreRefIdeal.τ Cert.PreRefIdeal.sig) → Buf (Elt Ideal) ℓ) : Prop :=
  ∀ c : Dev Cert.PreRefIdeal.nD,
    (Cert.Pre_finite_pre.fn (F := Ideal) (m ((c.tc : Thread Cert.PreRefIdeal.nD Cert.PreRefIdeal.τ).loc Cert.PreRefIdeal.main_arg0)) (m ((c.tc : Thread Cert.PreRefIdeal.nD Cert.PreRefIdeal.τ).loc Cert.PreRefIdeal.main_arg1)) (m ((c.tc : Thread Cert.PreRefIdeal.nD Cert.PreRefIdeal.τ).loc Cert.PreRefIdeal.main_arg2)) (m ((c.tc : Thread Cert.PreRefIdeal.nD Cert.PreRefIdeal.τ).loc Cert.PreRefIdeal.main_arg3)) (m ((c.tc : Thread Cert.PreRefIdeal.nD Cert.PreRefIdeal.τ).loc Cert.PreRefIdeal.main_arg4)) (m ((c.tc : Thread Cert.PreRefIdeal.nD Cert.PreRefIdeal.τ).loc Cert.PreRefIdeal.main_arg5)) (m ((c.tc : Thread Cert.PreRefIdeal.nD Cert.PreRefIdeal.τ).loc Cert.PreRefIdeal.main_arg6)) (m ((c.tc : Thread Cert.PreRefIdeal.nD Cert.PreRefIdeal.τ).loc Cert.PreRefIdeal.main_arg7))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5)) (m ((c.tc : Thread Cert.LossIdeal.nD Cert.LossIdeal.τ).loc Cert.LossIdeal.main_arg6)) (m ((c.tc : Thread Cert.LossIdeal.nD Cert.LossIdeal.τ).loc Cert.LossIdeal.main_arg7))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6)) (m ((c.tc : Thread Cert.LossRefIdeal.nD Cert.LossRefIdeal.τ).loc Cert.LossRefIdeal.main_arg7))) = (fun _ => 1#1)

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_finite_pool [hPre_finite_pool : Cert.Pre_finite_pool.Facts] (m : (ℓ : Loc Cert.PoolIdeal.nD Cert.PoolIdeal.τ Cert.PoolIdeal.sig) → Buf (Elt Ideal) ℓ) : Prop :=
  ∀ c : Dev Cert.PoolIdeal.nD,
    (Cert.Pre_finite_pool.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4)) (m ((c.tc : Thread Cert.PoolIdeal.nD Cert.PoolIdeal.τ).loc Cert.PoolIdeal.main_arg5)) (m ((c.tc : Thread Cert.PoolIdeal.nD Cert.PoolIdeal.τ).loc Cert.PoolIdeal.main_arg6)) (m ((c.tc : Thread Cert.PoolIdeal.nD Cert.PoolIdeal.τ).loc Cert.PoolIdeal.main_arg7)) (m ((c.tc : Thread Cert.PoolIdeal.nD Cert.PoolIdeal.τ).loc Cert.PoolIdeal.main_arg8))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_finite_pool [hPre_finite_pool : Cert.Pre_finite_pool.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_finite_pool.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4)) (m ((c.tc : Thread Cert.PoolRefIdeal.nD Cert.PoolRefIdeal.τ).loc Cert.PoolRefIdeal.main_arg5)) (m ((c.tc : Thread Cert.PoolRefIdeal.nD Cert.PoolRefIdeal.τ).loc Cert.PoolRefIdeal.main_arg6)) (m ((c.tc : Thread Cert.PoolRefIdeal.nD Cert.PoolRefIdeal.τ).loc Cert.PoolRefIdeal.main_arg7)) (m ((c.tc : Thread Cert.PoolRefIdeal.nD Cert.PoolRefIdeal.τ).loc Cert.PoolRefIdeal.main_arg8))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))) = (fun _ => 1#1)

def Pre_AdaF (m : (ℓ : Loc Cert.AdaF.nD Cert.AdaF.τ Cert.AdaF.sig) → Buf (Elt Bits) ℓ) : Prop :=
  True

def Pre_AdaFIdeal (m : (ℓ : Loc Cert.AdaFIdeal.nD Cert.AdaFIdeal.τ Cert.AdaFIdeal.sig) → Buf (Elt Ideal) ℓ) : Prop :=
  True

def Pre_AdaFRefIdeal (m : (ℓ : Loc Cert.AdaFRefIdeal.nD Cert.AdaFRefIdeal.τ Cert.AdaFRefIdeal.sig) → Buf (Elt Ideal) ℓ) : Prop :=
  True

def Pre_PoolF (m : (ℓ : Loc Cert.PoolF.nD Cert.PoolF.τ Cert.PoolF.sig) → Buf (Elt Bits) ℓ) : Prop :=
  True

def Pre_PoolFIdeal (m : (ℓ : Loc Cert.PoolFIdeal.nD Cert.PoolFIdeal.τ Cert.PoolFIdeal.sig) → Buf (Elt Ideal) ℓ) : Prop :=
  True

def Pre_PoolFIdeal_finite_poolf [hPre_finite_poolf : Cert.Pre_finite_poolf.Facts] (m : (ℓ : Loc Cert.PoolFIdeal.nD Cert.PoolFIdeal.τ Cert.PoolFIdeal.sig) → Buf (Elt Ideal) ℓ) : Prop :=
  ∀ c : Dev Cert.PoolFIdeal.nD,
    (Cert.Pre_finite_poolf.fn (F := Ideal) (m ((c.tc : Thread Cert.PoolFIdeal.nD Cert.PoolFIdeal.τ).loc Cert.PoolFIdeal.main_arg0)) (m ((c.tc : Thread Cert.PoolFIdeal.nD Cert.PoolFIdeal.τ).loc Cert.PoolFIdeal.main_arg1)) (m ((c.tc : Thread Cert.PoolFIdeal.nD Cert.PoolFIdeal.τ).loc Cert.PoolFIdeal.main_arg2)) (m ((c.tc : Thread Cert.PoolFIdeal.nD Cert.PoolFIdeal.τ).loc Cert.PoolFIdeal.main_arg3)) (m ((c.tc : Thread Cert.PoolFIdeal.nD Cert.PoolFIdeal.τ).loc Cert.PoolFIdeal.main_arg4)) (m ((c.tc : Thread Cert.PoolFIdeal.nD Cert.PoolFIdeal.τ).loc Cert.PoolFIdeal.main_arg5)) (m ((c.tc : Thread Cert.PoolFIdeal.nD Cert.PoolFIdeal.τ).loc Cert.PoolFIdeal.main_arg6)) (m ((c.tc : Thread Cert.PoolFIdeal.nD Cert.PoolFIdeal.τ).loc Cert.PoolFIdeal.main_arg7))) = (fun _ => 1#1)

def Pre_PoolFRefIdeal (m : (ℓ : Loc Cert.PoolFRefIdeal.nD Cert.PoolFRefIdeal.τ Cert.PoolFRefIdeal.sig) → Buf (Elt Ideal) ℓ) : Prop :=
  True

def Pre_PoolFRefIdeal_finite_poolf [hPre_finite_poolf : Cert.Pre_finite_poolf.Facts] (m : (ℓ : Loc Cert.PoolFRefIdeal.nD Cert.PoolFRefIdeal.τ Cert.PoolFRefIdeal.sig) → Buf (Elt Ideal) ℓ) : Prop :=
  ∀ c : Dev Cert.PoolFRefIdeal.nD,
    (Cert.Pre_finite_poolf.fn (F := Ideal) (m ((c.tc : Thread Cert.PoolFRefIdeal.nD Cert.PoolFRefIdeal.τ).loc Cert.PoolFRefIdeal.main_arg0)) (m ((c.tc : Thread Cert.PoolFRefIdeal.nD Cert.PoolFRefIdeal.τ).loc Cert.PoolFRefIdeal.main_arg1)) (m ((c.tc : Thread Cert.PoolFRefIdeal.nD Cert.PoolFRefIdeal.τ).loc Cert.PoolFRefIdeal.main_arg2)) (m ((c.tc : Thread Cert.PoolFRefIdeal.nD Cert.PoolFRefIdeal.τ).loc Cert.PoolFRefIdeal.main_arg3)) (m ((c.tc : Thread Cert.PoolFRefIdeal.nD Cert.PoolFRefIdeal.τ).loc Cert.PoolFRefIdeal.main_arg4)) (m ((c.tc : Thread Cert.PoolFRefIdeal.nD Cert.PoolFRefIdeal.τ).loc Cert.PoolFRefIdeal.main_arg5)) (m ((c.tc : Thread Cert.PoolFRefIdeal.nD Cert.PoolFRefIdeal.τ).loc Cert.PoolFRefIdeal.main_arg6)) (m ((c.tc : Thread Cert.PoolFRefIdeal.nD Cert.PoolFRefIdeal.τ).loc Cert.PoolFRefIdeal.main_arg7))) = (fun _ => 1#1)

def Pre_FfnF (m : (ℓ : Loc Cert.FfnF.nD Cert.FfnF.τ Cert.FfnF.sig) → Buf (Elt Bits) ℓ) : Prop :=
  True

def Pre_FfnFIdeal (m : (ℓ : Loc Cert.FfnFIdeal.nD Cert.FfnFIdeal.τ Cert.FfnFIdeal.sig) → Buf (Elt Ideal) ℓ) : Prop :=
  True

def Pre_FfnFIdeal_finite_ffnf [hPre_finite_ffnf : Cert.Pre_finite_ffnf.Facts] (m : (ℓ : Loc Cert.FfnFIdeal.nD Cert.FfnFIdeal.τ Cert.FfnFIdeal.sig) → Buf (Elt Ideal) ℓ) : Prop :=
  ∀ c : Dev Cert.FfnFIdeal.nD,
    (Cert.Pre_finite_ffnf.fn (F := Ideal) (m ((c.tc : Thread Cert.FfnFIdeal.nD Cert.FfnFIdeal.τ).loc Cert.FfnFIdeal.main_arg0)) (m ((c.tc : Thread Cert.FfnFIdeal.nD Cert.FfnFIdeal.τ).loc Cert.FfnFIdeal.main_arg1)) (m ((c.tc : Thread Cert.FfnFIdeal.nD Cert.FfnFIdeal.τ).loc Cert.FfnFIdeal.main_arg2)) (m ((c.tc : Thread Cert.FfnFIdeal.nD Cert.FfnFIdeal.τ).loc Cert.FfnFIdeal.main_arg3)) (m ((c.tc : Thread Cert.FfnFIdeal.nD Cert.FfnFIdeal.τ).loc Cert.FfnFIdeal.main_arg4)) (m ((c.tc : Thread Cert.FfnFIdeal.nD Cert.FfnFIdeal.τ).loc Cert.FfnFIdeal.main_arg5)) (m ((c.tc : Thread Cert.FfnFIdeal.nD Cert.FfnFIdeal.τ).loc Cert.FfnFIdeal.main_arg6)) (m ((c.tc : Thread Cert.FfnFIdeal.nD Cert.FfnFIdeal.τ).loc Cert.FfnFIdeal.main_arg7)) (m ((c.tc : Thread Cert.FfnFIdeal.nD Cert.FfnFIdeal.τ).loc Cert.FfnFIdeal.main_arg8))) = (fun _ => 1#1)

def Pre_FfnFRefIdeal (m : (ℓ : Loc Cert.FfnFRefIdeal.nD Cert.FfnFRefIdeal.τ Cert.FfnFRefIdeal.sig) → Buf (Elt Ideal) ℓ) : Prop :=
  True

def Pre_FfnFRefIdeal_finite_ffnf [hPre_finite_ffnf : Cert.Pre_finite_ffnf.Facts] (m : (ℓ : Loc Cert.FfnFRefIdeal.nD Cert.FfnFRefIdeal.τ Cert.FfnFRefIdeal.sig) → Buf (Elt Ideal) ℓ) : Prop :=
  ∀ c : Dev Cert.FfnFRefIdeal.nD,
    (Cert.Pre_finite_ffnf.fn (F := Ideal) (m ((c.tc : Thread Cert.FfnFRefIdeal.nD Cert.FfnFRefIdeal.τ).loc Cert.FfnFRefIdeal.main_arg0)) (m ((c.tc : Thread Cert.FfnFRefIdeal.nD Cert.FfnFRefIdeal.τ).loc Cert.FfnFRefIdeal.main_arg1)) (m ((c.tc : Thread Cert.FfnFRefIdeal.nD Cert.FfnFRefIdeal.τ).loc Cert.FfnFRefIdeal.main_arg2)) (m ((c.tc : Thread Cert.FfnFRefIdeal.nD Cert.FfnFRefIdeal.τ).loc Cert.FfnFRefIdeal.main_arg3)) (m ((c.tc : Thread Cert.FfnFRefIdeal.nD Cert.FfnFRefIdeal.τ).loc Cert.FfnFRefIdeal.main_arg4)) (m ((c.tc : Thread Cert.FfnFRefIdeal.nD Cert.FfnFRefIdeal.τ).loc Cert.FfnFRefIdeal.main_arg5)) (m ((c.tc : Thread Cert.FfnFRefIdeal.nD Cert.FfnFRefIdeal.τ).loc Cert.FfnFRefIdeal.main_arg6)) (m ((c.tc : Thread Cert.FfnFRefIdeal.nD Cert.FfnFRefIdeal.τ).loc Cert.FfnFRefIdeal.main_arg7)) (m ((c.tc : Thread Cert.FfnFRefIdeal.nD Cert.FfnFRefIdeal.τ).loc Cert.FfnFRefIdeal.main_arg8))) = (fun _ => 1#1)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6))
      ∧ r.2.sem = fun _ => 0)

def quiescent_PostIdeal_pre_finite_post [hPostIdeal : Cert.PostIdeal.Facts] [hPre_finite_post : Cert.Pre_finite_post.Facts] : Prop :=
  ∀ (m : (ℓ : Loc Cert.PostIdeal.nD Cert.PostIdeal.τ Cert.PostIdeal.sig) → Buf (Elt Ideal) ℓ) (g : Dev Cert.PostIdeal.nD → PrngReg), Pre_PostIdeal_finite_post m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6))
      ∧ r.2.sem = fun _ => 0)

def quiescent_PostRefIdeal_pre_finite_post [hPostRefIdeal : Cert.PostRefIdeal.Facts] [hPre_finite_post : Cert.Pre_finite_post.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal_finite_post m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6))
      ∧ r.2.sem = fun _ => 0)

def quiescent_Pre [hPre : Cert.Pre.Facts] : Prop :=
  ∀ (m : (ℓ : Loc Cert.Pre.nD Cert.Pre.τ Cert.Pre.sig) → Buf (Elt Bits) ℓ) (g : Dev Cert.Pre.nD → PrngReg), Pre_Pre m →
    θ_run (Cert.Pre.defs (F := Bits)) (onTc (τ := Cert.Pre.τ) (Cert.Pre.main (F := Bits))) ⟨m, fun _ => 0, g⟩ (fun r => (∀ c : Dev Cert.Pre.nD,
      r.2.mem ((c.tc : Thread Cert.Pre.nD Cert.Pre.τ).loc Cert.Pre.main_arg0) = m ((c.tc : Thread Cert.Pre.nD Cert.Pre.τ).loc Cert.Pre.main_arg0)
      ∧ r.2.mem ((c.tc : Thread Cert.Pre.nD Cert.Pre.τ).loc Cert.Pre.main_arg1) = m ((c.tc : Thread Cert.Pre.nD Cert.Pre.τ).loc Cert.Pre.main_arg1)
      ∧ r.2.mem ((c.tc : Thread Cert.Pre.nD Cert.Pre.τ).loc Cert.Pre.main_arg2) = m ((c.tc : Thread Cert.Pre.nD Cert.Pre.τ).loc Cert.Pre.main_arg2)
      ∧ r.2.mem ((c.tc : Thread Cert.Pre.nD Cert.Pre.τ).loc Cert.Pre.main_arg3) = m ((c.tc : Thread Cert.Pre.nD Cert.Pre.τ).loc Cert.Pre.main_arg3)
      ∧ r.2.mem ((c.tc : Thread Cert.Pre.nD Cert.Pre.τ).loc Cert.Pre.main_arg4) = m ((c.tc : Thread Cert.Pre.nD Cert.Pre.τ).loc Cert.Pre.main_arg4)
      ∧ r.2.mem ((c.tc : Thread Cert.Pre.nD Cert.Pre.τ).loc Cert.Pre.main_arg5) = m ((c.tc : Thread Cert.Pre.nD Cert.Pre.τ).loc Cert.Pre.main_arg5)
      ∧ r.2.mem ((c.tc : Thread Cert.Pre.nD Cert.Pre.τ).loc Cert.Pre.main_arg6) = m ((c.tc : Thread Cert.Pre.nD Cert.Pre.τ).loc Cert.Pre.main_arg6)
      ∧ r.2.mem ((c.tc : Thread Cert.Pre.nD Cert.Pre.τ).loc Cert.Pre.main_arg7) = m ((c.tc : Thread Cert.Pre.nD Cert.Pre.τ).loc Cert.Pre.main_arg7))
      ∧ r.2.sem = fun _ => 0)

def quiescent_PreIdeal [hPreIdeal : Cert.PreIdeal.Facts] : Prop :=
  ∀ (m : (ℓ : Loc Cert.PreIdeal.nD Cert.PreIdeal.τ Cert.PreIdeal.sig) → Buf (Elt Ideal) ℓ) (g : Dev Cert.PreIdeal.nD → PrngReg), Pre_PreIdeal m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
      ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
      ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
      ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
      ∧ r.2.mem ((c.tc : Thread Cert.PreIdeal.nD Cert.PreIdeal.τ).loc Cert.PreIdeal.main_arg6) = m ((c.tc : Thread Cert.PreIdeal.nD Cert.PreIdeal.τ).loc Cert.PreIdeal.main_arg6)
      ∧ r.2.mem ((c.tc : Thread Cert.PreIdeal.nD Cert.PreIdeal.τ).loc Cert.PreIdeal.main_arg7) = m ((c.tc : Thread Cert.PreIdeal.nD Cert.PreIdeal.τ).loc Cert.PreIdeal.main_arg7))
      ∧ r.2.sem = fun _ => 0)

def quiescent_PreIdeal_pre_finite_pre [hPreIdeal : Cert.PreIdeal.Facts] [hPre_finite_pre : Cert.Pre_finite_pre.Facts] : Prop :=
  ∀ (m : (ℓ : Loc Cert.PreIdeal.nD Cert.PreIdeal.τ Cert.PreIdeal.sig) → Buf (Elt Ideal) ℓ) (g : Dev Cert.PreIdeal.nD → PrngReg), Pre_PreIdeal_finite_pre m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
      ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
      ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
      ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
      ∧ r.2.mem ((c.tc : Thread Cert.PreIdeal.nD Cert.PreIdeal.τ).loc Cert.PreIdeal.main_arg6) = m ((c.tc : Thread Cert.PreIdeal.nD Cert.PreIdeal.τ).loc Cert.PreIdeal.main_arg6)
      ∧ r.2.mem ((c.tc : Thread Cert.PreIdeal.nD Cert.PreIdeal.τ).loc Cert.PreIdeal.main_arg7) = m ((c.tc : Thread Cert.PreIdeal.nD Cert.PreIdeal.τ).loc Cert.PreIdeal.main_arg7))
      ∧ r.2.sem = fun _ => 0)

def quiescent_PreRefIdeal [hPreRefIdeal : Cert.PreRefIdeal.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2)
      ∧ r.2.mem ((c.tc : Thread Cert.PreRefIdeal.nD Cert.PreRefIdeal.τ).loc Cert.PreRefIdeal.main_arg3) = m ((c.tc : Thread Cert.PreRefIdeal.nD Cert.PreRefIdeal.τ).loc Cert.PreRefIdeal.main_arg3)
      ∧ r.2.mem ((c.tc : Thread Cert.PreRefIdeal.nD Cert.PreRefIdeal.τ).loc Cert.PreRefIdeal.main_arg4) = m ((c.tc : Thread Cert.PreRefIdeal.nD Cert.PreRefIdeal.τ).loc Cert.PreRefIdeal.main_arg4)
      ∧ r.2.mem ((c.tc : Thread Cert.PreRefIdeal.nD Cert.PreRefIdeal.τ).loc Cert.PreRefIdeal.main_arg5) = m ((c.tc : Thread Cert.PreRefIdeal.nD Cert.PreRefIdeal.τ).loc Cert.PreRefIdeal.main_arg5)
      ∧ r.2.mem ((c.tc : Thread Cert.PreRefIdeal.nD Cert.PreRefIdeal.τ).loc Cert.PreRefIdeal.main_arg6) = m ((c.tc : Thread Cert.PreRefIdeal.nD Cert.PreRefIdeal.τ).loc Cert.PreRefIdeal.main_arg6)
      ∧ r.2.mem ((c.tc : Thread Cert.PreRefIdeal.nD Cert.PreRefIdeal.τ).loc Cert.PreRefIdeal.main_arg7) = m ((c.tc : Thread Cert.PreRefIdeal.nD Cert.PreRefIdeal.τ).loc Cert.PreRefIdeal.main_arg7))
      ∧ r.2.sem = fun _ => 0)

def quiescent_PreRefIdeal_pre_finite_pre [hPreRefIdeal : Cert.PreRefIdeal.Facts] [hPre_finite_pre : Cert.Pre_finite_pre.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal_finite_pre m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2)
      ∧ r.2.mem ((c.tc : Thread Cert.PreRefIdeal.nD Cert.PreRefIdeal.τ).loc Cert.PreRefIdeal.main_arg3) = m ((c.tc : Thread Cert.PreRefIdeal.nD Cert.PreRefIdeal.τ).loc Cert.PreRefIdeal.main_arg3)
      ∧ r.2.mem ((c.tc : Thread Cert.PreRefIdeal.nD Cert.PreRefIdeal.τ).loc Cert.PreRefIdeal.main_arg4) = m ((c.tc : Thread Cert.PreRefIdeal.nD Cert.PreRefIdeal.τ).loc Cert.PreRefIdeal.main_arg4)
      ∧ r.2.mem ((c.tc : Thread Cert.PreRefIdeal.nD Cert.PreRefIdeal.τ).loc Cert.PreRefIdeal.main_arg5) = m ((c.tc : Thread Cert.PreRefIdeal.nD Cert.PreRefIdeal.τ).loc Cert.PreRefIdeal.main_arg5)
      ∧ r.2.mem ((c.tc : Thread Cert.PreRefIdeal.nD Cert.PreRefIdeal.τ).loc Cert.PreRefIdeal.main_arg6) = m ((c.tc : Thread Cert.PreRefIdeal.nD Cert.PreRefIdeal.τ).loc Cert.PreRefIdeal.main_arg6)
      ∧ r.2.mem ((c.tc : Thread Cert.PreRefIdeal.nD Cert.PreRefIdeal.τ).loc Cert.PreRefIdeal.main_arg7) = m ((c.tc : Thread Cert.PreRefIdeal.nD Cert.PreRefIdeal.τ).loc Cert.PreRefIdeal.main_arg7))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5)
      ∧ r.2.mem ((c.tc : Thread Cert.Loss.nD Cert.Loss.τ).loc Cert.Loss.main_arg6) = m ((c.tc : Thread Cert.Loss.nD Cert.Loss.τ).loc Cert.Loss.main_arg6)
      ∧ r.2.mem ((c.tc : Thread Cert.Loss.nD Cert.Loss.τ).loc Cert.Loss.main_arg7) = m ((c.tc : Thread Cert.Loss.nD Cert.Loss.τ).loc Cert.Loss.main_arg7))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
      ∧ r.2.mem ((c.tc : Thread Cert.LossIdeal.nD Cert.LossIdeal.τ).loc Cert.LossIdeal.main_arg7) = m ((c.tc : Thread Cert.LossIdeal.nD Cert.LossIdeal.τ).loc Cert.LossIdeal.main_arg7))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
      ∧ r.2.mem ((c.tc : Thread Cert.LossIdeal.nD Cert.LossIdeal.τ).loc Cert.LossIdeal.main_arg7) = m ((c.tc : Thread Cert.LossIdeal.nD Cert.LossIdeal.τ).loc Cert.LossIdeal.main_arg7))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6)
      ∧ r.2.mem ((c.tc : Thread Cert.LossRefIdeal.nD Cert.LossRefIdeal.τ).loc Cert.LossRefIdeal.main_arg7) = m ((c.tc : Thread Cert.LossRefIdeal.nD Cert.LossRefIdeal.τ).loc Cert.LossRefIdeal.main_arg7))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6)
      ∧ r.2.mem ((c.tc : Thread Cert.LossRefIdeal.nD Cert.LossRefIdeal.τ).loc Cert.LossRefIdeal.main_arg7) = m ((c.tc : Thread Cert.LossRefIdeal.nD Cert.LossRefIdeal.τ).loc Cert.LossRefIdeal.main_arg7))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3)
      ∧ r.2.mem ((c.tc : Thread Cert.Pool.nD Cert.Pool.τ).loc Cert.Pool.main_arg4) = m ((c.tc : Thread Cert.Pool.nD Cert.Pool.τ).loc Cert.Pool.main_arg4)
      ∧ r.2.mem ((c.tc : Thread Cert.Pool.nD Cert.Pool.τ).loc Cert.Pool.main_arg5) = m ((c.tc : Thread Cert.Pool.nD Cert.Pool.τ).loc Cert.Pool.main_arg5)
      ∧ r.2.mem ((c.tc : Thread Cert.Pool.nD Cert.Pool.τ).loc Cert.Pool.main_arg6) = m ((c.tc : Thread Cert.Pool.nD Cert.Pool.τ).loc Cert.Pool.main_arg6)
      ∧ r.2.mem ((c.tc : Thread Cert.Pool.nD Cert.Pool.τ).loc Cert.Pool.main_arg7) = m ((c.tc : Thread Cert.Pool.nD Cert.Pool.τ).loc Cert.Pool.main_arg7)
      ∧ r.2.mem ((c.tc : Thread Cert.Pool.nD Cert.Pool.τ).loc Cert.Pool.main_arg8) = m ((c.tc : Thread Cert.Pool.nD Cert.Pool.τ).loc Cert.Pool.main_arg8))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
      ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6)
      ∧ r.2.mem ((c.tc : Thread Cert.PoolIdeal.nD Cert.PoolIdeal.τ).loc Cert.PoolIdeal.main_arg7) = m ((c.tc : Thread Cert.PoolIdeal.nD Cert.PoolIdeal.τ).loc Cert.PoolIdeal.main_arg7)
      ∧ r.2.mem ((c.tc : Thread Cert.PoolIdeal.nD Cert.PoolIdeal.τ).loc Cert.PoolIdeal.main_arg8) = m ((c.tc : Thread Cert.PoolIdeal.nD Cert.PoolIdeal.τ).loc Cert.PoolIdeal.main_arg8))
      ∧ r.2.sem = fun _ => 0)

def quiescent_PoolIdeal_pre_finite_pool [hPoolIdeal : Cert.PoolIdeal.Facts] [hPre_finite_pool : Cert.Pre_finite_pool.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_finite_pool m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
      ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6)
      ∧ r.2.mem ((c.tc : Thread Cert.PoolIdeal.nD Cert.PoolIdeal.τ).loc Cert.PoolIdeal.main_arg7) = m ((c.tc : Thread Cert.PoolIdeal.nD Cert.PoolIdeal.τ).loc Cert.PoolIdeal.main_arg7)
      ∧ r.2.mem ((c.tc : Thread Cert.PoolIdeal.nD Cert.PoolIdeal.τ).loc Cert.PoolIdeal.main_arg8) = m ((c.tc : Thread Cert.PoolIdeal.nD Cert.PoolIdeal.τ).loc Cert.PoolIdeal.main_arg8))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4)
      ∧ r.2.mem ((c.tc : Thread Cert.PoolRefIdeal.nD Cert.PoolRefIdeal.τ).loc Cert.PoolRefIdeal.main_arg5) = m ((c.tc : Thread Cert.PoolRefIdeal.nD Cert.PoolRefIdeal.τ).loc Cert.PoolRefIdeal.main_arg5)
      ∧ r.2.mem ((c.tc : Thread Cert.PoolRefIdeal.nD Cert.PoolRefIdeal.τ).loc Cert.PoolRefIdeal.main_arg6) = m ((c.tc : Thread Cert.PoolRefIdeal.nD Cert.PoolRefIdeal.τ).loc Cert.PoolRefIdeal.main_arg6)
      ∧ r.2.mem ((c.tc : Thread Cert.PoolRefIdeal.nD Cert.PoolRefIdeal.τ).loc Cert.PoolRefIdeal.main_arg7) = m ((c.tc : Thread Cert.PoolRefIdeal.nD Cert.PoolRefIdeal.τ).loc Cert.PoolRefIdeal.main_arg7)
      ∧ r.2.mem ((c.tc : Thread Cert.PoolRefIdeal.nD Cert.PoolRefIdeal.τ).loc Cert.PoolRefIdeal.main_arg8) = m ((c.tc : Thread Cert.PoolRefIdeal.nD Cert.PoolRefIdeal.τ).loc Cert.PoolRefIdeal.main_arg8))
      ∧ r.2.sem = fun _ => 0)

def quiescent_PoolRefIdeal_pre_finite_pool [hPoolRefIdeal : Cert.PoolRefIdeal.Facts] [hPre_finite_pool : Cert.Pre_finite_pool.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_finite_pool m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4)
      ∧ r.2.mem ((c.tc : Thread Cert.PoolRefIdeal.nD Cert.PoolRefIdeal.τ).loc Cert.PoolRefIdeal.main_arg5) = m ((c.tc : Thread Cert.PoolRefIdeal.nD Cert.PoolRefIdeal.τ).loc Cert.PoolRefIdeal.main_arg5)
      ∧ r.2.mem ((c.tc : Thread Cert.PoolRefIdeal.nD Cert.PoolRefIdeal.τ).loc Cert.PoolRefIdeal.main_arg6) = m ((c.tc : Thread Cert.PoolRefIdeal.nD Cert.PoolRefIdeal.τ).loc Cert.PoolRefIdeal.main_arg6)
      ∧ r.2.mem ((c.tc : Thread Cert.PoolRefIdeal.nD Cert.PoolRefIdeal.τ).loc Cert.PoolRefIdeal.main_arg7) = m ((c.tc : Thread Cert.PoolRefIdeal.nD Cert.PoolRefIdeal.τ).loc Cert.PoolRefIdeal.main_arg7)
      ∧ r.2.mem ((c.tc : Thread Cert.PoolRefIdeal.nD Cert.PoolRefIdeal.τ).loc Cert.PoolRefIdeal.main_arg8) = m ((c.tc : Thread Cert.PoolRefIdeal.nD Cert.PoolRefIdeal.τ).loc Cert.PoolRefIdeal.main_arg8))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_AdaF [hAdaF : Cert.AdaF.Facts] : Prop :=
  ∀ (m : (ℓ : Loc Cert.AdaF.nD Cert.AdaF.τ Cert.AdaF.sig) → Buf (Elt Bits) ℓ) (g : Dev Cert.AdaF.nD → PrngReg), Pre_AdaF m →
    θ_run (Cert.AdaF.defs (F := Bits)) (onTc (τ := Cert.AdaF.τ) (Cert.AdaF.main (F := Bits))) ⟨m, fun _ => 0, g⟩ (fun r => (∀ c : Dev Cert.AdaF.nD,
      r.2.mem ((c.tc : Thread Cert.AdaF.nD Cert.AdaF.τ).loc Cert.AdaF.main_arg0) = m ((c.tc : Thread Cert.AdaF.nD Cert.AdaF.τ).loc Cert.AdaF.main_arg0)
      ∧ r.2.mem ((c.tc : Thread Cert.AdaF.nD Cert.AdaF.τ).loc Cert.AdaF.main_arg1) = m ((c.tc : Thread Cert.AdaF.nD Cert.AdaF.τ).loc Cert.AdaF.main_arg1))
      ∧ r.2.sem = fun _ => 0)

def quiescent_AdaFIdeal [hAdaFIdeal : Cert.AdaFIdeal.Facts] : Prop :=
  ∀ (m : (ℓ : Loc Cert.AdaFIdeal.nD Cert.AdaFIdeal.τ Cert.AdaFIdeal.sig) → Buf (Elt Ideal) ℓ) (g : Dev Cert.AdaFIdeal.nD → PrngReg), Pre_AdaFIdeal m →
    θ_run (Cert.AdaFIdeal.defs (F := Ideal)) (onTc (τ := Cert.AdaFIdeal.τ) (Cert.AdaFIdeal.main (F := Ideal))) ⟨m, fun _ => 0, g⟩ (fun r => (∀ c : Dev Cert.AdaFIdeal.nD,
      r.2.mem ((c.tc : Thread Cert.AdaFIdeal.nD Cert.AdaFIdeal.τ).loc Cert.AdaFIdeal.main_arg0) = m ((c.tc : Thread Cert.AdaFIdeal.nD Cert.AdaFIdeal.τ).loc Cert.AdaFIdeal.main_arg0)
      ∧ r.2.mem ((c.tc : Thread Cert.AdaFIdeal.nD Cert.AdaFIdeal.τ).loc Cert.AdaFIdeal.main_arg1) = m ((c.tc : Thread Cert.AdaFIdeal.nD Cert.AdaFIdeal.τ).loc Cert.AdaFIdeal.main_arg1))
      ∧ r.2.sem = fun _ => 0)

def quiescent_AdaFRefIdeal [hAdaFRefIdeal : Cert.AdaFRefIdeal.Facts] : Prop :=
  ∀ (m : (ℓ : Loc Cert.AdaFRefIdeal.nD Cert.AdaFRefIdeal.τ Cert.AdaFRefIdeal.sig) → Buf (Elt Ideal) ℓ) (g : Dev Cert.AdaFRefIdeal.nD → PrngReg), Pre_AdaFRefIdeal m →
    θ_run (Cert.AdaFRefIdeal.defs (F := Ideal)) (onTc (τ := Cert.AdaFRefIdeal.τ) (Cert.AdaFRefIdeal.main (F := Ideal))) ⟨m, fun _ => 0, g⟩ (fun r => (∀ c : Dev Cert.AdaFRefIdeal.nD,
      r.2.mem ((c.tc : Thread Cert.AdaFRefIdeal.nD Cert.AdaFRefIdeal.τ).loc Cert.AdaFRefIdeal.main_arg0) = m ((c.tc : Thread Cert.AdaFRefIdeal.nD Cert.AdaFRefIdeal.τ).loc Cert.AdaFRefIdeal.main_arg0)
      ∧ r.2.mem ((c.tc : Thread Cert.AdaFRefIdeal.nD Cert.AdaFRefIdeal.τ).loc Cert.AdaFRefIdeal.main_arg1) = m ((c.tc : Thread Cert.AdaFRefIdeal.nD Cert.AdaFRefIdeal.τ).loc Cert.AdaFRefIdeal.main_arg1))
      ∧ r.2.sem = fun _ => 0)

def quiescent_PoolF [hPoolF : Cert.PoolF.Facts] : Prop :=
  ∀ (m : (ℓ : Loc Cert.PoolF.nD Cert.PoolF.τ Cert.PoolF.sig) → Buf (Elt Bits) ℓ) (g : Dev Cert.PoolF.nD → PrngReg), Pre_PoolF m →
    θ_run (Cert.PoolF.defs (F := Bits)) (onTc (τ := Cert.PoolF.τ) (Cert.PoolF.main (F := Bits))) ⟨m, fun _ => 0, g⟩ (fun r => (∀ c : Dev Cert.PoolF.nD,
      r.2.mem ((c.tc : Thread Cert.PoolF.nD Cert.PoolF.τ).loc Cert.PoolF.main_arg0) = m ((c.tc : Thread Cert.PoolF.nD Cert.PoolF.τ).loc Cert.PoolF.main_arg0)
      ∧ r.2.mem ((c.tc : Thread Cert.PoolF.nD Cert.PoolF.τ).loc Cert.PoolF.main_arg1) = m ((c.tc : Thread Cert.PoolF.nD Cert.PoolF.τ).loc Cert.PoolF.main_arg1)
      ∧ r.2.mem ((c.tc : Thread Cert.PoolF.nD Cert.PoolF.τ).loc Cert.PoolF.main_arg2) = m ((c.tc : Thread Cert.PoolF.nD Cert.PoolF.τ).loc Cert.PoolF.main_arg2)
      ∧ r.2.mem ((c.tc : Thread Cert.PoolF.nD Cert.PoolF.τ).loc Cert.PoolF.main_arg3) = m ((c.tc : Thread Cert.PoolF.nD Cert.PoolF.τ).loc Cert.PoolF.main_arg3)
      ∧ r.2.mem ((c.tc : Thread Cert.PoolF.nD Cert.PoolF.τ).loc Cert.PoolF.main_arg4) = m ((c.tc : Thread Cert.PoolF.nD Cert.PoolF.τ).loc Cert.PoolF.main_arg4)
      ∧ r.2.mem ((c.tc : Thread Cert.PoolF.nD Cert.PoolF.τ).loc Cert.PoolF.main_arg5) = m ((c.tc : Thread Cert.PoolF.nD Cert.PoolF.τ).loc Cert.PoolF.main_arg5)
      ∧ r.2.mem ((c.tc : Thread Cert.PoolF.nD Cert.PoolF.τ).loc Cert.PoolF.main_arg6) = m ((c.tc : Thread Cert.PoolF.nD Cert.PoolF.τ).loc Cert.PoolF.main_arg6)
      ∧ r.2.mem ((c.tc : Thread Cert.PoolF.nD Cert.PoolF.τ).loc Cert.PoolF.main_arg7) = m ((c.tc : Thread Cert.PoolF.nD Cert.PoolF.τ).loc Cert.PoolF.main_arg7))
      ∧ r.2.sem = fun _ => 0)

def quiescent_PoolFIdeal [hPoolFIdeal : Cert.PoolFIdeal.Facts] : Prop :=
  ∀ (m : (ℓ : Loc Cert.PoolFIdeal.nD Cert.PoolFIdeal.τ Cert.PoolFIdeal.sig) → Buf (Elt Ideal) ℓ) (g : Dev Cert.PoolFIdeal.nD → PrngReg), Pre_PoolFIdeal m →
    θ_run (Cert.PoolFIdeal.defs (F := Ideal)) (onTc (τ := Cert.PoolFIdeal.τ) (Cert.PoolFIdeal.main (F := Ideal))) ⟨m, fun _ => 0, g⟩ (fun r => (∀ c : Dev Cert.PoolFIdeal.nD,
      r.2.mem ((c.tc : Thread Cert.PoolFIdeal.nD Cert.PoolFIdeal.τ).loc Cert.PoolFIdeal.main_arg0) = m ((c.tc : Thread Cert.PoolFIdeal.nD Cert.PoolFIdeal.τ).loc Cert.PoolFIdeal.main_arg0)
      ∧ r.2.mem ((c.tc : Thread Cert.PoolFIdeal.nD Cert.PoolFIdeal.τ).loc Cert.PoolFIdeal.main_arg1) = m ((c.tc : Thread Cert.PoolFIdeal.nD Cert.PoolFIdeal.τ).loc Cert.PoolFIdeal.main_arg1)
      ∧ r.2.mem ((c.tc : Thread Cert.PoolFIdeal.nD Cert.PoolFIdeal.τ).loc Cert.PoolFIdeal.main_arg2) = m ((c.tc : Thread Cert.PoolFIdeal.nD Cert.PoolFIdeal.τ).loc Cert.PoolFIdeal.main_arg2)
      ∧ r.2.mem ((c.tc : Thread Cert.PoolFIdeal.nD Cert.PoolFIdeal.τ).loc Cert.PoolFIdeal.main_arg3) = m ((c.tc : Thread Cert.PoolFIdeal.nD Cert.PoolFIdeal.τ).loc Cert.PoolFIdeal.main_arg3)
      ∧ r.2.mem ((c.tc : Thread Cert.PoolFIdeal.nD Cert.PoolFIdeal.τ).loc Cert.PoolFIdeal.main_arg4) = m ((c.tc : Thread Cert.PoolFIdeal.nD Cert.PoolFIdeal.τ).loc Cert.PoolFIdeal.main_arg4)
      ∧ r.2.mem ((c.tc : Thread Cert.PoolFIdeal.nD Cert.PoolFIdeal.τ).loc Cert.PoolFIdeal.main_arg5) = m ((c.tc : Thread Cert.PoolFIdeal.nD Cert.PoolFIdeal.τ).loc Cert.PoolFIdeal.main_arg5)
      ∧ r.2.mem ((c.tc : Thread Cert.PoolFIdeal.nD Cert.PoolFIdeal.τ).loc Cert.PoolFIdeal.main_arg6) = m ((c.tc : Thread Cert.PoolFIdeal.nD Cert.PoolFIdeal.τ).loc Cert.PoolFIdeal.main_arg6)
      ∧ r.2.mem ((c.tc : Thread Cert.PoolFIdeal.nD Cert.PoolFIdeal.τ).loc Cert.PoolFIdeal.main_arg7) = m ((c.tc : Thread Cert.PoolFIdeal.nD Cert.PoolFIdeal.τ).loc Cert.PoolFIdeal.main_arg7))
      ∧ r.2.sem = fun _ => 0)

def quiescent_PoolFIdeal_pre_finite_poolf [hPoolFIdeal : Cert.PoolFIdeal.Facts] [hPre_finite_poolf : Cert.Pre_finite_poolf.Facts] : Prop :=
  ∀ (m : (ℓ : Loc Cert.PoolFIdeal.nD Cert.PoolFIdeal.τ Cert.PoolFIdeal.sig) → Buf (Elt Ideal) ℓ) (g : Dev Cert.PoolFIdeal.nD → PrngReg), Pre_PoolFIdeal_finite_poolf m →
    θ_run (Cert.PoolFIdeal.defs (F := Ideal)) (onTc (τ := Cert.PoolFIdeal.τ) (Cert.PoolFIdeal.main (F := Ideal))) ⟨m, fun _ => 0, g⟩ (fun r => (∀ c : Dev Cert.PoolFIdeal.nD,
      r.2.mem ((c.tc : Thread Cert.PoolFIdeal.nD Cert.PoolFIdeal.τ).loc Cert.PoolFIdeal.main_arg0) = m ((c.tc : Thread Cert.PoolFIdeal.nD Cert.PoolFIdeal.τ).loc Cert.PoolFIdeal.main_arg0)
      ∧ r.2.mem ((c.tc : Thread Cert.PoolFIdeal.nD Cert.PoolFIdeal.τ).loc Cert.PoolFIdeal.main_arg1) = m ((c.tc : Thread Cert.PoolFIdeal.nD Cert.PoolFIdeal.τ).loc Cert.PoolFIdeal.main_arg1)
      ∧ r.2.mem ((c.tc : Thread Cert.PoolFIdeal.nD Cert.PoolFIdeal.τ).loc Cert.PoolFIdeal.main_arg2) = m ((c.tc : Thread Cert.PoolFIdeal.nD Cert.PoolFIdeal.τ).loc Cert.PoolFIdeal.main_arg2)
      ∧ r.2.mem ((c.tc : Thread Cert.PoolFIdeal.nD Cert.PoolFIdeal.τ).loc Cert.PoolFIdeal.main_arg3) = m ((c.tc : Thread Cert.PoolFIdeal.nD Cert.PoolFIdeal.τ).loc Cert.PoolFIdeal.main_arg3)
      ∧ r.2.mem ((c.tc : Thread Cert.PoolFIdeal.nD Cert.PoolFIdeal.τ).loc Cert.PoolFIdeal.main_arg4) = m ((c.tc : Thread Cert.PoolFIdeal.nD Cert.PoolFIdeal.τ).loc Cert.PoolFIdeal.main_arg4)
      ∧ r.2.mem ((c.tc : Thread Cert.PoolFIdeal.nD Cert.PoolFIdeal.τ).loc Cert.PoolFIdeal.main_arg5) = m ((c.tc : Thread Cert.PoolFIdeal.nD Cert.PoolFIdeal.τ).loc Cert.PoolFIdeal.main_arg5)
      ∧ r.2.mem ((c.tc : Thread Cert.PoolFIdeal.nD Cert.PoolFIdeal.τ).loc Cert.PoolFIdeal.main_arg6) = m ((c.tc : Thread Cert.PoolFIdeal.nD Cert.PoolFIdeal.τ).loc Cert.PoolFIdeal.main_arg6)
      ∧ r.2.mem ((c.tc : Thread Cert.PoolFIdeal.nD Cert.PoolFIdeal.τ).loc Cert.PoolFIdeal.main_arg7) = m ((c.tc : Thread Cert.PoolFIdeal.nD Cert.PoolFIdeal.τ).loc Cert.PoolFIdeal.main_arg7))
      ∧ r.2.sem = fun _ => 0)

def quiescent_PoolFRefIdeal [hPoolFRefIdeal : Cert.PoolFRefIdeal.Facts] : Prop :=
  ∀ (m : (ℓ : Loc Cert.PoolFRefIdeal.nD Cert.PoolFRefIdeal.τ Cert.PoolFRefIdeal.sig) → Buf (Elt Ideal) ℓ) (g : Dev Cert.PoolFRefIdeal.nD → PrngReg), Pre_PoolFRefIdeal m →
    θ_run (Cert.PoolFRefIdeal.defs (F := Ideal)) (onTc (τ := Cert.PoolFRefIdeal.τ) (Cert.PoolFRefIdeal.main (F := Ideal))) ⟨m, fun _ => 0, g⟩ (fun r => (∀ c : Dev Cert.PoolFRefIdeal.nD,
      r.2.mem ((c.tc : Thread Cert.PoolFRefIdeal.nD Cert.PoolFRefIdeal.τ).loc Cert.PoolFRefIdeal.main_arg0) = m ((c.tc : Thread Cert.PoolFRefIdeal.nD Cert.PoolFRefIdeal.τ).loc Cert.PoolFRefIdeal.main_arg0)
      ∧ r.2.mem ((c.tc : Thread Cert.PoolFRefIdeal.nD Cert.PoolFRefIdeal.τ).loc Cert.PoolFRefIdeal.main_arg1) = m ((c.tc : Thread Cert.PoolFRefIdeal.nD Cert.PoolFRefIdeal.τ).loc Cert.PoolFRefIdeal.main_arg1)
      ∧ r.2.mem ((c.tc : Thread Cert.PoolFRefIdeal.nD Cert.PoolFRefIdeal.τ).loc Cert.PoolFRefIdeal.main_arg2) = m ((c.tc : Thread Cert.PoolFRefIdeal.nD Cert.PoolFRefIdeal.τ).loc Cert.PoolFRefIdeal.main_arg2)
      ∧ r.2.mem ((c.tc : Thread Cert.PoolFRefIdeal.nD Cert.PoolFRefIdeal.τ).loc Cert.PoolFRefIdeal.main_arg3) = m ((c.tc : Thread Cert.PoolFRefIdeal.nD Cert.PoolFRefIdeal.τ).loc Cert.PoolFRefIdeal.main_arg3)
      ∧ r.2.mem ((c.tc : Thread Cert.PoolFRefIdeal.nD Cert.PoolFRefIdeal.τ).loc Cert.PoolFRefIdeal.main_arg4) = m ((c.tc : Thread Cert.PoolFRefIdeal.nD Cert.PoolFRefIdeal.τ).loc Cert.PoolFRefIdeal.main_arg4)
      ∧ r.2.mem ((c.tc : Thread Cert.PoolFRefIdeal.nD Cert.PoolFRefIdeal.τ).loc Cert.PoolFRefIdeal.main_arg5) = m ((c.tc : Thread Cert.PoolFRefIdeal.nD Cert.PoolFRefIdeal.τ).loc Cert.PoolFRefIdeal.main_arg5)
      ∧ r.2.mem ((c.tc : Thread Cert.PoolFRefIdeal.nD Cert.PoolFRefIdeal.τ).loc Cert.PoolFRefIdeal.main_arg6) = m ((c.tc : Thread Cert.PoolFRefIdeal.nD Cert.PoolFRefIdeal.τ).loc Cert.PoolFRefIdeal.main_arg6)
      ∧ r.2.mem ((c.tc : Thread Cert.PoolFRefIdeal.nD Cert.PoolFRefIdeal.τ).loc Cert.PoolFRefIdeal.main_arg7) = m ((c.tc : Thread Cert.PoolFRefIdeal.nD Cert.PoolFRefIdeal.τ).loc Cert.PoolFRefIdeal.main_arg7))
      ∧ r.2.sem = fun _ => 0)

def quiescent_PoolFRefIdeal_pre_finite_poolf [hPoolFRefIdeal : Cert.PoolFRefIdeal.Facts] [hPre_finite_poolf : Cert.Pre_finite_poolf.Facts] : Prop :=
  ∀ (m : (ℓ : Loc Cert.PoolFRefIdeal.nD Cert.PoolFRefIdeal.τ Cert.PoolFRefIdeal.sig) → Buf (Elt Ideal) ℓ) (g : Dev Cert.PoolFRefIdeal.nD → PrngReg), Pre_PoolFRefIdeal_finite_poolf m →
    θ_run (Cert.PoolFRefIdeal.defs (F := Ideal)) (onTc (τ := Cert.PoolFRefIdeal.τ) (Cert.PoolFRefIdeal.main (F := Ideal))) ⟨m, fun _ => 0, g⟩ (fun r => (∀ c : Dev Cert.PoolFRefIdeal.nD,
      r.2.mem ((c.tc : Thread Cert.PoolFRefIdeal.nD Cert.PoolFRefIdeal.τ).loc Cert.PoolFRefIdeal.main_arg0) = m ((c.tc : Thread Cert.PoolFRefIdeal.nD Cert.PoolFRefIdeal.τ).loc Cert.PoolFRefIdeal.main_arg0)
      ∧ r.2.mem ((c.tc : Thread Cert.PoolFRefIdeal.nD Cert.PoolFRefIdeal.τ).loc Cert.PoolFRefIdeal.main_arg1) = m ((c.tc : Thread Cert.PoolFRefIdeal.nD Cert.PoolFRefIdeal.τ).loc Cert.PoolFRefIdeal.main_arg1)
      ∧ r.2.mem ((c.tc : Thread Cert.PoolFRefIdeal.nD Cert.PoolFRefIdeal.τ).loc Cert.PoolFRefIdeal.main_arg2) = m ((c.tc : Thread Cert.PoolFRefIdeal.nD Cert.PoolFRefIdeal.τ).loc Cert.PoolFRefIdeal.main_arg2)
      ∧ r.2.mem ((c.tc : Thread Cert.PoolFRefIdeal.nD Cert.PoolFRefIdeal.τ).loc Cert.PoolFRefIdeal.main_arg3) = m ((c.tc : Thread Cert.PoolFRefIdeal.nD Cert.PoolFRefIdeal.τ).loc Cert.PoolFRefIdeal.main_arg3)
      ∧ r.2.mem ((c.tc : Thread Cert.PoolFRefIdeal.nD Cert.PoolFRefIdeal.τ).loc Cert.PoolFRefIdeal.main_arg4) = m ((c.tc : Thread Cert.PoolFRefIdeal.nD Cert.PoolFRefIdeal.τ).loc Cert.PoolFRefIdeal.main_arg4)
      ∧ r.2.mem ((c.tc : Thread Cert.PoolFRefIdeal.nD Cert.PoolFRefIdeal.τ).loc Cert.PoolFRefIdeal.main_arg5) = m ((c.tc : Thread Cert.PoolFRefIdeal.nD Cert.PoolFRefIdeal.τ).loc Cert.PoolFRefIdeal.main_arg5)
      ∧ r.2.mem ((c.tc : Thread Cert.PoolFRefIdeal.nD Cert.PoolFRefIdeal.τ).loc Cert.PoolFRefIdeal.main_arg6) = m ((c.tc : Thread Cert.PoolFRefIdeal.nD Cert.PoolFRefIdeal.τ).loc Cert.PoolFRefIdeal.main_arg6)
      ∧ r.2.mem ((c.tc : Thread Cert.PoolFRefIdeal.nD Cert.PoolFRefIdeal.τ).loc Cert.PoolFRefIdeal.main_arg7) = m ((c.tc : Thread Cert.PoolFRefIdeal.nD Cert.PoolFRefIdeal.τ).loc Cert.PoolFRefIdeal.main_arg7))
      ∧ r.2.sem = fun _ => 0)

def quiescent_FfnF [hFfnF : Cert.FfnF.Facts] : Prop :=
  ∀ (m : (ℓ : Loc Cert.FfnF.nD Cert.FfnF.τ Cert.FfnF.sig) → Buf (Elt Bits) ℓ) (g : Dev Cert.FfnF.nD → PrngReg), Pre_FfnF m →
    θ_run (Cert.FfnF.defs (F := Bits)) (onTc (τ := Cert.FfnF.τ) (Cert.FfnF.main (F := Bits))) ⟨m, fun _ => 0, g⟩ (fun r => (∀ c : Dev Cert.FfnF.nD,
      r.2.mem ((c.tc : Thread Cert.FfnF.nD Cert.FfnF.τ).loc Cert.FfnF.main_arg0) = m ((c.tc : Thread Cert.FfnF.nD Cert.FfnF.τ).loc Cert.FfnF.main_arg0)
      ∧ r.2.mem ((c.tc : Thread Cert.FfnF.nD Cert.FfnF.τ).loc Cert.FfnF.main_arg1) = m ((c.tc : Thread Cert.FfnF.nD Cert.FfnF.τ).loc Cert.FfnF.main_arg1)
      ∧ r.2.mem ((c.tc : Thread Cert.FfnF.nD Cert.FfnF.τ).loc Cert.FfnF.main_arg2) = m ((c.tc : Thread Cert.FfnF.nD Cert.FfnF.τ).loc Cert.FfnF.main_arg2)
      ∧ r.2.mem ((c.tc : Thread Cert.FfnF.nD Cert.FfnF.τ).loc Cert.FfnF.main_arg3) = m ((c.tc : Thread Cert.FfnF.nD Cert.FfnF.τ).loc Cert.FfnF.main_arg3)
      ∧ r.2.mem ((c.tc : Thread Cert.FfnF.nD Cert.FfnF.τ).loc Cert.FfnF.main_arg4) = m ((c.tc : Thread Cert.FfnF.nD Cert.FfnF.τ).loc Cert.FfnF.main_arg4)
      ∧ r.2.mem ((c.tc : Thread Cert.FfnF.nD Cert.FfnF.τ).loc Cert.FfnF.main_arg5) = m ((c.tc : Thread Cert.FfnF.nD Cert.FfnF.τ).loc Cert.FfnF.main_arg5)
      ∧ r.2.mem ((c.tc : Thread Cert.FfnF.nD Cert.FfnF.τ).loc Cert.FfnF.main_arg6) = m ((c.tc : Thread Cert.FfnF.nD Cert.FfnF.τ).loc Cert.FfnF.main_arg6)
      ∧ r.2.mem ((c.tc : Thread Cert.FfnF.nD Cert.FfnF.τ).loc Cert.FfnF.main_arg7) = m ((c.tc : Thread Cert.FfnF.nD Cert.FfnF.τ).loc Cert.FfnF.main_arg7)
      ∧ r.2.mem ((c.tc : Thread Cert.FfnF.nD Cert.FfnF.τ).loc Cert.FfnF.main_arg8) = m ((c.tc : Thread Cert.FfnF.nD Cert.FfnF.τ).loc Cert.FfnF.main_arg8))
      ∧ r.2.sem = fun _ => 0)

def quiescent_FfnFIdeal [hFfnFIdeal : Cert.FfnFIdeal.Facts] : Prop :=
  ∀ (m : (ℓ : Loc Cert.FfnFIdeal.nD Cert.FfnFIdeal.τ Cert.FfnFIdeal.sig) → Buf (Elt Ideal) ℓ) (g : Dev Cert.FfnFIdeal.nD → PrngReg), Pre_FfnFIdeal m →
    θ_run (Cert.FfnFIdeal.defs (F := Ideal)) (onTc (τ := Cert.FfnFIdeal.τ) (Cert.FfnFIdeal.main (F := Ideal))) ⟨m, fun _ => 0, g⟩ (fun r => (∀ c : Dev Cert.FfnFIdeal.nD,
      r.2.mem ((c.tc : Thread Cert.FfnFIdeal.nD Cert.FfnFIdeal.τ).loc Cert.FfnFIdeal.main_arg0) = m ((c.tc : Thread Cert.FfnFIdeal.nD Cert.FfnFIdeal.τ).loc Cert.FfnFIdeal.main_arg0)
      ∧ r.2.mem ((c.tc : Thread Cert.FfnFIdeal.nD Cert.FfnFIdeal.τ).loc Cert.FfnFIdeal.main_arg1) = m ((c.tc : Thread Cert.FfnFIdeal.nD Cert.FfnFIdeal.τ).loc Cert.FfnFIdeal.main_arg1)
      ∧ r.2.mem ((c.tc : Thread Cert.FfnFIdeal.nD Cert.FfnFIdeal.τ).loc Cert.FfnFIdeal.main_arg2) = m ((c.tc : Thread Cert.FfnFIdeal.nD Cert.FfnFIdeal.τ).loc Cert.FfnFIdeal.main_arg2)
      ∧ r.2.mem ((c.tc : Thread Cert.FfnFIdeal.nD Cert.FfnFIdeal.τ).loc Cert.FfnFIdeal.main_arg3) = m ((c.tc : Thread Cert.FfnFIdeal.nD Cert.FfnFIdeal.τ).loc Cert.FfnFIdeal.main_arg3)
      ∧ r.2.mem ((c.tc : Thread Cert.FfnFIdeal.nD Cert.FfnFIdeal.τ).loc Cert.FfnFIdeal.main_arg4) = m ((c.tc : Thread Cert.FfnFIdeal.nD Cert.FfnFIdeal.τ).loc Cert.FfnFIdeal.main_arg4)
      ∧ r.2.mem ((c.tc : Thread Cert.FfnFIdeal.nD Cert.FfnFIdeal.τ).loc Cert.FfnFIdeal.main_arg5) = m ((c.tc : Thread Cert.FfnFIdeal.nD Cert.FfnFIdeal.τ).loc Cert.FfnFIdeal.main_arg5)
      ∧ r.2.mem ((c.tc : Thread Cert.FfnFIdeal.nD Cert.FfnFIdeal.τ).loc Cert.FfnFIdeal.main_arg6) = m ((c.tc : Thread Cert.FfnFIdeal.nD Cert.FfnFIdeal.τ).loc Cert.FfnFIdeal.main_arg6)
      ∧ r.2.mem ((c.tc : Thread Cert.FfnFIdeal.nD Cert.FfnFIdeal.τ).loc Cert.FfnFIdeal.main_arg7) = m ((c.tc : Thread Cert.FfnFIdeal.nD Cert.FfnFIdeal.τ).loc Cert.FfnFIdeal.main_arg7)
      ∧ r.2.mem ((c.tc : Thread Cert.FfnFIdeal.nD Cert.FfnFIdeal.τ).loc Cert.FfnFIdeal.main_arg8) = m ((c.tc : Thread Cert.FfnFIdeal.nD Cert.FfnFIdeal.τ).loc Cert.FfnFIdeal.main_arg8))
      ∧ r.2.sem = fun _ => 0)

def quiescent_FfnFIdeal_pre_finite_ffnf [hFfnFIdeal : Cert.FfnFIdeal.Facts] [hPre_finite_ffnf : Cert.Pre_finite_ffnf.Facts] : Prop :=
  ∀ (m : (ℓ : Loc Cert.FfnFIdeal.nD Cert.FfnFIdeal.τ Cert.FfnFIdeal.sig) → Buf (Elt Ideal) ℓ) (g : Dev Cert.FfnFIdeal.nD → PrngReg), Pre_FfnFIdeal_finite_ffnf m →
    θ_run (Cert.FfnFIdeal.defs (F := Ideal)) (onTc (τ := Cert.FfnFIdeal.τ) (Cert.FfnFIdeal.main (F := Ideal))) ⟨m, fun _ => 0, g⟩ (fun r => (∀ c : Dev Cert.FfnFIdeal.nD,
      r.2.mem ((c.tc : Thread Cert.FfnFIdeal.nD Cert.FfnFIdeal.τ).loc Cert.FfnFIdeal.main_arg0) = m ((c.tc : Thread Cert.FfnFIdeal.nD Cert.FfnFIdeal.τ).loc Cert.FfnFIdeal.main_arg0)
      ∧ r.2.mem ((c.tc : Thread Cert.FfnFIdeal.nD Cert.FfnFIdeal.τ).loc Cert.FfnFIdeal.main_arg1) = m ((c.tc : Thread Cert.FfnFIdeal.nD Cert.FfnFIdeal.τ).loc Cert.FfnFIdeal.main_arg1)
      ∧ r.2.mem ((c.tc : Thread Cert.FfnFIdeal.nD Cert.FfnFIdeal.τ).loc Cert.FfnFIdeal.main_arg2) = m ((c.tc : Thread Cert.FfnFIdeal.nD Cert.FfnFIdeal.τ).loc Cert.FfnFIdeal.main_arg2)
      ∧ r.2.mem ((c.tc : Thread Cert.FfnFIdeal.nD Cert.FfnFIdeal.τ).loc Cert.FfnFIdeal.main_arg3) = m ((c.tc : Thread Cert.FfnFIdeal.nD Cert.FfnFIdeal.τ).loc Cert.FfnFIdeal.main_arg3)
      ∧ r.2.mem ((c.tc : Thread Cert.FfnFIdeal.nD Cert.FfnFIdeal.τ).loc Cert.FfnFIdeal.main_arg4) = m ((c.tc : Thread Cert.FfnFIdeal.nD Cert.FfnFIdeal.τ).loc Cert.FfnFIdeal.main_arg4)
      ∧ r.2.mem ((c.tc : Thread Cert.FfnFIdeal.nD Cert.FfnFIdeal.τ).loc Cert.FfnFIdeal.main_arg5) = m ((c.tc : Thread Cert.FfnFIdeal.nD Cert.FfnFIdeal.τ).loc Cert.FfnFIdeal.main_arg5)
      ∧ r.2.mem ((c.tc : Thread Cert.FfnFIdeal.nD Cert.FfnFIdeal.τ).loc Cert.FfnFIdeal.main_arg6) = m ((c.tc : Thread Cert.FfnFIdeal.nD Cert.FfnFIdeal.τ).loc Cert.FfnFIdeal.main_arg6)
      ∧ r.2.mem ((c.tc : Thread Cert.FfnFIdeal.nD Cert.FfnFIdeal.τ).loc Cert.FfnFIdeal.main_arg7) = m ((c.tc : Thread Cert.FfnFIdeal.nD Cert.FfnFIdeal.τ).loc Cert.FfnFIdeal.main_arg7)
      ∧ r.2.mem ((c.tc : Thread Cert.FfnFIdeal.nD Cert.FfnFIdeal.τ).loc Cert.FfnFIdeal.main_arg8) = m ((c.tc : Thread Cert.FfnFIdeal.nD Cert.FfnFIdeal.τ).loc Cert.FfnFIdeal.main_arg8))
      ∧ r.2.sem = fun _ => 0)

def quiescent_FfnFRefIdeal [hFfnFRefIdeal : Cert.FfnFRefIdeal.Facts] : Prop :=
  ∀ (m : (ℓ : Loc Cert.FfnFRefIdeal.nD Cert.FfnFRefIdeal.τ Cert.FfnFRefIdeal.sig) → Buf (Elt Ideal) ℓ) (g : Dev Cert.FfnFRefIdeal.nD → PrngReg), Pre_FfnFRefIdeal m →
    θ_run (Cert.FfnFRefIdeal.defs (F := Ideal)) (onTc (τ := Cert.FfnFRefIdeal.τ) (Cert.FfnFRefIdeal.main (F := Ideal))) ⟨m, fun _ => 0, g⟩ (fun r => (∀ c : Dev Cert.FfnFRefIdeal.nD,
      r.2.mem ((c.tc : Thread Cert.FfnFRefIdeal.nD Cert.FfnFRefIdeal.τ).loc Cert.FfnFRefIdeal.main_arg0) = m ((c.tc : Thread Cert.FfnFRefIdeal.nD Cert.FfnFRefIdeal.τ).loc Cert.FfnFRefIdeal.main_arg0)
      ∧ r.2.mem ((c.tc : Thread Cert.FfnFRefIdeal.nD Cert.FfnFRefIdeal.τ).loc Cert.FfnFRefIdeal.main_arg1) = m ((c.tc : Thread Cert.FfnFRefIdeal.nD Cert.FfnFRefIdeal.τ).loc Cert.FfnFRefIdeal.main_arg1)
      ∧ r.2.mem ((c.tc : Thread Cert.FfnFRefIdeal.nD Cert.FfnFRefIdeal.τ).loc Cert.FfnFRefIdeal.main_arg2) = m ((c.tc : Thread Cert.FfnFRefIdeal.nD Cert.FfnFRefIdeal.τ).loc Cert.FfnFRefIdeal.main_arg2)
      ∧ r.2.mem ((c.tc : Thread Cert.FfnFRefIdeal.nD Cert.FfnFRefIdeal.τ).loc Cert.FfnFRefIdeal.main_arg3) = m ((c.tc : Thread Cert.FfnFRefIdeal.nD Cert.FfnFRefIdeal.τ).loc Cert.FfnFRefIdeal.main_arg3)
      ∧ r.2.mem ((c.tc : Thread Cert.FfnFRefIdeal.nD Cert.FfnFRefIdeal.τ).loc Cert.FfnFRefIdeal.main_arg4) = m ((c.tc : Thread Cert.FfnFRefIdeal.nD Cert.FfnFRefIdeal.τ).loc Cert.FfnFRefIdeal.main_arg4)
      ∧ r.2.mem ((c.tc : Thread Cert.FfnFRefIdeal.nD Cert.FfnFRefIdeal.τ).loc Cert.FfnFRefIdeal.main_arg5) = m ((c.tc : Thread Cert.FfnFRefIdeal.nD Cert.FfnFRefIdeal.τ).loc Cert.FfnFRefIdeal.main_arg5)
      ∧ r.2.mem ((c.tc : Thread Cert.FfnFRefIdeal.nD Cert.FfnFRefIdeal.τ).loc Cert.FfnFRefIdeal.main_arg6) = m ((c.tc : Thread Cert.FfnFRefIdeal.nD Cert.FfnFRefIdeal.τ).loc Cert.FfnFRefIdeal.main_arg6)
      ∧ r.2.mem ((c.tc : Thread Cert.FfnFRefIdeal.nD Cert.FfnFRefIdeal.τ).loc Cert.FfnFRefIdeal.main_arg7) = m ((c.tc : Thread Cert.FfnFRefIdeal.nD Cert.FfnFRefIdeal.τ).loc Cert.FfnFRefIdeal.main_arg7)
      ∧ r.2.mem ((c.tc : Thread Cert.FfnFRefIdeal.nD Cert.FfnFRefIdeal.τ).loc Cert.FfnFRefIdeal.main_arg8) = m ((c.tc : Thread Cert.FfnFRefIdeal.nD Cert.FfnFRefIdeal.τ).loc Cert.FfnFRefIdeal.main_arg8))
      ∧ r.2.sem = fun _ => 0)

def quiescent_FfnFRefIdeal_pre_finite_ffnf [hFfnFRefIdeal : Cert.FfnFRefIdeal.Facts] [hPre_finite_ffnf : Cert.Pre_finite_ffnf.Facts] : Prop :=
  ∀ (m : (ℓ : Loc Cert.FfnFRefIdeal.nD Cert.FfnFRefIdeal.τ Cert.FfnFRefIdeal.sig) → Buf (Elt Ideal) ℓ) (g : Dev Cert.FfnFRefIdeal.nD → PrngReg), Pre_FfnFRefIdeal_finite_ffnf m →
    θ_run (Cert.FfnFRefIdeal.defs (F := Ideal)) (onTc (τ := Cert.FfnFRefIdeal.τ) (Cert.FfnFRefIdeal.main (F := Ideal))) ⟨m, fun _ => 0, g⟩ (fun r => (∀ c : Dev Cert.FfnFRefIdeal.nD,
      r.2.mem ((c.tc : Thread Cert.FfnFRefIdeal.nD Cert.FfnFRefIdeal.τ).loc Cert.FfnFRefIdeal.main_arg0) = m ((c.tc : Thread Cert.FfnFRefIdeal.nD Cert.FfnFRefIdeal.τ).loc Cert.FfnFRefIdeal.main_arg0)
      ∧ r.2.mem ((c.tc : Thread Cert.FfnFRefIdeal.nD Cert.FfnFRefIdeal.τ).loc Cert.FfnFRefIdeal.main_arg1) = m ((c.tc : Thread Cert.FfnFRefIdeal.nD Cert.FfnFRefIdeal.τ).loc Cert.FfnFRefIdeal.main_arg1)
      ∧ r.2.mem ((c.tc : Thread Cert.FfnFRefIdeal.nD Cert.FfnFRefIdeal.τ).loc Cert.FfnFRefIdeal.main_arg2) = m ((c.tc : Thread Cert.FfnFRefIdeal.nD Cert.FfnFRefIdeal.τ).loc Cert.FfnFRefIdeal.main_arg2)
      ∧ r.2.mem ((c.tc : Thread Cert.FfnFRefIdeal.nD Cert.FfnFRefIdeal.τ).loc Cert.FfnFRefIdeal.main_arg3) = m ((c.tc : Thread Cert.FfnFRefIdeal.nD Cert.FfnFRefIdeal.τ).loc Cert.FfnFRefIdeal.main_arg3)
      ∧ r.2.mem ((c.tc : Thread Cert.FfnFRefIdeal.nD Cert.FfnFRefIdeal.τ).loc Cert.FfnFRefIdeal.main_arg4) = m ((c.tc : Thread Cert.FfnFRefIdeal.nD Cert.FfnFRefIdeal.τ).loc Cert.FfnFRefIdeal.main_arg4)
      ∧ r.2.mem ((c.tc : Thread Cert.FfnFRefIdeal.nD Cert.FfnFRefIdeal.τ).loc Cert.FfnFRefIdeal.main_arg5) = m ((c.tc : Thread Cert.FfnFRefIdeal.nD Cert.FfnFRefIdeal.τ).loc Cert.FfnFRefIdeal.main_arg5)
      ∧ r.2.mem ((c.tc : Thread Cert.FfnFRefIdeal.nD Cert.FfnFRefIdeal.τ).loc Cert.FfnFRefIdeal.main_arg6) = m ((c.tc : Thread Cert.FfnFRefIdeal.nD Cert.FfnFRefIdeal.τ).loc Cert.FfnFRefIdeal.main_arg6)
      ∧ r.2.mem ((c.tc : Thread Cert.FfnFRefIdeal.nD Cert.FfnFRefIdeal.τ).loc Cert.FfnFRefIdeal.main_arg7) = m ((c.tc : Thread Cert.FfnFRefIdeal.nD Cert.FfnFRefIdeal.τ).loc Cert.FfnFRefIdeal.main_arg7)
      ∧ r.2.mem ((c.tc : Thread Cert.FfnFRefIdeal.nD Cert.FfnFRefIdeal.τ).loc Cert.FfnFRefIdeal.main_arg8) = m ((c.tc : Thread Cert.FfnFRefIdeal.nD Cert.FfnFRefIdeal.τ).loc Cert.FfnFRefIdeal.main_arg8))
      ∧ r.2.sem = fun _ => 0)

def preserves_Post_PostIdeal : Prop :=
  True

def algebraic_PostIdeal_PostRefIdeal_pre_finite_post [hPostIdeal : Cert.PostIdeal.Facts] [hPostRefIdeal : Cert.PostRefIdeal.Facts] [hPre_finite_post : Cert.Pre_finite_post.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal_finite_post m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)) →
    ∃ (v0 : (c : Dev Cert.PostIdeal.nD) → Buf (Elt Ideal) ((c.tc : Thread Cert.PostIdeal.nD Cert.PostIdeal.τ).loc Cert.PostIdeal.main_v10_0)) (v1 : (c : Dev Cert.PostIdeal.nD) → Buf (Elt Ideal) ((c.tc : Thread Cert.PostIdeal.nD Cert.PostIdeal.τ).loc Cert.PostIdeal.main_v10_1)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v10_0) = v0 c
          ∧ r.2.mem ((c.tc : Thread Cert.PostIdeal.nD Cert.PostIdeal.τ).loc Cert.PostIdeal.main_v10_1) = v1 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v46) = v0 c
          ∧ r.2.mem ((c.tc : Thread Cert.PostRefIdeal.nD Cert.PostRefIdeal.τ).loc Cert.PostRefIdeal.main_v55) = v1 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6))

def preserves_Pre_PreIdeal : Prop :=
  True

def algebraic_PreIdeal_PreRefIdeal_pre_finite_pre [hPreIdeal : Cert.PreIdeal.Facts] [hPreRefIdeal : Cert.PreRefIdeal.Facts] [hPre_finite_pre : Cert.Pre_finite_pre.Facts] : Prop :=
  ∀ (m : (ℓ : Loc Cert.PreIdeal.nD Cert.PreIdeal.τ Cert.PreIdeal.sig) → Buf (Elt Ideal) ℓ) (g : Dev Cert.PreIdeal.nD → PrngReg)
    (m' : (ℓ : Loc Cert.PreRefIdeal.nD Cert.PreRefIdeal.τ Cert.PreRefIdeal.sig) → Buf (Elt Ideal) ℓ) (g' : Dev Cert.PreRefIdeal.nD → PrngReg), Pre_PreIdeal_finite_pre m →
    (∀ c : Dev Cert.PreIdeal.nD,
      m' ((c.tc : Thread Cert.PreRefIdeal.nD Cert.PreRefIdeal.τ).loc Cert.PreRefIdeal.main_arg0) = m ((c.tc : Thread Cert.PreIdeal.nD Cert.PreIdeal.τ).loc Cert.PreIdeal.main_arg0)
      ∧ m' ((c.tc : Thread Cert.PreRefIdeal.nD Cert.PreRefIdeal.τ).loc Cert.PreRefIdeal.main_arg1) = m ((c.tc : Thread Cert.PreIdeal.nD Cert.PreIdeal.τ).loc Cert.PreIdeal.main_arg1)
      ∧ m' ((c.tc : Thread Cert.PreRefIdeal.nD Cert.PreRefIdeal.τ).loc Cert.PreRefIdeal.main_arg2) = m ((c.tc : Thread Cert.PreIdeal.nD Cert.PreIdeal.τ).loc Cert.PreIdeal.main_arg2)
      ∧ m' ((c.tc : Thread Cert.PreRefIdeal.nD Cert.PreRefIdeal.τ).loc Cert.PreRefIdeal.main_arg3) = m ((c.tc : Thread Cert.PreIdeal.nD Cert.PreIdeal.τ).loc Cert.PreIdeal.main_arg3)
      ∧ m' ((c.tc : Thread Cert.PreRefIdeal.nD Cert.PreRefIdeal.τ).loc Cert.PreRefIdeal.main_arg4) = m ((c.tc : Thread Cert.PreIdeal.nD Cert.PreIdeal.τ).loc Cert.PreIdeal.main_arg4)
      ∧ m' ((c.tc : Thread Cert.PreRefIdeal.nD Cert.PreRefIdeal.τ).loc Cert.PreRefIdeal.main_arg5) = m ((c.tc : Thread Cert.PreIdeal.nD Cert.PreIdeal.τ).loc Cert.PreIdeal.main_arg5)
      ∧ m' ((c.tc : Thread Cert.PreRefIdeal.nD Cert.PreRefIdeal.τ).loc Cert.PreRefIdeal.main_arg6) = m ((c.tc : Thread Cert.PreIdeal.nD Cert.PreIdeal.τ).loc Cert.PreIdeal.main_arg6)
      ∧ m' ((c.tc : Thread Cert.PreRefIdeal.nD Cert.PreRefIdeal.τ).loc Cert.PreRefIdeal.main_arg7) = m ((c.tc : Thread Cert.PreIdeal.nD Cert.PreIdeal.τ).loc Cert.PreIdeal.main_arg7)) →
    ∃ (v0 : (c : Dev Cert.PreIdeal.nD) → Buf (Elt Ideal) ((c.tc : Thread Cert.PreIdeal.nD Cert.PreIdeal.τ).loc Cert.PreIdeal.main_v10_0)) (v1 : (c : Dev Cert.PreIdeal.nD) → Buf (Elt Ideal) ((c.tc : Thread Cert.PreIdeal.nD Cert.PreIdeal.τ).loc Cert.PreIdeal.main_v10_1)),
      θ_run (Cert.PreIdeal.defs (F := Ideal)) (onTc (τ := Cert.PreIdeal.τ) (Cert.PreIdeal.main (F := Ideal))) ⟨m, fun _ => 0, g⟩ (fun r => ∀ c : Dev Cert.PreIdeal.nD,
          r.2.mem ((c.tc : Thread Cert.PreIdeal.nD Cert.PreIdeal.τ).loc Cert.PreIdeal.main_v10_0) = v0 c
          ∧ r.2.mem ((c.tc : Thread Cert.PreIdeal.nD Cert.PreIdeal.τ).loc Cert.PreIdeal.main_v10_1) = v1 c
          ∧ r.2.mem ((c.tc : Thread Cert.PreIdeal.nD Cert.PreIdeal.τ).loc Cert.PreIdeal.main_arg0) = m ((c.tc : Thread Cert.PreIdeal.nD Cert.PreIdeal.τ).loc Cert.PreIdeal.main_arg0)
          ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
          ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
          ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
          ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
          ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
          ∧ r.2.mem ((c.tc : Thread Cert.PreIdeal.nD Cert.PreIdeal.τ).loc Cert.PreIdeal.main_arg6) = m ((c.tc : Thread Cert.PreIdeal.nD Cert.PreIdeal.τ).loc Cert.PreIdeal.main_arg6)
          ∧ r.2.mem ((c.tc : Thread Cert.PreIdeal.nD Cert.PreIdeal.τ).loc Cert.PreIdeal.main_arg7) = m ((c.tc : Thread Cert.PreIdeal.nD Cert.PreIdeal.τ).loc Cert.PreIdeal.main_arg7))
      ∧ θ_run (Cert.PreRefIdeal.defs (F := Ideal)) (onTc (τ := Cert.PreRefIdeal.τ) (Cert.PreRefIdeal.main (F := Ideal))) ⟨m', fun _ => 0, g'⟩ (fun r => ∀ c : Dev Cert.PreRefIdeal.nD,
          r.2.mem ((c.tc : Thread Cert.PreRefIdeal.nD Cert.PreRefIdeal.τ).loc Cert.PreRefIdeal.main_v55) = v0 c
          ∧ r.2.mem ((c.tc : Thread Cert.PreRefIdeal.nD Cert.PreRefIdeal.τ).loc Cert.PreRefIdeal.main_v65) = v1 c
          ∧ r.2.mem ((c.tc : Thread Cert.PreRefIdeal.nD Cert.PreRefIdeal.τ).loc Cert.PreRefIdeal.main_arg0) = m' ((c.tc : Thread Cert.PreRefIdeal.nD Cert.PreRefIdeal.τ).loc Cert.PreRefIdeal.main_arg0)
          ∧ r.2.mem ((c.tc : Thread Cert.PreRefIdeal.nD Cert.PreRefIdeal.τ).loc Cert.PreRefIdeal.main_arg1) = m' ((c.tc : Thread Cert.PreRefIdeal.nD Cert.PreRefIdeal.τ).loc Cert.PreRefIdeal.main_arg1)
          ∧ r.2.mem ((c.tc : Thread Cert.PreRefIdeal.nD Cert.PreRefIdeal.τ).loc Cert.PreRefIdeal.main_arg2) = m' ((c.tc : Thread Cert.PreRefIdeal.nD Cert.PreRefIdeal.τ).loc Cert.PreRefIdeal.main_arg2)
          ∧ r.2.mem ((c.tc : Thread Cert.PreRefIdeal.nD Cert.PreRefIdeal.τ).loc Cert.PreRefIdeal.main_arg3) = m' ((c.tc : Thread Cert.PreRefIdeal.nD Cert.PreRefIdeal.τ).loc Cert.PreRefIdeal.main_arg3)
          ∧ r.2.mem ((c.tc : Thread Cert.PreRefIdeal.nD Cert.PreRefIdeal.τ).loc Cert.PreRefIdeal.main_arg4) = m' ((c.tc : Thread Cert.PreRefIdeal.nD Cert.PreRefIdeal.τ).loc Cert.PreRefIdeal.main_arg4)
          ∧ r.2.mem ((c.tc : Thread Cert.PreRefIdeal.nD Cert.PreRefIdeal.τ).loc Cert.PreRefIdeal.main_arg5) = m' ((c.tc : Thread Cert.PreRefIdeal.nD Cert.PreRefIdeal.τ).loc Cert.PreRefIdeal.main_arg5)
          ∧ r.2.mem ((c.tc : Thread Cert.PreRefIdeal.nD Cert.PreRefIdeal.τ).loc Cert.PreRefIdeal.main_arg6) = m' ((c.tc : Thread Cert.PreRefIdeal.nD Cert.PreRefIdeal.τ).loc Cert.PreRefIdeal.main_arg6)
          ∧ r.2.mem ((c.tc : Thread Cert.PreRefIdeal.nD Cert.PreRefIdeal.τ).loc Cert.PreRefIdeal.main_arg7) = m' ((c.tc : Thread Cert.PreRefIdeal.nD Cert.PreRefIdeal.τ).loc Cert.PreRefIdeal.main_arg7))

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)
      ∧ m' ((c.tc : Thread Cert.LossRefIdeal.nD Cert.LossRefIdeal.τ).loc Cert.LossRefIdeal.main_arg5) = m ((c.tc : Thread Cert.LossIdeal.nD Cert.LossIdeal.τ).loc Cert.LossIdeal.main_arg5)
      ∧ m' ((c.tc : Thread Cert.LossRefIdeal.nD Cert.LossRefIdeal.τ).loc Cert.LossRefIdeal.main_arg6) = m ((c.tc : Thread Cert.LossIdeal.nD Cert.LossIdeal.τ).loc Cert.LossIdeal.main_arg6)
      ∧ m' ((c.tc : Thread Cert.LossRefIdeal.nD Cert.LossRefIdeal.τ).loc Cert.LossRefIdeal.main_arg7) = m ((c.tc : Thread Cert.LossIdeal.nD Cert.LossIdeal.τ).loc Cert.LossIdeal.main_arg7)) →
    ∃ (v0 : (c : Dev Cert.LossIdeal.nD) → Buf (Elt Ideal) ((c.tc : Thread Cert.LossIdeal.nD Cert.LossIdeal.τ).loc Cert.LossIdeal.main_v29)) (v1 : (c : Dev Cert.LossIdeal.nD) → Buf (Elt Ideal) ((c.tc : Thread Cert.LossIdeal.nD Cert.LossIdeal.τ).loc Cert.LossIdeal.main_v27_0)) (v2 : (c : Dev Cert.LossIdeal.nD) → Buf (Elt Ideal) ((c.tc : Thread Cert.LossIdeal.nD Cert.LossIdeal.τ).loc Cert.LossIdeal.main_v27_2)) (v3 : (c : Dev Cert.LossIdeal.nD) → Buf (Elt Ideal) ((c.tc : Thread Cert.LossIdeal.nD Cert.LossIdeal.τ).loc Cert.LossIdeal.main_v27_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v29) = v0 c
          ∧ r.2.mem ((c.tc : Thread Cert.LossIdeal.nD Cert.LossIdeal.τ).loc Cert.LossIdeal.main_v27_0) = v1 c
          ∧ r.2.mem ((c.tc : Thread Cert.LossIdeal.nD Cert.LossIdeal.τ).loc Cert.LossIdeal.main_v27_2) = v2 c
          ∧ r.2.mem ((c.tc : Thread Cert.LossIdeal.nD Cert.LossIdeal.τ).loc Cert.LossIdeal.main_v27_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
          ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
          ∧ r.2.mem ((c.tc : Thread Cert.LossIdeal.nD Cert.LossIdeal.τ).loc Cert.LossIdeal.main_arg7) = m ((c.tc : Thread Cert.LossIdeal.nD Cert.LossIdeal.τ).loc Cert.LossIdeal.main_arg7))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v28) = v0 c
          ∧ r.2.mem ((c.tc : Thread Cert.LossRefIdeal.nD Cert.LossRefIdeal.τ).loc Cert.LossRefIdeal.main_v34) = v1 c
          ∧ r.2.mem ((c.tc : Thread Cert.LossRefIdeal.nD Cert.LossRefIdeal.τ).loc Cert.LossRefIdeal.main_v62) = v2 c
          ∧ r.2.mem ((c.tc : Thread Cert.LossRefIdeal.nD Cert.LossRefIdeal.τ).loc Cert.LossRefIdeal.main_v71) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5)
          ∧ r.2.mem ((c.tc : Thread Cert.LossRefIdeal.nD Cert.LossRefIdeal.τ).loc Cert.LossRefIdeal.main_arg6) = m' ((c.tc : Thread Cert.LossRefIdeal.nD Cert.LossRefIdeal.τ).loc Cert.LossRefIdeal.main_arg6)
          ∧ r.2.mem ((c.tc : Thread Cert.LossRefIdeal.nD Cert.LossRefIdeal.τ).loc Cert.LossRefIdeal.main_arg7) = m' ((c.tc : Thread Cert.LossRefIdeal.nD Cert.LossRefIdeal.τ).loc Cert.LossRefIdeal.main_arg7))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v0)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v0) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v22) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Pool_PoolIdeal : Prop :=
  True

def algebraic_PoolIdeal_PoolRefIdeal_pre_finite_pool [hPoolIdeal : Cert.PoolIdeal.Facts] [hPoolRefIdeal : Cert.PoolRefIdeal.Facts] [hPre_finite_pool : Cert.Pre_finite_pool.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_finite_pool m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)
      ∧ m' ((c.tc : Thread Cert.PoolRefIdeal.nD Cert.PoolRefIdeal.τ).loc Cert.PoolRefIdeal.main_arg4) = m ((c.tc : Thread Cert.PoolIdeal.nD Cert.PoolIdeal.τ).loc Cert.PoolIdeal.main_arg4)
      ∧ m' ((c.tc : Thread Cert.PoolRefIdeal.nD Cert.PoolRefIdeal.τ).loc Cert.PoolRefIdeal.main_arg5) = m ((c.tc : Thread Cert.PoolIdeal.nD Cert.PoolIdeal.τ).loc Cert.PoolIdeal.main_arg5)
      ∧ m' ((c.tc : Thread Cert.PoolRefIdeal.nD Cert.PoolRefIdeal.τ).loc Cert.PoolRefIdeal.main_arg6) = m ((c.tc : Thread Cert.PoolIdeal.nD Cert.PoolIdeal.τ).loc Cert.PoolIdeal.main_arg6)
      ∧ m' ((c.tc : Thread Cert.PoolRefIdeal.nD Cert.PoolRefIdeal.τ).loc Cert.PoolRefIdeal.main_arg7) = m ((c.tc : Thread Cert.PoolIdeal.nD Cert.PoolIdeal.τ).loc Cert.PoolIdeal.main_arg7)
      ∧ m' ((c.tc : Thread Cert.PoolRefIdeal.nD Cert.PoolRefIdeal.τ).loc Cert.PoolRefIdeal.main_arg8) = m ((c.tc : Thread Cert.PoolIdeal.nD Cert.PoolIdeal.τ).loc Cert.PoolIdeal.main_arg8)) →
    ∃ (v0 : (c : Dev Cert.PoolIdeal.nD) → Buf (Elt Ideal) ((c.tc : Thread Cert.PoolIdeal.nD Cert.PoolIdeal.τ).loc Cert.PoolIdeal.main_v106_0)) (v1 : (c : Dev Cert.PoolIdeal.nD) → Buf (Elt Ideal) ((c.tc : Thread Cert.PoolIdeal.nD Cert.PoolIdeal.τ).loc Cert.PoolIdeal.main_v106_1)) (v2 : (c : Dev Cert.PoolIdeal.nD) → Buf (Elt Ideal) ((c.tc : Thread Cert.PoolIdeal.nD Cert.PoolIdeal.τ).loc Cert.PoolIdeal.main_v106_2)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v106_0) = v0 c
          ∧ r.2.mem ((c.tc : Thread Cert.PoolIdeal.nD Cert.PoolIdeal.τ).loc Cert.PoolIdeal.main_v106_1) = v1 c
          ∧ r.2.mem ((c.tc : Thread Cert.PoolIdeal.nD Cert.PoolIdeal.τ).loc Cert.PoolIdeal.main_v106_2) = v2 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
          ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
          ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
          ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6)
          ∧ r.2.mem ((c.tc : Thread Cert.PoolIdeal.nD Cert.PoolIdeal.τ).loc Cert.PoolIdeal.main_arg7) = m ((c.tc : Thread Cert.PoolIdeal.nD Cert.PoolIdeal.τ).loc Cert.PoolIdeal.main_arg7)
          ∧ r.2.mem ((c.tc : Thread Cert.PoolIdeal.nD Cert.PoolIdeal.τ).loc Cert.PoolIdeal.main_arg8) = m ((c.tc : Thread Cert.PoolIdeal.nD Cert.PoolIdeal.τ).loc Cert.PoolIdeal.main_arg8))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v244) = v0 c
          ∧ r.2.mem ((c.tc : Thread Cert.PoolRefIdeal.nD Cert.PoolRefIdeal.τ).loc Cert.PoolRefIdeal.main_v254) = v1 c
          ∧ r.2.mem ((c.tc : Thread Cert.PoolRefIdeal.nD Cert.PoolRefIdeal.τ).loc Cert.PoolRefIdeal.main_v158) = v2 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3)
          ∧ r.2.mem ((c.tc : Thread Cert.PoolRefIdeal.nD Cert.PoolRefIdeal.τ).loc Cert.PoolRefIdeal.main_arg4) = m' ((c.tc : Thread Cert.PoolRefIdeal.nD Cert.PoolRefIdeal.τ).loc Cert.PoolRefIdeal.main_arg4)
          ∧ r.2.mem ((c.tc : Thread Cert.PoolRefIdeal.nD Cert.PoolRefIdeal.τ).loc Cert.PoolRefIdeal.main_arg5) = m' ((c.tc : Thread Cert.PoolRefIdeal.nD Cert.PoolRefIdeal.τ).loc Cert.PoolRefIdeal.main_arg5)
          ∧ r.2.mem ((c.tc : Thread Cert.PoolRefIdeal.nD Cert.PoolRefIdeal.τ).loc Cert.PoolRefIdeal.main_arg6) = m' ((c.tc : Thread Cert.PoolRefIdeal.nD Cert.PoolRefIdeal.τ).loc Cert.PoolRefIdeal.main_arg6)
          ∧ r.2.mem ((c.tc : Thread Cert.PoolRefIdeal.nD Cert.PoolRefIdeal.τ).loc Cert.PoolRefIdeal.main_arg7) = m' ((c.tc : Thread Cert.PoolRefIdeal.nD Cert.PoolRefIdeal.τ).loc Cert.PoolRefIdeal.main_arg7)
          ∧ r.2.mem ((c.tc : Thread Cert.PoolRefIdeal.nD Cert.PoolRefIdeal.τ).loc Cert.PoolRefIdeal.main_arg8) = m' ((c.tc : Thread Cert.PoolRefIdeal.nD Cert.PoolRefIdeal.τ).loc Cert.PoolRefIdeal.main_arg8))

def preserves_Ffn_FfnIdeal : Prop :=
  True

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v43)) (v1 : (c : Dev Cert.FfnIdeal.nD) → Buf (Elt Ideal) ((c.tc : Thread Cert.FfnIdeal.nD Cert.FfnIdeal.τ).loc Cert.FfnIdeal.main_v41_1)) (v2 : (c : Dev Cert.FfnIdeal.nD) → Buf (Elt Ideal) ((c.tc : Thread Cert.FfnIdeal.nD Cert.FfnIdeal.τ).loc Cert.FfnIdeal.main_v41_2)) (v3 : (c : Dev Cert.FfnIdeal.nD) → Buf (Elt Ideal) ((c.tc : Thread Cert.FfnIdeal.nD Cert.FfnIdeal.τ).loc Cert.FfnIdeal.main_v41_3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v43) = v0 c
          ∧ r.2.mem ((c.tc : Thread Cert.FfnIdeal.nD Cert.FfnIdeal.τ).loc Cert.FfnIdeal.main_v41_1) = v1 c
          ∧ r.2.mem ((c.tc : Thread Cert.FfnIdeal.nD Cert.FfnIdeal.τ).loc Cert.FfnIdeal.main_v41_2) = v2 c
          ∧ r.2.mem ((c.tc : Thread Cert.FfnIdeal.nD Cert.FfnIdeal.τ).loc Cert.FfnIdeal.main_v41_3) = v3 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v73) = v0 c
          ∧ r.2.mem ((c.tc : Thread Cert.FfnRefIdeal.nD Cert.FfnRefIdeal.τ).loc Cert.FfnRefIdeal.main_v80) = v1 c
          ∧ r.2.mem ((c.tc : Thread Cert.FfnRefIdeal.nD Cert.FfnRefIdeal.τ).loc Cert.FfnRefIdeal.main_v81) = v2 c
          ∧ r.2.mem ((c.tc : Thread Cert.FfnRefIdeal.nD Cert.FfnRefIdeal.τ).loc Cert.FfnRefIdeal.main_v77) = v3 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_AdaF_AdaFIdeal : Prop :=
  True

def algebraic_AdaFIdeal_AdaFRefIdeal [hAdaFIdeal : Cert.AdaFIdeal.Facts] [hAdaFRefIdeal : Cert.AdaFRefIdeal.Facts] : Prop :=
  ∀ (m : (ℓ : Loc Cert.AdaFIdeal.nD Cert.AdaFIdeal.τ Cert.AdaFIdeal.sig) → Buf (Elt Ideal) ℓ) (g : Dev Cert.AdaFIdeal.nD → PrngReg)
    (m' : (ℓ : Loc Cert.AdaFRefIdeal.nD Cert.AdaFRefIdeal.τ Cert.AdaFRefIdeal.sig) → Buf (Elt Ideal) ℓ) (g' : Dev Cert.AdaFRefIdeal.nD → PrngReg), Pre_AdaFIdeal m →
    (∀ c : Dev Cert.AdaFIdeal.nD,
      m' ((c.tc : Thread Cert.AdaFRefIdeal.nD Cert.AdaFRefIdeal.τ).loc Cert.AdaFRefIdeal.main_arg0) = m ((c.tc : Thread Cert.AdaFIdeal.nD Cert.AdaFIdeal.τ).loc Cert.AdaFIdeal.main_arg0)
      ∧ m' ((c.tc : Thread Cert.AdaFRefIdeal.nD Cert.AdaFRefIdeal.τ).loc Cert.AdaFRefIdeal.main_arg1) = m ((c.tc : Thread Cert.AdaFIdeal.nD Cert.AdaFIdeal.τ).loc Cert.AdaFIdeal.main_arg1)) →
    ∃ (v0 : (c : Dev Cert.AdaFIdeal.nD) → Buf (Elt Ideal) ((c.tc : Thread Cert.AdaFIdeal.nD Cert.AdaFIdeal.τ).loc Cert.AdaFIdeal.main_v0)),
      θ_run (Cert.AdaFIdeal.defs (F := Ideal)) (onTc (τ := Cert.AdaFIdeal.τ) (Cert.AdaFIdeal.main (F := Ideal))) ⟨m, fun _ => 0, g⟩ (fun r => ∀ c : Dev Cert.AdaFIdeal.nD,
          r.2.mem ((c.tc : Thread Cert.AdaFIdeal.nD Cert.AdaFIdeal.τ).loc Cert.AdaFIdeal.main_v0) = v0 c
          ∧ r.2.mem ((c.tc : Thread Cert.AdaFIdeal.nD Cert.AdaFIdeal.τ).loc Cert.AdaFIdeal.main_arg0) = m ((c.tc : Thread Cert.AdaFIdeal.nD Cert.AdaFIdeal.τ).loc Cert.AdaFIdeal.main_arg0)
          ∧ r.2.mem ((c.tc : Thread Cert.AdaFIdeal.nD Cert.AdaFIdeal.τ).loc Cert.AdaFIdeal.main_arg1) = m ((c.tc : Thread Cert.AdaFIdeal.nD Cert.AdaFIdeal.τ).loc Cert.AdaFIdeal.main_arg1))
      ∧ θ_run (Cert.AdaFRefIdeal.defs (F := Ideal)) (onTc (τ := Cert.AdaFRefIdeal.τ) (Cert.AdaFRefIdeal.main (F := Ideal))) ⟨m', fun _ => 0, g'⟩ (fun r => ∀ c : Dev Cert.AdaFRefIdeal.nD,
          r.2.mem ((c.tc : Thread Cert.AdaFRefIdeal.nD Cert.AdaFRefIdeal.τ).loc Cert.AdaFRefIdeal.main_v9) = v0 c
          ∧ r.2.mem ((c.tc : Thread Cert.AdaFRefIdeal.nD Cert.AdaFRefIdeal.τ).loc Cert.AdaFRefIdeal.main_arg0) = m' ((c.tc : Thread Cert.AdaFRefIdeal.nD Cert.AdaFRefIdeal.τ).loc Cert.AdaFRefIdeal.main_arg0)
          ∧ r.2.mem ((c.tc : Thread Cert.AdaFRefIdeal.nD Cert.AdaFRefIdeal.τ).loc Cert.AdaFRefIdeal.main_arg1) = m' ((c.tc : Thread Cert.AdaFRefIdeal.nD Cert.AdaFRefIdeal.τ).loc Cert.AdaFRefIdeal.main_arg1))

def preserves_PoolF_PoolFIdeal : Prop :=
  True

def algebraic_PoolFIdeal_PoolFRefIdeal_pre_finite_poolf [hPoolFIdeal : Cert.PoolFIdeal.Facts] [hPoolFRefIdeal : Cert.PoolFRefIdeal.Facts] [hPre_finite_poolf : Cert.Pre_finite_poolf.Facts] : Prop :=
  ∀ (m : (ℓ : Loc Cert.PoolFIdeal.nD Cert.PoolFIdeal.τ Cert.PoolFIdeal.sig) → Buf (Elt Ideal) ℓ) (g : Dev Cert.PoolFIdeal.nD → PrngReg)
    (m' : (ℓ : Loc Cert.PoolFRefIdeal.nD Cert.PoolFRefIdeal.τ Cert.PoolFRefIdeal.sig) → Buf (Elt Ideal) ℓ) (g' : Dev Cert.PoolFRefIdeal.nD → PrngReg), Pre_PoolFIdeal_finite_poolf m →
    (∀ c : Dev Cert.PoolFIdeal.nD,
      m' ((c.tc : Thread Cert.PoolFRefIdeal.nD Cert.PoolFRefIdeal.τ).loc Cert.PoolFRefIdeal.main_arg0) = m ((c.tc : Thread Cert.PoolFIdeal.nD Cert.PoolFIdeal.τ).loc Cert.PoolFIdeal.main_arg0)
      ∧ m' ((c.tc : Thread Cert.PoolFRefIdeal.nD Cert.PoolFRefIdeal.τ).loc Cert.PoolFRefIdeal.main_arg1) = m ((c.tc : Thread Cert.PoolFIdeal.nD Cert.PoolFIdeal.τ).loc Cert.PoolFIdeal.main_arg1)
      ∧ m' ((c.tc : Thread Cert.PoolFRefIdeal.nD Cert.PoolFRefIdeal.τ).loc Cert.PoolFRefIdeal.main_arg2) = m ((c.tc : Thread Cert.PoolFIdeal.nD Cert.PoolFIdeal.τ).loc Cert.PoolFIdeal.main_arg2)
      ∧ m' ((c.tc : Thread Cert.PoolFRefIdeal.nD Cert.PoolFRefIdeal.τ).loc Cert.PoolFRefIdeal.main_arg3) = m ((c.tc : Thread Cert.PoolFIdeal.nD Cert.PoolFIdeal.τ).loc Cert.PoolFIdeal.main_arg3)
      ∧ m' ((c.tc : Thread Cert.PoolFRefIdeal.nD Cert.PoolFRefIdeal.τ).loc Cert.PoolFRefIdeal.main_arg4) = m ((c.tc : Thread Cert.PoolFIdeal.nD Cert.PoolFIdeal.τ).loc Cert.PoolFIdeal.main_arg4)
      ∧ m' ((c.tc : Thread Cert.PoolFRefIdeal.nD Cert.PoolFRefIdeal.τ).loc Cert.PoolFRefIdeal.main_arg5) = m ((c.tc : Thread Cert.PoolFIdeal.nD Cert.PoolFIdeal.τ).loc Cert.PoolFIdeal.main_arg5)
      ∧ m' ((c.tc : Thread Cert.PoolFRefIdeal.nD Cert.PoolFRefIdeal.τ).loc Cert.PoolFRefIdeal.main_arg6) = m ((c.tc : Thread Cert.PoolFIdeal.nD Cert.PoolFIdeal.τ).loc Cert.PoolFIdeal.main_arg6)
      ∧ m' ((c.tc : Thread Cert.PoolFRefIdeal.nD Cert.PoolFRefIdeal.τ).loc Cert.PoolFRefIdeal.main_arg7) = m ((c.tc : Thread Cert.PoolFIdeal.nD Cert.PoolFIdeal.τ).loc Cert.PoolFIdeal.main_arg7)) →
    ∃ (v0 : (c : Dev Cert.PoolFIdeal.nD) → Buf (Elt Ideal) ((c.tc : Thread Cert.PoolFIdeal.nD Cert.PoolFIdeal.τ).loc Cert.PoolFIdeal.main_v12_0)) (v1 : (c : Dev Cert.PoolFIdeal.nD) → Buf (Elt Ideal) ((c.tc : Thread Cert.PoolFIdeal.nD Cert.PoolFIdeal.τ).loc Cert.PoolFIdeal.main_v12_1)),
      θ_run (Cert.PoolFIdeal.defs (F := Ideal)) (onTc (τ := Cert.PoolFIdeal.τ) (Cert.PoolFIdeal.main (F := Ideal))) ⟨m, fun _ => 0, g⟩ (fun r => ∀ c : Dev Cert.PoolFIdeal.nD,
          r.2.mem ((c.tc : Thread Cert.PoolFIdeal.nD Cert.PoolFIdeal.τ).loc Cert.PoolFIdeal.main_v12_0) = v0 c
          ∧ r.2.mem ((c.tc : Thread Cert.PoolFIdeal.nD Cert.PoolFIdeal.τ).loc Cert.PoolFIdeal.main_v12_1) = v1 c
          ∧ r.2.mem ((c.tc : Thread Cert.PoolFIdeal.nD Cert.PoolFIdeal.τ).loc Cert.PoolFIdeal.main_arg0) = m ((c.tc : Thread Cert.PoolFIdeal.nD Cert.PoolFIdeal.τ).loc Cert.PoolFIdeal.main_arg0)
          ∧ r.2.mem ((c.tc : Thread Cert.PoolFIdeal.nD Cert.PoolFIdeal.τ).loc Cert.PoolFIdeal.main_arg1) = m ((c.tc : Thread Cert.PoolFIdeal.nD Cert.PoolFIdeal.τ).loc Cert.PoolFIdeal.main_arg1)
          ∧ r.2.mem ((c.tc : Thread Cert.PoolFIdeal.nD Cert.PoolFIdeal.τ).loc Cert.PoolFIdeal.main_arg2) = m ((c.tc : Thread Cert.PoolFIdeal.nD Cert.PoolFIdeal.τ).loc Cert.PoolFIdeal.main_arg2)
          ∧ r.2.mem ((c.tc : Thread Cert.PoolFIdeal.nD Cert.PoolFIdeal.τ).loc Cert.PoolFIdeal.main_arg3) = m ((c.tc : Thread Cert.PoolFIdeal.nD Cert.PoolFIdeal.τ).loc Cert.PoolFIdeal.main_arg3)
          ∧ r.2.mem ((c.tc : Thread Cert.PoolFIdeal.nD Cert.PoolFIdeal.τ).loc Cert.PoolFIdeal.main_arg4) = m ((c.tc : Thread Cert.PoolFIdeal.nD Cert.PoolFIdeal.τ).loc Cert.PoolFIdeal.main_arg4)
          ∧ r.2.mem ((c.tc : Thread Cert.PoolFIdeal.nD Cert.PoolFIdeal.τ).loc Cert.PoolFIdeal.main_arg5) = m ((c.tc : Thread Cert.PoolFIdeal.nD Cert.PoolFIdeal.τ).loc Cert.PoolFIdeal.main_arg5)
          ∧ r.2.mem ((c.tc : Thread Cert.PoolFIdeal.nD Cert.PoolFIdeal.τ).loc Cert.PoolFIdeal.main_arg6) = m ((c.tc : Thread Cert.PoolFIdeal.nD Cert.PoolFIdeal.τ).loc Cert.PoolFIdeal.main_arg6)
          ∧ r.2.mem ((c.tc : Thread Cert.PoolFIdeal.nD Cert.PoolFIdeal.τ).loc Cert.PoolFIdeal.main_arg7) = m ((c.tc : Thread Cert.PoolFIdeal.nD Cert.PoolFIdeal.τ).loc Cert.PoolFIdeal.main_arg7))
      ∧ θ_run (Cert.PoolFRefIdeal.defs (F := Ideal)) (onTc (τ := Cert.PoolFRefIdeal.τ) (Cert.PoolFRefIdeal.main (F := Ideal))) ⟨m', fun _ => 0, g'⟩ (fun r => ∀ c : Dev Cert.PoolFRefIdeal.nD,
          r.2.mem ((c.tc : Thread Cert.PoolFRefIdeal.nD Cert.PoolFRefIdeal.τ).loc Cert.PoolFRefIdeal.main_v113) = v0 c
          ∧ r.2.mem ((c.tc : Thread Cert.PoolFRefIdeal.nD Cert.PoolFRefIdeal.τ).loc Cert.PoolFRefIdeal.main_v93) = v1 c
          ∧ r.2.mem ((c.tc : Thread Cert.PoolFRefIdeal.nD Cert.PoolFRefIdeal.τ).loc Cert.PoolFRefIdeal.main_arg0) = m' ((c.tc : Thread Cert.PoolFRefIdeal.nD Cert.PoolFRefIdeal.τ).loc Cert.PoolFRefIdeal.main_arg0)
          ∧ r.2.mem ((c.tc : Thread Cert.PoolFRefIdeal.nD Cert.PoolFRefIdeal.τ).loc Cert.PoolFRefIdeal.main_arg1) = m' ((c.tc : Thread Cert.PoolFRefIdeal.nD Cert.PoolFRefIdeal.τ).loc Cert.PoolFRefIdeal.main_arg1)
          ∧ r.2.mem ((c.tc : Thread Cert.PoolFRefIdeal.nD Cert.PoolFRefIdeal.τ).loc Cert.PoolFRefIdeal.main_arg2) = m' ((c.tc : Thread Cert.PoolFRefIdeal.nD Cert.PoolFRefIdeal.τ).loc Cert.PoolFRefIdeal.main_arg2)
          ∧ r.2.mem ((c.tc : Thread Cert.PoolFRefIdeal.nD Cert.PoolFRefIdeal.τ).loc Cert.PoolFRefIdeal.main_arg3) = m' ((c.tc : Thread Cert.PoolFRefIdeal.nD Cert.PoolFRefIdeal.τ).loc Cert.PoolFRefIdeal.main_arg3)
          ∧ r.2.mem ((c.tc : Thread Cert.PoolFRefIdeal.nD Cert.PoolFRefIdeal.τ).loc Cert.PoolFRefIdeal.main_arg4) = m' ((c.tc : Thread Cert.PoolFRefIdeal.nD Cert.PoolFRefIdeal.τ).loc Cert.PoolFRefIdeal.main_arg4)
          ∧ r.2.mem ((c.tc : Thread Cert.PoolFRefIdeal.nD Cert.PoolFRefIdeal.τ).loc Cert.PoolFRefIdeal.main_arg5) = m' ((c.tc : Thread Cert.PoolFRefIdeal.nD Cert.PoolFRefIdeal.τ).loc Cert.PoolFRefIdeal.main_arg5)
          ∧ r.2.mem ((c.tc : Thread Cert.PoolFRefIdeal.nD Cert.PoolFRefIdeal.τ).loc Cert.PoolFRefIdeal.main_arg6) = m' ((c.tc : Thread Cert.PoolFRefIdeal.nD Cert.PoolFRefIdeal.τ).loc Cert.PoolFRefIdeal.main_arg6)
          ∧ r.2.mem ((c.tc : Thread Cert.PoolFRefIdeal.nD Cert.PoolFRefIdeal.τ).loc Cert.PoolFRefIdeal.main_arg7) = m' ((c.tc : Thread Cert.PoolFRefIdeal.nD Cert.PoolFRefIdeal.τ).loc Cert.PoolFRefIdeal.main_arg7))

def preserves_FfnF_FfnFIdeal : Prop :=
  True

def algebraic_FfnFIdeal_FfnFRefIdeal_pre_finite_ffnf [hFfnFIdeal : Cert.FfnFIdeal.Facts] [hFfnFRefIdeal : Cert.FfnFRefIdeal.Facts] [hPre_finite_ffnf : Cert.Pre_finite_ffnf.Facts] : Prop :=
  ∀ (m : (ℓ : Loc Cert.FfnFIdeal.nD Cert.FfnFIdeal.τ Cert.FfnFIdeal.sig) → Buf (Elt Ideal) ℓ) (g : Dev Cert.FfnFIdeal.nD → PrngReg)
    (m' : (ℓ : Loc Cert.FfnFRefIdeal.nD Cert.FfnFRefIdeal.τ Cert.FfnFRefIdeal.sig) → Buf (Elt Ideal) ℓ) (g' : Dev Cert.FfnFRefIdeal.nD → PrngReg), Pre_FfnFIdeal_finite_ffnf m →
    (∀ c : Dev Cert.FfnFIdeal.nD,
      m' ((c.tc : Thread Cert.FfnFRefIdeal.nD Cert.FfnFRefIdeal.τ).loc Cert.FfnFRefIdeal.main_arg0) = m ((c.tc : Thread Cert.FfnFIdeal.nD Cert.FfnFIdeal.τ).loc Cert.FfnFIdeal.main_arg0)
      ∧ m' ((c.tc : Thread Cert.FfnFRefIdeal.nD Cert.FfnFRefIdeal.τ).loc Cert.FfnFRefIdeal.main_arg1) = m ((c.tc : Thread Cert.FfnFIdeal.nD Cert.FfnFIdeal.τ).loc Cert.FfnFIdeal.main_arg1)
      ∧ m' ((c.tc : Thread Cert.FfnFRefIdeal.nD Cert.FfnFRefIdeal.τ).loc Cert.FfnFRefIdeal.main_arg2) = m ((c.tc : Thread Cert.FfnFIdeal.nD Cert.FfnFIdeal.τ).loc Cert.FfnFIdeal.main_arg2)
      ∧ m' ((c.tc : Thread Cert.FfnFRefIdeal.nD Cert.FfnFRefIdeal.τ).loc Cert.FfnFRefIdeal.main_arg3) = m ((c.tc : Thread Cert.FfnFIdeal.nD Cert.FfnFIdeal.τ).loc Cert.FfnFIdeal.main_arg3)
      ∧ m' ((c.tc : Thread Cert.FfnFRefIdeal.nD Cert.FfnFRefIdeal.τ).loc Cert.FfnFRefIdeal.main_arg4) = m ((c.tc : Thread Cert.FfnFIdeal.nD Cert.FfnFIdeal.τ).loc Cert.FfnFIdeal.main_arg4)
      ∧ m' ((c.tc : Thread Cert.FfnFRefIdeal.nD Cert.FfnFRefIdeal.τ).loc Cert.FfnFRefIdeal.main_arg5) = m ((c.tc : Thread Cert.FfnFIdeal.nD Cert.FfnFIdeal.τ).loc Cert.FfnFIdeal.main_arg5)
      ∧ m' ((c.tc : Thread Cert.FfnFRefIdeal.nD Cert.FfnFRefIdeal.τ).loc Cert.FfnFRefIdeal.main_arg6) = m ((c.tc : Thread Cert.FfnFIdeal.nD Cert.FfnFIdeal.τ).loc Cert.FfnFIdeal.main_arg6)
      ∧ m' ((c.tc : Thread Cert.FfnFRefIdeal.nD Cert.FfnFRefIdeal.τ).loc Cert.FfnFRefIdeal.main_arg7) = m ((c.tc : Thread Cert.FfnFIdeal.nD Cert.FfnFIdeal.τ).loc Cert.FfnFIdeal.main_arg7)
      ∧ m' ((c.tc : Thread Cert.FfnFRefIdeal.nD Cert.FfnFRefIdeal.τ).loc Cert.FfnFRefIdeal.main_arg8) = m ((c.tc : Thread Cert.FfnFIdeal.nD Cert.FfnFIdeal.τ).loc Cert.FfnFIdeal.main_arg8)) →
    ∃ (v0 : (c : Dev Cert.FfnFIdeal.nD) → Buf (Elt Ideal) ((c.tc : Thread Cert.FfnFIdeal.nD Cert.FfnFIdeal.τ).loc Cert.FfnFIdeal.main_v18_0)) (v1 : (c : Dev Cert.FfnFIdeal.nD) → Buf (Elt Ideal) ((c.tc : Thread Cert.FfnFIdeal.nD Cert.FfnFIdeal.τ).loc Cert.FfnFIdeal.main_v18_1)) (v2 : (c : Dev Cert.FfnFIdeal.nD) → Buf (Elt Ideal) ((c.tc : Thread Cert.FfnFIdeal.nD Cert.FfnFIdeal.τ).loc Cert.FfnFIdeal.main_v18_2)) (v3 : (c : Dev Cert.FfnFIdeal.nD) → Buf (Elt Ideal) ((c.tc : Thread Cert.FfnFIdeal.nD Cert.FfnFIdeal.τ).loc Cert.FfnFIdeal.main_v18_3)) (v4 : (c : Dev Cert.FfnFIdeal.nD) → Buf (Elt Ideal) ((c.tc : Thread Cert.FfnFIdeal.nD Cert.FfnFIdeal.τ).loc Cert.FfnFIdeal.main_v18_4)),
      θ_run (Cert.FfnFIdeal.defs (F := Ideal)) (onTc (τ := Cert.FfnFIdeal.τ) (Cert.FfnFIdeal.main (F := Ideal))) ⟨m, fun _ => 0, g⟩ (fun r => ∀ c : Dev Cert.FfnFIdeal.nD,
          r.2.mem ((c.tc : Thread Cert.FfnFIdeal.nD Cert.FfnFIdeal.τ).loc Cert.FfnFIdeal.main_v18_0) = v0 c
          ∧ r.2.mem ((c.tc : Thread Cert.FfnFIdeal.nD Cert.FfnFIdeal.τ).loc Cert.FfnFIdeal.main_v18_1) = v1 c
          ∧ r.2.mem ((c.tc : Thread Cert.FfnFIdeal.nD Cert.FfnFIdeal.τ).loc Cert.FfnFIdeal.main_v18_2) = v2 c
          ∧ r.2.mem ((c.tc : Thread Cert.FfnFIdeal.nD Cert.FfnFIdeal.τ).loc Cert.FfnFIdeal.main_v18_3) = v3 c
          ∧ r.2.mem ((c.tc : Thread Cert.FfnFIdeal.nD Cert.FfnFIdeal.τ).loc Cert.FfnFIdeal.main_v18_4) = v4 c
          ∧ r.2.mem ((c.tc : Thread Cert.FfnFIdeal.nD Cert.FfnFIdeal.τ).loc Cert.FfnFIdeal.main_arg0) = m ((c.tc : Thread Cert.FfnFIdeal.nD Cert.FfnFIdeal.τ).loc Cert.FfnFIdeal.main_arg0)
          ∧ r.2.mem ((c.tc : Thread Cert.FfnFIdeal.nD Cert.FfnFIdeal.τ).loc Cert.FfnFIdeal.main_arg1) = m ((c.tc : Thread Cert.FfnFIdeal.nD Cert.FfnFIdeal.τ).loc Cert.FfnFIdeal.main_arg1)
          ∧ r.2.mem ((c.tc : Thread Cert.FfnFIdeal.nD Cert.FfnFIdeal.τ).loc Cert.FfnFIdeal.main_arg2) = m ((c.tc : Thread Cert.FfnFIdeal.nD Cert.FfnFIdeal.τ).loc Cert.FfnFIdeal.main_arg2)
          ∧ r.2.mem ((c.tc : Thread Cert.FfnFIdeal.nD Cert.FfnFIdeal.τ).loc Cert.FfnFIdeal.main_arg3) = m ((c.tc : Thread Cert.FfnFIdeal.nD Cert.FfnFIdeal.τ).loc Cert.FfnFIdeal.main_arg3)
          ∧ r.2.mem ((c.tc : Thread Cert.FfnFIdeal.nD Cert.FfnFIdeal.τ).loc Cert.FfnFIdeal.main_arg4) = m ((c.tc : Thread Cert.FfnFIdeal.nD Cert.FfnFIdeal.τ).loc Cert.FfnFIdeal.main_arg4)
          ∧ r.2.mem ((c.tc : Thread Cert.FfnFIdeal.nD Cert.FfnFIdeal.τ).loc Cert.FfnFIdeal.main_arg5) = m ((c.tc : Thread Cert.FfnFIdeal.nD Cert.FfnFIdeal.τ).loc Cert.FfnFIdeal.main_arg5)
          ∧ r.2.mem ((c.tc : Thread Cert.FfnFIdeal.nD Cert.FfnFIdeal.τ).loc Cert.FfnFIdeal.main_arg6) = m ((c.tc : Thread Cert.FfnFIdeal.nD Cert.FfnFIdeal.τ).loc Cert.FfnFIdeal.main_arg6)
          ∧ r.2.mem ((c.tc : Thread Cert.FfnFIdeal.nD Cert.FfnFIdeal.τ).loc Cert.FfnFIdeal.main_arg7) = m ((c.tc : Thread Cert.FfnFIdeal.nD Cert.FfnFIdeal.τ).loc Cert.FfnFIdeal.main_arg7)
          ∧ r.2.mem ((c.tc : Thread Cert.FfnFIdeal.nD Cert.FfnFIdeal.τ).loc Cert.FfnFIdeal.main_arg8) = m ((c.tc : Thread Cert.FfnFIdeal.nD Cert.FfnFIdeal.τ).loc Cert.FfnFIdeal.main_arg8))
      ∧ θ_run (Cert.FfnFRefIdeal.defs (F := Ideal)) (onTc (τ := Cert.FfnFRefIdeal.τ) (Cert.FfnFRefIdeal.main (F := Ideal))) ⟨m', fun _ => 0, g'⟩ (fun r => ∀ c : Dev Cert.FfnFRefIdeal.nD,
          r.2.mem ((c.tc : Thread Cert.FfnFRefIdeal.nD Cert.FfnFRefIdeal.τ).loc Cert.FfnFRefIdeal.main_v67) = v0 c
          ∧ r.2.mem ((c.tc : Thread Cert.FfnFRefIdeal.nD Cert.FfnFRefIdeal.τ).loc Cert.FfnFRefIdeal.main_v50) = v1 c
          ∧ r.2.mem ((c.tc : Thread Cert.FfnFRefIdeal.nD Cert.FfnFRefIdeal.τ).loc Cert.FfnFRefIdeal.main_v68) = v2 c
          ∧ r.2.mem ((c.tc : Thread Cert.FfnFRefIdeal.nD Cert.FfnFRefIdeal.τ).loc Cert.FfnFRefIdeal.main_v71) = v3 c
          ∧ r.2.mem ((c.tc : Thread Cert.FfnFRefIdeal.nD Cert.FfnFRefIdeal.τ).loc Cert.FfnFRefIdeal.main_v74) = v4 c
          ∧ r.2.mem ((c.tc : Thread Cert.FfnFRefIdeal.nD Cert.FfnFRefIdeal.τ).loc Cert.FfnFRefIdeal.main_arg0) = m' ((c.tc : Thread Cert.FfnFRefIdeal.nD Cert.FfnFRefIdeal.τ).loc Cert.FfnFRefIdeal.main_arg0)
          ∧ r.2.mem ((c.tc : Thread Cert.FfnFRefIdeal.nD Cert.FfnFRefIdeal.τ).loc Cert.FfnFRefIdeal.main_arg1) = m' ((c.tc : Thread Cert.FfnFRefIdeal.nD Cert.FfnFRefIdeal.τ).loc Cert.FfnFRefIdeal.main_arg1)
          ∧ r.2.mem ((c.tc : Thread Cert.FfnFRefIdeal.nD Cert.FfnFRefIdeal.τ).loc Cert.FfnFRefIdeal.main_arg2) = m' ((c.tc : Thread Cert.FfnFRefIdeal.nD Cert.FfnFRefIdeal.τ).loc Cert.FfnFRefIdeal.main_arg2)
          ∧ r.2.mem ((c.tc : Thread Cert.FfnFRefIdeal.nD Cert.FfnFRefIdeal.τ).loc Cert.FfnFRefIdeal.main_arg3) = m' ((c.tc : Thread Cert.FfnFRefIdeal.nD Cert.FfnFRefIdeal.τ).loc Cert.FfnFRefIdeal.main_arg3)
          ∧ r.2.mem ((c.tc : Thread Cert.FfnFRefIdeal.nD Cert.FfnFRefIdeal.τ).loc Cert.FfnFRefIdeal.main_arg4) = m' ((c.tc : Thread Cert.FfnFRefIdeal.nD Cert.FfnFRefIdeal.τ).loc Cert.FfnFRefIdeal.main_arg4)
          ∧ r.2.mem ((c.tc : Thread Cert.FfnFRefIdeal.nD Cert.FfnFRefIdeal.τ).loc Cert.FfnFRefIdeal.main_arg5) = m' ((c.tc : Thread Cert.FfnFRefIdeal.nD Cert.FfnFRefIdeal.τ).loc Cert.FfnFRefIdeal.main_arg5)
          ∧ r.2.mem ((c.tc : Thread Cert.FfnFRefIdeal.nD Cert.FfnFRefIdeal.τ).loc Cert.FfnFRefIdeal.main_arg6) = m' ((c.tc : Thread Cert.FfnFRefIdeal.nD Cert.FfnFRefIdeal.τ).loc Cert.FfnFRefIdeal.main_arg6)
          ∧ r.2.mem ((c.tc : Thread Cert.FfnFRefIdeal.nD Cert.FfnFRefIdeal.τ).loc Cert.FfnFRefIdeal.main_arg7) = m' ((c.tc : Thread Cert.FfnFRefIdeal.nD Cert.FfnFRefIdeal.τ).loc Cert.FfnFRefIdeal.main_arg7)
          ∧ r.2.mem ((c.tc : Thread Cert.FfnFRefIdeal.nD Cert.FfnFRefIdeal.τ).loc Cert.FfnFRefIdeal.main_arg8) = m' ((c.tc : Thread Cert.FfnFRefIdeal.nD Cert.FfnFRefIdeal.τ).loc Cert.FfnFRefIdeal.main_arg8))

def Claim : Prop :=
  ∃ (hPost : Cert.Post.Facts) (hPostIdeal : Cert.PostIdeal.Facts) (hPostRefIdeal : Cert.PostRefIdeal.Facts) (hPre : Cert.Pre.Facts) (hPreIdeal : Cert.PreIdeal.Facts) (hPreRefIdeal : Cert.PreRefIdeal.Facts) (hLoss : Cert.Loss.Facts) (hLossIdeal : Cert.LossIdeal.Facts) (hLossRefIdeal : Cert.LossRefIdeal.Facts) (hAda : Cert.Ada.Facts) (hAdaIdeal : Cert.AdaIdeal.Facts) (hAdaRefIdeal : Cert.AdaRefIdeal.Facts) (hPool : Cert.Pool.Facts) (hPoolIdeal : Cert.PoolIdeal.Facts) (hPoolRefIdeal : Cert.PoolRefIdeal.Facts) (hFfn : Cert.Ffn.Facts) (hFfnIdeal : Cert.FfnIdeal.Facts) (hFfnRefIdeal : Cert.FfnRefIdeal.Facts) (hAdaF : Cert.AdaF.Facts) (hAdaFIdeal : Cert.AdaFIdeal.Facts) (hAdaFRefIdeal : Cert.AdaFRefIdeal.Facts) (hPoolF : Cert.PoolF.Facts) (hPoolFIdeal : Cert.PoolFIdeal.Facts) (hPoolFRefIdeal : Cert.PoolFRefIdeal.Facts) (hFfnF : Cert.FfnF.Facts) (hFfnFIdeal : Cert.FfnFIdeal.Facts) (hFfnFRefIdeal : Cert.FfnFRefIdeal.Facts) (hPre_finite_post : Cert.Pre_finite_post.Facts) (hPre_finite_pre : Cert.Pre_finite_pre.Facts) (hPre_finite_loss : Cert.Pre_finite_loss.Facts) (hPre_finite_pool : Cert.Pre_finite_pool.Facts) (hPre_finite_ffn : Cert.Pre_finite_ffn.Facts) (hPre_finite_poolf : Cert.Pre_finite_poolf.Facts) (hPre_finite_ffnf : Cert.Pre_finite_ffnf.Facts),
    quiescent_Post (hPost := hPost)
    ∧ quiescent_PostIdeal (hPostIdeal := hPostIdeal)
    ∧ quiescent_PostIdeal_pre_finite_post (hPostIdeal := hPostIdeal) (hPre_finite_post := hPre_finite_post)
    ∧ quiescent_PostRefIdeal (hPostRefIdeal := hPostRefIdeal)
    ∧ quiescent_PostRefIdeal_pre_finite_post (hPostRefIdeal := hPostRefIdeal) (hPre_finite_post := hPre_finite_post)
    ∧ quiescent_Pre (hPre := hPre)
    ∧ quiescent_PreIdeal (hPreIdeal := hPreIdeal)
    ∧ quiescent_PreIdeal_pre_finite_pre (hPreIdeal := hPreIdeal) (hPre_finite_pre := hPre_finite_pre)
    ∧ quiescent_PreRefIdeal (hPreRefIdeal := hPreRefIdeal)
    ∧ quiescent_PreRefIdeal_pre_finite_pre (hPreRefIdeal := hPreRefIdeal) (hPre_finite_pre := hPre_finite_pre)
    ∧ quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ quiescent_Ada (hAda := hAda)
    ∧ quiescent_AdaIdeal (hAdaIdeal := hAdaIdeal)
    ∧ quiescent_AdaRefIdeal (hAdaRefIdeal := hAdaRefIdeal)
    ∧ quiescent_Pool (hPool := hPool)
    ∧ quiescent_PoolIdeal (hPoolIdeal := hPoolIdeal)
    ∧ quiescent_PoolIdeal_pre_finite_pool (hPoolIdeal := hPoolIdeal) (hPre_finite_pool := hPre_finite_pool)
    ∧ quiescent_PoolRefIdeal (hPoolRefIdeal := hPoolRefIdeal)
    ∧ quiescent_PoolRefIdeal_pre_finite_pool (hPoolRefIdeal := hPoolRefIdeal) (hPre_finite_pool := hPre_finite_pool)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_AdaF (hAdaF := hAdaF)
    ∧ quiescent_AdaFIdeal (hAdaFIdeal := hAdaFIdeal)
    ∧ quiescent_AdaFRefIdeal (hAdaFRefIdeal := hAdaFRefIdeal)
    ∧ quiescent_PoolF (hPoolF := hPoolF)
    ∧ quiescent_PoolFIdeal (hPoolFIdeal := hPoolFIdeal)
    ∧ quiescent_PoolFIdeal_pre_finite_poolf (hPoolFIdeal := hPoolFIdeal) (hPre_finite_poolf := hPre_finite_poolf)
    ∧ quiescent_PoolFRefIdeal (hPoolFRefIdeal := hPoolFRefIdeal)
    ∧ quiescent_PoolFRefIdeal_pre_finite_poolf (hPoolFRefIdeal := hPoolFRefIdeal) (hPre_finite_poolf := hPre_finite_poolf)
    ∧ quiescent_FfnF (hFfnF := hFfnF)
    ∧ quiescent_FfnFIdeal (hFfnFIdeal := hFfnFIdeal)
    ∧ quiescent_FfnFIdeal_pre_finite_ffnf (hFfnFIdeal := hFfnFIdeal) (hPre_finite_ffnf := hPre_finite_ffnf)
    ∧ quiescent_FfnFRefIdeal (hFfnFRefIdeal := hFfnFRefIdeal)
    ∧ quiescent_FfnFRefIdeal_pre_finite_ffnf (hFfnFRefIdeal := hFfnFRefIdeal) (hPre_finite_ffnf := hPre_finite_ffnf)
    ∧ preserves_Post_PostIdeal
    ∧ algebraic_PostIdeal_PostRefIdeal_pre_finite_post (hPostIdeal := hPostIdeal) (hPostRefIdeal := hPostRefIdeal) (hPre_finite_post := hPre_finite_post)
    ∧ preserves_Pre_PreIdeal
    ∧ algebraic_PreIdeal_PreRefIdeal_pre_finite_pre (hPreIdeal := hPreIdeal) (hPreRefIdeal := hPreRefIdeal) (hPre_finite_pre := hPre_finite_pre)
    ∧ preserves_Loss_LossIdeal
    ∧ algebraic_LossIdeal_LossRefIdeal_pre_finite_loss (hLossIdeal := hLossIdeal) (hLossRefIdeal := hLossRefIdeal) (hPre_finite_loss := hPre_finite_loss)
    ∧ preserves_Ada_AdaIdeal
    ∧ algebraic_AdaIdeal_AdaRefIdeal (hAdaIdeal := hAdaIdeal) (hAdaRefIdeal := hAdaRefIdeal)
    ∧ preserves_Pool_PoolIdeal
    ∧ algebraic_PoolIdeal_PoolRefIdeal_pre_finite_pool (hPoolIdeal := hPoolIdeal) (hPoolRefIdeal := hPoolRefIdeal) (hPre_finite_pool := hPre_finite_pool)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
    ∧ preserves_AdaF_AdaFIdeal
    ∧ algebraic_AdaFIdeal_AdaFRefIdeal (hAdaFIdeal := hAdaFIdeal) (hAdaFRefIdeal := hAdaFRefIdeal)
    ∧ preserves_PoolF_PoolFIdeal
    ∧ algebraic_PoolFIdeal_PoolFRefIdeal_pre_finite_poolf (hPoolFIdeal := hPoolFIdeal) (hPoolFRefIdeal := hPoolFRefIdeal) (hPre_finite_poolf := hPre_finite_poolf)
    ∧ preserves_FfnF_FfnFIdeal
    ∧ algebraic_FfnFIdeal_FfnFRefIdeal_pre_finite_ffnf (hFfnFIdeal := hFfnFIdeal) (hFfnFRefIdeal := hFfnFRefIdeal) (hPre_finite_ffnf := hPre_finite_ffnf)
-- ==== Pre_finite_ffn.lean ====
abbrev S8192x1024 : Shape := ⟨2, ![8192, 1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S3x5632 : S_.BroadcastsInDim S3x5632 (![] : Fin 0 → Fin S3x5632.rank)
  reducesTo_S3x5632_S_d0_1 : S3x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S8192x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S8192x1024 .f32) (main_arg1 : FVec F S1024x5632 .f32) (main_arg2 : FVec F S3x5632 .f32) (main_arg3 : FVec F S2816x1024 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x5632 .f32 := Host.absf main_arg1
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  let main_v9 : FVec F S3x5632 .f32 := Host.absf main_arg2
  let main_cst_2 : FVec F S_ .f32 := constant S_ .f32 0x7F800000#32
  let main_v10 : FVec F S3x5632 .f32 := broadcastInDim S3x5632 ![] bcast_S_S3x5632 main_cst_2
  let main_v11 : IVec S3x5632 1 := cmpf .olt main_v9 main_v10
  let main_c_3 : IVec S_ 1 := constantI S_ 1 1#1
  let main_v12 : IVec S_ 1 := (fun x v => Host.reduce IntOp.andi x v reducesTo_S3x5632_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_v13 main_v16
-- ==== Pre_finite_ffnf.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S3x5632 : S_.BroadcastsInDim S3x5632 (![] : Fin 0 → Fin S3x5632.rank)
  reducesTo_S3x5632_S_d0_1 : S3x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_arg7 : FVec F S3x5632 .f32) (main_arg8 : FVec F S2816x1024 .f32) (main_v33 : IVec S_ 1) : IVec S_ 1 :=
  let main_v34 : FVec F S3x5632 .f32 := Host.absf main_arg7
  let main_cst_12 : FVec F S_ .f32 := constant S_ .f32 0x7F800000#32
  let main_v35 : FVec F S3x5632 .f32 := broadcastInDim S3x5632 ![] bcast_S_S3x5632 main_cst_12
  let main_v36 : IVec S3x5632 1 := cmpf .olt main_v34 main_v35
  let main_c_13 : IVec S_ 1 := constantI S_ 1 1#1
  let main_v37 : IVec S_ 1 := (fun x v => Host.reduce IntOp.andi x v reducesTo_S3x5632_S_d0_1 h_S_) main_v36 main_c_13
  let main_v38 : IVec S_ 1 := andi main_v33 main_v37
  let main_v39 : FVec F S2816x1024 .f32 := Host.absf main_arg8
  let main_cst_14 : FVec F S_ .f32 := constant S_ .f32 0x7F800000#32
  let main_v40 : FVec F S2816x1024 .f32 := broadcastInDim S2816x1024 ![] bcast_S_S2816x1024 main_cst_14
  let main_v41 : IVec S2816x1024 1 := cmpf .olt main_v39 main_v40
  let main_c_15 : IVec S_ 1 := constantI S_ 1 1#1
  let main_v42 : IVec S_ 1 := (fun x v => Host.reduce IntOp.andi x v reducesTo_S2816x1024_S_d0_1 h_S_) main_v41 main_c_15
  let main_v43 : IVec S_ 1 := andi main_v38 main_v42
  main_v43

def fn_part1 {F : FTy → Type} [FloatOps F] (main_arg4 : FVec F S1024 .f32) (main_arg5 : FVec F S1024 .f32) (main_arg6 : FVec F S1024x5632 .f32) (main_arg7 : FVec F S3x5632 .f32) (main_arg8 : FVec F S2816x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x5632 .f32 := Host.absf main_arg6
  let main_cst_10 : FVec F S_ .f32 := constant S_ .f32 0x7F800000#32
  let main_v30 : FVec F S1024x5632 .f32 := broadcastInDim S1024x5632 ![] bcast_S_S1024x5632 main_cst_10
  let main_v31 : IVec S1024x5632 1 := cmpf .olt main_v29 main_v30
  let main_c_11 : IVec S_ 1 := constantI S_ 1 1#1
  let main_v32 : IVec S_ 1 := (fun x v => Host.reduce IntOp.andi x v reducesTo_S1024x5632_S_d0_1 h_S_) main_v31 main_c_11
  let main_v33 : IVec S_ 1 := andi main_v28 main_v32
  fn_part2 (F := F) main_arg7 main_arg8 main_v33

def fn {F : FTy → Type} [FloatOps F] (main_arg0 : FVec F S8192x1024 .f32) (main_arg1 : FVec F S1024 .f32) (main_arg2 : FVec F S1024 .f32) (main_arg3 : FVec F S1024 .f32) (main_arg4 : FVec F S1024 .f32) (main_arg5 : FVec F S1024 .f32) (main_arg6 : FVec F S1024x5632 .f32) (main_arg7 : FVec F S3x5632 .f32) (main_arg8 : FVec F S2816x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_v13 main_v16
-- ==== Pre_finite_loss.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn_part1 {F : FTy → Type} [FloatOps F] (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg7
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S8192x1024 .f32) (main_arg1 : FVec F S8192x1024 .f32) (main_arg2 : FVec F S8192x1024 .f32) (main_arg3 : FVec F S1024 .f32) (main_arg4 : FVec F S1024 .f32) (main_arg5 : FVec F S1024 .f32) (main_arg6 : FVec F S1024 .f32) (main_arg7 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg7 main_v13 main_v16
-- ==== Pre_finite_pool.lean ====
abbrev S8192x1024 : Shape := ⟨2, ![8192, 1024]⟩
abbrev S1024 : Shape := ⟨1, ![1024]⟩
abbrev S4x256x256 : Shape := ⟨3, ![4, 256, 256]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S4x256x256 : S_.BroadcastsInDim S4x256x256 (![] : Fin 0 → Fin S4x256x256.rank)
  reducesTo_S4x256x256_S_d0_1_2 : S4x256x256.ReducesTo [0, 1, 2] S_

variable [Facts]

def fn_part2 {F : FTy → Type} [FloatOps F] (main_arg7 : FVec F S1024 .f32) (main_arg8 : FVec F S8192x1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S8192x1024 .f32 := Host.absf main_arg8
  let main_cst_14 : FVec F S_ .f32 := constant S_ .f32 0x7F800000#32
  let main_v40 : FVec F S8192x1024 .f32 := broadcastInDim S8192x1024 ![] bcast_S_S8192x1024 main_cst_14
  let main_v41 : IVec S8192x1024 1 := cmpf .olt main_v39 main_v40
  let main_c_15 : IVec S_ 1 := constantI S_ 1 1#1
  let main_v42 : IVec S_ 1 := (fun x v => Host.reduce IntOp.andi x v reducesTo_S8192x1024_S_d0_1 h_S_) main_v41 main_c_15
  let main_v43 : IVec S_ 1 := andi main_v38 main_v42
  main_v43

def fn_part1 {F : FTy → Type} [FloatOps F] (main_arg4 : FVec F S1024 .f32) (main_arg5 : FVec F S1024 .f32) (main_arg6 : FVec F S4x256x256 .f32) (main_arg7 : FVec F S1024 .f32) (main_arg8 : FVec F S8192x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S4x256x256 .f32 := Host.absf main_arg6
  let main_cst_10 : FVec F S_ .f32 := constant S_ .f32 0x7F800000#32
  let main_v30 : FVec F S4x256x256 .f32 := broadcastInDim S4x256x256 ![] bcast_S_S4x256x256 main_cst_10
  let main_v31 : IVec S4x256x256 1 := cmpf .olt main_v29 main_v30
  let main_c_11 : IVec S_ 1 := constantI S_ 1 1#1
  let main_v32 : IVec S_ 1 := (fun x v => Host.reduce IntOp.andi x v reducesTo_S4x256x256_S_d0_1_2 h_S_) main_v31 main_c_11
  let main_v33 : IVec S_ 1 := andi main_v28 main_v32
  fn_part2 (F := F) main_arg7 main_arg8 main_v33

def fn {F : FTy → Type} [FloatOps F] (main_arg0 : FVec F S8192x1024 .f32) (main_arg1 : FVec F S1024 .f32) (main_arg2 : FVec F S1024 .f32) (main_arg3 : FVec F S1024 .f32) (main_arg4 : FVec F S1024 .f32) (main_arg5 : FVec F S1024 .f32) (main_arg6 : FVec F S4x256x256 .f32) (main_arg7 : FVec F S1024 .f32) (main_arg8 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_v13 main_v16
-- ==== Pre_finite_poolf.lean ====
abbrev S8192x1024 : Shape := ⟨2, ![8192, 1024]⟩
abbrev S1024 : Shape := ⟨1, ![1024]⟩
abbrev S4x256x256 : Shape := ⟨3, ![4, 256, 256]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S4x256x256 : S_.BroadcastsInDim S4x256x256 (![] : Fin 0 → Fin S4x256x256.rank)
  reducesTo_S4x256x256_S_d0_1_2 : S4x256x256.ReducesTo [0, 1, 2] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024 .f32) (main_arg5 : FVec F S1024 .f32) (main_arg6 : FVec F S4x256x256 .f32) (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S4x256x256 .f32 := Host.absf main_arg6
  let main_cst_10 : FVec F S_ .f32 := constant S_ .f32 0x7F800000#32
  let main_v30 : FVec F S4x256x256 .f32 := broadcastInDim S4x256x256 ![] bcast_S_S4x256x256 main_cst_10
  let main_v31 : IVec S4x256x256 1 := cmpf .olt main_v29 main_v30
  let main_c_11 : IVec S_ 1 := constantI S_ 1 1#1
  let main_v32 : IVec S_ 1 := (fun x v => Host.reduce IntOp.andi x v reducesTo_S4x256x256_S_d0_1_2 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S1024 .f32) (main_arg2 : FVec F S1024 .f32) (main_arg3 : FVec F S1024 .f32) (main_arg4 : FVec F S1024 .f32) (main_arg5 : FVec F S1024 .f32) (main_arg6 : FVec F S4x256x256 .f32) (main_arg7 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Pre_finite_post.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  main_v18

def fn {F : FTy → Type} [FloatOps F] (main_arg0 : FVec F S8192x1024 .f32) (main_arg1 : FVec F S1024 .f32) (main_arg2 : FVec F S1024 .f32) (main_arg3 : FVec F S1024 .f32) (main_arg4 : FVec F S1024 .f32) (main_arg5 : FVec F S1024 .f32) (main_arg6 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg5
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S8192x1024 .f32 := Host.absf main_arg6
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_v13 main_v16
-- ==== Pre_finite_pre.lean ====
abbrev S8192x1024 : Shape := ⟨2, ![8192, 1024]⟩
abbrev S1024 : Shape := ⟨1, ![1024]⟩
abbrev S4x8192x1024 : Shape := ⟨3, ![4, 8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bitsLt_bf16_f32 : FTy.bits .bf16 < FTy.bits .f32
  bcast_S_S4x8192x1024 : S_.BroadcastsInDim S4x8192x1024 (![] : Fin 0 → Fin S4x8192x1024.rank)
  reducesTo_S4x8192x1024_S_d0_1_2 : S4x8192x1024.ReducesTo [0, 1, 2] S_

variable [Facts]

def fn_part1 {F : FTy → Type} [FloatOps F] (main_arg7 : FVec F S8192x1024 .f32) (main_v13 : IVec S_ 1) (main_v15 : FVec F S4x8192x1024 .f32) (main_v16 : FVec F S4x8192x1024 .f32) : IVec S_ 1 :=
  let main_v17 : IVec S4x8192x1024 1 := cmpf .olt main_v15 main_v16
  let main_c_5 : IVec S_ 1 := constantI S_ 1 1#1
  let main_v18 : IVec S_ 1 := (fun x v => Host.reduce IntOp.andi x v reducesTo_S4x8192x1024_S_d0_1_2 h_S_) main_v17 main_c_5
  let main_v19 : IVec S_ 1 := andi main_v13 main_v18
  let main_v20 : FVec F S8192x1024 .f32 := Host.absf main_arg7
  let main_cst_6 : FVec F S_ .f32 := constant S_ .f32 0x7F800000#32
  let main_v21 : FVec F S8192x1024 .f32 := broadcastInDim S8192x1024 ![] bcast_S_S8192x1024 main_cst_6
  let main_v22 : IVec S8192x1024 1 := cmpf .olt main_v20 main_v21
  let main_c_7 : IVec S_ 1 := constantI S_ 1 1#1
  let main_v23 : IVec S_ 1 := (fun x v => Host.reduce IntOp.andi x v reducesTo_S8192x1024_S_d0_1 h_S_) main_v22 main_c_7
  let main_v24 : IVec S_ 1 := andi main_v19 main_v23
  main_v24

def fn {F : FTy → Type} [FloatOps F] (main_arg0 : FVec F S8192x1024 .f32) (main_arg1 : FVec F S1024 .f32) (main_arg2 : FVec F S1024 .f32) (main_arg3 : FVec F S1024 .f32) (main_arg4 : FVec F S1024 .f32) (main_arg5 : FVec F S1024 .f32) (main_arg6 : FVec F S4x8192x1024 .bf16) (main_arg7 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S4x8192x1024 .f32 := (extf .f32 · bitsLt_bf16_f32) main_arg6
  let main_v15 : FVec F S4x8192x1024 .f32 := Host.absf main_v14
  let main_cst_4 : FVec F S_ .f32 := constant S_ .f32 0x7F800000#32
  let main_v16 : FVec F S4x8192x1024 .f32 := broadcastInDim S4x8192x1024 ![] bcast_S_S4x8192x1024 main_cst_4
  fn_part1 (F := F) main_arg7 main_v13 main_v15 main_v16
-- ==== Post.lean ====
abbrev S8192x1024 : Shape := ⟨2, ![8192, 1024]⟩
abbrev S1024 : Shape := ⟨1, ![1024]⟩
abbrev S_ : Shape := ⟨0, ![]⟩
abbrev S1x1024 : Shape := ⟨2, ![1, 1024]⟩
abbrev S5x1024 : Shape := ⟨2, ![5, 1024]⟩
abbrev S3x1024 : Shape := ⟨2, ![3, 1024]⟩
abbrev S8x1024 : Shape := ⟨2, ![8, 1024]⟩
abbrev S1024x1024 : Shape := ⟨2, ![1024, 1024]⟩
abbrev S1024x1 : Shape := ⟨2, ![1024, 1]⟩

abbrev nBuf : Space → Nat
  | .hbm => 21
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S5x1024, .f32⟩
  | .hbm, ⟨16, _⟩ => ⟨S_, .f32⟩
  | .hbm, ⟨17, _⟩ => ⟨S3x1024, .f32⟩
  | .hbm, ⟨18, _⟩ => ⟨S8x1024, .f32⟩
  | .hbm, ⟨19, _⟩ => ⟨S8192x1024, .bf16⟩
  | .hbm, ⟨20, _⟩ => ⟨S8x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S8x1024, .f32⟩
  | .local _ .vmem, ⟨5, _⟩ => ⟨S1024x1024, .bf16⟩
  | .local _ .vmem, ⟨6, _⟩ => ⟨S1024x1024, .bf16⟩
  | .local _ .vmem, ⟨7, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== PostRefIdeal.lean ====
abbrev S8192x1024 : Shape := ⟨2, ![8192, 1024]⟩
abbrev S1024 : Shape := ⟨1, ![1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8x1024 : Shape := ⟨2, ![8, 1024]⟩

abbrev nBuf : Space → Nat
  | .hbm => 75
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S8192x1024, .f32⟩
  | .hbm, ⟨7, _⟩ => ⟨S1x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S8192x1024, .f32⟩
  | .hbm, ⟨49, _⟩ => ⟨S8192x1024, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S1024, .f32⟩
  | .hbm, ⟨63, _⟩ => ⟨S_, .f32⟩
  | .hbm, ⟨64, _⟩ => ⟨S1024, .f32⟩
  | .hbm, ⟨65, _⟩ => ⟨S8192x1024, .bf16⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S1x1024, .f32⟩
  | .hbm, ⟨70, _⟩ => ⟨S1x1024, .f32⟩
  | .hbm, ⟨71, _⟩ => ⟨S1x1024, .f32⟩
  | .hbm, ⟨72, _⟩ => ⟨S1x1024, .f32⟩
  | .hbm, ⟨73, _⟩ => ⟨S1x1024, .f32⟩
  | .hbm, ⟨74, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]
-- ==== Pre.lean ====
abbrev S8192x1024 : Shape := ⟨2, ![8192, 1024]⟩
abbrev S1024 : Shape := ⟨1, ![1024]⟩
abbrev S4x8192x1024 : Shape := ⟨3, ![4, 8192, 1024]⟩
abbrev S_ : Shape := ⟨0, ![]⟩
abbrev S1x1024 : Shape := ⟨2, ![1, 1024]⟩
abbrev S5x1024 : Shape := ⟨2, ![5, 1024]⟩
abbrev S3x1024 : Shape := ⟨2, ![3, 1024]⟩
abbrev S8x1024 : Shape := ⟨2, ![8, 1024]⟩
abbrev S4x512x1024 : Shape := ⟨3, ![4, 512, 1024]⟩
abbrev S512x1024 : Shape := ⟨2, ![512, 1024]⟩
abbrev S1x512x1024 : Shape := ⟨3, ![1, 512, 1024]⟩
abbrev S512 : Shape := ⟨1, ![512]⟩
abbrev S512x1 : Shape := ⟨2, ![512, 1]⟩

abbrev nBuf : Space → Nat
  | .hbm => 22
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S4x8192x1024, .bf16⟩
  | .hbm, ⟨7, _⟩ => ⟨S8192x1024, .f32⟩
  | .hbm, ⟨8, _⟩ => ⟨S_, .f32⟩
  | .hbm, ⟨9, _⟩ => ⟨S1024, .f32⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S5x1024, .f32⟩
  | .hbm, ⟨17, _⟩ => ⟨S_, .f32⟩
  | .hbm, ⟨18, _⟩ => ⟨S3x1024, .f32⟩
  | .hbm, ⟨19, _⟩ => ⟨S8x1024, .f32⟩
  | .hbm, ⟨20, _⟩ => ⟨S8192x1024, .f32⟩
  | .hbm, ⟨21, _⟩ => ⟨S8x1024, .f32⟩
  | .local _ .vmem, ⟨0, _⟩ => ⟨S4x512x1024, .bf16⟩
  | .local _ .vmem, ⟨1, _⟩ => ⟨S4x512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x1024, .f32⟩
  | .local _ .vmem, ⟨7, _⟩ => ⟨S512x1024, .f32⟩
  | .local _ .vmem, ⟨8, _⟩ => ⟨S512x1024, .f32⟩
  | .local _ .vmem, ⟨9, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== PreRefIdeal.lean ====
abbrev S8192x1024 : Shape := ⟨2, ![8192, 1024]⟩
abbrev S1024 : Shape := ⟨1, ![1024]⟩
abbrev S4x8192x1024 : Shape := ⟨3, ![4, 8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x1024 : Shape := ⟨2, ![8, 1024]⟩

abbrev nBuf : Space → Nat
  | .hbm => 90
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S4x8192x1024, .bf16⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S4x8192x1024, .f32⟩
  | .hbm, ⟨38, _⟩ => ⟨S_, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S_, .f32⟩
  | .hbm, ⟨44, _⟩ => ⟨S1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S_, .f32⟩
  | .hbm, ⟨73, _⟩ => ⟨S8192, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S1x1024, .f32⟩
  | .hbm, ⟨88, _⟩ => ⟨S1x1024, .f32⟩
  | .hbm, ⟨89, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_cst_9 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_10 : Ref sig .tc := ⟨.hbm, 59, rfl⟩
abbrev main_v40 : Ref sig .tc := ⟨.hbm, 60, rfl⟩
abbrev main_v41 : Ref sig .tc := ⟨.hbm, 61, rfl⟩
abbrev main_cst_11 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_12 : Ref sig .tc := ⟨.hbm, 69, rfl⟩
abbrev main_v48 : Ref sig .tc := ⟨.hbm, 70, rfl⟩
abbrev main_v49 : Ref sig .tc := ⟨.hbm, 71, rfl⟩
abbrev main_cst_13 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_14 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩

abbrev nD : Nat := 1
abbrev τ : Topo := Topo.v7x

variable {F : FTy → Type} [FloatOps F]
-- ==== Loss.lean ====
abbrev S8192x1024 : Shape := ⟨2, ![8192, 1024]⟩
abbrev S1024 : Shape := ⟨1, ![1024]⟩
abbrev S_ : Shape := ⟨0, ![]⟩
abbrev S1x1024 : Shape := ⟨2, ![1, 1024]⟩
abbrev S5x1024 : Shape := ⟨2, ![5, 1024]⟩
abbrev S3x1024 : Shape := ⟨2, ![3, 1024]⟩
abbrev S8x1024 : Shape := ⟨2, ![8, 1024]⟩
abbrev S8192 : Shape := ⟨1, ![8192]⟩
abbrev S8192x1 : Shape := ⟨2, ![8192, 1]⟩
abbrev S512x1024 : Shape := ⟨2, ![512, 1024]⟩
abbrev S64x8x1024 : Shape := ⟨3, ![64, 8, 1024]⟩
abbrev S512 : Shape := ⟨1, ![512]⟩
abbrev S512x1 : Shape := ⟨2, ![512, 1]⟩

abbrev nBuf : Space → Nat
  | .hbm => 48
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S1024, .f32⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S5x1024, .f32⟩
  | .hbm, ⟨17, _⟩ => ⟨S_, .f32⟩
  | .hbm, ⟨18, _⟩ => ⟨S3x1024, .f32⟩
  | .hbm, ⟨19, _⟩ => ⟨S8x1024, .f32⟩
  | .hbm, ⟨20, _⟩ => ⟨S1x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8x1024, .f32⟩
  | .hbm, ⟨42, _⟩ => ⟨S8192x1024, .bf16⟩
  | .hbm, ⟨43, _⟩ => ⟨S8x1024, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x1024, .f32⟩
  | .local _ .vmem, ⟨7, _⟩ => ⟨S512x1024, .f32⟩
  | .local _ .vmem, ⟨8, _⟩ => ⟨S512x1024, .f32⟩
  | .local _ .vmem, ⟨9, _⟩ => ⟨S8x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27_0 : Ref sig .tc := ⟨.hbm, 40, rfl⟩
abbrev main_v27_1 : Ref sig .tc := ⟨.hbm, 41, rfl⟩
abbrev main_v27_2 : Ref sig .tc := ⟨.hbm, 42, rfl⟩
abbrev main_v27_3 : Ref sig .tc := ⟨.hbm, 43, rfl⟩
abbrev main_cst_4 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossRefIdeal.lean ====
abbrev S8192x1024 : Shape := ⟨2, ![8192, 1024]⟩
abbrev S1024 : Shape := ⟨1, ![1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8x1024 : Shape := ⟨2, ![8, 1024]⟩

abbrev nBuf : Space → Nat
  | .hbm => 100
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S8192, .f32⟩
  | .hbm, ⟨50, _⟩ => ⟨S_, .f32⟩
  | .hbm, ⟨51, _⟩ => ⟨S8192, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S8192x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S1024, .f32⟩
  | .hbm, ⟨69, _⟩ => ⟨S8192x1024, .f32⟩
  | .hbm, ⟨70, _⟩ => ⟨S_, .f32⟩
  | .hbm, ⟨71, _⟩ => ⟨S8192, .f32⟩
  | .hbm, ⟨72, _⟩ => ⟨S8192x1, .f32⟩
  | .hbm, ⟨73, _⟩ => ⟨S8192x1024, .f32⟩
  | .hbm, ⟨74, _⟩ => ⟨S8192x1024, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S_, .f32⟩
  | .hbm, ⟨80, _⟩ => ⟨S8192, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S_, .f32⟩
  | .hbm, ⟨87, _⟩ => ⟨S1024, .f32⟩
  | .hbm, ⟨88, _⟩ => ⟨S_, .f32⟩
  | .hbm, ⟨89, _⟩ => ⟨S1024, .f32⟩
  | .hbm, ⟨90, _⟩ => ⟨S8192x1024, .bf16⟩
  | .hbm, ⟨91, _⟩ => ⟨S1x1024, .f32⟩
  | .hbm, ⟨92, _⟩ => ⟨S1x1024, .f32⟩
  | .hbm, ⟨93, _⟩ => ⟨S1x1024, .f32⟩
  | .hbm, ⟨94, _⟩ => ⟨S1x1024, .f32⟩
  | .hbm, ⟨95, _⟩ => ⟨S1x1024, .f32⟩
  | .hbm, ⟨96, _⟩ => ⟨S1x1024, .f32⟩
  | .hbm, ⟨97, _⟩ => ⟨S1x1024, .f32⟩
  | .hbm, ⟨98, _⟩ => ⟨S1x1024, .f32⟩
  | .hbm, ⟨99, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_cst_8 : Ref sig .tc := ⟨.hbm, 46, rfl⟩
abbrev main_cst_9 : Ref sig .tc := ⟨.hbm, 47, rfl⟩
abbrev main_v29 : Ref sig .tc := ⟨.hbm, 48, rfl⟩
abbrev main_v30 : Ref sig .tc := ⟨.hbm, 49, rfl⟩
abbrev main_cst_10 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_11 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_12 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_13 : Ref sig .tc := ⟨.hbm, 67, rfl⟩
abbrev main_v45 : Ref sig .tc := ⟨.hbm, 68, rfl⟩
abbrev main_v46 : Ref sig .tc := ⟨.hbm, 69, rfl⟩
abbrev main_cst_14 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_15 : Ref sig .tc := ⟨.hbm, 76, rfl⟩
abbrev main_v52 : Ref sig .tc := ⟨.hbm, 77, rfl⟩
abbrev main_v53 : Ref sig .tc := ⟨.hbm, 78, rfl⟩
abbrev main_cst_16 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_17 : Ref sig .tc := ⟨.hbm, 86, rfl⟩
abbrev main_v60 : Ref sig .tc := ⟨.hbm, 87, rfl⟩
abbrev main_cst_18 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩

abbrev nD : Nat := 1
abbrev τ : Topo := Topo.v7x

variable {F : FTy → Type} [FloatOps F]
-- ==== Ada.lean ====
abbrev S8x1024 : Shape := ⟨2, ![8, 1024]⟩
abbrev S2x1024x768 : Shape := ⟨3, ![2, 1024, 768]⟩
abbrev S2x8x768 : Shape := ⟨3, ![2, 8, 768]⟩
abbrev S1x8x768 : Shape := ⟨3, ![1, 8, 768]⟩
abbrev S8x768 : Shape := ⟨2, ![8, 768]⟩
abbrev S1024x768 : Shape := ⟨2, ![1024, 768]⟩
abbrev S1x1024x768 : Shape := ⟨3, ![1, 1024, 768]⟩

abbrev nBuf : Space → Nat
  | .hbm => 4
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S2x1024x768, .f32⟩
  | .hbm, ⟨2, _⟩ => ⟨S2x8x768, .f32⟩
  | .hbm, ⟨3, _⟩ => ⟨S2x1024x768, .f32⟩
  | .local _ .vmem, ⟨0, _⟩ => ⟨S8x1024, .f32⟩
  | .local _ .vmem, ⟨1, _⟩ => ⟨S2x8x768, .f32⟩
  | .local _ .vmem, ⟨2, _⟩ => ⟨S2x1024x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== AdaRefIdeal.lean ====
abbrev S8x1024 : Shape := ⟨2, ![8, 1024]⟩
abbrev S2x1024x768 : Shape := ⟨3, ![2, 1024, 768]⟩
abbrev S2x8x768 : Shape := ⟨3, ![2, 8, 768]⟩
abbrev S_ : Shape := ⟨0, ![]⟩
abbrev S1x1024x768 : Shape := ⟨3, ![1, 1024, 768]⟩
abbrev S1024x768 : Shape := ⟨2, ![1024, 768]⟩
abbrev S8x768 : Shape := ⟨2, ![8, 768]⟩
abbrev S1x8x768 : Shape := ⟨3, ![1, 8, 768]⟩
abbrev S768x1024 : Shape := ⟨2, ![768, 1024]⟩

abbrev nBuf : Space → Nat
  | .hbm => 36
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x768, .f32⟩
  | .hbm, ⟨2, _⟩ => ⟨S2x8x768, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x768, .f32⟩
  | .hbm, ⟨13, _⟩ => ⟨S1024x768, .f32⟩
  | .hbm, ⟨14, _⟩ => ⟨S8x768, .f32⟩
  | .hbm, ⟨15, _⟩ => ⟨S1x1024x768, .f32⟩
  | .hbm, ⟨16, _⟩ => ⟨S1024x768, .f32⟩
  | .hbm, ⟨17, _⟩ => ⟨S8x768, .f32⟩
  | .hbm, ⟨18, _⟩ => ⟨S1x8x768, .f32⟩
  | .hbm, ⟨19, _⟩ => ⟨S1x8x768, .f32⟩
  | .hbm, ⟨20, _⟩ => ⟨S2x8x768, .f32⟩
  | .hbm, ⟨21, _⟩ => ⟨S1x8x768, .f32⟩
  | .hbm, ⟨22, _⟩ => ⟨S8x768, .f32⟩
  | .hbm, ⟨23, _⟩ => ⟨S1x8x768, .f32⟩
  | .hbm, ⟨24, _⟩ => ⟨S8x768, .f32⟩
  | .hbm, ⟨25, _⟩ => ⟨S768x1024, .f32⟩
  | .hbm, ⟨26, _⟩ => ⟨S1024x768, .f32⟩
  | .hbm, ⟨27, _⟩ => ⟨S1x1024x768, .f32⟩
  | .hbm, ⟨28, _⟩ => ⟨S_, .f32⟩
  | .hbm, ⟨29, _⟩ => ⟨S2x1024x768, .f32⟩
  | .hbm, ⟨30, _⟩ => ⟨S768x1024, .f32⟩
  | .hbm, ⟨31, _⟩ => ⟨S1024x768, .f32⟩
  | .hbm, ⟨32, _⟩ => ⟨S1x1024x768, .f32⟩
  | .hbm, ⟨33, _⟩ => ⟨S_, .f32⟩
  | .hbm, ⟨34, _⟩ => ⟨S2x1024x768, .f32⟩
  | .hbm, ⟨35, _⟩ => ⟨S2x1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]
-- ==== Pool.lean ====
abbrev S8192x1024 : Shape := ⟨2, ![8192, 1024]⟩
abbrev S1024 : Shape := ⟨1, ![1024]⟩
abbrev S4x256x256 : Shape := ⟨3, ![4, 256, 256]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4x256 : Shape := ⟨3, ![8192, 4, 256]⟩
abbrev S8192x1x256 : Shape := ⟨3, ![8192, 1, 256]⟩
abbrev S8192x256 : Shape := ⟨2, ![8192, 256]⟩
abbrev S4x256x8192 : Shape := ⟨3, ![4, 256, 8192]⟩
abbrev S5x1024 : Shape := ⟨2, ![5, 1024]⟩
abbrev S3x1024 : Shape := ⟨2, ![3, 1024]⟩
abbrev S8x1024 : Shape := ⟨2, ![8, 1024]⟩
abbrev S512x1024 : Shape := ⟨2, ![512, 1024]⟩
abbrev S16x1024 : Shape := ⟨2, ![16, 1024]⟩
abbrev S528x1024 : Shape := ⟨2, ![528, 1024]⟩
abbrev S512 : Shape := ⟨1, ![512]⟩
abbrev S512x1 : Shape := ⟨2, ![512, 1]⟩
abbrev S16 : Shape := ⟨1, ![16]⟩
abbrev S16x1 : Shape := ⟨2, ![16, 1]⟩
abbrev S512x256 : Shape := ⟨2, ![512, 256]⟩
abbrev S528x256 : Shape := ⟨2, ![528, 256]⟩
abbrev S1x256x256 : Shape := ⟨3, ![1, 256, 256]⟩
abbrev S256x256 : Shape := ⟨2, ![256, 256]⟩

abbrev nBuf : Space → Nat
  | .hbm => 136
  | .vmem => 17
  | .smem => 0
  | _ => 0

abbrev hbmTy0_0 (i : Nat) : BufTy := match i % 128 with
  | 0 => ⟨S8192x1024, .f32⟩
  | 1 => ⟨S1024, .f32⟩
  | 2 => ⟨S1024, .f32⟩
  | 3 => ⟨S1024, .f32⟩
  | 4 => ⟨S1024, .f32⟩
  | 5 => ⟨S1024, .f32⟩
  | 6 => ⟨S4x256x256, .f32⟩
  | 7 => ⟨S1024, .f32⟩
  | 8 => ⟨S8192x1024, .f32⟩
  | 9 => ⟨S8192x1024, .f32⟩
  | 10 => ⟨S_, .f32⟩
  | 11 => ⟨S8192, .f32⟩
  | 12 => ⟨S8192x1, .f32⟩
  | 13 => ⟨S_, .f32⟩
  | 14 => ⟨S8192x1, .f32⟩
  | 15 => ⟨S8192x1, .f32⟩
  | 16 => ⟨S_, .f32⟩
  | 17 => ⟨S8192x1, .f32⟩
  | 18 => ⟨S8192x1, .f32⟩
  | 19 => ⟨S8192x1, .f32⟩
  | 20 => ⟨S8192x1024, .f32⟩
  | 21 => ⟨S8192x1024, .f32⟩
  | 22 => ⟨S1x1024, .f32⟩
  | 23 => ⟨S8192x1024, .f32⟩
  | 24 => ⟨S8192x1024, .f32⟩
  | 25 => ⟨S1x1024, .f32⟩
  | 26 => ⟨S_, .f32⟩
  | 27 => ⟨S1x1024, .f32⟩
  | 28 => ⟨S1x1024, .f32⟩
  | 29 => ⟨S8192x1024, .f32⟩
  | 30 => ⟨S8192x1024, .f32⟩
  | 31 => ⟨S1x1024, .f32⟩
  | 32 => ⟨S8192x1024, .f32⟩
  | 33 => ⟨S8192x1024, .f32⟩
  | 34 => ⟨S8192x4x256, .f32⟩
  | 35 => ⟨S8192x1x256, .f32⟩
  | 36 => ⟨S8192x256, .f32⟩
  | 37 => ⟨S_, .f32⟩
  | 38 => ⟨S_, .f32⟩
  | 39 => ⟨S8192x256, .f32⟩
  | 40 => ⟨S8192, .i32⟩
  | 41 => ⟨S_, .i32⟩
  | 42 => ⟨S8192, .i32⟩
  | 43 => ⟨S8192, .i32⟩
  | 44 => ⟨S_, .i32⟩
  | 45 => ⟨S8192, .i32⟩
  | 46 => ⟨S8192, .i32⟩
  | 47 => ⟨S8192, .f32⟩
  | 48 => ⟨S8192x1, .f32⟩
  | 49 => ⟨S8192x256, .f32⟩
  | 50 => ⟨S8192x256, .f32⟩
  | 51 => ⟨S8192x1x256, .f32⟩
  | 52 => ⟨S8192x256, .f32⟩
  | 53 => ⟨S8192x256, .f32⟩
  | 54 => ⟨S8192x1x256, .f32⟩
  | 55 => ⟨S8192x256, .f32⟩
  | 56 => ⟨S_, .f32⟩
  | 57 => ⟨S_, .f32⟩
  | 58 => ⟨S8192x256, .f32⟩
  | 59 => ⟨S8192, .i32⟩
  | 60 => ⟨S_, .i32⟩
  | 61 => ⟨S8192, .i32⟩
  | 62 => ⟨S8192, .i32⟩
  | 63 => ⟨S_, .i32⟩
  | 64 => ⟨S8192, .i32⟩
  | 65 => ⟨S8192, .i32⟩
  | 66 => ⟨S8192, .f32⟩
  | 67 => ⟨S8192x1, .f32⟩
  | 68 => ⟨S8192x256, .f32⟩
  | 69 => ⟨S8192x256, .f32⟩
  | 70 => ⟨S8192x1x256, .f32⟩
  | 71 => ⟨S8192x256, .f32⟩
  | 72 => ⟨S8192x256, .f32⟩
  | 73 => ⟨S8192x1x256, .f32⟩
  | 74 => ⟨S8192x256, .f32⟩
  | 75 => ⟨S_, .f32⟩
  | 76 => ⟨S_, .f32⟩
  | 77 => ⟨S8192x256, .f32⟩
  | 78 => ⟨S8192, .i32⟩
  | 79 => ⟨S_, .i32⟩
  | 80 => ⟨S8192, .i32⟩
  | 81 => ⟨S8192, .i32⟩
  | 82 => ⟨S_, .i32⟩
  | 83 => ⟨S8192, .i32⟩
  | 84 => ⟨S8192, .i32⟩
  | 85 => ⟨S8192, .f32⟩
  | 86 => ⟨S8192x1, .f32⟩
  | 87 => ⟨S8192x256, .f32⟩
  | 88 => ⟨S8192x256, .f32⟩
  | 89 => ⟨S8192x1x256, .f32⟩
  | 90 => ⟨S8192x256, .f32⟩
  | 91 => ⟨S8192x256, .f32⟩
  | 92 => ⟨S8192x1x256, .f32⟩
  | 93 => ⟨S8192x256, .f32⟩
  | 94 => ⟨S_, .f32⟩
  | 95 => ⟨S_, .f32⟩
  | 96 => ⟨S8192x256, .f32⟩
  | 97 => ⟨S8192, .i32⟩
  | 98 => ⟨S_, .i32⟩
  | 99 => ⟨S8192, .i32⟩
  | 100 => ⟨S8192, .i32⟩
  | 101 => ⟨S_, .i32⟩
  | 102 => ⟨S8192, .i32⟩
  | 103 => ⟨S8192, .i32⟩
  | 104 => ⟨S8192, .f32⟩
  | 105 => ⟨S8192x1, .f32⟩
  | 106 => ⟨S8192x256, .f32⟩
  | 107 => ⟨S8192x256, .f32⟩
  | 108 => ⟨S8192x1x256, .f32⟩
  | 109 => ⟨S8192x256, .f32⟩
  | 110 => ⟨S8192x256, .f32⟩
  | 111 => ⟨S8192x1x256, .f32⟩
  | 112 => ⟨S8192x1x256, .f32⟩
  | 113 => ⟨S8192x1x256, .f32⟩
  | 114 => ⟨S8192x1x256, .f32⟩
  | 115 => ⟨S8192x4x256, .f32⟩
  | 116 => ⟨S4x256x8192, .f32⟩
  | 117 => ⟨S8192x4x256, .f32⟩
  | 118 => ⟨S8192x1024, .f32⟩
  | 119 => ⟨S_, .f32⟩
  | 120 => ⟨S1024, .f32⟩
  | 121 => ⟨S1024, .f32⟩
  | 122 => ⟨S1x1024, .f32⟩
  | 123 => ⟨S1x1024, .f32⟩
  | 124 => ⟨S1x1024, .f32⟩
  | 125 => ⟨S1x1024, .f32⟩
  | 126 => ⟨S1x1024, .f32⟩
  | 127 => ⟨S5x1024, .f32⟩
  | _ => ⟨S8192x1024, .f32⟩

abbrev hbmTy0_1 (i : Nat) : BufTy := match i % 128 with
  | 0 => ⟨S_, .f32⟩
  | 1 => ⟨S3x1024, .f32⟩
  | 2 => ⟨S8x1024, .f32⟩
  | 3 => ⟨S4x256x256, .bf16⟩
  | 4 => ⟨S1x1024, .f32⟩
  | 5 => ⟨S8192x1024, .f32⟩
  | 6 => ⟨S8x1024, .f32⟩
  | 7 => ⟨S4x256x256, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S16x1024, .f32⟩
  | .local _ .vmem, ⟨5, _⟩ => ⟨S16x1024, .f32⟩
  | .local _ .vmem, ⟨6, _⟩ => ⟨S512x1024, .f32⟩
  | .local _ .vmem, ⟨7, _⟩ => ⟨S512x1024, .f32⟩
  | .local _ .vmem, ⟨8, _⟩ => ⟨S8x1024, .f32⟩
  | .local _ .vmem, ⟨9, _⟩ => ⟨S4x256x256, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S8x1024, .f32⟩
  | .local _ .vmem, ⟨14, _⟩ => ⟨S4x256x256, .f32⟩
  | .local _ .vmem, ⟨15, _⟩ => ⟨S528x1024, .f32⟩
  | .local _ .vmem, ⟨16, _⟩ => ⟨S528x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_6 : Ref sig .tc := ⟨.hbm, 60, rfl⟩
abbrev main_v43 : Ref sig .tc := ⟨.hbm, 61, rfl⟩
abbrev main_v44 : Ref sig .tc := ⟨.hbm, 62, rfl⟩
abbrev main_c_7 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_8 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c_9 : Ref sig .tc := ⟨.hbm, 79, rfl⟩
abbrev main_v59 : Ref sig .tc := ⟨.hbm, 80, rfl⟩
abbrev main_v60 : Ref sig .tc := ⟨.hbm, 81, rfl⟩
abbrev main_c_10 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_11 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_c_12 : Ref sig .tc := ⟨.hbm, 98, rfl⟩
abbrev main_v75 : Ref sig .tc := ⟨.hbm, 99, rfl⟩
abbrev main_v76 : Ref sig .tc := ⟨.hbm, 100, rfl⟩
abbrev main_c_13 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_cst_14 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_cst_15 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106_0 : Ref sig .tc := ⟨.hbm, 133, rfl⟩
abbrev main_v106_1 : Ref sig .tc := ⟨.hbm, 134, rfl⟩
abbrev main_v106_2 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== PoolRefIdeal.lean ====
abbrev S8192x1024 : Shape := ⟨2, ![8192, 1024]⟩
abbrev S1024 : Shape := ⟨1, ![1024]⟩
abbrev S4x256x256 : Shape := ⟨3, ![4, 256, 256]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4x256 : Shape := ⟨3, ![8192, 4, 256]⟩
abbrev S8192x1x256 : Shape := ⟨3, ![8192, 1, 256]⟩
abbrev S8192x256 : Shape := ⟨2, ![8192, 256]⟩
abbrev S4x256x8192 : Shape := ⟨3, ![4, 256, 8192]⟩
abbrev S4x8192x256 : Shape := ⟨3, ![4, 8192, 256]⟩
abbrev S8207x256 : Shape := ⟨2, ![8207, 256]⟩
abbrev S8199x256 : Shape := ⟨2, ![8199, 256]⟩
abbrev S8195x256 : Shape := ⟨2, ![8195, 256]⟩
abbrev S8193x256 : Shape := ⟨2, ![8193, 256]⟩
abbrev S8x1024 : Shape := ⟨2, ![8, 1024]⟩

abbrev nBuf : Space → Nat
  | .hbm => 320
  | .vmem => 0
  | .smem => 0
  | _ => 0

abbrev hbmTy0_0 (i : Nat) : BufTy := match i % 128 with
  | 0 => ⟨S8192x1024, .f32⟩
  | 1 => ⟨S1024, .f32⟩
  | 2 => ⟨S1024, .f32⟩
  | 3 => ⟨S1024, .f32⟩
  | 4 => ⟨S1024, .f32⟩
  | 5 => ⟨S1024, .f32⟩
  | 6 => ⟨S4x256x256, .f32⟩
  | 7 => ⟨S1024, .f32⟩
  | 8 => ⟨S8192x1024, .f32⟩
  | 9 => ⟨S8192x1024, .f32⟩
  | 10 => ⟨S_, .f32⟩
  | 11 => ⟨S8192, .f32⟩
  | 12 => ⟨S8192x1, .f32⟩
  | 13 => ⟨S_, .f32⟩
  | 14 => ⟨S8192x1, .f32⟩
  | 15 => ⟨S8192x1, .f32⟩
  | 16 => ⟨S_, .f32⟩
  | 17 => ⟨S8192x1, .f32⟩
  | 18 => ⟨S8192x1, .f32⟩
  | 19 => ⟨S8192x1, .f32⟩
  | 20 => ⟨S8192x1, .f32⟩
  | 21 => ⟨S_, .f32⟩
  | 22 => ⟨S8192x1, .f32⟩
  | 23 => ⟨S8192x1, .f32⟩
  | 24 => ⟨S8192x1024, .f32⟩
  | 25 => ⟨S8192x1024, .f32⟩
  | 26 => ⟨S1x1024, .f32⟩
  | 27 => ⟨S8192x1024, .f32⟩
  | 28 => ⟨S8192x1024, .f32⟩
  | 29 => ⟨S1x1024, .f32⟩
  | 30 => ⟨S_, .f32⟩
  | 31 => ⟨S1x1024, .f32⟩
  | 32 => ⟨S1x1024, .f32⟩
  | 33 => ⟨S8192x1024, .f32⟩
  | 34 => ⟨S8192x1024, .f32⟩
  | 35 => ⟨S1x1024, .f32⟩
  | 36 => ⟨S8192x1024, .f32⟩
  | 37 => ⟨S8192x1024, .f32⟩
  | 38 => ⟨S8192x4x256, .f32⟩
  | 39 => ⟨S8192x1x256, .f32⟩
  | 40 => ⟨S8192x256, .f32⟩
  | 41 => ⟨S_, .f32⟩
  | 42 => ⟨S_, .f32⟩
  | 43 => ⟨S8192x256, .f32⟩
  | 44 => ⟨S8192, .i32⟩
  | 45 => ⟨S_, .i32⟩
  | 46 => ⟨S8192, .i32⟩
  | 47 => ⟨S8192, .i32⟩
  | 48 => ⟨S_, .i32⟩
  | 49 => ⟨S8192, .i32⟩
  | 50 => ⟨S8192, .i32⟩
  | 51 => ⟨S8192, .f32⟩
  | 52 => ⟨S8192x1, .f32⟩
  | 53 => ⟨S8192x256, .f32⟩
  | 54 => ⟨S8192x256, .f32⟩
  | 55 => ⟨S8192x1x256, .f32⟩
  | 56 => ⟨S8192x256, .f32⟩
  | 57 => ⟨S8192x256, .f32⟩
  | 58 => ⟨S8192x1x256, .f32⟩
  | 59 => ⟨S8192x256, .f32⟩
  | 60 => ⟨S_, .f32⟩
  | 61 => ⟨S_, .f32⟩
  | 62 => ⟨S8192x256, .f32⟩
  | 63 => ⟨S8192, .i32⟩
  | 64 => ⟨S_, .i32⟩
  | 65 => ⟨S8192, .i32⟩
  | 66 => ⟨S8192, .i32⟩
  | 67 => ⟨S_, .i32⟩
  | 68 => ⟨S8192, .i32⟩
  | 69 => ⟨S8192, .i32⟩
  | 70 => ⟨S8192, .f32⟩
  | 71 => ⟨S8192x1, .f32⟩
  | 72 => ⟨S8192x256, .f32⟩
  | 73 => ⟨S8192x256, .f32⟩
  | 74 => ⟨S8192x1x256, .f32⟩
  | 75 => ⟨S8192x256, .f32⟩
  | 76 => ⟨S8192x256, .f32⟩
  | 77 => ⟨S8192x1x256, .f32⟩
  | 78 => ⟨S8192x256, .f32⟩
  | 79 => ⟨S_, .f32⟩
  | 80 => ⟨S_, .f32⟩
  | 81 => ⟨S8192x256, .f32⟩
  | 82 => ⟨S8192, .i32⟩
  | 83 => ⟨S_, .i32⟩
  | 84 => ⟨S8192, .i32⟩
  | 85 => ⟨S8192, .i32⟩
  | 86 => ⟨S_, .i32⟩
  | 87 => ⟨S8192, .i32⟩
  | 88 => ⟨S8192, .i32⟩
  | 89 => ⟨S8192, .f32⟩
  | 90 => ⟨S8192x1, .f32⟩
  | 91 => ⟨S8192x256, .f32⟩
  | 92 => ⟨S8192x256, .f32⟩
  | 93 => ⟨S8192x1x256, .f32⟩
  | 94 => ⟨S8192x256, .f32⟩
  | 95 => ⟨S8192x256, .f32⟩
  | 96 => ⟨S8192x1x256, .f32⟩
  | 97 => ⟨S8192x256, .f32⟩
  | 98 => ⟨S_, .f32⟩
  | 99 => ⟨S_, .f32⟩
  | 100 => ⟨S8192x256, .f32⟩
  | 101 => ⟨S8192, .i32⟩
  | 102 => ⟨S_, .i32⟩
  | 103 => ⟨S8192, .i32⟩
  | 104 => ⟨S8192, .i32⟩
  | 105 => ⟨S_, .i32⟩
  | 106 => ⟨S8192, .i32⟩
  | 107 => ⟨S8192, .i32⟩
  | 108 => ⟨S8192, .f32⟩
  | 109 => ⟨S8192x1, .f32⟩
  | 110 => ⟨S8192x256, .f32⟩
  | 111 => ⟨S8192x256, .f32⟩
  | 112 => ⟨S8192x1x256, .f32⟩
  | 113 => ⟨S8192x256, .f32⟩
  | 114 => ⟨S8192x256, .f32⟩
  | 115 => ⟨S8192x1x256, .f32⟩
  | 116 => ⟨S8192x1x256, .f32⟩
  | 117 => ⟨S8192x1x256, .f32⟩
  | 118 => ⟨S8192x1x256, .f32⟩
  | 119 => ⟨S8192x4x256, .f32⟩
  | 120 => ⟨S4x256x8192, .f32⟩
  | 121 => ⟨S8192x4x256, .f32⟩
  | 122 => ⟨S8192x1024, .f32⟩
  | 123 => ⟨S1x1024, .f32⟩
  | 124 => ⟨S8192x1024, .f32⟩
  | 125 => ⟨S8192x1024, .f32⟩
  | 126 => ⟨S1x1024, .f32⟩
  | 127 => ⟨S8192x1024, .f32⟩
  | _ => ⟨S8192x1024, .f32⟩

abbrev hbmTy0_1 (i : Nat) : BufTy := match i % 128 with
  | 0 => ⟨S_, .f32⟩
  | 1 => ⟨S8192, .f32⟩
  | 2 => ⟨S8192x1, .f32⟩
  | 3 => ⟨S_, .f32⟩
  | 4 => ⟨S8192x1, .f32⟩
  | 5 => ⟨S8192x1, .f32⟩
  | 6 => ⟨S_, .f32⟩
  | 7 => ⟨S8192x1, .f32⟩
  | 8 => ⟨S8192x1, .f32⟩
  | 9 => ⟨S8192x1, .f32⟩
  | 10 => ⟨S8192x1, .f32⟩
  | 11 => ⟨S_, .f32⟩
  | 12 => ⟨S8192x1, .f32⟩
  | 13 => ⟨S8192x1, .f32⟩
  | 14 => ⟨S8192x1024, .f32⟩
  | 15 => ⟨S8192x1024, .f32⟩
  | 16 => ⟨S1x1024, .f32⟩
  | 17 => ⟨S8192x1024, .f32⟩
  | 18 => ⟨S8192x1024, .f32⟩
  | 19 => ⟨S8192x1024, .f32⟩
  | 20 => ⟨S8192x1024, .f32⟩
  | 21 => ⟨S8192x1024, .f32⟩
  | 22 => ⟨S8192x1024, .f32⟩
  | 23 => ⟨S8192x1024, .f32⟩
  | 24 => ⟨S8192x1024, .f32⟩
  | 25 => ⟨S8192x1024, .f32⟩
  | 26 => ⟨S_, .f32⟩
  | 27 => ⟨S1024, .f32⟩
  | 28 => ⟨S1x1024, .f32⟩
  | 29 => ⟨S8192x1024, .f32⟩
  | 30 => ⟨S_, .f32⟩
  | 31 => ⟨S1024, .f32⟩
  | 32 => ⟨S1x1024, .f32⟩
  | 33 => ⟨S8192x1024, .f32⟩
  | 34 => ⟨S8192x1024, .f32⟩
  | 35 => ⟨S_, .f32⟩
  | 36 => ⟨S1024, .f32⟩
  | 37 => ⟨S8192x1024, .f32⟩
  | 38 => ⟨S_, .f32⟩
  | 39 => ⟨S8192, .f32⟩
  | 40 => ⟨S8192x1, .f32⟩
  | 41 => ⟨S8192x1024, .f32⟩
  | 42 => ⟨S8192x1024, .f32⟩
  | 43 => ⟨S8192x1, .f32⟩
  | 44 => ⟨S_, .f32⟩
  | 45 => ⟨S8192x1, .f32⟩
  | 46 => ⟨S8192x1, .f32⟩
  | 47 => ⟨S_, .f32⟩
  | 48 => ⟨S8192, .f32⟩
  | 49 => ⟨S8192x1024, .f32⟩
  | 50 => ⟨S8192x1024, .f32⟩
  | 51 => ⟨S8192x1024, .f32⟩
  | 52 => ⟨S8192x1024, .f32⟩
  | 53 => ⟨S8192x1024, .f32⟩
  | 54 => ⟨S_, .f32⟩
  | 55 => ⟨S1024, .f32⟩
  | 56 => ⟨S8192x1024, .f32⟩
  | 57 => ⟨S_, .f32⟩
  | 58 => ⟨S1024, .f32⟩
  | 59 => ⟨S1x1024, .f32⟩
  | 60 => ⟨S8192x1024, .f32⟩
  | 61 => ⟨S8192x1024, .f32⟩
  | 62 => ⟨S_, .f32⟩
  | 63 => ⟨S1024, .f32⟩
  | 64 => ⟨S8192x4x256, .f32⟩
  | 65 => ⟨S4x256x8192, .f32⟩
  | 66 => ⟨S4x8192x256, .f32⟩
  | 67 => ⟨S8192x4x256, .f32⟩
  | 68 => ⟨S4x256x256, .f32⟩
  | 69 => ⟨S4x256x256, .f32⟩
  | 70 => ⟨S8192x1x256, .f32⟩
  | 71 => ⟨S8192x256, .f32⟩
  | 72 => ⟨S8192x1x256, .f32⟩
  | 73 => ⟨S8192x256, .f32⟩
  | 74 => ⟨S8192x1x256, .f32⟩
  | 75 => ⟨S8192x256, .f32⟩
  | 76 => ⟨S8192x1x256, .f32⟩
  | 77 => ⟨S8192x256, .f32⟩
  | 78 => ⟨S8192x256, .f32⟩
  | 79 => ⟨S8192x1x256, .f32⟩
  | 80 => ⟨S_, .f32⟩
  | 81 => ⟨S8192x4x256, .f32⟩
  | 82 => ⟨S8192x256, .f32⟩
  | 83 => ⟨S8192x256, .f32⟩
  | 84 => ⟨S_, .f32⟩
  | 85 => ⟨S8207x256, .f32⟩
  | 86 => ⟨S_, .f32⟩
  | 87 => ⟨S_, .f32⟩
  | 88 => ⟨S8192x256, .f32⟩
  | 89 => ⟨S8192x1x256, .f32⟩
  | 90 => ⟨S_, .f32⟩
  | 91 => ⟨S8192x4x256, .f32⟩
  | 92 => ⟨S8192x4x256, .f32⟩
  | 93 => ⟨S8192x256, .f32⟩
  | 94 => ⟨S8192x1x256, .f32⟩
  | 95 => ⟨S_, .f32⟩
  | 96 => ⟨S8192x4x256, .f32⟩
  | 97 => ⟨S8192x4x256, .f32⟩
  | 98 => ⟨S8192x256, .f32⟩
  | 99 => ⟨S8192x256, .f32⟩
  | 100 => ⟨S_, .f32⟩
  | 101 => ⟨S8199x256, .f32⟩
  | 102 => ⟨S_, .f32⟩
  | 103 => ⟨S_, .f32⟩
  | 104 => ⟨S8192x256, .f32⟩
  | 105 => ⟨S8192x1x256, .f32⟩
  | 106 => ⟨S_, .f32⟩
  | 107 => ⟨S8192x4x256, .f32⟩
  | 108 => ⟨S8192x4x256, .f32⟩
  | 109 => ⟨S8192x256, .f32⟩
  | 110 => ⟨S8192x1x256, .f32⟩
  | 111 => ⟨S_, .f32⟩
  | 112 => ⟨S8192x4x256, .f32⟩
  | 113 => ⟨S8192x4x256, .f32⟩
  | 114 => ⟨S8192x256, .f32⟩
  | 115 => ⟨S8192x256, .f32⟩
  | 116 => ⟨S_, .f32⟩
  | 117 => ⟨S8195x256, .f32⟩
  | 118 => ⟨S_, .f32⟩
  | 119 => ⟨S_, .f32⟩
  | 120 => ⟨S8192x256, .f32⟩
  | 121 => ⟨S8192x1x256, .f32⟩
  | 122 => ⟨S_, .f32⟩
  | 123 => ⟨S8192x4x256, .f32⟩
  | 124 => ⟨S8192x4x256, .f32⟩
  | 125 => ⟨S8192x256, .f32⟩
  | 126 => ⟨S8192x1x256, .f32⟩
  | 127 => ⟨S_, .f32⟩
  | _ => ⟨S8192x1024, .f32⟩

abbrev hbmTy0_2 (i : Nat) : BufTy := match i % 128 with
  | 0 => ⟨S8192x4x256, .f32⟩
  | 1 => ⟨S8192x4x256, .f32⟩
  | 2 => ⟨S8192x256, .f32⟩
  | 3 => ⟨S8192x256, .f32⟩
  | 4 => ⟨S_, .f32⟩
  | 5 => ⟨S8193x256, .f32⟩
  | 6 => ⟨S_, .f32⟩
  | 7 => ⟨S_, .f32⟩
  | 8 => ⟨S8192x256, .f32⟩
  | 9 => ⟨S8192x1x256, .f32⟩
  | 10 => ⟨S_, .f32⟩
  | 11 => ⟨S8192x4x256, .f32⟩
  | 12 => ⟨S8192x4x256, .f32⟩
  | 13 => ⟨S8192x1024, .f32⟩
  | 14 => ⟨S_, .f32⟩
  | 15 => ⟨S1024, .f32⟩
  | 16 => ⟨S1x1024, .f32⟩
  | 17 => ⟨S_, .f32⟩
  | 18 => ⟨S1024, .f32⟩
  | 19 => ⟨S8192x1024, .f32⟩
  | 20 => ⟨S_, .f32⟩
  | 21 => ⟨S1024, .f32⟩
  | 22 => ⟨S1x1024, .f32⟩
  | 23 => ⟨S8192x1024, .f32⟩
  | 24 => ⟨S8192x1024, .f32⟩
  | 25 => ⟨S_, .f32⟩
  | 26 => ⟨S1024, .f32⟩
  | 27 => ⟨S8192x1024, .f32⟩
  | 28 => ⟨S_, .f32⟩
  | 29 => ⟨S1024, .f32⟩
  | 30 => ⟨S1x1024, .f32⟩
  | 31 => ⟨S8192x1024, .f32⟩
  | 32 => ⟨S8192x1024, .f32⟩
  | 33 => ⟨S_, .f32⟩
  | 34 => ⟨S1024, .f32⟩
  | 35 => ⟨S8192x1024, .f32⟩
  | 36 => ⟨S_, .f32⟩
  | 37 => ⟨S8192, .f32⟩
  | 38 => ⟨S8192x1, .f32⟩
  | 39 => ⟨S8192x1024, .f32⟩
  | 40 => ⟨S8192x1024, .f32⟩
  | 41 => ⟨S8192x1024, .f32⟩
  | 42 => ⟨S8192x1, .f32⟩
  | 43 => ⟨S_, .f32⟩
  | 44 => ⟨S8192x1, .f32⟩
  | 45 => ⟨S8192x1, .f32⟩
  | 46 => ⟨S_, .f32⟩
  | 47 => ⟨S8192, .f32⟩
  | 48 => ⟨S8192x1024, .f32⟩
  | 49 => ⟨S8192x1024, .f32⟩
  | 50 => ⟨S8192x1024, .f32⟩
  | 51 => ⟨S8192x1024, .f32⟩
  | 52 => ⟨S8192x1024, .f32⟩
  | 53 => ⟨S_, .f32⟩
  | 54 => ⟨S1024, .f32⟩
  | 55 => ⟨S1x1024, .f32⟩
  | 56 => ⟨S1x1024, .f32⟩
  | 57 => ⟨S1x1024, .f32⟩
  | 58 => ⟨S1x1024, .f32⟩
  | 59 => ⟨S1x1024, .f32⟩
  | 60 => ⟨S1x1024, .f32⟩
  | 61 => ⟨S1x1024, .f32⟩
  | 62 => ⟨S1x1024, .f32⟩
  | 63 => ⟨S8x1024, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c : Ref sig .tc := ⟨.hbm, 45, rfl⟩
abbrev main_v30 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_7 : Ref sig .tc := ⟨.hbm, 64, rfl⟩
abbrev main_v46 : Ref sig .tc := ⟨.hbm, 65, rfl⟩
abbrev main_v47 : Ref sig .tc := ⟨.hbm, 66, rfl⟩
abbrev main_c_8 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_9 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_c_10 : Ref sig .tc := ⟨.hbm, 83, rfl⟩
abbrev main_v62 : Ref sig .tc := ⟨.hbm, 84, rfl⟩
abbrev main_v63 : Ref sig .tc := ⟨.hbm, 85, rfl⟩
abbrev main_c_11 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_12 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_c_13 : Ref sig .tc := ⟨.hbm, 102, rfl⟩
abbrev main_v78 : Ref sig .tc := ⟨.hbm, 103, rfl⟩
abbrev main_v79 : Ref sig .tc := ⟨.hbm, 104, rfl⟩
abbrev main_c_14 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_cst_15 : Ref sig .tc := ⟨.hbm, 128, rfl⟩
abbrev main_v102 : Ref sig .tc := ⟨.hbm, 129, rfl⟩
abbrev main_v103 : Ref sig .tc := ⟨.hbm, 130, rfl⟩
abbrev main_cst_16 : Ref sig .tc := ⟨.hbm, 131, rfl⟩
abbrev main_v104 : Ref sig .tc := ⟨.hbm, 132, rfl⟩
abbrev main_v105 : Ref sig .tc := ⟨.hbm, 133, rfl⟩
abbrev main_cst_17 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_cst_18 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_cst_19 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_cst_20 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_cst_21 : Ref sig .tc := ⟨.hbm, 163, rfl⟩
abbrev main_v131 : Ref sig .tc := ⟨.hbm, 164, rfl⟩
abbrev main_v132 : Ref sig .tc := ⟨.hbm, 165, rfl⟩
abbrev main_cst_22 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_cst_23 : Ref sig .tc := ⟨.hbm, 172, rfl⟩
abbrev main_v138 : Ref sig .tc := ⟨.hbm, 173, rfl⟩
abbrev main_v139 : Ref sig .tc := ⟨.hbm, 174, rfl⟩
abbrev main_cst_24 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_cst_25 : Ref sig .tc := ⟨.hbm, 182, rfl⟩
abbrev main_v146 : Ref sig .tc := ⟨.hbm, 183, rfl⟩
abbrev main_v147 : Ref sig .tc := ⟨.hbm, 184, rfl⟩
abbrev main_cst_26 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_cst_27 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_cst_28 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_cst_29 : Ref sig .tc := ⟨.hbm, 212, rfl⟩
abbrev main_v172 : Ref sig .tc := ⟨.hbm, 213, rfl⟩
abbrev main_cst_30 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_cst_31 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_cst_32 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_cst_33 : Ref sig .tc := ⟨.hbm, 228, rfl⟩
abbrev main_v184 : Ref sig .tc := ⟨.hbm, 229, rfl⟩
abbrev main_cst_34 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_cst_35 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_cst_36 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_cst_37 : Ref sig .tc := ⟨.hbm, 244, rfl⟩
abbrev main_v196 : Ref sig .tc := ⟨.hbm, 245, rfl⟩
abbrev main_cst_38 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_cst_39 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_cst_40 : Ref sig .tc := ⟨.hbm, 255, rfl⟩
abbrev main_v204 : Ref sig .tc := ⟨.hbm, 256, rfl⟩
abbrev main_v205 : Ref sig .tc := ⟨.hbm, 257, rfl⟩
abbrev main_v206 : Ref sig .tc := ⟨.hbm, 258, rfl⟩
abbrev main_v207 : Ref sig .tc := ⟨.hbm, 259, rfl⟩
abbrev main_cst_41 : Ref sig .tc := ⟨.hbm, 260, rfl⟩
abbrev main_v208 : Ref sig .tc := ⟨.hbm, 261, rfl⟩
abbrev main_cst_42 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_cst_43 : Ref sig .tc := ⟨.hbm, 266, rfl⟩
abbrev main_v212 : Ref sig .tc := ⟨.hbm, 267, rfl⟩
abbrev main_v213 : Ref sig .tc := ⟨.hbm, 268, rfl⟩
abbrev main_v214 : Ref sig .tc := ⟨.hbm, 269, rfl⟩
abbrev main_cst_44 : Ref sig .tc := ⟨.hbm, 270, rfl⟩
abbrev main_v215 : Ref sig .tc := ⟨.hbm, 271, rfl⟩
abbrev main_v216 : Ref sig .tc := ⟨.hbm, 272, rfl⟩
abbrev main_cst_45 : Ref sig .tc := ⟨.hbm, 273, rfl⟩
abbrev main_v217 : Ref sig .tc := ⟨.hbm, 274, rfl⟩
abbrev main_v218 : Ref sig .tc := ⟨.hbm, 275, rfl⟩
abbrev main_cst_46 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_cst_47 : Ref sig .tc := ⟨.hbm, 281, rfl⟩
abbrev main_v223 : Ref sig .tc := ⟨.hbm, 282, rfl⟩
abbrev main_v224 : Ref sig .tc := ⟨.hbm, 283, rfl⟩
abbrev main_cst_48 : Ref sig .tc := ⟨.hbm, 284, rfl⟩
abbrev main_v225 : Ref sig .tc := ⟨.hbm, 285, rfl⟩
abbrev main_v226 : Ref sig .tc := ⟨.hbm, 286, rfl⟩
abbrev main_v227 : Ref sig .tc := ⟨.hbm, 287, rfl⟩
abbrev main_v228 : Ref sig .tc := ⟨.hbm, 288, rfl⟩
abbrev main_cst_49 : Ref sig .tc := ⟨.hbm, 289, rfl⟩
abbrev main_v229 : Ref sig .tc := ⟨.hbm, 290, rfl⟩
abbrev main_v230 : Ref sig .tc := ⟨.hbm, 291, rfl⟩
abbrev main_cst_50 : Ref sig .tc := ⟨.hbm, 292, rfl⟩
abbrev main_v231 : Ref sig .tc := ⟨.hbm, 293, rfl⟩
abbrev main_v232 : Ref sig .tc := ⟨.hbm, 294, rfl⟩
abbrev main_v233 : Ref sig .tc := ⟨.hbm, 295, rfl⟩
abbrev main_v234 : Ref sig .tc := ⟨.hbm, 296, rfl⟩
abbrev main_v235 : Ref sig .tc := ⟨.hbm, 297, rfl⟩
abbrev main_v236 : Ref sig .tc := ⟨.hbm, 298, rfl⟩
abbrev main_cst_51 : Ref sig .tc := ⟨.hbm, 299, rfl⟩
abbrev main_v237 : Ref sig .tc := ⟨.hbm, 300, rfl⟩
abbrev main_v238 : Ref sig .tc := ⟨.hbm, 301, rfl⟩
abbrev main_cst_52 : Ref sig .tc := ⟨.hbm, 302, rfl⟩
abbrev main_v239 : Ref sig .tc := ⟨.hbm, 303, rfl⟩
abbrev main_v240 : Ref sig .tc := ⟨.hbm, 304, rfl⟩
abbrev main_v241 : Ref sig .tc := ⟨.hbm, 305, rfl⟩
abbrev main_v242 : Ref sig .tc := ⟨.hbm, 306, rfl⟩
abbrev main_v243 : Ref sig .tc := ⟨.hbm, 307, rfl⟩
abbrev main_v244 : Ref sig .tc := ⟨.hbm, 308, rfl⟩
abbrev main_cst_53 : Ref sig .tc := ⟨.hbm, 309, rfl⟩
abbrev main_v245 : Ref sig .tc := ⟨.hbm, 310, rfl⟩
abbrev main_v246 : Ref sig .tc := ⟨.hbm, 311, rfl⟩
abbrev main_v247 : Ref sig .tc := ⟨.hbm, 312, rfl⟩
abbrev main_v248 : Ref sig .tc := ⟨.hbm, 313, rfl⟩
abbrev main_v249 : Ref sig .tc := ⟨.hbm, 314, rfl⟩
abbrev main_v250 : Ref sig .tc := ⟨.hbm, 315, rfl⟩
abbrev main_v251 : Ref sig .tc := ⟨.hbm, 316, rfl⟩
abbrev main_v252 : Ref sig .tc := ⟨.hbm, 317, rfl⟩
abbrev main_v253 : Ref sig .tc := ⟨.hbm, 318, rfl⟩
abbrev main_v254 : Ref sig .tc := ⟨.hbm, 319, rfl⟩

abbrev nD : Nat := 1
abbrev τ : Topo := Topo.v7x

variable {F : FTy → Type} [FloatOps F]
-- ==== Ffn.lean ====
abbrev S8192x1024 : Shape := ⟨2, ![8192, 1024]⟩
abbrev S1024x5632 : Shape := ⟨2, ![1024, 5632]⟩
abbrev S3x5632 : Shape := ⟨2, ![3, 5632]⟩
abbrev S2816x1024 : Shape := ⟨2, ![2816, 1024]⟩
abbrev S8192x5632 : Shape := ⟨2, ![8192, 5632]⟩
abbrev S_ : Shape := ⟨0, ![]⟩
abbrev S2x5632 : Shape := ⟨2, ![2, 5632]⟩
abbrev S8194x5632 : Shape := ⟨2, ![8194, 5632]⟩
abbrev S1x5632 : Shape := ⟨2, ![1, 5632]⟩
abbrev S5632 : Shape := ⟨1, ![5632]⟩
abbrev S5632x1024 : Shape := ⟨2, ![5632, 1024]⟩
abbrev S2x4x704x1024 : Shape := ⟨4, ![2, 4, 704, 1024]⟩
abbrev S8x5632 : Shape := ⟨2, ![8, 5632]⟩
abbrev S8x8x704 : Shape := ⟨3, ![8, 8, 704]⟩
abbrev S2x4x8x704 : Shape := ⟨4, ![2, 4, 8, 704]⟩
abbrev S8192x2x4x704 : Shape := ⟨4, ![8192, 2, 4, 704]⟩
abbrev S2x4x8192x704 : Shape := ⟨4, ![2, 4, 8192, 704]⟩
abbrev S4x8192x1024 : Shape := ⟨3, ![4, 8192, 1024]⟩
abbrev S1024x1024 : Shape := ⟨2, ![1024, 1024]⟩
abbrev S2x1x512x704 : Shape := ⟨4, ![2, 1, 512, 704]⟩
abbrev S2x1x704x1024 : Shape := ⟨4, ![2, 1, 704, 1024]⟩
abbrev S2x1x8x704 : Shape := ⟨4, ![2, 1, 8, 704]⟩
abbrev S704x1024 : Shape := ⟨2, ![704, 1024]⟩
abbrev S1x512x1024 : Shape := ⟨3, ![1, 512, 1024]⟩
abbrev S2x1024x704 : Shape := ⟨3, ![2, 1024, 704]⟩
abbrev S1024x704 : Shape := ⟨2, ![1024, 704]⟩
abbrev S2x704x1024 : Shape := ⟨3, ![2, 704, 1024]⟩
abbrev S2x8x704 : Shape := ⟨3, ![2, 8, 704]⟩
abbrev S512x1024 : Shape := ⟨2, ![512, 1024]⟩
abbrev S512x704 : Shape := ⟨2, ![512, 704]⟩
abbrev S1x1x512x704 : Shape := ⟨4, ![1, 1, 512, 704]⟩
abbrev S1x1x8x704 : Shape := ⟨4, ![1, 1, 8, 704]⟩
abbrev S8x704 : Shape := ⟨2, ![8, 704]⟩
abbrev S1x8x704 : Shape := ⟨3, ![1, 8, 704]⟩
abbrev S1x704 : Shape := ⟨2, ![1, 704]⟩
abbrev S1x512x704 : Shape := ⟨3, ![1, 512, 704]⟩
abbrev S1x1x1x704 : Shape := ⟨4, ![1, 1, 1, 704]⟩
abbrev S704 : Shape := ⟨1, ![704]⟩
abbrev S1x1x704x1024 : Shape := ⟨4, ![1, 1, 704, 1024]⟩
abbrev S1x704x1024 : Shape := ⟨3, ![1, 704, 1024]⟩
abbrev S1x1024x704 : Shape := ⟨3, ![1, 1024, 704]⟩

abbrev nBuf : Space → Nat
  | .hbm => 57
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S3x5632, .f32⟩
  | .hbm, ⟨3, _⟩ => ⟨S2816x1024, .f32⟩
  | .hbm, ⟨4, _⟩ => ⟨S8192x1024, .f32⟩
  | .hbm, ⟨5, _⟩ => ⟨S8192x5632, .f32⟩
  | .hbm, ⟨6, _⟩ => ⟨S_, .f32⟩
  | .hbm, ⟨7, _⟩ => ⟨S2x5632, .f32⟩
  | .hbm, ⟨8, _⟩ => ⟨S8194x5632, .f32⟩
  | .hbm, ⟨9, _⟩ => ⟨S8192x5632, .f32⟩
  | .hbm, ⟨10, _⟩ => ⟨S1x5632, .f32⟩
  | .hbm, ⟨11, _⟩ => ⟨S5632, .f32⟩
  | .hbm, ⟨12, _⟩ => ⟨S1x5632, .f32⟩
  | .hbm, ⟨13, _⟩ => ⟨S8192x5632, .f32⟩
  | .hbm, ⟨14, _⟩ => ⟨S8192x5632, .f32⟩
  | .hbm, ⟨15, _⟩ => ⟨S_, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S1x5632, .f32⟩
  | .hbm, ⟨20, _⟩ => ⟨S5632, .f32⟩
  | .hbm, ⟨21, _⟩ => ⟨S1x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S1x5632, .f32⟩
  | .hbm, ⟨27, _⟩ => ⟨S5632, .f32⟩
  | .hbm, ⟨28, _⟩ => ⟨S1x5632, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S5632x1024, .f32⟩
  | .hbm, ⟨33, _⟩ => ⟨S2x4x704x1024, .f32⟩
  | .hbm, ⟨34, _⟩ => ⟨S2x4x704x1024, .bf16⟩
  | .hbm, ⟨35, _⟩ => ⟨S_, .i32⟩
  | .hbm, ⟨36, _⟩ => ⟨S_, .f32⟩
  | .hbm, ⟨37, _⟩ => ⟨S8x5632, .f32⟩
  | .hbm, ⟨38, _⟩ => ⟨S8x8x704, .f32⟩
  | .hbm, ⟨39, _⟩ => ⟨S8x8x704, .f32⟩
  | .hbm, ⟨40, _⟩ => ⟨S2x4x8x704, .f32⟩
  | .hbm, ⟨41, _⟩ => ⟨S8192x1024, .bf16⟩
  | .hbm, ⟨42, _⟩ => ⟨S8192x1024, .bf16⟩
  | .hbm, ⟨43, _⟩ => ⟨S8192x2x4x704, .f32⟩
  | .hbm, ⟨44, _⟩ => ⟨S2x4x8192x704, .f32⟩
  | .hbm, ⟨45, _⟩ => ⟨S2x4x8192x704, .bf16⟩
  | .hbm, ⟨46, _⟩ => ⟨S8192x2x4x704, .f32⟩
  | .hbm, ⟨47, _⟩ => ⟨S2x4x8192x704, .f32⟩
  | .hbm, ⟨48, _⟩ => ⟨S2x4x8192x704, .bf16⟩
  | .hbm, ⟨49, _⟩ => ⟨S2816x1024, .bf16⟩
  | .hbm, ⟨50, _⟩ => ⟨S4x8192x1024, .bf16⟩
  | .hbm, ⟨51, _⟩ => ⟨S2x4x704x1024, .bf16⟩
  | .hbm, ⟨52, _⟩ => ⟨S2816x1024, .bf16⟩
  | .hbm, ⟨53, _⟩ => ⟨S2x4x8x704, .f32⟩
  | .hbm, ⟨54, _⟩ => ⟨S4x8192x1024, .f32⟩
  | .hbm, ⟨55, _⟩ => ⟨S_, .f32⟩
  | .hbm, ⟨56, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2x1x512x704, .bf16⟩
  | .local _ .vmem, ⟨5, _⟩ => ⟨S2x1x512x704, .bf16⟩
  | .local _ .vmem, ⟨6, _⟩ => ⟨S2x1x512x704, .bf16⟩
  | .local _ .vmem, ⟨7, _⟩ => ⟨S2x1x512x704, .bf16⟩
  | .local _ .vmem, ⟨8, _⟩ => ⟨S2x1x704x1024, .bf16⟩
  | .local _ .vmem, ⟨9, _⟩ => ⟨S2x1x704x1024, .bf16⟩
  | .local _ .vmem, ⟨10, _⟩ => ⟨S2x1x8x704, .f32⟩
  | .local _ .vmem, ⟨11, _⟩ => ⟨S2x1x8x704, .f32⟩
  | .local _ .vmem, ⟨12, _⟩ => ⟨S704x1024, .bf16⟩
  | .local _ .vmem, ⟨13, _⟩ => ⟨S704x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S2x1x704x1024, .bf16⟩
  | .local _ .vmem, ⟨17, _⟩ => ⟨S2x1x704x1024, .bf16⟩
  | .local _ .vmem, ⟨18, _⟩ => ⟨S704x1024, .bf16⟩
  | .local _ .vmem, ⟨19, _⟩ => ⟨S704x1024, .bf16⟩
  | .local _ .vmem, ⟨20, _⟩ => ⟨S2x4x8x704, .f32⟩
  | .local _ .vmem, ⟨21, _⟩ => ⟨S2x1024x704, .bf16⟩
  | .local _ .vmem, ⟨22, _⟩ => ⟨S1024x704, .bf16⟩
  | .local _ .vmem, ⟨23, _⟩ => ⟨S2x704x1024, .f32⟩
  | .local _ .vmem, ⟨24, _⟩ => ⟨S704x1024, .f32⟩
  | .local _ .vmem, ⟨25, _⟩ => ⟨S2x8x704, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c : Ref sig .tc := ⟨.hbm, 35, rfl⟩
abbrev main_call0_v0 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41_0 : Ref sig .tc := ⟨.hbm, 50, rfl⟩
abbrev main_v41_1 : Ref sig .tc := ⟨.hbm, 51, rfl⟩
abbrev main_v41_2 : Ref sig .tc := ⟨.hbm, 52, rfl⟩
abbrev main_v41_3 : Ref sig .tc := ⟨.hbm, 53, rfl⟩
abbrev main_v42 : Ref sig .tc := ⟨.hbm, 54, rfl⟩
abbrev main_cst_1 : Ref sig .tc := ⟨.hbm, 55, rfl⟩
abbrev main_v43 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20

abbrev nD : Nat := 1
abbrev τ : Topo := Topo.v7x

variable {F : FTy → Type} [FloatOps F]

abbrev grid0 : Pipeline.Grid := ⟨2, ![4, 16], ![false, false]⟩

def k0_cond3 (i : grid0.Coords) : BitVec 1 :=
  let arg1 : BitVec 32 := BitVec.ofNat 32 (i 1).val
  let c2_i32 : BitVec 32 := 2#32
  let c0_i32_4 : BitVec 32 := 0#32
  let v8 : BitVec 1 := Scalar.cmpi .eq c2_i32 c0_i32_4
  let c1_i32 : BitVec 32 := 1#32
  let v9 : BitVec 32 := Scalar.select v8 c1_i32 c2_i32
  let v10 : BitVec 32 := Scalar.remsi arg1 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c0_i32_8 : BitVec 32 := 0#32
  let v18 : BitVec 1 := Scalar.cmpi .eq v17 c0_i32_8
  let v19 : BitVec 32 := Scalar.extui v18
  let c0_i32_9 : BitVec 32 := 0#32
  let v20 : BitVec 1 := Scalar.cmpi .ne v19 c0_i32_9
  v20

def k0_off1 (i : grid0.Coords) : Fin 4 → Nat :=
  let c0_55 : Index := 0#32
  let arg0 : BitVec 32 := BitVec.ofNat 32 (i 0).val
  let v118 : Index := Scalar.indexCast arg0
  let c2 : Index := 2#32
  let c0_56 : Index := 0#32
  ![0, v118.toNat, 2, 0]
def k0_off2 (i : grid0.Coords) : Fin 4 → Nat :=
  let c0_61 : Index := 0#32
  let arg0 : BitVec 32 := BitVec.ofNat 32 (i 0).val
  let v129 : Index := Scalar.indexCast arg0
  let c1_62 : Index := 1#32
  let c0_63 : Index := 0#32
  ![0, v129.toNat, 1, 0]
def k0_off3 (i : grid0.Coords) : Fin 4 → Nat :=
  let c0_68 : Index := 0#32
  let arg0 : BitVec 32 := BitVec.ofNat 32 (i 0).val
  let v140 : Index := Scalar.indexCast arg0
  let c0_69 : Index := 0#32
  let c0_70 : Index := 0#32
  ![0, v140.toNat, 0, 0]
def k0_off4 (i : grid0.Coords) : Fin 4 → Nat :=
  let c1_97 : Index := 1#32
  let arg0 : BitVec 32 := BitVec.ofNat 32 (i 0).val
  let v199 : Index := Scalar.indexCast arg0
  let c2_98 : Index := 2#32
  let c0_99 : Index := 0#32
  ![1, v199.toNat, 2, 0]
def k0_off5 (i : grid0.Coords) : Fin 4 → Nat :=
  let c1_104 : Index := 1#32
  let arg0 : BitVec 32 := BitVec.ofNat 32 (i 0).val
  let v210 : Index := Scalar.indexCast arg0
  let c1_105 : Index := 1#32
  let c0_106 : Index := 0#32
  ![1, v210.toNat, 1, 0]
def k0_off6 (i : grid0.Coords) : Fin 4 → Nat :=
  let c1_111 : Index := 1#32
  let arg0 : BitVec 32 := BitVec.ofNat 32 (i 0).val
  let v221 : Index := Scalar.indexCast arg0
  let c0_112 : Index := 0#32
  let c0_113 : Index := 0#32
  ![1, v221.toNat, 0, 0]
def k0_cond4 (i : grid0.Coords) : BitVec 1 :=
  let arg1 : BitVec 32 := BitVec.ofNat 32 (i 1).val
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi arg1 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c1_i32_16 : BitVec 32 := 1#32
  let v31 : BitVec 1 := Scalar.cmpi .eq v30 c1_i32_16
  let v32 : BitVec 32 := Scalar.extui v31
  let c0_i32_17 : BitVec 32 := 0#32
  let v33 : BitVec 1 := Scalar.cmpi .ne v32 c0_i32_17
  v33

def k0_off7 (i : grid0.Coords) : Fin 4 → Nat :=
  let c0_56 : Index := 0#32
  let arg0 : BitVec 32 := BitVec.ofNat 32 (i 0).val
  let v118 : Index := Scalar.indexCast arg0
  let c2 : Index := 2#32
  let c0_57 : Index := 0#32
  ![0, v118.toNat, 2, 0]
def k0_off8 (i : grid0.Coords) : Fin 4 → Nat :=
  let c0_62 : Index := 0#32
  let arg0 : BitVec 32 := BitVec.ofNat 32 (i 0).val
  let v129 : Index := Scalar.indexCast arg0
  let c1_63 : Index := 1#32
  let c0_64 : Index := 0#32
  ![0, v129.toNat, 1, 0]
def k0_off9 (i : grid0.Coords) : Fin 4 → Nat :=
  let c0_69 : Index := 0#32
  let arg0 : BitVec 32 := BitVec.ofNat 32 (i 0).val
  let v140 : Index := Scalar.indexCast arg0
  let c0_70 : Index := 0#32
  let c0_71 : Index := 0#32
  ![0, v140.toNat, 0, 0]
def k0_off10 (i : grid0.Coords) : Fin 4 → Nat :=
  let c1_98 : Index := 1#32
  let arg0 : BitVec 32 := BitVec.ofNat 32 (i 0).val
  let v199 : Index := Scalar.indexCast arg0
  let c2_99 : Index := 2#32
  let c0_100 : Index := 0#32
  ![1, v199.toNat, 2, 0]
def k0_off11 (i : grid0.Coords) : Fin 4 → Nat :=
  let c1_105 : Index := 1#32
  let arg0 : BitVec 32 := BitVec.ofNat 32 (i 0).val
  let v210 : Index := Scalar.indexCast arg0
  let c1_106 : Index := 1#32
  let c0_107 : Index := 0#32
  ![1, v210.toNat, 1, 0]
def k0_off12 (i : grid0.Coords) : Fin 4 → Nat :=
  let c1_112 : Index := 1#32
  let arg0 : BitVec 32 := BitVec.ofNat 32 (i 0).val
  let v221 : Index := Scalar.indexCast arg0
  let c0_113 : Index := 0#32
  let c0_114 : Index := 0#32
  ![1, v221.toNat, 0, 0]
def k0_cond5 (i : grid0.Coords) : BitVec 1 :=
  let arg1 : BitVec 32 := BitVec.ofNat 32 (i 1).val
  let c15_i32 : BitVec 32 := 15#32
  let v34 : BitVec 1 := Scalar.cmpi .eq arg1 c15_i32
  let v35 : BitVec 32 := Scalar.extui v34
  let c0_i32_18 : BitVec 32 := 0#32
  let v36 : BitVec 1 := Scalar.cmpi .ne v35 c0_i32_18
  v36

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_2 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![c0_i32.toNat, arg0.toNat, v0.toNat, c0_i32_0.toNat]

def cc0_transform_3 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![c0_i32.toNat, arg0.toNat, v0.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x1x8x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x1x704x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S704x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S2x4x8x704 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== FfnRefIdeal.lean ====
abbrev S8192x1024 : Shape := ⟨2, ![8192, 1024]⟩
abbrev S1024x5632 : Shape := ⟨2, ![1024, 5632]⟩
abbrev S3x5632 : Shape := ⟨2, ![3, 5632]⟩
abbrev S2816x1024 : Shape := ⟨2, ![2816, 1024]⟩
abbrev S8192x5632 : Shape := ⟨2, ![8192, 5632]⟩
abbrev S_ : Shape := ⟨0, ![]⟩
abbrev S2x5632 : Shape := ⟨2, ![2, 5632]⟩
abbrev S8194x5632 : Shape := ⟨2, ![8194, 5632]⟩
abbrev S1x5632 : Shape := ⟨2, ![1, 5632]⟩
abbrev S5632 : Shape := ⟨1, ![5632]⟩
abbrev S8192x2816 : Shape := ⟨2, ![8192, 2816]⟩
abbrev S1024x2816 : Shape := ⟨2, ![1024, 2816]⟩
abbrev S5632x1024 : Shape := ⟨2, ![5632, 1024]⟩
abbrev S5x5632 : Shape := ⟨2, ![5, 5632]⟩
abbrev S8x5632 : Shape := ⟨2, ![8, 5632]⟩
abbrev S8x2x4x704 : Shape := ⟨4, ![8, 2, 4, 704]⟩
abbrev S2x4x8x704 : Shape := ⟨4, ![2, 4, 8, 704]⟩
abbrev S2x4x704x1024 : Shape := ⟨4, ![2, 4, 704, 1024]⟩

abbrev nBuf : Space → Nat
  | .hbm => 118
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S3x5632, .f32⟩
  | .hbm, ⟨3, _⟩ => ⟨S2816x1024, .f32⟩
  | .hbm, ⟨4, _⟩ => ⟨S8192x1024, .f32⟩
  | .hbm, ⟨5, _⟩ => ⟨S8192x5632, .f32⟩
  | .hbm, ⟨6, _⟩ => ⟨S_, .f32⟩
  | .hbm, ⟨7, _⟩ => ⟨S2x5632, .f32⟩
  | .hbm, ⟨8, _⟩ => ⟨S8194x5632, .f32⟩
  | .hbm, ⟨9, _⟩ => ⟨S_, .f32⟩
  | .hbm, ⟨10, _⟩ => ⟨S2x5632, .f32⟩
  | .hbm, ⟨11, _⟩ => ⟨S8192x5632, .f32⟩
  | .hbm, ⟨12, _⟩ => ⟨S1x5632, .f32⟩
  | .hbm, ⟨13, _⟩ => ⟨S5632, .f32⟩
  | .hbm, ⟨14, _⟩ => ⟨S1x5632, .f32⟩
  | .hbm, ⟨15, _⟩ => ⟨S8192x5632, .f32⟩
  | .hbm, ⟨16, _⟩ => ⟨S8192x5632, .f32⟩
  | .hbm, ⟨17, _⟩ => ⟨S_, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S1x5632, .f32⟩
  | .hbm, ⟨22, _⟩ => ⟨S5632, .f32⟩
  | .hbm, ⟨23, _⟩ => ⟨S1x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S1x5632, .f32⟩
  | .hbm, ⟨29, _⟩ => ⟨S5632, .f32⟩
  | .hbm, ⟨30, _⟩ => ⟨S1x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S_, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x1024, .f32⟩
  | .hbm, ⟨51, _⟩ => ⟨S1024x2816, .f32⟩
  | .hbm, ⟨52, _⟩ => ⟨S2816x1024, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S8192x2816, .f32⟩
  | .hbm, ⟨60, _⟩ => ⟨S8192x5632, .f32⟩
  | .hbm, ⟨61, _⟩ => ⟨S8192x5632, .f32⟩
  | .hbm, ⟨62, _⟩ => ⟨S_, .f32⟩
  | .hbm, ⟨63, _⟩ => ⟨S5632, .f32⟩
  | .hbm, ⟨64, _⟩ => ⟨S1x5632, .f32⟩
  | .hbm, ⟨65, _⟩ => ⟨S8192x5632, .f32⟩
  | .hbm, ⟨66, _⟩ => ⟨S8192x5632, .f32⟩
  | .hbm, ⟨67, _⟩ => ⟨S_, .f32⟩
  | .hbm, ⟨68, _⟩ => ⟨S5632, .f32⟩
  | .hbm, ⟨69, _⟩ => ⟨S1x5632, .f32⟩
  | .hbm, ⟨70, _⟩ => ⟨S_, .f32⟩
  | .hbm, ⟨71, _⟩ => ⟨S3x5632, .f32⟩
  | .hbm, ⟨72, _⟩ => ⟨S_, .f32⟩
  | .hbm, ⟨73, _⟩ => ⟨S8194x5632, .f32⟩
  | .hbm, ⟨74, _⟩ => ⟨S8192x5632, .f32⟩
  | .hbm, ⟨75, _⟩ => ⟨S_, .f32⟩
  | .hbm, ⟨76, _⟩ => ⟨S5632, .f32⟩
  | .hbm, ⟨77, _⟩ => ⟨S1x5632, .f32⟩
  | .hbm, ⟨78, _⟩ => ⟨S8192x5632, .f32⟩
  | .hbm, ⟨79, _⟩ => ⟨S8192x5632, .f32⟩
  | .hbm, ⟨80, _⟩ => ⟨S_, .f32⟩
  | .hbm, ⟨81, _⟩ => ⟨S5632, .f32⟩
  | .hbm, ⟨82, _⟩ => ⟨S1x5632, .f32⟩
  | .hbm, ⟨83, _⟩ => ⟨S_, .f32⟩
  | .hbm, ⟨84, _⟩ => ⟨S3x5632, .f32⟩
  | .hbm, ⟨85, _⟩ => ⟨S3x5632, .f32⟩
  | .hbm, ⟨86, _⟩ => ⟨S_, .f32⟩
  | .hbm, ⟨87, _⟩ => ⟨S8194x5632, .f32⟩
  | .hbm, ⟨88, _⟩ => ⟨S8194x5632, .f32⟩
  | .hbm, ⟨89, _⟩ => ⟨S8192x5632, .f32⟩
  | .hbm, ⟨90, _⟩ => ⟨S_, .f32⟩
  | .hbm, ⟨91, _⟩ => ⟨S5632, .f32⟩
  | .hbm, ⟨92, _⟩ => ⟨S1x5632, .f32⟩
  | .hbm, ⟨93, _⟩ => ⟨S8192x5632, .f32⟩
  | .hbm, ⟨94, _⟩ => ⟨S8192x5632, .f32⟩
  | .hbm, ⟨95, _⟩ => ⟨S_, .f32⟩
  | .hbm, ⟨96, _⟩ => ⟨S5632, .f32⟩
  | .hbm, ⟨97, _⟩ => ⟨S1x5632, .f32⟩
  | .hbm, ⟨98, _⟩ => ⟨S_, .f32⟩
  | .hbm, ⟨99, _⟩ => ⟨S3x5632, .f32⟩
  | .hbm, ⟨100, _⟩ => ⟨S3x5632, .f32⟩
  | .hbm, ⟨101, _⟩ => ⟨S_, .f32⟩
  | .hbm, ⟨102, _⟩ => ⟨S8194x5632, .f32⟩
  | .hbm, ⟨103, _⟩ => ⟨S8194x5632, .f32⟩
  | .hbm, ⟨104, _⟩ => ⟨S2x5632, .f32⟩
  | .hbm, ⟨105, _⟩ => ⟨S8192x5632, .f32⟩
  | .hbm, ⟨106, _⟩ => ⟨S5632x1024, .f32⟩
  | .hbm, ⟨107, _⟩ => ⟨S1024x5632, .f32⟩
  | .hbm, ⟨108, _⟩ => ⟨S8192x1024, .f32⟩
  | .hbm, ⟨109, _⟩ => ⟨S_, .f32⟩
  | .hbm, ⟨110, _⟩ => ⟨S5x5632, .f32⟩
  | .hbm, ⟨111, _⟩ => ⟨S8x5632, .f32⟩
  | .hbm, ⟨112, _⟩ => ⟨S8x2x4x704, .f32⟩
  | .hbm, ⟨113, _⟩ => ⟨S2x4x8x704, .f32⟩
  | .hbm, ⟨114, _⟩ => ⟨S5632x1024, .f32⟩
  | .hbm, ⟨115, _⟩ => ⟨S2x4x704x1024, .f32⟩
  | .hbm, ⟨116, _⟩ => ⟨S2x4x704x1024, .bf16⟩
  | .hbm, ⟨117, _⟩ => ⟨S2816x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v28_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v28_1 : Ref sig .tc := ⟨.hbm, 47, rfl⟩
abbrev main_v28_0 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_2 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_3 : Ref sig .tc := ⟨.hbm, 67, rfl⟩
abbrev main_v43 : Ref sig .tc := ⟨.hbm, 68, rfl⟩
abbrev main_v44 : Ref sig .tc := ⟨.hbm, 69, rfl⟩
abbrev main_cst_4 : Ref sig .tc := ⟨.hbm, 70, rfl⟩
abbrev main_v45 : Ref sig .tc := ⟨.hbm, 71, rfl⟩
abbrev main_cst_5 : Ref sig .tc := ⟨.hbm, 72, rfl⟩
abbrev main_v46 : Ref sig .tc := ⟨.hbm, 73, rfl⟩
abbrev main_v47 : Ref sig .tc := ⟨.hbm, 74, rfl⟩
abbrev main_cst_6 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_7 : Ref sig .tc := ⟨.hbm, 80, rfl⟩
abbrev main_v52 : Ref sig .tc := ⟨.hbm, 81, rfl⟩
abbrev main_v53 : Ref sig .tc := ⟨.hbm, 82, rfl⟩
abbrev main_cst_8 : Ref sig .tc := ⟨.hbm, 83, rfl⟩
abbrev main_v54 : Ref sig .tc := ⟨.hbm, 84, rfl⟩
abbrev main_v55 : Ref sig .tc := ⟨.hbm, 85, rfl⟩
abbrev main_cst_9 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_10 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_11 : Ref sig .tc := ⟨.hbm, 95, rfl⟩
abbrev main_v63 : Ref sig .tc := ⟨.hbm, 96, rfl⟩
abbrev main_v64 : Ref sig .tc := ⟨.hbm, 97, rfl⟩
abbrev main_cst_12 : Ref sig .tc := ⟨.hbm, 98, rfl⟩
abbrev main_v65 : Ref sig .tc := ⟨.hbm, 99, rfl⟩
abbrev main_v66 : Ref sig .tc := ⟨.hbm, 100, rfl⟩
abbrev main_cst_13 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_14 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩

abbrev nD : Nat := 1
abbrev τ : Topo := Topo.v7x

variable {F : FTy → Type} [FloatOps F]
-- ==== AdaF.lean ====
abbrev S8x1024 : Shape := ⟨2, ![8, 1024]⟩
abbrev S2x1024x768 : Shape := ⟨3, ![2, 1024, 768]⟩
abbrev S2x8x768 : Shape := ⟨3, ![2, 8, 768]⟩
abbrev S1x1024x768 : Shape := ⟨3, ![1, 1024, 768]⟩
abbrev S1024x768 : Shape := ⟨2, ![1024, 768]⟩
abbrev S8x768 : Shape := ⟨2, ![8, 768]⟩
abbrev S1x8x768 : Shape := ⟨3, ![1, 8, 768]⟩

abbrev nBuf : Space → Nat
  | .hbm => 3
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S2x1024x768, .f32⟩
  | .hbm, ⟨2, _⟩ => ⟨S2x8x768, .f32⟩
  | .local _ .vmem, ⟨0, _⟩ => ⟨S8x1024, .f32⟩
  | .local _ .vmem, ⟨1, _⟩ => ⟨S2x1024x768, .f32⟩
  | .local _ .vmem, ⟨2, _⟩ => ⟨S2x8x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== AdaFRefIdeal.lean ====
abbrev S8x1024 : Shape := ⟨2, ![8, 1024]⟩
abbrev S2x1024x768 : Shape := ⟨3, ![2, 1024, 768]⟩
abbrev S_ : Shape := ⟨0, ![]⟩
abbrev S1x1024x768 : Shape := ⟨3, ![1, 1024, 768]⟩
abbrev S1024x768 : Shape := ⟨2, ![1024, 768]⟩
abbrev S8x768 : Shape := ⟨2, ![8, 768]⟩
abbrev S1x8x768 : Shape := ⟨3, ![1, 8, 768]⟩
abbrev S2x8x768 : Shape := ⟨3, ![2, 8, 768]⟩

abbrev nBuf : Space → Nat
  | .hbm => 20
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x768, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S1x1024x768, .f32⟩
  | .hbm, ⟨12, _⟩ => ⟨S1024x768, .f32⟩
  | .hbm, ⟨13, _⟩ => ⟨S8x768, .f32⟩
  | .hbm, ⟨14, _⟩ => ⟨S1x1024x768, .f32⟩
  | .hbm, ⟨15, _⟩ => ⟨S1024x768, .f32⟩
  | .hbm, ⟨16, _⟩ => ⟨S8x768, .f32⟩
  | .hbm, ⟨17, _⟩ => ⟨S1x8x768, .f32⟩
  | .hbm, ⟨18, _⟩ => ⟨S1x8x768, .f32⟩
  | .hbm, ⟨19, _⟩ => ⟨S2x8x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== PoolF.lean ====
abbrev S8192x1024 : Shape := ⟨2, ![8192, 1024]⟩
abbrev S1024 : Shape := ⟨1, ![1024]⟩
abbrev S4x256x256 : Shape := ⟨3, ![4, 256, 256]⟩
abbrev S_ : Shape := ⟨0, ![]⟩
abbrev S1x1024 : Shape := ⟨2, ![1, 1024]⟩
abbrev S5x1024 : Shape := ⟨2, ![5, 1024]⟩
abbrev S3x1024 : Shape := ⟨2, ![3, 1024]⟩
abbrev S8x1024 : Shape := ⟨2, ![8, 1024]⟩
abbrev S512x1024 : Shape := ⟨2, ![512, 1024]⟩
abbrev S528x1024 : Shape := ⟨2, ![528, 1024]⟩
abbrev S16x1024 : Shape := ⟨2, ![16, 1024]⟩
abbrev S512 : Shape := ⟨1, ![512]⟩
abbrev S512x1 : Shape := ⟨2, ![512, 1]⟩
abbrev S512x256 : Shape := ⟨2, ![512, 256]⟩
abbrev S528x256 : Shape := ⟨2, ![528, 256]⟩
abbrev S1x256x256 : Shape := ⟨3, ![1, 256, 256]⟩
abbrev S256x256 : Shape := ⟨2, ![256, 256]⟩

abbrev nBuf : Space → Nat
  | .hbm => 24
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S4x256x256, .f32⟩
  | .hbm, ⟨7, _⟩ => ⟨S1024, .f32⟩
  | .hbm, ⟨8, _⟩ => ⟨S_, .f32⟩
  | .hbm, ⟨9, _⟩ => ⟨S1024, .f32⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S5x1024, .f32⟩
  | .hbm, ⟨17, _⟩ => ⟨S_, .f32⟩
  | .hbm, ⟨18, _⟩ => ⟨S3x1024, .f32⟩
  | .hbm, ⟨19, _⟩ => ⟨S8x1024, .f32⟩
  | .hbm, ⟨20, _⟩ => ⟨S4x256x256, .bf16⟩
  | .hbm, ⟨21, _⟩ => ⟨S1x1024, .f32⟩
  | .hbm, ⟨22, _⟩ => ⟨S8192x1024, .f32⟩
  | .hbm, ⟨23, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S4x256x256, .bf16⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S528x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PoolFRefIdeal.lean ====
abbrev S8192x1024 : Shape := ⟨2, ![8192, 1024]⟩
abbrev S1024 : Shape := ⟨1, ![1024]⟩
abbrev S4x256x256 : Shape := ⟨3, ![4, 256, 256]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4x256 : Shape := ⟨3, ![8192, 4, 256]⟩
abbrev S8192x1x256 : Shape := ⟨3, ![8192, 1, 256]⟩
abbrev S8192x256 : Shape := ⟨2, ![8192, 256]⟩
abbrev S4x256x8192 : Shape := ⟨3, ![4, 256, 8192]⟩

abbrev nBuf : Space → Nat
  | .hbm => 141
  | .vmem => 0
  | .smem => 0
  | _ => 0

abbrev hbmTy0_0 (i : Nat) : BufTy := match i % 128 with
  | 0 => ⟨S8192x1024, .f32⟩
  | 1 => ⟨S1024, .f32⟩
  | 2 => ⟨S1024, .f32⟩
  | 3 => ⟨S1024, .f32⟩
  | 4 => ⟨S1024, .f32⟩
  | 5 => ⟨S1024, .f32⟩
  | 6 => ⟨S4x256x256, .f32⟩
  | 7 => ⟨S1024, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x1024, .f32⟩
  | 20 => ⟨S8192x1024, .f32⟩
  | 21 => ⟨S1x1024, .f32⟩
  | 22 => ⟨S8192x1024, .f32⟩
  | 23 => ⟨S8192x1024, .f32⟩
  | 24 => ⟨S1x1024, .f32⟩
  | 25 => ⟨S_, .f32⟩
  | 26 => ⟨S1x1024, .f32⟩
  | 27 => ⟨S1x1024, .f32⟩
  | 28 => ⟨S8192x1024, .f32⟩
  | 29 => ⟨S8192x1024, .f32⟩
  | 30 => ⟨S1x1024, .f32⟩
  | 31 => ⟨S8192x1024, .f32⟩
  | 32 => ⟨S8192x1024, .f32⟩
  | 33 => ⟨S8192x4x256, .f32⟩
  | 34 => ⟨S8192x1x256, .f32⟩
  | 35 => ⟨S8192x256, .f32⟩
  | 36 => ⟨S_, .f32⟩
  | 37 => ⟨S_, .f32⟩
  | 38 => ⟨S8192x256, .f32⟩
  | 39 => ⟨S8192, .i32⟩
  | 40 => ⟨S_, .i32⟩
  | 41 => ⟨S8192, .i32⟩
  | 42 => ⟨S8192, .i32⟩
  | 43 => ⟨S_, .i32⟩
  | 44 => ⟨S8192, .i32⟩
  | 45 => ⟨S8192, .i32⟩
  | 46 => ⟨S8192, .f32⟩
  | 47 => ⟨S8192x1, .f32⟩
  | 48 => ⟨S8192x256, .f32⟩
  | 49 => ⟨S8192x256, .f32⟩
  | 50 => ⟨S8192x1x256, .f32⟩
  | 51 => ⟨S8192x256, .f32⟩
  | 52 => ⟨S8192x256, .f32⟩
  | 53 => ⟨S8192x1x256, .f32⟩
  | 54 => ⟨S8192x256, .f32⟩
  | 55 => ⟨S_, .f32⟩
  | 56 => ⟨S_, .f32⟩
  | 57 => ⟨S8192x256, .f32⟩
  | 58 => ⟨S8192, .i32⟩
  | 59 => ⟨S_, .i32⟩
  | 60 => ⟨S8192, .i32⟩
  | 61 => ⟨S8192, .i32⟩
  | 62 => ⟨S_, .i32⟩
  | 63 => ⟨S8192, .i32⟩
  | 64 => ⟨S8192, .i32⟩
  | 65 => ⟨S8192, .f32⟩
  | 66 => ⟨S8192x1, .f32⟩
  | 67 => ⟨S8192x256, .f32⟩
  | 68 => ⟨S8192x256, .f32⟩
  | 69 => ⟨S8192x1x256, .f32⟩
  | 70 => ⟨S8192x256, .f32⟩
  | 71 => ⟨S8192x256, .f32⟩
  | 72 => ⟨S8192x1x256, .f32⟩
  | 73 => ⟨S8192x256, .f32⟩
  | 74 => ⟨S_, .f32⟩
  | 75 => ⟨S_, .f32⟩
  | 76 => ⟨S8192x256, .f32⟩
  | 77 => ⟨S8192, .i32⟩
  | 78 => ⟨S_, .i32⟩
  | 79 => ⟨S8192, .i32⟩
  | 80 => ⟨S8192, .i32⟩
  | 81 => ⟨S_, .i32⟩
  | 82 => ⟨S8192, .i32⟩
  | 83 => ⟨S8192, .i32⟩
  | 84 => ⟨S8192, .f32⟩
  | 85 => ⟨S8192x1, .f32⟩
  | 86 => ⟨S8192x256, .f32⟩
  | 87 => ⟨S8192x256, .f32⟩
  | 88 => ⟨S8192x1x256, .f32⟩
  | 89 => ⟨S8192x256, .f32⟩
  | 90 => ⟨S8192x256, .f32⟩
  | 91 => ⟨S8192x1x256, .f32⟩
  | 92 => ⟨S8192x256, .f32⟩
  | 93 => ⟨S_, .f32⟩
  | 94 => ⟨S_, .f32⟩
  | 95 => ⟨S8192x256, .f32⟩
  | 96 => ⟨S8192, .i32⟩
  | 97 => ⟨S_, .i32⟩
  | 98 => ⟨S8192, .i32⟩
  | 99 => ⟨S8192, .i32⟩
  | 100 => ⟨S_, .i32⟩
  | 101 => ⟨S8192, .i32⟩
  | 102 => ⟨S8192, .i32⟩
  | 103 => ⟨S8192, .f32⟩
  | 104 => ⟨S8192x1, .f32⟩
  | 105 => ⟨S8192x256, .f32⟩
  | 106 => ⟨S8192x256, .f32⟩
  | 107 => ⟨S8192x1x256, .f32⟩
  | 108 => ⟨S8192x256, .f32⟩
  | 109 => ⟨S8192x256, .f32⟩
  | 110 => ⟨S8192x1x256, .f32⟩
  | 111 => ⟨S8192x1x256, .f32⟩
  | 112 => ⟨S8192x1x256, .f32⟩
  | 113 => ⟨S8192x1x256, .f32⟩
  | 114 => ⟨S8192x4x256, .f32⟩
  | 115 => ⟨S4x256x8192, .f32⟩
  | 116 => ⟨S8192x4x256, .f32⟩
  | 117 => ⟨S8192x1024, .f32⟩
  | 118 => ⟨S1x1024, .f32⟩
  | 119 => ⟨S1x1024, .f32⟩
  | 120 => ⟨S8192x1024, .f32⟩
  | 121 => ⟨S8192x1024, .f32⟩
  | 122 => ⟨S8192x1024, .f32⟩
  | 123 => ⟨S_, .f32⟩
  | 124 => ⟨S8192, .f32⟩
  | 125 => ⟨S8192x1, .f32⟩
  | 126 => ⟨S_, .f32⟩
  | 127 => ⟨S8192x1, .f32⟩
  | _ => ⟨S8192x1024, .f32⟩

abbrev hbmTy0_1 (i : Nat) : BufTy := match i % 128 with
  | 0 => ⟨S8192x1, .f32⟩
  | 1 => ⟨S_, .f32⟩
  | 2 => ⟨S8192x1, .f32⟩
  | 3 => ⟨S8192x1, .f32⟩
  | 4 => ⟨S8192x1, .f32⟩
  | 5 => ⟨S8192x1024, .f32⟩
  | 6 => ⟨S8192x1024, .f32⟩
  | 7 => ⟨S1x1024, .f32⟩
  | 8 => ⟨S8192x1024, .f32⟩
  | 9 => ⟨S8192x1024, .f32⟩
  | 10 => ⟨S8192x1024, .f32⟩
  | 11 => ⟨S8192x1024, .f32⟩
  | 12 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c_6 : Ref sig .tc := ⟨.hbm, 59, rfl⟩
abbrev main_v43 : Ref sig .tc := ⟨.hbm, 60, rfl⟩
abbrev main_v44 : Ref sig .tc := ⟨.hbm, 61, rfl⟩
abbrev main_c_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_8 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_c_9 : Ref sig .tc := ⟨.hbm, 78, rfl⟩
abbrev main_v59 : Ref sig .tc := ⟨.hbm, 79, rfl⟩
abbrev main_v60 : Ref sig .tc := ⟨.hbm, 80, rfl⟩
abbrev main_c_10 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_11 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_c_12 : Ref sig .tc := ⟨.hbm, 97, rfl⟩
abbrev main_v75 : Ref sig .tc := ⟨.hbm, 98, rfl⟩
abbrev main_v76 : Ref sig .tc := ⟨.hbm, 99, rfl⟩
abbrev main_c_13 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_cst_14 : Ref sig .tc := ⟨.hbm, 123, rfl⟩
abbrev main_v99 : Ref sig .tc := ⟨.hbm, 124, rfl⟩
abbrev main_v100 : Ref sig .tc := ⟨.hbm, 125, rfl⟩
abbrev main_cst_15 : Ref sig .tc := ⟨.hbm, 126, rfl⟩
abbrev main_v101 : Ref sig .tc := ⟨.hbm, 127, rfl⟩
abbrev main_v102 : Ref sig .tc := ⟨.hbm, 128, rfl⟩
abbrev main_cst_16 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩

abbrev nD : Nat := 1
abbrev τ : Topo := Topo.v7x

variable {F : FTy → Type} [FloatOps F]
-- ==== FfnF.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S5632x1024 : Shape := ⟨2, ![5632, 1024]⟩
abbrev S2x4x704x1024 : Shape := ⟨4, ![2, 4, 704, 1024]⟩
abbrev S_ : Shape := ⟨0, ![]⟩
abbrev S8x5632 : Shape := ⟨2, ![8, 5632]⟩
abbrev S8x8x704 : Shape := ⟨3, ![8, 8, 704]⟩
abbrev S2x4x8x704 : Shape := ⟨4, ![2, 4, 8, 704]⟩
abbrev S1x1024 : Shape := ⟨2, ![1, 1024]⟩
abbrev S5x1024 : Shape := ⟨2, ![5, 1024]⟩
abbrev S3x1024 : Shape := ⟨2, ![3, 1024]⟩
abbrev S8x1024 : Shape := ⟨2, ![8, 1024]⟩
abbrev S2x4x8192x704 : Shape := ⟨4, ![2, 4, 8192, 704]⟩
abbrev S512x1024 : Shape := ⟨2, ![512, 1024]⟩
abbrev S2x1x704x1024 : Shape := ⟨4, ![2, 1, 704, 1024]⟩
abbrev S2x1x8x704 : Shape := ⟨4, ![2, 1, 8, 704]⟩
abbrev S704x1024 : Shape := ⟨2, ![704, 1024]⟩
abbrev S2x1x512x704 : Shape := ⟨4, ![2, 1, 512, 704]⟩
abbrev S512 : Shape := ⟨1, ![512]⟩
abbrev S512x1 : Shape := ⟨2, ![512, 1]⟩
abbrev S1x1x704x1024 : Shape := ⟨4, ![1, 1, 704, 1024]⟩
abbrev S512x704 : Shape := ⟨2, ![512, 704]⟩
abbrev S1x1x512x704 : Shape := ⟨4, ![1, 1, 512, 704]⟩
abbrev S1x1x8x704 : Shape := ⟨4, ![1, 1, 8, 704]⟩
abbrev S8x704 : Shape := ⟨2, ![8, 704]⟩
abbrev S1x704 : Shape := ⟨2, ![1, 704]⟩

abbrev nBuf : Space → Nat
  | .hbm => 36
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S2816x1024, .f32⟩
  | .hbm, ⟨9, _⟩ => ⟨S5632x1024, .f32⟩
  | .hbm, ⟨10, _⟩ => ⟨S2x4x704x1024, .f32⟩
  | .hbm, ⟨11, _⟩ => ⟨S2x4x704x1024, .bf16⟩
  | .hbm, ⟨12, _⟩ => ⟨S_, .i32⟩
  | .hbm, ⟨13, _⟩ => ⟨S_, .f32⟩
  | .hbm, ⟨14, _⟩ => ⟨S8x5632, .f32⟩
  | .hbm, ⟨15, _⟩ => ⟨S8x8x704, .f32⟩
  | .hbm, ⟨16, _⟩ => ⟨S8x8x704, .f32⟩
  | .hbm, ⟨17, _⟩ => ⟨S2x4x8x704, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S5x1024, .f32⟩
  | .hbm, ⟨27, _⟩ => ⟨S_, .f32⟩
  | .hbm, ⟨28, _⟩ => ⟨S3x1024, .f32⟩
  | .hbm, ⟨29, _⟩ => ⟨S8x1024, .f32⟩
  | .hbm, ⟨30, _⟩ => ⟨S2816x1024, .bf16⟩
  | .hbm, ⟨31, _⟩ => ⟨S8192x1024, .f32⟩
  | .hbm, ⟨32, _⟩ => ⟨S8192x1024, .f32⟩
  | .hbm, ⟨33, _⟩ => ⟨S8192x1024, .bf16⟩
  | .hbm, ⟨34, _⟩ => ⟨S2x4x8192x704, .bf16⟩
  | .hbm, ⟨35, _⟩ => ⟨S2x4x8192x704, .bf16⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S2x1x704x1024, .bf16⟩
  | .local _ .vmem, ⟨4, _⟩ => ⟨S2x1x704x1024, .bf16⟩
  | .local _ .vmem, ⟨5, _⟩ => ⟨S2x1x8x704, .f32⟩
  | .local _ .vmem, ⟨6, _⟩ => ⟨S2x1x8x704, .f32⟩
  | .local _ .vmem, ⟨7, _⟩ => ⟨S704x1024, .bf16⟩
  | .local _ .vmem, ⟨8, _⟩ => ⟨S704x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S2x1x512x704, .bf16⟩
  | .local _ .vmem, ⟨16, _⟩ => ⟨S2x1x512x704, .bf16⟩
  | .local _ .vmem, ⟨17, _⟩ => ⟨S2x1x512x704, .bf16⟩
  | .local _ .vmem, ⟨18, _⟩ => ⟨S2x1x512x704, .bf16⟩
  | .local _ .vmem, ⟨19, _⟩ => ⟨S512x1024, .bf16⟩
  | .local _ .vmem, ⟨20, _⟩ => ⟨S512x1024, .f32⟩
  | .local _ .vmem, ⟨21, _⟩ => ⟨S2x4x8x704, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18_0 : Ref sig .tc := ⟨.hbm, 31, rfl⟩
abbrev main_v18_1 : Ref sig .tc := ⟨.hbm, 32, rfl⟩
abbrev main_v18_2 : Ref sig .tc := ⟨.hbm, 33, rfl⟩
abbrev main_v18_3 : Ref sig .tc := ⟨.hbm, 34, rfl⟩
abbrev main_v18_4 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![16, 4], ![false, false]⟩

def k0_off1 (i : grid0.Coords) : Fin 4 → Nat :=
  let c0_13 : Index := 0#32
  let arg1 : BitVec 32 := BitVec.ofNat 32 (i 1).val
  let v16 : Index := Scalar.indexCast arg1
  let c0_14 : Index := 0#32
  let c0_15 : Index := 0#32
  ![0, v16.toNat, 0, 0]
def k0_off2 (i : grid0.Coords) : Fin 4 → Nat :=
  let c1_38 : Index := 1#32
  let arg1 : BitVec 32 := BitVec.ofNat 32 (i 1).val
  let v70 : Index := Scalar.indexCast arg1
  let c0_39 : Index := 0#32
  let c0_40 : Index := 0#32
  ![1, v70.toNat, 0, 0]
def k0_cond3 (i : grid0.Coords) : BitVec 1 :=
  let arg1 : BitVec 32 := BitVec.ofNat 32 (i 1).val
  let c3_i32 : BitVec 32 := 3#32
  let v135 : BitVec 1 := Scalar.cmpi .eq arg1 c3_i32
  let v136 : BitVec 32 := Scalar.extui v135
  let c0_i32_67 : BitVec 32 := 0#32
  let v137 : BitVec 1 := Scalar.cmpi .ne v136 c0_i32_67
  v137

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1x8x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x1x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x1x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnFRefIdeal.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S2x5632 : Shape := ⟨2, ![2, 5632]⟩
abbrev S8194x5632 : Shape := ⟨2, ![8194, 5632]⟩
abbrev S1x5632 : Shape := ⟨2, ![1, 5632]⟩
abbrev S5632 : Shape := ⟨1, ![5632]⟩
abbrev S8192x2816 : Shape := ⟨2, ![8192, 2816]⟩
abbrev S8192x2x4x704 : Shape := ⟨4, ![8192, 2, 4, 704]⟩
abbrev S2x4x8192x704 : Shape := ⟨4, ![2, 4, 8192, 704]⟩

abbrev nBuf : Space → Nat
  | .hbm => 101
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S2816x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x5632, .f32⟩
  | .hbm, ⟨35, _⟩ => ⟨S_, .f32⟩
  | .hbm, ⟨36, _⟩ => ⟨S2x5632, .f32⟩
  | .hbm, ⟨37, _⟩ => ⟨S8194x5632, .f32⟩
  | .hbm, ⟨38, _⟩ => ⟨S8192x5632, .f32⟩
  | .hbm, ⟨39, _⟩ => ⟨S1x5632, .f32⟩
  | .hbm, ⟨40, _⟩ => ⟨S5632, .f32⟩
  | .hbm, ⟨41, _⟩ => ⟨S1x5632, .f32⟩
  | .hbm, ⟨42, _⟩ => ⟨S8192x5632, .f32⟩
  | .hbm, ⟨43, _⟩ => ⟨S8192x5632, .f32⟩
  | .hbm, ⟨44, _⟩ => ⟨S_, .f32⟩
  | .hbm, ⟨45, _⟩ => ⟨S8192x5632, .f32⟩
  | .hbm, ⟨46, _⟩ => ⟨S8192x5632, .f32⟩
  | .hbm, ⟨47, _⟩ => ⟨S8192x5632, .f32⟩
  | .hbm, ⟨48, _⟩ => ⟨S1x5632, .f32⟩
  | .hbm, ⟨49, _⟩ => ⟨S5632, .f32⟩
  | .hbm, ⟨50, _⟩ => ⟨S1x5632, .f32⟩
  | .hbm, ⟨51, _⟩ => ⟨S8192x5632, .f32⟩
  | .hbm, ⟨52, _⟩ => ⟨S8192x5632, .f32⟩
  | .hbm, ⟨53, _⟩ => ⟨S8192x5632, .f32⟩
  | .hbm, ⟨54, _⟩ => ⟨S8192x5632, .f32⟩
  | .hbm, ⟨55, _⟩ => ⟨S1x5632, .f32⟩
  | .hbm, ⟨56, _⟩ => ⟨S5632, .f32⟩
  | .hbm, ⟨57, _⟩ => ⟨S1x5632, .f32⟩
  | .hbm, ⟨58, _⟩ => ⟨S8192x5632, .f32⟩
  | .hbm, ⟨59, _⟩ => ⟨S8192x5632, .f32⟩
  | .hbm, ⟨60, _⟩ => ⟨S8192x5632, .f32⟩
  | .hbm, ⟨61, _⟩ => ⟨S8192x2816, .f32⟩
  | .hbm, ⟨62, _⟩ => ⟨S8192x2816, .f32⟩
  | .hbm, ⟨63, _⟩ => ⟨S8192x2816, .f32⟩
  | .hbm, ⟨64, _⟩ => ⟨S8192x2816, .f32⟩
  | .hbm, ⟨65, _⟩ => ⟨S_, .f32⟩
  | .hbm, ⟨66, _⟩ => ⟨S8192x2816, .f32⟩
  | .hbm, ⟨67, _⟩ => ⟨S8192x2816, .f32⟩
  | .hbm, ⟨68, _⟩ => ⟨S_, .f32⟩
  | .hbm, ⟨69, _⟩ => ⟨S8192x2816, .f32⟩
  | .hbm, ⟨70, _⟩ => ⟨S8192x2816, .f32⟩
  | .hbm, ⟨71, _⟩ => ⟨S8192x2816, .f32⟩
  | .hbm, ⟨72, _⟩ => ⟨S8192x2816, .f32⟩
  | .hbm, ⟨73, _⟩ => ⟨S8192x1024, .f32⟩
  | .hbm, ⟨74, _⟩ => ⟨S1x1024, .f32⟩
  | .hbm, ⟨75, _⟩ => ⟨S8192x1024, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S_, .f32⟩
  | .hbm, ⟨83, _⟩ => ⟨S8192x1, .f32⟩
  | .hbm, ⟨84, _⟩ => ⟨S8192x1, .f32⟩
  | .hbm, ⟨85, _⟩ => ⟨S8192x1, .f32⟩
  | .hbm, ⟨86, _⟩ => ⟨S8192x1024, .f32⟩
  | .hbm, ⟨87, _⟩ => ⟨S8192x1024, .f32⟩
  | .hbm, ⟨88, _⟩ => ⟨S1x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x1024, .bf16⟩
  | .hbm, ⟨95, _⟩ => ⟨S8192x2x4x704, .f32⟩
  | .hbm, ⟨96, _⟩ => ⟨S2x4x8192x704, .f32⟩
  | .hbm, ⟨97, _⟩ => ⟨S2x4x8192x704, .bf16⟩
  | .hbm, ⟨98, _⟩ => ⟨S8192x2x4x704, .f32⟩
  | .hbm, ⟨99, _⟩ => ⟨S2x4x8192x704, .f32⟩
  | .hbm, ⟨100, _⟩ => ⟨S2x4x8192x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_call0_v5 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_5 : Ref sig .tc := ⟨.hbm, 76, rfl⟩
abbrev main_v53 : Ref sig .tc := ⟨.hbm, 77, rfl⟩
abbrev main_v54 : Ref sig .tc := ⟨.hbm, 78, rfl⟩
abbrev main_cst_6 : Ref sig .tc := ⟨.hbm, 79, rfl⟩
abbrev main_v55 : Ref sig .tc := ⟨.hbm, 80, rfl⟩
abbrev main_v56 : Ref sig .tc := ⟨.hbm, 81, rfl⟩
abbrev main_cst_7 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩

abbrev nD : Nat := 1
abbrev τ : Topo := Topo.v7x

variable {F : FTy → Type} [FloatOps F]
-- ==== Proof.Reals.lean ====
module

public import Idealize.ShloMosaic.Lib.Pipeline.ValueKit
public import Idealize.ShloMosaic.Lib.Pointwise
public import Idealize.ShloMosaic.Lib.ReduceAll
public import Idealize.ShloMosaic.Lib.IdealHost
public import Idealize.ShloMosaic.Lib.Affine
public import Mathlib.Tactic.FieldSimp

/-! Real numbers inside the extended reals: the values of finite arrays, the constants the programs share, and the
    operations on finite values. -/

@[expose] public section

noncomputable section

namespace Cert.Reals

open Idealize.ShloMosaic

/-- A finite sum of reals, taken among the extended reals. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The programs' `1e-6`, as the 32-bit format rounds it. -/
def eps : ℝ := 8796093 / 2 ^ 43

theorem eps_pos : 0 < eps := by unfold eps; norm_num

theorem ofBits_eps : Ideal.ofBits .f32 0x358637BD#32 = ((eps : ℝ) : EReal) := by
  unfold eps
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; try norm_num

theorem ofBits_neg_half : Ideal.ofBits .f32 0xBF000000#32 = ((-(1 / 2) : ℝ) : EReal) := by
  simp [Ideal.ofBits, Ideal.ieee, -EReal.coe_mul]; try norm_num

theorem ofBits_inv1024 : Ideal.ofBits .f32 0x3A800000#32 = ((1 / 1024 : ℝ) : EReal) := by
  simp [Ideal.ofBits, Ideal.ieee, -EReal.coe_mul]; try norm_num

theorem ofBits_inv2048 : Ideal.ofBits .f32 0x3A000000#32 = ((1 / 2048 : ℝ) : EReal) := by
  simp [Ideal.ofBits, Ideal.ieee, -EReal.coe_mul]; try norm_num

theorem ofBits_half : Ideal.ofBits .f32 0x3F000000#32 = ((1 / 2 : ℝ) : EReal) := by
  simp [Ideal.ofBits, Ideal.ieee, -EReal.coe_mul]; try norm_num

theorem ofBits_two : Ideal.ofBits .f32 0x40000000#32 = ((2 : ℝ) : EReal) := by
  simp [Ideal.ofBits, Ideal.ieee, -EReal.coe_mul]; try norm_num

theorem ofBits_one : Ideal.ofBits .f32 0x3F800000#32 = ((1 : ℝ) : EReal) := by
  simp [Ideal.ofBits, Ideal.ieee, -EReal.coe_mul]; try norm_num

theorem ofBits_inf : Ideal.ofBits .f32 0x7F800000#32 = ⊤ := by
  simp [Ideal.ofBits, Ideal.ieee]

/-- A quotient of reals, the divisor not zero. -/
theorem div_real (x y : ℝ) (h : y ≠ 0) : Ideal.div (x : EReal) (y : EReal) = ((x / y : ℝ) : EReal) := by
  rw [Ideal.div_coe h, ← EReal.coe_mul, mul_one_div]

/-- The reciprocal root of a positive real. -/
theorem rsqrt_real (x : ℝ) (h : 0 < x) : Ideal.rsqrt (x : EReal) = (((√x)⁻¹ : ℝ) : EReal) := by
  rw [Ideal.rsqrt_coe, if_neg (not_lt.2 h.le), if_neg h.ne']

/-- An extended real whose magnitude is below infinity is its real part. -/
theorem eq_coe_of_abs_lt {x : EReal} (h : max x (-x) < ⊤) : x = ((x.toReal : ℝ) : EReal) := by
  refine (EReal.coe_toReal ?_ ?_).symm
  · rintro rfl; simp at h
  · rintro rfl; simp at h

theorem eq_coe_of_cmpf {s : Shape} (x y : FVec Ideal s .f32) (i : s.Idx) (hy : y i = Ideal.ofBits .f32 0x7F800000#32)
    (h : cmpf (F := Ideal) .olt (Host.absf x) y i = 1#1) : x i = ((x i).toReal : EReal) := by
  apply eq_coe_of_abs_lt
  pointwise at h
  rw [hy, ofBits_inf] at h
  by_contra hn
  rw [decide_eq_false (by exact hn)] at h
  exact absurd h (by decide)

/-- One array's part of a precondition: where all magnitudes are below infinity, every element is a real. -/
theorem finite_of_all {s u : Shape} {axes : List (Fin s.rank)} (x y : FVec Ideal s .f32) (hy : ∀ i, y i = Ideal.ofBits .f32 0x7F800000#32)
    (init : IVec u 1) {t : Shape} (hr : s.ReducesTo axes t) (hu : 0 < u.numel) (j : t.Idx) (ht : t = ⟨0, ![]⟩)
    (h : Host.reduce IntOp.andi (cmpf (F := Ideal) .olt (Host.absf x) y) init hr hu j = 1#1) (i : s.Idx) :
    x i = ((x i).toReal : EReal) := by
  subst ht
  haveI : Subsingleton (⟨0, ![]⟩ : Shape).Idx := ⟨fun a b => funext fun q => q.elim0⟩
  exact eq_coe_of_cmpf x y i (hy i) (Host.reduce_andi_all _ _ _ _ _ h i)

/-! ## The root mean square of a row -/

/-- The mean square of a row, the programs' `1e-6` added. -/
def ms (x : Fin 1024 → ℝ) : ℝ := (∑ k, x k * x k) / 1024 + eps

theorem ms_pos (x : Fin 1024 → ℝ) : 0 < ms x :=
  add_pos_of_nonneg_of_pos (div_nonneg (Finset.sum_nonneg fun k _ => mul_self_nonneg (x k)) (by norm_num)) eps_pos

/-- Its reciprocal root. -/
def rinv (x : Fin 1024 → ℝ) : ℝ := (√(ms x))⁻¹

theorem rinv_mul_self (x : Fin 1024 → ℝ) : rinv x * rinv x * ms x = 1 := by
  unfold rinv
  rw [← mul_inv, Real.mul_self_sqrt (ms_pos x).le, inv_mul_cancel₀ (ms_pos x).ne']

theorem rsqrt_ms (x : Fin 1024 → ℝ) : Ideal.rsqrt (((∑ k, x k * x k) / 1024 + eps : ℝ) : EReal) = ((rinv x : ℝ) : EReal) :=
  rsqrt_real _ (ms_pos x)

theorem div_ms (a : ℝ) (x : Fin 1024 → ℝ) :
    Ideal.div (a : EReal) (((∑ k, x k * x k) / 1024 + eps : ℝ) : EReal) = ((a / ms x : ℝ) : EReal) :=
  div_real _ _ (ms_pos x).ne'

theorem div_1024 (a : ℝ) : Ideal.div (a : EReal) ((1024 : ℝ) : EReal) = ((a / 1024 : ℝ) : EReal) :=
  div_real _ _ (by norm_num)

/-- The gradient through `x ↦ x * rinv x` of the cotangent `g`, at one element of the row. -/
def normBwd (x g : Fin 1024 → ℝ) (l : Fin 1024) : ℝ :=
  rinv x * (g l - x l * rinv x * ((∑ k, g k * (x k * rinv x)) / 1024))

/-- The same gradient as the derivative rules write it: the product's two factors apart, the reciprocal root's
    derivative by its own quotient. -/
theorem vjp_eq_normBwd (x g : Fin 1024 → ℝ) (l : Fin 1024) :
    g l * rinv x + x l * ((∑ k, x k * g k) * (-(1 / 2) * (rinv x / ms x)) / 1024)
      + (∑ k, x k * g k) * (-(1 / 2) * (rinv x / ms x)) / 1024 * x l = normBwd x g l := by
  have hs : ∑ k, g k * (x k * rinv x) = (∑ k, x k * g k) * rinv x := by
    rw [Finset.sum_mul]
    exact Finset.sum_congr rfl fun k _ => by ring
  have hd : rinv x / ms x = rinv x * (rinv x * rinv x) := by
    rw [div_eq_iff (ms_pos x).ne', mul_assoc, rinv_mul_self, mul_one]
  rw [normBwd, hs, hd]
  ring

end Cert.Reals
-- ==== Proof.Rows.lean ====
module

public import Idealize.ShloMosaic.Lib.Pipeline.ValueKit
public import Idealize.ShloMosaic.Lib.Pipeline.RowLoads
public import Idealize.ShloMosaic.Lib.WritesUnit
public import Idealize.ShloMosaic.Lib.Pointwise

/-! Rows stored one at a time into a block: what the block holds afterwards, row by row. -/

@[expose] public section

noncomputable section

namespace Cert.Rows

open Idealize.ShloMosaic Idealize.ShloMosaic.View

variable {Val : EltTy → Type} [∀ e, Nonempty (Val e)] {e : EltTy} {m n : Nat} {sig : RefSig} {κ : Kind} {sp : Space}

/-- The stored row reads what was stored. -/
theorem read_hit (v : View sig κ sp (⟨2, ![m, n]⟩ : Shape) e) (f : v.ty.Contents Val) (r : Fin m)
    (inb : ∀ a, (![r.val, 0] : Fin 2 → Nat) a + (⟨2, ![1, n]⟩ : Shape).size a ≤ (⟨2, ![m, n]⟩ : Shape).size a)
    (w : (⟨2, ![1, n]⟩ : Shape).Idx → Val e) (L : List (Piece Val (⟨2, ![m, n]⟩ : Shape) e)) (l : Fin n) :
    v.read Val (v.writes Val f ((⟨Rect.unit (s := (⟨2, ![m, n]⟩ : Shape)) ![r.val, 0] (⟨2, ![1, n]⟩ : Shape).size inb, w⟩ : Piece Val (⟨2, ![m, n]⟩ : Shape) e) :: L)) (ix2 r l)
      = w (ix2 0 l) :=
  read_writes_cons_rows_of_mem v f inb w L (ix2 r l) (ix2 0 l) rfl rfl rfl

/-- Another row reads what was there before. -/
theorem read_miss (v : View sig κ sp (⟨2, ![m, n]⟩ : Shape) e) (f : v.ty.Contents Val) (o : ℕ) (r : Fin m) (h : r.val ≠ o)
    (inb : ∀ a, (![o, 0] : Fin 2 → Nat) a + (⟨2, ![1, n]⟩ : Shape).size a ≤ (⟨2, ![m, n]⟩ : Shape).size a)
    (w : (⟨2, ![1, n]⟩ : Shape).Idx → Val e) (L : List (Piece Val (⟨2, ![m, n]⟩ : Shape) e)) (l : Fin n) :
    v.read Val (v.writes Val f ((⟨Rect.unit (s := (⟨2, ![m, n]⟩ : Shape)) ![o, 0] (⟨2, ![1, n]⟩ : Shape).size inb, w⟩ : Piece Val (⟨2, ![m, n]⟩ : Shape) e) :: L)) (ix2 r l)
      = v.read Val (v.writes Val f L) (ix2 r l) :=
  read_writes_cons_rows_of_not_mem v f inb w L (ix2 r l) rfl rfl (by
    show r.val < o ∨ o + 1 ≤ r.val
    omega)

theorem canon_hit (r : Fin m)
    (inb : ∀ a, (![r.val, 0] : Fin 2 → Nat) a + (⟨2, ![1, n]⟩ : Shape).size a ≤ (⟨2, ![m, n]⟩ : Shape).size a)
    (w : (⟨2, ![1, n]⟩ : Shape).Idx → Val e) (L : List (Piece Val (⟨2, ![m, n]⟩ : Shape) e)) (l : Fin n) :
    canon ((⟨Rect.unit (s := (⟨2, ![m, n]⟩ : Shape)) ![r.val, 0] (⟨2, ![1, n]⟩ : Shape).size inb, w⟩ : Piece Val (⟨2, ![m, n]⟩ : Shape) e) :: L) (ix2 r l)
      = w (ix2 0 l) := by
  have hy : (Rect.unit (s := (⟨2, ![m, n]⟩ : Shape)) ![r.val, 0] (⟨2, ![1, n]⟩ : Shape).size inb).emb (ix2 (0 : Fin 1) l) = ix2 r l := by
    funext a; apply Fin.ext
    fin_cases a
    · show r.val + 1 * 0 = r.val; omega
    · show 0 + 1 * l.val = l.val; omega
  rw [canon_cons, ← hy]
  exact Rect.overlay_emb _ _ _ _

theorem canon_miss (o : ℕ) (r : Fin m) (h : r.val ≠ o)
    (inb : ∀ a, (![o, 0] : Fin 2 → Nat) a + (⟨2, ![1, n]⟩ : Shape).size a ≤ (⟨2, ![m, n]⟩ : Shape).size a)
    (w : (⟨2, ![1, n]⟩ : Shape).Idx → Val e) (L : List (Piece Val (⟨2, ![m, n]⟩ : Shape) e)) (l : Fin n) :
    canon ((⟨Rect.unit (s := (⟨2, ![m, n]⟩ : Shape)) ![o, 0] (⟨2, ![1, n]⟩ : Shape).size inb, w⟩ : Piece Val (⟨2, ![m, n]⟩ : Shape) e) :: L) (ix2 r l)
      = canon L (ix2 r l) := by
  rw [canon_cons]
  refine Rect.overlay_of_not_mem _ _ _ ?_
  rw [Rect.mem_set_unit]
  intro hall
  have h1 : o ≤ r.val ∧ r.val < o + 1 := hall 0
  omega

/-- One row loaded from the stores' contents. -/
theorem readCov_row (v : View sig κ sp (⟨2, ![m, n]⟩ : Shape) e) (L : List (Piece Val (⟨2, ![m, n]⟩ : Shape) e)) (r : Fin m)
    (inb : ∀ a, (![r.val, 0] : Fin 2 → Nat) a + (⟨2, ![1, n]⟩ : Shape).size a ≤ (⟨2, ![m, n]⟩ : Shape).size a) (l : Fin n) :
    v.readCov L (Rect.unit (s := (⟨2, ![m, n]⟩ : Shape)) ![r.val, 0] (⟨2, ![1, n]⟩ : Shape).size inb).toLoadRect (ix2 0 l)
      = canon L (ix2 r l) := by
  rw [readCov_eq_canon']
  refine congrArg (canon L) ?_
  funext a; apply Fin.ext
  fin_cases a
  · show r.val + 1 * 0 = r.val; omega
  · show 0 + 1 * l.val = l.val; omega

/-- One row loaded from a block's contents. -/
theorem ld_row (X : (⟨2, ![m, n]⟩ : Shape).Idx → Val e) (r : Fin m)
    (inb : ∀ a, (![r.val, 0] : Fin 2 → Nat) a + (⟨2, ![1, n]⟩ : Shape).size a ≤ (⟨2, ![m, n]⟩ : Shape).size a) (l : Fin n) :
    (View.ld X (Rect.unit (s := (⟨2, ![m, n]⟩ : Shape)) ![r.val, 0] (⟨2, ![1, n]⟩ : Shape).size inb) : (⟨2, ![1, n]⟩ : Shape).Idx → Val e) (ix2 0 l)
      = X (ix2 r l) := by
  refine congrArg X ?_
  funext a; apply Fin.ext
  fin_cases a
  · show r.val + 1 * 0 = r.val; omega
  · show 0 + 1 * l.val = l.val; omega

/-- One slab loaded from a stack of them. -/
theorem ld_slab {a : Nat} (X : (⟨3, ![a, m, n]⟩ : Shape).Idx → Val e) (s : Fin a)
    (inb : ∀ q, (![s.val, 0, 0] : Fin 3 → Nat) q + (⟨3, ![1, m, n]⟩ : Shape).size q ≤ (⟨3, ![a, m, n]⟩ : Shape).size q) (r : Fin m) (l : Fin n) :
    (View.ld X (Rect.unit (s := (⟨3, ![a, m, n]⟩ : Shape)) ![s.val, 0, 0] (⟨3, ![1, m, n]⟩ : Shape).size inb) : (⟨3, ![1, m, n]⟩ : Shape).Idx → Val e) (ix3 0 r l)
      = X (ix3 s r l) := by
  refine congrArg X ?_
  funext q; apply Fin.ext
  fin_cases q
  · show s.val + 1 * 0 = s.val; omega
  · show 0 + 1 * r.val = r.val; omega
  · show 0 + 1 * l.val = l.val; omega

/-- Before the rows, the whole block stored. -/
theorem canon_whole (inb : ∀ a, (![0, 0] : Fin 2 → Nat) a + (⟨2, ![m, n]⟩ : Shape).size a ≤ (⟨2, ![m, n]⟩ : Shape).size a)
    (w : (⟨2, ![m, n]⟩ : Shape).Idx → Val e) (L : List (Piece Val (⟨2, ![m, n]⟩ : Shape) e)) (r : Fin m) (l : Fin n) :
    canon ((⟨Rect.unit (s := (⟨2, ![m, n]⟩ : Shape)) ![0, 0] (⟨2, ![m, n]⟩ : Shape).size inb, w⟩ : Piece Val (⟨2, ![m, n]⟩ : Shape) e) :: L) (ix2 r l)
      = w (ix2 r l) :=
  congrFun (canon_cons_unit_zero (by funext a; fin_cases a <;> rfl) inb w L) (ix2 r l)

/-! ## Blocks of columns and rows -/

variable {a b h w : Nat}

/-- A stored block of a matrix reads what was stored. -/
theorem read_rect_hit (v : View sig κ sp (⟨2, ![m, n]⟩ : Shape) e) (f : v.ty.Contents Val)
    (inb : ∀ q, (![a, b] : Fin 2 → Nat) q + (![h, w] : Fin 2 → Nat) q ≤ (⟨2, ![m, n]⟩ : Shape).size q)
    (x : (⟨2, ![h, w]⟩ : Shape).Idx → Val e) (L : List (Piece Val (⟨2, ![m, n]⟩ : Shape) e)) (r : Fin h) (l : Fin w) (i : Fin m) (j : Fin n)
    (hi : i.val = a + r.val) (hj : j.val = b + l.val) :
    v.read Val (v.writes Val f ((⟨Rect.unit (s := (⟨2, ![m, n]⟩ : Shape)) ![a, b] ![h, w] inb, x⟩ : Piece Val (⟨2, ![m, n]⟩ : Shape) e) :: L)) (ix2 i j)
      = x (ix2 r l) :=
  read_writes_cons_unit_of_mem v f inb x L (ix2 i j) (ix2 r l) rfl (fun q => by
    match q with
    | ⟨0, _⟩ => exact hi
    | ⟨1, _⟩ => exact hj)

theorem read_rect_miss (v : View sig κ sp (⟨2, ![m, n]⟩ : Shape) e) (f : v.ty.Contents Val)
    (inb : ∀ q, (![a, b] : Fin 2 → Nat) q + (![h, w] : Fin 2 → Nat) q ≤ (⟨2, ![m, n]⟩ : Shape).size q)
    (x : (⟨2, ![h, w]⟩ : Shape).Idx → Val e) (L : List (Piece Val (⟨2, ![m, n]⟩ : Shape) e)) (i : Fin m) (j : Fin n)
    (ho : i.val < a ∨ a + h ≤ i.val ∨ j.val < b ∨ b + w ≤ j.val) :
    v.read Val (v.writes Val f ((⟨Rect.unit (s := (⟨2, ![m, n]⟩ : Shape)) ![a, b] ![h, w] inb, x⟩ : Piece Val (⟨2, ![m, n]⟩ : Shape) e) :: L)) (ix2 i j)
      = v.read Val (v.writes Val f L) (ix2 i j) := by
  by_cases h0 : i.val < a ∨ a + h ≤ i.val
  · exact read_writes_cons_unit_of_not_mem v f inb x L (ix2 i j) rfl 0 h0
  · exact read_writes_cons_unit_of_not_mem v f inb x L (ix2 i j) rfl 1 (show j.val < b ∨ b + w ≤ j.val by omega)

theorem canon_rect_hit (inb : ∀ q, (![a, b] : Fin 2 → Nat) q + (![h, w] : Fin 2 → Nat) q ≤ (⟨2, ![m, n]⟩ : Shape).size q)
    (x : (⟨2, ![h, w]⟩ : Shape).Idx → Val e) (L : List (Piece Val (⟨2, ![m, n]⟩ : Shape) e)) (r : Fin h) (l : Fin w) (i : Fin m) (j : Fin n)
    (hi : i.val = a + r.val) (hj : j.val = b + l.val) :
    canon ((⟨Rect.unit (s := (⟨2, ![m, n]⟩ : Shape)) ![a, b] ![h, w] inb, x⟩ : Piece Val (⟨2, ![m, n]⟩ : Shape) e) :: L) (ix2 i j)
      = x (ix2 r l) := by
  have hy : (Rect.unit (s := (⟨2, ![m, n]⟩ : Shape)) ![a, b] ![h, w] inb).emb (ix2 r l) = ix2 i j := by
    funext q; apply Fin.ext
    fin_cases q
    · show a + 1 * r.val = i.val; omega
    · show b + 1 * l.val = j.val; omega
  rw [canon_cons, ← hy]
  exact Rect.overlay_emb _ _ _ _

theorem canon_rect_miss (inb : ∀ q, (![a, b] : Fin 2 → Nat) q + (![h, w] : Fin 2 → Nat) q ≤ (⟨2, ![m, n]⟩ : Shape).size q)
    (x : (⟨2, ![h, w]⟩ : Shape).Idx → Val e) (L : List (Piece Val (⟨2, ![m, n]⟩ : Shape) e)) (i : Fin m) (j : Fin n)
    (ho : i.val < a ∨ a + h ≤ i.val ∨ j.val < b ∨ b + w ≤ j.val) :
    canon ((⟨Rect.unit (s := (⟨2, ![m, n]⟩ : Shape)) ![a, b] ![h, w] inb, x⟩ : Piece Val (⟨2, ![m, n]⟩ : Shape) e) :: L) (ix2 i j)
      = canon L (ix2 i j) := by
  rw [canon_cons]
  refine Rect.overlay_of_not_mem _ _ _ ?_
  rw [Rect.mem_set_unit]
  intro hall
  have h0 : a ≤ i.val ∧ i.val < a + h := hall 0
  have h1 : b ≤ j.val ∧ j.val < b + w := hall 1
  omega

/-- A block loaded from the stores' contents. -/
theorem readCov_rect (v : View sig κ sp (⟨2, ![m, n]⟩ : Shape) e) (L : List (Piece Val (⟨2, ![m, n]⟩ : Shape) e))
    (inb : ∀ q, (![a, b] : Fin 2 → Nat) q + (![h, w] : Fin 2 → Nat) q ≤ (⟨2, ![m, n]⟩ : Shape).size q) (r : Fin h) (l : Fin w) (i : Fin m) (j : Fin n)
    (hi : i.val = a + r.val) (hj : j.val = b + l.val) :
    (v.readCov L (Rect.unit (s := (⟨2, ![m, n]⟩ : Shape)) ![a, b] ![h, w] inb).toLoadRect : (⟨2, ![h, w]⟩ : Shape).Idx → Val e) (ix2 r l) = canon L (ix2 i j) := by
  rw [readCov_eq_canon']
  refine congrArg (canon L) ?_
  funext q; apply Fin.ext
  fin_cases q
  · show a + 1 * r.val = i.val; omega
  · show b + 1 * l.val = j.val; omega

/-- A block loaded from a matrix. -/
theorem ld_rect (X : (⟨2, ![m, n]⟩ : Shape).Idx → Val e)
    (inb : ∀ q, (![a, b] : Fin 2 → Nat) q + (![h, w] : Fin 2 → Nat) q ≤ (⟨2, ![m, n]⟩ : Shape).size q) (r : Fin h) (l : Fin w) (i : Fin m) (j : Fin n)
    (hi : i.val = a + r.val) (hj : j.val = b + l.val) :
    (View.ld X (Rect.unit (s := (⟨2, ![m, n]⟩ : Shape)) ![a, b] ![h, w] inb) : (⟨2, ![h, w]⟩ : Shape).Idx → Val e) (ix2 r l) = X (ix2 i j) := by
  refine congrArg X ?_
  funext q; apply Fin.ext
  fin_cases q
  · show a + 1 * r.val = i.val; omega
  · show b + 1 * l.val = j.val; omega

/-! ## Slabs stored into a stack -/

variable {p : Nat}

theorem canon_slab_hit (s : Fin p) (inb : ∀ q, (![s.val, 0, 0] : Fin 3 → Nat) q + (![1, m, n] : Fin 3 → Nat) q ≤ (⟨3, ![p, m, n]⟩ : Shape).size q)
    (x : (⟨3, ![1, m, n]⟩ : Shape).Idx → Val e) (L : List (Piece Val (⟨3, ![p, m, n]⟩ : Shape) e)) (r : Fin m) (l : Fin n) :
    canon ((⟨Rect.unit (s := (⟨3, ![p, m, n]⟩ : Shape)) ![s.val, 0, 0] ![1, m, n] inb, x⟩ : Piece Val (⟨3, ![p, m, n]⟩ : Shape) e) :: L) (ix3 s r l)
      = x (ix3 0 r l) := by
  have hy : (Rect.unit (s := (⟨3, ![p, m, n]⟩ : Shape)) ![s.val, 0, 0] ![1, m, n] inb).emb (ix3 0 r l) = ix3 s r l := by
    funext q; apply Fin.ext
    fin_cases q
    · show s.val + 1 * 0 = s.val; omega
    · show 0 + 1 * r.val = r.val; omega
    · show 0 + 1 * l.val = l.val; omega
  rw [canon_cons, ← hy]
  exact Rect.overlay_emb _ _ _ _

theorem canon_slab_miss (o : ℕ) (s : Fin p) (hs : s.val ≠ o) (inb : ∀ q, (![o, 0, 0] : Fin 3 → Nat) q + (![1, m, n] : Fin 3 → Nat) q ≤ (⟨3, ![p, m, n]⟩ : Shape).size q)
    (x : (⟨3, ![1, m, n]⟩ : Shape).Idx → Val e) (L : List (Piece Val (⟨3, ![p, m, n]⟩ : Shape) e)) (r : Fin m) (l : Fin n) :
    canon ((⟨Rect.unit (s := (⟨3, ![p, m, n]⟩ : Shape)) ![o, 0, 0] ![1, m, n] inb, x⟩ : Piece Val (⟨3, ![p, m, n]⟩ : Shape) e) :: L) (ix3 s r l)
      = canon L (ix3 s r l) := by
  rw [canon_cons]
  refine Rect.overlay_of_not_mem _ _ _ ?_
  rw [Rect.mem_set_unit]
  intro hall
  have h0 : o ≤ s.val ∧ s.val < o + 1 := hall 0
  omega

/-- One slab loaded from the stores' contents. -/
theorem readCov_slab (v : View sig κ sp (⟨3, ![p, m, n]⟩ : Shape) e) (L : List (Piece Val (⟨3, ![p, m, n]⟩ : Shape) e)) (s : Fin p)
    (inb : ∀ q, (![s.val, 0, 0] : Fin 3 → Nat) q + (![1, m, n] : Fin 3 → Nat) q ≤ (⟨3, ![p, m, n]⟩ : Shape).size q) (r : Fin m) (l : Fin n) :
    (v.readCov L (Rect.unit (s := (⟨3, ![p, m, n]⟩ : Shape)) ![s.val, 0, 0] ![1, m, n] inb).toLoadRect : (⟨3, ![1, m, n]⟩ : Shape).Idx → Val e) (ix3 0 r l)
      = canon L (ix3 s r l) := by
  rw [readCov_eq_canon']
  refine congrArg (canon L) ?_
  funext q; apply Fin.ext
  fin_cases q
  · show s.val + 1 * 0 = s.val; omega
  · show 0 + 1 * r.val = r.val; omega
  · show 0 + 1 * l.val = l.val; omega

/-- Before the slabs, the whole stack stored. -/
theorem canon_stack (inb : ∀ q, (![0, 0, 0] : Fin 3 → Nat) q + (⟨3, ![p, m, n]⟩ : Shape).size q ≤ (⟨3, ![p, m, n]⟩ : Shape).size q)
    (w : (⟨3, ![p, m, n]⟩ : Shape).Idx → Val e) (L : List (Piece Val (⟨3, ![p, m, n]⟩ : Shape) e)) (s : Fin p) (r : Fin m) (l : Fin n) :
    canon ((⟨Rect.unit (s := (⟨3, ![p, m, n]⟩ : Shape)) ![0, 0, 0] (⟨3, ![p, m, n]⟩ : Shape).size inb, w⟩ : Piece Val (⟨3, ![p, m, n]⟩ : Shape) e) :: L) (ix3 s r l)
      = w (ix3 s r l) :=
  congrFun (canon_cons_unit_zero (by funext a; fin_cases a <;> rfl) inb w L) (ix3 s r l)

end Cert.Rows
-- ==== Proof.Post.lean ====
module

public import proofs.«01_k».proof.Defs
public import proofs.«01_k».proof.Proof.Gen.PostIdeal.Value
public import proofs.«01_k».proof.Proof.Gen.PostRefIdeal.Run
public import proofs.«01_k».proof.Proof.Gen.Pre_finite_post
public import proofs.«01_k».proof.Proof.Reals
public import proofs.«01_k».proof.Proof.Rows
public import Idealize.ShloMosaic.Lib.StableHlo.RunRead

@[expose] public section

set_option maxRecDepth 16384

/-! The gradient through the output norm and gate of a sub-layer: the kernel walks the rows in blocks and adds the
    gains' gradients up in one small block; the reference is the derivative of the forward lines. -/

noncomputable section

namespace Cert.PostIdeal.Value

open Idealize.ShloMosaic Idealize.ShloMosaic.TcCoe Idealize.SL.Sem Cert.Reals
open Cert.PostIdeal Cert.PostIdeal.Gen

variable (m : (ℓ : Loc nD τ sig) → Buf (Elt Ideal) ℓ)

/-- The magnitudes the precondition bounds. -/
theorem finite_args (h : Pre_PostIdeal_finite_post m) (c : Dev nD) :
    (∀ i, m ((c : Thread nD τ).loc main_arg0) i = ((m ((c : Thread nD τ).loc main_arg0) i).toReal : EReal))
    ∧ (∀ i, m ((c : Thread nD τ).loc main_arg2) i = ((m ((c : Thread nD τ).loc main_arg2) i).toReal : EReal))
    ∧ (∀ i, m ((c : Thread nD τ).loc main_arg5) i = ((m ((c : Thread nD τ).loc main_arg5) i).toReal : EReal))
    ∧ (∀ i, m ((c : Thread nD τ).loc main_arg6) i = ((m ((c : Thread nD τ).loc main_arg6) i).toReal : EReal)) := by
  have h1 := congrFun (h c) (fun q => q.elim0)
  dsimp only [Cert.Pre_finite_post.fn, Cert.Pre_finite_post.fn_part1] at h1
  obtain ⟨h1, h6⟩ := IntOp.andi_eq_one.1 h1
  obtain ⟨h1, h5⟩ := IntOp.andi_eq_one.1 h1
  obtain ⟨h1, h2⟩ := IntOp.andi_eq_one.1 h1
  exact ⟨finite_of_all _ _ (fun _ => rfl) _ _ _ _ rfl h1, finite_of_all _ _ (fun _ => rfl) _ _ _ _ rfl h2,
    finite_of_all _ _ (fun _ => rfl) _ _ _ _ rfl h5, finite_of_all _ _ (fun _ => rfl) _ _ _ _ rfl h6⟩

/-- One column of the gains' gradient before the gains: the cotangent against the normalised rows. -/
def colDot (y ct : Fin 8192 → Fin 1024 → ℝ) (l : Fin 1024) : ℝ := ∑ r, ct r l * (y r l * rinv (y r))

/-- The small block: the norm's gain in row 3, the gate in row 4. -/
def pgPost (y ct : Fin 8192 → Fin 1024 → ℝ) (g t : Fin 1024 → ℝ) (r : Fin 8) (l : Fin 1024) : ℝ :=
  if r.val = 3 then colDot y ct l * t l else if r.val = 4 then colDot y ct l * g l else 0

theorem pay9_at (v3 v4 : FVec Ideal S1024x1024 .f32) (v5 : FVec Ideal S8x1024 .f32) (ct y : Fin 1024 → Fin 1024 → ℝ)
    (g t : Fin 1024 → ℝ) (h3 : ∀ r k, v3 (ix2 r k) = (ct r k : EReal)) (h4 : ∀ r k, v4 (ix2 r k) = (y r k : EReal))
    (hg : ∀ k, v5 (ix2 3 k) = (g k : EReal)) (ht : ∀ k, v5 (ix2 4 k) = (t k : EReal)) (r l : Fin 1024) :
    k0_pay9 (F := Ideal) v3 v4 v5 (ix2 r l) = (normBwd (y r) (fun k => ct r k * (t k * g k)) l : EReal) := by
  pointwise [k0_pay9, k0_pay6, k0_pay5, k0_pay7, k0_pay8, k0_pay4]
  simp only [h3, h4, hg, ht, ← EReal.coe_mul, ← EReal.coe_add, ← EReal.coe_sub, coe_sum, ofBits_1024, ofBits_eps, div_1024, rsqrt_ms]
  rfl

theorem pay10_at (v3 v4 : FVec Ideal S1024x1024 .f32) (ct y : Fin 1024 → Fin 1024 → ℝ)
    (h3 : ∀ r k, v3 (ix2 r k) = (ct r k : EReal)) (h4 : ∀ r k, v4 (ix2 r k) = (y r k : EReal)) (l : Fin 1024) :
    k0_pay10 (F := Ideal) v3 v4 (ix2 0 l) = ((∑ r, ct r l * (y r l * rinv (y r)) : ℝ) : EReal) := by
  pointwise [k0_pay10, k0_pay6, k0_pay5]
  simp only [h3, h4, ← EReal.coe_mul, ← EReal.coe_add, ← EReal.coe_sub, coe_sum, ofBits_1024, ofBits_eps, div_1024, rsqrt_ms]

theorem ref_at (m : (ℓ : Loc Cert.PostRefIdeal.nD Cert.PostRefIdeal.τ Cert.PostRefIdeal.sig) → Buf (Elt Ideal) ℓ) (c : Dev Cert.PostRefIdeal.nD)
    (y ct : Fin 8192 → Fin 1024 → ℝ) (g t : Fin 1024 → ℝ)
    (h0 : ∀ r k, (m ((c.tc : Thread Cert.PostRefIdeal.nD Cert.PostRefIdeal.τ).loc Cert.PostRefIdeal.main_arg0)) (ix2 r k) = (y r k : EReal))
    (h2 : ∀ k, (m ((c.tc : Thread Cert.PostRefIdeal.nD Cert.PostRefIdeal.τ).loc Cert.PostRefIdeal.main_arg2)) (ix1 k) = (g k : EReal))
    (h5 : ∀ k, (m ((c.tc : Thread Cert.PostRefIdeal.nD Cert.PostRefIdeal.τ).loc Cert.PostRefIdeal.main_arg5)) (ix1 k) = (t k : EReal))
    (h6 : ∀ r k, (m ((c.tc : Thread Cert.PostRefIdeal.nD Cert.PostRefIdeal.τ).loc Cert.PostRefIdeal.main_arg6)) (ix2 r k) = (ct r k : EReal))
    (r : Fin 8192) (l : Fin 1024) :
    Cert.PostRefIdeal.Value.res_main_v46 (F := Ideal) m c (ix2 r l) = (normBwd (y r) (fun k => ct r k * (t k * g k)) l : EReal) := by
  unfold Cert.PostRefIdeal.Value.res_main_v46
  pointwise []
  simp only [h0, h2, h5, h6, ← EReal.coe_mul, ← EReal.coe_add, ← EReal.coe_sub, coe_sum, ofBits_1024, ofBits_eps, ofBits_neg_half, div_1024,
    rsqrt_ms, div_ms, Finset.univ_unique, Finset.sum_singleton]
  rw [← vjp_eq_normBwd]
  simp only [mul_comm (t _), mul_assoc, mul_left_comm]

theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ t.val < 8 :=
  (by decide +kernel : ∀ t : Fin grid0.N, _)

theorem blk0 (c : Dev nD) (t : Fin cfg0.N) (r k : Fin 1024) :
    (show FVec Ideal S1024x1024 .f32 from iblk m c 0 t) (ix2 r k)
      = m ((c : Thread nD τ).loc main_arg6) (ix2 ⟨t.val * 1024 + r.val, by have := (idx t).2.2.2.2.2; omega⟩ k) := by
  blk_ext [iblk, V, idx t]

theorem blk1 (c : Dev nD) (t : Fin cfg0.N) (r k : Fin 1024) :
    (show FVec Ideal S1024x1024 .f32 from iblk m c 1 t) (ix2 r k)
      = m ((c : Thread nD τ).loc main_arg0) (ix2 ⟨t.val * 1024 + r.val, by have := (idx t).2.2.2.2.2; omega⟩ k) := by
  blk_ext [iblk, V, idx t]

theorem pv3 (c : Dev nD) (k : Fin 1024) : V m c main_v9 (ix2 3 k) = m ((c : Thread nD τ).loc main_arg2) (ix1 k) := by
  unfold V
  after_reads_simp
  pointwise []
  after_reads_simp
  pointwise []

theorem pv4 (c : Dev nD) (k : Fin 1024) : V m c main_v9 (ix2 4 k) = m ((c : Thread nD τ).loc main_arg5) (ix1 k) := by
  unfold V
  after_reads_simp
  pointwise []
  after_reads_simp
  pointwise []

theorem blk2 (c : Dev nD) (t : Fin cfg0.N) (r : Fin 8) (k : Fin 1024) :
    (show FVec Ideal S8x1024 .f32 from iblk m c 2 t) (ix2 r k) = V m c main_v9 (ix2 r k) := by
  blk_ext [iblk, idx t]

/-- The block of rows a point sees. -/
abbrev rows (a : Fin 8192 → Fin 1024 → ℝ) (t : Fin cfg0.N) (r k : Fin 1024) : ℝ :=
  a ⟨t.val * 1024 + r.val, by have := (idx t).2.2.2.2.2; omega⟩ k

section
variable (c : Dev nD) (y ct : Fin 8192 → Fin 1024 → ℝ) (g t : Fin 1024 → ℝ)
    (h0 : ∀ r k, m ((c : Thread nD τ).loc main_arg0) (ix2 r k) = (y r k : EReal))
    (h2 : ∀ k, m ((c : Thread nD τ).loc main_arg2) (ix1 k) = (g k : EReal))
    (h5 : ∀ k, m ((c : Thread nD τ).loc main_arg5) (ix1 k) = (t k : EReal))
    (h6 : ∀ r k, m ((c : Thread nD τ).loc main_arg6) (ix2 r k) = (ct r k : EReal))
include h0 h2 h5 h6

theorem final3 (G : FVec Ideal S8192x1024 .bf16) (hG : ∀ r l, G (ix2 r l) = (normBwd (y r) (fun k => ct r k * (t k * g k)) l : EReal)) :
    (dats m 0 c).arrAt 3 (cfgs 0).N = G := by
  refine (dats m 0 c).arrAt_eq_of_covers 3 _ (by decide +kernel) fun p hf i => ?_
  have key : ∀ r l : Fin 1024, k0_pay2 (F := Ideal) (k0_pay9 (iblk m c 0 p) (iblk m c 1 p) (iblk m c 2 p)) (ix2 r l)
      = G (ix2 ⟨p.val * 1024 + r.val, by have := (idx p).2.2.2.2.2; omega⟩ l) := by
    intro r l
    rw [hG]
    exact pay9_at _ _ _ (rows ct p) (rows y p) g t (fun r k => (blk0 m c p r k).trans (h6 _ _)) (fun r k => (blk1 m c p r k).trans (h0 _ _))
      (fun k => (blk2 m c p 3 k).trans ((pv3 m c k).trans (h2 k))) (fun k => (blk2 m c p 4 k).trans ((pv4 m c k).trans (h5 k))) r l
  blk_simp [idx p]
  rw [after0_3]
  by_cases hp : p.val % 8 = 0
  · rw [outsAt0_A m c p hp]
    frame_out
    idx_vars i
    refine (key _ _).trans ?_
    blk_ext [idx p]
  · rw [outsAt0_B m c p hp]
    frame_out
    idx_vars i
    refine (key _ _).trans ?_
    blk_ext [idx p]

/-- What one point adds to the small block. -/
def part (p : Fin cfg0.N) (j : S8x1024.Idx) : EReal :=
  if (j 0).val = 3 then (((∑ r, rows ct p r (j 1) * (rows y p r (j 1) * rinv (rows y p r))) * t (j 1) : ℝ) : EReal)
  else if (j 0).val = 4 then (((∑ r, rows ct p r (j 1) * (rows y p r (j 1) * rinv (rows y p r))) * g (j 1) : ℝ) : EReal) else 0

theorem pay11_at (p : Fin cfg0.N) (x : FVec Ideal S1x1024 .f32) (l : Fin 1024) :
    k0_pay11 (F := Ideal) (iblk m c 0 p) (iblk m c 1 p) (iblk m c 2 p) x (ix2 0 l) = x (ix2 0 l) + part y ct g t p (ix2 3 l) := by
  have e := pay10_at (iblk m c 0 p) (iblk m c 1 p) (rows ct p) (rows y p) (fun r k => (blk0 m c p r k).trans (h6 _ _)) (fun r k => (blk1 m c p r k).trans (h0 _ _)) l
  have e2 := (blk2 m c p 4 l).trans ((pv4 m c l).trans (h5 l))
  pointwise [k0_pay11, k0_pay7, k0_pay4]
  rw [e]
  refine congrArg _ ((congrArg _ e2).trans ?_)
  rw [← EReal.coe_mul]
  rfl

theorem pay1_at (p : Fin cfg0.N) (x : FVec Ideal S1x1024 .f32) (l : Fin 1024) :
    k0_pay1 (F := Ideal) (k0_pay8 (iblk m c 2 p)) (k0_pay10 (iblk m c 0 p) (iblk m c 1 p)) x (ix2 0 l) = x (ix2 0 l) + part y ct g t p (ix2 4 l) := by
  have e := pay10_at (iblk m c 0 p) (iblk m c 1 p) (rows ct p) (rows y p) (fun r k => (blk0 m c p r k).trans (h6 _ _)) (fun r k => (blk1 m c p r k).trans (h0 _ _)) l
  have e2 := (blk2 m c p 3 l).trans ((pv3 m c l).trans (h2 l))
  pointwise [k0_pay1, k0_pay8, k0_pay4]
  rw [e]
  refine congrArg _ ((congrArg _ e2).trans ?_)
  rw [← EReal.coe_mul]
  rfl

theorem final4 (G : FVec Ideal S8x1024 .f32) (hG : ∀ r l, G (ix2 r l) = (pgPost y ct g t r l : EReal)) :
    (dats m 0 c).arrAt 4 (cfgs 0).N = G := by
  refine (dats m 0 c).arrAt_eq_of_after_last 4 t0_7 (by decide +kernel) _ fun j => ?_
  blk_simp
  rw [after0_4]
  have hA : ∀ (p : Fin cfg0.N) (h : p.val % 8 = 0) (j : S8x1024.Idx), (outsAt0 m c p.val p.isLt).2 j = 0 + part y ct g t p j := by
    intro p h j
    obtain ⟨r, l, rfl⟩ : ∃ r l, j = ix2 r l := ⟨j 0, j 1, (ix2_eta j).symm⟩
    rw [outsAt0_A m c p h]
    frame_out
    by_cases h4 : r = 4
    · subst h4
      refine (Cert.Rows.canon_hit (4 : Fin 8) _ _ _ l).trans ((pay1_at m c y ct g t h0 h2 h5 h6 p _ l).trans (congrArg (· + _) ?_))
      refine (Cert.Rows.readCov_row _ _ (4 : Fin 8) _ l).trans ?_
      refine (Cert.Rows.canon_miss 3 (4 : Fin 8) (by decide) _ _ _ l).trans ((Cert.Rows.canon_whole _ _ _ (4 : Fin 8) l).trans ?_)
      pointwise [k0_pay3]
    refine (Cert.Rows.canon_miss 4 r (fun e => h4 (Fin.ext e)) _ _ _ l).trans ?_
    by_cases h3 : r = 3
    · subst h3
      refine (Cert.Rows.canon_hit (3 : Fin 8) _ _ _ l).trans ((pay11_at m c y ct g t h0 h2 h5 h6 p _ l).trans (congrArg (· + _) ?_))
      refine (Cert.Rows.readCov_row _ _ (3 : Fin 8) _ l).trans ((Cert.Rows.canon_whole _ _ _ (3 : Fin 8) l).trans ?_)
      pointwise [k0_pay3]
    refine (Cert.Rows.canon_miss 3 r (fun e => h3 (Fin.ext e)) _ _ _ l).trans ((Cert.Rows.canon_whole _ _ _ r l).trans ?_)
    have : part y ct g t p (ix2 r l) = 0 := by
      unfold part
      exact (if_neg (fun e : r.val = 3 => h3 (Fin.ext e))).trans (if_neg (fun e : r.val = 4 => h4 (Fin.ext e)))
    rw [this, add_zero]
    pointwise [k0_pay3]
  have hB : ∀ (p : Fin cfg0.N) (h : ¬ p.val % 8 = 0) (j : S8x1024.Idx), (outsAt0 m c p.val p.isLt).2 j
      = (outsAt0 m c (p.val - 1) (Nat.lt_of_le_of_lt (Nat.sub_le _ _) p.isLt)).2 j + part y ct g t p j := by
    intro p h j
    obtain ⟨r, l, rfl⟩ : ∃ r l, j = ix2 r l := ⟨j 0, j 1, (ix2_eta j).symm⟩
    rw [outsAt0_B m c p h]
    frame_out
    by_cases h4 : r = 4
    · subst h4
      refine (Cert.Rows.read_hit _ _ (4 : Fin 8) _ _ _ l).trans ((pay1_at m c y ct g t h0 h2 h5 h6 p _ l).trans (congrArg (· + _) ?_))
      exact Cert.Rows.ld_row _ (4 : Fin 8) _ l
    refine (Cert.Rows.read_miss _ _ 4 r (fun e => h4 (Fin.ext e)) _ _ _ l).trans ?_
    by_cases h3 : r = 3
    · subst h3
      refine (Cert.Rows.read_hit _ _ (3 : Fin 8) _ _ _ l).trans ((pay11_at m c y ct g t h0 h2 h5 h6 p _ l).trans (congrArg (· + _) ?_))
      exact Cert.Rows.ld_row _ (3 : Fin 8) _ l
    refine (Cert.Rows.read_miss _ _ 3 r (fun e => h3 (Fin.ext e)) _ _ _ l).trans ?_
    have : part y ct g t p (ix2 r l) = 0 := by
      unfold part
      exact (if_neg (fun e : r.val = 3 => h3 (Fin.ext e))).trans (if_neg (fun e : r.val = 4 => h4 (Fin.ext e)))
    rw [this, add_zero]
    exact congrFun ((hs0_4 p).read_unread _) (ix2 r l)
  rw [Pipeline.eq_sum_fin_of_reset_step_apply_last (fun n h => (outsAt0 m c n h).2) 8 (fun _ => 0) _ hA hB (le_of_eq N_0) t0_7 rfl j, zero_add]
  obtain ⟨r, l, rfl⟩ : ∃ r l, j = ix2 r l := ⟨j 0, j 1, (ix2_eta j).symm⟩
  refine Eq.trans ?_ (hG r l).symm
  have hs : ∑ p : Fin cfg0.N, ∑ r, rows ct p r l * (rows y p r l * rinv (rows y p r)) = colDot y ct l :=
    Fin.sum_mul_add_fin 8 1024 (fun r => ct r l * (y r l * rinv (y r)))
  by_cases h3 : r = 3
  · subst h3
    refine (coe_sum _ _).trans (congrArg _ ?_)
    rw [← Finset.sum_mul]
    exact congrArg (· * t l) hs
  by_cases h4 : r = 4
  · subst h4
    refine (coe_sum _ _).trans (congrArg _ ?_)
    rw [← Finset.sum_mul]
    exact congrArg (· * g l) hs
  have : pgPost y ct g t r l = 0 :=
    (if_neg (fun e : r.val = 3 => h3 (Fin.ext e))).trans (if_neg (fun e : r.val = 4 => h4 (Fin.ext e)))
  rw [this]
  have hz : ∀ p : Fin cfg0.N, part y ct g t p (ix2 r l) = 0 := fun p =>
    (if_neg (fun e : r.val = 3 => h3 (Fin.ext e))).trans (if_neg (fun e : r.val = 4 => h4 (Fin.ext e)))
  have hsum : ∑ p : Fin cfg0.N, part y ct g t p (ix2 r l) = ((0 : ℝ) : EReal) := by
    simp only [hz, Finset.sum_const_zero, EReal.coe_zero]
  exact hsum

end

end Cert.PostIdeal.Value

namespace Cert.Proof

open Idealize.ShloMosaic Idealize.ShloMosaic.TcCoe Idealize.SL.Sem Cert.Reals
open Cert.PostIdeal.Value (colDot pgPost finite_args final3 final4 ref_at)

/-- The output norm's and gate's gradient: both results are the derivative's. -/
theorem algebraic_PostIdeal_PostRefIdeal_pre_finite_post : Cert.algebraic_PostIdeal_PostRefIdeal_pre_finite_post := by
  intro m ρ m' ρ' hpre hagree
  refine ⟨_, _, Cert.PostIdeal.Value.run_blocks (F := Ideal) m ρ, ?_⟩
  refine (θ_run Cert.PostRefIdeal.defs _ _).mono (fun _ h c => ⟨?_, ?_, (h c).2.2⟩) (Cert.PostRefIdeal.Value.run (F := Ideal) m' ρ')
  all_goals
    obtain ⟨f0, f2, f5, f6⟩ := finite_args m hpre c
    obtain ⟨a0, a1, a2, a3, a4, a5, a6⟩ := hagree c
  · rw [(h c).1]
    refine (final3 m c _ _ _ _ (fun r k => f0 (ix2 r k)) (fun k => f2 (ix1 k)) (fun k => f5 (ix1 k)) (fun r k => f6 (ix2 r k)) _ fun r l => ?_).symm
    exact ref_at m' c _ _ _ _ (fun r k => (congrFun a0 _).trans (f0 (ix2 r k))) (fun k => (congrFun a2 _).trans (f2 (ix1 k)))
      (fun k => (congrFun a5 _).trans (f5 (ix1 k))) (fun r k => (congrFun a6 _).trans (f6 (ix2 r k))) r l
  · rw [(h c).2.1]
    refine (final4 m c _ _ _ _ (fun r k => f0 (ix2 r k)) (fun k => f2 (ix1 k)) (fun k => f5 (ix1 k)) (fun r k => f6 (ix2 r k)) _ fun r l => ?_).symm
    have h0 := fun r k => (congrFun a0 _).trans (f0 (ix2 r k))
    have h2 := fun k => (congrFun a2 _).trans (f2 (ix1 k))
    have h5 := fun k => (congrFun a5 _).trans (f5 (ix1 k))
    have h6 := fun r k => (congrFun a6 _).trans (f6 (ix2 r k))
    clear h hagree hpre
    fin_cases r
    all_goals
      pointwise []
      try simp only [h0, h2, h5, h6, ← EReal.coe_mul, ← EReal.coe_add, ← EReal.coe_sub, coe_sum, ofBits_1024, ofBits_eps, ofBits_neg_half, div_1024,
        rsqrt_ms, div_ms, Finset.univ_unique, Finset.sum_singleton]
      try exact EReal.coe_zero.symm
    · refine congrArg _ ?_
      show _ = colDot _ _ l * _
      unfold colDot
      rw [Finset.sum_mul]
      exact Finset.sum_congr rfl fun k _ => by ring
    · refine congrArg _ ?_
      show _ = colDot _ _ l * _
      unfold colDot
      rw [Finset.sum_mul]
      exact Finset.sum_congr rfl fun k _ => by ring

end Cert.Proof
-- ==== Proof.Pre.lean ====
module

public import proofs.«01_k».proof.Defs
public import proofs.«01_k».proof.Proof.Gen.PreIdeal.Value
public import proofs.«01_k».proof.Proof.Gen.PreRefIdeal.Run
public import proofs.«01_k».proof.Proof.Gen.Pre_finite_pre
public import proofs.«01_k».proof.Proof.Reals
public import proofs.«01_k».proof.Proof.Rows
public import Idealize.ShloMosaic.Lib.StableHlo.RunRead

@[expose] public section

set_option maxRecDepth 16384

/-! The gradient through the input norm of a sub-layer, the residual's added: the kernel sums the four partial
    cotangents, walks the rows in blocks and adds the gains' gradients up in one small block. -/

noncomputable section

namespace Cert.PreIdeal.Value

open Idealize.ShloMosaic Idealize.ShloMosaic.TcCoe Idealize.SL.Sem Cert.Reals
open Cert.PreIdeal Cert.PreIdeal.Gen

variable (m : (ℓ : Loc nD τ sig) → Buf (Elt Ideal) ℓ)

/-- The magnitudes the precondition bounds. -/
theorem finite_args (h : Pre_PreIdeal_finite_pre m) (c : Dev nD) :
    (∀ i, m ((c : Thread nD τ).loc main_arg0) i = ((m ((c : Thread nD τ).loc main_arg0) i).toReal : EReal))
    ∧ (∀ i, m ((c : Thread nD τ).loc main_arg1) i = ((m ((c : Thread nD τ).loc main_arg1) i).toReal : EReal))
    ∧ (∀ i, m ((c : Thread nD τ).loc main_arg4) i = ((m ((c : Thread nD τ).loc main_arg4) i).toReal : EReal))
    ∧ (∀ i, m ((c : Thread nD τ).loc main_arg6) i = ((m ((c : Thread nD τ).loc main_arg6) i).toReal : EReal))
    ∧ (∀ i, m ((c : Thread nD τ).loc main_arg7) i = ((m ((c : Thread nD τ).loc main_arg7) i).toReal : EReal)) := by
  have h1 := congrFun (h c) (fun q => q.elim0)
  dsimp only [Cert.Pre_finite_pre.fn, Cert.Pre_finite_pre.fn_part1] at h1
  obtain ⟨h1, h7⟩ := IntOp.andi_eq_one.1 h1
  obtain ⟨h1, h6⟩ := IntOp.andi_eq_one.1 h1
  obtain ⟨h1, h4⟩ := IntOp.andi_eq_one.1 h1
  obtain ⟨h1, h2⟩ := IntOp.andi_eq_one.1 h1
  exact ⟨finite_of_all _ _ (fun _ => rfl) _ _ _ _ rfl h1, finite_of_all _ _ (fun _ => rfl) _ _ _ _ rfl h2,
    finite_of_all _ _ (fun _ => rfl) _ _ _ _ rfl h4, finite_of_all _ _ (fun _ => rfl) _ _ _ _ rfl h6, finite_of_all _ _ (fun _ => rfl) _ _ _ _ rfl h7⟩

/-- The four partial cotangents' sum. -/
def tot (p : Fin 4 → Fin 8192 → Fin 1024 → ℝ) (r : Fin 8192) (k : Fin 1024) : ℝ := ∑ s, p s r k

/-- The small block: the gain in row 0, the scale in row 1, the shift in row 2. -/
def pgPre (x : Fin 8192 → Fin 1024 → ℝ) (p : Fin 4 → Fin 8192 → Fin 1024 → ℝ) (g s : Fin 1024 → ℝ) (r : Fin 8) (l : Fin 1024) : ℝ :=
  if r.val = 0 then (∑ i, tot p i l * (x i l * rinv (x i))) * s l
  else if r.val = 1 then (∑ i, tot p i l * (x i l * rinv (x i))) * g l
  else if r.val = 2 then ∑ i, tot p i l else 0

theorem pay7_at (v3 v6 v10 v14 : FVec Ideal S1x512x1024 .bf16) (p : Fin 4 → Fin 512 → Fin 1024 → ℝ)
    (h3 : ∀ r k, v3 (ix3 0 r k) = (p 0 r k : EReal)) (h6 : ∀ r k, v6 (ix3 0 r k) = (p 1 r k : EReal))
    (h10 : ∀ r k, v10 (ix3 0 r k) = (p 2 r k : EReal)) (h14 : ∀ r k, v14 (ix3 0 r k) = (p 3 r k : EReal)) (r : Fin 512) (k : Fin 1024) :
    k0_pay7 (F := Ideal) v3 v6 v10 v14 (ix2 r k) = ((∑ s, p s r k : ℝ) : EReal) := by
  pointwise [k0_pay7]
  simp only [h3, h6, h10, h14, ← EReal.coe_add, Fin.sum_univ_four]

theorem pay10_at (v : FVec Ideal S512x1024 .f32) (x : Fin 512 → Fin 1024 → ℝ) (h : ∀ r k, v (ix2 r k) = (x r k : EReal)) (r : Fin 512) (k : Fin 1024) :
    k0_pay10 (F := Ideal) v (ix2 r k) = ((x r k * rinv (x r) : ℝ) : EReal) := by
  pointwise [k0_pay10, k0_pay9]
  simp only [h, ← EReal.coe_mul, ← EReal.coe_add, coe_sum, ofBits_1024, ofBits_eps, div_1024, rsqrt_ms]

theorem pay5_at (dh xn v18 v19 : FVec Ideal S512x1024 .f32) (v20 : FVec Ideal S8x1024 .f32) (d x t : Fin 512 → Fin 1024 → ℝ) (g s : Fin 1024 → ℝ)
    (hd : ∀ r k, dh (ix2 r k) = (d r k : EReal)) (hn : ∀ r k, xn (ix2 r k) = ((x r k * rinv (x r) : ℝ) : EReal))
    (ht : ∀ r k, v18 (ix2 r k) = (t r k : EReal)) (hx : ∀ r k, v19 (ix2 r k) = (x r k : EReal))
    (hg : ∀ k, v20 (ix2 0 k) = (g k : EReal)) (hs : ∀ k, v20 (ix2 1 k) = (s k : EReal)) (r : Fin 512) (l : Fin 1024) :
    k0_pay5 (F := Ideal) dh v18 (k0_pay9 v19) xn (k0_pay13 v20) (ix2 r l)
      = ((t r l + normBwd (x r) (fun k => d r k * (g k * s k)) l : ℝ) : EReal) := by
  pointwise [k0_pay5, k0_pay9, k0_pay13, k0_pay11, k0_pay12, k0_pay8]
  simp only [hd, hn, ht, hx, hg, hs, ← EReal.coe_mul, ← EReal.coe_add, ← EReal.coe_sub, coe_sum, ofBits_1024, ofBits_eps, div_1024, rsqrt_ms]
  rfl

theorem pay1_at (dh xn : FVec Ideal S512x1024 .f32) (d n : Fin 512 → Fin 1024 → ℝ)
    (hd : ∀ r k, dh (ix2 r k) = (d r k : EReal)) (hn : ∀ r k, xn (ix2 r k) = (n r k : EReal)) (l : Fin 1024) :
    k0_pay1 (F := Ideal) dh xn (ix2 0 l) = ((∑ r, d r l * n r l : ℝ) : EReal) := by
  pointwise [k0_pay1]
  simp only [hd, hn, ← EReal.coe_mul, coe_sum]

theorem idx : ∀ t : Fin cfg0.N, win0_0.index t = ![0, t.val, 0] ∧ win0_1.index t = ![t.val, 0] ∧ win0_2.index t = ![t.val, 0]
    ∧ win0_3.index t = ![0, 0] ∧ win0_4.index t = ![t.val, 0] ∧ win0_5.index t = ![0, 0] ∧ t.val < 16 :=
  (by decide +kernel : ∀ t : Fin grid0.N, _)

/-- The row of the whole array that a point's row is. -/
abbrev row (t : Fin cfg0.N) (r : Fin 512) : Fin 8192 := ⟨t.val * 512 + r.val, by have := (idx t).2.2.2.2.2.2; omega⟩

theorem blk0 (c : Dev nD) (t : Fin cfg0.N) (s : Fin 4) (r : Fin 512) (k : Fin 1024) :
    (show FVec Ideal S4x512x1024 .bf16 from iblk m c 0 t) (ix3 s r k) = m ((c : Thread nD τ).loc main_arg6) (ix3 s (row t r) k) := by
  blk_ext [iblk, V, idx t]

theorem blk1 (c : Dev nD) (t : Fin cfg0.N) (r : Fin 512) (k : Fin 1024) :
    (show FVec Ideal S512x1024 .f32 from iblk m c 1 t) (ix2 r k) = m ((c : Thread nD τ).loc main_arg0) (ix2 (row t r) k) := by
  blk_ext [iblk, V, idx t]

theorem blk2 (c : Dev nD) (t : Fin cfg0.N) (r : Fin 512) (k : Fin 1024) :
    (show FVec Ideal S512x1024 .f32 from iblk m c 2 t) (ix2 r k) = m ((c : Thread nD τ).loc main_arg7) (ix2 (row t r) k) := by
  blk_ext [iblk, V, idx t]

theorem pv0 (c : Dev nD) (k : Fin 1024) : V m c main_v9 (ix2 0 k) = m ((c : Thread nD τ).loc main_arg1) (ix1 k) := by
  unfold V
  after_reads_simp
  pointwise []
  after_reads_simp
  pointwise []

theorem pv1 (c : Dev nD) (k : Fin 1024) : V m c main_v9 (ix2 1 k) = Ideal.ofBits .f32 0x3F800000#32 + m ((c : Thread nD τ).loc main_arg4) (ix1 k) := by
  unfold V
  after_reads_simp
  pointwise []
  after_reads_simp
  pointwise []

theorem blk3 (c : Dev nD) (t : Fin cfg0.N) (r : Fin 8) (k : Fin 1024) :
    (show FVec Ideal S8x1024 .f32 from iblk m c 3 t) (ix2 r k) = V m c main_v9 (ix2 r k) := by
  blk_ext [iblk, idx t]

section
variable (c : Dev nD) (x ct : Fin 8192 → Fin 1024 → ℝ) (p : Fin 4 → Fin 8192 → Fin 1024 → ℝ) (g s : Fin 1024 → ℝ)

/-- What one point adds to the small block. -/
def part (t : Fin cfg0.N) (j : S8x1024.Idx) : EReal :=
  if (j 0).val = 0 then (((∑ r, tot p (row t r) (j 1) * (x (row t r) (j 1) * rinv (x (row t r)))) * (1 + s (j 1)) : ℝ) : EReal)
  else if (j 0).val = 1 then (((∑ r, tot p (row t r) (j 1) * (x (row t r) (j 1) * rinv (x (row t r)))) * g (j 1) : ℝ) : EReal)
  else if (j 0).val = 2 then ((∑ r, tot p (row t r) (j 1) : ℝ) : EReal) else 0

theorem part_zero (t : Fin cfg0.N) (r : Fin 8) (l : Fin 1024) (n0 : r ≠ 0) (n1 : r ≠ 1) (n2 : r ≠ 2) : part x p g s t (ix2 r l) = 0 :=
  (if_neg (fun e : r.val = 0 => n0 (Fin.ext e))).trans ((if_neg (fun e : r.val = 1 => n1 (Fin.ext e))).trans (if_neg (fun e : r.val = 2 => n2 (Fin.ext e))))

variable (h0 : ∀ r k, m ((c : Thread nD τ).loc main_arg0) (ix2 r k) = (x r k : EReal))
    (h1 : ∀ k, m ((c : Thread nD τ).loc main_arg1) (ix1 k) = (g k : EReal))
    (h4 : ∀ k, m ((c : Thread nD τ).loc main_arg4) (ix1 k) = (s k : EReal))
    (h6 : ∀ q r k, m ((c : Thread nD τ).loc main_arg6) (ix3 q r k) = (p q r k : EReal))
    (h7 : ∀ r k, m ((c : Thread nD τ).loc main_arg7) (ix2 r k) = (ct r k : EReal))
include h0 h1 h4 h6 h7

theorem dh_ld (t : Fin cfg0.N) (i0 : ∀ q, (![0, 0, 0] : Fin 3 → Nat) q + S1x512x1024.size q ≤ S4x512x1024.size q) (i1 : ∀ q, (![1, 0, 0] : Fin 3 → Nat) q + S1x512x1024.size q ≤ S4x512x1024.size q) (i2 : ∀ q, (![2, 0, 0] : Fin 3 → Nat) q + S1x512x1024.size q ≤ S4x512x1024.size q) (i3 : ∀ q, (![3, 0, 0] : Fin 3 → Nat) q + S1x512x1024.size q ≤ S4x512x1024.size q) (r : Fin 512) (k : Fin 1024) :
    k0_pay7 (F := Ideal) (View.ld (iblk m c 0 t) (Rect.unit (s := S4x512x1024) ![0, 0, 0] S1x512x1024.size i0)) (View.ld (iblk m c 0 t) (Rect.unit (s := S4x512x1024) ![1, 0, 0] S1x512x1024.size i1)) (View.ld (iblk m c 0 t) (Rect.unit (s := S4x512x1024) ![2, 0, 0] S1x512x1024.size i2)) (View.ld (iblk m c 0 t) (Rect.unit (s := S4x512x1024) ![3, 0, 0] S1x512x1024.size i3)) (ix2 r k) = ((∑ q, p q (row t r) k : ℝ) : EReal) :=
  pay7_at _ _ _ _ (fun q r k => p q (row t r) k)
    (fun r k => (Cert.Rows.ld_slab (iblk m c 0 t) (0 : Fin 4) i0 r k).trans ((blk0 m c t 0 r k).trans (h6 0 _ k)))
    (fun r k => (Cert.Rows.ld_slab (iblk m c 0 t) (1 : Fin 4) i1 r k).trans ((blk0 m c t 1 r k).trans (h6 1 _ k)))
    (fun r k => (Cert.Rows.ld_slab (iblk m c 0 t) (2 : Fin 4) i2 r k).trans ((blk0 m c t 2 r k).trans (h6 2 _ k)))
    (fun r k => (Cert.Rows.ld_slab (iblk m c 0 t) (3 : Fin 4) i3 r k).trans ((blk0 m c t 3 r k).trans (h6 3 _ k))) r k

theorem dx_at (t : Fin cfg0.N) (dh : FVec Ideal S512x1024 .f32) (hd : ∀ r k, dh (ix2 r k) = ((∑ q, p q (row t r) k : ℝ) : EReal)) (r : Fin 512) (l : Fin 1024) :
    k0_pay5 (F := Ideal) dh (iblk m c 2 t) (k0_pay9 (iblk m c 1 t)) (k0_pay10 (iblk m c 1 t)) (k0_pay13 (iblk m c 3 t)) (ix2 r l)
      = ((ct (row t r) l + normBwd (x (row t r)) (fun k => tot p (row t r) k * (g k * (1 + s k))) l : ℝ) : EReal) :=
  pay5_at dh _ _ _ _ (fun r k => tot p (row t r) k) (fun r => x (row t r)) (fun r => ct (row t r)) g (fun k => 1 + s k) hd
    (pay10_at _ _ fun r k => (blk1 m c t r k).trans (h0 _ _)) (fun r k => (blk2 m c t r k).trans (h7 _ _)) (fun r k => (blk1 m c t r k).trans (h0 _ _))
    (fun k => (blk3 m c t 0 k).trans ((pv0 m c k).trans (h1 k)))
    (fun k => (blk3 m c t 1 k).trans ((pv1 m c k).trans (by rw [h4, ofBits_one, ← EReal.coe_add]))) r l

theorem final4 (G : FVec Ideal S8192x1024 .f32)
    (hG : ∀ r l, G (ix2 r l) = ((ct r l + normBwd (x r) (fun k => tot p r k * (g k * (1 + s k))) l : ℝ) : EReal)) :
    (dats m 0 c).arrAt 4 (cfgs 0).N = G := by
  refine (dats m 0 c).arrAt_eq_of_covers 4 _ (by decide +kernel) fun t hf i => ?_
  blk_simp [idx t]
  rw [after0_4]
  by_cases hp : t.val % 16 = 0
  · rw [outsAt0_A m c t hp]
    frame_out
    idx_vars i
    refine (dx_at m c x ct p g s h0 h1 h4 h6 h7 t _ (dh_ld m c x ct p g s h0 h1 h4 h6 h7 t _ _ _ _) _ _).trans ((hG _ _).symm.trans ?_)
    blk_ext [idx t]
  · rw [outsAt0_B m c t hp]
    frame_out
    idx_vars i
    refine (dx_at m c x ct p g s h0 h1 h4 h6 h7 t _ (dh_ld m c x ct p g s h0 h1 h4 h6 h7 t _ _ _ _) _ _).trans ((hG _ _).symm.trans ?_)
    blk_ext [idx t]

theorem pay2_row (t : Fin cfg0.N) (dh : FVec Ideal S512x1024 .f32) (hd : ∀ r k, dh (ix2 r k) = ((∑ q, p q (row t r) k : ℝ) : EReal)) (z : FVec Ideal S1x1024 .f32) (l : Fin 1024) :
    k0_pay2 (F := Ideal) dh (k0_pay10 (iblk m c 1 t)) (k0_pay12 (iblk m c 3 t)) z (ix2 0 l) = z (ix2 0 l) + part x p g s t (ix2 0 l) := by
  have e := pay1_at dh (k0_pay10 (iblk m c 1 t)) (fun r => tot p (row t r)) (fun r k => x (row t r) k * rinv (x (row t r))) hd
    (pay10_at _ _ fun r k => (blk1 m c t r k).trans (h0 _ _)) l
  have e2 : iblk m c 3 t (ix2 1 l) = ((1 + s l : ℝ) : EReal) := (blk3 m c t 1 l).trans ((pv1 m c l).trans (by rw [h4, ofBits_one, ← EReal.coe_add]))
  pointwise [k0_pay2, k0_pay12, k0_pay8]
  rw [e]
  refine congrArg _ ((congrArg _ e2).trans ?_)
  rw [← EReal.coe_mul]
  rfl

theorem pay3_row (t : Fin cfg0.N) (dh : FVec Ideal S512x1024 .f32) (hd : ∀ r k, dh (ix2 r k) = ((∑ q, p q (row t r) k : ℝ) : EReal)) (z : FVec Ideal S1x1024 .f32) (l : Fin 1024) :
    k0_pay3 (F := Ideal) dh (k0_pay10 (iblk m c 1 t)) (k0_pay11 (iblk m c 3 t)) z (ix2 0 l) = z (ix2 0 l) + part x p g s t (ix2 1 l) := by
  have e := pay1_at dh (k0_pay10 (iblk m c 1 t)) (fun r => tot p (row t r)) (fun r k => x (row t r) k * rinv (x (row t r))) hd
    (pay10_at _ _ fun r k => (blk1 m c t r k).trans (h0 _ _)) l
  have e2 : iblk m c 3 t (ix2 0 l) = ((g l : ℝ) : EReal) := (blk3 m c t 0 l).trans ((pv0 m c l).trans (h1 l))
  pointwise [k0_pay3, k0_pay11, k0_pay8]
  rw [e]
  refine congrArg _ ((congrArg _ e2).trans ?_)
  rw [← EReal.coe_mul]
  rfl

theorem pay4_row (t : Fin cfg0.N) (dh : FVec Ideal S512x1024 .f32) (hd : ∀ r k, dh (ix2 r k) = ((∑ q, p q (row t r) k : ℝ) : EReal)) (z : FVec Ideal S1x1024 .f32) (l : Fin 1024) :
    k0_pay4 (F := Ideal) dh z (ix2 0 l) = z (ix2 0 l) + part x p g s t (ix2 2 l) := by
  pointwise [k0_pay4]
  simp only [hd, coe_sum]
  rfl

theorem final5 (G : FVec Ideal S8x1024 .f32) (hG : ∀ r l, G (ix2 r l) = (pgPre x p g (fun k => 1 + s k) r l : EReal)) :
    (dats m 0 c).arrAt 5 (cfgs 0).N = G := by
  refine (dats m 0 c).arrAt_eq_of_after_last 5 t0_15 (by decide +kernel) _ fun j => ?_
  blk_simp
  rw [after0_5]
  have hA : ∀ (t : Fin cfg0.N) (h : t.val % 16 = 0) (j : S8x1024.Idx), (outsAt0 m c t.val t.isLt).2 j = 0 + part x p g s t j := by
    intro t h j
    obtain ⟨r, l, rfl⟩ : ∃ r l, j = ix2 r l := ⟨j 0, j 1, (ix2_eta j).symm⟩
    rw [outsAt0_A m c t h]
    frame_out
    by_cases n2 : r = 2
    · subst n2
      refine (Cert.Rows.canon_hit (2 : Fin 8) _ _ _ l).trans ((pay4_row m c x ct p g s h0 h1 h4 h6 h7 t _ (dh_ld m c x ct p g s h0 h1 h4 h6 h7 t _ _ _ _) _ l).trans (congrArg (· + _) ?_))
      refine (Cert.Rows.readCov_row _ _ (2 : Fin 8) _ l).trans ?_
      refine (Cert.Rows.canon_miss 1 (2 : Fin 8) (by decide) _ _ _ l).trans ((Cert.Rows.canon_miss 0 (2 : Fin 8) (by decide) _ _ _ l).trans ((Cert.Rows.canon_whole _ _ _ (2 : Fin 8) l).trans ?_))
      pointwise [k0_pay6]
    refine (Cert.Rows.canon_miss 2 r (fun e => n2 (Fin.ext e)) _ _ _ l).trans ?_
    by_cases n1 : r = 1
    · subst n1
      refine (Cert.Rows.canon_hit (1 : Fin 8) _ _ _ l).trans ((pay3_row m c x ct p g s h0 h1 h4 h6 h7 t _ (dh_ld m c x ct p g s h0 h1 h4 h6 h7 t _ _ _ _) _ l).trans (congrArg (· + _) ?_))
      refine (Cert.Rows.readCov_row _ _ (1 : Fin 8) _ l).trans ?_
      refine (Cert.Rows.canon_miss 0 (1 : Fin 8) (by decide) _ _ _ l).trans ((Cert.Rows.canon_whole _ _ _ (1 : Fin 8) l).trans ?_)
      pointwise [k0_pay6]
    refine (Cert.Rows.canon_miss 1 r (fun e => n1 (Fin.ext e)) _ _ _ l).trans ?_
    by_cases n0 : r = 0
    · subst n0
      refine (Cert.Rows.canon_hit (0 : Fin 8) _ _ _ l).trans ((pay2_row m c x ct p g s h0 h1 h4 h6 h7 t _ (dh_ld m c x ct p g s h0 h1 h4 h6 h7 t _ _ _ _) _ l).trans (congrArg (· + _) ?_))
      refine (Cert.Rows.readCov_row _ _ (0 : Fin 8) _ l).trans ((Cert.Rows.canon_whole _ _ _ (0 : Fin 8) l).trans ?_)
      pointwise [k0_pay6]
    refine (Cert.Rows.canon_miss 0 r (fun e => n0 (Fin.ext e)) _ _ _ l).trans ((Cert.Rows.canon_whole _ _ _ r l).trans ?_)
    rw [part_zero x p g s t r l n0 n1 n2, add_zero]
    pointwise [k0_pay6]
  have hB : ∀ (t : Fin cfg0.N) (h : ¬ t.val % 16 = 0) (j : S8x1024.Idx), (outsAt0 m c t.val t.isLt).2 j
      = (outsAt0 m c (t.val - 1) (Nat.lt_of_le_of_lt (Nat.sub_le _ _) t.isLt)).2 j + part x p g s t j := by
    intro t h j
    obtain ⟨r, l, rfl⟩ : ∃ r l, j = ix2 r l := ⟨j 0, j 1, (ix2_eta j).symm⟩
    rw [outsAt0_B m c t h]
    frame_out
    by_cases n2 : r = 2
    · subst n2
      refine (Cert.Rows.read_hit _ _ (2 : Fin 8) _ _ _ l).trans ((pay4_row m c x ct p g s h0 h1 h4 h6 h7 t _ (dh_ld m c x ct p g s h0 h1 h4 h6 h7 t _ _ _ _) _ l).trans (congrArg (· + _) ?_))
      exact Cert.Rows.ld_row _ (2 : Fin 8) _ l
    refine (Cert.Rows.read_miss _ _ 2 r (fun e => n2 (Fin.ext e)) _ _ _ l).trans ?_
    by_cases n1 : r = 1
    · subst n1
      refine (Cert.Rows.read_hit _ _ (1 : Fin 8) _ _ _ l).trans ((pay3_row m c x ct p g s h0 h1 h4 h6 h7 t _ (dh_ld m c x ct p g s h0 h1 h4 h6 h7 t _ _ _ _) _ l).trans (congrArg (· + _) ?_))
      exact Cert.Rows.ld_row _ (1 : Fin 8) _ l
    refine (Cert.Rows.read_miss _ _ 1 r (fun e => n1 (Fin.ext e)) _ _ _ l).trans ?_
    by_cases n0 : r = 0
    · subst n0
      refine (Cert.Rows.read_hit _ _ (0 : Fin 8) _ _ _ l).trans ((pay2_row m c x ct p g s h0 h1 h4 h6 h7 t _ (dh_ld m c x ct p g s h0 h1 h4 h6 h7 t _ _ _ _) _ l).trans (congrArg (· + _) ?_))
      exact Cert.Rows.ld_row _ (0 : Fin 8) _ l
    refine (Cert.Rows.read_miss _ _ 0 r (fun e => n0 (Fin.ext e)) _ _ _ l).trans ?_
    rw [part_zero x p g s t r l n0 n1 n2, add_zero]
    exact congrFun ((hs0_5 t).read_unread _) (ix2 r l)
  rw [Pipeline.eq_sum_fin_of_reset_step_apply_last (fun n h => (outsAt0 m c n h).2) 16 (fun _ => 0) _ hA hB (le_of_eq N_0) t0_15 rfl j, zero_add]
  obtain ⟨r, l, rfl⟩ : ∃ r l, j = ix2 r l := ⟨j 0, j 1, (ix2_eta j).symm⟩
  refine Eq.trans ?_ (hG r l).symm
  have hs : ∀ f : Fin 8192 → ℝ, ∑ t : Fin cfg0.N, ∑ r, f (row t r) = ∑ i, f i := fun f => Fin.sum_mul_add_fin 16 512 f
  by_cases n0 : r = 0
  · subst n0
    refine (coe_sum _ _).trans (congrArg _ ?_)
    rw [← Finset.sum_mul]
    exact congrArg (· * (1 + s l)) (hs fun i => tot p i l * (x i l * rinv (x i)))
  by_cases n1 : r = 1
  · subst n1
    refine (coe_sum _ _).trans (congrArg _ ?_)
    rw [← Finset.sum_mul]
    exact congrArg (· * g l) (hs fun i => tot p i l * (x i l * rinv (x i)))
  by_cases n2 : r = 2
  · subst n2
    exact (coe_sum _ _).trans (congrArg _ (hs fun i => tot p i l))
  have : pgPre x p g (fun k => 1 + s k) r l = 0 :=
    (if_neg (fun e : r.val = 0 => n0 (Fin.ext e))).trans ((if_neg (fun e : r.val = 1 => n1 (Fin.ext e))).trans (if_neg (fun e : r.val = 2 => n2 (Fin.ext e))))
  rw [this]
  have hsum : ∑ t : Fin cfg0.N, part x p g s t (ix2 r l) = ((0 : ℝ) : EReal) := by
    simp only [part_zero x p g s _ r l n0 n1 n2, Finset.sum_const_zero, EReal.coe_zero]
  exact hsum

end

end Cert.PreIdeal.Value

namespace Cert.Proof

open Idealize.ShloMosaic Idealize.ShloMosaic.TcCoe Idealize.SL.Sem Cert.Reals
open Cert.PreIdeal.Value (tot pgPre finite_args final4 final5)

/-- The input norm's gradient: both results are the derivative's. -/
theorem algebraic_PreIdeal_PreRefIdeal_pre_finite_pre : Cert.algebraic_PreIdeal_PreRefIdeal_pre_finite_pre := by
  intro m ρ m' ρ' hpre hagree
  refine ⟨_, _, Cert.PreIdeal.Value.run_blocks (F := Ideal) m ρ, ?_⟩
  refine (θ_run Cert.PreRefIdeal.defs _ _).mono (fun _ h c => ⟨?_, ?_, (h c).2.2⟩) (Cert.PreRefIdeal.Value.run (F := Ideal) m' ρ')
  all_goals
    obtain ⟨f0, f1, f4, f6, f7⟩ := finite_args m hpre c
    obtain ⟨a0, a1, a2, a3, a4, a5, a6, a7⟩ := hagree c
    have h0 := fun r k => (congrFun a0 _).trans (f0 (ix2 r k))
    have h1 := fun k => (congrFun a1 _).trans (f1 (ix1 k))
    have h4 := fun k => (congrFun a4 _).trans (f4 (ix1 k))
    have h6 := fun q r k => (congrFun a6 _).trans (f6 (ix3 q r k))
    have h7 := fun r k => (congrFun a7 _).trans (f7 (ix2 r k))
  · rw [(h c).1]
    clear h hagree hpre
    refine (final4 m c _ _ _ _ _ (fun r k => f0 (ix2 r k)) (fun k => f1 (ix1 k)) (fun k => f4 (ix1 k)) (fun q r k => f6 (ix3 q r k)) (fun r k => f7 (ix2 r k)) _ fun r l => ?_).symm
    unfold Cert.PreRefIdeal.Value.res_main_v55
    pointwise []
    simp only [h0, h1, h4, h6, h7, ← EReal.coe_mul, ← EReal.coe_add, ← EReal.coe_sub, coe_sum, ofBits_1024, ofBits_eps, ofBits_neg_half, ofBits_one, ← EReal.coe_one, div_1024,
      rsqrt_ms, div_ms, Finset.univ_unique, Finset.sum_singleton]
    refine congrArg _ ?_
    rw [← vjp_eq_normBwd, ← add_assoc, ← add_assoc]
    unfold tot
    simp only [show ∀ a b d : ℝ, a * (b * (1 + d)) = a * (1 + d) * b from fun a b d => by ring]
  · rw [(h c).2.1]
    clear h hagree hpre
    refine (final5 m c _ _ _ _ _ (fun r k => f0 (ix2 r k)) (fun k => f1 (ix1 k)) (fun k => f4 (ix1 k)) (fun q r k => f6 (ix3 q r k)) (fun r k => f7 (ix2 r k)) _ fun r l => ?_).symm
    fin_cases r
    all_goals
      pointwise []
      try simp only [h0, h1, h4, h6, h7, ← EReal.coe_mul, ← EReal.coe_add, ← EReal.coe_sub, coe_sum, ofBits_1024, ofBits_eps, ofBits_neg_half, ofBits_one, ← EReal.coe_one, div_1024,
        rsqrt_ms, div_ms, Finset.univ_unique, Finset.sum_singleton]
      try exact EReal.coe_zero.symm
    · refine congrArg _ ?_
      show _ = (∑ i, tot _ i l * _) * _
      rw [Finset.sum_mul]
      exact Finset.sum_congr rfl fun k _ => by unfold tot; ring
    · refine congrArg _ ?_
      show _ = (∑ i, tot _ i l * _) * _
      rw [Finset.sum_mul]
      exact Finset.sum_congr rfl fun k _ => by unfold tot; ring
    · rfl

end Cert.Proof
-- ==== Proof.Loss.lean ====
module

public import proofs.«01_k».proof.Defs
public import proofs.«01_k».proof.Proof.Gen.LossIdeal.Frame
public import proofs.«01_k».proof.Proof.Gen.LossRefIdeal.Run
public import proofs.«01_k».proof.Proof.Gen.Pre_finite_loss
public import proofs.«01_k».proof.Proof.Post
public import Idealize.ShloMosaic.Lib.Pipeline.FrameTail
public import Idealize.ShloMosaic.Lib.Pipeline.Value

@[expose] public section

set_option maxRecDepth 16384

/-! The loss and the gradient through the last sub-layer's output norm and gate. The kernel adds the squared errors up in
    one small block which the host sums after it; the reference is the loss and its derivative. -/

noncomputable section

namespace Cert.LossIdeal.Value

open Idealize.ShloMosaic Idealize.ShloMosaic.TcCoe Idealize.SL.Sem Cert.Reals
open Cert.LossIdeal Cert.LossIdeal.Gen
open Cert.PostIdeal.Value (colDot pgPost)

variable (m : (ℓ : Loc nD τ sig) → Buf (Elt Ideal) ℓ)

/-- The host's sum of the small block of squares, scaled. -/
def lossOf (sq : FVec Ideal S8x1024 .f32) : FVec Ideal S_ .f32 :=
  mulf (Host.reduceAdd sq (constant S_ .f32 0x00000000#32) reducesTo_S8x1024_S_d0_1 h_S_) (constant S_ .f32 0x3A000000#32)

theorem tail_loss (c : Dev nD) :
    Pipeline.afterTail₀ cfgs (dats m) 0 (V0 m) [hostOps1] c main_v29 = lossOf ((dats m 0 c).arrAt 5 cfg0.N) := by
  unfold Pipeline.afterTail₀ hostOps1
  simp only [List.flatten_cons, List.flatten_nil, List.append_nil]
  after_results
  exact congrArg lossOf (Pipeline.withArrays_arr (cfgs 0).spec launch0.win.arr_inj c _ _ 5)

/-- The run with every result named by what the pipeline leaves in its arrays. -/
theorem run_results (ρ : Dev nD → PrngReg) : θ_run defs (onTc (τ := τ) (main (F := Ideal))) ⟨m, fun _ => 0, ρ⟩ fun r => ∀ c : Dev nD,
      r.2.mem ((c.tc : Thread nD τ).loc main_v29) = lossOf ((dats m 0 c).arrAt 5 cfg0.N)
      ∧ r.2.mem ((c.tc : Thread nD τ).loc main_v27_0) = (dats m 0 c).arrAt 4 cfg0.N
      ∧ r.2.mem ((c.tc : Thread nD τ).loc main_v27_2) = (dats m 0 c).arrAt 6 cfg0.N
      ∧ r.2.mem ((c.tc : Thread nD τ).loc main_v27_3) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono
    (fun _ h c => ⟨((h.2 c).2 main_v29 (Pipeline.mem_restRefs_of main_v29 (by decide) (by decide))).trans (tail_loss m c),
      (h.2 c).1 4, (h.2 c).1 6, (h.2 c).1 7, h.1 c⟩)
    (θ_run_and (unchanged m ρ) (run_main m ρ))

/-- The magnitudes the precondition bounds. -/
theorem finite_args (h : Pre_LossIdeal_finite_loss m) (c : Dev nD) :
    (∀ i, m ((c : Thread nD τ).loc main_arg0) i = ((m ((c : Thread nD τ).loc main_arg0) i).toReal : EReal))
    ∧ (∀ i, m ((c : Thread nD τ).loc main_arg1) i = ((m ((c : Thread nD τ).loc main_arg1) i).toReal : EReal))
    ∧ (∀ i, m ((c : Thread nD τ).loc main_arg2) i = ((m ((c : Thread nD τ).loc main_arg2) i).toReal : EReal))
    ∧ (∀ i, m ((c : Thread nD τ).loc main_arg4) i = ((m ((c : Thread nD τ).loc main_arg4) i).toReal : EReal))
    ∧ (∀ i, m ((c : Thread nD τ).loc main_arg7) i = ((m ((c : Thread nD τ).loc main_arg7) i).toReal : EReal)) := by
  have h1 := congrFun (h c) (fun q => q.elim0)
  dsimp only [Cert.Pre_finite_loss.fn, Cert.Pre_finite_loss.fn_part1] at h1
  obtain ⟨h1, h7⟩ := IntOp.andi_eq_one.1 h1
  obtain ⟨h1, h4⟩ := IntOp.andi_eq_one.1 h1
  obtain ⟨h1, h2⟩ := IntOp.andi_eq_one.1 h1
  obtain ⟨h0, h1⟩ := IntOp.andi_eq_one.1 h1
  exact ⟨finite_of_all _ _ (fun _ => rfl) _ _ _ _ rfl h0, finite_of_all _ _ (fun _ => rfl) _ _ _ _ rfl h1,
    finite_of_all _ _ (fun _ => rfl) _ _ _ _ rfl h2, finite_of_all _ _ (fun _ => rfl) _ _ _ _ rfl h4, finite_of_all _ _ (fun _ => rfl) _ _ _ _ rfl h7⟩

/-- The error of one entry. -/
def err (x y tg : Fin 8192 → Fin 1024 → ℝ) (g t : Fin 1024 → ℝ) (r : Fin 8192) (l : Fin 1024) : ℝ :=
  x r l + t l * (y r l * rinv (y r) * g l) - tg r l

/-- Its cotangent: the mean over a row divides by the row's length. -/
def dErr (x y tg : Fin 8192 → Fin 1024 → ℝ) (g t : Fin 1024 → ℝ) (r : Fin 8192) (l : Fin 1024) : ℝ := err x y tg g t r l * (1 / 1024)

theorem pay8_at (v3 v5 : FVec Ideal S512x1024 .f32) (e : Fin 512 → Fin 1024 → ℝ)
    (h : ∀ r k, v3 (ix2 r k) - v5 (ix2 r k) = (e r k : EReal)) (r : Fin 512) (l : Fin 1024) :
    k0_pay8 (F := Ideal) v3 v5 (ix2 r l) = ((e r l * (1 / 1024) : ℝ) : EReal) := by
  pointwise [k0_pay8, k0_pay7]
  rw [h, ofBits_inv1024, ← EReal.coe_mul]

theorem pay12_at (v : FVec Ideal S512x1024 .f32) (y : Fin 512 → Fin 1024 → ℝ) (h : ∀ r k, v (ix2 r k) = (y r k : EReal)) (r : Fin 512) (k : Fin 1024) :
    k0_pay12 (F := Ideal) v (ix2 r k) = ((y r k * rinv (y r) : ℝ) : EReal) := by
  pointwise [k0_pay12, k0_pay11]
  simp only [h, ← EReal.coe_mul, ← EReal.coe_add, coe_sum, ofBits_1024, ofBits_eps, div_1024, rsqrt_ms]

theorem pay9_at (v3 v5 : FVec Ideal S512x1024 .f32) (v10 : FVec Ideal S8x1024 .f32) (e : Fin 512 → Fin 1024 → ℝ)
    (h : ∀ r k, v3 (ix2 r k) - v5 (ix2 r k) = (e r k : EReal)) (r : Fin 8) (l : Fin 1024) :
    k0_pay9 (F := Ideal) v3 v5 v10 (ix2 r l) = v10 (ix2 r l)
      + ((∑ a : Fin 64, e ⟨a.val * 8 + r.val, by omega⟩ l * e ⟨a.val * 8 + r.val, by omega⟩ l : ℝ) : EReal) := by
  pointwise [k0_pay9, k0_pay7]
  simp only [h, ← EReal.coe_mul, coe_sum]

theorem pay4_at (v3 v5 y0 : FVec Ideal S512x1024 .f32) (v18 : FVec Ideal S8x1024 .f32) (e y : Fin 512 → Fin 1024 → ℝ) (g t : Fin 1024 → ℝ)
    (h : ∀ r k, v3 (ix2 r k) - v5 (ix2 r k) = (e r k : EReal)) (hy : ∀ r k, y0 (ix2 r k) = (y r k : EReal))
    (hg : ∀ k, v18 (ix2 3 k) = (g k : EReal)) (ht : ∀ k, v18 (ix2 4 k) = (t k : EReal)) (r : Fin 512) (l : Fin 1024) :
    k0_pay4 (F := Ideal) (k0_pay11 y0) (k0_pay12 y0) (k0_pay15 v3 v5 v18) (ix2 r l)
      = (normBwd (y r) (fun k => e r k * (1 / 1024) * (t k * g k)) l : EReal) := by
  pointwise [k0_pay4, k0_pay11, k0_pay12, k0_pay15, k0_pay13, k0_pay14, k0_pay10, k0_pay8, k0_pay7]
  simp only [h, hy, hg, ht, ofBits_inv1024, ← EReal.coe_mul, ← EReal.coe_add, ← EReal.coe_sub, coe_sum, ofBits_1024, ofBits_eps, div_1024, rsqrt_ms]
  rfl

theorem pay1_at (dh xn : FVec Ideal S512x1024 .f32) (d n : Fin 512 → Fin 1024 → ℝ)
    (hd : ∀ r k, dh (ix2 r k) = (d r k : EReal)) (hn : ∀ r k, xn (ix2 r k) = (n r k : EReal)) (l : Fin 1024) :
    k0_pay1 (F := Ideal) dh xn (ix2 0 l) = ((∑ r, d r l * n r l : ℝ) : EReal) := by
  pointwise [k0_pay1]
  simp only [hd, hn, ← EReal.coe_mul, coe_sum]

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] ∧ win0_6.index t = ![t.val, 0]
    ∧ win0_7.index t = ![0, 0] ∧ t.val < 16 :=
  (by decide +kernel : ∀ t : Fin grid0.N, _)

/-- The row of the whole array that a point's row is. -/
abbrev row (t : Fin cfg0.N) (r : Fin 512) : Fin 8192 := ⟨t.val * 512 + r.val, by have := (idx t).2.2.2.2.2.2.2.2; omega⟩

theorem blk0 (c : Dev nD) (t : Fin cfg0.N) (r : Fin 512) (k : Fin 1024) :
    (show FVec Ideal S512x1024 .f32 from iblk m c 0 t) (ix2 r k) = V m c main_v26 (ix2 (row t r) k) := by
  blk_ext [iblk, idx t]

theorem blk1 (c : Dev nD) (t : Fin cfg0.N) (r : Fin 512) (k : Fin 1024) :
    (show FVec Ideal S512x1024 .f32 from iblk m c 1 t) (ix2 r k) = m ((c : Thread nD τ).loc main_arg2) (ix2 (row t r) k) := by
  blk_ext [iblk, V, idx t]

theorem blk2 (c : Dev nD) (t : Fin cfg0.N) (r : Fin 512) (k : Fin 1024) :
    (show FVec Ideal S512x1024 .f32 from iblk m c 2 t) (ix2 r k) = m ((c : Thread nD τ).loc main_arg1) (ix2 (row t r) k) := by
  blk_ext [iblk, V, idx t]

theorem blk3 (c : Dev nD) (t : Fin cfg0.N) (r : Fin 8) (k : Fin 1024) :
    (show FVec Ideal S8x1024 .f32 from iblk m c 3 t) (ix2 r k) = V m c main_v9 (ix2 r k) := by
  blk_ext [iblk, idx t]

theorem pv3 (c : Dev nD) (k : Fin 1024) : V m c main_v9 (ix2 3 k) = m ((c : Thread nD τ).loc main_arg4) (ix1 k) := by
  unfold V
  after_reads_simp
  pointwise []
  after_reads_simp
  pointwise []

theorem pv4 (c : Dev nD) (k : Fin 1024) : V m c main_v9 (ix2 4 k) = m ((c : Thread nD τ).loc main_arg7) (ix1 k) := by
  unfold V
  after_reads_simp
  pointwise []
  after_reads_simp
  pointwise []

section
variable (c : Dev nD) (x y tg : Fin 8192 → Fin 1024 → ℝ) (g t : Fin 1024 → ℝ)
    (h0 : ∀ r k, m ((c : Thread nD τ).loc main_arg0) (ix2 r k) = (x r k : EReal))
    (h1 : ∀ r k, m ((c : Thread nD τ).loc main_arg1) (ix2 r k) = (y r k : EReal))
    (h2 : ∀ r k, m ((c : Thread nD τ).loc main_arg2) (ix2 r k) = (tg r k : EReal))
    (h4 : ∀ k, m ((c : Thread nD τ).loc main_arg4) (ix1 k) = (g k : EReal))
    (h7 : ∀ k, m ((c : Thread nD τ).loc main_arg7) (ix1 k) = (t k : EReal))
include h0 h1 h4 h7

theorem xo_at (r : Fin 8192) (l : Fin 1024) : V m c main_v26 (ix2 r l) = ((x r l + t l * (y r l * rinv (y r) * g l) : ℝ) : EReal) := by
  unfold V
  after_reads_simp
  pointwise []
  simp only [h0, h1, h4, h7, ← EReal.coe_mul, ← EReal.coe_add, coe_sum, ofBits_1024, ofBits_eps, div_1024, rsqrt_ms]

/-- The errors a point sees. -/
abbrev errs (p : Fin cfg0.N) (r : Fin 512) (l : Fin 1024) : ℝ := err x y tg g t (row p r) l

include h2 in
theorem err_at (p : Fin cfg0.N) (r : Fin 512) (k : Fin 1024) :
    (show FVec Ideal S512x1024 .f32 from iblk m c 0 p) (ix2 r k) - (show FVec Ideal S512x1024 .f32 from iblk m c 1 p) (ix2 r k)
      = (errs x y tg g t p r k : EReal) := by
  rw [blk0, blk1, xo_at m c x y g t h0 h1 h4 h7, h2, ← EReal.coe_sub]
  rfl

include h2 in
theorem final4 (G : FVec Ideal S8192x1024 .f32) (hG : ∀ r l, G (ix2 r l) = (dErr x y tg g t r l : EReal)) :
    (dats m 0 c).arrAt 4 (cfgs 0).N = G := by
  refine (dats m 0 c).arrAt_eq_of_covers 4 _ (by decide +kernel) fun p hf i => ?_
  have key : ∀ (r : Fin 512) (l : Fin 1024), k0_pay8 (F := Ideal) (iblk m c 0 p) (iblk m c 1 p) (ix2 r l) = G (ix2 (row p r) l) := fun r l =>
    (pay8_at _ _ (errs x y tg g t p) (err_at m c x y tg g t h0 h1 h2 h4 h7 p) r l).trans (hG _ _).symm
  blk_simp [idx p]
  rw [after0_4]
  by_cases hp : p.val % 16 = 0
  · rw [outsAt0_A m c p hp]
    frame_out
    idx_vars i
    refine (key _ _).trans ?_
    blk_ext [idx p]
  · rw [outsAt0_B m c p hp]
    frame_out
    idx_vars i
    refine (key _ _).trans ?_
    blk_ext [idx p]

include h2 in
theorem final6 (G : FVec Ideal S8192x1024 .bf16)
    (hG : ∀ r l, G (ix2 r l) = (normBwd (y r) (fun k => dErr x y tg g t r k * (t k * g k)) l : EReal)) :
    (dats m 0 c).arrAt 6 (cfgs 0).N = G := by
  refine (dats m 0 c).arrAt_eq_of_covers 6 _ (by decide +kernel) fun p hf i => ?_
  have key : ∀ (r : Fin 512) (l : Fin 1024), k0_pay4 (F := Ideal) (k0_pay11 (iblk m c 2 p)) (k0_pay12 (iblk m c 2 p))
      (k0_pay15 (iblk m c 0 p) (iblk m c 1 p) (iblk m c 3 p)) (ix2 r l) = G (ix2 (row p r) l) := fun r l =>
    (pay4_at _ _ _ _ (errs x y tg g t p) (fun r => y (row p r)) g t (err_at m c x y tg g t h0 h1 h2 h4 h7 p)
      (fun r k => (blk2 m c p r k).trans (h1 _ _)) (fun k => (blk3 m c p 3 k).trans ((pv3 m c k).trans (h4 k)))
      (fun k => (blk3 m c p 4 k).trans ((pv4 m c k).trans (h7 k))) r l).trans (hG _ _).symm
  blk_simp [idx p]
  rw [after0_6]
  by_cases hp : p.val % 16 = 0
  · rw [outsAt0_A m c p hp]
    frame_out
    idx_vars i
    refine (key _ _).trans ?_
    blk_ext [idx p]
  · rw [outsAt0_B m c p hp]
    frame_out
    idx_vars i
    refine (key _ _).trans ?_
    blk_ext [idx p]

/-- The squares one point adds to an entry of the small block. -/
def sqPart (p : Fin cfg0.N) (j : S8x1024.Idx) : EReal :=
  ((∑ a : Fin 64, errs x y tg g t p ⟨a.val * 8 + (j 0).val, by have := (j 0).isLt; change (j 0).val < 8 at this; omega⟩ (j 1)
    * errs x y tg g t p ⟨a.val * 8 + (j 0).val, by have := (j 0).isLt; change (j 0).val < 8 at this; omega⟩ (j 1) : ℝ) : EReal)

include h2 in
theorem final5 (G : FVec Ideal S8x1024 .f32) (hG : ∀ j, G j = ∑ p : Fin cfg0.N, sqPart x y tg g t p j) :
    (dats m 0 c).arrAt 5 (cfgs 0).N = G := by
  refine (dats m 0 c).arrAt_eq_of_after_last 5 t0_15 (by decide +kernel) _ fun j => ?_
  blk_simp
  rw [after0_5]
  have hA : ∀ (p : Fin cfg0.N) (h : p.val % 16 = 0) (j : S8x1024.Idx), (outsAt0 m c p.val p.isLt).2.1 j = 0 + sqPart x y tg g t p j := by
    intro p h j
    obtain ⟨r, l, rfl⟩ : ∃ r l, j = ix2 r l := ⟨j 0, j 1, (ix2_eta j).symm⟩
    rw [outsAt0_A m c p h]
    frame_out
    refine (pay9_at _ _ _ (errs x y tg g t p) (err_at m c x y tg g t h0 h1 h2 h4 h7 p) r l).trans (congrArg (· + _) ?_)
    pointwise [k0_pay5]
  have hB : ∀ (p : Fin cfg0.N) (h : ¬ p.val % 16 = 0) (j : S8x1024.Idx), (outsAt0 m c p.val p.isLt).2.1 j
      = (outsAt0 m c (p.val - 1) (Nat.lt_of_le_of_lt (Nat.sub_le _ _) p.isLt)).2.1 j + sqPart x y tg g t p j := by
    intro p h j
    obtain ⟨r, l, rfl⟩ : ∃ r l, j = ix2 r l := ⟨j 0, j 1, (ix2_eta j).symm⟩
    rw [outsAt0_B m c p h]
    frame_out
    exact pay9_at _ _ _ (errs x y tg g t p) (err_at m c x y tg g t h0 h1 h2 h4 h7 p) r l
  rw [Pipeline.eq_sum_fin_of_reset_step_apply_last (fun n h => (outsAt0 m c n h).2.1) 16 (fun _ => 0) _ hA hB (le_of_eq N_0) t0_15 rfl j, zero_add]
  exact (hG j).symm

/-- What one point adds to the small block. -/
def part (p : Fin cfg0.N) (j : S8x1024.Idx) : EReal :=
  if (j 0).val = 3 then (((∑ r, dErr x y tg g t (row p r) (j 1) * (y (row p r) (j 1) * rinv (y (row p r)))) * t (j 1) : ℝ) : EReal)
  else if (j 0).val = 4 then (((∑ r, dErr x y tg g t (row p r) (j 1) * (y (row p r) (j 1) * rinv (y (row p r)))) * g (j 1) : ℝ) : EReal) else 0

include h2 in
theorem row3_at (p : Fin cfg0.N) (z : FVec Ideal S1x1024 .f32) (l : Fin 1024) :
    k0_pay2 (F := Ideal) (k0_pay8 (iblk m c 0 p) (iblk m c 1 p)) (k0_pay12 (iblk m c 2 p)) (k0_pay13 (iblk m c 3 p)) z (ix2 0 l) = z (ix2 0 l) + part x y tg g t p (ix2 3 l) := by
  have e := pay1_at (k0_pay8 (iblk m c 0 p) (iblk m c 1 p)) (k0_pay12 (iblk m c 2 p)) (fun r => dErr x y tg g t (row p r)) (fun r k => y (row p r) k * rinv (y (row p r)))
    (pay8_at _ _ (errs x y tg g t p) (err_at m c x y tg g t h0 h1 h2 h4 h7 p)) (pay12_at _ _ fun r k => (blk2 m c p r k).trans (h1 _ _)) l
  have e2 := (blk3 m c p 4 l).trans ((pv4 m c l).trans (h7 l))
  pointwise [k0_pay2, k0_pay13, k0_pay10]
  rw [e]
  refine congrArg _ ((congrArg _ e2).trans ?_)
  rw [← EReal.coe_mul]
  rfl

include h2 in
theorem row4_at (p : Fin cfg0.N) (z : FVec Ideal S1x1024 .f32) (l : Fin 1024) :
    k0_pay3 (F := Ideal) (k0_pay8 (iblk m c 0 p) (iblk m c 1 p)) (k0_pay12 (iblk m c 2 p)) (k0_pay14 (iblk m c 3 p)) z (ix2 0 l) = z (ix2 0 l) + part x y tg g t p (ix2 4 l) := by
  have e := pay1_at (k0_pay8 (iblk m c 0 p) (iblk m c 1 p)) (k0_pay12 (iblk m c 2 p)) (fun r => dErr x y tg g t (row p r)) (fun r k => y (row p r) k * rinv (y (row p r)))
    (pay8_at _ _ (errs x y tg g t p) (err_at m c x y tg g t h0 h1 h2 h4 h7 p)) (pay12_at _ _ fun r k => (blk2 m c p r k).trans (h1 _ _)) l
  have e2 := (blk3 m c p 3 l).trans ((pv3 m c l).trans (h4 l))
  pointwise [k0_pay3, k0_pay14, k0_pay10]
  rw [e]
  refine congrArg _ ((congrArg _ e2).trans ?_)
  rw [← EReal.coe_mul]
  rfl

include h2 in
theorem final7 (G : FVec Ideal S8x1024 .f32) (hG : ∀ r l, G (ix2 r l) = (pgPost y (dErr x y tg g t) g t r l : EReal)) :
    (dats m 0 c).arrAt 7 (cfgs 0).N = G := by
  refine (dats m 0 c).arrAt_eq_of_after_last 7 t0_15 (by decide +kernel) _ fun j => ?_
  blk_simp
  rw [after0_7]
  have hA : ∀ (p : Fin cfg0.N) (h : p.val % 16 = 0) (j : S8x1024.Idx), (outsAt0 m c p.val p.isLt).2.2.2 j = 0 + part x y tg g t p j := by
    intro p h j
    obtain ⟨r, l, rfl⟩ : ∃ r l, j = ix2 r l := ⟨j 0, j 1, (ix2_eta j).symm⟩
    rw [outsAt0_A m c p h]
    frame_out
    by_cases n4 : r = 4
    · subst n4
      refine (Cert.Rows.canon_hit (4 : Fin 8) _ _ _ l).trans ((row4_at m c x y tg g t h0 h1 h2 h4 h7 p _ l).trans (congrArg (· + _) ?_))
      refine (Cert.Rows.readCov_row _ _ (4 : Fin 8) _ l).trans ?_
      refine (Cert.Rows.canon_miss 3 (4 : Fin 8) (by decide) _ _ _ l).trans ((Cert.Rows.canon_whole _ _ _ (4 : Fin 8) l).trans ?_)
      pointwise [k0_pay6]
    refine (Cert.Rows.canon_miss 4 r (fun e => n4 (Fin.ext e)) _ _ _ l).trans ?_
    by_cases n3 : r = 3
    · subst n3
      refine (Cert.Rows.canon_hit (3 : Fin 8) _ _ _ l).trans ((row3_at m c x y tg g t h0 h1 h2 h4 h7 p _ l).trans (congrArg (· + _) ?_))
      refine (Cert.Rows.readCov_row _ _ (3 : Fin 8) _ l).trans ((Cert.Rows.canon_whole _ _ _ (3 : Fin 8) l).trans ?_)
      pointwise [k0_pay6]
    refine (Cert.Rows.canon_miss 3 r (fun e => n3 (Fin.ext e)) _ _ _ l).trans ((Cert.Rows.canon_whole _ _ _ r l).trans ?_)
    have : part x y tg g t p (ix2 r l) = 0 := by
      unfold part
      exact (if_neg (fun e : r.val = 3 => n3 (Fin.ext e))).trans (if_neg (fun e : r.val = 4 => n4 (Fin.ext e)))
    rw [this, add_zero]
    pointwise [k0_pay6]
  have hB : ∀ (p : Fin cfg0.N) (h : ¬ p.val % 16 = 0) (j : S8x1024.Idx), (outsAt0 m c p.val p.isLt).2.2.2 j
      = (outsAt0 m c (p.val - 1) (Nat.lt_of_le_of_lt (Nat.sub_le _ _) p.isLt)).2.2.2 j + part x y tg g t p j := by
    intro p h j
    obtain ⟨r, l, rfl⟩ : ∃ r l, j = ix2 r l := ⟨j 0, j 1, (ix2_eta j).symm⟩
    rw [outsAt0_B m c p h]
    frame_out
    by_cases n4 : r = 4
    · subst n4
      refine (Cert.Rows.read_hit _ _ (4 : Fin 8) _ _ _ l).trans ((row4_at m c x y tg g t h0 h1 h2 h4 h7 p _ l).trans (congrArg (· + _) ?_))
      exact Cert.Rows.ld_row _ (4 : Fin 8) _ l
    refine (Cert.Rows.read_miss _ _ 4 r (fun e => n4 (Fin.ext e)) _ _ _ l).trans ?_
    by_cases n3 : r = 3
    · subst n3
      refine (Cert.Rows.read_hit _ _ (3 : Fin 8) _ _ _ l).trans ((row3_at m c x y tg g t h0 h1 h2 h4 h7 p _ l).trans (congrArg (· + _) ?_))
      exact Cert.Rows.ld_row _ (3 : Fin 8) _ l
    refine (Cert.Rows.read_miss _ _ 3 r (fun e => n3 (Fin.ext e)) _ _ _ l).trans ?_
    have : part x y tg g t p (ix2 r l) = 0 := by
      unfold part
      exact (if_neg (fun e : r.val = 3 => n3 (Fin.ext e))).trans (if_neg (fun e : r.val = 4 => n4 (Fin.ext e)))
    rw [this, add_zero]
    exact congrFun ((hs0_7 p).read_unread _) (ix2 r l)
  rw [Pipeline.eq_sum_fin_of_reset_step_apply_last (fun n h => (outsAt0 m c n h).2.2.2) 16 (fun _ => 0) _ hA hB (le_of_eq N_0) t0_15 rfl j, zero_add]
  obtain ⟨r, l, rfl⟩ : ∃ r l, j = ix2 r l := ⟨j 0, j 1, (ix2_eta j).symm⟩
  refine Eq.trans ?_ (hG r l).symm
  have hs : ∑ p : Fin cfg0.N, ∑ r, dErr x y tg g t (row p r) l * (y (row p r) l * rinv (y (row p r))) = colDot y (dErr x y tg g t) l :=
    Fin.sum_mul_add_fin 16 512 (fun r => dErr x y tg g t r l * (y r l * rinv (y r)))
  by_cases n3 : r = 3
  · subst n3
    refine (coe_sum _ _).trans (congrArg _ ?_)
    rw [← Finset.sum_mul]
    exact congrArg (· * t l) hs
  by_cases n4 : r = 4
  · subst n4
    refine (coe_sum _ _).trans (congrArg _ ?_)
    rw [← Finset.sum_mul]
    exact congrArg (· * g l) hs
  have : pgPost y (dErr x y tg g t) g t r l = 0 :=
    (if_neg (fun e : r.val = 3 => n3 (Fin.ext e))).trans (if_neg (fun e : r.val = 4 => n4 (Fin.ext e)))
  rw [this]
  have hz : ∀ p : Fin cfg0.N, part x y tg g t p (ix2 r l) = 0 := fun p =>
    (if_neg (fun e : r.val = 3 => n3 (Fin.ext e))).trans (if_neg (fun e : r.val = 4 => n4 (Fin.ext e)))
  have hsum : ∑ p : Fin cfg0.N, part x y tg g t p (ix2 r l) = ((0 : ℝ) : EReal) := by
    simp only [hz, Finset.sum_const_zero, EReal.coe_zero]
  exact hsum

end

end Cert.LossIdeal.Value

namespace Cert.Proof

open Idealize.ShloMosaic Idealize.ShloMosaic.TcCoe Idealize.SL.Sem Cert.Reals
open Cert.PostIdeal.Value (colDot pgPost)
open Cert.LossIdeal.Value (lossOf err dErr finite_args final4 final5 final6 final7 sqPart row)

/-- The squares of all errors, added up point by point and eighth by eighth. -/
theorem sq_total (f : Fin 8192 → Fin 1024 → ℝ) :
    ∑ r : Fin 8, ∑ l : Fin 1024, ∑ p : Fin Cert.LossIdeal.cfg0.N, ∑ a : Fin 64, f (row p ⟨a.val * 8 + r.val, by omega⟩) l = ∑ i, ∑ l, f i l := by
  have hs : ∀ h : Fin 8192 → ℝ, ∑ p : Fin Cert.LossIdeal.cfg0.N, ∑ q, h (row p q) = ∑ i, h i := fun h => Fin.sum_mul_add_fin 16 512 h
  have ha : ∀ h : Fin 512 → ℝ, ∑ a : Fin 64, ∑ r : Fin 8, h ⟨a.val * 8 + r.val, by omega⟩ = ∑ q, h q := fun h => Fin.sum_mul_add_fin 64 8 h
  exact Finset.sum_comm.trans ((Finset.sum_congr rfl fun l _ => Finset.sum_comm.trans
    ((Finset.sum_congr rfl fun p _ => Finset.sum_comm.trans (ha fun q => f (row p q) l)).trans (hs fun i => f i l))).trans Finset.sum_comm)

theorem sq_block (x y tg : Fin 8192 → Fin 1024 → ℝ) (g t : Fin 1024 → ℝ) :
    ∑ r : Fin 8, ∑ l : Fin 1024, ∑ p : Fin Cert.LossIdeal.cfg0.N, sqPart x y tg g t p (ix2 r l)
      = ((∑ i, ∑ l, err x y tg g t i l * err x y tg g t i l : ℝ) : EReal) := by
  refine Eq.trans ?_ (congrArg _ (sq_total fun i l => err x y tg g t i l * err x y tg g t i l))
  simp only [← coe_sum]
  rfl

theorem loss_of (x y tg : Fin 8192 → Fin 1024 → ℝ) (g t : Fin 1024 → ℝ) (G : FVec Ideal Cert.LossIdeal.S8x1024 .f32)
    (hG : ∀ j, G j = ∑ p : Fin Cert.LossIdeal.cfg0.N, sqPart x y tg g t p j) (j : Cert.LossIdeal.S_.Idx) :
    lossOf G j = ((1 / 2 * ∑ i, (∑ l, err x y tg g t i l * err x y tg g t i l) / 1024 : ℝ) : EReal) := by
  unfold lossOf
  pointwise []
  simp only [hG]
  rw [sq_block, ofBits_inv2048, ← EReal.coe_mul, ← Finset.sum_div]
  exact congrArg _ (by ring)

/-- Half the mean of the squares differentiates to the error over the row's length. -/
theorem grad_scale (a b e : ℝ) : a * (1 / 2 / 1024 * (2 * e)) * b = e * (1 / 1024) * (a * b) := by ring

set_option maxHeartbeats 400000 in
/-- The loss and its gradients: every result is the derivative's. -/
theorem algebraic_LossIdeal_LossRefIdeal_pre_finite_loss : Cert.algebraic_LossIdeal_LossRefIdeal_pre_finite_loss := by
  intro m ρ m' ρ' hpre hagree
  refine ⟨_, _, _, _, Cert.LossIdeal.Value.run_results m ρ, ?_⟩
  refine (θ_run Cert.LossRefIdeal.defs _ _).mono (fun _ h c => ⟨?_, ?_, ?_, ?_, (h c).2.2.2.2⟩) (Cert.LossRefIdeal.Value.run (F := Ideal) m' ρ')
  all_goals
    obtain ⟨f0, f1, f2, f4, f7⟩ := finite_args m hpre c
    obtain ⟨a0, a1, a2, a3, a4, a5, a6, a7⟩ := hagree c
    have h0 := fun r k => (congrFun a0 _).trans (f0 (ix2 r k))
    have h1 := fun r k => (congrFun a1 _).trans (f1 (ix2 r k))
    have h2 := fun r k => (congrFun a2 _).trans (f2 (ix2 r k))
    have h4 := fun k => (congrFun a4 _).trans (f4 (ix1 k))
    have h7 := fun k => (congrFun a7 _).trans (f7 (ix1 k))
  · rw [(h c).1]
    clear h hagree hpre a0 a1 a2 a3 a4 a5 a6 a7
    rw [final5 m c (fun r k => (m ((c.tc : Thread Cert.LossIdeal.nD Cert.LossIdeal.τ).loc Cert.LossIdeal.main_arg0) (ix2 r k)).toReal)
      (fun r k => (m ((c.tc : Thread Cert.LossIdeal.nD Cert.LossIdeal.τ).loc Cert.LossIdeal.main_arg1) (ix2 r k)).toReal)
      (fun r k => (m ((c.tc : Thread Cert.LossIdeal.nD Cert.LossIdeal.τ).loc Cert.LossIdeal.main_arg2) (ix2 r k)).toReal)
      (fun k => (m ((c.tc : Thread Cert.LossIdeal.nD Cert.LossIdeal.τ).loc Cert.LossIdeal.main_arg4) (ix1 k)).toReal)
      (fun k => (m ((c.tc : Thread Cert.LossIdeal.nD Cert.LossIdeal.τ).loc Cert.LossIdeal.main_arg7) (ix1 k)).toReal)
      (fun r k => f0 (ix2 r k)) (fun r k => f1 (ix2 r k)) (fun r k => f2 (ix2 r k)) (fun k => f4 (ix1 k)) (fun k => f7 (ix1 k)) _ fun j => rfl]
    funext j
    refine Eq.trans ?_ (loss_of _ _ _ _ _ _ (fun _ => rfl) j).symm
    clear f0 f1 f2 f4 f7
    pointwise []
    simp only [h0, h1, h2, h4, h7, ← EReal.coe_mul, ← EReal.coe_add, ← EReal.coe_sub, coe_sum, ofBits_1024, ofBits_eps, ofBits_half, div_1024, rsqrt_ms]
    rfl
  · rw [(h c).2.1]
    clear h hagree hpre
    refine (final4 m c _ _ _ _ _ (fun r k => f0 (ix2 r k)) (fun r k => f1 (ix2 r k)) (fun r k => f2 (ix2 r k)) (fun k => f4 (ix1 k)) (fun k => f7 (ix1 k)) _ fun r l => ?_).symm
    pointwise []
    simp only [h0, h1, h2, h4, h7, ← EReal.coe_mul, ← EReal.coe_add, ← EReal.coe_sub, coe_sum, ofBits_1024, ofBits_eps, ofBits_one, ofBits_half, ofBits_two,
      ← EReal.coe_one, div_1024, rsqrt_ms, Finset.univ_unique, Finset.sum_singleton]
    refine congrArg _ ?_
    unfold dErr err
    ring
  · rw [(h c).2.2.1]
    clear h hagree hpre
    refine (final6 m c _ _ _ _ _ (fun r k => f0 (ix2 r k)) (fun r k => f1 (ix2 r k)) (fun r k => f2 (ix2 r k)) (fun k => f4 (ix1 k)) (fun k => f7 (ix1 k)) _ fun r l => ?_).symm
    unfold Cert.LossRefIdeal.Value.res_main_v62
    pointwise []
    simp only [h0, h1, h2, h4, h7, ← EReal.coe_mul, ← EReal.coe_add, ← EReal.coe_sub, coe_sum, ofBits_1024, ofBits_eps, ofBits_one, ofBits_half, ofBits_two, ofBits_neg_half,
      ← EReal.coe_one, div_1024, rsqrt_ms, div_ms, Finset.univ_unique, Finset.sum_singleton]
    rw [← vjp_eq_normBwd]
    simp only [grad_scale]
    rfl
  · rw [(h c).2.2.2.1]
    clear h hagree hpre
    refine (final7 m c _ _ _ _ _ (fun r k => f0 (ix2 r k)) (fun r k => f1 (ix2 r k)) (fun r k => f2 (ix2 r k)) (fun k => f4 (ix1 k)) (fun k => f7 (ix1 k)) _ fun r l => ?_).symm
    unfold Cert.LossRefIdeal.Value.res_main_v71
    fin_cases r
    all_goals
      pointwise []
      try simp only [h0, h1, h2, h4, h7, ← EReal.coe_mul, ← EReal.coe_add, ← EReal.coe_sub, coe_sum, ofBits_1024, ofBits_eps, ofBits_one, ofBits_half, ofBits_two, ofBits_neg_half,
        ← EReal.coe_one, div_1024, rsqrt_ms, div_ms, Finset.univ_unique, Finset.sum_singleton]
      try exact EReal.coe_zero.symm
    · refine congrArg _ ?_
      show _ = colDot _ _ l * _
      unfold colDot
      rw [Finset.sum_mul]
      exact Finset.sum_congr rfl fun k _ => by unfold dErr err; ring
    · refine congrArg _ ?_
      show _ = colDot _ _ l * _
      unfold colDot
      rw [Finset.sum_mul]
      exact Finset.sum_congr rfl fun k _ => by unfold dErr err; ring

end Cert.Proof
-- ==== Proof.Ada.lean ====
module

public import proofs.«01_k».proof.Defs
public import proofs.«01_k».proof.Proof.Gen.AdaIdeal.Value
public import proofs.«01_k».proof.Proof.Gen.AdaRefIdeal.Run
public import Idealize.ShloMosaic.Lib.Pipeline.ValueKit
public import Idealize.ShloMosaic.Lib.Pointwise

@[expose] public section

set_option maxRecDepth 16384

noncomputable section

namespace Cert.Proof

open Idealize.ShloMosaic Idealize.ShloMosaic.TcCoe Idealize.SL.Sem

/-- The kernel's activation at an index: `c` times its logistic function, spelt through the exponential. -/
theorem ada_act (x : FVec Ideal Cert.AdaIdeal.S8x1024 .f32) (b : Fin 8) (k : Fin 1024) :
    Cert.AdaIdeal.Gen.k0_pay1 (F := Ideal) x (ix2 b k)
      = x (ix2 b k) * Ideal.div 1 (1 + Ideal.exp (-x (ix2 b k))) := by
  pointwise [Cert.AdaIdeal.Gen.k0_pay1]
  try rw [zero_sub]

set_option maxHeartbeats 1600000 in
/-- The modulation weight's gradient: both programs contract the batch axis of the activation with the cotangent. -/
theorem algebraic_AdaIdeal_AdaRefIdeal : algebraic_AdaIdeal_AdaRefIdeal := by
  intro m ρ m' ρ' _ hagree
  refine ⟨_, Cert.AdaIdeal.Value.run (F := Ideal) m ρ, ?_⟩
  refine (θ_run Cert.AdaRefIdeal.defs _ _).mono (fun _ h c => ⟨?_, (h c).2⟩) (Cert.AdaRefIdeal.Value.run (F := Ideal) m' ρ')
  rw [(h c).1]
  simp only [hagree c]
  clear h
  funext i
  idx_vars i
  symm
  canon_tiles y h
  all_goals
    pointwise [Cert.AdaIdeal.Gen.k0_pay2, Cert.AdaIdeal.Gen.k0_pay3]
    simp only [ix3_0, ix3_1, ix3_2] at h0 h1 h2
    have e1 : y 1 = i1 := Fin.ext h1.symm
    have e2 : y 2 = i2 := Fin.ext h2.symm
  · rw [dif_pos (by omega), dif_neg (by omega), add_zero]
    refine Finset.sum_congr rfl fun b _ => ?_
    rw [e1, e2, ada_act]
    exact mul_comm _ _
  · rw [dif_neg (by omega), dif_pos (by omega), zero_add]
    refine Finset.sum_congr rfl fun b _ => ?_
    rw [e1, e2, ada_act]
    exact mul_comm _ _

end Cert.Proof
-- ==== Proof.PoolSpec.lean ====
module

public import proofs.«01_k».proof.Proof.Reals

/-! The pooling mixer's sub-layer over the reals: its forward values and the gradients both programs compute. -/

@[expose] public section

noncomputable section

namespace Cert.PoolVal

open Idealize.ShloMosaic Cert.Reals

/-- The sub-layer's real inputs: the rows, the cotangent, the two gains, the modulation, the layer scale, the mixing weights. -/
structure In where
  x : Fin 8192 → Fin 1024 → ℝ
  g : Fin 1024 → ℝ
  pg : Fin 1024 → ℝ
  sh : Fin 1024 → ℝ
  sc : Fin 1024 → ℝ
  gt : Fin 1024 → ℝ
  W : Fin 4 → Fin 256 → Fin 256 → ℝ
  scl : Fin 1024 → ℝ
  ct : Fin 8192 → Fin 1024 → ℝ

/-- The four groups' windows. -/
def wn (q : Fin 4) : ℕ := 2 ^ (q.val + 1)

/-- Column `e` of group `q`. -/
abbrev col (q : Fin 4) (e : Fin 256) : Fin 1024 := ⟨q.val * 256 + e.val, by omega⟩

/-- A column's group, and its place there. -/
abbrev grp (l : Fin 1024) : Fin 4 := ⟨l.val / 256, by omega⟩

abbrev off (l : Fin 1024) : Fin 256 := ⟨l.val % 256, by omega⟩

theorem grp_col (q : Fin 4) (e : Fin 256) : grp (col q e) = q := Fin.ext (by show (q.val * 256 + e.val) / 256 = q.val; omega)

theorem off_col (q : Fin 4) (e : Fin 256) : off (col q e) = e := Fin.ext (by show (q.val * 256 + e.val) % 256 = e.val; omega)

theorem col_grp (l : Fin 1024) : col (grp l) (off l) = l := Fin.ext (by show l.val / 256 * 256 + l.val % 256 = l.val; omega)

/-- A column's values at every row number, zero past the last row. -/
def ext (f : Fin 8192 → ℝ) (n : ℕ) : ℝ := if h : n < 8192 then f ⟨n, h⟩ else 0

theorem ext_lt (f : Fin 8192 → ℝ) (r : Fin 8192) : ext f r.val = f r := dif_pos r.isLt

theorem ext_ge (f : Fin 8192 → ℝ) (n : ℕ) (h : 8192 ≤ n) : ext f n = 0 := dif_neg (by omega)

/-- The trailing window's sum, short at the start. -/
def fsum (w : ℕ) (f : Fin 8192 → ℝ) (t : ℕ) : ℝ := ∑ k ∈ Finset.range w, if k ≤ t then ext f (t - k) else 0

/-- The leading window's sum, short at the end. -/
def bsum (w : ℕ) (f : Fin 8192 → ℝ) (t : ℕ) : ℝ := ∑ k ∈ Finset.range w, ext f (t + k)

/-- How many rows a trailing window holds. -/
def cnt (w t : ℕ) : ℝ := ((min (t + 1) w : ℕ) : ℝ)

theorem cnt_ne (q : Fin 4) (t : ℕ) : cnt (wn q) t ≠ 0 := by
  have h : 0 < wn q := Nat.pos_of_ne_zero (by unfold wn; positivity)
  exact Nat.cast_ne_zero.2 (by omega)

namespace In

variable (I : In)

def h (r : Fin 8192) (l : Fin 1024) : ℝ := I.x r l * rinv (I.x r) * (I.g l * (1 + I.sc l)) + I.sh l

def pooled (q : Fin 4) (r : Fin 8192) (a : Fin 256) : ℝ :=
  fsum (wn q) (fun t => I.h t (col q a)) r.val / cnt (wn q) r.val - I.h r (col q a)

def yp (r : Fin 8192) (l : Fin 1024) : ℝ := ∑ a, I.W (grp l) a (off l) * I.pooled (grp l) r a

def y (r : Fin 8192) (l : Fin 1024) : ℝ := I.yp r l * I.scl l

def dy (r : Fin 8192) (l : Fin 1024) : ℝ := normBwd (I.y r) (fun k => I.ct r k * (I.gt k * I.pg k)) l

def dys (r : Fin 8192) (l : Fin 1024) : ℝ := I.dy r l * I.scl l

def dp (q : Fin 4) (r : Fin 8192) (a : Fin 256) : ℝ := ∑ e, I.dys r (col q e) * I.W q a e

def dq (q : Fin 4) (a : Fin 256) (r : Fin 8192) : ℝ := I.dp q r a / cnt (wn q) r.val

def dhg (q : Fin 4) (r : Fin 8192) (a : Fin 256) : ℝ := bsum (wn q) (I.dq q a) r.val - I.dp q r a

def dh (r : Fin 8192) (l : Fin 1024) : ℝ := I.dhg (grp l) r (off l)

/-- The rows' gradient. -/
def dx (r : Fin 8192) (l : Fin 1024) : ℝ := I.ct r l + normBwd (I.x r) (fun k => I.dh r k * (I.g k * (1 + I.sc k))) l

/-- What row `i` adds to the small block's six rows. -/
def pgRow (r : Fin 8) (i : Fin 8192) (l : Fin 1024) : ℝ :=
  if r.val = 0 then I.dh i l * (I.x i l * rinv (I.x i)) * (1 + I.sc l)
  else if r.val = 1 then I.dh i l * (I.x i l * rinv (I.x i)) * I.g l
  else if r.val = 2 then I.dh i l
  else if r.val = 3 then I.ct i l * (I.y i l * rinv (I.y i)) * I.gt l
  else if r.val = 4 then I.ct i l * (I.y i l * rinv (I.y i)) * I.pg l
  else if r.val = 5 then I.dy i l * I.yp i l else 0

/-- The small block: the input norm's gain, scale and shift, the output norm's gain, the gate, the layer scale. -/
def pgs (r : Fin 8) (l : Fin 1024) : ℝ := ∑ i, I.pgRow r i l

/-- The mixing weights' gradient. -/
def dW (q : Fin 4) (a e : Fin 256) : ℝ := ∑ i, I.pooled q i a * I.dys i (col q e)

end In

end Cert.PoolVal
-- ==== Proof.PoolPay.lean ====
module

public import proofs.«01_k».proof.Proof.Gen.PoolIdeal.Frame
public import proofs.«01_k».proof.Proof.PoolSpec

/-! What the pooling kernel's vector expressions hold, element by element, where their operands are real. -/

@[expose] public section

set_option maxRecDepth 16384

noncomputable section

namespace Cert.PoolVal

open Cert.PoolIdeal Cert.PoolIdeal.Gen Idealize.ShloMosaic Idealize.ShloMosaic.TcCoe Idealize.SL.Sem Cert.Reals

/-! ## The two norms -/

section
variable (v5 : FVec Ideal S8x1024 .f32) (v7 v8 : FVec Ideal S512x1024 .f32) (v10 : FVec Ideal S1x1024 .f32)
  (pg gt s : Fin 1024 → ℝ) (ct yp : Fin 512 → Fin 1024 → ℝ)
  (h3 : ∀ k, v5 (ix2 3 k) = (pg k : EReal)) (h4 : ∀ k, v5 (ix2 4 k) = (gt k : EReal))
  (h7 : ∀ r k, v7 (ix2 r k) = (ct r k : EReal)) (h8 : ∀ r k, v8 (ix2 r k) = (yp r k : EReal)) (h10 : ∀ k, v10 (ix2 0 k) = (s k : EReal))
include h3 h4 h7 h8 h10

theorem rsqrt_ys (r : Fin 512) :
    Ideal.rsqrt (((∑ k, yp r k * s k * (yp r k * s k)) / 1024 + eps : ℝ) : EReal) = ((rinv (fun k => yp r k * s k) : ℝ) : EReal) :=
  rsqrt_ms fun k => yp r k * s k

theorem pay15_at (r : Fin 512) (l : Fin 1024) :
    k0_pay15 (F := Ideal) v5 v7 v8 v10 (ix2 r l) = ((normBwd (fun k => yp r k * s k) (fun k => ct r k * (gt k * pg k)) l : ℝ) : EReal) := by
  have e := rsqrt_ys v5 v7 v8 v10 pg gt s ct yp h3 h4 h7 h8 h10 r
  pointwise [k0_pay15, k0_pay14, k0_pay13, k0_pay12, k0_pay11, k0_pay10, k0_pay9, k0_pay8, k0_pay7]
  simp only [h3, h4, h7, h8, h10, e, ← EReal.coe_mul, ← EReal.coe_add, ← EReal.coe_sub, coe_sum, ofBits_1024, ofBits_eps, div_1024]
  rfl

theorem pay21_at (r : Fin 512) (l : Fin 1024) :
    k0_pay21 (F := Ideal) (k0_pay9 v10) (k0_pay15 v5 v7 v8 v10) (ix2 r l) = ((normBwd (fun k => yp r k * s k) (fun k => ct r k * (gt k * pg k)) l * s l : ℝ) : EReal) := by
  have e := pay15_at v5 v7 v8 v10 pg gt s ct yp h3 h4 h7 h8 h10 r l
  pointwise [k0_pay21, k0_pay9]
  rw [e, h10, ← EReal.coe_mul]

theorem pay18_at (z : FVec Ideal S1x1024 .f32) (l : Fin 1024) :
    k0_pay18 (F := Ideal) (k0_pay13 v5) (k0_pay16 v7 v8 v10) z (ix2 0 l)
      = z (ix2 0 l) + ((∑ r, ct r l * (yp r l * s l * rinv (fun k => yp r k * s k)) * gt l : ℝ) : EReal) := by
  have e := rsqrt_ys v5 v7 v8 v10 pg gt s ct yp h3 h4 h7 h8 h10
  pointwise [k0_pay18, k0_pay17, k0_pay16, k0_pay13, k0_pay12, k0_pay11, k0_pay10, k0_pay9, k0_pay8, k0_pay7]
  simp only [h3, h4, h7, h8, h10, e, ← EReal.coe_mul, ← EReal.coe_add, ← EReal.coe_sub, coe_sum, ofBits_1024, ofBits_eps, div_1024]
  rw [Finset.sum_mul]

theorem pay19_at (z : FVec Ideal S1x1024 .f32) (l : Fin 1024) :
    k0_pay19 (F := Ideal) (k0_pay14 v5) (k0_pay16 v7 v8 v10) z (ix2 0 l)
      = z (ix2 0 l) + ((∑ r, ct r l * (yp r l * s l * rinv (fun k => yp r k * s k)) * pg l : ℝ) : EReal) := by
  have e := rsqrt_ys v5 v7 v8 v10 pg gt s ct yp h3 h4 h7 h8 h10
  pointwise [k0_pay19, k0_pay17, k0_pay16, k0_pay14, k0_pay12, k0_pay11, k0_pay10, k0_pay9, k0_pay8, k0_pay7]
  simp only [h3, h4, h7, h8, h10, e, ← EReal.coe_mul, ← EReal.coe_add, ← EReal.coe_sub, coe_sum, ofBits_1024, ofBits_eps, div_1024]
  rw [Finset.sum_mul]

theorem pay20_at (z : FVec Ideal S1x1024 .f32) (l : Fin 1024) :
    k0_pay20 (F := Ideal) (k0_pay8 v8) (k0_pay15 v5 v7 v8 v10) z (ix2 0 l)
      = z (ix2 0 l) + ((∑ r, normBwd (fun k => yp r k * s k) (fun k => ct r k * (gt k * pg k)) l * yp r l : ℝ) : EReal) := by
  have e := fun r => pay15_at v5 v7 v8 v10 pg gt s ct yp h3 h4 h7 h8 h10 r l
  pointwise [k0_pay20, k0_pay8]
  simp only [e, h8, ← EReal.coe_mul, coe_sum]
end

section
variable (v5 : FVec Ideal S8x1024 .f32) (g s t : Fin 1024 → ℝ)
  (g0 : ∀ k, v5 (ix2 0 k) = (g k : EReal)) (g1 : ∀ k, v5 (ix2 1 k) = (s k : EReal)) (g2 : ∀ k, v5 (ix2 2 k) = (t k : EReal))
include g0 g1 g2

theorem pay22_at (v4 : FVec Ideal S512x1024 .f32) (x : Fin 512 → Fin 1024 → ℝ) (h4 : ∀ r k, v4 (ix2 r k) = (x r k : EReal)) (r : Fin 512) (l : Fin 1024) :
    k0_pay22 (F := Ideal) v4 (k0_pay7 v5) (ix2 r l) = ((x r l * rinv (x r) * (g l * s l) + t l : ℝ) : EReal) := by
  pointwise [k0_pay22, k0_pay7]
  simp only [h4, g0, g1, g2, ← EReal.coe_mul, ← EReal.coe_add, ← EReal.coe_sub, coe_sum, ofBits_1024, ofBits_eps, div_1024, rsqrt_ms]

theorem pay23_at (b : ℕ) (hb : b < 16) (v4 : FVec Ideal S16x1024 .f32) (x : Fin 16 → Fin 1024 → ℝ) (h4 : ∀ r k, v4 (ix2 r k) = (x r k : EReal)) (r : Fin 16) (l : Fin 1024) :
    k0_pay23 (F := Ideal) (BitVec.ofNat 32 b) (k0_pay7 v5) v4 (ix2 r l) = ((if b = 0 then 0 else x r l * rinv (x r) * (g l * s l) + t l : ℝ) : EReal) := by
  pointwise [k0_pay23, k0_pay7]
  simp only [h4, g0, g1, g2, ← EReal.coe_mul, ← EReal.coe_add, ← EReal.coe_sub, coe_sum, ofBits_1024, ofBits_eps, div_1024, rsqrt_ms]
  by_cases h0 : b = 0
  · subst h0
    rw [if_pos rfl, EReal.coe_zero]
    rfl
  · have h1 : Scalar.cmpi .sgt (BitVec.ofNat 32 b) 0#32 = 1#1 := by
      clear g0 g1 g2 h4
      interval_cases b
      · exact absurd rfl h0
      all_goals decide
    rw [h1, if_neg h0]
    rfl

variable (v4 : FVec Ideal S512x1024 .f32) (dh : FVec Ideal S512x1024 .f32) (x d : Fin 512 → Fin 1024 → ℝ)
  (h4 : ∀ r k, v4 (ix2 r k) = (x r k : EReal)) (hd : ∀ r k, dh (ix2 r k) = (d r k : EReal))
include h4 hd

theorem pay2_at (v7 : FVec Ideal S512x1024 .f32) (ct : Fin 512 → Fin 1024 → ℝ) (h7 : ∀ r k, v7 (ix2 r k) = (ct r k : EReal)) (r : Fin 512) (l : Fin 1024) :
    k0_pay2 (F := Ideal) v7 (k0_pay60 v4 (k0_pay7 v5) dh (k0_pay55 v4)) (ix2 r l)
      = ((ct r l + normBwd (x r) (fun k => d r k * (g k * s k)) l : ℝ) : EReal) := by
  pointwise [k0_pay2, k0_pay60, k0_pay59, k0_pay58, k0_pay57, k0_pay56, k0_pay55, k0_pay7]
  simp only [h4, h7, hd, g0, g1, ← EReal.coe_mul, ← EReal.coe_add, ← EReal.coe_sub, coe_sum, ofBits_1024, ofBits_eps, div_1024, rsqrt_ms]
  rfl

theorem pay62_at (z : FVec Ideal S1x1024 .f32) (l : Fin 1024) :
    k0_pay62 (F := Ideal) v4 (k0_pay7 v5) dh (k0_pay55 v4) z (ix2 0 l) = z (ix2 0 l) + ((∑ r, d r l * (x r l * rinv (x r)) * s l : ℝ) : EReal) := by
  pointwise [k0_pay62, k0_pay61, k0_pay59, k0_pay57, k0_pay56, k0_pay55, k0_pay7]
  simp only [h4, hd, g0, g1, ← EReal.coe_mul, ← EReal.coe_add, ← EReal.coe_sub, coe_sum, ofBits_1024, ofBits_eps, div_1024, rsqrt_ms]
  rw [Finset.sum_mul]

theorem pay63_at (z : FVec Ideal S1x1024 .f32) (l : Fin 1024) :
    k0_pay63 (F := Ideal) v4 (k0_pay7 v5) dh (k0_pay55 v4) z (ix2 0 l) = z (ix2 0 l) + ((∑ r, d r l * (x r l * rinv (x r)) * g l : ℝ) : EReal) := by
  pointwise [k0_pay63, k0_pay61, k0_pay58, k0_pay57, k0_pay56, k0_pay55, k0_pay7]
  simp only [h4, hd, g0, g1, ← EReal.coe_mul, ← EReal.coe_add, ← EReal.coe_sub, coe_sum, ofBits_1024, ofBits_eps, div_1024, rsqrt_ms]
  rw [Finset.sum_mul]

theorem pay1_at (z : FVec Ideal S1x1024 .f32) (l : Fin 1024) :
    k0_pay1 (F := Ideal) (k0_pay64 z) (k0_pay65 dh) (ix2 0 l) = z (ix2 0 l) + ((∑ r, d r l : ℝ) : EReal) := by
  pointwise [k0_pay1, k0_pay64, k0_pay65]
  simp only [hd, coe_sum]
end

/-! ## The windows' lengths -/

theorem col0 (e : Fin 256) : col 0 e = ⟨e.val, by omega⟩ := Fin.ext (by show 0 * 256 + e.val = e.val; omega)

theorem cnt_at (n w : ℕ) (hn : n ≤ 8192) (hw : w ≤ 16) :
    (FloatOps.sitofp (F := Ideal) .f32 (IntOp.minsi (BitVec.ofNat 32 n) (BitVec.ofNat 32 w)) : Ideal .f32) = (((min n w : ℕ) : ℝ) : EReal) := by
  have en : (BitVec.ofNat 32 n).toInt = (n : ℤ) := by
    rw [BitVec.toInt_eq_toNat_of_lt] <;> rw [BitVec.toNat_ofNat] <;> omega
  have ew : (BitVec.ofNat 32 w).toInt = (w : ℤ) := by
    rw [BitVec.toInt_eq_toNat_of_lt] <;> rw [BitVec.toNat_ofNat] <;> omega
  show (((IntOp.minsi (BitVec.ofNat 32 n) (BitVec.ofNat 32 w)).toInt : ℝ) : EReal) = _
  unfold IntOp.minsi
  rw [BitVec.slt_eq_decide, en, ew]
  by_cases h : n < w
  · rw [if_pos (by simpa using h), en, min_eq_left h.le, Int.cast_natCast]
  · rw [if_neg (by simpa using h), ew, min_eq_right (by omega), Int.cast_natCast]

theorem pos_at (b : ℕ) (hb : b < 16) (r : Fin 512) :
    IntOp.addi (IntOp.addi (Scalar.muli (BitVec.ofNat 32 b) 512#32) (BitVec.ofNat 32 r.val)) 1#32 = BitVec.ofNat 32 (b * 512 + r.val + 1) := by
  show BitVec.ofNat 32 b * 512#32 + BitVec.ofNat 32 r.val + 1#32 = _
  rw [BitVec.ofNat_add, BitVec.ofNat_add, BitVec.ofNat_mul]

theorem cnt27 (b : ℕ) (hb : b < 16) (r : Fin 512) : k0_pay27 (F := Ideal) (BitVec.ofNat 32 b) (ix2 r 0) = (cnt (wn 0) (b * 512 + r.val) : EReal) := by
  pointwise [k0_pay27]
  rw [pos_at b hb r]
  exact cnt_at _ 2 (by omega) (by omega)

theorem cnt35 (b : ℕ) (hb : b < 16) (r : Fin 512) : k0_pay35 (F := Ideal) (Scalar.muli (BitVec.ofNat 32 b) 512#32) (ix2 r 0) = (cnt (wn 1) (b * 512 + r.val) : EReal) := by
  pointwise [k0_pay35]
  rw [pos_at b hb r]
  exact cnt_at _ 4 (by omega) (by omega)

theorem cnt42 (b : ℕ) (hb : b < 16) (r : Fin 512) : k0_pay42 (F := Ideal) (BitVec.ofNat 32 b) (ix2 r 0) = (cnt (wn 2) (b * 512 + r.val) : EReal) := by
  pointwise [k0_pay42]
  rw [pos_at b hb r]
  exact cnt_at _ 8 (by omega) (by omega)

theorem cnt48 (b : ℕ) (hb : b < 16) (r : Fin 512) : k0_pay48 (F := Ideal) (BitVec.ofNat 32 b) (ix2 r 0) = (cnt (wn 3) (b * 512 + r.val) : EReal) := by
  pointwise [k0_pay48]
  rw [pos_at b hb r]
  exact cnt_at _ 16 (by omega) (by omega)

/-! ## Window sums by doubling -/

/-- The trailing sums: turned down by its own width and added, a sum of `w` rows is one of `2 w`. -/
theorem dn_step (V : Fin 256 → ℕ → ℝ) (w p : ℕ) (n : BitVec 32) (hn : n.toNat = w) (hw : w ≤ 16) (v : FVec Ideal S528x256 .f32)
    (hv : ∀ (r : Fin 528) (l : Fin 256), p ≤ r.val → v (ix2 r l) = ((∑ k ∈ Finset.range w, V l (r.val - k) : ℝ) : EReal))
    (r : Fin 528) (l : Fin 256) (h : p + w ≤ r.val) :
    addf (F := Ideal) v (dynamicRotate 0 n none v rotates_S528x256_d0) (ix2 r l) = ((∑ k ∈ Finset.range (w + w), V l (r.val - k) : ℝ) : EReal) := by
  have e : (r.val + 528 - n.toNat % 528) % 528 = r.val - w := by have := r.isLt; omega
  pointwise []
  rw [hv r l (by omega), hv _ l (by show p ≤ (r.val + 528 - n.toNat % 528) % 528; omega), ← EReal.coe_add, Finset.sum_range_add]
  refine congrArg (fun z : ℝ => (z : EReal)) (congrArg _ (Finset.sum_congr rfl fun k _ => congrArg _ ?_))
  show (r.val + 528 - n.toNat % 528) % 528 - k = _
  omega

/-- The leading sums likewise, turned up. -/
theorem up_step (V : Fin 256 → ℕ → ℝ) (w p : ℕ) (n : BitVec 32) (hn : n.toNat + w = 528) (hw0 : 0 < w) (hw : w ≤ 16) (v : FVec Ideal S528x256 .f32)
    (hv : ∀ (r : Fin 528) (l : Fin 256), r.val + p < 528 → v (ix2 r l) = ((∑ k ∈ Finset.range w, V l (r.val + k) : ℝ) : EReal))
    (r : Fin 528) (l : Fin 256) (h : r.val + (p + w) < 528) :
    addf (F := Ideal) v (dynamicRotate 0 n none v rotates_S528x256_d0) (ix2 r l) = ((∑ k ∈ Finset.range (w + w), V l (r.val + k) : ℝ) : EReal) := by
  have e : (r.val + 528 - n.toNat % 528) % 528 = r.val + w := by have := r.isLt; omega
  pointwise []
  rw [hv r l (by omega), hv _ l (by show (r.val + 528 - n.toNat % 528) % 528 + p < 528; omega), ← EReal.coe_add, Finset.sum_range_add]
  refine congrArg (fun z : ℝ => (z : EReal)) (congrArg _ (Finset.sum_congr rfl fun k _ => congrArg _ ?_))
  show (r.val + 528 - n.toNat % 528) % 528 + k = _
  omega

section
variable (V : Fin 256 → ℕ → ℝ) (v : FVec Ideal S528x256 .f32) (hv : ∀ (r : Fin 528) (l : Fin 256), v (ix2 r l) = (V l r.val : EReal))
include hv

theorem dn2 (r : Fin 528) (l : Fin 256) (h : 1 ≤ r.val) : addf (F := Ideal) v (dynamicRotate 0 1#32 none v rotates_S528x256_d0) (ix2 r l)
    = ((∑ k ∈ Finset.range 2, V l (r.val - k) : ℝ) : EReal) :=
  dn_step V 1 0 1#32 rfl (by omega) v (fun r l _ => by rw [Finset.sum_range_one]; exact hv r l) r l h

theorem up2 (r : Fin 528) (l : Fin 256) (h : r.val + 1 < 528) : addf (F := Ideal) v (dynamicRotate 0 527#32 none v rotates_S528x256_d0) (ix2 r l)
    = ((∑ k ∈ Finset.range 2, V l (r.val + k) : ℝ) : EReal) :=
  up_step V 1 0 527#32 rfl (by omega) (by omega) v (fun r l _ => by rw [Finset.sum_range_one]; exact hv r l) r l h
end

/-! ## The weights' gradient, one group's part of one block of rows -/

/-- The group's mean less its own row, against the group's cotangent, the rows summed, added to what stood there. -/
theorem acc_at (p hg : FVec Ideal S512x256 .f32) (cn : FVec Ideal S512x1 .f32) (dyg : FVec Ideal S512x256 .bf16) (z : FVec Ideal S1x256x256 .f32) (a e : Fin 256) :
    shapeCast S1x256x256 (addf (F := Ideal) (shapeCast S256x256 z shapeCasts_S1x256x256_S256x256)
        (matmul dot_S512x256_S512x256_S256x256_0_0_1_1_n_n none
          (truncf .bf16 (subf (divf p (broadcastTo S512x256 cn broadcasts_S512x1_S512x256)) hg) bitsLt_bf16_f32) dyg (constant S256x256 .f32 0x00000000#32)))
        shapeCasts_S256x256_S1x256x256 (ix3 0 a e)
      = z (ix3 0 a e) + ∑ x, (Ideal.div (p (ix2 x a)) (cn (ix2 x 0)) - hg (ix2 x a)) * dyg (ix2 x e) := by
  pointwise []

/-- The same over the reals. -/
theorem acc_real (q : Fin 4) (b : ℕ) (p hg : FVec Ideal S512x256 .f32) (cn : FVec Ideal S512x1 .f32) (dyg : FVec Ideal S512x256 .bf16) (a e : Fin 256)
    (P H D : Fin 512 → ℝ) (hp : ∀ x, p (ix2 x a) = (P x : EReal)) (hh : ∀ x, hg (ix2 x a) = (H x : EReal)) (hd : ∀ x, dyg (ix2 x e) = (D x : EReal))
    (hc : ∀ x : Fin 512, cn (ix2 x 0) = (cnt (wn q) (b * 512 + x.val) : EReal)) :
    ∑ x, (Ideal.div (p (ix2 x a)) (cn (ix2 x 0)) - hg (ix2 x a)) * dyg (ix2 x e)
      = ((∑ x : Fin 512, (P x / cnt (wn q) (b * 512 + x.val) - H x) * D x : ℝ) : EReal) := by
  rw [← coe_sum]
  refine Finset.sum_congr rfl fun x _ => ?_
  rw [hp, hh, hd, hc, div_real _ _ (cnt_ne q _), ← EReal.coe_sub, ← EReal.coe_mul]

theorem slice16_at (u : FVec Ideal S528x256 .f32) (x : Fin 512) (a : Fin 256) :
    extractStridedSlice S512x256 ![16, 0] u slices_S528x256_o16_0_S512x256 (ix2 x a) = u (ix2 ⟨16 + x.val, by omega⟩ a) := by
  pointwise []

section
variable (b : ℕ) (hb : b < 16) (dys h : FVec Ideal S512x1024 .f32) (D H : Fin 512 → Fin 1024 → ℝ) (V : Fin 256 → ℕ → ℝ) (v : FVec Ideal S528x256 .f32)
  (hd : ∀ r k, dys (ix2 r k) = (D r k : EReal)) (hh : ∀ r k, h (ix2 r k) = (H r k : EReal)) (hv : ∀ (r : Fin 528) (l : Fin 256), v (ix2 r l) = (V l r.val : EReal))
  (z : FVec Ideal S1x256x256 .f32) (a e : Fin 256)
include hb hd hh hv

theorem dW0_at : k0_pay29 (F := Ideal) dys (k0_pay25 h) (k0_pay26 v) (k0_pay27 (BitVec.ofNat 32 b)) z (ix3 0 a e)
    = z (ix3 0 a e) + ((∑ x : Fin 512, ((∑ k ∈ Finset.range (wn 0), V a (16 + x.val - k)) / cnt (wn 0) (b * 512 + x.val) - H x (col 0 a)) * D x (col 0 e) : ℝ) : EReal) :=
  (acc_at _ _ _ _ z a e).trans (congrArg _ (acc_real 0 b _ _ _ _ a e (fun x => ∑ k ∈ Finset.range (wn 0), V a (16 + x.val - k)) (fun x => H x (col 0 a)) (fun x => D x (col 0 e))
    (fun x => (slice16_at _ x a).trans (dn2 V v hv _ _ (by show 1 ≤ 16 + x.val; omega)))
    (fun x => by pointwise [k0_pay25]; rw [col0]; exact hh x _) (fun x => by pointwise [k0_pay28]; rw [col0]; exact hd x _) (cnt27 b hb)))

theorem dW1_at : k0_pay37 (F := Ideal) dys (Scalar.muli (BitVec.ofNat 32 b) 512#32) (k0_pay33 h) (k0_pay34 v) 2#32 z (ix3 0 a e)
    = z (ix3 0 a e) + ((∑ x : Fin 512, ((∑ k ∈ Finset.range (wn 1), V a (16 + x.val - k)) / cnt (wn 1) (b * 512 + x.val) - H x (col 1 a)) * D x (col 1 e) : ℝ) : EReal) :=
  (acc_at _ _ _ _ z a e).trans (congrArg _ (acc_real 1 b _ _ _ _ a e (fun x => ∑ k ∈ Finset.range (wn 1), V a (16 + x.val - k)) (fun x => H x (col 1 a)) (fun x => D x (col 1 e))
    (fun x => (slice16_at _ x a).trans (dn_step V 2 1 2#32 rfl (by omega) _ (dn2 V v hv) _ _ (by show 3 ≤ 16 + x.val; omega)))
    (fun x => by pointwise [k0_pay33]; exact hh x (col 1 a)) (fun x => by pointwise [k0_pay36]; exact hd x (col 1 e)) (cnt35 b hb)))

theorem dW2_at : k0_pay44 (F := Ideal) (BitVec.ofNat 32 b) dys h v z (ix3 0 a e)
    = z (ix3 0 a e) + ((∑ x : Fin 512, ((∑ k ∈ Finset.range (wn 2), V a (16 + x.val - k)) / cnt (wn 2) (b * 512 + x.val) - H x (col 2 a)) * D x (col 2 e) : ℝ) : EReal) :=
  (acc_at _ _ _ _ z a e).trans (congrArg _ (acc_real 2 b _ _ _ _ a e (fun x => ∑ k ∈ Finset.range (wn 2), V a (16 + x.val - k)) (fun x => H x (col 2 a)) (fun x => D x (col 2 e))
    (fun x => (slice16_at _ x a).trans (dn_step V 4 3 4#32 rfl (by omega) _ (dn_step V 2 1 2#32 rfl (by omega) _ (dn2 V v hv)) _ _ (by show 7 ≤ 16 + x.val; omega)))
    (fun x => by pointwise []; exact hh x (col 2 a)) (fun x => by pointwise [k0_pay43]; exact hd x (col 2 e)) (cnt42 b hb)))

theorem dW3_at : k0_pay51 (F := Ideal) dys (k0_pay49 (BitVec.ofNat 32 b) h v) z (ix3 0 a e)
    = z (ix3 0 a e) + ((∑ x : Fin 512, ((∑ k ∈ Finset.range (wn 3), V a (16 + x.val - k)) / cnt (wn 3) (b * 512 + x.val) - H x (col 3 a)) * D x (col 3 e) : ℝ) : EReal) :=
  (acc_at _ _ _ _ z a e).trans (congrArg _ (acc_real 3 b _ _ _ _ a e (fun x => ∑ k ∈ Finset.range (wn 3), V a (16 + x.val - k)) (fun x => H x (col 3 a)) (fun x => D x (col 3 e))
    (fun x => (slice16_at _ x a).trans (dn_step V 8 7 8#32 rfl (by omega) _ (dn_step V 4 3 4#32 rfl (by omega) _ (dn_step V 2 1 2#32 rfl (by omega) _ (dn2 V v hv))) _ _ (by show 15 ≤ 16 + x.val; omega)))
    (fun x => by pointwise []; exact hh x (col 3 a)) (fun x => by pointwise [k0_pay50]; exact hd x (col 3 e)) (cnt48 b hb)))
end

/-! ## The gradient through the mean -/

/-- The leading sum less the group's own row. -/
theorem sub_at (u : FVec Ideal S528x256 .f32) (w : FVec Ideal S512x256 .f32) (r : Fin 512) (a : Fin 256) :
    shapeCast S512x256 (subf (F := Ideal) (extractStridedSlice S512x256 ![0, 0] u slices_S528x256_o0_0_S512x256) w) shapeCasts_S512x256_S512x256 (ix2 r a)
      = u (ix2 ⟨r.val, by omega⟩ a) - w (ix2 r a) := by
  pointwise []

section
variable (b : ℕ) (hb : b < 16) (dys : FVec Ideal S512x1024 .f32) (D : Fin 512 → Fin 1024 → ℝ) (W : Fin 256 → Fin 256 → ℝ) (w : FVec Ideal S1x256x256 .bf16)
  (hd : ∀ r k, dys (ix2 r k) = (D r k : EReal)) (hw : ∀ a e, w (ix3 0 a e) = (W a e : EReal)) (r : Fin 512) (a : Fin 256)
include hb hd hw

theorem dp0_at : k0_pay30 (F := Ideal) dys w (ix2 r a) = ((∑ e, D r (col 0 e) * W a e : ℝ) : EReal) := by
  pointwise [k0_pay30, k0_pay28]
  rw [← coe_sum]
  exact Finset.sum_congr rfl fun e _ => (congrArg₂ _ ((congrArg (fun k => dys (ix2 r k)) (col0 e).symm).trans (hd r (col 0 e))) (hw a e)).trans (EReal.coe_mul _ _).symm

theorem dp1_at : k0_pay38 (F := Ideal) dys w (ix2 r a) = ((∑ e, D r (col 1 e) * W a e : ℝ) : EReal) := by
  pointwise [k0_pay38, k0_pay36]
  rw [← coe_sum]
  exact Finset.sum_congr rfl fun e _ => (congrArg₂ _ (hd r (col 1 e)) (hw a e)).trans (EReal.coe_mul _ _).symm

theorem dp2_at : k0_pay45 (F := Ideal) dys w (ix2 r a) = ((∑ e, D r (col 2 e) * W a e : ℝ) : EReal) := by
  pointwise [k0_pay45, k0_pay43]
  rw [← coe_sum]
  exact Finset.sum_congr rfl fun e _ => (congrArg₂ _ (hd r (col 2 e)) (hw a e)).trans (EReal.coe_mul _ _).symm

theorem dp3_at : k0_pay52 (F := Ideal) dys w (ix2 r a) = ((∑ e, D r (col 3 e) * W a e : ℝ) : EReal) := by
  pointwise [k0_pay52, k0_pay50]
  rw [← coe_sum]
  exact Finset.sum_congr rfl fun e _ => (congrArg₂ _ (hd r (col 3 e)) (hw a e)).trans (EReal.coe_mul _ _).symm

theorem dq0_at : k0_pay31 (F := Ideal) dys (k0_pay27 (BitVec.ofNat 32 b)) w (ix2 r a) = (((∑ e, D r (col 0 e) * W a e) / cnt (wn 0) (b * 512 + r.val) : ℝ) : EReal) := by
  pointwise [k0_pay31]
  exact (congrArg₂ Ideal.div (dp0_at b hb dys D W w hd hw r a) (cnt27 b hb r)).trans (div_real _ _ (cnt_ne 0 _))

theorem dq1_at : k0_pay39 (F := Ideal) dys (Scalar.muli (BitVec.ofNat 32 b) 512#32) w (ix2 r a) = (((∑ e, D r (col 1 e) * W a e) / cnt (wn 1) (b * 512 + r.val) : ℝ) : EReal) := by
  pointwise [k0_pay39]
  exact (congrArg₂ Ideal.div (dp1_at b hb dys D W w hd hw r a) (cnt35 b hb r)).trans (div_real _ _ (cnt_ne 1 _))

theorem dq2_at : k0_pay46 (F := Ideal) (k0_pay42 (BitVec.ofNat 32 b)) (k0_pay45 dys w) (ix2 r a) = (((∑ e, D r (col 2 e) * W a e) / cnt (wn 2) (b * 512 + r.val) : ℝ) : EReal) := by
  pointwise [k0_pay46]
  exact (congrArg₂ Ideal.div (dp2_at b hb dys D W w hd hw r a) (cnt42 b hb r)).trans (div_real _ _ (cnt_ne 2 _))

theorem dq3_at : k0_pay53 (F := Ideal) dys (k0_pay48 (BitVec.ofNat 32 b)) w (ix2 r a) = (((∑ e, D r (col 3 e) * W a e) / cnt (wn 3) (b * 512 + r.val) : ℝ) : EReal) := by
  pointwise [k0_pay53]
  exact (congrArg₂ Ideal.div (dp3_at b hb dys D W w hd hw r a) (cnt48 b hb r)).trans (div_real _ _ (cnt_ne 3 _))

variable (V : Fin 256 → ℕ → ℝ) (v : FVec Ideal S528x256 .f32) (hv : ∀ (r : Fin 528) (l : Fin 256), v (ix2 r l) = (V l r.val : EReal))
include hv

theorem dh0_at : k0_pay32 (F := Ideal) dys w v (ix2 r a) = (((∑ k ∈ Finset.range (wn 0), V a (r.val + k)) - ∑ e, D r (col 0 e) * W a e : ℝ) : EReal) :=
  (sub_at _ _ r a).trans ((congrArg₂ (· - ·) (up2 V v hv _ _ (by show r.val + 1 < 528; omega)) (dp0_at b hb dys D W w hd hw r a)).trans (EReal.coe_sub _ _).symm)

theorem dh1_at : k0_pay41 (F := Ideal) (k0_pay40 dys w v) (ix2 r a) = (((∑ k ∈ Finset.range (wn 1), V a (r.val + k)) - ∑ e, D r (col 1 e) * W a e : ℝ) : EReal) :=
  (sub_at _ _ r a).trans ((congrArg₂ (· - ·) (up_step V 2 1 526#32 rfl (by omega) (by omega) _ (up2 V v hv) _ _ (by show r.val + 3 < 528; omega)) (dp1_at b hb dys D W w hd hw r a)).trans (EReal.coe_sub _ _).symm)

theorem dh2_at : k0_pay47 (F := Ideal) (k0_pay45 dys w) v (ix2 r a) = (((∑ k ∈ Finset.range (wn 2), V a (r.val + k)) - ∑ e, D r (col 2 e) * W a e : ℝ) : EReal) :=
  (sub_at _ _ r a).trans ((congrArg₂ (· - ·) (up_step V 4 3 524#32 rfl (by omega) (by omega) _ (up_step V 2 1 526#32 rfl (by omega) (by omega) _ (up2 V v hv)) _ _ (by show r.val + 7 < 528; omega)) (dp2_at b hb dys D W w hd hw r a)).trans (EReal.coe_sub _ _).symm)

theorem dh3_at : k0_pay54 (F := Ideal) dys w v (ix2 r a) = (((∑ k ∈ Finset.range (wn 3), V a (r.val + k)) - ∑ e, D r (col 3 e) * W a e : ℝ) : EReal) :=
  (sub_at _ _ r a).trans ((congrArg₂ (· - ·) (up_step V 8 7 520#32 rfl (by omega) (by omega) _ (up_step V 4 3 524#32 rfl (by omega) (by omega) _ (up_step V 2 1 526#32 rfl (by omega) (by omega) _ (up2 V v hv))) _ _ (by show r.val + 15 < 528; omega)) (dp3_at b hb dys D W w hd hw r a)).trans (EReal.coe_sub _ _).symm)

end

end Cert.PoolVal
-- ==== Proof.PoolReads.lean ====
module

public import proofs.«01_k».proof.Defs
public import proofs.«01_k».proof.Proof.Gen.PoolIdeal.Value
public import proofs.«01_k».proof.Proof.Gen.PoolRefIdeal.Run
public import proofs.«01_k».proof.Proof.PoolSpec
public import Idealize.ShloMosaic.Lib.StableHlo.RunRead

/-! What the pooling kernel's windows hold at each point, in terms of the arguments. -/

@[expose] public section

set_option maxRecDepth 16384

noncomputable section

namespace Cert.PoolVal

open Cert.PoolIdeal Cert.PoolIdeal.Gen Idealize.ShloMosaic Idealize.ShloMosaic.TcCoe Idealize.SL.Sem Cert.Reals

variable (m : (ℓ : Loc nD τ sig) → Buf (Elt Ideal) ℓ)

theorem idx : ∀ t : Fin cfg0.N, win0_0.index t = ![15 - t.val, 0] ∧ win0_1.index t = ![15 - t.val, 0] ∧ win0_2.index t = ![(15 - t.val) * 32 - 1, 0]
    ∧ win0_3.index t = ![15 - t.val, 0] ∧ win0_4.index t = ![0, 0] ∧ win0_5.index t = ![0, 0, 0] ∧ win0_6.index t = ![0, 0]
    ∧ win0_7.index t = ![15 - t.val, 0] ∧ win0_8.index t = ![0, 0] ∧ win0_9.index t = ![0, 0, 0] ∧ t.val < 16
    ∧ Scalar.subi (15#32) (BitVec.ofNat 32 (grid0.coords t 0).val) = BitVec.ofNat 32 (15 - t.val) :=
  (by decide +kernel : ∀ t : Fin grid0.N, _)

/-- The block of rows a point walks: from the last down. -/
abbrev bk (t : Fin cfg0.N) : ℕ := 15 - t.val

theorem bk_lt (t : Fin cfg0.N) : bk t < 16 := by show 15 - t.val < 16; omega

/-- The row of the whole array that a point's row is. -/
abbrev row (t : Fin cfg0.N) (r : Fin 512) : Fin 8192 := ⟨bk t * 512 + r.val, by have := bk_lt t; omega⟩

theorem blk0 (c : Dev nD) (t : Fin cfg0.N) (r : Fin 512) (k : Fin 1024) :
    (show FVec Ideal S512x1024 .f32 from iblk m c 0 t) (ix2 r k) = m ((c : Thread nD τ).loc main_arg8) (ix2 (row t r) k) := by
  blk_ext [iblk, V, idx t]

theorem blk1 (c : Dev nD) (t : Fin cfg0.N) (r : Fin 512) (k : Fin 1024) :
    (show FVec Ideal S512x1024 .f32 from iblk m c 1 t) (ix2 r k) = m ((c : Thread nD τ).loc main_arg0) (ix2 (row t r) k) := by
  blk_ext [iblk, V, idx t]

theorem blk2 (c : Dev nD) (t : Fin cfg0.N) (r : Fin 16) (k : Fin 1024) :
    (show FVec Ideal S16x1024 .f32 from iblk m c 2 t) (ix2 r k) = m ((c : Thread nD τ).loc main_arg0) (ix2 ⟨(bk t * 32 - 1) * 16 + r.val, by have := bk_lt t; omega⟩ k) := by
  blk_ext [iblk, V, idx t]

theorem blk3 (c : Dev nD) (t : Fin cfg0.N) (r : Fin 512) (k : Fin 1024) :
    (show FVec Ideal S512x1024 .f32 from iblk m c 3 t) (ix2 r k) = V m c main_v93 (ix2 (row t r) k) := by
  blk_ext [iblk, idx t]

theorem blk4 (c : Dev nD) (t : Fin cfg0.N) (r : Fin 8) (k : Fin 1024) :
    (show FVec Ideal S8x1024 .f32 from iblk m c 4 t) (ix2 r k) = V m c main_v103 (ix2 r k) := by
  blk_ext [iblk, idx t]

theorem blk5 (c : Dev nD) (t : Fin cfg0.N) (q : Fin 4) (a e : Fin 256) :
    (show FVec Ideal S4x256x256 .bf16 from iblk m c 5 t) (ix3 q a e) = m ((c : Thread nD τ).loc main_arg6) (ix3 q a e) := by
  refine Eq.trans (b := V m c main_v104 (ix3 q a e)) (by blk_ext [iblk, idx t]) ?_
  unfold V
  after_reads_simp
  pointwise []

theorem blk6 (c : Dev nD) (t : Fin cfg0.N) (k : Fin 1024) :
    (show FVec Ideal S1x1024 .f32 from iblk m c 6 t) (ix2 0 k) = m ((c : Thread nD τ).loc main_arg7) (ix1 k) := by
  refine Eq.trans (b := V m c main_v105 (ix2 0 k)) (by blk_ext [iblk, idx t]) ?_
  unfold V
  after_reads_simp
  pointwise []

theorem pv0 (c : Dev nD) (k : Fin 1024) : V m c main_v103 (ix2 0 k) = m ((c : Thread nD τ).loc main_arg1) (ix1 k) := by
  unfold V
  after_reads_simp
  pointwise []
  after_reads_simp
  pointwise []

theorem pv1 (c : Dev nD) (k : Fin 1024) : V m c main_v103 (ix2 1 k) = (1 + m ((c : Thread nD τ).loc main_arg4) (ix1 k) : EReal) := by
  unfold V
  after_reads_simp
  pointwise []
  after_reads_simp
  pointwise []

theorem pv2 (c : Dev nD) (k : Fin 1024) : V m c main_v103 (ix2 2 k) = (m ((c : Thread nD τ).loc main_arg3) (ix1 k) : EReal) := by
  unfold V
  after_reads_simp
  pointwise []
  after_reads_simp
  pointwise []

theorem pv3 (c : Dev nD) (k : Fin 1024) : V m c main_v103 (ix2 3 k) = (m ((c : Thread nD τ).loc main_arg2) (ix1 k) : EReal) := by
  unfold V
  after_reads_simp
  pointwise []
  after_reads_simp
  pointwise []

theorem pv4 (c : Dev nD) (k : Fin 1024) : V m c main_v103 (ix2 4 k) = (m ((c : Thread nD τ).loc main_arg5) (ix1 k) : EReal) := by
  unfold V
  after_reads_simp
  pointwise []
  after_reads_simp
  pointwise []

end Cert.PoolVal
-- ==== Proof.PoolBuf.lean ====
module

public import proofs.«01_k».proof.Proof.PoolPay
public import proofs.«01_k».proof.Proof.PoolReads
public import proofs.«01_k».proof.Proof.Rows

/-! The pooling kernel's two scratch buffers inside one grid point: the rows of `h` with the sixteen before them, turned group by
    group into the gradient's rows, and the window terms with the sixteen rows the block below left. -/

@[expose] public section

set_option maxRecDepth 16384

noncomputable section

namespace Cert.PoolVal

open Cert.PoolIdeal Cert.PoolIdeal.Gen Idealize.ShloMosaic Idealize.ShloMosaic.TcCoe Idealize.SL.Sem Cert.Reals

/-- Row `r` of block `b`. -/
abbrev rowb (b : ℕ) (hb : b < 16) (r : Fin 512) : Fin 8192 := ⟨b * 512 + r.val, by omega⟩

/-- A column sixteen rows down, zeros before its first. -/
def down (f : Fin 8192 → ℝ) (n : ℕ) : ℝ := if 16 ≤ n then ext f (n - 16) else 0

theorem sum_down (w : ℕ) (hw : w ≤ 16) (f : Fin 8192 → ℝ) (b x : ℕ) : ∑ k ∈ Finset.range w, down f (b * 512 + (16 + x - k)) = fsum w f (b * 512 + x) := by
  refine Finset.sum_congr rfl fun k hk => ?_
  have := Finset.mem_range.1 hk
  unfold down
  by_cases h : k ≤ b * 512 + x
  · rw [if_pos (by omega), if_pos h]
    exact congrArg _ (by omega)
  · rw [if_neg (by omega), if_neg h]

theorem wn_le (q : Fin 4) : wn q ≤ 16 := by
  fin_cases q <;> decide

section H

variable (I : In) (b : ℕ) (hb : b < 16)

/-- The first buffer after `n` groups: the groups done hold the gradient's rows, the others `h`. -/
def HOK (n : ℕ) (X : FVec Ideal S528x1024 .f32) : Prop :=
  ∀ (r : Fin 528) (l : Fin 1024), (n ≤ l.val / 256 → X (ix2 r l) = (down (fun t => I.h t l) (b * 512 + r.val) : EReal))
    ∧ (l.val / 256 < n → ∀ s : Fin 512, r.val = 16 + s.val → X (ix2 r l) = (I.dh (rowb b hb s) l : EReal))

theorem hok_base (h : FVec Ideal S512x1024 .f32) (hal : FVec Ideal S16x1024 .f32)
    (hh : ∀ (r : Fin 512) (l : Fin 1024), h (ix2 r l) = (I.h (rowb b hb r) l : EReal))
    (hhal : ∀ (r : Fin 16) (l : Fin 1024), hal (ix2 r l) = (down (fun t => I.h t l) (b * 512 + r.val) : EReal)) :
    HOK I b hb 0 (View.canon [(⟨Rect.unit ![16, 0] ![512, 1024] inb_S528x1024_S512x1024_16_0, k0_pay24 h⟩ : View.Piece (Elt Ideal) S528x1024 .f32),
      ⟨Rect.unit ![0, 0] ![16, 1024] inb_S528x1024_S16x1024_0_0, hal⟩]) := by
  intro r l
  refine ⟨fun _ => ?_, fun hl => absurd hl (Nat.not_lt_zero _)⟩
  by_cases hr : 16 ≤ r.val
  · refine (Cert.Rows.canon_rect_hit _ _ _ (⟨r.val - 16, by omega⟩ : Fin 512) l r l (by show r.val = 16 + (r.val - 16); omega) (by omega)).trans ?_
    refine Eq.trans (b := h (ix2 (⟨r.val - 16, by omega⟩ : Fin 512) l)) (by pointwise [k0_pay24]) ((hh _ l).trans (congrArg _ ?_))
    unfold down
    rw [if_pos (by omega)]
    refine (ext_lt (fun t => I.h t l) (rowb b hb ⟨r.val - 16, by omega⟩)).symm.trans (congrArg _ ?_)
    show b * 512 + (r.val - 16) = b * 512 + r.val - 16
    omega
  · refine (Cert.Rows.canon_rect_miss _ _ _ r l (by omega)).trans ?_
    exact (Cert.Rows.canon_rect_hit _ _ _ (⟨r.val, by omega⟩ : Fin 16) l r l (by show r.val = 0 + r.val; omega) (by omega)).trans (hhal _ l)

theorem hok_step (g : Fin 4) (o : ℕ) (ho : o = g.val * 256)
    (inb : ∀ q, (![16, o] : Fin 2 → ℕ) q + (![512, 256] : Fin 2 → ℕ) q ≤ S528x1024.size q) (x : FVec Ideal S512x256 .f32)
    (L : List (View.Piece (Elt Ideal) S528x1024 .f32)) (hx : ∀ (r : Fin 512) (a : Fin 256), x (ix2 r a) = (I.dhg g (rowb b hb r) a : EReal))
    (hL : HOK I b hb g.val (View.canon L)) :
    HOK I b hb (g.val + 1) (View.canon ((⟨Rect.unit ![16, o] ![512, 256] inb, x⟩ : View.Piece (Elt Ideal) S528x1024 .f32) :: L)) := by
  intro r l
  refine ⟨fun hl => ?_, fun hl s hs => ?_⟩
  · exact (Cert.Rows.canon_rect_miss _ _ _ r l (by omega)).trans ((hL r l).1 (by omega))
  · by_cases e : l.val / 256 = g.val
    · refine (Cert.Rows.canon_rect_hit _ _ _ s (off l) r l hs (by show l.val = o + l.val % 256; omega)).trans ((hx s (off l)).trans ?_)
      have eg : grp l = g := Fin.ext e
      unfold In.dh
      rw [eg]
    · exact (Cert.Rows.canon_rect_miss _ _ _ r l (by omega)).trans ((hL r l).2 (by omega) s hs)

theorem hok_load (g : Fin 4) (o : ℕ) (ho : o = g.val * 256)
    (inb : ∀ q, (![0, o] : Fin 2 → ℕ) q + (![528, 256] : Fin 2 → ℕ) q ≤ S528x1024.size q)
    (L : List (View.Piece (Elt Ideal) S528x1024 .f32)) (hL : HOK I b hb g.val (View.canon L)) (r : Fin 528) (a : Fin 256) :
    ((View.whole cc0_scratch0).readCov L (Rect.unit (s := S528x1024) ![0, o] ![528, 256] inb).toLoadRect : FVec Ideal S528x256 .f32) (ix2 r a)
      = (down (fun t => I.h t (col g a)) (b * 512 + r.val) : EReal) :=
  (Cert.Rows.readCov_rect _ _ _ r a r (col g a) (by omega) (by show g.val * 256 + a.val = o + a.val; omega)).trans
    ((hL r (col g a)).1 (by show g.val ≤ (g.val * 256 + a.val) / 256; omega))

theorem hok_last (inb : ∀ q, (![16, 0] : Fin 2 → ℕ) q + (![512, 1024] : Fin 2 → ℕ) q ≤ S528x1024.size q)
    (L : List (View.Piece (Elt Ideal) S528x1024 .f32)) (hL : HOK I b hb 4 (View.canon L)) (r : Fin 512) (l : Fin 1024) :
    ((View.whole cc0_scratch0).readCov L (Rect.unit (s := S528x1024) ![16, 0] ![512, 1024] inb).toLoadRect : FVec Ideal S512x1024 .f32) (ix2 r l)
      = (I.dh (rowb b hb r) l : EReal) :=
  (Cert.Rows.readCov_rect _ _ _ r l (⟨16 + r.val, by omega⟩ : Fin 528) l rfl (by omega)).trans ((hL _ l).2 (by omega) r rfl)

end H

section Q

variable (I : In) (b : ℕ) (hb : b < 16)

/-- The second buffer's last sixteen rows: the window terms of the block below. -/
def HiOK (X : FVec Ideal S528x1024 .f32) : Prop :=
  ∀ (r : Fin 528) (l : Fin 1024), 512 ≤ r.val → X (ix2 r l) = (ext (I.dq (grp l) (off l)) (b * 512 + r.val) : EReal)

/-- The second buffer's first rows after `n` groups. -/
def LoOK (n : ℕ) (X : FVec Ideal S528x1024 .f32) : Prop :=
  ∀ (r : Fin 528) (l : Fin 1024) (s : Fin 512), r.val = s.val → l.val / 256 < n → X (ix2 r l) = (I.dq (grp l) (off l) (rowb b hb s) : EReal)

/-- A group's window terms, with the sixteen rows below them. -/
def QLd (g : Fin 4) (X : FVec Ideal S528x256 .f32) : Prop :=
  ∀ (r : Fin 528) (a : Fin 256), X (ix2 r a) = (ext (I.dq g a) (b * 512 + r.val) : EReal)

/-- A group's window terms of the block's own rows. -/
def QPay (g : Fin 4) (x : FVec Ideal S512x256 .f32) : Prop :=
  ∀ (r : Fin 512) (a : Fin 256), x (ix2 r a) = (I.dq g a (rowb b hb r) : EReal)

variable (g : Fin 4) (o : ℕ) (ho : o = g.val * 256)
  (inb : ∀ q, (![0, o] : Fin 2 → ℕ) q + (![512, 256] : Fin 2 → ℕ) q ≤ S528x1024.size q) (x : FVec Ideal S512x256 .f32)
  (inl : ∀ q, (![0, o] : Fin 2 → ℕ) q + (![528, 256] : Fin 2 → ℕ) q ≤ S528x1024.size q)
  (f : (View.whole cc0_scratch1).ty.Contents (Elt Ideal)) (L : List (View.Piece (Elt Ideal) S528x1024 .f32))

theorem hi_read (hL : HiOK I b (View.read (Elt Ideal) (View.whole cc0_scratch1) ((View.whole cc0_scratch1).writes (Elt Ideal) f L))) :
    HiOK I b (View.read (Elt Ideal) (View.whole cc0_scratch1) ((View.whole cc0_scratch1).writes (Elt Ideal) f
      ((⟨Rect.unit ![0, o] ![512, 256] inb, x⟩ : View.Piece (Elt Ideal) S528x1024 .f32) :: L))) := fun r l hr =>
  (Cert.Rows.read_rect_miss _ _ _ _ _ r l (by omega)).trans (hL r l hr)

theorem hi_canon (hL : HiOK I b (View.canon L)) :
    HiOK I b (View.canon ((⟨Rect.unit ![0, o] ![512, 256] inb, x⟩ : View.Piece (Elt Ideal) S528x1024 .f32) :: L)) := fun r l hr =>
  (Cert.Rows.canon_rect_miss _ _ _ r l (by omega)).trans (hL r l hr)

theorem lo_canon (hx : QPay I b hb g x) (hL : LoOK I b hb g.val (View.canon L)) (ho : o = g.val * 256) :
    LoOK I b hb (g.val + 1) (View.canon ((⟨Rect.unit ![0, o] ![512, 256] inb, x⟩ : View.Piece (Elt Ideal) S528x1024 .f32) :: L)) := by
  intro r l s hs hl
  by_cases e : l.val / 256 = g.val
  · refine (Cert.Rows.canon_rect_hit _ _ _ s (off l) r l (by omega) (by show l.val = o + l.val % 256; omega)).trans ((hx s (off l)).trans ?_)
    have eg : grp l = g := Fin.ext e
    rw [eg]
  · exact (Cert.Rows.canon_rect_miss _ _ _ r l (by omega)).trans (hL r l s hs (by omega))

theorem lo_zero : LoOK I b hb 0 (View.canon L) := fun _ _ _ _ h => absurd h (Nat.not_lt_zero _)

theorem ext_grp (a : Fin 256) (n : ℕ) : ext (I.dq (grp (col g a)) (off (col g a))) n = ext (I.dq g a) n := by
  rw [grp_col, off_col]

include ho in
theorem ld_read (hx : QPay I b hb g x) (hL : HiOK I b (View.read (Elt Ideal) (View.whole cc0_scratch1) ((View.whole cc0_scratch1).writes (Elt Ideal) f L))) :
    QLd I b g (View.ld (View.read (Elt Ideal) (View.whole cc0_scratch1) ((View.whole cc0_scratch1).writes (Elt Ideal) f
      ((⟨Rect.unit ![0, o] ![512, 256] inb, x⟩ : View.Piece (Elt Ideal) S528x1024 .f32) :: L))) (Rect.unit (s := S528x1024) ![0, o] ![528, 256] inl)) := by
  intro r a
  refine (Cert.Rows.ld_rect _ _ r a r (col g a) (by omega) (by show g.val * 256 + a.val = o + a.val; omega)).trans ?_
  by_cases hr : r.val < 512
  · refine (Cert.Rows.read_rect_hit _ _ _ _ _ (⟨r.val, hr⟩ : Fin 512) a r (col g a) (by show r.val = 0 + r.val; omega) (by show g.val * 256 + a.val = o + a.val; omega)).trans ((hx _ a).trans (congrArg _ ?_))
    exact (ext_lt (I.dq g a) (rowb b hb ⟨r.val, hr⟩)).symm
  · exact (hi_read I b o inb x f L hL r (col g a) (by omega)).trans (congrArg _ (ext_grp I g a _))

include ho in
theorem ld_canon (hx : QPay I b hb g x) (hL : HiOK I b (View.canon L)) :
    QLd I b g ((View.whole cc0_scratch1).readCov ((⟨Rect.unit ![0, o] ![512, 256] inb, x⟩ : View.Piece (Elt Ideal) S528x1024 .f32) :: L)
      (Rect.unit (s := S528x1024) ![0, o] ![528, 256] inl).toLoadRect) := by
  intro r a
  refine (Cert.Rows.readCov_rect _ _ _ r a r (col g a) (by omega) (by show g.val * 256 + a.val = o + a.val; omega)).trans ?_
  by_cases hr : r.val < 512
  · refine (Cert.Rows.canon_rect_hit _ _ _ (⟨r.val, hr⟩ : Fin 512) a r (col g a) (by show r.val = 0 + r.val; omega) (by show g.val * 256 + a.val = o + a.val; omega)).trans ((hx _ a).trans (congrArg _ ?_))
    exact (ext_lt (I.dq g a) (rowb b hb ⟨r.val, hr⟩)).symm
  · exact (hi_canon I b o inb x L hL r (col g a) (by omega)).trans (congrArg _ (ext_grp I g a _))

end Q

end Cert.PoolVal
-- ==== Proof.PoolPoint.lean ====
module

public import proofs.«01_k».proof.Proof.PoolBuf

/-! One grid point's stores, over the blocks it reads: the window terms, the gradient's rows and the weights' gradient. -/

@[expose] public section

set_option maxRecDepth 16384

noncomputable section

namespace Cert.PoolVal

open Cert.PoolIdeal Cert.PoolIdeal.Gen Idealize.ShloMosaic Idealize.ShloMosaic.TcCoe Idealize.SL.Sem Cert.Reals

/-- What the blocks of a grid point hold, in terms of the real inputs. -/
structure Blk (I : In) (b : ℕ) (hb : b < 16) (ti : BitVec 32) (dys h : FVec Ideal S512x1024 .f32) (hal : FVec Ideal S16x1024 .f32)
    (w0 w1 w2 w3 : FVec Ideal S1x256x256 .bf16) : Prop where
  hti : ti = BitVec.ofNat 32 b
  hd : ∀ r l, dys (ix2 r l) = (I.dys (rowb b hb r) l : EReal)
  hh : ∀ r l, h (ix2 r l) = (I.h (rowb b hb r) l : EReal)
  hhal : ∀ (r : Fin 16) (l : Fin 1024), hal (ix2 r l) = (down (fun t => I.h t l) (b * 512 + r.val) : EReal)
  hw0 : ∀ a e, w0 (ix3 0 a e) = (I.W 0 a e : EReal)
  hw1 : ∀ a e, w1 (ix3 0 a e) = (I.W 1 a e : EReal)
  hw2 : ∀ a e, w2 (ix3 0 a e) = (I.W 2 a e : EReal)
  hw3 : ∀ a e, w3 (ix3 0 a e) = (I.W 3 a e : EReal)

variable {I : In} {b : ℕ} {hb : b < 16} {ti : BitVec 32} {dys h : FVec Ideal S512x1024 .f32} {hal : FVec Ideal S16x1024 .f32}
  {w0 w1 w2 w3 : FVec Ideal S1x256x256 .bf16} (B : Blk I b hb ti dys h hal w0 w1 w2 w3)

/-- The terms added to a group's weights' gradient at the point, and the sums that make them. -/
def dWp (I : In) (b : ℕ) (hb : b < 16) (q : Fin 4) (a e : Fin 256) : ℝ := ∑ x : Fin 512, I.pooled q (rowb b hb x) a * I.dys (rowb b hb x) (col q e)

theorem dWp_of (q : Fin 4) (a e : Fin 256) :
    (∑ x : Fin 512, ((∑ k ∈ Finset.range (wn q), down (fun t => I.h t (col q a)) (b * 512 + (16 + x.val - k))) / cnt (wn q) (b * 512 + x.val)
      - I.h (rowb b hb x) (col q a)) * I.dys (rowb b hb x) (col q e)) = dWp I b hb q a e :=
  Finset.sum_congr rfl fun x _ => by
    rw [sum_down _ (wn_le q)]
    rfl

theorem dhg_eq (q : Fin 4) (r : Fin 512) (a : Fin 256) :
    (∑ k ∈ Finset.range (wn q), ext (I.dq q a) (b * 512 + (r.val + k))) - ∑ e, I.dys (rowb b hb r) (col q e) * I.W q a e = I.dhg q (rowb b hb r) a := by
  refine congrArg (· - _) (Finset.sum_congr rfl fun k _ => congrArg _ ?_)
  show b * 512 + (r.val + k) = b * 512 + r.val + k
  omega

include B

theorem qpay0 : QPay I b hb 0 (k0_pay31 (F := Ideal) dys (k0_pay27 ti) w0) := fun r a => by
  rw [B.hti]
  exact dq0_at (b := b) (hb := hb) (dys := dys) (D := fun r l => I.dys (rowb b hb r) l) (W := I.W 0) (w := w0) (hd := B.hd) (hw := B.hw0) (r := r) (a := a)

theorem qpay1 : QPay I b hb 1 (k0_pay39 (F := Ideal) dys (Scalar.muli ti 512#32) w1) := fun r a => by
  rw [B.hti]
  exact dq1_at (b := b) (hb := hb) (dys := dys) (D := fun r l => I.dys (rowb b hb r) l) (W := I.W 1) (w := w1) (hd := B.hd) (hw := B.hw1) (r := r) (a := a)

theorem qpay2 : QPay I b hb 2 (k0_pay46 (F := Ideal) (k0_pay42 ti) (k0_pay45 dys w2)) := fun r a => by
  rw [B.hti]
  exact dq2_at (b := b) (hb := hb) (dys := dys) (D := fun r l => I.dys (rowb b hb r) l) (W := I.W 2) (w := w2) (hd := B.hd) (hw := B.hw2) (r := r) (a := a)

theorem qpay3 : QPay I b hb 3 (k0_pay53 (F := Ideal) dys (k0_pay48 ti) w3) := fun r a => by
  rw [B.hti]
  exact dq3_at (b := b) (hb := hb) (dys := dys) (D := fun r l => I.dys (rowb b hb r) l) (W := I.W 3) (w := w3) (hd := B.hd) (hw := B.hw3) (r := r) (a := a)

theorem hpay0 (q : FVec Ideal S528x256 .f32) (hq : QLd I b 0 q) (r : Fin 512) (a : Fin 256) :
    k0_pay32 (F := Ideal) dys w0 q (ix2 r a) = (I.dhg 0 (rowb b hb r) a : EReal) :=
  (dh0_at (b := b) (hb := hb) (dys := dys) (D := fun r l => I.dys (rowb b hb r) l) (W := I.W 0) (w := w0) (hd := B.hd) (hw := B.hw0) (r := r) (a := a)
    (V := fun a n => ext (I.dq 0 a) (b * 512 + n)) (v := q) (hv := hq)).trans (congrArg _ (dhg_eq 0 r a))

theorem hpay1 (q : FVec Ideal S528x256 .f32) (hq : QLd I b 1 q) (r : Fin 512) (a : Fin 256) :
    k0_pay41 (F := Ideal) (k0_pay40 dys w1 q) (ix2 r a) = (I.dhg 1 (rowb b hb r) a : EReal) :=
  (dh1_at (b := b) (hb := hb) (dys := dys) (D := fun r l => I.dys (rowb b hb r) l) (W := I.W 1) (w := w1) (hd := B.hd) (hw := B.hw1) (r := r) (a := a)
    (V := fun a n => ext (I.dq 1 a) (b * 512 + n)) (v := q) (hv := hq)).trans (congrArg _ (dhg_eq 1 r a))

theorem hpay2 (q : FVec Ideal S528x256 .f32) (hq : QLd I b 2 q) (r : Fin 512) (a : Fin 256) :
    k0_pay47 (F := Ideal) (k0_pay45 dys w2) q (ix2 r a) = (I.dhg 2 (rowb b hb r) a : EReal) :=
  (dh2_at (b := b) (hb := hb) (dys := dys) (D := fun r l => I.dys (rowb b hb r) l) (W := I.W 2) (w := w2) (hd := B.hd) (hw := B.hw2) (r := r) (a := a)
    (V := fun a n => ext (I.dq 2 a) (b * 512 + n)) (v := q) (hv := hq)).trans (congrArg _ (dhg_eq 2 r a))

theorem hpay3 (q : FVec Ideal S528x256 .f32) (hq : QLd I b 3 q) (r : Fin 512) (a : Fin 256) :
    k0_pay54 (F := Ideal) dys w3 q (ix2 r a) = (I.dhg 3 (rowb b hb r) a : EReal) :=
  (dh3_at (b := b) (hb := hb) (dys := dys) (D := fun r l => I.dys (rowb b hb r) l) (W := I.W 3) (w := w3) (hd := B.hd) (hw := B.hw3) (r := r) (a := a)
    (V := fun a n => ext (I.dq 3 a) (b * 512 + n)) (v := q) (hv := hq)).trans (congrArg _ (dhg_eq 3 r a))

theorem wpay0 (v : FVec Ideal S528x256 .f32) (hv : ∀ (r : Fin 528) (a : Fin 256), v (ix2 r a) = (down (fun t => I.h t (col 0 a)) (b * 512 + r.val) : EReal))
    (z : FVec Ideal S1x256x256 .f32) (a e : Fin 256) : k0_pay29 (F := Ideal) dys (k0_pay25 h) (k0_pay26 v) (k0_pay27 ti) z (ix3 0 a e) = z (ix3 0 a e) + (dWp I b hb 0 a e : EReal) := by
  rw [B.hti]
  exact (dW0_at (b := b) (hb := hb) (dys := dys) (h := h) (D := fun r l => I.dys (rowb b hb r) l) (H := fun r l => I.h (rowb b hb r) l)
    (V := fun a n => down (fun t => I.h t (col 0 a)) (b * 512 + n)) (v := v) (hd := B.hd) (hh := B.hh) (hv := hv) (z := z) (a := a) (e := e)).trans
    (congrArg (_ + ·) (congrArg _ (dWp_of 0 a e)))

theorem wpay1 (v : FVec Ideal S528x256 .f32) (hv : ∀ (r : Fin 528) (a : Fin 256), v (ix2 r a) = (down (fun t => I.h t (col 1 a)) (b * 512 + r.val) : EReal))
    (z : FVec Ideal S1x256x256 .f32) (a e : Fin 256) : k0_pay37 (F := Ideal) dys (Scalar.muli ti 512#32) (k0_pay33 h) (k0_pay34 v) 2#32 z (ix3 0 a e) = z (ix3 0 a e) + (dWp I b hb 1 a e : EReal) := by
  rw [B.hti]
  exact (dW1_at (b := b) (hb := hb) (dys := dys) (h := h) (D := fun r l => I.dys (rowb b hb r) l) (H := fun r l => I.h (rowb b hb r) l)
    (V := fun a n => down (fun t => I.h t (col 1 a)) (b * 512 + n)) (v := v) (hd := B.hd) (hh := B.hh) (hv := hv) (z := z) (a := a) (e := e)).trans
    (congrArg (_ + ·) (congrArg _ (dWp_of 1 a e)))

theorem wpay2 (v : FVec Ideal S528x256 .f32) (hv : ∀ (r : Fin 528) (a : Fin 256), v (ix2 r a) = (down (fun t => I.h t (col 2 a)) (b * 512 + r.val) : EReal))
    (z : FVec Ideal S1x256x256 .f32) (a e : Fin 256) : k0_pay44 (F := Ideal) ti dys h v z (ix3 0 a e) = z (ix3 0 a e) + (dWp I b hb 2 a e : EReal) := by
  rw [B.hti]
  exact (dW2_at (b := b) (hb := hb) (dys := dys) (h := h) (D := fun r l => I.dys (rowb b hb r) l) (H := fun r l => I.h (rowb b hb r) l)
    (V := fun a n => down (fun t => I.h t (col 2 a)) (b * 512 + n)) (v := v) (hd := B.hd) (hh := B.hh) (hv := hv) (z := z) (a := a) (e := e)).trans
    (congrArg (_ + ·) (congrArg _ (dWp_of 2 a e)))

theorem wpay3 (v : FVec Ideal S528x256 .f32) (hv : ∀ (r : Fin 528) (a : Fin 256), v (ix2 r a) = (down (fun t => I.h t (col 3 a)) (b * 512 + r.val) : EReal))
    (z : FVec Ideal S1x256x256 .f32) (a e : Fin 256) : k0_pay51 (F := Ideal) dys (k0_pay49 ti h v) z (ix3 0 a e) = z (ix3 0 a e) + (dWp I b hb 3 a e : EReal) := by
  rw [B.hti]
  exact (dW3_at (b := b) (hb := hb) (dys := dys) (h := h) (D := fun r l => I.dys (rowb b hb r) l) (H := fun r l => I.h (rowb b hb r) l)
    (V := fun a n => down (fun t => I.h t (col 3 a)) (b * 512 + n)) (v := v) (hd := B.hd) (hh := B.hh) (hv := hv) (z := z) (a := a) (e := e)).trans
    (congrArg (_ + ·) (congrArg _ (dWp_of 3 a e)))

theorem hok0 : HOK I b hb 0 (View.canon [(⟨Rect.unit ![16, 0] ![512, 1024] inb_S528x1024_S512x1024_16_0, k0_pay24 h⟩ : View.Piece (Elt Ideal) S528x1024 .f32),
      ⟨Rect.unit ![0, 0] ![16, 1024] inb_S528x1024_S16x1024_0_0, hal⟩]) := hok_base I b hb h hal B.hh B.hhal

theorem hok1 {q0 : FVec Ideal S528x256 .f32} (hq0 : QLd I b 0 q0) :
    HOK I b hb 1 (View.canon ((⟨Rect.unit ![16, 0] ![512, 256] inb_S528x1024_S512x256_16_0, k0_pay32 dys w0 q0⟩ : View.Piece (Elt Ideal) S528x1024 .f32) :: [(⟨Rect.unit ![16, 0] ![512, 1024] inb_S528x1024_S512x1024_16_0, k0_pay24 h⟩ : View.Piece (Elt Ideal) S528x1024 .f32),
      ⟨Rect.unit ![0, 0] ![16, 1024] inb_S528x1024_S16x1024_0_0, hal⟩])) :=
  hok_step I b hb 0 0 rfl _ _ _ (hpay0 B q0 hq0) (hok0 B)

theorem hok2 {q0 : FVec Ideal S528x256 .f32} (hq0 : QLd I b 0 q0) {q1 : FVec Ideal S528x256 .f32} (hq1 : QLd I b 1 q1) :
    HOK I b hb 2 (View.canon ((⟨Rect.unit ![16, 256] ![512, 256] inb_S528x1024_S512x256_16_256, k0_pay41 (k0_pay40 dys w1 q1)⟩ : View.Piece (Elt Ideal) S528x1024 .f32) :: ((⟨Rect.unit ![16, 0] ![512, 256] inb_S528x1024_S512x256_16_0, k0_pay32 dys w0 q0⟩ : View.Piece (Elt Ideal) S528x1024 .f32) :: [(⟨Rect.unit ![16, 0] ![512, 1024] inb_S528x1024_S512x1024_16_0, k0_pay24 h⟩ : View.Piece (Elt Ideal) S528x1024 .f32),
      ⟨Rect.unit ![0, 0] ![16, 1024] inb_S528x1024_S16x1024_0_0, hal⟩]))) :=
  hok_step I b hb 1 256 rfl _ _ _ (hpay1 B q1 hq1) (hok1 B hq0)

theorem hok3 {q0 : FVec Ideal S528x256 .f32} (hq0 : QLd I b 0 q0) {q1 : FVec Ideal S528x256 .f32} (hq1 : QLd I b 1 q1) {q2 : FVec Ideal S528x256 .f32} (hq2 : QLd I b 2 q2) :
    HOK I b hb 3 (View.canon ((⟨Rect.unit ![16, 512] ![512, 256] inb_S528x1024_S512x256_16_512, k0_pay47 (k0_pay45 dys w2) q2⟩ : View.Piece (Elt Ideal) S528x1024 .f32) :: ((⟨Rect.unit ![16, 256] ![512, 256] inb_S528x1024_S512x256_16_256, k0_pay41 (k0_pay40 dys w1 q1)⟩ : View.Piece (Elt Ideal) S528x1024 .f32) :: ((⟨Rect.unit ![16, 0] ![512, 256] inb_S528x1024_S512x256_16_0, k0_pay32 dys w0 q0⟩ : View.Piece (Elt Ideal) S528x1024 .f32) :: [(⟨Rect.unit ![16, 0] ![512, 1024] inb_S528x1024_S512x1024_16_0, k0_pay24 h⟩ : View.Piece (Elt Ideal) S528x1024 .f32),
      ⟨Rect.unit ![0, 0] ![16, 1024] inb_S528x1024_S16x1024_0_0, hal⟩])))) :=
  hok_step I b hb 2 512 rfl _ _ _ (hpay2 B q2 hq2) (hok2 B hq0 hq1)

theorem hok4 {q0 : FVec Ideal S528x256 .f32} (hq0 : QLd I b 0 q0) {q1 : FVec Ideal S528x256 .f32} (hq1 : QLd I b 1 q1) {q2 : FVec Ideal S528x256 .f32} (hq2 : QLd I b 2 q2) {q3 : FVec Ideal S528x256 .f32} (hq3 : QLd I b 3 q3) :
    HOK I b hb 4 (View.canon ((⟨Rect.unit ![16, 768] ![512, 256] inb_S528x1024_S512x256_16_768, k0_pay54 dys w3 q3⟩ : View.Piece (Elt Ideal) S528x1024 .f32) :: ((⟨Rect.unit ![16, 512] ![512, 256] inb_S528x1024_S512x256_16_512, k0_pay47 (k0_pay45 dys w2) q2⟩ : View.Piece (Elt Ideal) S528x1024 .f32) :: ((⟨Rect.unit ![16, 256] ![512, 256] inb_S528x1024_S512x256_16_256, k0_pay41 (k0_pay40 dys w1 q1)⟩ : View.Piece (Elt Ideal) S528x1024 .f32) :: ((⟨Rect.unit ![16, 0] ![512, 256] inb_S528x1024_S512x256_16_0, k0_pay32 dys w0 q0⟩ : View.Piece (Elt Ideal) S528x1024 .f32) :: [(⟨Rect.unit ![16, 0] ![512, 1024] inb_S528x1024_S512x1024_16_0, k0_pay24 h⟩ : View.Piece (Elt Ideal) S528x1024 .f32),
      ⟨Rect.unit ![0, 0] ![16, 1024] inb_S528x1024_S16x1024_0_0, hal⟩]))))) :=
  hok_step I b hb 3 768 rfl _ _ _ (hpay3 B q3 hq3) (hok3 B hq0 hq1 hq2)

end Cert.PoolVal
-- ==== Proof.PoolStep.lean ====
module

public import proofs.«01_k».proof.Proof.PoolPoint

/-! One grid point of the pooling kernel: its blocks over the real inputs, the window terms it carries to the point after, and
    the gradient's rows its first buffer ends with. -/

@[expose] public section

set_option maxRecDepth 16384

noncomputable section

namespace Cert.PoolVal

open Cert.PoolIdeal Cert.PoolIdeal.Gen Idealize.ShloMosaic Idealize.ShloMosaic.TcCoe Idealize.SL.Sem Cert.Reals

theorem pay3_at (v : FVec Ideal S16x1024 .f32) (r : Fin 16) (l : Fin 1024) : k0_pay3 (F := Ideal) v (ix2 r l) = v (ix2 r l) := by
  pointwise [k0_pay3]

variable (m : (ℓ : Loc nD τ sig) → Buf (Elt Ideal) ℓ) (c : Dev nD)

/-- The kernel's arguments are the real inputs, and its saved values the forward's. -/
structure Reads (I : In) : Prop where
  a0 : ∀ r k, m ((c : Thread nD τ).loc main_arg0) (ix2 r k) = (I.x r k : EReal)
  a1 : ∀ k, m ((c : Thread nD τ).loc main_arg1) (ix1 k) = (I.g k : EReal)
  a2 : ∀ k, m ((c : Thread nD τ).loc main_arg2) (ix1 k) = (I.pg k : EReal)
  a3 : ∀ k, m ((c : Thread nD τ).loc main_arg3) (ix1 k) = (I.sh k : EReal)
  a4 : ∀ k, m ((c : Thread nD τ).loc main_arg4) (ix1 k) = (I.sc k : EReal)
  a5 : ∀ k, m ((c : Thread nD τ).loc main_arg5) (ix1 k) = (I.gt k : EReal)
  a6 : ∀ q a e, m ((c : Thread nD τ).loc main_arg6) (ix3 q a e) = (I.W q a e : EReal)
  a7 : ∀ k, m ((c : Thread nD τ).loc main_arg7) (ix1 k) = (I.scl k : EReal)
  a8 : ∀ r k, m ((c : Thread nD τ).loc main_arg8) (ix2 r k) = (I.ct r k : EReal)
  yp : ∀ r k, V m c main_v93 (ix2 r k) = (I.yp r k : EReal)

/-- The point's block number, its cotangent rows, its rows of `h`, the sixteen rows before, and the four groups' weights. -/
abbrev ti (t : Fin cfg0.N) : BitVec 32 := Scalar.subi (15#32) (BitVec.ofNat 32 (grid0.coords t 0).val)

abbrev dysT (t : Fin cfg0.N) : FVec Ideal S512x1024 .f32 := k0_pay21 (k0_pay9 (iblk m c 6 t)) (k0_pay15 (iblk m c 4 t) (iblk m c 0 t) (iblk m c 3 t) (iblk m c 6 t))

abbrev hT (t : Fin cfg0.N) : FVec Ideal S512x1024 .f32 := k0_pay22 (iblk m c 1 t) (k0_pay7 (iblk m c 4 t))

abbrev halT (t : Fin cfg0.N) : FVec Ideal S16x1024 .f32 := k0_pay23 (ti t) (k0_pay7 (iblk m c 4 t)) (iblk m c 2 t)

abbrev w0T (t : Fin cfg0.N) : FVec Ideal S1x256x256 .bf16 := View.ld (iblk m c 5 t) (Rect.unit (s := S4x256x256) ![0, 0, 0] ![1, 256, 256] inb_S4x256x256_S1x256x256_0_0_0)

abbrev w1T (t : Fin cfg0.N) : FVec Ideal S1x256x256 .bf16 := View.ld (iblk m c 5 t) (Rect.unit (s := S4x256x256) ![1, 0, 0] ![1, 256, 256] inb_S4x256x256_S1x256x256_1_0_0)

abbrev w2T (t : Fin cfg0.N) : FVec Ideal S1x256x256 .bf16 := View.ld (iblk m c 5 t) (Rect.unit (s := S4x256x256) ![2, 0, 0] ![1, 256, 256] inb_S4x256x256_S1x256x256_2_0_0)

abbrev w3T (t : Fin cfg0.N) : FVec Ideal S1x256x256 .bf16 := View.ld (iblk m c 5 t) (Rect.unit (s := S4x256x256) ![3, 0, 0] ![1, 256, 256] inb_S4x256x256_S1x256x256_3_0_0)

variable {m c} {I : In} (K : Reads m c I) (t : Fin cfg0.N)

include K

theorem g0 (k : Fin 1024) : (show FVec Ideal S8x1024 .f32 from iblk m c 4 t) (ix2 0 k) = (I.g k : EReal) := (blk4 m c t 0 k).trans ((pv0 m c k).trans (K.a1 k))

theorem g1 (k : Fin 1024) : (show FVec Ideal S8x1024 .f32 from iblk m c 4 t) (ix2 1 k) = ((1 + I.sc k : ℝ) : EReal) :=
  (blk4 m c t 1 k).trans ((pv1 m c k).trans (by rw [K.a4, EReal.coe_add, EReal.coe_one]))

theorem g2 (k : Fin 1024) : (show FVec Ideal S8x1024 .f32 from iblk m c 4 t) (ix2 2 k) = (I.sh k : EReal) := (blk4 m c t 2 k).trans ((pv2 m c k).trans (K.a3 k))

theorem g3 (k : Fin 1024) : (show FVec Ideal S8x1024 .f32 from iblk m c 4 t) (ix2 3 k) = (I.pg k : EReal) := (blk4 m c t 3 k).trans ((pv3 m c k).trans (K.a2 k))

theorem g4 (k : Fin 1024) : (show FVec Ideal S8x1024 .f32 from iblk m c 4 t) (ix2 4 k) = (I.gt k : EReal) := (blk4 m c t 4 k).trans ((pv4 m c k).trans (K.a5 k))

theorem x0 (r : Fin 512) (k : Fin 1024) : (show FVec Ideal S512x1024 .f32 from iblk m c 0 t) (ix2 r k) = (I.ct (row t r) k : EReal) := (blk0 m c t r k).trans (K.a8 _ k)

theorem x1 (r : Fin 512) (k : Fin 1024) : (show FVec Ideal S512x1024 .f32 from iblk m c 1 t) (ix2 r k) = (I.x (row t r) k : EReal) := (blk1 m c t r k).trans (K.a0 _ k)

theorem x3 (r : Fin 512) (k : Fin 1024) : (show FVec Ideal S512x1024 .f32 from iblk m c 3 t) (ix2 r k) = (I.yp (row t r) k : EReal) := (blk3 m c t r k).trans (K.yp _ k)

theorem x6 (k : Fin 1024) : (show FVec Ideal S1x1024 .f32 from iblk m c 6 t) (ix2 0 k) = (I.scl k : EReal) := (blk6 m c t k).trans (K.a7 k)

theorem halo (r : Fin 16) (l : Fin 1024) : halT m c t (ix2 r l) = (down (fun i => I.h i l) (bk t * 512 + r.val) : EReal) := by
  have hb := bk_lt t
  unfold halT ti
  rw [(idx t).2.2.2.2.2.2.2.2.2.2.2]
  refine (pay23_at (iblk m c 4 t) I.g (fun k => 1 + I.sc k) I.sh (g0 K t) (g1 K t) (g2 K t) (bk t) hb (iblk m c 2 t)
    (fun r k => I.x ⟨(bk t * 32 - 1) * 16 + r.val, by omega⟩ k) (fun r k => (blk2 m c t r k).trans (K.a0 _ k)) r l).trans (congrArg _ ?_)
  unfold down
  by_cases h : bk t = 0
  · rw [if_pos h, if_neg (by omega)]
  · rw [if_neg h, if_pos (by omega)]
    refine Eq.trans ?_ ((congrArg (ext _) (show bk t * 512 + r.val - 16 = (bk t * 32 - 1) * 16 + r.val by omega)).trans
      (ext_lt (fun i => I.h i l) ⟨(bk t * 32 - 1) * 16 + r.val, by omega⟩)).symm
    rfl

theorem blkT : Blk I (bk t) (bk_lt t) (ti t) (dysT m c t) (hT m c t) (halT m c t) (w0T m c t) (w1T m c t) (w2T m c t) (w3T m c t) where
  hti := (idx t).2.2.2.2.2.2.2.2.2.2.2
  hd := pay21_at (iblk m c 4 t) (iblk m c 0 t) (iblk m c 3 t) (iblk m c 6 t) I.pg I.gt I.scl (fun r => I.ct (row t r)) (fun r => I.yp (row t r))
    (g3 K t) (g4 K t) (x0 K t) (x3 K t) (x6 K t)
  hh := pay22_at (iblk m c 4 t) I.g (fun k => 1 + I.sc k) I.sh (g0 K t) (g1 K t) (g2 K t) (iblk m c 1 t) (fun r => I.x (row t r)) (x1 K t)
  hhal := halo K t
  hw0 := fun a e => (Cert.Rows.ld_slab (iblk m c 5 t) (0 : Fin 4) _ a e).trans ((blk5 m c t 0 a e).trans (K.a6 0 a e))
  hw1 := fun a e => (Cert.Rows.ld_slab (iblk m c 5 t) (1 : Fin 4) _ a e).trans ((blk5 m c t 1 a e).trans (K.a6 1 a e))
  hw2 := fun a e => (Cert.Rows.ld_slab (iblk m c 5 t) (2 : Fin 4) _ a e).trans ((blk5 m c t 2 a e).trans (K.a6 2 a e))
  hw3 := fun a e => (Cert.Rows.ld_slab (iblk m c 5 t) (3 : Fin 4) _ a e).trans ((blk5 m c t 3 a e).trans (K.a6 3 a e))

/-- The sixteen rows a point leaves to the point after: its own block's first window terms. -/
theorem carry (r : Fin 528) (l : Fin 1024) (hr : 512 ≤ r.val) :
    (outsAt0 m c t.val t.isLt).2.2.2 (ix2 r l) = (ext (I.dq (grp l) (off l)) (bk t * 512 + (r.val - 512)) : EReal) := by
  have e := ext_lt (I.dq (grp l) (off l)) (rowb (bk t) (bk_lt t) ⟨r.val - 512, by omega⟩)
  have hL := fun L h0 => lo_canon I (bk t) (bk_lt t) 3 768 inb_S528x1024_S512x256_0_768 _ _ (qpay3 (blkT K t))
    (lo_canon I (bk t) (bk_lt t) 2 512 inb_S528x1024_S512x256_0_512 _ _ (qpay2 (blkT K t))
      (lo_canon I (bk t) (bk_lt t) 1 256 inb_S528x1024_S512x256_0_256 _ _ (qpay1 (blkT K t))
        (lo_canon I (bk t) (bk_lt t) 0 0 inb_S528x1024_S512x256_0_0 _ L (qpay0 (blkT K t)) h0 rfl) rfl) rfl) rfl
  have hl : l.val / 256 < (3 : Fin 4).val + 1 := by show l.val / 256 < 4; omega
  by_cases hp : t.val % 16 = 0
  · rw [outsAt0_A m c t hp]
    frame_out
    refine (Cert.Rows.canon_rect_hit _ _ _ (⟨r.val - 512, by omega⟩ : Fin 16) l r l (by show r.val = 512 + (r.val - 512); omega) (by omega)).trans ?_
    refine (pay3_at _ _ _).trans ((Cert.Rows.readCov_rect _ _ _ (⟨r.val - 512, by omega⟩ : Fin 16) l (⟨r.val - 512, by omega⟩ : Fin 528) l (by omega) (by omega)).trans ?_)
    exact (hL _ (lo_zero I _ (bk_lt t) _) _ l ⟨r.val - 512, by omega⟩ rfl hl).trans (congrArg _ e.symm)
  · rw [outsAt0_B m c t hp]
    frame_out
    refine (Cert.Rows.canon_rect_hit _ _ _ (⟨r.val - 512, by omega⟩ : Fin 16) l r l (by show r.val = 512 + (r.val - 512); omega) (by omega)).trans ?_
    refine (pay3_at _ _ _).trans ((Cert.Rows.readCov_rect _ _ _ (⟨r.val - 512, by omega⟩ : Fin 16) l (⟨r.val - 512, by omega⟩ : Fin 528) l (by omega) (by omega)).trans ?_)
    exact (hL _ (lo_zero I _ (bk_lt t) _) _ l ⟨r.val - 512, by omega⟩ rfl hl).trans (congrArg _ e.symm)

theorem hiA (hp : t.val % 16 = 0) : HiOK I (bk t) (View.canon [(⟨Rect.unit ![512, 0] ![16, 1024] inb_S528x1024_S16x1024_512_0, k0_pay6 (F := Ideal)⟩ : View.Piece (Elt Ideal) S528x1024 .f32)]) := by
  intro r l hr
  have ht := (idx t).2.2.2.2.2.2.2.2.2.2.1
  refine (Cert.Rows.canon_rect_hit _ _ _ (⟨r.val - 512, by omega⟩ : Fin 16) l r l (by show r.val = 512 + (r.val - 512); omega) (by omega)).trans ?_
  rw [ext_ge _ _ (by show 8192 ≤ (15 - t.val) * 512 + r.val; omega), EReal.coe_zero]
  pointwise [k0_pay6]

theorem hiB (hp : ¬ t.val % 16 = 0) (hw : scM0_1.IsWhole) : HiOK I (bk t) (View.read (Elt Ideal) (View.whole cc0_scratch1)
    ((View.whole cc0_scratch1).writes (Elt Ideal) (hw.unread (outsAt0 m c (t.val - 1) (Nat.lt_of_le_of_lt (Nat.sub_le _ _) t.isLt)).2.2.2) [])) := by
  intro r l hr
  have ht := (idx t).2.2.2.2.2.2.2.2.2.2.1
  refine (congrFun (hw.read_unread _) (ix2 r l)).trans ((carry K ⟨t.val - 1, by omega⟩ r l hr).trans (congrArg _ (congrArg _ ?_)))
  show (15 - (t.val - 1)) * 512 + (r.val - 512) = (15 - t.val) * 512 + r.val
  omega

end Cert.PoolVal
-- ==== Proof.PoolDh.lean ====
module

public import proofs.«01_k».proof.Proof.PoolStep

/-! The pooling kernel's window terms as each group loads them, and the gradient's rows they make, at a first point and at a later one. -/

@[expose] public section

set_option maxRecDepth 16384

noncomputable section

namespace Cert.PoolVal

open Cert.PoolIdeal Cert.PoolIdeal.Gen Idealize.ShloMosaic Idealize.ShloMosaic.TcCoe Idealize.SL.Sem Cert.Reals

section Lists

variable (ti : BitVec 32) (dys h : FVec Ideal S512x1024 .f32) (hal : FVec Ideal S16x1024 .f32) (w0 w1 w2 w3 : FVec Ideal S1x256x256 .bf16)

/-- The stores of the four groups' window terms, after the stores `L`. -/
abbrev P1 (L : List (View.Piece (Elt Ideal) S528x1024 .f32)) : List (View.Piece (Elt Ideal) S528x1024 .f32) :=
  ⟨Rect.unit ![0, 0] ![512, 256] inb_S528x1024_S512x256_0_0, k0_pay31 dys (k0_pay27 ti) w0⟩ :: L

abbrev P2 (L : List (View.Piece (Elt Ideal) S528x1024 .f32)) : List (View.Piece (Elt Ideal) S528x1024 .f32) :=
  ⟨Rect.unit ![0, 256] ![512, 256] inb_S528x1024_S512x256_0_256, k0_pay39 dys (Scalar.muli ti 512#32) w1⟩ :: P1 ti dys w0 L

abbrev P3 (L : List (View.Piece (Elt Ideal) S528x1024 .f32)) : List (View.Piece (Elt Ideal) S528x1024 .f32) :=
  ⟨Rect.unit ![0, 512] ![512, 256] inb_S528x1024_S512x256_0_512, k0_pay46 (k0_pay42 ti) (k0_pay45 dys w2)⟩ :: P2 ti dys w0 w1 L

abbrev P4 (L : List (View.Piece (Elt Ideal) S528x1024 .f32)) : List (View.Piece (Elt Ideal) S528x1024 .f32) :=
  ⟨Rect.unit ![0, 768] ![512, 256] inb_S528x1024_S512x256_0_768, k0_pay53 dys (k0_pay48 ti) w3⟩ :: P3 ti dys w0 w1 w2 L

/-- A group's load of the second buffer, over the sixteen rows a later point finds there … -/
abbrev ldB (f : (View.whole cc0_scratch1).ty.Contents (Elt Ideal)) (L : List (View.Piece (Elt Ideal) S528x1024 .f32)) (o : ℕ)
    (inl : ∀ q, (![0, o] : Fin 2 → ℕ) q + (![528, 256] : Fin 2 → ℕ) q ≤ S528x1024.size q) : FVec Ideal S528x256 .f32 :=
  View.ld (View.read (Elt Ideal) (View.whole cc0_scratch1) ((View.whole cc0_scratch1).writes (Elt Ideal) f L)) (Rect.unit (s := S528x1024) ![0, o] ![528, 256] inl)

/-- … and at the first point, over the zeros stored there. -/
abbrev ldA (L : List (View.Piece (Elt Ideal) S528x1024 .f32)) (o : ℕ)
    (inl : ∀ q, (![0, o] : Fin 2 → ℕ) q + (![528, 256] : Fin 2 → ℕ) q ≤ S528x1024.size q) : FVec Ideal S528x256 .f32 :=
  (View.whole cc0_scratch1).readCov L (Rect.unit (s := S528x1024) ![0, o] ![528, 256] inl).toLoadRect

/-- The stores into the first buffer: the rows of `h`, then a group at a time its gradient. -/
abbrev H0 : List (View.Piece (Elt Ideal) S528x1024 .f32) :=
  [⟨Rect.unit ![16, 0] ![512, 1024] inb_S528x1024_S512x1024_16_0, k0_pay24 h⟩, ⟨Rect.unit ![0, 0] ![16, 1024] inb_S528x1024_S16x1024_0_0, hal⟩]

abbrev H1 (q0 : FVec Ideal S528x256 .f32) : List (View.Piece (Elt Ideal) S528x1024 .f32) :=
  ⟨Rect.unit ![16, 0] ![512, 256] inb_S528x1024_S512x256_16_0, k0_pay32 dys w0 q0⟩ :: H0 h hal

abbrev H2 (q0 q1 : FVec Ideal S528x256 .f32) : List (View.Piece (Elt Ideal) S528x1024 .f32) :=
  ⟨Rect.unit ![16, 256] ![512, 256] inb_S528x1024_S512x256_16_256, k0_pay41 (k0_pay40 dys w1 q1)⟩ :: H1 dys h hal w0 q0

abbrev H3 (q0 q1 q2 : FVec Ideal S528x256 .f32) : List (View.Piece (Elt Ideal) S528x1024 .f32) :=
  ⟨Rect.unit ![16, 512] ![512, 256] inb_S528x1024_S512x256_16_512, k0_pay47 (k0_pay45 dys w2) q2⟩ :: H2 dys h hal w0 w1 q0 q1

abbrev H4 (q0 q1 q2 q3 : FVec Ideal S528x256 .f32) : List (View.Piece (Elt Ideal) S528x1024 .f32) :=
  ⟨Rect.unit ![16, 768] ![512, 256] inb_S528x1024_S512x256_16_768, k0_pay54 dys w3 q3⟩ :: H3 dys h hal w0 w1 w2 q0 q1 q2

/-- All four groups' loads hold the window terms. -/
abbrev QsB (I : In) (b : ℕ) (f : (View.whole cc0_scratch1).ty.Contents (Elt Ideal)) : Prop :=
  QLd I b 0 (ldB f (P1 ti dys w0 []) 0 inb_S528x1024_S528x256_0_0) ∧ QLd I b 1 (ldB f (P2 ti dys w0 w1 []) 256 inb_S528x1024_S528x256_0_256)
    ∧ QLd I b 2 (ldB f (P3 ti dys w0 w1 w2 []) 512 inb_S528x1024_S528x256_0_512) ∧ QLd I b 3 (ldB f (P4 ti dys w0 w1 w2 w3 []) 768 inb_S528x1024_S528x256_0_768)

abbrev QsA (I : In) (b : ℕ) (L : List (View.Piece (Elt Ideal) S528x1024 .f32)) : Prop :=
  QLd I b 0 (ldA (P1 ti dys w0 L) 0 inb_S528x1024_S528x256_0_0) ∧ QLd I b 1 (ldA (P2 ti dys w0 w1 L) 256 inb_S528x1024_S528x256_0_256)
    ∧ QLd I b 2 (ldA (P3 ti dys w0 w1 w2 L) 512 inb_S528x1024_S528x256_0_512) ∧ QLd I b 3 (ldA (P4 ti dys w0 w1 w2 w3 L) 768 inb_S528x1024_S528x256_0_768)

variable {ti dys h hal w0 w1 w2 w3} {I : In} {b : ℕ} {hb : b < 16} (B : Blk I b hb ti dys h hal w0 w1 w2 w3)

include B

theorem qsB (f : (View.whole cc0_scratch1).ty.Contents (Elt Ideal))
    (hf : HiOK I b (View.read (Elt Ideal) (View.whole cc0_scratch1) ((View.whole cc0_scratch1).writes (Elt Ideal) f []))) :
    QsB ti dys w0 w1 w2 w3 I b f := by
  have h1 := hi_read I b 0 inb_S528x1024_S512x256_0_0 (k0_pay31 dys (k0_pay27 ti) w0) f [] hf
  have h2 := hi_read I b 256 inb_S528x1024_S512x256_0_256 (k0_pay39 dys (Scalar.muli ti 512#32) w1) f _ h1
  have h3 := hi_read I b 512 inb_S528x1024_S512x256_0_512 (k0_pay46 (k0_pay42 ti) (k0_pay45 dys w2)) f _ h2
  exact ⟨ld_read I b hb 0 0 rfl _ _ _ f _ (qpay0 B) hf, ld_read I b hb 1 256 rfl _ _ _ f _ (qpay1 B) h1,
    ld_read I b hb 2 512 rfl _ _ _ f _ (qpay2 B) h2, ld_read I b hb 3 768 rfl _ _ _ f _ (qpay3 B) h3⟩

theorem qsA (L : List (View.Piece (Elt Ideal) S528x1024 .f32)) (hL : HiOK I b (View.canon L)) :
    QsA ti dys w0 w1 w2 w3 I b L := by
  have h1 := hi_canon I b 0 inb_S528x1024_S512x256_0_0 (k0_pay31 dys (k0_pay27 ti) w0) L hL
  have h2 := hi_canon I b 256 inb_S528x1024_S512x256_0_256 (k0_pay39 dys (Scalar.muli ti 512#32) w1) _ h1
  have h3 := hi_canon I b 512 inb_S528x1024_S512x256_0_512 (k0_pay46 (k0_pay42 ti) (k0_pay45 dys w2)) _ h2
  exact ⟨ld_canon I b hb 0 0 rfl _ _ _ L (qpay0 B) hL, ld_canon I b hb 1 256 rfl _ _ _ _ (qpay1 B) h1,
    ld_canon I b hb 2 512 rfl _ _ _ _ (qpay2 B) h2, ld_canon I b hb 3 768 rfl _ _ _ _ (qpay3 B) h3⟩

end Lists

section Point

variable {m : (ℓ : Loc nD τ sig) → Buf (Elt Ideal) ℓ} {c : Dev nD} {I : In} (K : Reads m c I) (t : Fin cfg0.N)

/-- What the second buffer holds at a later point. -/
abbrev fB (m : (ℓ : Loc nD τ sig) → Buf (Elt Ideal) ℓ) (c : Dev nD) (t : Fin cfg0.N) (hw : scM0_1.IsWhole) : (View.whole cc0_scratch1).ty.Contents (Elt Ideal) :=
  hw.unread (outsAt0 m c (t.val - 1) (Nat.lt_of_le_of_lt (Nat.sub_le _ _) t.isLt)).2.2.2

/-- The zeros a first point stores. -/
abbrev zA : List (View.Piece (Elt Ideal) S528x1024 .f32) := [⟨Rect.unit ![512, 0] ![16, 1024] inb_S528x1024_S16x1024_512_0, k0_pay6 (F := Ideal)⟩]

include K

theorem qB (hp : ¬ t.val % 16 = 0) (hw : scM0_1.IsWhole) : QsB (ti t) (dysT m c t) (w0T m c t) (w1T m c t) (w2T m c t) (w3T m c t) I (bk t) (fB m c t hw) := qsB (blkT K t) (fB m c t hw) (hiB K t hp hw)

theorem qA (hp : t.val % 16 = 0) : QsA (ti t) (dysT m c t) (w0T m c t) (w1T m c t) (w2T m c t) (w3T m c t) I (bk t) zA := qsA (blkT K t) zA (hiA K t hp)

/-- The gradient's rows, given the four loads. -/
theorem dhT (inb : ∀ q, (![16, 0] : Fin 2 → ℕ) q + (![512, 1024] : Fin 2 → ℕ) q ≤ S528x1024.size q) {q0 q1 q2 q3 : FVec Ideal S528x256 .f32}
    (h0 : QLd I (bk t) 0 q0) (h1 : QLd I (bk t) 1 q1) (h2 : QLd I (bk t) 2 q2) (h3 : QLd I (bk t) 3 q3) (r : Fin 512) (l : Fin 1024) :
    ((View.whole cc0_scratch0).readCov (H4 (dysT m c t) (hT m c t) (halT m c t) (w0T m c t) (w1T m c t) (w2T m c t) (w3T m c t) q0 q1 q2 q3)
      (Rect.unit (s := S528x1024) ![16, 0] ![512, 1024] inb).toLoadRect : FVec Ideal S512x1024 .f32) (ix2 r l) = (I.dh (row t r) l : EReal) :=
  hok_last I (bk t) (bk_lt t) inb _ (hok4 (blkT K t) h0 h1 h2 h3) r l

end Point

end Cert.PoolVal
-- ==== Proof.PoolDx.lean ====
module

public import proofs.«01_k».proof.Proof.PoolDh

/-! The pooling kernel's first result: the gradient of the rows, block by block. -/

@[expose] public section

set_option maxRecDepth 16384

noncomputable section

namespace Cert.PoolVal

open Cert.PoolIdeal Cert.PoolIdeal.Gen Idealize.ShloMosaic Idealize.ShloMosaic.TcCoe Idealize.SL.Sem Cert.Reals

variable {m : (ℓ : Loc nD τ sig) → Buf (Elt Ideal) ℓ} {c : Dev nD} {I : In} (K : Reads m c I)

include K

theorem dxT (t : Fin cfg0.N) (dh : FVec Ideal S512x1024 .f32) (hd : ∀ r k, dh (ix2 r k) = (I.dh (row t r) k : EReal)) (r : Fin 512) (l : Fin 1024) :
    k0_pay2 (F := Ideal) (iblk m c 0 t) (k0_pay60 (iblk m c 1 t) (k0_pay7 (iblk m c 4 t)) dh (k0_pay55 (iblk m c 1 t))) (ix2 r l) = (I.dx (row t r) l : EReal) :=
  pay2_at (iblk m c 4 t) I.g (fun k => 1 + I.sc k) I.sh (g0 K t) (g1 K t) (g2 K t) (iblk m c 1 t) dh (fun r => I.x (row t r)) (fun r => I.dh (row t r))
    (x1 K t) hd (iblk m c 0 t) (fun r => I.ct (row t r)) (x0 K t) r l

theorem final7 (G : FVec Ideal S8192x1024 .f32) (hG : ∀ r l, G (ix2 r l) = (I.dx r l : EReal)) : (dats m 0 c).arrAt 7 (cfgs 0).N = G := by
  refine (dats m 0 c).arrAt_eq_of_covers 7 _ (by decide +kernel) fun t hf i => ?_
  blk_simp [idx t]
  rw [after0_7]
  by_cases hp : t.val % 16 = 0
  · rw [outsAt0_A m c t hp]
    frame_out
    idx_vars i
    obtain ⟨q0, q1, q2, q3⟩ := qA K t hp
    refine (dxT K t _ (dhT K t _ q0 q1 q2 q3) _ _).trans ((hG _ _).symm.trans ?_)
    blk_ext [idx t]
  · rw [outsAt0_B m c t hp]
    frame_out
    idx_vars i
    obtain ⟨q0, q1, q2, q3⟩ := qB K t hp (Memref.isWhole_whole _)
    refine (dxT K t _ (dhT K t _ q0 q1 q2 q3) _ _).trans ((hG _ _).symm.trans ?_)
    blk_ext [idx t]

end Cert.PoolVal
-- ==== Proof.PoolDw.lean ====
module

public import proofs.«01_k».proof.Proof.PoolDh

/-! The pooling kernel's third result: the mixing weights' gradient, a slab a group, added up over the blocks of rows. -/

@[expose] public section

set_option maxRecDepth 16384

noncomputable section

namespace Cert.PoolVal

open Cert.PoolIdeal Cert.PoolIdeal.Gen Idealize.ShloMosaic Idealize.ShloMosaic.TcCoe Idealize.SL.Sem Cert.Reals

theorem pay5_at (s : Fin 4) (a e : Fin 256) : (k0_pay5 (F := Ideal)) (ix3 s a e) = 0 := by
  pointwise [k0_pay5]

/-- A sum over the blocks, walked from the last, and the rows in each, is the sum over the rows. -/
theorem sum_rows (f : Fin 8192 → ℝ) : ∑ t : Fin cfg0.N, ∑ r, f (row t r) = ∑ i, f i := by
  refine Eq.trans ?_ (Fin.sum_mul_add_fin 16 512 f)
  refine Eq.trans ?_ (Equiv.sum_comp Fin.revPerm (fun t : Fin 16 => ∑ r : Fin 512, f ⟨t.val * 512 + r.val, by omega⟩))
  refine Finset.sum_congr rfl fun t _ => Finset.sum_congr rfl fun r _ => congrArg f (Fin.ext ?_)
  have ht := (idx t).2.2.2.2.2.2.2.2.2.2.1
  show (15 - t.val) * 512 + r.val = (16 - (t.val + 1)) * 512 + r.val
  omega

variable {m : (ℓ : Loc nD τ sig) → Buf (Elt Ideal) ℓ} {c : Dev nD} {I : In}

/-- What a point adds to the weights' gradient. -/
def partW (I : In) (t : Fin cfg0.N) (j : S4x256x256.Idx) : EReal := (dWp I (bk t) (bk_lt t) (j 0) (j 1) (j 2) : EReal)

variable (K : Reads m c I)

include K

theorem stepA (t : Fin cfg0.N) (hp : t.val % 16 = 0) (j : S4x256x256.Idx) : (outsAt0 m c t.val t.isLt).2.2.1 j = 0 + partW I t j := by
    obtain ⟨q, a, e, rfl⟩ : ∃ q a e, j = ix3 q a e := ⟨j 0, j 1, j 2, (ix3_eta j).symm⟩
    rw [outsAt0_A m c t hp]
    frame_out
    obtain ⟨q0, q1, q2, q3⟩ := qA K t hp
    by_cases n3 : q = 3
    · subst n3
      refine (Cert.Rows.canon_slab_hit (3 : Fin 4) _ _ _ a e).trans ?_
      refine (wpay3 (blkT K t) _ (hok_load I (bk t) (bk_lt t) 3 768 rfl _ _ (hok3 (blkT K t) q0 q1 q2)) _ a e).trans (congrArg (· + _) ?_)
      refine (Cert.Rows.readCov_slab _ _ (3 : Fin 4) _ a e).trans ?_
      refine (Cert.Rows.canon_slab_miss 2 (3 : Fin 4) (by decide) _ _ _ a e).trans ?_
      refine (Cert.Rows.canon_slab_miss 1 (3 : Fin 4) (by decide) _ _ _ a e).trans ?_
      refine (Cert.Rows.canon_slab_miss 0 (3 : Fin 4) (by decide) _ _ _ a e).trans ?_
      exact (Cert.Rows.canon_stack _ _ _ (3 : Fin 4) a e).trans (pay5_at _ a e)
    refine (Cert.Rows.canon_slab_miss 3 q (fun h => n3 (Fin.ext h)) _ _ _ a e).trans ?_
    by_cases n2 : q = 2
    · subst n2
      refine (Cert.Rows.canon_slab_hit (2 : Fin 4) _ _ _ a e).trans ?_
      refine (wpay2 (blkT K t) _ (hok_load I (bk t) (bk_lt t) 2 512 rfl _ _ (hok2 (blkT K t) q0 q1)) _ a e).trans (congrArg (· + _) ?_)
      refine (Cert.Rows.readCov_slab _ _ (2 : Fin 4) _ a e).trans ?_
      refine (Cert.Rows.canon_slab_miss 1 (2 : Fin 4) (by decide) _ _ _ a e).trans ?_
      refine (Cert.Rows.canon_slab_miss 0 (2 : Fin 4) (by decide) _ _ _ a e).trans ?_
      exact (Cert.Rows.canon_stack _ _ _ (2 : Fin 4) a e).trans (pay5_at _ a e)
    refine (Cert.Rows.canon_slab_miss 2 q (fun h => n2 (Fin.ext h)) _ _ _ a e).trans ?_
    by_cases n1 : q = 1
    · subst n1
      refine (Cert.Rows.canon_slab_hit (1 : Fin 4) _ _ _ a e).trans ?_
      refine (wpay1 (blkT K t) _ (hok_load I (bk t) (bk_lt t) 1 256 rfl _ _ (hok1 (blkT K t) q0)) _ a e).trans (congrArg (· + _) ?_)
      refine (Cert.Rows.readCov_slab _ _ (1 : Fin 4) _ a e).trans ?_
      refine (Cert.Rows.canon_slab_miss 0 (1 : Fin 4) (by decide) _ _ _ a e).trans ?_
      exact (Cert.Rows.canon_stack _ _ _ (1 : Fin 4) a e).trans (pay5_at _ a e)
    refine (Cert.Rows.canon_slab_miss 1 q (fun h => n1 (Fin.ext h)) _ _ _ a e).trans ?_
    obtain rfl : q = 0 := by
      fin_cases q
      · rfl
      · exact absurd rfl n1
      · exact absurd rfl n2
      · exact absurd rfl n3
    · refine (Cert.Rows.canon_slab_hit (0 : Fin 4) _ _ _ a e).trans ?_
      refine (wpay0 (blkT K t) _ (hok_load I (bk t) (bk_lt t) 0 0 rfl _ _ (hok0 (blkT K t))) _ a e).trans (congrArg (· + _) ?_)
      refine (Cert.Rows.readCov_slab _ _ (0 : Fin 4) _ a e).trans ?_
      exact (Cert.Rows.canon_stack _ _ _ (0 : Fin 4) a e).trans (pay5_at _ a e)

theorem stepB (t : Fin cfg0.N) (hp : ¬ t.val % 16 = 0) (j : S4x256x256.Idx) : (outsAt0 m c t.val t.isLt).2.2.1 j
    = (outsAt0 m c (t.val - 1) (Nat.lt_of_le_of_lt (Nat.sub_le _ _) t.isLt)).2.2.1 j + partW I t j := by
    obtain ⟨q, a, e, rfl⟩ : ∃ q a e, j = ix3 q a e := ⟨j 0, j 1, j 2, (ix3_eta j).symm⟩
    rw [outsAt0_B m c t hp]
    frame_out
    obtain ⟨q0, q1, q2, q3⟩ := qB K t hp (Memref.isWhole_whole _)
    by_cases n3 : q = 3
    · subst n3
      refine (Cert.Rows.canon_slab_hit (3 : Fin 4) _ _ _ a e).trans ?_
      refine (wpay3 (blkT K t) _ (hok_load I (bk t) (bk_lt t) 3 768 rfl _ _ (hok3 (blkT K t) q0 q1 q2)) _ a e).trans (congrArg (· + _) ?_)
      exact Cert.Rows.ld_slab _ (3 : Fin 4) _ a e
    refine (Cert.Rows.canon_slab_miss 3 q (fun h => n3 (Fin.ext h)) _ _ _ a e).trans ?_
    by_cases n2 : q = 2
    · subst n2
      refine (Cert.Rows.canon_slab_hit (2 : Fin 4) _ _ _ a e).trans ?_
      refine (wpay2 (blkT K t) _ (hok_load I (bk t) (bk_lt t) 2 512 rfl _ _ (hok2 (blkT K t) q0 q1)) _ a e).trans (congrArg (· + _) ?_)
      exact Cert.Rows.ld_slab _ (2 : Fin 4) _ a e
    refine (Cert.Rows.canon_slab_miss 2 q (fun h => n2 (Fin.ext h)) _ _ _ a e).trans ?_
    by_cases n1 : q = 1
    · subst n1
      refine (Cert.Rows.canon_slab_hit (1 : Fin 4) _ _ _ a e).trans ?_
      refine (wpay1 (blkT K t) _ (hok_load I (bk t) (bk_lt t) 1 256 rfl _ _ (hok1 (blkT K t) q0)) _ a e).trans (congrArg (· + _) ?_)
      exact Cert.Rows.ld_slab _ (1 : Fin 4) _ a e
    refine (Cert.Rows.canon_slab_miss 1 q (fun h => n1 (Fin.ext h)) _ _ _ a e).trans ?_
    obtain rfl : q = 0 := by
      fin_cases q
      · rfl
      · exact absurd rfl n1
      · exact absurd rfl n2
      · exact absurd rfl n3
    · refine (Cert.Rows.canon_slab_hit (0 : Fin 4) _ _ _ a e).trans ?_
      refine (wpay0 (blkT K t) _ (hok_load I (bk t) (bk_lt t) 0 0 rfl _ _ (hok0 (blkT K t))) _ a e).trans (congrArg (· + _) ?_)
      exact Cert.Rows.ld_slab _ (0 : Fin 4) _ a e

theorem final9 (G : FVec Ideal S4x256x256 .f32) (hG : ∀ q a e, G (ix3 q a e) = (I.dW q a e : EReal)) : (dats m 0 c).arrAt 9 (cfgs 0).N = G := by
  refine (dats m 0 c).arrAt_eq_of_after_last 9 t0_15 (by decide +kernel) _ fun j => ?_
  blk_simp
  rw [after0_9]
  rw [Pipeline.eq_sum_fin_of_reset_step_apply_last (fun n h => (outsAt0 m c n h).2.2.1) 16 (fun _ => 0) _ (stepA K) (stepB K) (le_of_eq N_0) t0_15 rfl j, zero_add]
  obtain ⟨q, a, e, rfl⟩ : ∃ q a e, j = ix3 q a e := ⟨j 0, j 1, j 2, (ix3_eta j).symm⟩
  refine Eq.trans ?_ (hG q a e).symm
  exact (coe_sum _ _).trans (congrArg _ (sum_rows fun i => I.pooled q i a * I.dys i (col q e)))

end Cert.PoolVal
-- ==== Proof.PoolDg.lean ====
module

public import proofs.«01_k».proof.Proof.PoolDw

/-! The pooling kernel's second result: the six small gradients, a row each, added up over the blocks of rows. -/

@[expose] public section

set_option maxRecDepth 16384

noncomputable section

namespace Cert.PoolVal

open Cert.PoolIdeal Cert.PoolIdeal.Gen Idealize.ShloMosaic Idealize.ShloMosaic.TcCoe Idealize.SL.Sem Cert.Reals

theorem pay4_at (r : Fin 8) (l : Fin 1024) : (k0_pay4 (F := Ideal)) (ix2 r l) = 0 := by
  pointwise [k0_pay4]

variable {m : (ℓ : Loc nD τ sig) → Buf (Elt Ideal) ℓ} {c : Dev nD} {I : In}

/-- What a point adds to the six rows. -/
def partG (I : In) (t : Fin cfg0.N) (j : S8x1024.Idx) : EReal := ((∑ x : Fin 512, I.pgRow (j 0) (row t x) (j 1) : ℝ) : EReal)

theorem partG_zero (I : In) (t : Fin cfg0.N) (r : Fin 8) (l : Fin 1024) (n0 : r ≠ 0) (n1 : r ≠ 1) (n2 : r ≠ 2) (n3 : r ≠ 3) (n4 : r ≠ 4) (n5 : r ≠ 5) :
    partG I t (ix2 r l) = 0 := by
  have h0 : r.val ≠ 0 := fun e => n0 (Fin.ext e)
  have h1 : r.val ≠ 1 := fun e => n1 (Fin.ext e)
  have h2 : r.val ≠ 2 := fun e => n2 (Fin.ext e)
  have h3 : r.val ≠ 3 := fun e => n3 (Fin.ext e)
  have h4 : r.val ≠ 4 := fun e => n4 (Fin.ext e)
  have h5 : r.val ≠ 5 := fun e => n5 (Fin.ext e)
  refine Eq.trans (congrArg (fun y : ℝ => (y : EReal)) (Finset.sum_eq_zero (f := fun x => I.pgRow r (row t x) l) fun x _ => ?_)) EReal.coe_zero
  unfold In.pgRow
  rw [if_neg h0, if_neg h1, if_neg h2, if_neg h3, if_neg h4, if_neg h5]

variable (K : Reads m c I)

include K

section Rows

variable (t : Fin cfg0.N) (dh : FVec Ideal S512x1024 .f32) (hd : ∀ r k, dh (ix2 r k) = (I.dh (row t r) k : EReal)) (z : FVec Ideal S1x1024 .f32) (l : Fin 1024)

theorem rowT3 : k0_pay18 (F := Ideal) (k0_pay13 (iblk m c 4 t)) (k0_pay16 (iblk m c 0 t) (iblk m c 3 t) (iblk m c 6 t)) z (ix2 0 l) = z (ix2 0 l) + partG I t (ix2 3 l) :=
  pay18_at (iblk m c 4 t) (iblk m c 0 t) (iblk m c 3 t) (iblk m c 6 t) I.pg I.gt I.scl (fun r => I.ct (row t r)) (fun r => I.yp (row t r))
    (g3 K t) (g4 K t) (x0 K t) (x3 K t) (x6 K t) z l

theorem rowT4 : k0_pay19 (F := Ideal) (k0_pay14 (iblk m c 4 t)) (k0_pay16 (iblk m c 0 t) (iblk m c 3 t) (iblk m c 6 t)) z (ix2 0 l) = z (ix2 0 l) + partG I t (ix2 4 l) :=
  pay19_at (iblk m c 4 t) (iblk m c 0 t) (iblk m c 3 t) (iblk m c 6 t) I.pg I.gt I.scl (fun r => I.ct (row t r)) (fun r => I.yp (row t r))
    (g3 K t) (g4 K t) (x0 K t) (x3 K t) (x6 K t) z l

theorem rowT5 : k0_pay20 (F := Ideal) (k0_pay8 (iblk m c 3 t)) (k0_pay15 (iblk m c 4 t) (iblk m c 0 t) (iblk m c 3 t) (iblk m c 6 t)) z (ix2 0 l) = z (ix2 0 l) + partG I t (ix2 5 l) :=
  pay20_at (iblk m c 4 t) (iblk m c 0 t) (iblk m c 3 t) (iblk m c 6 t) I.pg I.gt I.scl (fun r => I.ct (row t r)) (fun r => I.yp (row t r))
    (g3 K t) (g4 K t) (x0 K t) (x3 K t) (x6 K t) z l

include hd

theorem rowT0 : k0_pay62 (F := Ideal) (iblk m c 1 t) (k0_pay7 (iblk m c 4 t)) dh (k0_pay55 (iblk m c 1 t)) z (ix2 0 l) = z (ix2 0 l) + partG I t (ix2 0 l) :=
  pay62_at (iblk m c 4 t) I.g (fun k => 1 + I.sc k) I.sh (g0 K t) (g1 K t) (g2 K t) (iblk m c 1 t) dh (fun r => I.x (row t r)) (fun r => I.dh (row t r))
    (x1 K t) hd z l

theorem rowT1 : k0_pay63 (F := Ideal) (iblk m c 1 t) (k0_pay7 (iblk m c 4 t)) dh (k0_pay55 (iblk m c 1 t)) z (ix2 0 l) = z (ix2 0 l) + partG I t (ix2 1 l) :=
  pay63_at (iblk m c 4 t) I.g (fun k => 1 + I.sc k) I.sh (g0 K t) (g1 K t) (g2 K t) (iblk m c 1 t) dh (fun r => I.x (row t r)) (fun r => I.dh (row t r))
    (x1 K t) hd z l

theorem rowT2 : k0_pay1 (F := Ideal) (k0_pay64 z) (k0_pay65 dh) (ix2 0 l) = z (ix2 0 l) + partG I t (ix2 2 l) :=
  pay1_at (iblk m c 4 t) I.g (fun k => 1 + I.sc k) I.sh (g0 K t) (g1 K t) (g2 K t) (iblk m c 1 t) dh (fun r => I.x (row t r)) (fun r => I.dh (row t r))
    (x1 K t) hd z l

end Rows

theorem rowsA (t : Fin cfg0.N) (hp : t.val % 16 = 0) (j : S8x1024.Idx) : (outsAt0 m c t.val t.isLt).2.1 j = 0 + partG I t j := by
  obtain ⟨r, l, rfl⟩ : ∃ r l, j = ix2 r l := ⟨j 0, j 1, (ix2_eta j).symm⟩
  rw [outsAt0_A m c t hp]
  frame_out
  obtain ⟨q0, q1, q2, q3⟩ := qA K t hp
  by_cases n2 : r = 2
  · subst n2
    refine (Cert.Rows.canon_hit (2 : Fin 8) _ _ _ l).trans ?_
    refine (rowT2 K t _ (dhT K t _ q0 q1 q2 q3) _ l).trans (congrArg (· + _) ?_)
    refine (Cert.Rows.readCov_row _ _ (2 : Fin 8) _ l).trans ?_
    refine (Cert.Rows.canon_miss 1 (2 : Fin 8) (by decide) _ _ _ l).trans ?_
    refine (Cert.Rows.canon_miss 0 (2 : Fin 8) (by decide) _ _ _ l).trans ?_
    refine (Cert.Rows.canon_miss 5 (2 : Fin 8) (by decide) _ _ _ l).trans ?_
    refine (Cert.Rows.canon_miss 4 (2 : Fin 8) (by decide) _ _ _ l).trans ?_
    refine (Cert.Rows.canon_miss 3 (2 : Fin 8) (by decide) _ _ _ l).trans ?_
    exact (Cert.Rows.canon_whole _ _ _ (2 : Fin 8) l).trans (pay4_at _ l)
  refine (Cert.Rows.canon_miss 2 r (fun e => n2 (Fin.ext e)) _ _ _ l).trans ?_
  by_cases n1 : r = 1
  · subst n1
    refine (Cert.Rows.canon_hit (1 : Fin 8) _ _ _ l).trans ?_
    refine (rowT1 K t _ (dhT K t _ q0 q1 q2 q3) _ l).trans (congrArg (· + _) ?_)
    refine (Cert.Rows.readCov_row _ _ (1 : Fin 8) _ l).trans ?_
    refine (Cert.Rows.canon_miss 0 (1 : Fin 8) (by decide) _ _ _ l).trans ?_
    refine (Cert.Rows.canon_miss 5 (1 : Fin 8) (by decide) _ _ _ l).trans ?_
    refine (Cert.Rows.canon_miss 4 (1 : Fin 8) (by decide) _ _ _ l).trans ?_
    refine (Cert.Rows.canon_miss 3 (1 : Fin 8) (by decide) _ _ _ l).trans ?_
    exact (Cert.Rows.canon_whole _ _ _ (1 : Fin 8) l).trans (pay4_at _ l)
  refine (Cert.Rows.canon_miss 1 r (fun e => n1 (Fin.ext e)) _ _ _ l).trans ?_
  by_cases n0 : r = 0
  · subst n0
    refine (Cert.Rows.canon_hit (0 : Fin 8) _ _ _ l).trans ?_
    refine (rowT0 K t _ (dhT K t _ q0 q1 q2 q3) _ l).trans (congrArg (· + _) ?_)
    refine (Cert.Rows.readCov_row _ _ (0 : Fin 8) _ l).trans ?_
    refine (Cert.Rows.canon_miss 5 (0 : Fin 8) (by decide) _ _ _ l).trans ?_
    refine (Cert.Rows.canon_miss 4 (0 : Fin 8) (by decide) _ _ _ l).trans ?_
    refine (Cert.Rows.canon_miss 3 (0 : Fin 8) (by decide) _ _ _ l).trans ?_
    exact (Cert.Rows.canon_whole _ _ _ (0 : Fin 8) l).trans (pay4_at _ l)
  refine (Cert.Rows.canon_miss 0 r (fun e => n0 (Fin.ext e)) _ _ _ l).trans ?_
  by_cases n5 : r = 5
  · subst n5
    refine (Cert.Rows.canon_hit (5 : Fin 8) _ _ _ l).trans ?_
    refine (rowT5 K t _ l).trans (congrArg (· + _) ?_)
    refine (Cert.Rows.readCov_row _ _ (5 : Fin 8) _ l).trans ?_
    refine (Cert.Rows.canon_miss 4 (5 : Fin 8) (by decide) _ _ _ l).trans ?_
    refine (Cert.Rows.canon_miss 3 (5 : Fin 8) (by decide) _ _ _ l).trans ?_
    exact (Cert.Rows.canon_whole _ _ _ (5 : Fin 8) l).trans (pay4_at _ l)
  refine (Cert.Rows.canon_miss 5 r (fun e => n5 (Fin.ext e)) _ _ _ l).trans ?_
  by_cases n4 : r = 4
  · subst n4
    refine (Cert.Rows.canon_hit (4 : Fin 8) _ _ _ l).trans ?_
    refine (rowT4 K t _ l).trans (congrArg (· + _) ?_)
    refine (Cert.Rows.readCov_row _ _ (4 : Fin 8) _ l).trans ?_
    refine (Cert.Rows.canon_miss 3 (4 : Fin 8) (by decide) _ _ _ l).trans ?_
    exact (Cert.Rows.canon_whole _ _ _ (4 : Fin 8) l).trans (pay4_at _ l)
  refine (Cert.Rows.canon_miss 4 r (fun e => n4 (Fin.ext e)) _ _ _ l).trans ?_
  by_cases n3 : r = 3
  · subst n3
    refine (Cert.Rows.canon_hit (3 : Fin 8) _ _ _ l).trans ?_
    refine (rowT3 K t _ l).trans (congrArg (· + _) ?_)
    refine (Cert.Rows.readCov_row _ _ (3 : Fin 8) _ l).trans ?_
    exact (Cert.Rows.canon_whole _ _ _ (3 : Fin 8) l).trans (pay4_at _ l)
  refine (Cert.Rows.canon_miss 3 r (fun e => n3 (Fin.ext e)) _ _ _ l).trans ?_
  rw [partG_zero I t r l n0 n1 n2 n3 n4 n5, add_zero]
  exact (Cert.Rows.canon_whole _ _ _ r l).trans (pay4_at _ l)

theorem rowsB (t : Fin cfg0.N) (hp : ¬ t.val % 16 = 0) (j : S8x1024.Idx) : (outsAt0 m c t.val t.isLt).2.1 j
    = (outsAt0 m c (t.val - 1) (Nat.lt_of_le_of_lt (Nat.sub_le _ _) t.isLt)).2.1 j + partG I t j := by
  obtain ⟨r, l, rfl⟩ : ∃ r l, j = ix2 r l := ⟨j 0, j 1, (ix2_eta j).symm⟩
  rw [outsAt0_B m c t hp]
  frame_out
  obtain ⟨q0, q1, q2, q3⟩ := qB K t hp (Memref.isWhole_whole _)
  by_cases n2 : r = 2
  · subst n2
    refine (Cert.Rows.read_hit _ _ (2 : Fin 8) _ _ _ l).trans ?_
    refine (rowT2 K t _ (dhT K t _ q0 q1 q2 q3) _ l).trans (congrArg (· + _) ?_)
    exact Cert.Rows.ld_row _ (2 : Fin 8) _ l
  refine (Cert.Rows.read_miss _ _ 2 r (fun e => n2 (Fin.ext e)) _ _ _ l).trans ?_
  by_cases n1 : r = 1
  · subst n1
    refine (Cert.Rows.read_hit _ _ (1 : Fin 8) _ _ _ l).trans ?_
    refine (rowT1 K t _ (dhT K t _ q0 q1 q2 q3) _ l).trans (congrArg (· + _) ?_)
    exact Cert.Rows.ld_row _ (1 : Fin 8) _ l
  refine (Cert.Rows.read_miss _ _ 1 r (fun e => n1 (Fin.ext e)) _ _ _ l).trans ?_
  by_cases n0 : r = 0
  · subst n0
    refine (Cert.Rows.read_hit _ _ (0 : Fin 8) _ _ _ l).trans ?_
    refine (rowT0 K t _ (dhT K t _ q0 q1 q2 q3) _ l).trans (congrArg (· + _) ?_)
    exact Cert.Rows.ld_row _ (0 : Fin 8) _ l
  refine (Cert.Rows.read_miss _ _ 0 r (fun e => n0 (Fin.ext e)) _ _ _ l).trans ?_
  by_cases n5 : r = 5
  · subst n5
    refine (Cert.Rows.read_hit _ _ (5 : Fin 8) _ _ _ l).trans ?_
    refine (rowT5 K t _ l).trans (congrArg (· + _) ?_)
    exact Cert.Rows.ld_row _ (5 : Fin 8) _ l
  refine (Cert.Rows.read_miss _ _ 5 r (fun e => n5 (Fin.ext e)) _ _ _ l).trans ?_
  by_cases n4 : r = 4
  · subst n4
    refine (Cert.Rows.read_hit _ _ (4 : Fin 8) _ _ _ l).trans ?_
    refine (rowT4 K t _ l).trans (congrArg (· + _) ?_)
    exact Cert.Rows.ld_row _ (4 : Fin 8) _ l
  refine (Cert.Rows.read_miss _ _ 4 r (fun e => n4 (Fin.ext e)) _ _ _ l).trans ?_
  by_cases n3 : r = 3
  · subst n3
    refine (Cert.Rows.read_hit _ _ (3 : Fin 8) _ _ _ l).trans ?_
    refine (rowT3 K t _ l).trans (congrArg (· + _) ?_)
    exact Cert.Rows.ld_row _ (3 : Fin 8) _ l
  refine (Cert.Rows.read_miss _ _ 3 r (fun e => n3 (Fin.ext e)) _ _ _ l).trans ?_
  rw [partG_zero I t r l n0 n1 n2 n3 n4 n5, add_zero]
  exact congrFun ((hs0_8 t).read_unread _) (ix2 r l)

theorem final8 (G : FVec Ideal S8x1024 .f32) (hG : ∀ r l, G (ix2 r l) = (I.pgs r l : EReal)) : (dats m 0 c).arrAt 8 (cfgs 0).N = G := by
  refine (dats m 0 c).arrAt_eq_of_after_last 8 t0_15 (by decide +kernel) _ fun j => ?_
  blk_simp
  rw [after0_8]
  rw [Pipeline.eq_sum_fin_of_reset_step_apply_last (fun n h => (outsAt0 m c n h).2.1) 16 (fun _ => 0) _ (rowsA K) (rowsB K) (le_of_eq N_0) t0_15 rfl j, zero_add]
  obtain ⟨r, l, rfl⟩ : ∃ r l, j = ix2 r l := ⟨j 0, j 1, (ix2_eta j).symm⟩
  refine Eq.trans ?_ (hG r l).symm
  exact (coe_sum _ _).trans (congrArg _ (sum_rows fun i => I.pgRow r i l))

end Cert.PoolVal
-- ==== Proof.PoolWin.lean ====
module

public import proofs.«01_k».proof.Proof.PoolSpec
public import Idealize.ShloMosaic.Lib.Routing.OpsOne

/-! The host's window sum down the rows of a matrix of reals. -/

@[expose] public section

noncomputable section

namespace Cert.PoolVal

open Idealize.ShloMosaic Idealize.ShloMosaic.Routing Cert.Reals

theorem foldl_sum {ι : Type} (l : List ι) (f : ι → EReal) (z : EReal) : l.foldl (fun r n => r + f n) z = z + (l.map f).sum := by
  induction l generalizing z with
  | nil => simp
  | cons a l ih => rw [List.foldl_cons, ih, List.map_cons, List.sum_cons, add_assoc]

/-- A window of `w` rows, `p` rows of zeros put in front: row `j` sums rows `j - p` to `j - p + w - 1`, those that exist. -/
theorem win_at {A N T w p : ℕ} (x : FVec Ideal (⟨2, ![A, N]⟩ : Shape) .f32) (f : Fin N → ℕ → ℝ)
    (hx : ∀ (i : Fin A) (c : Fin N), x (ix2 i c) = (f c i.val : EReal)) (init : FVec Ideal (⟨0, ![]⟩ : Shape) .f32) (hi : ∀ i, init i = 0)
    (h : (⟨2, ![A, N]⟩ : Shape).ReduceWindows (![w, 1] : Fin 2 → ℕ) ![1, 1] ![p, 0] ![0, 0] (⟨2, ![T, N]⟩ : Shape)) (hu : 0 < (⟨0, ![]⟩ : Shape).numel)
    (j : Fin T) (c : Fin N) :
    Host.reduceWindowAdd (F := Ideal) ![w, 1] ![1, 1] ![p, 0] ![0, 0] x init h hu (ix2 j c)
      = ((∑ k ∈ Finset.range w, if p ≤ j.val + k ∧ j.val + k - p < A then f c (j.val + k - p) else 0 : ℝ) : EReal) := by
  have hn : (⟨2, (![w, 1] : Fin 2 → ℕ)⟩ : Shape).numel = w := numel_col w
  show Host.reduceWindow (· + ·) ![w, 1] ![1, 1] ![p, 0] ![0, 0] x (fun _ : (⟨0, ![]⟩ : Shape).Idx => init (Shape.Idx.first hu)) h hu (ix2 j c) = _
  unfold Host.reduceWindow
  rw [foldl_sum, hi, zero_add, ← Fin.sum_univ_def, ← coe_sum, Finset.sum_range]
  refine Fintype.sum_equiv (finCongr hn) _ _ fun n => ?_
  have w0 : ((⟨2, (![w, 1] : Fin 2 → ℕ)⟩ : Shape).rowMajor.symm n 0).val = n.val := by
    rw [show (⟨2, (![w, 1] : Fin 2 → ℕ)⟩ : Shape).rowMajor.symm n = _ from symm_col n]; rfl
  have w1 : ((⟨2, (![w, 1] : Fin 2 → ℕ)⟩ : Shape).rowMajor.symm n 1).val = 0 := by
    rw [show (⟨2, (![w, 1] : Fin 2 → ℕ)⟩ : Shape).rowMajor.symm n = _ from symm_col n]; rfl
  have hc := c.isLt
  dsimp only
  rw [show (finCongr hn n).val = n.val from rfl]
  split
  · next hin =>
    have h0 := hin 0
    change p ≤ j.val * 1 + ((⟨2, (![w, 1] : Fin 2 → ℕ)⟩ : Shape).rowMajor.symm n 0).val
      ∧ j.val * 1 + ((⟨2, (![w, 1] : Fin 2 → ℕ)⟩ : Shape).rowMajor.symm n 0).val - p < A at h0
    rw [w0] at h0
    rw [if_pos (by omega)]
    refine (congrArg x (funext fun a => Fin.ext ?_)).trans (hx ⟨j.val + n.val - p, by omega⟩ c)
    match a with
    | ⟨0, _⟩ =>
      show j.val * 1 + ((⟨2, (![w, 1] : Fin 2 → ℕ)⟩ : Shape).rowMajor.symm n 0).val - p = j.val + n.val - p
      rw [w0, Nat.mul_one]
    | ⟨1, _⟩ =>
      show c.val * 1 + ((⟨2, (![w, 1] : Fin 2 → ℕ)⟩ : Shape).rowMajor.symm n 1).val - 0 = c.val
      rw [w1]
      omega
  · next hin =>
    rw [if_neg fun hle => hin fun a => by
      match a with
      | ⟨0, _⟩ =>
        show p ≤ j.val * 1 + ((⟨2, (![w, 1] : Fin 2 → ℕ)⟩ : Shape).rowMajor.symm n 0).val
          ∧ j.val * 1 + ((⟨2, (![w, 1] : Fin 2 → ℕ)⟩ : Shape).rowMajor.symm n 0).val - p < A
        rw [w0]
        omega
      | ⟨1, _⟩ =>
        show 0 ≤ c.val * 1 + ((⟨2, (![w, 1] : Fin 2 → ℕ)⟩ : Shape).rowMajor.symm n 1).val
          ∧ c.val * 1 + ((⟨2, (![w, 1] : Fin 2 → ℕ)⟩ : Shape).rowMajor.symm n 1).val - 0 < N
        rw [w1]
        omega]
    rfl

/-- The trailing window, as the host sums it. -/
theorem fsum_win (w : ℕ) (f : Fin 8192 → ℝ) (j : Fin 8192) :
    ∑ k ∈ Finset.range w, (if w - 1 ≤ j.val + k ∧ j.val + k - (w - 1) < 8192 then ext f (j.val + k - (w - 1)) else 0) = fsum w f j.val := by
  rw [← Finset.sum_range_reflect]
  refine Finset.sum_congr rfl fun k hk => ?_
  have hk := Finset.mem_range.1 hk
  by_cases h : k ≤ j.val
  · rw [if_pos (by have := j.isLt; omega), if_pos h]
    exact congrArg _ (by omega)
  · rw [if_neg (by omega), if_neg h]

end Cert.PoolVal
-- ==== Proof.PoolRefA.lean ====
module

public import proofs.«01_k».proof.Defs
public import proofs.«01_k».proof.Proof.Gen.PoolRefIdeal.Run
public import proofs.«01_k».proof.Proof.PoolWin
public import proofs.«01_k».proof.Proof.PoolPay

/-! The pooling reference's forward terms, read at an index. -/

@[expose] public section

set_option maxRecDepth 16384

noncomputable section

namespace Cert.PoolVal

open Cert.PoolRefIdeal Cert.PoolRefIdeal.Value Idealize.ShloMosaic Idealize.ShloMosaic.TcCoe Idealize.SL.Sem Cert.Reals

/-- The arguments hold the real inputs. -/
structure Args (V0 : Valuation τ sig (Elt Ideal)) (I : In) : Prop where
  a0 : ∀ r k, V0 (Proc.devRef .tc main_arg0) (ix2 r k) = (I.x r k : EReal)
  a1 : ∀ k, V0 (Proc.devRef .tc main_arg1) (ix1 k) = (I.g k : EReal)
  a2 : ∀ k, V0 (Proc.devRef .tc main_arg2) (ix1 k) = (I.pg k : EReal)
  a3 : ∀ k, V0 (Proc.devRef .tc main_arg3) (ix1 k) = (I.sh k : EReal)
  a4 : ∀ k, V0 (Proc.devRef .tc main_arg4) (ix1 k) = (I.sc k : EReal)
  a5 : ∀ k, V0 (Proc.devRef .tc main_arg5) (ix1 k) = (I.gt k : EReal)
  a6 : ∀ q a e, V0 (Proc.devRef .tc main_arg6) (ix3 q a e) = (I.W q a e : EReal)
  a7 : ∀ k, V0 (Proc.devRef .tc main_arg7) (ix1 k) = (I.scl k : EReal)
  a8 : ∀ r k, V0 (Proc.devRef .tc main_arg8) (ix2 r k) = (I.ct r k : EReal)

theorem next_at (r : Fin 8192) : IntOp.addi (1#32) (BitVec.ofNat 32 r.val) = BitVec.ofNat 32 (r.val + 1) := by
  show 1#32 + BitVec.ofNat 32 r.val = _
  rw [BitVec.ofNat_add, BitVec.add_comm]

/-- A group's window mean less the row, from the window's sum as the host takes it. -/
theorem pooled_of (I : In) (q : Fin 4) (r : Fin 8192) (a : Fin 256) :
    Ideal.div ((∑ k ∈ Finset.range (wn q), if wn q - 1 ≤ r.val + k ∧ r.val + k - (wn q - 1) < 8192 then
        ext (fun t => I.h t (col q a)) (r.val + k - (wn q - 1)) else 0 : ℝ) : EReal) ((cnt (wn q) r.val : ℝ) : EReal)
      - (I.h r (col q a) : EReal) = (I.pooled q r a : EReal) := by
  rw [fsum_win, div_real _ _ (cnt_ne q r.val), ← EReal.coe_sub]
  rfl

variable {V0 : Valuation τ sig (Elt Ideal)} {I : In} (A : Args V0 I)
include A

theorem v6_at (r : Fin 8192) : res_main_v6 V0 (ix2 r 0) = (((∑ k, I.x r k * I.x r k) / 1024 + eps : ℝ) : EReal) := by
  unfold res_main_v6
  pointwise []
  simp only [A.a0, ← EReal.coe_mul, coe_sum, ofBits_1024, ofBits_eps, div_1024, ← EReal.coe_add]

theorem v7_at (r : Fin 8192) : res_main_v7 V0 (ix2 r 0) = (rinv (I.x r) : EReal) := by
  unfold res_main_v7
  pointwise []
  rw [v6_at A, rsqrt_ms]

theorem v12_at (r : Fin 8192) (l : Fin 1024) : res_main_v12 V0 (ix2 r l) = ((I.x r l * rinv (I.x r) : ℝ) : EReal) := by
  unfold res_main_v12
  pointwise []
  rw [v7_at A, A.a0, ← EReal.coe_mul]

theorem v13_at (l : Fin 1024) : res_main_v13 V0 (ix2 0 l) = (I.g l : EReal) := by
  unfold res_main_v13
  pointwise []
  exact A.a1 l

theorem v15_at (r : Fin 8192) (l : Fin 1024) : res_main_v15 V0 (ix2 r l) = ((I.x r l * rinv (I.x r) * I.g l : ℝ) : EReal) := by
  unfold res_main_v15
  pointwise []
  rw [v12_at A, v13_at A, ← EReal.coe_mul]

theorem v18_at (l : Fin 1024) : res_main_v18 V0 (ix2 0 l) = ((1 + I.sc l : ℝ) : EReal) := by
  unfold res_main_v18
  pointwise []
  rw [A.a4, ← EReal.coe_one, ← EReal.coe_add]

theorem v24_at (r : Fin 8192) (q : Fin 4) (a : Fin 256) : res_main_v24 V0 (ix3 r q a) = (I.h r (col q a) : EReal) := by
  unfold res_main_v24
  pointwise []
  rw [v15_at A, v18_at A, A.a3, ← EReal.coe_mul, ← EReal.coe_add]
  refine congrArg _ ?_
  unfold In.h
  ring

omit A in
theorem v35_at (r : Fin 8192) : res_main_v35 V0 (ix2 r 0) = (cnt (wn 0) r.val : EReal) := by
  unfold res_main_v35
  pointwise []
  rw [next_at r]
  exact cnt_at _ 2 (by have := r.isLt; omega) (by omega)

omit A in
theorem v51_at (r : Fin 8192) : res_main_v51 V0 (ix2 r 0) = (cnt (wn 1) r.val : EReal) := by
  unfold res_main_v51
  pointwise []
  rw [next_at r]
  exact cnt_at _ 4 (by have := r.isLt; omega) (by omega)

omit A in
theorem v67_at (r : Fin 8192) : res_main_v67 V0 (ix2 r 0) = (cnt (wn 2) r.val : EReal) := by
  unfold res_main_v67
  pointwise []
  rw [next_at r]
  exact cnt_at _ 8 (by have := r.isLt; omega) (by omega)

omit A in
theorem v83_at (r : Fin 8192) : res_main_v83 V0 (ix2 r 0) = (cnt (wn 3) r.val : EReal) := by
  unfold res_main_v83
  pointwise []
  rw [next_at r]
  exact cnt_at _ 16 (by have := r.isLt; omega) (by omega)

theorem v93_at0 (r : Fin 8192) (a : Fin 256) : res_main_v93 V0 (ix3 r 0 a) = (I.pooled 0 r a : EReal) := by
  unfold res_main_v93
  pointwise []
  rw [v35_at, v24_at A, win_at _ (fun c n => ext (fun t => I.h t (col 0 c)) n) (fun i c => ?_) _ (fun i => ?_)]
  · exact pooled_of I 0 r a
  · pointwise []
    rw [v24_at A]
    exact (congrArg _ (ext_lt (fun t => I.h t (col 0 c)) i)).symm
  · pointwise []

theorem v93_at1 (r : Fin 8192) (a : Fin 256) : res_main_v93 V0 (ix3 r 1 a) = (I.pooled 1 r a : EReal) := by
  unfold res_main_v93
  pointwise []
  rw [v51_at, v24_at A, win_at _ (fun c n => ext (fun t => I.h t (col 1 c)) n) (fun i c => ?_) _ (fun i => ?_)]
  · exact pooled_of I 1 r a
  · pointwise []
    rw [v24_at A]
    exact (congrArg _ (ext_lt (fun t => I.h t (col 1 c)) i)).symm
  · pointwise []

theorem v93_at2 (r : Fin 8192) (a : Fin 256) : res_main_v93 V0 (ix3 r 2 a) = (I.pooled 2 r a : EReal) := by
  unfold res_main_v93
  pointwise []
  rw [v67_at, v24_at A, win_at _ (fun c n => ext (fun t => I.h t (col 2 c)) n) (fun i c => ?_) _ (fun i => ?_)]
  · exact pooled_of I 2 r a
  · pointwise []
    rw [v24_at A]
    exact (congrArg _ (ext_lt (fun t => I.h t (col 2 c)) i)).symm
  · pointwise []

theorem v93_at3 (r : Fin 8192) (a : Fin 256) : res_main_v93 V0 (ix3 r 3 a) = (I.pooled 3 r a : EReal) := by
  unfold res_main_v93
  pointwise []
  rw [v83_at, v24_at A, win_at _ (fun c n => ext (fun t => I.h t (col 3 c)) n) (fun i c => ?_) _ (fun i => ?_)]
  · exact pooled_of I 3 r a
  · pointwise []
    rw [v24_at A]
    exact (congrArg _ (ext_lt (fun t => I.h t (col 3 c)) i)).symm
  · pointwise []

theorem v93_at (r : Fin 8192) (q : Fin 4) (a : Fin 256) : res_main_v93 V0 (ix3 r q a) = (I.pooled q r a : EReal) := by
  match q with
  | 0 => exact v93_at0 A r a
  | 1 => exact v93_at1 A r a
  | 2 => exact v93_at2 A r a
  | 3 => exact v93_at3 A r a

theorem v96_at (r : Fin 8192) (l : Fin 1024) : res_main_v96 V0 (ix2 r l) = (I.yp r l : EReal) := by
  unfold res_main_v96
  pointwise []
  simp only [A.a6, v93_at A, ← EReal.coe_mul, coe_sum]
  rfl

theorem v97_at (l : Fin 1024) : res_main_v97 V0 (ix2 0 l) = (I.scl l : EReal) := by
  unfold res_main_v97
  pointwise []
  exact A.a7 l

theorem v99_at (r : Fin 8192) (l : Fin 1024) : res_main_v99 V0 (ix2 r l) = (I.y r l : EReal) := by
  unfold res_main_v99
  pointwise []
  rw [v96_at A, v97_at A, ← EReal.coe_mul]
  rfl

theorem v100_at (l : Fin 1024) : res_main_v100 V0 (ix2 0 l) = (I.gt l : EReal) := by
  unfold res_main_v100
  pointwise []
  exact A.a5 l

theorem v107_at (r : Fin 8192) : res_main_v107 V0 (ix2 r 0) = (((∑ k, I.y r k * I.y r k) / 1024 + eps : ℝ) : EReal) := by
  unfold res_main_v107
  pointwise []
  simp only [v99_at A, ← EReal.coe_mul, coe_sum, ofBits_1024, ofBits_eps, div_1024, ← EReal.coe_add]

theorem v108_at (r : Fin 8192) : res_main_v108 V0 (ix2 r 0) = (rinv (I.y r) : EReal) := by
  unfold res_main_v108
  pointwise []
  rw [v107_at A, rsqrt_ms]

theorem v113_at (r : Fin 8192) (l : Fin 1024) : res_main_v113 V0 (ix2 r l) = ((I.y r l * rinv (I.y r) : ℝ) : EReal) := by
  unfold res_main_v113
  pointwise []
  rw [v108_at A, v99_at A, ← EReal.coe_mul]

theorem v114_at (l : Fin 1024) : res_main_v114 V0 (ix2 0 l) = (I.pg l : EReal) := by
  unfold res_main_v114
  pointwise []
  exact A.a2 l

theorem v116_at (r : Fin 8192) (l : Fin 1024) : res_main_v116 V0 (ix2 r l) = ((I.y r l * rinv (I.y r) * I.pg l : ℝ) : EReal) := by
  unfold res_main_v116
  pointwise []
  rw [v113_at A, v114_at A, ← EReal.coe_mul]

end Cert.PoolVal
-- ==== Proof.PoolYp.lean ====
module

public import proofs.«01_k».proof.Proof.PoolReads
public import proofs.«01_k».proof.Proof.PoolRefA

/-! The pooled product's rows the kernel is given: the same host lines the reference runs. -/

@[expose] public section

set_option maxRecDepth 16384

noncomputable section

namespace Cert.PoolVal

open Cert.PoolIdeal Cert.PoolIdeal.Gen Idealize.ShloMosaic Idealize.ShloMosaic.TcCoe Idealize.SL.Sem Cert.Reals

variable (m : (ℓ : Loc nD τ sig) → Buf (Elt Ideal) ℓ)

theorem ypre (c : Dev nD) (V0 : Valuation Cert.PoolRefIdeal.τ Cert.PoolRefIdeal.sig (Elt Ideal))
    (a0 : V0 (Proc.devRef .tc Cert.PoolRefIdeal.main_arg0) = m ((c : Thread nD τ).loc main_arg0))
    (a1 : V0 (Proc.devRef .tc Cert.PoolRefIdeal.main_arg1) = m ((c : Thread nD τ).loc main_arg1))
    (a3 : V0 (Proc.devRef .tc Cert.PoolRefIdeal.main_arg3) = m ((c : Thread nD τ).loc main_arg3))
    (a4 : V0 (Proc.devRef .tc Cert.PoolRefIdeal.main_arg4) = m ((c : Thread nD τ).loc main_arg4))
    (a6 : V0 (Proc.devRef .tc Cert.PoolRefIdeal.main_arg6) = m ((c : Thread nD τ).loc main_arg6)) :
    V m c main_v93 = Cert.PoolRefIdeal.Value.res_main_v96 V0 := by
  unfold V
  after_reads_simp
  unfold Cert.PoolRefIdeal.Value.res_main_v96 Cert.PoolRefIdeal.Value.res_main_v93 Cert.PoolRefIdeal.Value.res_main_v24 Cert.PoolRefIdeal.Value.res_main_v15
    Cert.PoolRefIdeal.Value.res_main_v12 Cert.PoolRefIdeal.Value.res_main_v13 Cert.PoolRefIdeal.Value.res_main_v18 Cert.PoolRefIdeal.Value.res_main_v7 Cert.PoolRefIdeal.Value.res_main_v6
    Cert.PoolRefIdeal.Value.res_main_v35 Cert.PoolRefIdeal.Value.res_main_v51 Cert.PoolRefIdeal.Value.res_main_v67 Cert.PoolRefIdeal.Value.res_main_v83
  rw [a0, a1, a3, a4, a6]
  rfl

end Cert.PoolVal
-- ==== Proof.PoolRefB.lean ====
module

public import proofs.«01_k».proof.Proof.PoolRefA

/-! The pooling reference's backward terms and results, read at an index. -/

@[expose] public section

set_option maxRecDepth 16384

noncomputable section

namespace Cert.PoolVal

open Cert.PoolRefIdeal Cert.PoolRefIdeal.Value Idealize.ShloMosaic Idealize.ShloMosaic.TcCoe Idealize.SL.Sem Cert.Reals

/-- A group's leading window, from its sum as the host takes it, less the rows' own gradient. -/
theorem dhg_of (I : In) (q : Fin 4) (r : Fin 8192) (a : Fin 256) :
    -(I.dp q r a : EReal) + ((∑ k ∈ Finset.range (wn q), if 0 ≤ r.val + k ∧ r.val + k - 0 < 8192 + (wn q - 1) then
        ext (I.dq q a) (r.val + k - 0) else 0 : ℝ) : EReal) = (I.dhg q r a : EReal) := by
  rw [← EReal.coe_neg, ← EReal.coe_add]
  refine congrArg _ ?_
  unfold In.dhg bsum
  rw [neg_add_eq_sub]
  refine congrArg (· - _) (Finset.sum_congr rfl fun k hk => ?_)
  have := Finset.mem_range.1 hk
  have := r.isLt
  rw [if_pos (by omega)]
  rfl

/-- The rows padded at the end only: a row lies inside exactly when its number is below the operand's. -/
theorem inside_iff {n : ℕ} (i : Fin n) (c : Fin 256) : (∀ a : Fin 2, (![0, 0] : Fin 2 → ℕ) a ≤ (ix2 i c a).val
    ∧ ((ix2 i c a).val - (![0, 0] : Fin 2 → ℕ) a) % ((![0, 0] : Fin 2 → ℕ) a + 1) = 0
    ∧ ((ix2 i c a).val - (![0, 0] : Fin 2 → ℕ) a) / ((![0, 0] : Fin 2 → ℕ) a + 1) < (![8192, 256] : Fin 2 → ℕ) a) ↔ i.val < 8192 := by
  refine ⟨fun h => ?_, fun h a => ?_⟩
  · have := (h 0).2.2
    change (i.val - 0) / 1 < 8192 at this
    omega
  · match a with
    | ⟨0, _⟩ => exact ⟨Nat.zero_le _, Nat.mod_one _, by show (i.val - 0) / 1 < 8192; omega⟩
    | ⟨1, _⟩ => exact ⟨Nat.zero_le _, Nat.mod_one _, by have := c.isLt; show (c.val - 0) / 1 < 256; omega⟩

variable {V0 : Valuation τ sig (Elt Ideal)} {I : In} (A : Args V0 I)
include A

theorem v120_at (r : Fin 8192) (l : Fin 1024) : res_main_v120 V0 (ix2 r l) = (I.ct r l : EReal) := by
  unfold res_main_v120
  pointwise []
  exact A.a8 r l

theorem v122_at (r : Fin 8192) (l : Fin 1024) : res_main_v122 V0 (ix2 r l) = ((I.gt l * I.ct r l : ℝ) : EReal) := by
  unfold res_main_v122
  pointwise []
  rw [v100_at A, v120_at A, ← EReal.coe_mul]

theorem v130_at (r : Fin 8192) (l : Fin 1024) : res_main_v130 V0 (ix2 r l) = ((I.ct r l * (I.gt l * I.pg l) : ℝ) : EReal) := by
  unfold res_main_v130
  pointwise []
  rw [v122_at A, v114_at A, ← EReal.coe_mul]
  exact congrArg _ (by ring)

theorem v141_at (r : Fin 8192) (l : Fin 1024) : res_main_v141 V0 (ix2 r l)
    = (((∑ k, I.y r k * (I.ct r k * (I.gt k * I.pg k))) * (-(1 / 2) * (rinv (I.y r) / ms (I.y r))) / 1024 : ℝ) : EReal) := by
  unfold res_main_v141
  pointwise []
  simp only [Finset.univ_unique, Finset.sum_singleton, Fin.default_eq_zero, v99_at A, v130_at A, v108_at A, v107_at A, ← EReal.coe_mul, coe_sum, ofBits_1024, ofBits_neg_half, div_1024, div_ms, Finset.univ_unique, Finset.sum_singleton, Fin.default_eq_zero]

theorem v145_at (r : Fin 8192) (l : Fin 1024) : res_main_v145 V0 (ix2 r l) = (I.dy r l : EReal) := by
  unfold res_main_v145
  pointwise []
  rw [v130_at A, v108_at A, v99_at A, v141_at A]
  simp only [← EReal.coe_mul, ← EReal.coe_add]
  exact congrArg _ (vjp_eq_normBwd (I.y r) (fun k => I.ct r k * (I.gt k * I.pg k)) l)

theorem v154_at (q : Fin 4) (e : Fin 256) (r : Fin 8192) : res_main_v154 V0 (ix3 q e r) = (I.dys r (col q e) : EReal) := by
  unfold res_main_v154
  pointwise []
  rw [v145_at A, v97_at A, ← EReal.coe_mul]
  rfl

theorem v156_at (r : Fin 8192) (q : Fin 4) (a : Fin 256) : res_main_v156 V0 (ix3 r q a) = (I.dp q r a : EReal) := by
  unfold res_main_v156
  pointwise []
  simp only [A.a6, v154_at A, ← EReal.coe_mul, coe_sum]
  rfl

theorem v160_at (r : Fin 8192) (a : Fin 256) : res_main_v160 V0 (ix2 r a) = (I.dp 0 r a : EReal) := by
  unfold res_main_v160
  pointwise []
  exact v156_at A r 0 a

theorem v162_at (r : Fin 8192) (a : Fin 256) : res_main_v162 V0 (ix2 r a) = (I.dp 1 r a : EReal) := by
  unfold res_main_v162
  pointwise []
  exact v156_at A r 1 a

theorem v164_at (r : Fin 8192) (a : Fin 256) : res_main_v164 V0 (ix2 r a) = (I.dp 2 r a : EReal) := by
  unfold res_main_v164
  pointwise []
  exact v156_at A r 2 a

theorem v166_at (r : Fin 8192) (a : Fin 256) : res_main_v166 V0 (ix2 r a) = (I.dp 3 r a : EReal) := by
  unfold res_main_v166
  pointwise []
  exact v156_at A r 3 a

theorem win_at0 (r : Fin 8192) (a : Fin 256) :
    Host.reduceWindowAdd ![2, 1] ![1, 1] ![0, 0] ![0, 0]
      (pad S8193x256 ![0, 0] ![1, 0] ![0, 0] (Host.divf (res_main_v160 V0) (broadcastInDim S8192x256 ![0, 1] Gen.bcast_S8192x1_S8192x256_0_1 (res_main_v35 V0)))
        (constant S_ FTy.f32 0#32) Gen.pads_S8192x256_S8193x256_010_000 Gen.h_S_)
      (broadcastInDim S_ ![] Gen.bcast_S_S_ (constant S_ FTy.f32 0#32)) Gen.reduceWindows_S8193x256_S8192x256_w2s1p0_0_w1s1p0_0 Gen.h_S_ (ix2 r a)
    = ((∑ k ∈ Finset.range (wn 0), if 0 ≤ r.val + k ∧ r.val + k - 0 < 8192 + (wn 0 - 1) then ext (I.dq 0 a) (r.val + k - 0) else 0 : ℝ) : EReal) := by
  rw [win_at _ (fun c n => ext (I.dq 0 c) n) (fun i c => ?_) _ (fun i => ?_)]
  · rfl
  · pointwise []
    by_cases hlt : i.val < 8192
    · refine (dif_pos ((inside_iff i c).2 hlt)).trans ?_
      rw [v160_at A, v35_at, div_real _ _ (cnt_ne 0 _)]
      exact congrArg _ (ext_lt (I.dq 0 c) ⟨i.val, hlt⟩).symm
    · refine (dif_neg fun h => hlt ((inside_iff i c).1 h)).trans ?_
      rw [ext_ge (I.dq 0 c) i.val (by omega), EReal.coe_zero]
  · pointwise []

theorem win_at1 (r : Fin 8192) (a : Fin 256) :
    Host.reduceWindowAdd ![4, 1] ![1, 1] ![0, 0] ![0, 0]
      (pad S8195x256 ![0, 0] ![3, 0] ![0, 0] (Host.divf (res_main_v162 V0) (broadcastInDim S8192x256 ![0, 1] Gen.bcast_S8192x1_S8192x256_0_1 (res_main_v51 V0)))
        (constant S_ FTy.f32 0#32) Gen.pads_S8192x256_S8195x256_030_000 Gen.h_S_)
      (broadcastInDim S_ ![] Gen.bcast_S_S_ (constant S_ FTy.f32 0#32)) Gen.reduceWindows_S8195x256_S8192x256_w4s1p0_0_w1s1p0_0 Gen.h_S_ (ix2 r a)
    = ((∑ k ∈ Finset.range (wn 1), if 0 ≤ r.val + k ∧ r.val + k - 0 < 8192 + (wn 1 - 1) then ext (I.dq 1 a) (r.val + k - 0) else 0 : ℝ) : EReal) := by
  rw [win_at _ (fun c n => ext (I.dq 1 c) n) (fun i c => ?_) _ (fun i => ?_)]
  · rfl
  · pointwise []
    by_cases hlt : i.val < 8192
    · refine (dif_pos ((inside_iff i c).2 hlt)).trans ?_
      rw [v162_at A, v51_at, div_real _ _ (cnt_ne 1 _)]
      exact congrArg _ (ext_lt (I.dq 1 c) ⟨i.val, hlt⟩).symm
    · refine (dif_neg fun h => hlt ((inside_iff i c).1 h)).trans ?_
      rw [ext_ge (I.dq 1 c) i.val (by omega), EReal.coe_zero]
  · pointwise []

theorem win_at2 (r : Fin 8192) (a : Fin 256) :
    Host.reduceWindowAdd ![8, 1] ![1, 1] ![0, 0] ![0, 0]
      (pad S8199x256 ![0, 0] ![7, 0] ![0, 0] (Host.divf (res_main_v164 V0) (broadcastInDim S8192x256 ![0, 1] Gen.bcast_S8192x1_S8192x256_0_1 (res_main_v67 V0)))
        (constant S_ FTy.f32 0#32) Gen.pads_S8192x256_S8199x256_070_000 Gen.h_S_)
      (broadcastInDim S_ ![] Gen.bcast_S_S_ (constant S_ FTy.f32 0#32)) Gen.reduceWindows_S8199x256_S8192x256_w8s1p0_0_w1s1p0_0 Gen.h_S_ (ix2 r a)
    = ((∑ k ∈ Finset.range (wn 2), if 0 ≤ r.val + k ∧ r.val + k - 0 < 8192 + (wn 2 - 1) then ext (I.dq 2 a) (r.val + k - 0) else 0 : ℝ) : EReal) := by
  rw [win_at _ (fun c n => ext (I.dq 2 c) n) (fun i c => ?_) _ (fun i => ?_)]
  · rfl
  · pointwise []
    by_cases hlt : i.val < 8192
    · refine (dif_pos ((inside_iff i c).2 hlt)).trans ?_
      rw [v164_at A, v67_at, div_real _ _ (cnt_ne 2 _)]
      exact congrArg _ (ext_lt (I.dq 2 c) ⟨i.val, hlt⟩).symm
    · refine (dif_neg fun h => hlt ((inside_iff i c).1 h)).trans ?_
      rw [ext_ge (I.dq 2 c) i.val (by omega), EReal.coe_zero]
  · pointwise []

theorem win_at3 (r : Fin 8192) (a : Fin 256) :
    Host.reduceWindowAdd ![16, 1] ![1, 1] ![0, 0] ![0, 0]
      (pad S8207x256 ![0, 0] ![15, 0] ![0, 0] (Host.divf (res_main_v166 V0) (broadcastInDim S8192x256 ![0, 1] Gen.bcast_S8192x1_S8192x256_0_1 (res_main_v83 V0)))
        (constant S_ FTy.f32 0#32) Gen.pads_S8192x256_S8207x256_0150_000 Gen.h_S_)
      (broadcastInDim S_ ![] Gen.bcast_S_S_ (constant S_ FTy.f32 0#32)) Gen.reduceWindows_S8207x256_S8192x256_w16s1p0_0_w1s1p0_0 Gen.h_S_ (ix2 r a)
    = ((∑ k ∈ Finset.range (wn 3), if 0 ≤ r.val + k ∧ r.val + k - 0 < 8192 + (wn 3 - 1) then ext (I.dq 3 a) (r.val + k - 0) else 0 : ℝ) : EReal) := by
  rw [win_at _ (fun c n => ext (I.dq 3 c) n) (fun i c => ?_) _ (fun i => ?_)]
  · rfl
  · pointwise []
    by_cases hlt : i.val < 8192
    · refine (dif_pos ((inside_iff i c).2 hlt)).trans ?_
      rw [v166_at A, v83_at, div_real _ _ (cnt_ne 3 _)]
      exact congrArg _ (ext_lt (I.dq 3 c) ⟨i.val, hlt⟩).symm
    · refine (dif_neg fun h => hlt ((inside_iff i c).1 h)).trans ?_
      rw [ext_ge (I.dq 3 c) i.val (by omega), EReal.coe_zero]
  · pointwise []

theorem v214_at0 (r : Fin 8192) (a : Fin 256) : res_main_v214 V0 (ix2 r (col 0 a)) = (I.dhg 0 r a : EReal) := by
  have e1 : (a.val) / 256 = 0 := by omega
  have e2 : (a.val) % 256 = a.val := by omega
  refine Eq.trans ?_ (dhg_of I 0 r a)
  rw [← win_at0 A r a, ← v160_at A r a]
  unfold res_main_v214
  pointwise []
  simp [e1, e2]

theorem v214_at1 (r : Fin 8192) (a : Fin 256) : res_main_v214 V0 (ix2 r (col 1 a)) = (I.dhg 1 r a : EReal) := by
  have e1 : (256 + a.val) / 256 = 1 := by omega
  have e2 : (256 + a.val) % 256 = a.val := by omega
  refine Eq.trans ?_ (dhg_of I 1 r a)
  rw [← win_at1 A r a, ← v162_at A r a]
  unfold res_main_v214
  pointwise []
  simp [e1, e2]

theorem v214_at2 (r : Fin 8192) (a : Fin 256) : res_main_v214 V0 (ix2 r (col 2 a)) = (I.dhg 2 r a : EReal) := by
  have e1 : (512 + a.val) / 256 = 2 := by omega
  have e2 : (512 + a.val) % 256 = a.val := by omega
  refine Eq.trans ?_ (dhg_of I 2 r a)
  rw [← win_at2 A r a, ← v164_at A r a]
  unfold res_main_v214
  pointwise []
  simp [e1, e2]

theorem v214_at3 (r : Fin 8192) (a : Fin 256) : res_main_v214 V0 (ix2 r (col 3 a)) = (I.dhg 3 r a : EReal) := by
  have e1 : (768 + a.val) / 256 = 3 := by omega
  have e2 : (768 + a.val) % 256 = a.val := by omega
  refine Eq.trans ?_ (dhg_of I 3 r a)
  rw [← win_at3 A r a, ← v166_at A r a]
  unfold res_main_v214
  pointwise []
  simp [e1, e2]

theorem v214_at (r : Fin 8192) (l : Fin 1024) : res_main_v214 V0 (ix2 r l) = (I.dh r l : EReal) := by
  have h : ∀ (q : Fin 4) (a : Fin 256), res_main_v214 V0 (ix2 r (col q a)) = (I.dhg q r a : EReal) := fun q a => by
    match q with
    | 0 => exact v214_at0 A r a
    | 1 => exact v214_at1 A r a
    | 2 => exact v214_at2 A r a
    | 3 => exact v214_at3 A r a
  refine Eq.trans ?_ (h (grp l) (off l))
  rw [col_grp]

theorem v222_at (r : Fin 8192) (l : Fin 1024) : res_main_v222 V0 (ix2 r l) = ((I.dh r l * (1 + I.sc l) : ℝ) : EReal) := by
  unfold res_main_v222
  pointwise []
  rw [v214_at A, v18_at A, ← EReal.coe_mul]

theorem v228_at (r : Fin 8192) (l : Fin 1024) : res_main_v228 V0 (ix2 r l) = ((I.dh r l * (I.g l * (1 + I.sc l)) : ℝ) : EReal) := by
  unfold res_main_v228
  pointwise []
  rw [v222_at A, v13_at A, ← EReal.coe_mul]
  exact congrArg _ (by ring)

theorem v240_at (r : Fin 8192) (l : Fin 1024) : res_main_v240 V0 (ix2 r l)
    = (((∑ k, I.x r k * (I.dh r k * (I.g k * (1 + I.sc k)))) * (-(1 / 2) * (rinv (I.x r) / ms (I.x r))) / 1024 : ℝ) : EReal) := by
  unfold res_main_v240
  pointwise []
  simp only [Finset.univ_unique, Finset.sum_singleton, Fin.default_eq_zero, A.a0, v228_at A, v7_at A, v6_at A, ← EReal.coe_mul, coe_sum, ofBits_1024, ofBits_neg_half, div_1024, div_ms, Finset.univ_unique, Finset.sum_singleton, Fin.default_eq_zero]

theorem dx_at (r : Fin 8192) (l : Fin 1024) : val6 V0 (Proc.devRef .tc main_v244) (ix2 r l) = (I.dx r l : EReal) := by
  rw [val6_main_v244]
  pointwise []
  rw [A.a8, A.a0, v228_at A, v7_at A, v240_at A]
  simp only [← EReal.coe_mul, ← EReal.coe_add]
  refine congrArg _ ?_
  unfold In.dx
  rw [← vjp_eq_normBwd, ← add_assoc, ← add_assoc]

theorem dW_at (q : Fin 4) (a e : Fin 256) : val6 V0 (Proc.devRef .tc main_v158) (ix3 q a e) = (I.dW q a e : EReal) := by
  rw [val6_main_v158]
  pointwise []
  simp only [v154_at A, v93_at A, ← EReal.coe_mul, coe_sum]
  refine congrArg _ (Finset.sum_congr rfl fun i _ => ?_)
  ring

omit A in
theorem v245_at (l : Fin 1024) : res_main_v245 V0 (ix1 l) = (0 : EReal) := by
  unfold res_main_v245
  pointwise []

theorem pg_at (r : Fin 8) (l : Fin 1024) : val6 V0 (Proc.devRef .tc main_v254) (ix2 r l) = (I.pgs r l : EReal) := by
  rw [val6_main_v254]
  unfold In.pgs
  fin_cases r
  all_goals
    pointwise []
    try simp only [v12_at A, v15_at A, v222_at A, v214_at A, v113_at A, v122_at A, v120_at A, v116_at A, v96_at A, v145_at A, ← EReal.coe_mul, coe_sum, Finset.univ_unique, Finset.sum_singleton]
    try refine congrArg _ (Finset.sum_congr rfl fun i _ => ?_)
    simp [In.pgRow]
    first
      | done
      | ring
      | exact v245_at l

end Cert.PoolVal
-- ==== Proof.Pool.lean ====
module

public import proofs.«01_k».proof.Proof.PoolDx
public import proofs.«01_k».proof.Proof.PoolDg
public import proofs.«01_k».proof.Proof.PoolYp
public import proofs.«01_k».proof.Proof.PoolRefB
public import proofs.«01_k».proof.Proof.Gen.Pre_finite_pool

/-! The pooling mixer's sub-layer backward: the kernel's three results are the derivative's. -/

@[expose] public section

set_option maxRecDepth 16384

noncomputable section

namespace Cert.PoolVal

open Cert.PoolIdeal Cert.PoolIdeal.Gen Idealize.ShloMosaic Idealize.ShloMosaic.TcCoe Idealize.SL.Sem Cert.Reals

variable (m : (ℓ : Loc nD τ sig) → Buf (Elt Ideal) ℓ)

theorem finite_args (h : Pre_PoolIdeal_finite_pool m) (c : Dev nD) :
    (∀ i, m ((c : Thread nD τ).loc main_arg0) i = ((m ((c : Thread nD τ).loc main_arg0) i).toReal : EReal))
    ∧ (∀ i, m ((c : Thread nD τ).loc main_arg1) i = ((m ((c : Thread nD τ).loc main_arg1) i).toReal : EReal))
    ∧ (∀ i, m ((c : Thread nD τ).loc main_arg2) i = ((m ((c : Thread nD τ).loc main_arg2) i).toReal : EReal))
    ∧ (∀ i, m ((c : Thread nD τ).loc main_arg3) i = ((m ((c : Thread nD τ).loc main_arg3) i).toReal : EReal))
    ∧ (∀ i, m ((c : Thread nD τ).loc main_arg4) i = ((m ((c : Thread nD τ).loc main_arg4) i).toReal : EReal))
    ∧ (∀ i, m ((c : Thread nD τ).loc main_arg5) i = ((m ((c : Thread nD τ).loc main_arg5) i).toReal : EReal))
    ∧ (∀ i, m ((c : Thread nD τ).loc main_arg6) i = ((m ((c : Thread nD τ).loc main_arg6) i).toReal : EReal))
    ∧ (∀ i, m ((c : Thread nD τ).loc main_arg7) i = ((m ((c : Thread nD τ).loc main_arg7) i).toReal : EReal))
    ∧ (∀ i, m ((c : Thread nD τ).loc main_arg8) i = ((m ((c : Thread nD τ).loc main_arg8) i).toReal : EReal)) := by
  have h1 := congrFun (h c) (fun q => q.elim0)
  dsimp only [Cert.Pre_finite_pool.fn, Cert.Pre_finite_pool.fn_part1, Cert.Pre_finite_pool.fn_part2] at h1
  obtain ⟨h1, h18⟩ := IntOp.andi_eq_one.1 h1
  obtain ⟨h1, h17⟩ := IntOp.andi_eq_one.1 h1
  obtain ⟨h1, h16⟩ := IntOp.andi_eq_one.1 h1
  obtain ⟨h1, h15⟩ := IntOp.andi_eq_one.1 h1
  obtain ⟨h1, h14⟩ := IntOp.andi_eq_one.1 h1
  obtain ⟨h1, h13⟩ := IntOp.andi_eq_one.1 h1
  obtain ⟨h1, h12⟩ := IntOp.andi_eq_one.1 h1
  obtain ⟨h1, h11⟩ := IntOp.andi_eq_one.1 h1
  exact ⟨finite_of_all _ _ (fun _ => rfl) _ _ _ _ rfl h1, finite_of_all _ _ (fun _ => rfl) _ _ _ _ rfl h11, finite_of_all _ _ (fun _ => rfl) _ _ _ _ rfl h12, finite_of_all _ _ (fun _ => rfl) _ _ _ _ rfl h13, finite_of_all _ _ (fun _ => rfl) _ _ _ _ rfl h14, finite_of_all _ _ (fun _ => rfl) _ _ _ _ rfl h15, finite_of_all _ _ (fun _ => rfl) _ _ _ _ rfl h16, finite_of_all _ _ (fun _ => rfl) _ _ _ _ rfl h17, finite_of_all _ _ (fun _ => rfl) _ _ _ _ rfl h18⟩

/-- The arguments' real values. -/
def ins (c : Dev nD) : In where
  x r k := (m ((c : Thread nD τ).loc main_arg0) (ix2 r k)).toReal
  g k := (m ((c : Thread nD τ).loc main_arg1) (ix1 k)).toReal
  pg k := (m ((c : Thread nD τ).loc main_arg2) (ix1 k)).toReal
  sh k := (m ((c : Thread nD τ).loc main_arg3) (ix1 k)).toReal
  sc k := (m ((c : Thread nD τ).loc main_arg4) (ix1 k)).toReal
  gt k := (m ((c : Thread nD τ).loc main_arg5) (ix1 k)).toReal
  W q a e := (m ((c : Thread nD τ).loc main_arg6) (ix3 q a e)).toReal
  scl k := (m ((c : Thread nD τ).loc main_arg7) (ix1 k)).toReal
  ct r k := (m ((c : Thread nD τ).loc main_arg8) (ix2 r k)).toReal

end Cert.PoolVal

namespace Cert.Proof

open Idealize.ShloMosaic Idealize.ShloMosaic.TcCoe Idealize.ShloMosaic.StableHlo Idealize.SL.Sem Cert.Reals
open Cert.PoolRefIdeal.Value (val6_main_v244 val6_main_v254 val6_main_v158)

/-- The pooling sub-layer's gradient: the three results are the derivative's. -/
theorem algebraic_PoolIdeal_PoolRefIdeal_pre_finite_pool : Cert.algebraic_PoolIdeal_PoolRefIdeal_pre_finite_pool := by
  intro m ρ m' ρ' hpre hagree
  refine ⟨_, _, _, Cert.PoolIdeal.Value.run_blocks (F := Ideal) m ρ, ?_⟩
  refine (θ_run Cert.PoolRefIdeal.defs _ _).mono (fun _ h c => ⟨?_, ?_, ?_, (h c).2.2.2⟩) (Cert.PoolRefIdeal.Value.run (F := Ideal) m' ρ')
  all_goals
    obtain ⟨f0, f1, f2, f3, f4, f5, f6, f7, f8⟩ := Cert.PoolVal.finite_args m hpre c
    obtain ⟨a0, a1, a2, a3, a4, a5, a6, a7, a8⟩ := hagree c
    have A : Cert.PoolVal.Args (launchContents m' c) (Cert.PoolVal.ins m c) :=
      ⟨fun r k => (congrFun a0 _).trans (f0 (ix2 r k)), fun k => (congrFun a1 _).trans (f1 (ix1 k)), fun k => (congrFun a2 _).trans (f2 (ix1 k)),
        fun k => (congrFun a3 _).trans (f3 (ix1 k)), fun k => (congrFun a4 _).trans (f4 (ix1 k)), fun k => (congrFun a5 _).trans (f5 (ix1 k)),
        fun q a e => (congrFun a6 _).trans (f6 (ix3 q a e)), fun k => (congrFun a7 _).trans (f7 (ix1 k)), fun r k => (congrFun a8 _).trans (f8 (ix2 r k))⟩
    have K : Cert.PoolVal.Reads m c (Cert.PoolVal.ins m c) :=
      ⟨fun r k => f0 (ix2 r k), fun k => f1 (ix1 k), fun k => f2 (ix1 k), fun k => f3 (ix1 k), fun k => f4 (ix1 k), fun k => f5 (ix1 k),
        fun q a e => f6 (ix3 q a e), fun k => f7 (ix1 k), fun r k => f8 (ix2 r k),
        fun r k => (congrFun (Cert.PoolVal.ypre m c (launchContents m' c) a0 a1 a3 a4 a6) (ix2 r k)).trans (Cert.PoolVal.v96_at A r k)⟩
  · exact (h c).1.trans ((val6_main_v244 _).symm.trans (Cert.PoolVal.final7 K _ (Cert.PoolVal.dx_at A)).symm)
  · exact (h c).2.1.trans ((val6_main_v254 _).symm.trans (Cert.PoolVal.final8 K _ (Cert.PoolVal.pg_at A)).symm)
  · exact (h c).2.2.1.trans ((val6_main_v158 _).symm.trans (Cert.PoolVal.final9 K _ (Cert.PoolVal.dW_at A)).symm)

end Cert.Proof
-- ==== Proof.FfnFrame.lean ====
module

public import proofs.«01_k».proof.Proof.Gen.FfnIdeal.Frame
public import proofs.«01_k».proof.Proof.Gen.FfnIdeal.Skeleton
public import proofs.«01_k».proof.Proof.Gen.FfnIdeal.Points

/-! The feed-forward part's backward kernel at one grid point, whatever its buffers hold: it runs to the end, leaves its
inputs as they were and its outputs and scratches at something. -/

@[expose] public section

set_option maxRecDepth 16384

noncomputable section

namespace Cert.FfnVal

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- A buffer held at some contents. -/
abbrev held (c : Dev nD) {s : Shape} {e : EltTy} (b : Memref sig .tc .vmem s e) : sProp 𝕄 :=
  iprop(∃ d, owns (c : Thread nD τ) b fullShare d)

set_option maxHeartbeats 2000000 in
theorem body_any (c : Dev nD) (i : grid0.Coords)
    (a2 : Memref sig .tc .vmem S1024x1024 .bf16) (h2 : a2.IsWhole) (a3 : Memref sig .tc .vmem S1024x1024 .bf16) (h3 : a3.IsWhole)
    (a4 : Memref sig .tc .vmem S2x1x512x704 .bf16) (h4 : a4.IsWhole) (a5 : Memref sig .tc .vmem S2x1x512x704 .bf16) (h5 : a5.IsWhole)
    (a6 : Memref sig .tc .vmem S2x1x704x1024 .bf16) (h6 : a6.IsWhole) (a7 : Memref sig .tc .vmem S2x1x8x704 .f32) (h7 : a7.IsWhole)
    (a8 : Memref sig .tc .vmem S704x1024 .bf16) (h8 : a8.IsWhole) (a9 : Memref sig .tc .vmem S1x512x1024 .bf16) (h9 : a9.IsWhole)
    (a10 : Memref sig .tc .vmem S2x1x704x1024 .bf16) (h10 : a10.IsWhole) (a11 : Memref sig .tc .vmem S704x1024 .bf16) (h11 : a11.IsWhole)
    (a12 : Memref sig .tc .vmem S2x4x8x704 .f32) (h12 : a12.IsWhole) (a13 : Memref sig .tc .vmem S2x1024x704 .bf16) (h13 : a13.IsWhole)
    (a14 : Memref sig .tc .vmem S1024x704 .bf16) (h14 : a14.IsWhole) (a15 : Memref sig .tc .vmem S2x704x1024 .f32) (h15 : a15.IsWhole)
    (a16 : Memref sig .tc .vmem S704x1024 .f32) (h16 : a16.IsWhole) (a17 : Memref sig .tc .vmem S2x8x704 .f32) (h17 : a17.IsWhole)
    (x2 x3 : Vec F S1024x1024 .bf16) (x4 x5 : Vec F S2x1x512x704 .bf16) (x6 : Vec F S2x1x704x1024 .bf16)
    (x7 : Vec F S2x1x8x704 .f32) (x8 : Vec F S704x1024 .bf16) (E : Set ℕ) (K : PUnit → sProp 𝕄) :
    iprop(owns (c : Thread nD τ) a2 fullShare x2 ∗ owns (c : Thread nD τ) a3 fullShare x3 ∗ owns (c : Thread nD τ) a4 fullShare x4
        ∗ owns (c : Thread nD τ) a5 fullShare x5 ∗ owns (c : Thread nD τ) a6 fullShare x6 ∗ owns (c : Thread nD τ) a7 fullShare x7
        ∗ owns (c : Thread nD τ) a8 fullShare x8
        ∗ held c a9 ∗ held c a10 ∗ held c a11 ∗ held c a12 ∗ held c a13 ∗ held c a14 ∗ held c a15 ∗ held c a16 ∗ held c a17
        ∗ (iprop(owns (c : Thread nD τ) a2 fullShare x2 ∗ owns (c : Thread nD τ) a3 fullShare x3 ∗ owns (c : Thread nD τ) a4 fullShare x4
            ∗ owns (c : Thread nD τ) a5 fullShare x5 ∗ owns (c : Thread nD τ) a6 fullShare x6 ∗ owns (c : Thread nD τ) a7 fullShare x7
            ∗ owns (c : Thread nD τ) a8 fullShare x8
            ∗ held c a9 ∗ held c a10 ∗ held c a11 ∗ held c a12 ∗ held c a13 ∗ held c a14 ∗ held c a15 ∗ held c a16 ∗ held c a17)
          -∗ K ⟨⟩))
      ⊢ wp frame (wpE (defs₀ (F := F)) Variants.none c none) E
          (cc0_ffn_bwd i a2 h2 a3 h3 a4 h4 a5 h5 a6 h6 a7 h7 a8 h8 a9 h9 a10 h10 a11 h11 a12 h12 a13 h13 a14 h14 a15 h15 a16 h16 a17 h17) K := by
  simp only [cc0_ffn_bwd_eq_skeleton]; unfold cc0_ffn_bwd_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton]
  unfold held owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩,
    ⟨%d9, %f9, -, H9⟩, ⟨%d10, %f10, -, H10⟩, ⟨%d11, %f11, -, H11⟩, ⟨%d12, %f12, -, H12⟩, ⟨%d13, %f13, -, H13⟩,
    ⟨%d14, %f14, -, H14⟩, ⟨%d15, %f15, -, H15⟩, ⟨%d16, %f16, -, H16⟩, ⟨%d17, %f17, -, H17⟩, Hk⟩
  sl_exec
  sl_step
  iapply Hk
  isplitl [H2]
  · iexists _; isplitr; · ipureintro; exact e2
    iexact H2
  isplitl [H3]
  · iexists _; isplitr; · ipureintro; exact e3
    iexact H3
  isplitl [H4]
  · iexists _; isplitr; · ipureintro; exact e4
    iexact H4
  isplitl [H5]
  · iexists _; isplitr; · ipureintro; exact e5
    iexact H5
  isplitl [H6]
  · iexists _; isplitr; · ipureintro; exact e6
    iexact H6
  isplitl [H7]
  · iexists _; isplitr; · ipureintro; exact e7
    iexact H7
  isplitl [H8]
  · iexists _; isplitr; · ipureintro; exact e8
    iexact H8
  isplitl [H9]
  · iexists _, _; isplitr; swap
    · iexact H9
    ipureintro; rfl
  isplitl [H10]
  · iexists _, _; isplitr; swap
    · iexact H10
    ipureintro; rfl
  isplitl [H11]
  · iexists _, _; isplitr; swap
    · iexact H11
    ipureintro; rfl
  isplitl [H12]
  · iexists _, _; isplitr; swap
    · iexact H12
    ipureintro; rfl
  isplitl [H13]
  · iexists _, _; isplitr; swap
    · iexact H13
    ipureintro; rfl
  isplitl [H14]
  · iexists _, _; isplitr; swap
    · iexact H14
    ipureintro; rfl
  isplitl [H15]
  · iexists _, _; isplitr; swap
    · iexact H15
    ipureintro; rfl
  isplitl [H16]
  · iexists _, _; isplitr; swap
    · iexact H16
    ipureintro; rfl
  iexists _, _; isplitr; swap
  · iexact H17
  ipureintro; rfl

/-! ## The pipeline over its grid, the outputs' contents unnamed -/

variable (m : (ℓ : Loc nD τ sig) → Buf (Elt F) ℓ) (ρ : Dev nD → PrngReg)

/-- The four output windows, of which the frame names nothing. -/
def unsaid : Fin 11 → Bool := fun w => decide (7 ≤ w.val)

/-- An input window keeps its block; the scratches are at anything between points. -/
def fdat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨n + 7, h⟩ => Pipeline.Dat.unnamed (cfg := cfg0) ⟨n + 7, h⟩ t
  Φ _ := Pipeline.ΦA spec0 c
  q w := Pipeline.shareOf spec0 w
  owed _ := 0

/-- The scratches as buffers held at some contents. -/
theorem scratches (c : Dev nD) :
    (Pipeline.ΦA spec0 c : sProp 𝕄)
      = iprop(iprop(held c (Memref.whole cc0_scratch0 : Memref sig .tc .vmem S2x1024x704 .bf16)
          ∗ held c (Memref.whole cc0_scratch1 : Memref sig .tc .vmem S1024x704 .bf16)
          ∗ held c (Memref.whole cc0_scratch2 : Memref sig .tc .vmem S2x704x1024 .f32)
          ∗ held c (Memref.whole cc0_scratch3 : Memref sig .tc .vmem S704x1024 .f32)
          ∗ held c (Memref.whole cc0_scratch4 : Memref sig .tc .vmem S2x8x704 .f32)) ∗ (∃ r, prngReg c r)) := by
  unfold Pipeline.ΦA; rw [scopedRest0_eq]; simp only [held, owns_whole]; try rfl

theorem fbefore0 (c : Dev nD) (t : Fin cfg0.N) (d) : (fdat m c).before 0 t d = iblk m c 0 t :=
  before0_0_of m (fdat m c) (by dsimp only [fdat]) (fun t => by dsimp only [fdat]) t d
theorem fbefore1 (c : Dev nD) (t : Fin cfg0.N) (d) : (fdat m c).before 1 t d = iblk m c 1 t :=
  before0_1_of m (fdat m c) (by dsimp only [fdat]) (fun t => by dsimp only [fdat]) t d
theorem fbefore2 (c : Dev nD) (t : Fin cfg0.N) (d) : (fdat m c).before 2 t d = iblk m c 2 t :=
  before0_2_of m (fdat m c) (by dsimp only [fdat]) (fun t => by dsimp only [fdat]) t d
theorem fbefore3 (c : Dev nD) (t : Fin cfg0.N) (d) : (fdat m c).before 3 t d = iblk m c 3 t :=
  before0_3_of m (fdat m c) (by dsimp only [fdat]) (fun t => by dsimp only [fdat]) t d
theorem fbefore4 (c : Dev nD) (t : Fin cfg0.N) (d) : (fdat m c).before 4 t d = iblk m c 4 t :=
  before0_4_of m (fdat m c) (by dsimp only [fdat]) (fun t => by dsimp only [fdat]) t d
theorem fbefore5 (c : Dev nD) (t : Fin cfg0.N) (d) : (fdat m c).before 5 t d = iblk m c 5 t :=
  before0_5_of m (fdat m c) (by dsimp only [fdat]) (fun t => by dsimp only [fdat]) t d
theorem fbefore6 (c : Dev nD) (t : Fin cfg0.N) (d) : (fdat m c).before 6 t d = iblk m c 6 t :=
  before0_6_of m (fdat m c) (by dsimp only [fdat]) (fun t => by dsimp only [fdat]) t d

/-- What the body is handed at a point. -/
def given (c : Dev nD) (t : Fin cfg0.N) : sProp 𝕄 :=
  iprop((fdat m c).Φ t.castSucc ∗ (fdat m c).owesAt () t.castSucc
    ∗ (∃ d, owns (c : Thread nD τ) (st0_0 t) fullShare ((fdat m c).before 0 t d))
    ∗ (∃ d, owns (c : Thread nD τ) (st0_1 t) fullShare ((fdat m c).before 1 t d))
    ∗ (∃ d, owns (c : Thread nD τ) (st0_2 t) fullShare ((fdat m c).before 2 t d))
    ∗ (∃ d, owns (c : Thread nD τ) (st0_3 t) fullShare ((fdat m c).before 3 t d))
    ∗ (∃ d, owns (c : Thread nD τ) (st0_4 t) fullShare ((fdat m c).before 4 t d))
    ∗ (∃ d, owns (c : Thread nD τ) (st0_5 t) fullShare ((fdat m c).before 5 t d))
    ∗ (∃ d, owns (c : Thread nD τ) (st0_6 t) fullShare ((fdat m c).before 6 t d))
    ∗ (∃ d, owns (c : Thread nD τ) (st0_7 t) fullShare d)
    ∗ (∃ d, owns (c : Thread nD τ) (st0_8 t) fullShare d)
    ∗ (∃ d, owns (c : Thread nD τ) (st0_9 t) fullShare d)
    ∗ (∃ d, owns (c : Thread nD τ) (st0_10 t) fullShare d))

/-- What the body hands back at a point. -/
def left (c : Dev nD) (t : Fin cfg0.N) : sProp 𝕄 :=
  iprop((fdat m c).Φ t.succ ∗ (fdat m c).owesAt () t.succ
    ∗ (fdat m c).leavesExact 0 t
    ∗ (fdat m c).leavesExact 1 t
    ∗ (fdat m c).leavesExact 2 t
    ∗ (fdat m c).leavesExact 3 t
    ∗ (fdat m c).leavesExact 4 t
    ∗ (fdat m c).leavesExact 5 t
    ∗ (fdat m c).leavesExact 6 t
    ∗ (∃ d, owns (c : Thread nD τ) (st0_7 t) fullShare d)
    ∗ (∃ d, owns (c : Thread nD τ) (st0_8 t) fullShare d)
    ∗ (∃ d, owns (c : Thread nD τ) (st0_9 t) fullShare d)
    ∗ (∃ d, owns (c : Thread nD τ) (st0_10 t) fullShare d))

set_option maxHeartbeats 4000000 in
theorem point_any (c : Dev nD) (t : Fin cfg0.N) :
    given m c t ⊢ wp frame (wpE (defs₀ (F := F)) Variants.none c none) Set.univ (bodyAt0 t) (fun _ => left m c t) := by
  unfold given left bodyAt0
  simp only [fbefore0, fbefore1, fbefore2, fbefore3, fbefore4, fbefore5, fbefore6]
  rw [show (fdat m c).owesAt () t.succ = (fdat m c).owesAt () t.castSucc from rfl]
  rw [show (fdat m c).Φ t.castSucc = Pipeline.ΦA spec0 c from rfl, show (fdat m c).Φ t.succ = Pipeline.ΦA spec0 c from rfl, scratches]
  rw [show (fdat m c).leavesExact 0 t = owns (c : Thread nD τ) (st0_0 t) fullShare (iblk m c 0 t) from rfl]
  rw [show (fdat m c).leavesExact 1 t = owns (c : Thread nD τ) (st0_1 t) fullShare (iblk m c 1 t) from rfl]
  rw [show (fdat m c).leavesExact 2 t = owns (c : Thread nD τ) (st0_2 t) fullShare (iblk m c 2 t) from rfl]
  rw [show (fdat m c).leavesExact 3 t = owns (c : Thread nD τ) (st0_3 t) fullShare (iblk m c 3 t) from rfl]
  rw [show (fdat m c).leavesExact 4 t = owns (c : Thread nD τ) (st0_4 t) fullShare (iblk m c 4 t) from rfl]
  rw [show (fdat m c).leavesExact 5 t = owns (c : Thread nD τ) (st0_5 t) fullShare (iblk m c 5 t) from rfl]
  rw [show (fdat m c).leavesExact 6 t = owns (c : Thread nD τ) (st0_6 t) fullShare (iblk m c 6 t) from rfl]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, H7, H8, H9, H10⟩
  iapply (body_any c (grid0.coords t) _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, HS0, HS1, HS2, HS3, HS4⟩
  iframe

/-- The body's row of the pipeline's table is the kernel at the point's buffers. -/
theorem row (t : Fin cfg0.N) : defs₀ (F := F) .tc cfg0.body (cfg0.bodyArgs t (cfg0.slots t)) = bodyAt0 t := by
  unfold defs₀; rw [Defs.onTc_tc]

theorem obligation_any (c : Dev nD) :
    BodyObligation (fdat (F := F) m c) (defs₀ (F := F)) Variants.none () Set.univ unsaid := fun t => by
  rw [bigSep_W0, bigSep_W0, row]
  exact triple_restated (point_any m c t) rfl .rfl fun _ => .rfl

/-- The buffers the lines after the region write. -/
def written : Finset (Ref sig .tc) := {main_v42, main_cst_1, main_v43}

theorem written_all : ∀ ops ∈ ([hostOps1] : List (List (HloOp τ sig (Elt F)))), ∀ op ∈ ops, ∀ b : Ref sig .tc,
    Proc.devRef .tc b ∈ op.writes → b ∈ written := by
  intro ops hops op hop b hb
  simp only [List.mem_cons, List.mem_nil_iff, or_false] at hops
  subst hops
  simp only [hostOps1, List.mem_cons, List.mem_nil_iff, or_false] at hop
  rcases hop with rfl | rfl | rfl <;>
    (simp only [StableHlo.nullary_writes, StableHlo.unary_writes, StableHlo.binary_writes, Finset.mem_singleton] at hb
     have := Proc.devRef_injective _ hb
     subst this
     simp [written])

set_option backward.isDefEq.respectTransparency.types false in
theorem run_any : θ_run defs (onTc (τ := τ) (main (F := F))) (s₀ m ρ)
    (fun r => Pipeline.RDat.FramePostR (cfgs 0) (fun c => (fdat m c).toRForget unsaid) written (V m) r ∧ r.2.sem = fun _ => 0) :=
  Pipeline.θ_run_frame_around_T_track_forget (Q' := _) cfgs (fun _ => fdat m) (0 : Fin 1) launch0 defs₀ Variants.none unsaid written m ρ main
    (hbody := fun c => (obligation_any m c).loose) (hshare := fun _ w => by fin_cases w <;> rfl)
    (howed := fun _ _ => rfl) (V₀ := V0 m) (opss := [hostOps1]) (hsub := sfx_sub) (hfresh := sfx_fresh) (hkeep := sfx_keeps)
    (hT := written_all) (hmain := hmain m Variants.none) (hA := fun _ _ => by dsimp only [fdat])
    (hin := fun _ => .rfl) (hout := fun _ => .rfl)

/-- The program leaves its arguments as they were and every counter at zero. -/
theorem ffn_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    have k : ∀ b : Ref sig .tc, b ∈ Pipeline.restRefs sig spec0 → b ∉ written → r.2.mem ((c.tc : Thread nD τ).loc b) = V m c b :=
      fun b hb hw => (h.1 c).2 b (Finset.mem_sdiff.2 ⟨hb, hw⟩)
    ⟨(k main_arg0 (Pipeline.mem_restRefs_of main_arg0 (by decide) (by decide)) (by decide)).trans (V_main_arg0 m c),
     (k main_arg1 (Pipeline.mem_restRefs_of main_arg1 (by decide) (by decide)) (by decide)).trans (V_main_arg1 m c),
     (k main_arg2 (Pipeline.mem_restRefs_of main_arg2 (by decide) (by decide)) (by decide)).trans (V_main_arg2 m c),
     (k main_arg3 (Pipeline.mem_restRefs_of main_arg3 (by decide) (by decide)) (by decide)).trans (V_main_arg3 m c),
     (k main_arg4 (Pipeline.mem_restRefs_of main_arg4 (by decide) (by decide)) (by decide)).trans (V_main_arg4 m c)⟩, h.2⟩)
    (run_any m ρ)

end Cert.FfnVal

end
-- ==== Proof.FfnRun.lean ====
module

public import proofs.«01_k».proof.Proof.FfnFrame
public import proofs.«01_k».proof.Proof.Gen.FfnIdeal.Skeleton
public import proofs.«01_k».proof.Proof.Gen.FfnIdeal.Points

/-! The feed-forward part's backward kernel at one grid point, run once for the even points and once
for the odd ones: what each buffer it stores into ends with. -/

@[expose] public section

set_option maxRecDepth 16384

noncomputable section

namespace Cert.FfnVal

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- An even point's run. -/
def evenRun (c : Dev nD) (i : grid0.Coords) (hc3 : k0_cond3 i = 1#1) (hc4 : ¬ k0_cond4 i = 1#1) (hc5 : ¬ k0_cond5 i = 1#1)
    (a2 : Memref sig .tc .vmem S1024x1024 .bf16) (h2 : a2.IsWhole)
    (a3 : Memref sig .tc .vmem S1024x1024 .bf16) (h3 : a3.IsWhole)
    (a4 : Memref sig .tc .vmem S2x1x512x704 .bf16) (h4 : a4.IsWhole)
    (a5 : Memref sig .tc .vmem S2x1x512x704 .bf16) (h5 : a5.IsWhole)
    (a6 : Memref sig .tc .vmem S2x1x704x1024 .bf16) (h6 : a6.IsWhole)
    (a7 : Memref sig .tc .vmem S2x1x8x704 .f32) (h7 : a7.IsWhole)
    (a8 : Memref sig .tc .vmem S704x1024 .bf16) (h8 : a8.IsWhole)
    (a9 : Memref sig .tc .vmem S1x512x1024 .bf16) (h9 : a9.IsWhole)
    (a10 : Memref sig .tc .vmem S2x1x704x1024 .bf16) (h10 : a10.IsWhole)
    (a11 : Memref sig .tc .vmem S704x1024 .bf16) (h11 : a11.IsWhole)
    (a12 : Memref sig .tc .vmem S2x4x8x704 .f32) (h12 : a12.IsWhole)
    (a13 : Memref sig .tc .vmem S2x1024x704 .bf16) (h13 : a13.IsWhole)
    (a14 : Memref sig .tc .vmem S1024x704 .bf16) (h14 : a14.IsWhole)
    (a15 : Memref sig .tc .vmem S2x704x1024 .f32) (h15 : a15.IsWhole)
    (a16 : Memref sig .tc .vmem S704x1024 .f32) (h16 : a16.IsWhole)
    (a17 : Memref sig .tc .vmem S2x8x704 .f32) (h17 : a17.IsWhole)
    (x2 : Vec F S1024x1024 .bf16)    (x3 : Vec F S1024x1024 .bf16)    (x4 : Vec F S2x1x512x704 .bf16)    (x5 : Vec F S2x1x512x704 .bf16)    (x6 : Vec F S2x1x704x1024 .bf16)    (x7 : Vec F S2x1x8x704 .f32)    (x8 : Vec F S704x1024 .bf16)
    (z9 : Vec F S1x512x1024 .bf16)    (z10 : Vec F S2x1x704x1024 .bf16)    (z11 : Vec F S704x1024 .bf16)    (z12 : Vec F S2x4x8x704 .f32)    (z13 : Vec F S2x1024x704 .bf16)    (z14 : Vec F S1024x704 .bf16)    (z15 : Vec F S2x704x1024 .f32)    (z16 : Vec F S704x1024 .f32)    (z17 : Vec F S2x8x704 .f32) :
    Σ' (y9 : Vec F S1x512x1024 .bf16), Σ' (y12 : Vec F S2x4x8x704 .f32), Σ' (y13 : Vec F S2x1024x704 .bf16), Σ' (y14 : Vec F S1024x704 .bf16), Σ' (y15 : Vec F S2x704x1024 .f32), Σ' (y16 : Vec F S704x1024 .f32), { y17 : Vec F S2x8x704 .f32 //
      ∀ (E : Set ℕ) (K : PUnit → sProp 𝕄),
        iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8
            ∗ owns (c : Thread nD τ) a9 fullShare z9 ∗ owns (c : Thread nD τ) a10 fullShare z10 ∗ owns (c : Thread nD τ) a11 fullShare z11 ∗ owns (c : Thread nD τ) a12 fullShare z12 ∗ owns (c : Thread nD τ) a13 fullShare z13 ∗ owns (c : Thread nD τ) a14 fullShare z14 ∗ owns (c : Thread nD τ) a15 fullShare z15 ∗ owns (c : Thread nD τ) a16 fullShare z16 ∗ owns (c : Thread nD τ) a17 fullShare z17
            ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8
                ∗ owns (c : Thread nD τ) a9 fullShare y9 ∗ owns (c : Thread nD τ) a10 fullShare z10 ∗ owns (c : Thread nD τ) a11 fullShare z11 ∗ owns (c : Thread nD τ) a12 fullShare y12 ∗ owns (c : Thread nD τ) a13 fullShare y13 ∗ owns (c : Thread nD τ) a14 fullShare y14 ∗ owns (c : Thread nD τ) a15 fullShare y15 ∗ owns (c : Thread nD τ) a16 fullShare y16 ∗ owns (c : Thread nD τ) a17 fullShare y17) -∗ K ⟨⟩))
          ⊢ wp frame (wpE (defs₀ (F := F)) Variants.none c none) E (cc0_ffn_bwd i a2 h2 a3 h3 a4 h4 a5 h5 a6 h6 a7 h7 a8 h8 a9 h9 a10 h10 a11 h11 a12 h12 a13 h13 a14 h14 a15 h15 a16 h16 a17 h17) K } := by
  refine ⟨?_, ?_, ?_, ?_, ?_, ?_, ?_, fun E K => ?run⟩
  case run =>
    simp only [cc0_ffn_bwd_eq_skeleton]; unfold cc0_ffn_bwd_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton]
    unfold owns
    iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, Hk⟩
    obtain rfl := h2.eq_unread e2
    obtain rfl := h3.eq_unread e3
    obtain rfl := h4.eq_unread e4
    obtain rfl := h5.eq_unread e5
    obtain rfl := h6.eq_unread e6
    obtain rfl := h7.eq_unread e7
    obtain rfl := h8.eq_unread e8
    obtain rfl := h9.eq_unread e9
    obtain rfl := h10.eq_unread e10
    obtain rfl := h11.eq_unread e11
    obtain rfl := h12.eq_unread e12
    obtain rfl := h13.eq_unread e13
    obtain rfl := h14.eq_unread e14
    obtain rfl := h15.eq_unread e15
    obtain rfl := h16.eq_unread e16
    obtain rfl := h17.eq_unread e17
    sl_exec (disch := first | sl_exact hc3 | sl_exact hc4 | sl_exact hc5)
    sl_step
    iapply Hk
    isplitl [H2]
    · iexists _; isplitr; · ipureintro; exact e2
      iexact H2
    isplitl [H3]
    · iexists _; isplitr; · ipureintro; exact e3
      iexact H3
    isplitl [H4]
    · iexists _; isplitr; · ipureintro; exact e4
      iexact H4
    isplitl [H5]
    · iexists _; isplitr; · ipureintro; exact e5
      iexact H5
    isplitl [H6]
    · iexists _; isplitr; · ipureintro; exact e6
      iexact H6
    isplitl [H7]
    · iexists _; isplitr; · ipureintro; exact e7
      iexact H7
    isplitl [H8]
    · iexists _; isplitr; · ipureintro; exact e8
      iexact H8
    isplitl [H9]
    · iexists _; isplitr; swap
      · iexact H9
      ipureintro; rfl
    isplitl [H10]
    · iexists _; isplitr; · ipureintro; exact e10
      iexact H10
    isplitl [H11]
    · iexists _; isplitr; · ipureintro; exact e11
      iexact H11
    isplitl [H12]
    · iexists _; isplitr; swap
      · iexact H12
      ipureintro; rfl
    isplitl [H13]
    · iexists _; isplitr; swap
      · iexact H13
      ipureintro; rfl
    isplitl [H14]
    · iexists _; isplitr; swap
      · iexact H14
      ipureintro; rfl
    isplitl [H15]
    · iexists _; isplitr; swap
      · iexact H15
      ipureintro; rfl
    isplitl [H16]
    · iexists _; isplitr; swap
      · iexact H16
      ipureintro; rfl
    iexists _; isplitr; swap
    · iexact H17
    ipureintro; rfl

set_option maxHeartbeats 2000000 in
/-- An odd point's run. -/
def oddRun (c : Dev nD) (i : grid0.Coords) (hc1 : ¬ k0_cond1 i = 1#1) (hc2 : ¬ Scalar.cmpi .ne (Scalar.extui (Scalar.cmpi .eq (BitVec.ofNat 32 (i 1).val) 0#32)) 0#32 = 1#1) (hc3 : ¬ k0_cond3 i = 1#1) (hc4 : k0_cond4 i = 1#1)
    (a2 : Memref sig .tc .vmem S1024x1024 .bf16) (h2 : a2.IsWhole)
    (a3 : Memref sig .tc .vmem S1024x1024 .bf16) (h3 : a3.IsWhole)
    (a4 : Memref sig .tc .vmem S2x1x512x704 .bf16) (h4 : a4.IsWhole)
    (a5 : Memref sig .tc .vmem S2x1x512x704 .bf16) (h5 : a5.IsWhole)
    (a6 : Memref sig .tc .vmem S2x1x704x1024 .bf16) (h6 : a6.IsWhole)
    (a7 : Memref sig .tc .vmem S2x1x8x704 .f32) (h7 : a7.IsWhole)
    (a8 : Memref sig .tc .vmem S704x1024 .bf16) (h8 : a8.IsWhole)
    (a9 : Memref sig .tc .vmem S1x512x1024 .bf16) (h9 : a9.IsWhole)
    (a10 : Memref sig .tc .vmem S2x1x704x1024 .bf16) (h10 : a10.IsWhole)
    (a11 : Memref sig .tc .vmem S704x1024 .bf16) (h11 : a11.IsWhole)
    (a12 : Memref sig .tc .vmem S2x4x8x704 .f32) (h12 : a12.IsWhole)
    (a13 : Memref sig .tc .vmem S2x1024x704 .bf16) (h13 : a13.IsWhole)
    (a14 : Memref sig .tc .vmem S1024x704 .bf16) (h14 : a14.IsWhole)
    (a15 : Memref sig .tc .vmem S2x704x1024 .f32) (h15 : a15.IsWhole)
    (a16 : Memref sig .tc .vmem S704x1024 .f32) (h16 : a16.IsWhole)
    (a17 : Memref sig .tc .vmem S2x8x704 .f32) (h17 : a17.IsWhole)
    (x2 : Vec F S1024x1024 .bf16)    (x3 : Vec F S1024x1024 .bf16)    (x4 : Vec F S2x1x512x704 .bf16)    (x5 : Vec F S2x1x512x704 .bf16)    (x6 : Vec F S2x1x704x1024 .bf16)    (x7 : Vec F S2x1x8x704 .f32)    (x8 : Vec F S704x1024 .bf16)
    (z9 : Vec F S1x512x1024 .bf16)    (z10 : Vec F S2x1x704x1024 .bf16)    (z11 : Vec F S704x1024 .bf16)    (z12 : Vec F S2x4x8x704 .f32)    (z13 : Vec F S2x1024x704 .bf16)    (z14 : Vec F S1024x704 .bf16)    (z15 : Vec F S2x704x1024 .f32)    (z16 : Vec F S704x1024 .f32)    (z17 : Vec F S2x8x704 .f32) :
    Σ' (y9 : Vec F S1x512x1024 .bf16), Σ' (y10 : Vec F S2x1x704x1024 .bf16), Σ' (y11 : Vec F S704x1024 .bf16), Σ' (y12 : Vec F S2x4x8x704 .f32), Σ' (y13 : Vec F S2x1024x704 .bf16), Σ' (y14 : Vec F S1024x704 .bf16), Σ' (y15 : Vec F S2x704x1024 .f32), Σ' (y16 : Vec F S704x1024 .f32), { y17 : Vec F S2x8x704 .f32 //
      ∀ (E : Set ℕ) (K : PUnit → sProp 𝕄),
        iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8
            ∗ owns (c : Thread nD τ) a9 fullShare z9 ∗ owns (c : Thread nD τ) a10 fullShare z10 ∗ owns (c : Thread nD τ) a11 fullShare z11 ∗ owns (c : Thread nD τ) a12 fullShare z12 ∗ owns (c : Thread nD τ) a13 fullShare z13 ∗ owns (c : Thread nD τ) a14 fullShare z14 ∗ owns (c : Thread nD τ) a15 fullShare z15 ∗ owns (c : Thread nD τ) a16 fullShare z16 ∗ owns (c : Thread nD τ) a17 fullShare z17
            ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8
                ∗ owns (c : Thread nD τ) a9 fullShare y9 ∗ owns (c : Thread nD τ) a10 fullShare y10 ∗ owns (c : Thread nD τ) a11 fullShare y11 ∗ owns (c : Thread nD τ) a12 fullShare y12 ∗ owns (c : Thread nD τ) a13 fullShare y13 ∗ owns (c : Thread nD τ) a14 fullShare y14 ∗ owns (c : Thread nD τ) a15 fullShare y15 ∗ owns (c : Thread nD τ) a16 fullShare y16 ∗ owns (c : Thread nD τ) a17 fullShare y17) -∗ K ⟨⟩))
          ⊢ wp frame (wpE (defs₀ (F := F)) Variants.none c none) E (cc0_ffn_bwd i a2 h2 a3 h3 a4 h4 a5 h5 a6 h6 a7 h7 a8 h8 a9 h9 a10 h10 a11 h11 a12 h12 a13 h13 a14 h14 a15 h15 a16 h16 a17 h17) K } := by
  refine ⟨?_, ?_, ?_, ?_, ?_, ?_, ?_, ?_, ?_, fun E K => ?run⟩
  case run =>
    simp only [cc0_ffn_bwd_eq_skeleton]; unfold cc0_ffn_bwd_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton]
    unfold owns
    iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, Hk⟩
    obtain rfl := h2.eq_unread e2
    obtain rfl := h3.eq_unread e3
    obtain rfl := h4.eq_unread e4
    obtain rfl := h5.eq_unread e5
    obtain rfl := h6.eq_unread e6
    obtain rfl := h7.eq_unread e7
    obtain rfl := h8.eq_unread e8
    obtain rfl := h9.eq_unread e9
    obtain rfl := h10.eq_unread e10
    obtain rfl := h11.eq_unread e11
    obtain rfl := h12.eq_unread e12
    obtain rfl := h13.eq_unread e13
    obtain rfl := h14.eq_unread e14
    obtain rfl := h15.eq_unread e15
    obtain rfl := h16.eq_unread e16
    obtain rfl := h17.eq_unread e17
    sl_exec (disch := first | sl_exact hc1 | sl_exact hc2 | sl_exact hc3 | sl_exact hc4)
    sl_step
    iapply Hk
    isplitl [H2]
    · iexists _; isplitr; · ipureintro; exact e2
      iexact H2
    isplitl [H3]
    · iexists _; isplitr; · ipureintro; exact e3
      iexact H3
    isplitl [H4]
    · iexists _; isplitr; · ipureintro; exact e4
      iexact H4
    isplitl [H5]
    · iexists _; isplitr; · ipureintro; exact e5
      iexact H5
    isplitl [H6]
    · iexists _; isplitr; · ipureintro; exact e6
      iexact H6
    isplitl [H7]
    · iexists _; isplitr; · ipureintro; exact e7
      iexact H7
    isplitl [H8]
    · iexists _; isplitr; · ipureintro; exact e8
      iexact H8
    isplitl [H9]
    · iexists _; isplitr; swap
      · iexact H9
      ipureintro; rfl
    isplitl [H10]
    · iexists _; isplitr; swap
      · iexact H10
      ipureintro; rfl
    isplitl [H11]
    · iexists _; isplitr; swap
      · iexact H11
      ipureintro; rfl
    isplitl [H12]
    · iexists _; isplitr; swap
      · iexact H12
      ipureintro; rfl
    isplitl [H13]
    · iexists _; isplitr; swap
      · iexact H13
      ipureintro; rfl
    isplitl [H14]
    · iexists _; isplitr; swap
      · iexact H14
      ipureintro; rfl
    isplitl [H15]
    · iexists _; isplitr; swap
      · iexact H15
      ipureintro; rfl
    isplitl [H16]
    · iexists _; isplitr; swap
      · iexact H16
      ipureintro; rfl
    iexists _; isplitr; swap
    · iexact H17
    ipureintro; rfl

end Cert.FfnVal

end
-- ==== Proof.FfnSpec.lean ====
module

public import proofs.«01_k».proof.Proof.Reals

/-! The gated feed-forward part over the reals: its forward values and the gradients both programs compute. -/

@[expose] public section

noncomputable section

namespace Cert.FfnVal

open Idealize.ShloMosaic Cert.Reals

/-- The part's real inputs: the normed rows, the two projections, the three taps of the convolution, the cotangent. -/
structure In where
  h : Fin 8192 → Fin 1024 → ℝ
  up : Fin 1024 → Fin 5632 → ℝ
  dw : Fin 3 → Fin 5632 → ℝ
  dn : Fin 2816 → Fin 1024 → ℝ
  ct : Fin 8192 → Fin 1024 → ℝ

/-- The gate's (`0`) or the value's (`1`) column of a hidden unit. -/
abbrev col (s : Fin 2) (q : Fin 2816) : Fin 5632 := ⟨s.val * 2816 + q.val, by omega⟩

/-- A hidden unit by its chunk and its place there. -/
abbrev ch (j : Fin 4) (f : Fin 704) : Fin 2816 := ⟨j.val * 704 + f.val, by omega⟩

/-- A column's values at every row number, zero past the last row. -/
def ext (f : Fin 8192 → ℝ) (n : ℕ) : ℝ := if h : n < 8192 then f ⟨n, h⟩ else 0

theorem ext_lt (f : Fin 8192 → ℝ) (r : Fin 8192) : ext f r.val = f r := dif_pos r.isLt

theorem ext_ge (f : Fin 8192 → ℝ) (n : ℕ) (h : 8192 ≤ n) : ext f n = 0 := dif_neg (by omega)

/-- A column's value `n` rows earlier, zero before the first row. -/
def prev (f : Fin 8192 → ℝ) (n : ℕ) (t : Fin 8192) : ℝ := if n ≤ t.val then f ⟨t.val - n, by omega⟩ else 0

/-- The logistic function, and its product's derivative. -/
def sgm (x : ℝ) : ℝ := 1 / (1 + Real.exp (-x))

def silu' (x : ℝ) : ℝ := sgm x * (1 + x * (1 - sgm x))

namespace In

variable (I : In)

def a (t : Fin 8192) (p : Fin 5632) : ℝ := ∑ e, I.h t e * I.up e p

def cv (t : Fin 8192) (p : Fin 5632) : ℝ :=
  prev (fun t => I.a t p) 2 t * I.dw 0 p + prev (fun t => I.a t p) 1 t * I.dw 1 p + I.a t p * I.dw 2 p

def g (t : Fin 8192) (q : Fin 2816) : ℝ := I.cv t (col 0 q)

def v (t : Fin 8192) (q : Fin 2816) : ℝ := I.cv t (col 1 q)

def u (t : Fin 8192) (q : Fin 2816) : ℝ := I.g t q * sgm (I.g t q) * I.v t q

def du (t : Fin 8192) (q : Fin 2816) : ℝ := ∑ e, I.ct t e * I.dn q e

/-- The cotangent of the convolution's output. -/
def d2 (s : Fin 2) (t : Fin 8192) (q : Fin 2816) : ℝ :=
  if s = 0 then I.du t q * I.v t q * silu' (I.g t q) else I.du t q * (I.g t q * sgm (I.g t q))

/-- The same at every row number, zero past the last row. -/
def d2x (s : Fin 2) (q : Fin 2816) (n : ℕ) : ℝ := ext (fun t => I.d2 s t q) n

/-- The cotangent of the convolution's input. -/
def da (s : Fin 2) (t : Fin 8192) (q : Fin 2816) : ℝ :=
  I.dw 2 (col s q) * I.d2x s q t.val + I.dw 1 (col s q) * I.d2x s q (t.val + 1) + I.dw 0 (col s q) * I.d2x s q (t.val + 2)

/-- The part of the rows' gradient that comes from one chunk of the hidden units. -/
def dhj (j : Fin 4) (t : Fin 8192) (e : Fin 1024) : ℝ :=
  (∑ f, I.da 0 t (ch j f) * I.up e (col 0 (ch j f))) + ∑ f, I.da 1 t (ch j f) * I.up e (col 1 (ch j f))

def gup (s : Fin 2) (q : Fin 2816) (e : Fin 1024) : ℝ := ∑ t, I.da s t q * I.h t e

def gdn (q : Fin 2816) (e : Fin 1024) : ℝ := ∑ t, I.u t q * I.ct t e

def gdw (s : Fin 2) (k : Fin 3) (q : Fin 2816) : ℝ := ∑ t : Fin 8192, I.a t (col s q) * I.d2x s q (t.val + (2 - k.val))

end In

end Cert.FfnVal

end
-- ==== Proof.FfnPay.lean ====
module

public import proofs.«01_k».proof.Proof.Gen.FfnIdeal.Skeleton
public import proofs.«01_k».proof.Proof.FfnSpec
public import Idealize.ShloMosaic.Lib.Pointwise
public import Idealize.ShloMosaic.Lib.WordCmp

/-! What the feed-forward kernel's vector expressions hold, element by element, where their operands are real. -/

@[expose] public section

set_option maxRecDepth 16384

noncomputable section

namespace Cert.FfnVal

open Cert.FfnIdeal Cert.FfnIdeal.Gen Idealize.ShloMosaic Idealize.ShloMosaic.TcCoe Idealize.SL.Sem Cert.Reals

/-- A tap's place in its eight rows. -/
abbrev tap (k : Fin 3) : Fin 8 := ⟨k.val, by omega⟩

/-- A block's column `n` rows later, continued by the rows carried from the block after. -/
def sh (D : Fin 512 → Fin 704 → ℝ) (C : Fin 8 → Fin 704 → ℝ) (n : Fin 8) (r : Fin 512) (f : Fin 704) : ℝ :=
  if h : r.val + n.val < 512 then D ⟨r.val + n.val, h⟩ f else C ⟨r.val + n.val - 512, by omega⟩ f

/-- A choice by an equation between row numbers. -/
theorem select_row (r : Fin 512) (n : ℕ) (hn : n < 512) (x y : EReal) :
    Scalar.select (IntOp.cmpi CmpIPredicate.eq (BitVec.ofNat 32 r.val) (BitVec.ofNat 32 n)) x y = if r.val = n then x else y := by
  have e : (BitVec.ofNat 32 r.val = BitVec.ofNat 32 n) ↔ r.val = n := by
    rw [← BitVec.toNat_inj, BitVec.toNat_ofNat, BitVec.toNat_ofNat]
    omega
  unfold Scalar.select
  rw [WordCmp.cmpi_eq_eq]
  by_cases h : r.val = n <;> simp [e, h]

theorem one_add_exp_ne (x : ℝ) : 1 + Real.exp (-x) ≠ 0 := by positivity

theorem sgm_real (x : ℝ) : Ideal.div 1 (1 + Ideal.exp (0 - (x : EReal))) = ((sgm x : ℝ) : EReal) := by
  rw [zero_sub, ← EReal.coe_neg, Ideal.exp_coe, ← EReal.coe_one, ← EReal.coe_add, div_real _ _ (one_add_exp_ne x)]
  rfl

section
variable (v37 : Vec Ideal S512x1024 .bf16) (v39 : Vec Ideal S704x1024 .bf16) (v42 v45 : Vec Ideal S1x1x512x704 .bf16)
  (X : Fin 512 → Fin 1024 → ℝ) (W : Fin 704 → Fin 1024 → ℝ) (G V : Fin 512 → Fin 704 → ℝ)
  (h37 : ∀ r e, v37 (ix2 r e) = (X r e : EReal)) (h39 : ∀ f e, v39 (ix2 f e) = (W f e : EReal))
  (h42 : ∀ r f, v42 (ix4 0 0 r f) = (G r f : EReal)) (h45 : ∀ r f, v45 (ix4 0 0 r f) = (V r f : EReal))

include h37 h39 in
theorem pay5_at (r : Fin 512) (f : Fin 704) : k0_pay5 (F := Ideal) v37 v39 (ix2 r f) = ((∑ e, X r e * W f e : ℝ) : EReal) := by
  pointwise [k0_pay5]
  simp only [h37, h39, ← EReal.coe_mul, coe_sum]

include h42 in
theorem pay8_at (r : Fin 512) (f : Fin 704) : k0_pay8 (F := Ideal) v42 (ix2 r f) = ((sgm (G r f) : ℝ) : EReal) := by
  pointwise [k0_pay8, k0_pay6]
  simp only [h42, ofBits_one]
  exact sgm_real _

include h42 in
theorem pay9_at (r : Fin 512) (f : Fin 704) : k0_pay9 (F := Ideal) v42 (ix2 r f) = ((G r f * sgm (G r f) : ℝ) : EReal) := by
  have e := pay8_at v42 G h42 r f
  pointwise [k0_pay9, k0_pay6]
  rw [e, h42, ← EReal.coe_mul]

include h42 h45 in
theorem pay10_at (r : Fin 512) (f : Fin 704) : k0_pay10 (F := Ideal) v42 v45 (ix2 r f) = ((G r f * sgm (G r f) * V r f : ℝ) : EReal) := by
  have e := pay9_at v42 G h42 r f
  pointwise [k0_pay10, k0_pay7]
  rw [e, h45, ← EReal.coe_mul]

include h37 h39 h42 h45 in
theorem pay11_at (r : Fin 512) (f : Fin 704) : k0_pay11 (F := Ideal) v37 v39 v42 v45 (ix2 r f)
    = (((∑ e, X r e * W f e) * V r f * silu' (G r f) : ℝ) : EReal) := by
  have e := pay8_at v42 G h42 r f
  have e' := pay5_at v37 v39 X W h37 h39 r f
  pointwise [k0_pay11, k0_pay7, k0_pay6]
  rw [e, e', h45, h42]
  simp only [ofBits_one, ← EReal.coe_one, ← EReal.coe_sub, ← EReal.coe_mul, ← EReal.coe_add]
  rfl

include h37 h39 h42 in
theorem pay12_at (r : Fin 512) (f : Fin 704) : k0_pay12 (F := Ideal) v37 v39 v42 (ix2 r f)
    = (((∑ e, X r e * W f e) * (G r f * sgm (G r f)) : ℝ) : EReal) := by
  have e := pay9_at v42 G h42 r f
  have e' := pay5_at v37 v39 X W h37 h39 r f
  pointwise [k0_pay12]
  rw [e, e', ← EReal.coe_mul]

end

section
variable (v68 : FVec Ideal S512x704 .f32) (v70 : Vec Ideal S1x1x8x704 .f32) (v72 : Vec Ideal S1x8x704 .f32) (v115 : Vec Ideal S1x1x512x704 .bf16)
  (D : Fin 512 → Fin 704 → ℝ) (C : Fin 8 → Fin 704 → ℝ) (T : Fin 3 → Fin 704 → ℝ) (A : Fin 512 → Fin 704 → ℝ)
  (h68 : ∀ r f, v68 (ix2 r f) = (D r f : EReal)) (h72 : ∀ r f, v72 (ix3 0 r f) = (C r f : EReal))
  (h70 : ∀ (k : Fin 3) f, v70 (ix4 0 0 (tap k) f) = (T k f : EReal)) (h115 : ∀ r f, v115 (ix4 0 0 r f) = (A r f : EReal))

theorem rot1 (r : Fin 512) (f : Fin 704) (h : ¬ r.val = 511) (hb : (r.val + 512 - 511) % 512 < 512) : D ⟨(r.val + 512 - 511) % 512, hb⟩ f = sh D C 1 r f := by
  unfold sh
  rw [dif_pos (show r.val + (1 : Fin 8).val < 512 by show r.val + 1 < 512; omega)]
  exact congrFun (congrArg D (Fin.ext (by show (r.val + 512 - 511) % 512 = r.val + 1; omega))) f

theorem rot2 (r : Fin 512) (f : Fin 704) (h : ¬ r.val = 511) (h' : ¬ r.val = 510) (hb : (r.val + 512 - 510) % 512 < 512) :
    D ⟨(r.val + 512 - 510) % 512, hb⟩ f = sh D C 2 r f := by
  unfold sh
  rw [dif_pos (show r.val + (2 : Fin 8).val < 512 by show r.val + 2 < 512; omega)]
  exact congrFun (congrArg D (Fin.ext (by show (r.val + 512 - 510) % 512 = r.val + 2; omega))) f

theorem rotC (r : Fin 512) (f : Fin 704) (n o : Fin 8) (h : r.val + n.val = 512 + o.val) : C o f = sh D C n r f := by
  unfold sh
  rw [dif_neg (show ¬ r.val + n.val < 512 by omega)]
  exact congrFun (congrArg C (Fin.ext (by show o.val = r.val + n.val - 512; omega))) f

include h68 h72 in
theorem pay15_at (r : Fin 512) (f : Fin 704) : k0_pay15 (F := Ideal) v68 v72 (ix2 r f) = ((sh D C 1 r f : ℝ) : EReal) := by
  pointwise [k0_pay15, k0_pay14]
  refine (select_row r 511 (by omega) _ _).trans ?_
  split_ifs with h
  · exact (h72 0 f).trans (congrArg _ (rotC D C r f 1 0 (by show r.val + 1 = 512 + 0; omega)))
  · exact (h68 _ f).trans (congrArg _ (rot1 D C r f h _))

include h68 h72 in
theorem pay16_at (r : Fin 512) (f : Fin 704) : k0_pay16 (F := Ideal) v68 v72 (ix2 r f) = ((sh D C 2 r f : ℝ) : EReal) := by
  pointwise [k0_pay16, k0_pay14]
  refine (select_row r 511 (by omega) _ _).trans ?_
  split_ifs with h
  · exact (h72 1 f).trans (congrArg _ (rotC D C r f 2 1 (by show r.val + 2 = 512 + 1; omega)))
  · refine (select_row r 510 (by omega) _ _).trans ?_
    split_ifs with h'
    · exact (h72 0 f).trans (congrArg _ (rotC D C r f 2 0 (by show r.val + 2 = 512 + 0; omega)))
    · exact (h68 _ f).trans (congrArg _ (rot2 D C r f h h' _))

include h68 in
theorem pay17_at (r : Fin 8) (f : Fin 704) : k0_pay17 (F := Ideal) v68 (ix3 0 r f) = ((D ⟨r.val, by omega⟩ f : ℝ) : EReal) := by
  pointwise [k0_pay17]
  exact h68 _ f

/-- The convolution's input cotangent on a block, from its output's cotangent and the rows carried. -/
def conv (T : Fin 3 → Fin 704 → ℝ) (D : Fin 512 → Fin 704 → ℝ) (C : Fin 8 → Fin 704 → ℝ) (r : Fin 512) (f : Fin 704) : ℝ :=
  T 2 f * D r f + T 1 f * sh D C 1 r f + T 0 f * sh D C 2 r f

include h68 h72 h70 in
theorem pay18_at (r : Fin 512) (f : Fin 704) : k0_pay18 (F := Ideal) v68 (k0_pay13 v70) v72 (ix2 r f) = ((conv T D C r f : ℝ) : EReal) := by
  have e1 := pay15_at v68 v72 D C h68 h72 r f
  have e2 := pay16_at v68 v72 D C h68 h72 r f
  pointwise [k0_pay18, k0_pay13]
  rw [e1, e2, h68]
  have t0 := h70 0 f; have t1 := h70 1 f; have t2 := h70 2 f
  refine (congr (congrArg HAdd.hAdd (congr (congrArg HAdd.hAdd (congrArg (· * _) t2)) (congrArg (· * _) t1))) (congrArg (· * _) t0)).trans ?_
  simp only [← EReal.coe_mul, ← EReal.coe_add]
  rfl

include h68 h72 h70 in
theorem pay19_at (r : Fin 512) (f : Fin 704) : k0_pay19 (F := Ideal) v68 (k0_pay13 v70) v72 (ix3 0 r f) = ((conv T D C r f : ℝ) : EReal) := by
  have e := pay18_at v68 v70 v72 D C T h68 h72 h70 r f
  pointwise [k0_pay19]
  exact e

include h68 h115 in
theorem pay21_at (z : Vec Ideal S1x1x1x704 .f32) (f : Fin 704) :
    k0_pay21 (F := Ideal) v68 v115 z (ix4 0 0 0 f) = z (ix4 0 0 0 f) + ((∑ r, A r f * D r f : ℝ) : EReal) := by
  pointwise [k0_pay21, k0_pay20]
  simp only [h68, h115, ← EReal.coe_mul, coe_sum]

include h68 h72 in
theorem pay26_at (r : Fin 512) (f : Fin 704) : k0_pay26 (F := Ideal) v68 v72 (ix2 r f) = ((sh D C 1 r f : ℝ) : EReal) :=
  pay15_at v68 v72 D C h68 h72 r f

include h68 h72 in
theorem pay27_at (r : Fin 512) (f : Fin 704) : k0_pay27 (F := Ideal) v68 v72 (ix2 r f) = ((sh D C 2 r f : ℝ) : EReal) :=
  pay16_at v68 v72 D C h68 h72 r f

theorem pay22_eq : k0_pay22 (F := Ideal) = k0_pay21 := rfl

theorem pay24_eq (z : Vec Ideal S1x1x1x704 .f32) : k0_pay24 (F := Ideal) (k0_pay23 v68 v115 z) = k0_pay21 v68 v115 z := rfl

theorem pay33_eq : k0_pay33 (F := Ideal) = k0_pay21 := rfl

theorem pay34_eq : k0_pay34 (F := Ideal) = k0_pay21 := rfl

theorem pay77_eq (z : Vec Ideal S1x1x1x704 .f32) : k0_pay77 (F := Ideal) (k0_pay35 z) (k0_pay36 v68 v115) = k0_pay21 v68 v115 z := rfl

theorem pay28_eq : k0_pay28 (F := Ideal) = k0_pay17 := rfl

theorem pay30_eq : k0_pay30 (F := Ideal) (k0_pay29 v68 v70 v72) = k0_pay18 v68 (k0_pay13 v70) v72 := rfl

theorem pay31_eq : k0_pay31 (F := Ideal) (k0_pay29 v68 v70 v72) = k0_pay19 v68 (k0_pay13 v70) v72 := rfl

end

/-! The odd points' expressions are the even points'. -/

theorem pay42_eq : k0_pay42 (F := Ideal) = k0_pay10 := rfl
theorem pay43_eq : k0_pay43 (F := Ideal) = k0_pay11 := rfl
theorem pay44_eq : k0_pay44 (F := Ideal) = k0_pay12 := rfl
theorem pay45_eq : k0_pay45 (F := Ideal) = k0_pay13 := rfl
theorem pay47_eq : k0_pay47 (F := Ideal) = k0_pay15 := rfl
theorem pay48_eq : k0_pay48 (F := Ideal) = k0_pay16 := rfl
theorem pay49_eq : k0_pay49 (F := Ideal) = k0_pay17 := rfl
theorem pay50_eq : k0_pay50 (F := Ideal) = k0_pay18 := rfl
theorem pay51_eq : k0_pay51 (F := Ideal) = k0_pay19 := rfl
theorem pay53_eq : k0_pay53 (F := Ideal) = k0_pay21 := rfl
theorem pay54_eq : k0_pay54 (F := Ideal) = k0_pay22 := rfl
theorem pay55_eq : k0_pay55 (F := Ideal) = k0_pay23 := rfl
theorem pay56_eq : k0_pay56 (F := Ideal) = k0_pay24 := rfl
theorem pay58_eq : k0_pay58 (F := Ideal) = k0_pay26 := rfl
theorem pay59_eq : k0_pay59 (F := Ideal) = k0_pay27 := rfl
theorem pay60_eq : k0_pay60 (F := Ideal) = k0_pay28 := rfl
theorem pay61_eq : k0_pay61 (F := Ideal) = k0_pay29 := rfl
theorem pay62_eq : k0_pay62 (F := Ideal) = k0_pay30 := rfl
theorem pay63_eq : k0_pay63 (F := Ideal) = k0_pay31 := rfl
theorem pay65_eq : k0_pay65 (F := Ideal) = k0_pay33 := rfl
theorem pay66_eq : k0_pay66 (F := Ideal) = k0_pay34 := rfl
theorem pay67_eq : k0_pay67 (F := Ideal) = k0_pay35 := rfl
theorem pay68_eq : k0_pay68 (F := Ideal) = k0_pay36 := rfl
theorem pay69_eq : k0_pay69 (F := Ideal) = k0_pay77 := rfl
theorem pay70_eq : k0_pay70 (F := Ideal) = k0_pay78 := rfl

/-! The products into the rows and into the accumulators. -/

theorem pay78_at (v111 v192 : FVec Ideal S512x704 .bf16) (v232 v235 : Vec Ideal S1x1x704x1024 .bf16) (D0 D1 : Fin 512 → Fin 704 → ℝ) (U0 U1 : Fin 704 → Fin 1024 → ℝ)
    (h0 : ∀ r f, v111 (ix2 r f) = (D0 r f : EReal)) (h1 : ∀ r f, v192 (ix2 r f) = (D1 r f : EReal))
    (u0 : ∀ f e, v232 (ix4 0 0 f e) = (U0 f e : EReal)) (u1 : ∀ f e, v235 (ix4 0 0 f e) = (U1 f e : EReal)) (r : Fin 512) (e : Fin 1024) :
    k0_pay78 (F := Ideal) v111 v192 v232 v235 (ix3 0 r e) = (((∑ f, D0 r f * U0 f e) + ∑ f, D1 r f * U1 f e : ℝ) : EReal) := by
  pointwise [k0_pay78]
  simp only [h0, h1, u0, u1, ← EReal.coe_mul, coe_sum, ← EReal.coe_add]

theorem pay1_at (v244 : FVec Ideal S1024x1024 .bf16) (v254 : Vec Ideal S1x704x1024 .f32) (v256 : Vec Ideal S1x1024x704 .bf16)
    (H : Fin 1024 → Fin 1024 → ℝ) (D : Fin 1024 → Fin 704 → ℝ) (hh : ∀ r e, v244 (ix2 r e) = (H r e : EReal)) (hd : ∀ r f, v256 (ix3 0 r f) = (D r f : EReal))
    (f : Fin 704) (e : Fin 1024) : k0_pay1 (F := Ideal) v244 v254 v256 (ix3 0 f e) = v254 (ix3 0 f e) + ((∑ r, D r f * H r e : ℝ) : EReal) := by
  pointwise [k0_pay1]
  simp only [hh, hd, ← EReal.coe_mul, coe_sum]

theorem pay72_eq (v243 : Vec Ideal S1024x1024 .bf16) : k0_pay72 (F := Ideal) v243 = k0_pay1 (k0_pay71 v243) := rfl

theorem pay71_at (v243 : Vec Ideal S1024x1024 .bf16) (r e : Fin 1024) : k0_pay71 (F := Ideal) v243 (ix2 r e) = v243 (ix2 r e) := by
  pointwise [k0_pay71]

theorem pay2_at (v263 : Vec Ideal S704x1024 .f32) (v264 : Vec Ideal S1024x704 .bf16) (v265 : Vec Ideal S1024x1024 .bf16)
    (H : Fin 1024 → Fin 1024 → ℝ) (D : Fin 1024 → Fin 704 → ℝ) (hh : ∀ r e, v265 (ix2 r e) = (H r e : EReal)) (hd : ∀ r f, v264 (ix2 r f) = (D r f : EReal))
    (f : Fin 704) (e : Fin 1024) : k0_pay2 (F := Ideal) v263 v264 v265 (ix2 f e) = v263 (ix2 f e) + ((∑ r, D r f * H r e : ℝ) : EReal) := by
  pointwise [k0_pay2]
  simp only [hh, hd, ← EReal.coe_mul, coe_sum]

theorem pay3_at (v : Vec Ideal S2x704x1024 .f32) (s : Fin 2) (f : Fin 704) (e : Fin 1024) : k0_pay3 (F := Ideal) v (ix4 s 0 f e) = v (ix3 s f e) := by
  pointwise [k0_pay3]

theorem pay4_at (v : Vec Ideal S704x1024 .f32) (f : Fin 704) (e : Fin 1024) : k0_pay4 (F := Ideal) v (ix2 f e) = v (ix2 f e) := by
  pointwise [k0_pay4]

theorem pay73_at (s : Fin 2) (j : Fin 4) (k : Fin 8) (f : Fin 704) : k0_pay73 (F := Ideal) (ix4 s j k f) = ((0 : ℝ) : EReal) := by
  pointwise [k0_pay73]; rfl

theorem pay74_at (s : Fin 2) (f : Fin 704) (e : Fin 1024) : k0_pay74 (F := Ideal) (ix3 s f e) = ((0 : ℝ) : EReal) := by
  pointwise [k0_pay74]; rfl

theorem pay75_at (f : Fin 704) (e : Fin 1024) : k0_pay75 (F := Ideal) (ix2 f e) = ((0 : ℝ) : EReal) := by
  pointwise [k0_pay75]; rfl

theorem pay76_at (s : Fin 2) (k : Fin 8) (f : Fin 704) : k0_pay76 (F := Ideal) (ix3 s k f) = ((0 : ℝ) : EReal) := by
  pointwise [k0_pay76]; rfl

end Cert.FfnVal

end
-- ==== Proof.FfnVals.lean ====
module

public import proofs.«01_k».proof.Proof.FfnPay
public import Idealize.ShloMosaic.Lib.WritesUnit

/-! The feed-forward kernel's tile: what its loads hold, and what its stores then hold, over the reals. -/

@[expose] public section

set_option maxRecDepth 16384

noncomputable section

namespace Cert.FfnVal

open Cert.FfnIdeal Cert.FfnIdeal.Gen Idealize.ShloMosaic Idealize.ShloMosaic.TcCoe Idealize.SL.Sem Cert.Reals

/-- A tile's row, and a row of the pair of tiles it is in. -/
abbrev rowb (b : Fin 16) (r : Fin 512) : Fin 8192 := ⟨b.val * 512 + r.val, by omega⟩

abbrev rowp (b : Fin 16) (r : Fin 1024) : Fin 8192 := ⟨b.val / 2 * 1024 + r.val, by omega⟩

/-- What a point's tile is computed from. -/
structure Loads (I : In) (j : Fin 4) (b : Fin 16) (X : Vec Ideal S512x1024 .bf16) (W : Vec Ideal S704x1024 .bf16) (G V : Vec Ideal S1x1x512x704 .bf16)
    (K0 K1 : Vec Ideal S1x1x8x704 .f32) (R0 R1 : Vec Ideal S1x8x704 .f32) (A0 A1 : Vec Ideal S1x1x512x704 .bf16) (U0 U1 : Vec Ideal S1x1x704x1024 .bf16) : Prop where
  x : ∀ r e, X (ix2 r e) = (I.ct (rowb b r) e : EReal)
  w : ∀ f e, W (ix2 f e) = (I.dn (ch j f) e : EReal)
  g : ∀ r f, G (ix4 0 0 r f) = (I.g (rowb b r) (ch j f) : EReal)
  v : ∀ r f, V (ix4 0 0 r f) = (I.v (rowb b r) (ch j f) : EReal)
  k0 : ∀ (k : Fin 3) f, K0 (ix4 0 0 (tap k) f) = (I.dw k (col 0 (ch j f)) : EReal)
  k1 : ∀ (k : Fin 3) f, K1 (ix4 0 0 (tap k) f) = (I.dw k (col 1 (ch j f)) : EReal)
  r0 : ∀ r f, R0 (ix3 0 r f) = (I.d2x 0 (ch j f) ((b.val + 1) * 512 + r.val) : EReal)
  r1 : ∀ r f, R1 (ix3 0 r f) = (I.d2x 1 (ch j f) ((b.val + 1) * 512 + r.val) : EReal)
  a0 : ∀ r f, A0 (ix4 0 0 r f) = (I.a (rowb b r) (col 0 (ch j f)) : EReal)
  a1 : ∀ r f, A1 (ix4 0 0 r f) = (I.a (rowb b r) (col 1 (ch j f)) : EReal)
  u0 : ∀ f e, U0 (ix4 0 0 f e) = (I.up e (col 0 (ch j f)) : EReal)
  u1 : ∀ f e, U1 (ix4 0 0 f e) = (I.up e (col 1 (ch j f)) : EReal)

variable (I : In) (j : Fin 4) (b : Fin 16)

/-- A tile's cotangent of the convolution's output, and the rows after it. -/
def Dt (s : Fin 2) (r : Fin 512) (f : Fin 704) : ℝ := I.d2 s (rowb b r) (ch j f)

def Ct (s : Fin 2) (r : Fin 8) (f : Fin 704) : ℝ := I.d2x s (ch j f) ((b.val + 1) * 512 + r.val)

theorem Dt_ext (s : Fin 2) (r : Fin 512) (f : Fin 704) : Dt I j b s r f = I.d2x s (ch j f) (b.val * 512 + r.val) :=
  (ext_lt (fun t => I.d2 s t (ch j f)) (rowb b r)).symm

theorem sh_ext (s : Fin 2) (n : Fin 8) (r : Fin 512) (f : Fin 704) :
    sh (Dt I j b s) (Ct I j b s) n r f = I.d2x s (ch j f) (b.val * 512 + r.val + n.val) := by
  unfold sh
  split_ifs with h
  · exact (Dt_ext I j b s _ f).trans (congrArg (I.d2x s (ch j f)) (by show b.val * 512 + (r.val + n.val) = _; omega))
  · exact congrArg (I.d2x s (ch j f)) (by show (b.val + 1) * 512 + (r.val + n.val - 512) = _; omega)

theorem conv_da (s : Fin 2) (T : Fin 3 → Fin 704 → ℝ) (hT : ∀ k f, T k f = I.dw k (col s (ch j f))) (r : Fin 512) (f : Fin 704) :
    conv T (Dt I j b s) (Ct I j b s) r f = I.da s (rowb b r) (ch j f) := by
  unfold conv In.da
  rw [sh_ext, sh_ext, Dt_ext, hT, hT, hT]
  rfl

namespace Loads

variable {I j b} {X : Vec Ideal S512x1024 .bf16} {W : Vec Ideal S704x1024 .bf16} {G V : Vec Ideal S1x1x512x704 .bf16}
    {K0 K1 : Vec Ideal S1x1x8x704 .f32} {R0 R1 : Vec Ideal S1x8x704 .f32} {A0 A1 : Vec Ideal S1x1x512x704 .bf16} {U0 U1 : Vec Ideal S1x1x704x1024 .bf16}
    (L : Loads I j b X W G V K0 K1 R0 R1 A0 A1 U0 U1)

include L

theorem d0 (r : Fin 512) (f : Fin 704) : k0_pay11 (F := Ideal) X W G V (ix2 r f) = (Dt I j b 0 r f : EReal) :=
  (pay11_at X W G V (fun r e => I.ct (rowb b r) e) (fun f e => I.dn (ch j f) e) (fun r f => I.g (rowb b r) (ch j f)) (fun r f => I.v (rowb b r) (ch j f))
    L.x L.w L.g L.v r f).trans rfl

theorem d1 (r : Fin 512) (f : Fin 704) : k0_pay12 (F := Ideal) X W G (ix2 r f) = (Dt I j b 1 r f : EReal) :=
  (pay12_at X W G (fun r e => I.ct (rowb b r) e) (fun f e => I.dn (ch j f) e) (fun r f => I.g (rowb b r) (ch j f)) L.x L.w L.g r f).trans rfl

theorem u (r : Fin 512) (f : Fin 704) : k0_pay10 (F := Ideal) G V (ix2 r f) = (I.u (rowb b r) (ch j f) : EReal) :=
  (pay10_at G V (fun r f => I.g (rowb b r) (ch j f)) (fun r f => I.v (rowb b r) (ch j f)) L.g L.v r f).trans rfl

theorem s01 (r : Fin 512) (f : Fin 704) : k0_pay15 (F := Ideal) (k0_pay11 X W G V) R0 (ix2 r f) = (I.d2x 0 (ch j f) (b.val * 512 + r.val + 1) : EReal) :=
  (pay15_at _ R0 (Dt I j b 0) (Ct I j b 0) L.d0 L.r0 r f).trans (congrArg _ (sh_ext I j b 0 _ r f))

theorem s02 (r : Fin 512) (f : Fin 704) : k0_pay16 (F := Ideal) (k0_pay11 X W G V) R0 (ix2 r f) = (I.d2x 0 (ch j f) (b.val * 512 + r.val + 2) : EReal) :=
  (pay16_at _ R0 (Dt I j b 0) (Ct I j b 0) L.d0 L.r0 r f).trans (congrArg _ (sh_ext I j b 0 _ r f))

theorem s11 (r : Fin 512) (f : Fin 704) : k0_pay26 (F := Ideal) (k0_pay12 X W G) R1 (ix2 r f) = (I.d2x 1 (ch j f) (b.val * 512 + r.val + 1) : EReal) :=
  (pay26_at _ R1 (Dt I j b 1) (Ct I j b 1) L.d1 L.r1 r f).trans (congrArg _ (sh_ext I j b 1 _ r f))

theorem s12 (r : Fin 512) (f : Fin 704) : k0_pay27 (F := Ideal) (k0_pay12 X W G) R1 (ix2 r f) = (I.d2x 1 (ch j f) (b.val * 512 + r.val + 2) : EReal) :=
  (pay27_at _ R1 (Dt I j b 1) (Ct I j b 1) L.d1 L.r1 r f).trans (congrArg _ (sh_ext I j b 1 _ r f))

theorem e0 (r : Fin 512) (f : Fin 704) : k0_pay18 (F := Ideal) (k0_pay11 X W G V) (k0_pay13 K0) R0 (ix2 r f) = (I.da 0 (rowb b r) (ch j f) : EReal) :=
  (pay18_at _ K0 R0 (Dt I j b 0) (Ct I j b 0) (fun k f => I.dw k (col 0 (ch j f))) L.d0 L.r0 L.k0 r f).trans
    (congrArg _ (conv_da I j b 0 _ (fun _ _ => rfl) r f))

theorem e1 (r : Fin 512) (f : Fin 704) : k0_pay30 (F := Ideal) (k0_pay29 (k0_pay12 X W G) K1 R1) (ix2 r f) = (I.da 1 (rowb b r) (ch j f) : EReal) :=
  (congrFun (pay30_eq _ K1 R1) _).trans ((pay18_at _ K1 R1 (Dt I j b 1) (Ct I j b 1) (fun k f => I.dw k (col 1 (ch j f))) L.d1 L.r1 L.k1 r f).trans
    (congrArg _ (conv_da I j b 1 _ (fun _ _ => rfl) r f)))

theorem f0 (r : Fin 512) (f : Fin 704) : k0_pay19 (F := Ideal) (k0_pay11 X W G V) (k0_pay13 K0) R0 (ix3 0 r f) = (I.da 0 (rowb b r) (ch j f) : EReal) :=
  (pay19_at _ K0 R0 (Dt I j b 0) (Ct I j b 0) (fun k f => I.dw k (col 0 (ch j f))) L.d0 L.r0 L.k0 r f).trans
    (congrArg _ (conv_da I j b 0 _ (fun _ _ => rfl) r f))

theorem f1 (r : Fin 512) (f : Fin 704) : k0_pay31 (F := Ideal) (k0_pay29 (k0_pay12 X W G) K1 R1) (ix3 0 r f) = (I.da 1 (rowb b r) (ch j f) : EReal) :=
  (congrFun (pay31_eq _ K1 R1) _).trans ((pay19_at _ K1 R1 (Dt I j b 1) (Ct I j b 1) (fun k f => I.dw k (col 1 (ch j f))) L.d1 L.r1 L.k1 r f).trans
    (congrArg _ (conv_da I j b 1 _ (fun _ _ => rfl) r f)))

theorem dh (r : Fin 512) (e : Fin 1024) :
    k0_pay78 (F := Ideal) (k0_pay18 (k0_pay11 X W G V) (k0_pay13 K0) R0) (k0_pay30 (k0_pay29 (k0_pay12 X W G) K1 R1)) U0 U1 (ix3 0 r e)
      = (I.dhj j (rowb b r) e : EReal) :=
  (pay78_at _ _ U0 U1 (fun r f => I.da 0 (rowb b r) (ch j f)) (fun r f => I.da 1 (rowb b r) (ch j f)) (fun f e => I.up e (col 0 (ch j f)))
    (fun f e => I.up e (col 1 (ch j f))) L.e0 L.e1 L.u0 L.u1 r e).trans rfl

theorem c0 (r : Fin 8) (f : Fin 704) : k0_pay17 (F := Ideal) (k0_pay11 X W G V) (ix3 0 r f) = (I.d2x 0 (ch j f) (b.val * 512 + r.val) : EReal) :=
  (pay17_at _ (Dt I j b 0) L.d0 r f).trans (congrArg _ (Dt_ext I j b 0 ⟨r.val, by omega⟩ f))

theorem c1 (r : Fin 8) (f : Fin 704) : k0_pay28 (F := Ideal) (k0_pay12 X W G) (ix3 0 r f) = (I.d2x 1 (ch j f) (b.val * 512 + r.val) : EReal) :=
  (pay17_at _ (Dt I j b 1) L.d1 r f).trans (congrArg _ (Dt_ext I j b 1 ⟨r.val, by omega⟩ f))

end Loads

/-- What a tile adds to a tap's gradient. -/
def wt (s : Fin 2) (n : ℕ) (f : Fin 704) : ℝ := ∑ r : Fin 512, I.a (rowb b r) (col s (ch j f)) * I.d2x s (ch j f) (b.val * 512 + r.val + n)

theorem add_wt (s : Fin 2) (n : ℕ) (D : FVec Ideal S512x704 .f32) (A : Vec Ideal S1x1x512x704 .bf16)
    (hD : ∀ r f, D (ix2 r f) = (I.d2x s (ch j f) (b.val * 512 + r.val + n) : EReal))
    (hA : ∀ r f, A (ix4 0 0 r f) = (I.a (rowb b r) (col s (ch j f)) : EReal))
    (z : Vec Ideal S1x1x1x704 .f32) (x : ℝ) (f : Fin 704) (hz : z (ix4 0 0 0 f) = (x : EReal)) :
    k0_pay21 (F := Ideal) D A z (ix4 0 0 0 f) = ((x + wt I j b s n f : ℝ) : EReal) := by
  refine (pay21_at D A (fun r f => I.d2x s (ch j f) (b.val * 512 + r.val + n)) (fun r f => I.a (rowb b r) (col s (ch j f))) hD hA z f).trans ?_
  rw [hz, ← EReal.coe_add]
  rfl

/-! Loads and stores at a place. -/

section
variable {Val : EltTy → Type} {sig : RefSig} {κ : Kind} {sp : Space} {S : Shape} {e : EltTy}

/-- A load of a rectangle of a buffer, at one of its places. -/
theorem load_at (a : Memref sig κ sp S e) (f : a.view.ty.Contents Val) {off off' size : Fin S.rank → ℕ} (inb : ∀ k, off k + size k ≤ S.size k)
    (y : (Rect.unit off size inb).shape.Idx) (z : S.Idx) (ho : off = off') (hz : ∀ k, (z k).val = off' k + (y k).val) :
    View.readAt Val a.view (Rect.unit off size inb).toLoadRect f y = a.view.read Val f z := by
  subst ho
  refine congrArg (a.view.read Val f) (funext fun k => Fin.ext ?_)
  show off k + 1 * (y k).val = (z k).val
  rw [hz k, Nat.one_mul]

theorem load_held (a : Memref sig κ sp S e) (h : a.IsWhole) (x : S.Idx → Val e) {off size : Fin S.rank → ℕ} (inb : ∀ k, off k + size k ≤ S.size k)
    (y : (Rect.unit off size inb).shape.Idx) (z : S.Idx) (hz : ∀ k, (z k).val = off k + (y k).val) :
    View.readAt Val a.view (Rect.unit off size inb).toLoadRect (h.unread x) y = x z :=
  (load_at a _ inb y z rfl hz).trans (congrFun (h.read_unread x) z)

end

end Cert.FfnVal

end
-- ==== Proof.FfnTile.lean ====
module

public import proofs.«01_k».proof.Proof.FfnRun
public import proofs.«01_k».proof.Proof.FfnVals

/-! One grid point of the feed-forward kernel over the reals: what the point's run leaves, from what it finds. -/

@[expose] public section

set_option maxRecDepth 16384

noncomputable section

namespace Cert.FfnVal

open Cert.FfnIdeal Cert.FfnIdeal.Gen Idealize.ShloMosaic Idealize.ShloMosaic.TcCoe Idealize.SL.Sem Cert.Reals

/-- The input blocks at a point. -/
structure At (I : In) (j : Fin 4) (b : Fin 16) (x2 : Vec Ideal S1024x1024 .bf16) (x3 : Vec Ideal S1024x1024 .bf16) (x4 : Vec Ideal S2x1x512x704 .bf16) (x5 : Vec Ideal S2x1x512x704 .bf16) (x6 : Vec Ideal S2x1x704x1024 .bf16) (x7 : Vec Ideal S2x1x8x704 .f32) (x8 : Vec Ideal S704x1024 .bf16) : Prop where
  ct : ∀ r e, x2 (ix2 r e) = (I.ct (rowp b r) e : EReal)
  h : ∀ r e, x3 (ix2 r e) = (I.h (rowp b r) e : EReal)
  a : ∀ s r f, x4 (ix4 s 0 r f) = (I.a (rowb b r) (col s (ch j f)) : EReal)
  cv : ∀ s r f, x5 (ix4 s 0 r f) = (I.cv (rowb b r) (col s (ch j f)) : EReal)
  up : ∀ s f e, x6 (ix4 s 0 f e) = (I.up e (col s (ch j f)) : EReal)
  dw : ∀ s k f, x7 (ix4 s 0 (tap k) f) = (I.dw k (col s (ch j f)) : EReal)
  dn : ∀ f e, x8 (ix2 f e) = (I.dn (ch j f) e : EReal)

section
variable {I : In} {j : Fin 4} {b : Fin 16}
  (a4 : Memref sig .tc .vmem S2x1x512x704 .bf16) (h4 : a4.IsWhole)
  (a5 : Memref sig .tc .vmem S2x1x512x704 .bf16) (h5 : a5.IsWhole)
  (a6 : Memref sig .tc .vmem S2x1x704x1024 .bf16) (h6 : a6.IsWhole)
  (a7 : Memref sig .tc .vmem S2x1x8x704 .f32) (h7 : a7.IsWhole)
  (a8 : Memref sig .tc .vmem S704x1024 .bf16) (h8 : a8.IsWhole)
  {x2 : Vec Ideal S1024x1024 .bf16} {x3 : Vec Ideal S1024x1024 .bf16} {x4 : Vec Ideal S2x1x512x704 .bf16} {x5 : Vec Ideal S2x1x512x704 .bf16} {x6 : Vec Ideal S2x1x704x1024 .bf16} {x7 : Vec Ideal S2x1x8x704 .f32} {x8 : Vec Ideal S704x1024 .bf16}

theorem loads_of (D : At I j b x2 x3 x4 x5 x6 x7 x8) (X : Vec Ideal S512x1024 .bf16) (R0 R1 : Vec Ideal S1x8x704 .f32)
    (hX : ∀ r e, X (ix2 r e) = (I.ct (rowb b r) e : EReal))
    (hR0 : ∀ r f, R0 (ix3 0 r f) = (I.d2x 0 (ch j f) ((b.val + 1) * 512 + r.val) : EReal))
    (hR1 : ∀ r f, R1 (ix3 0 r f) = (I.d2x 1 (ch j f) ((b.val + 1) * 512 + r.val) : EReal)) :
    Loads I j b X
      (View.readAt (Elt Ideal) a8.view (Rect.unit (s := S704x1024) ![0, 0] S704x1024.size inb_S704x1024_S704x1024_0_0).toLoadRect (h8.unread x8))
      (View.readAt (Elt Ideal) a5.view (Rect.unit (s := S2x1x512x704) ![0, 0, 0, 0] S1x1x512x704.size inb_S2x1x512x704_S1x1x512x704_0_0_0_0).toLoadRect (h5.unread x5))
      (View.readAt (Elt Ideal) a5.view (Rect.unit (s := S2x1x512x704) ![1, 0, 0, 0] S1x1x512x704.size inb_S2x1x512x704_S1x1x512x704_1_0_0_0).toLoadRect (h5.unread x5))
      (View.readAt (Elt Ideal) a7.view (Rect.unit (s := S2x1x8x704) ![0, 0, 0, 0] S1x1x8x704.size inb_S2x1x8x704_S1x1x8x704_0_0_0_0).toLoadRect (h7.unread x7))
      (View.readAt (Elt Ideal) a7.view (Rect.unit (s := S2x1x8x704) ![1, 0, 0, 0] S1x1x8x704.size inb_S2x1x8x704_S1x1x8x704_1_0_0_0).toLoadRect (h7.unread x7))
      R0 R1
      (View.readAt (Elt Ideal) a4.view (Rect.unit (s := S2x1x512x704) ![0, 0, 0, 0] S1x1x512x704.size inb_S2x1x512x704_S1x1x512x704_0_0_0_0).toLoadRect (h4.unread x4))
      (View.readAt (Elt Ideal) a4.view (Rect.unit (s := S2x1x512x704) ![1, 0, 0, 0] S1x1x512x704.size inb_S2x1x512x704_S1x1x512x704_1_0_0_0).toLoadRect (h4.unread x4))
      (View.readAt (Elt Ideal) a6.view (Rect.unit (s := S2x1x704x1024) ![0, 0, 0, 0] S1x1x704x1024.size inb_S2x1x704x1024_S1x1x704x1024_0_0_0_0).toLoadRect (h6.unread x6))
      (View.readAt (Elt Ideal) a6.view (Rect.unit (s := S2x1x704x1024) ![1, 0, 0, 0] S1x1x704x1024.size inb_S2x1x704x1024_S1x1x704x1024_1_0_0_0).toLoadRect (h6.unread x6)) where
  x := hX
  w f e := (load_held a8 h8 x8 _ (ix2 f e) (ix2 f e) (by intro a; fin_cases a <;> first | rfl | exact (Nat.zero_add _).symm)).trans (D.dn f e)
  g r f := (load_held a5 h5 x5 _ (ix4 0 0 r f) (ix4 0 0 r f) (by intro a; fin_cases a <;> first | rfl | exact (Nat.zero_add _).symm)).trans (D.cv 0 r f)
  v r f := (load_held a5 h5 x5 _ (ix4 0 0 r f) (ix4 1 0 r f) (by intro a; fin_cases a <;> first | rfl | exact (Nat.zero_add _).symm)).trans (D.cv 1 r f)
  k0 k f := (load_held a7 h7 x7 _ (ix4 0 0 (tap k) f) (ix4 0 0 (tap k) f) (by intro a; fin_cases a <;> first | rfl | exact (Nat.zero_add _).symm)).trans (D.dw 0 k f)
  k1 k f := (load_held a7 h7 x7 _ (ix4 0 0 (tap k) f) (ix4 1 0 (tap k) f) (by intro a; fin_cases a <;> first | rfl | exact (Nat.zero_add _).symm)).trans (D.dw 1 k f)
  r0 := hR0
  r1 := hR1
  a0 r f := (load_held a4 h4 x4 _ (ix4 0 0 r f) (ix4 0 0 r f) (by intro a; fin_cases a <;> first | rfl | exact (Nat.zero_add _).symm)).trans (D.a 0 r f)
  a1 r f := (load_held a4 h4 x4 _ (ix4 0 0 r f) (ix4 1 0 r f) (by intro a; fin_cases a <;> first | rfl | exact (Nat.zero_add _).symm)).trans (D.a 1 r f)
  u0 f e := (load_held a6 h6 x6 _ (ix4 0 0 f e) (ix4 0 0 f e) (by intro a; fin_cases a <;> first | rfl | exact (Nat.zero_add _).symm)).trans (D.up 0 f e)
  u1 f e := (load_held a6 h6 x6 _ (ix4 0 0 f e) (ix4 1 0 f e) (by intro a; fin_cases a <;> first | rfl | exact (Nat.zero_add _).symm)).trans (D.up 1 f e)

end

/-- What a tile adds to the eight rows of a chunk's taps. -/
def wk (I : In) (j : Fin 4) (b : Fin 16) (s : Fin 2) (k : Fin 8) (f : Fin 704) : ℝ :=
  if k.val = 0 then wt I j b s 2 f else if k.val = 1 then wt I j b s 1 f else if k.val = 2 then wt I j b s 0 f else 0

section
variable {sig : RefSig} {κ : Kind} {sp : Space}

/-- One row stored among a chunk's taps. -/
theorem peel (v : View sig κ sp S2x4x8x704 .f32) (g : v.ty.Contents (Elt Ideal)) {off : Fin 4 → ℕ} (s0 : Fin 2) (j0 : Fin 4) (k0 : Fin 8)
    (ho : off = ![s0.val, j0.val, k0.val, 0]) (inb : ∀ a, off a + S1x1x1x704.size a ≤ S2x4x8x704.size a)
    (p : Vec Ideal S1x1x1x704 .f32) (L : List (View.Piece (Elt Ideal) S2x4x8x704 .f32)) (s : Fin 2) (j : Fin 4) (k : Fin 8) (f : Fin 704) :
    v.read (Elt Ideal) (v.writes (Elt Ideal) g ((⟨Rect.unit (s := S2x4x8x704) off S1x1x1x704.size inb, p⟩ : View.Piece (Elt Ideal) S2x4x8x704 .f32) :: L)) (ix4 s j k f)
      = if s = s0 ∧ j = j0 ∧ k = k0 then p (ix4 0 0 0 f) else v.read (Elt Ideal) (v.writes (Elt Ideal) g L) (ix4 s j k f) := by
  split_ifs with h
  · obtain ⟨rfl, rfl, rfl⟩ := h
    exact View.read_writes_cons_unit_of_mem v g inb p L (ix4 s j k f) (ix4 0 0 0 f) ho (by intro a; fin_cases a <;> first | rfl | exact (Nat.zero_add _).symm)
  · by_cases hs : s = s0
    · by_cases hj : j = j0
      · have hk : k.val ≠ k0.val := fun e => h ⟨hs, hj, Fin.ext e⟩
        exact View.read_writes_cons_unit_of_not_mem v g inb p L (ix4 s j k f) ho 2 (by show k.val < k0.val ∨ k0.val + 1 ≤ k.val; omega)
      · have hk : j.val ≠ j0.val := fun e => hj (Fin.ext e)
        exact View.read_writes_cons_unit_of_not_mem v g inb p L (ix4 s j k f) ho 1 (by show j.val < j0.val ∨ j0.val + 1 ≤ j.val; omega)
    · have hk : s.val ≠ s0.val := fun e => hs (Fin.ext e)
      exact View.read_writes_cons_unit_of_not_mem v g inb p L (ix4 s j k f) ho 0 (by show s.val < s0.val ∨ s0.val + 1 ≤ s.val; omega)

/-- The six rows of a chunk's taps after a point: each has what the tile adds. -/
theorem rows6 (I : In) (j0 : Fin 4) (b : Fin 16) (v : View sig κ sp S2x4x8x704 .f32) (g : v.ty.Contents (Elt Ideal)) (w : Fin 2 → Fin 4 → Fin 8 → Fin 704 → ℝ)
    (hg : ∀ s j k f, v.read (Elt Ideal) g (ix4 s j k f) = (w s j k f : EReal)) {o1 o2 o3 o4 o5 o6 : Fin 4 → ℕ}
    (e1 : o1 = ![0, j0.val, 2, 0]) (e2 : o2 = ![0, j0.val, 1, 0]) (e3 : o3 = ![0, j0.val, 0, 0])
    (e4 : o4 = ![1, j0.val, 2, 0]) (e5 : o5 = ![1, j0.val, 1, 0]) (e6 : o6 = ![1, j0.val, 0, 0])
    (i1 : ∀ a, o1 a + S1x1x1x704.size a ≤ S2x4x8x704.size a) (i2 : ∀ a, o2 a + S1x1x1x704.size a ≤ S2x4x8x704.size a)
    (i3 : ∀ a, o3 a + S1x1x1x704.size a ≤ S2x4x8x704.size a) (i4 : ∀ a, o4 a + S1x1x1x704.size a ≤ S2x4x8x704.size a)
    (i5 : ∀ a, o5 a + S1x1x1x704.size a ≤ S2x4x8x704.size a) (i6 : ∀ a, o6 a + S1x1x1x704.size a ≤ S2x4x8x704.size a)
    (p1 p2 p3 p4 p5 p6 : Vec Ideal S1x1x1x704 .f32)
    (q1 : ∀ f, p1 (ix4 0 0 0 f) = ((w 0 j0 2 f + wt I j0 b 0 0 f : ℝ) : EReal)) (q2 : ∀ f, p2 (ix4 0 0 0 f) = ((w 0 j0 1 f + wt I j0 b 0 1 f : ℝ) : EReal))
    (q3 : ∀ f, p3 (ix4 0 0 0 f) = ((w 0 j0 0 f + wt I j0 b 0 2 f : ℝ) : EReal)) (q4 : ∀ f, p4 (ix4 0 0 0 f) = ((w 1 j0 2 f + wt I j0 b 1 0 f : ℝ) : EReal))
    (q5 : ∀ f, p5 (ix4 0 0 0 f) = ((w 1 j0 1 f + wt I j0 b 1 1 f : ℝ) : EReal)) (q6 : ∀ f, p6 (ix4 0 0 0 f) = ((w 1 j0 0 f + wt I j0 b 1 2 f : ℝ) : EReal))
    (s : Fin 2) (j : Fin 4) (k : Fin 8) (f : Fin 704) :
    v.read (Elt Ideal) (v.writes (Elt Ideal) g [⟨Rect.unit (s := S2x4x8x704) o6 S1x1x1x704.size i6, p6⟩, ⟨Rect.unit (s := S2x4x8x704) o5 S1x1x1x704.size i5, p5⟩,
        ⟨Rect.unit (s := S2x4x8x704) o4 S1x1x1x704.size i4, p4⟩, ⟨Rect.unit (s := S2x4x8x704) o3 S1x1x1x704.size i3, p3⟩,
        ⟨Rect.unit (s := S2x4x8x704) o2 S1x1x1x704.size i2, p2⟩, ⟨Rect.unit (s := S2x4x8x704) o1 S1x1x1x704.size i1, p1⟩]) (ix4 s j k f)
      = ((w s j k f + (if j = j0 then wk I j0 b s k f else 0) : ℝ) : EReal) := by
  rw [peel v g 1 j0 0 e6, peel v g 1 j0 1 e5, peel v g 1 j0 2 e4, peel v g 0 j0 0 e3, peel v g 0 j0 1 e2, peel v g 0 j0 2 e1, q1, q2, q3, q4, q5, q6]
  rw [show v.read (Elt Ideal) (v.writes (Elt Ideal) g []) (ix4 s j k f) = _ from hg s j k f]
  by_cases hj : j = j0
  · subst hj
    unfold wk
    fin_cases s <;> fin_cases k <;> simp
  · simp [hj]

end

end Cert.FfnVal

end
-- ==== Proof.FfnEven.lean ====
module

public import proofs.«01_k».proof.Proof.FfnTile

/-! An even point of the feed-forward kernel over the reals: what its run leaves, from what it finds. -/

@[expose] public section

set_option maxRecDepth 16384

noncomputable section

namespace Cert.FfnVal

open Cert.FfnIdeal Cert.FfnIdeal.Gen Idealize.ShloMosaic Idealize.ShloMosaic.TcCoe Idealize.SL.Sem Cert.Reals

/-- What the point's stores leave. -/
structure EvenPost (I : In) (j : Fin 4) (b : Fin 16) (w : Fin 2 → Fin 4 → Fin 8 → Fin 704 → ℝ) (R : Prop) (y9 : Vec Ideal S1x512x1024 .bf16) (y12 : Vec Ideal S2x4x8x704 .f32) (y13 : Vec Ideal S2x1024x704 .bf16)
    (y14 : Vec Ideal S1024x704 .bf16) (z15 y15 : Vec Ideal S2x704x1024 .f32) (z16 y16 : Vec Ideal S704x1024 .f32) (y17 : Vec Ideal S2x8x704 .f32) : Prop where
  dh : ∀ r e, y9 (ix3 0 r e) = (I.dhj j (rowb b r) e : EReal)
  taps : ∀ s j' k f, y12 (ix4 s j' k f) = ((w s j' k f + (if j' = j then wk I j b s k f else 0) : ℝ) : EReal)
  da : ∀ (s : Fin 2) (r : Fin 512) (f : Fin 704), y13 (ix3 s ⟨512 + r.val, by omega⟩ f) = (I.da s (rowb b r) (ch j f) : EReal)
  u : ∀ (r : Fin 512) (f : Fin 704), y14 (ix2 ⟨512 + r.val, by omega⟩ f) = (I.u (rowb b r) (ch j f) : EReal)
  up0 : R → ∀ s f e, y15 (ix3 s f e) = ((0 : ℝ) : EReal)
  up1 : ¬ R → y15 = z15
  dn0 : R → ∀ f e, y16 (ix2 f e) = ((0 : ℝ) : EReal)
  dn1 : ¬ R → y16 = z16
  carry : ∀ s (r : Fin 8) f, y17 (ix3 s r f) = (I.d2x s (ch j f) (b.val * 512 + r.val) : EReal)

section
variable {I : In} {j : Fin 4} {b : Fin 16} {c : Dev nD} {i : grid0.Coords} {hc3 : k0_cond3 i = 1#1} {hc4 : ¬ k0_cond4 i = 1#1} {hc5 : ¬ k0_cond5 i = 1#1}
  {a2 : Memref sig .tc .vmem S1024x1024 .bf16} {h2 : a2.IsWhole}
  {a3 : Memref sig .tc .vmem S1024x1024 .bf16} {h3 : a3.IsWhole}
  {a4 : Memref sig .tc .vmem S2x1x512x704 .bf16} {h4 : a4.IsWhole}
  {a5 : Memref sig .tc .vmem S2x1x512x704 .bf16} {h5 : a5.IsWhole}
  {a6 : Memref sig .tc .vmem S2x1x704x1024 .bf16} {h6 : a6.IsWhole}
  {a7 : Memref sig .tc .vmem S2x1x8x704 .f32} {h7 : a7.IsWhole}
  {a8 : Memref sig .tc .vmem S704x1024 .bf16} {h8 : a8.IsWhole}
  {a9 : Memref sig .tc .vmem S1x512x1024 .bf16} {h9 : a9.IsWhole}
  {a10 : Memref sig .tc .vmem S2x1x704x1024 .bf16} {h10 : a10.IsWhole}
  {a11 : Memref sig .tc .vmem S704x1024 .bf16} {h11 : a11.IsWhole}
  {a12 : Memref sig .tc .vmem S2x4x8x704 .f32} {h12 : a12.IsWhole}
  {a13 : Memref sig .tc .vmem S2x1024x704 .bf16} {h13 : a13.IsWhole}
  {a14 : Memref sig .tc .vmem S1024x704 .bf16} {h14 : a14.IsWhole}
  {a15 : Memref sig .tc .vmem S2x704x1024 .f32} {h15 : a15.IsWhole}
  {a16 : Memref sig .tc .vmem S704x1024 .f32} {h16 : a16.IsWhole}
  {a17 : Memref sig .tc .vmem S2x8x704 .f32} {h17 : a17.IsWhole}
  {x2 : Vec Ideal S1024x1024 .bf16} {x3 : Vec Ideal S1024x1024 .bf16} {x4 : Vec Ideal S2x1x512x704 .bf16} {x5 : Vec Ideal S2x1x512x704 .bf16} {x6 : Vec Ideal S2x1x704x1024 .bf16} {x7 : Vec Ideal S2x1x8x704 .f32} {x8 : Vec Ideal S704x1024 .bf16}
  {z9 : Vec Ideal S1x512x1024 .bf16} {z10 : Vec Ideal S2x1x704x1024 .bf16} {z11 : Vec Ideal S704x1024 .bf16} {z12 : Vec Ideal S2x4x8x704 .f32} {z13 : Vec Ideal S2x1024x704 .bf16} {z14 : Vec Ideal S1024x704 .bf16} {z15 : Vec Ideal S2x704x1024 .f32} {z16 : Vec Ideal S704x1024 .f32} {z17 : Vec Ideal S2x8x704 .f32}
  (D : At I j b x2 x3 x4 x5 x6 x7 x8) (hj : (i 0).val = j.val)
  (w : Fin 2 → Fin 4 → Fin 8 → Fin 704 → ℝ) (w0 : k0_cond1 i = 1#1 → ∀ s j k f, w s j k f = 0)
  (w1 : ¬ k0_cond1 i = 1#1 → ∀ s j k f, z12 (ix4 s j k f) = (w s j k f : EReal))
  (p0 : evenRun.sl.v7 i = 1#1 → ∀ (s : Fin 2) (r : Fin 8) (f : Fin 704), I.d2x s (ch j f) ((b.val + 1) * 512 + r.val) = 0)
  (p1 : ¬ evenRun.sl.v7 i = 1#1 → ∀ s r f, z17 (ix3 s r f) = (I.d2x s (ch j f) ((b.val + 1) * 512 + r.val) : EReal))

include w0 w1 in
theorem even_start12 (s : Fin 2) (j : Fin 4) (k : Fin 8) (f : Fin 704) :
    a12.view.read (Elt Ideal) (if hc : k0_cond1 i = 1#1 then a12.view.writes (Elt Ideal) (h12.unread z12)
      [⟨Rect.unit (s := S2x4x8x704) ![0, 0, 0, 0] S2x4x8x704.size inb_S2x4x8x704_S2x4x8x704_0_0_0_0, k0_pay73 (F := Ideal)⟩] else h12.unread z12) (ix4 s j k f) = (w s j k f : EReal) := by
  split_ifs with h
  · refine (View.read_writes_cons_unit_of_mem a12.view _ _ _ _ (ix4 s j k f) (ix4 s j k f) rfl (by intro a; fin_cases a <;> first | rfl | exact (Nat.zero_add _).symm)).trans ?_
    rw [w0 h]; exact pay73_at s j k f
  · exact (congrFun (h12.read_unread z12) _).trans (w1 h s j k f)

include p0 p1 in
theorem even_start17 (s : Fin 2) (r : Fin 8) (f : Fin 704) :
    a17.view.read (Elt Ideal) (if hc : evenRun.sl.v7 i = 1#1 then a17.view.writes (Elt Ideal) (h17.unread z17)
      [⟨Rect.unit (s := S2x8x704) ![0, 0, 0] S2x8x704.size inb_S2x8x704_S2x8x704_0_0_0, k0_pay76 (F := Ideal)⟩] else h17.unread z17) (ix3 s r f)
      = (I.d2x s (ch j f) ((b.val + 1) * 512 + r.val) : EReal) := by
  split_ifs with h
  · refine (View.read_writes_cons_unit_of_mem a17.view _ _ _ _ (ix3 s r f) (ix3 s r f) rfl (by intro a; fin_cases a <;> first | rfl | exact (Nat.zero_add _).symm)).trans ?_
    rw [p0 h]; exact pay76_at s r f
  · exact (congrFun (h17.read_unread z17) _).trans (p1 h s r f)

include p0 p1 in
theorem even_v72 (r : Fin 8) (f : Fin 704) : evenRun.sl.v72 (F := Ideal) c i a17 h17 z17 (ix3 0 r f) = (I.d2x 0 (ch j f) ((b.val + 1) * 512 + r.val) : EReal) := by
  unfold evenRun.sl.v72
  exact (load_at a17 _ _ (ix3 0 r f) (ix3 0 r f) rfl (by intro a; fin_cases a <;> first | rfl | exact (Nat.zero_add _).symm)).trans (even_start17 p0 p1 0 r f)

include p0 p1 in
theorem even_v153 (r : Fin 8) (f : Fin 704) : evenRun.sl.v153 (F := Ideal) c i a17 h17 z17 (ix3 0 r f) = (I.d2x 1 (ch j f) ((b.val + 1) * 512 + r.val) : EReal) := by
  unfold evenRun.sl.v153
  exact (load_at a17 _ _ (ix3 0 r f) (ix3 1 r f) rfl (by intro a; fin_cases a <;> first | rfl | exact (Nat.zero_add _).symm)).trans (even_start17 p0 p1 1 r f)

include hj w0 w1 in
theorem even_v119 (f : Fin 704) : evenRun.sl.v119 (F := Ideal) c i hc3 a12 h12 z12 (ix4 0 0 0 f) = (w 0 j 2 f : EReal) := by
  unfold evenRun.sl.v119
  exact (load_at a12 _ _ (ix4 0 0 0 f) (ix4 0 j 2 f) ((k0_off1_eq i).trans (congrArg (fun n => ![0, n, 2, 0]) hj)) (by intro a; fin_cases a <;> first | rfl | exact (Nat.zero_add _).symm)).trans (even_start12 w w0 w1 0 j 2 f)

include hj w0 w1 in
theorem even_v130 (f : Fin 704) : evenRun.sl.v130 (F := Ideal) c i hc3 a12 h12 z12 (ix4 0 0 0 f) = (w 0 j 1 f : EReal) := by
  unfold evenRun.sl.v130
  exact (load_at a12 _ _ (ix4 0 0 0 f) (ix4 0 j 1 f) ((k0_off2_eq i).trans (congrArg (fun n => ![0, n, 1, 0]) hj)) (by intro a; fin_cases a <;> first | rfl | exact (Nat.zero_add _).symm)).trans (even_start12 w w0 w1 0 j 1 f)

include hj w0 w1 in
theorem even_v141 (f : Fin 704) : evenRun.sl.v141 (F := Ideal) c i hc3 a12 h12 z12 (ix4 0 0 0 f) = (w 0 j 0 f : EReal) := by
  unfold evenRun.sl.v141
  exact (load_at a12 _ _ (ix4 0 0 0 f) (ix4 0 j 0 f) ((k0_off3_eq i).trans (congrArg (fun n => ![0, n, 0, 0]) hj)) (by intro a; fin_cases a <;> first | rfl | exact (Nat.zero_add _).symm)).trans (even_start12 w w0 w1 0 j 0 f)

include hj w0 w1 in
theorem even_v200 (f : Fin 704) : evenRun.sl.v200 (F := Ideal) c i hc3 a12 h12 z12 (ix4 0 0 0 f) = (w 1 j 2 f : EReal) := by
  unfold evenRun.sl.v200
  exact (load_at a12 _ _ (ix4 0 0 0 f) (ix4 1 j 2 f) ((k0_off4_eq i).trans (congrArg (fun n => ![1, n, 2, 0]) hj)) (by intro a; fin_cases a <;> first | rfl | exact (Nat.zero_add _).symm)).trans (even_start12 w w0 w1 1 j 2 f)

include hj w0 w1 in
theorem even_v211 (f : Fin 704) : evenRun.sl.v211 (F := Ideal) c i hc3 a12 h12 z12 (ix4 0 0 0 f) = (w 1 j 1 f : EReal) := by
  unfold evenRun.sl.v211
  exact (load_at a12 _ _ (ix4 0 0 0 f) (ix4 1 j 1 f) ((k0_off5_eq i).trans (congrArg (fun n => ![1, n, 1, 0]) hj)) (by intro a; fin_cases a <;> first | rfl | exact (Nat.zero_add _).symm)).trans (even_start12 w w0 w1 1 j 1 f)

include hj w0 w1 in
theorem even_v222 (f : Fin 704) : evenRun.sl.v222 (F := Ideal) c i hc3 a12 h12 z12 (ix4 0 0 0 f) = (w 1 j 0 f : EReal) := by
  unfold evenRun.sl.v222
  exact (load_at a12 _ _ (ix4 0 0 0 f) (ix4 1 j 0 f) ((k0_off6_eq i).trans (congrArg (fun n => ![1, n, 0, 0]) hj)) (by intro a; fin_cases a <;> first | rfl | exact (Nat.zero_add _).symm)).trans (even_start12 w w0 w1 1 j 0 f)

include D in
theorem even_x (hb : b.val % 2 = 1) (r : Fin 512) (e : Fin 1024) :
    (View.readAt (Elt Ideal) a2.view (Rect.unit (s := S1024x1024) ![512, 0] S512x1024.size inb_S1024x1024_S512x1024_512_0).toLoadRect (h2.unread x2)) (ix2 r e) = (I.ct (rowb b r) e : EReal) :=
  ((load_held a2 h2 x2 _ (ix2 r e) (ix2 ⟨512 + r.val, by omega⟩ e) (by intro a; fin_cases a <;> first | rfl | exact (Nat.zero_add _).symm)).trans (D.ct _ e)).trans
    (congrArg (fun r => ((I.ct r e : ℝ) : EReal)) (Fin.ext (by show b.val / 2 * 1024 + (512 + r.val) = b.val * 512 + r.val; omega)))

include D hj w0 w1 p0 p1 in
set_option maxHeartbeats 400000 in
theorem even_post (hb : b.val % 2 = 1) :
    EvenPost I j b w (evenRun.sl.v7 i = 1#1) (evenRun (F := Ideal) c i hc3 hc4 hc5 a2 h2 a3 h3 a4 h4 a5 h5 a6 h6 a7 h7 a8 h8 a9 h9 a10 h10 a11 h11 a12 h12 a13 h13 a14 h14 a15 h15 a16 h16 a17 h17 x2 x3 x4 x5 x6 x7 x8 z9 z10 z11 z12 z13 z14 z15 z16 z17).1 (evenRun (F := Ideal) c i hc3 hc4 hc5 a2 h2 a3 h3 a4 h4 a5 h5 a6 h6 a7 h7 a8 h8 a9 h9 a10 h10 a11 h11 a12 h12 a13 h13 a14 h14 a15 h15 a16 h16 a17 h17 x2 x3 x4 x5 x6 x7 x8 z9 z10 z11 z12 z13 z14 z15 z16 z17).2.1 (evenRun (F := Ideal) c i hc3 hc4 hc5 a2 h2 a3 h3 a4 h4 a5 h5 a6 h6 a7 h7 a8 h8 a9 h9 a10 h10 a11 h11 a12 h12 a13 h13 a14 h14 a15 h15 a16 h16 a17 h17 x2 x3 x4 x5 x6 x7 x8 z9 z10 z11 z12 z13 z14 z15 z16 z17).2.2.1 (evenRun (F := Ideal) c i hc3 hc4 hc5 a2 h2 a3 h3 a4 h4 a5 h5 a6 h6 a7 h7 a8 h8 a9 h9 a10 h10 a11 h11 a12 h12 a13 h13 a14 h14 a15 h15 a16 h16 a17 h17 x2 x3 x4 x5 x6 x7 x8 z9 z10 z11 z12 z13 z14 z15 z16 z17).2.2.2.1 z15 (evenRun (F := Ideal) c i hc3 hc4 hc5 a2 h2 a3 h3 a4 h4 a5 h5 a6 h6 a7 h7 a8 h8 a9 h9 a10 h10 a11 h11 a12 h12 a13 h13 a14 h14 a15 h15 a16 h16 a17 h17 x2 x3 x4 x5 x6 x7 x8 z9 z10 z11 z12 z13 z14 z15 z16 z17).2.2.2.2.1 z16 (evenRun (F := Ideal) c i hc3 hc4 hc5 a2 h2 a3 h3 a4 h4 a5 h5 a6 h6 a7 h7 a8 h8 a9 h9 a10 h10 a11 h11 a12 h12 a13 h13 a14 h14 a15 h15 a16 h16 a17 h17 x2 x3 x4 x5 x6 x7 x8 z9 z10 z11 z12 z13 z14 z15 z16 z17).2.2.2.2.2.1 (evenRun (F := Ideal) c i hc3 hc4 hc5 a2 h2 a3 h3 a4 h4 a5 h5 a6 h6 a7 h7 a8 h8 a9 h9 a10 h10 a11 h11 a12 h12 a13 h13 a14 h14 a15 h15 a16 h16 a17 h17 x2 x3 x4 x5 x6 x7 x8 z9 z10 z11 z12 z13 z14 z15 z16 z17).2.2.2.2.2.2.1 := by
  have L := loads_of a4 h4 a5 h5 a6 h6 a7 h7 a8 h8 D (View.readAt (Elt Ideal) a2.view (Rect.unit (s := S1024x1024) ![512, 0] S512x1024.size inb_S1024x1024_S512x1024_512_0).toLoadRect (h2.unread x2)) (evenRun.sl.v72 (F := Ideal) c i a17 h17 z17) (evenRun.sl.v153 (F := Ideal) c i a17 h17 z17) (even_x D hb) (even_v72 p0 p1) (even_v153 p0 p1)
  unfold evenRun
  dsimp only
  refine ⟨fun r e => ?_, fun s j' k f => ?_, fun s r f => ?_, fun r f => ?_, fun h s f e => ?_, fun h => ?_, fun h f e => ?_, fun h => ?_, fun s r f => ?_⟩
  · refine (View.read_writes_cons_unit_of_mem a9.view _ _ _ _ (ix3 0 r e) (ix3 0 r e) rfl (by intro a; fin_cases a <;> first | rfl | exact (Nat.zero_add _).symm)).trans ?_
    exact L.dh r e
  · refine rows6 I j b a12.view _ w (even_start12 w w0 w1) ((k0_off1_eq i).trans (congrArg (fun n => ![0, n, 2, 0]) hj)) ((k0_off2_eq i).trans (congrArg (fun n => ![0, n, 1, 0]) hj))
      ((k0_off3_eq i).trans (congrArg (fun n => ![0, n, 0, 0]) hj)) ((k0_off4_eq i).trans (congrArg (fun n => ![1, n, 2, 0]) hj))
      ((k0_off5_eq i).trans (congrArg (fun n => ![1, n, 1, 0]) hj)) ((k0_off6_eq i).trans (congrArg (fun n => ![1, n, 0, 0]) hj))
      _ _ _ _ _ _ _ _ _ _ _ _ (fun f => ?_) (fun f => ?_) (fun f => ?_) (fun f => ?_) (fun f => ?_) (fun f => ?_) s j' k f
    · exact add_wt I j b 0 0 _ _ (fun r f => (L.d0 r f).trans (congrArg _ (Dt_ext I j b 0 r f))) L.a0 _ _ f (even_v119 hj w w0 w1 f)
    · rw [pay22_eq]; exact add_wt I j b 0 1 _ _ L.s01 L.a0 _ _ f (even_v130 hj w w0 w1 f)
    · unfold evenRun.sl.r_6; rw [pay24_eq]; exact add_wt I j b 0 2 _ _ L.s02 L.a0 _ _ f (even_v141 hj w w0 w1 f)
    · rw [pay33_eq]; exact add_wt I j b 1 0 _ _ (fun r f => (L.d1 r f).trans (congrArg _ (Dt_ext I j b 1 r f))) L.a1 _ _ f (even_v200 hj w w0 w1 f)
    · rw [pay34_eq]; exact add_wt I j b 1 1 _ _ L.s11 L.a1 _ _ f (even_v211 hj w w0 w1 f)
    · unfold evenRun.sl.r_11 evenRun.sl.r_12; rw [pay77_eq]; exact add_wt I j b 1 2 _ _ L.s12 L.a1 _ _ f (even_v222 hj w w0 w1 f)
  · obtain ⟨s, hs⟩ := s
    match s, hs with
    | 0, _ =>
      refine (View.read_writes_cons_unit_of_not_mem a13.view _ _ _ _ _ rfl 0 (Or.inl (by decide : 0 < 1))).trans ?_
      refine (View.read_writes_cons_unit_of_mem a13.view _ _ _ _ _ (ix3 0 r f) rfl (by intro a; fin_cases a <;> first | rfl | exact (Nat.zero_add _).symm)).trans ?_
      exact L.f0 r f
    | 1, _ =>
      refine (View.read_writes_cons_unit_of_mem a13.view _ _ _ _ _ (ix3 0 r f) rfl (by intro a; fin_cases a <;> first | rfl | exact (Nat.zero_add _).symm)).trans ?_
      exact L.f1 r f
  · refine (View.read_writes_cons_unit_of_mem a14.view _ _ _ _ _ (ix2 r f) rfl (by intro a; fin_cases a <;> first | rfl | exact (Nat.zero_add _).symm)).trans ?_
    exact L.u r f
  · rw [dif_pos h]
    refine (View.read_writes_cons_unit_of_mem a15.view _ _ _ _ (ix3 s f e) (ix3 s f e) rfl (by intro a; fin_cases a <;> first | rfl | exact (Nat.zero_add _).symm)).trans ?_
    exact pay74_at s f e
  · rw [dif_neg h]
    exact h15.read_unread z15
  · rw [dif_pos h]
    refine (View.read_writes_cons_unit_of_mem a16.view _ _ _ _ (ix2 f e) (ix2 f e) rfl (by intro a; fin_cases a <;> first | rfl | exact (Nat.zero_add _).symm)).trans ?_
    exact pay75_at f e
  · rw [dif_neg h]
    exact h16.read_unread z16
  · obtain ⟨s, hs⟩ := s
    match s, hs with
    | 0, _ =>
      refine (View.read_writes_cons_unit_of_not_mem a17.view _ _ _ _ _ rfl 0 (Or.inl (by decide : 0 < 1))).trans ?_
      refine (View.read_writes_cons_unit_of_mem a17.view _ _ _ _ _ (ix3 0 r f) rfl (by intro a; fin_cases a <;> first | rfl | exact (Nat.zero_add _).symm)).trans ?_
      exact L.c0 r f
    | 1, _ =>
      refine (View.read_writes_cons_unit_of_mem a17.view _ _ _ _ _ (ix3 0 r f) rfl (by intro a; fin_cases a <;> first | rfl | exact (Nat.zero_add _).symm)).trans ?_
      exact L.c1 r f

end

end Cert.FfnVal

end
-- ==== Proof.FfnOdd.lean ====
module

public import proofs.«01_k».proof.Proof.FfnTile

/-! An odd point of the feed-forward kernel over the reals: what its run leaves, from what it finds. -/

@[expose] public section

set_option maxRecDepth 16384

noncomputable section

namespace Cert.FfnVal

open Cert.FfnIdeal Cert.FfnIdeal.Gen Idealize.ShloMosaic Idealize.ShloMosaic.TcCoe Idealize.SL.Sem Cert.Reals

/-- What the point's stores leave. -/
structure OddPost (I : In) (j : Fin 4) (b : Fin 16) (w : Fin 2 → Fin 4 → Fin 8 → Fin 704 → ℝ) (gu : Fin 2 → Fin 704 → Fin 1024 → ℝ) (gd : Fin 704 → Fin 1024 → ℝ) (R : Prop)
    (y9 : Vec Ideal S1x512x1024 .bf16) (z10 y10 : Vec Ideal S2x1x704x1024 .bf16) (z11 y11 : Vec Ideal S704x1024 .bf16) (y12 : Vec Ideal S2x4x8x704 .f32)
    (y15 : Vec Ideal S2x704x1024 .f32) (y16 : Vec Ideal S704x1024 .f32) (y17 : Vec Ideal S2x8x704 .f32) : Prop where
  dh : ∀ r e, y9 (ix3 0 r e) = (I.dhj j (rowb b r) e : EReal)
  taps : ∀ s j' k f, y12 (ix4 s j' k f) = ((w s j' k f + (if j' = j then wk I j b s k f else 0) : ℝ) : EReal)
  up : ∀ s f e, y15 (ix3 s f e) = ((gu s f e + ∑ r : Fin 1024, I.da s (rowp b r) (ch j f) * I.h (rowp b r) e : ℝ) : EReal)
  dn : ∀ f e, y16 (ix2 f e) = ((gd f e + ∑ r : Fin 1024, I.u (rowp b r) (ch j f) * I.ct (rowp b r) e : ℝ) : EReal)
  upo : R → ∀ s f e, y10 (ix4 s 0 f e) = ((gu s f e + ∑ r : Fin 1024, I.da s (rowp b r) (ch j f) * I.h (rowp b r) e : ℝ) : EReal)
  dno : R → ∀ f e, y11 (ix2 f e) = ((gd f e + ∑ r : Fin 1024, I.u (rowp b r) (ch j f) * I.ct (rowp b r) e : ℝ) : EReal)
  upk : ¬ R → y10 = z10
  dnk : ¬ R → y11 = z11
  carry : ∀ s (r : Fin 8) f, y17 (ix3 s r f) = (I.d2x s (ch j f) (b.val * 512 + r.val) : EReal)

section
variable {I : In} {j : Fin 4} {b : Fin 16} {c : Dev nD} {i : grid0.Coords} {hc1 : ¬ k0_cond1 i = 1#1}
  {hc2 : ¬ Scalar.cmpi .ne (Scalar.extui (Scalar.cmpi .eq (BitVec.ofNat 32 (i 1).val) 0#32)) 0#32 = 1#1} {hc3 : ¬ k0_cond3 i = 1#1} {hc4 : k0_cond4 i = 1#1}
  {a2 : Memref sig .tc .vmem S1024x1024 .bf16} {h2 : a2.IsWhole}
  {a3 : Memref sig .tc .vmem S1024x1024 .bf16} {h3 : a3.IsWhole}
  {a4 : Memref sig .tc .vmem S2x1x512x704 .bf16} {h4 : a4.IsWhole}
  {a5 : Memref sig .tc .vmem S2x1x512x704 .bf16} {h5 : a5.IsWhole}
  {a6 : Memref sig .tc .vmem S2x1x704x1024 .bf16} {h6 : a6.IsWhole}
  {a7 : Memref sig .tc .vmem S2x1x8x704 .f32} {h7 : a7.IsWhole}
  {a8 : Memref sig .tc .vmem S704x1024 .bf16} {h8 : a8.IsWhole}
  {a9 : Memref sig .tc .vmem S1x512x1024 .bf16} {h9 : a9.IsWhole}
  {a10 : Memref sig .tc .vmem S2x1x704x1024 .bf16} {h10 : a10.IsWhole}
  {a11 : Memref sig .tc .vmem S704x1024 .bf16} {h11 : a11.IsWhole}
  {a12 : Memref sig .tc .vmem S2x4x8x704 .f32} {h12 : a12.IsWhole}
  {a13 : Memref sig .tc .vmem S2x1024x704 .bf16} {h13 : a13.IsWhole}
  {a14 : Memref sig .tc .vmem S1024x704 .bf16} {h14 : a14.IsWhole}
  {a15 : Memref sig .tc .vmem S2x704x1024 .f32} {h15 : a15.IsWhole}
  {a16 : Memref sig .tc .vmem S704x1024 .f32} {h16 : a16.IsWhole}
  {a17 : Memref sig .tc .vmem S2x8x704 .f32} {h17 : a17.IsWhole}
  {x2 : Vec Ideal S1024x1024 .bf16} {x3 : Vec Ideal S1024x1024 .bf16} {x4 : Vec Ideal S2x1x512x704 .bf16} {x5 : Vec Ideal S2x1x512x704 .bf16} {x6 : Vec Ideal S2x1x704x1024 .bf16} {x7 : Vec Ideal S2x1x8x704 .f32} {x8 : Vec Ideal S704x1024 .bf16}
  {z9 : Vec Ideal S1x512x1024 .bf16} {z10 : Vec Ideal S2x1x704x1024 .bf16} {z11 : Vec Ideal S704x1024 .bf16} {z12 : Vec Ideal S2x4x8x704 .f32} {z13 : Vec Ideal S2x1024x704 .bf16} {z14 : Vec Ideal S1024x704 .bf16} {z15 : Vec Ideal S2x704x1024 .f32} {z16 : Vec Ideal S704x1024 .f32} {z17 : Vec Ideal S2x8x704 .f32}
  (D : At I j b x2 x3 x4 x5 x6 x7 x8) (hj : (i 0).val = j.val) (hb : b.val % 2 = 0)
  (w : Fin 2 → Fin 4 → Fin 8 → Fin 704 → ℝ) (w1 : ∀ s j k f, z12 (ix4 s j k f) = (w s j k f : EReal))
  (p1 : ∀ s r f, z17 (ix3 s r f) = (I.d2x s (ch j f) ((b.val + 1) * 512 + r.val) : EReal))
  (q13 : ∀ s (r : Fin 1024) f, 512 ≤ r.val → z13 (ix3 s r f) = (I.da s (rowp b r) (ch j f) : EReal))
  (q14 : ∀ (r : Fin 1024) f, 512 ≤ r.val → z14 (ix2 r f) = (I.u (rowp b r) (ch j f) : EReal))
  (gu : Fin 2 → Fin 704 → Fin 1024 → ℝ) (gd : Fin 704 → Fin 1024 → ℝ)
  (q15 : ∀ s f e, z15 (ix3 s f e) = (gu s f e : EReal)) (q16 : ∀ f e, z16 (ix2 f e) = (gd f e : EReal))

include w1 in
theorem odd_start12 (s : Fin 2) (j : Fin 4) (k : Fin 8) (f : Fin 704) :
    a12.view.read (Elt Ideal) (h12.unread z12) (ix4 s j k f) = (w s j k f : EReal) :=
  (congrFun (h12.read_unread z12) _).trans (w1 s j k f)

include p1 in
theorem odd_c0 (r : Fin 8) (f : Fin 704) : (View.readAt (Elt Ideal) a17.view (Rect.unit (s := S2x8x704) ![0, 0, 0] S1x8x704.size inb_S2x8x704_S1x8x704_0_0_0).toLoadRect (h17.unread z17)) (ix3 0 r f) = (I.d2x 0 (ch j f) ((b.val + 1) * 512 + r.val) : EReal) :=
  (load_held a17 h17 z17 _ (ix3 0 r f) (ix3 0 r f) (by intro a; fin_cases a <;> first | rfl | exact (Nat.zero_add _).symm)).trans (p1 0 r f)

include p1 in
theorem odd_c1 (r : Fin 8) (f : Fin 704) : oddRun.sl.v153 (F := Ideal) c a17 h17 z17 (ix3 0 r f) = (I.d2x 1 (ch j f) ((b.val + 1) * 512 + r.val) : EReal) := by
  unfold oddRun.sl.v153
  exact (load_held a17 h17 z17 _ (ix3 0 r f) (ix3 1 r f) (by intro a; fin_cases a <;> first | rfl | exact (Nat.zero_add _).symm)).trans (p1 1 r f)

theorem rowp_even (hb : b.val % 2 = 0) (r : Fin 1024) (h : r.val < 512) : rowp b r = rowb b ⟨r.val, h⟩ :=
  Fin.ext (by show b.val / 2 * 1024 + r.val = b.val * 512 + r.val; omega)

include D hb in
theorem odd_x (r : Fin 512) (e : Fin 1024) :
    (View.readAt (Elt Ideal) a2.view (Rect.unit (s := S1024x1024) ![0, 0] S512x1024.size inb_S1024x1024_S512x1024_0_0).toLoadRect (h2.unread x2)) (ix2 r e) = (I.ct (rowb b r) e : EReal) :=
  ((load_held a2 h2 x2 _ (ix2 r e) (ix2 ⟨r.val, by omega⟩ e) (by intro a; fin_cases a <;> first | rfl | exact (Nat.zero_add _).symm)).trans (D.ct _ e)).trans
    (congrArg (fun r => ((I.ct r e : ℝ) : EReal)) (rowp_even hb _ r.isLt))

include hj w1 in
theorem odd_v130 (f : Fin 704) : oddRun.sl.v130 (F := Ideal) c i hc4 a12 h12 z12 (ix4 0 0 0 f) = (w 0 j 1 f : EReal) := by
  unfold oddRun.sl.v130
  exact (load_at a12 _ _ (ix4 0 0 0 f) (ix4 0 j 1 f) ((k0_off8_eq i).trans (congrArg (fun n => ![0, n, 1, 0]) hj)) (by intro a; fin_cases a <;> first | rfl | exact (Nat.zero_add _).symm)).trans (odd_start12 w w1 0 j 1 f)

include hj w1 in
theorem odd_v141 (f : Fin 704) : oddRun.sl.v141 (F := Ideal) c i hc4 a12 h12 z12 (ix4 0 0 0 f) = (w 0 j 0 f : EReal) := by
  unfold oddRun.sl.v141
  exact (load_at a12 _ _ (ix4 0 0 0 f) (ix4 0 j 0 f) ((k0_off9_eq i).trans (congrArg (fun n => ![0, n, 0, 0]) hj)) (by intro a; fin_cases a <;> first | rfl | exact (Nat.zero_add _).symm)).trans (odd_start12 w w1 0 j 0 f)

include hj w1 in
theorem odd_v200 (f : Fin 704) : oddRun.sl.v200 (F := Ideal) c i hc4 a12 h12 z12 (ix4 0 0 0 f) = (w 1 j 2 f : EReal) := by
  unfold oddRun.sl.v200
  exact (load_at a12 _ _ (ix4 0 0 0 f) (ix4 1 j 2 f) ((k0_off10_eq i).trans (congrArg (fun n => ![1, n, 2, 0]) hj)) (by intro a; fin_cases a <;> first | rfl | exact (Nat.zero_add _).symm)).trans (odd_start12 w w1 1 j 2 f)

include hj w1 in
theorem odd_v211 (f : Fin 704) : oddRun.sl.v211 (F := Ideal) c i hc4 a12 h12 z12 (ix4 0 0 0 f) = (w 1 j 1 f : EReal) := by
  unfold oddRun.sl.v211
  exact (load_at a12 _ _ (ix4 0 0 0 f) (ix4 1 j 1 f) ((k0_off11_eq i).trans (congrArg (fun n => ![1, n, 1, 0]) hj)) (by intro a; fin_cases a <;> first | rfl | exact (Nat.zero_add _).symm)).trans (odd_start12 w w1 1 j 1 f)

include hj w1 in
theorem odd_v222 (f : Fin 704) : oddRun.sl.v222 (F := Ideal) c i hc4 a12 h12 z12 (ix4 0 0 0 f) = (w 1 j 0 f : EReal) := by
  unfold oddRun.sl.v222
  exact (load_at a12 _ _ (ix4 0 0 0 f) (ix4 1 j 0 f) ((k0_off12_eq i).trans (congrArg (fun n => ![1, n, 0, 0]) hj)) (by intro a; fin_cases a <;> first | rfl | exact (Nat.zero_add _).symm)).trans (odd_start12 w w1 1 j 0 f)

include h4 h6 D hb p1 q13 in
theorem odd_13 (s : Fin 2) (r : Fin 1024) (f : Fin 704) : a13.view.read (Elt Ideal) (a13.view.writes (Elt Ideal) (h13.unread z13) (oddRun.sl.H13_2 c a2 h2 a5 h5 a7 h7 a8 h8 a17 h17 x2 x5 x7 x8 z17)) (ix3 s r f) = (I.da s (rowp b r) (ch j f) : EReal) := by
  have L := loads_of a4 h4 a5 h5 a6 h6 a7 h7 a8 h8 D (View.readAt (Elt Ideal) a2.view (Rect.unit (s := S1024x1024) ![0, 0] S512x1024.size inb_S1024x1024_S512x1024_0_0).toLoadRect (h2.unread x2)) (View.readAt (Elt Ideal) a17.view (Rect.unit (s := S2x8x704) ![0, 0, 0] S1x8x704.size inb_S2x8x704_S1x8x704_0_0_0).toLoadRect (h17.unread z17)) (oddRun.sl.v153 (F := Ideal) c a17 h17 z17) (odd_x D hb) (odd_c0 p1) (odd_c1 p1)
  unfold oddRun.sl.H13_2
  by_cases h : r.val < 512
  · rw [rowp_even hb r h]
    obtain ⟨s, hs⟩ := s
    match s, hs with
    | 0, _ =>
      refine (View.read_writes_cons_unit_of_not_mem a13.view _ _ _ _ _ rfl 0 (Or.inl (by decide : 0 < 1))).trans ?_
      refine (View.read_writes_cons_unit_of_mem a13.view _ _ _ _ _ (ix3 0 ⟨r.val, h⟩ f) rfl (by intro a; fin_cases a <;> first | rfl | exact (Nat.zero_add _).symm)).trans ?_
      simp only [oddRun.sl.r, oddRun.sl.r_2, pay51_eq, pay43_eq, pay45_eq]
      exact L.f0 _ f
    | 1, _ =>
      refine (View.read_writes_cons_unit_of_mem a13.view _ _ _ _ _ (ix3 0 ⟨r.val, h⟩ f) rfl (by intro a; fin_cases a <;> first | rfl | exact (Nat.zero_add _).symm)).trans ?_
      simp only [oddRun.sl.r_9, oddRun.sl.r_1, pay63_eq, pay61_eq, pay44_eq]
      exact L.f1 _ f
  · refine (View.read_writes_cons_unit_of_not_mem a13.view _ _ _ _ _ rfl 1 (Or.inr (by show 0 + 512 ≤ r.val; omega))).trans ?_
    refine (View.read_writes_cons_unit_of_not_mem a13.view _ _ _ _ _ rfl 1 (Or.inr (by show 0 + 512 ≤ r.val; omega))).trans ?_
    exact (congrFun (h13.read_unread z13) _).trans (q13 s r f (by omega))

include D hb q14 in
theorem odd_14 (r : Fin 1024) (f : Fin 704) : oddRun.sl.v264 (F := Ideal) c a5 h5 a14 h14 x5 z14 (ix2 r f) = (I.u (rowp b r) (ch j f) : EReal) := by
  unfold oddRun.sl.v264
  refine (load_at a14 _ _ (ix2 r f) (ix2 r f) rfl (by intro a; fin_cases a <;> first | rfl | exact (Nat.zero_add _).symm)).trans ?_
  unfold oddRun.sl.H14_1
  by_cases h : r.val < 512
  · rw [rowp_even hb r h]
    refine (View.read_writes_cons_unit_of_mem a14.view _ _ _ _ _ (ix2 ⟨r.val, h⟩ f) rfl (by intro a; fin_cases a <;> first | rfl | exact (Nat.zero_add _).symm)).trans ?_
    rw [pay42_eq]
    exact (pay10_at _ _ (fun r f => I.g (rowb b r) (ch j f)) (fun r f => I.v (rowb b r) (ch j f))
      (fun r f => (load_held a5 h5 x5 _ (ix4 0 0 r f) (ix4 0 0 r f) (by intro a; fin_cases a <;> first | rfl | exact (Nat.zero_add _).symm)).trans (D.cv 0 r f))
      (fun r f => (load_held a5 h5 x5 _ (ix4 0 0 r f) (ix4 1 0 r f) (by intro a; fin_cases a <;> first | rfl | exact (Nat.zero_add _).symm)).trans (D.cv 1 r f)) _ f).trans rfl
  · refine (View.read_writes_cons_unit_of_not_mem a14.view _ _ _ _ _ rfl 0 (Or.inr (by show 0 + 512 ≤ r.val; omega))).trans ?_
    exact (congrFun (h14.read_unread z14) _).trans (q14 r f (by omega))

include D in
theorem odd_h (r e : Fin 1024) : k0_pay71 (F := Ideal) (View.readAt (Elt Ideal) a3.view (Rect.unit (s := S1024x1024) ![0, 0] S1024x1024.size inb_S1024x1024_S1024x1024_0_0).toLoadRect (h3.unread x3)) (ix2 r e) = (I.h (rowp b r) e : EReal) :=
  (pay71_at _ r e).trans ((load_held a3 h3 x3 _ (ix2 r e) (ix2 r e) (by intro a; fin_cases a <;> first | rfl | exact (Nat.zero_add _).symm)).trans (D.h r e))

include h4 h6 D hb p1 q13 q15 in
theorem odd_15 (g : a15.view.ty.Contents (Elt Ideal)) (s : Fin 2) (f : Fin 704) (e : Fin 1024) :
    a15.view.read (Elt Ideal) (a15.view.writes (Elt Ideal) g (oddRun.sl.H15_2 c a2 h2 a3 h3 a5 h5 a7 h7 a8 h8 a13 h13 a15 h15 a17 h17 x2 x3 x5 x7 x8 z13 z15 z17)) (ix3 s f e)
      = ((gu s f e + ∑ r : Fin 1024, I.da s (rowp b r) (ch j f) * I.h (rowp b r) e : ℝ) : EReal) := by
  have hd := fun s r f => odd_13 (c := c) (a4 := a4) (h4 := h4) (a6 := a6) (h6 := h6) (a2 := a2) (h2 := h2) (a5 := a5) (h5 := h5) (a7 := a7) (h7 := h7) (a8 := a8) (h8 := h8) (a13 := a13) (h13 := h13) (a17 := a17) (h17 := h17) D hb p1 q13 s r f
  have hh := fun r e => odd_h (a3 := a3) (h3 := h3) D r e
  unfold oddRun.sl.H15_2
  obtain ⟨s, hs⟩ := s
  match s, hs with
  | 0, _ =>
    refine (View.read_writes_cons_unit_of_not_mem a15.view _ _ _ _ _ rfl 0 (Or.inl (by decide : 0 < 1))).trans ?_
    refine (View.read_writes_cons_unit_of_mem a15.view _ _ _ _ _ (ix3 0 f e) rfl (by intro a; fin_cases a <;> first | rfl | exact (Nat.zero_add _).symm)).trans ?_
    unfold oddRun.sl.r_14
    rw [pay72_eq]
    refine (pay1_at _ _ _ (fun r e => I.h (rowp b r) e) (fun r f => I.da 0 (rowp b r) (ch j f)) hh (fun r f => ?_) f e).trans ?_
    · unfold oddRun.sl.v247
      exact (load_at a13 _ _ (ix3 0 r f) (ix3 0 r f) rfl (by intro a; fin_cases a <;> first | rfl | exact (Nat.zero_add _).symm)).trans (hd 0 r f)
    · rw [EReal.coe_add]
      exact congrArg (· + _) ((load_held a15 h15 z15 _ (ix3 0 f e) (ix3 0 f e) (by intro a; fin_cases a <;> first | rfl | exact (Nat.zero_add _).symm)).trans (q15 0 f e))
  | 1, _ =>
    refine (View.read_writes_cons_unit_of_mem a15.view _ _ _ _ _ (ix3 0 f e) rfl (by intro a; fin_cases a <;> first | rfl | exact (Nat.zero_add _).symm)).trans ?_
    unfold oddRun.sl.r_13
    refine (pay1_at _ _ _ (fun r e => I.h (rowp b r) e) (fun r f => I.da 1 (rowp b r) (ch j f)) hh (fun r f => ?_) f e).trans ?_
    · unfold oddRun.sl.v256
      exact (load_at a13 _ _ (ix3 0 r f) (ix3 1 r f) rfl (by intro a; fin_cases a <;> first | rfl | exact (Nat.zero_add _).symm)).trans (hd 1 r f)
    · rw [EReal.coe_add]
      unfold oddRun.sl.v254
      exact congrArg (· + _) ((load_held a15 h15 z15 _ (ix3 0 f e) (ix3 1 f e) (by intro a; fin_cases a <;> first | rfl | exact (Nat.zero_add _).symm)).trans (q15 1 f e))

include D hb q14 q16 in
theorem odd_16 (g : a16.view.ty.Contents (Elt Ideal)) (f : Fin 704) (e : Fin 1024) :
    a16.view.read (Elt Ideal) (a16.view.writes (Elt Ideal) g (oddRun.sl.H16_1 c a2 h2 a5 h5 a14 h14 a16 h16 x2 x5 z14 z16)) (ix2 f e)
      = ((gd f e + ∑ r : Fin 1024, I.u (rowp b r) (ch j f) * I.ct (rowp b r) e : ℝ) : EReal) := by
  unfold oddRun.sl.H16_1
  refine (View.read_writes_cons_unit_of_mem a16.view _ _ _ _ _ (ix2 f e) rfl (by intro a; fin_cases a <;> first | rfl | exact (Nat.zero_add _).symm)).trans ?_
  refine (pay2_at _ _ _ (fun r e => I.ct (rowp b r) e) (fun r f => I.u (rowp b r) (ch j f)) (fun r e => ?_) (odd_14 D hb q14) f e).trans ?_
  · exact (load_held a2 h2 x2 _ (ix2 r e) (ix2 r e) (by intro a; fin_cases a <;> first | rfl | exact (Nat.zero_add _).symm)).trans (D.ct r e)
  · rw [EReal.coe_add]
    exact congrArg (· + _) ((load_held a16 h16 z16 _ (ix2 f e) (ix2 f e) (by intro a; fin_cases a <;> first | rfl | exact (Nat.zero_add _).symm)).trans (q16 f e))

include D hj hb w1 p1 q13 q14 q15 q16 in
set_option maxHeartbeats 400000 in
theorem odd_post :
    OddPost I j b w gu gd (k0_cond5 i = 1#1) (oddRun (F := Ideal) c i hc1 hc2 hc3 hc4 a2 h2 a3 h3 a4 h4 a5 h5 a6 h6 a7 h7 a8 h8 a9 h9 a10 h10 a11 h11 a12 h12 a13 h13 a14 h14 a15 h15 a16 h16 a17 h17 x2 x3 x4 x5 x6 x7 x8 z9 z10 z11 z12 z13 z14 z15 z16 z17).1 z10 (oddRun (F := Ideal) c i hc1 hc2 hc3 hc4 a2 h2 a3 h3 a4 h4 a5 h5 a6 h6 a7 h7 a8 h8 a9 h9 a10 h10 a11 h11 a12 h12 a13 h13 a14 h14 a15 h15 a16 h16 a17 h17 x2 x3 x4 x5 x6 x7 x8 z9 z10 z11 z12 z13 z14 z15 z16 z17).2.1 z11 (oddRun (F := Ideal) c i hc1 hc2 hc3 hc4 a2 h2 a3 h3 a4 h4 a5 h5 a6 h6 a7 h7 a8 h8 a9 h9 a10 h10 a11 h11 a12 h12 a13 h13 a14 h14 a15 h15 a16 h16 a17 h17 x2 x3 x4 x5 x6 x7 x8 z9 z10 z11 z12 z13 z14 z15 z16 z17).2.2.1 (oddRun (F := Ideal) c i hc1 hc2 hc3 hc4 a2 h2 a3 h3 a4 h4 a5 h5 a6 h6 a7 h7 a8 h8 a9 h9 a10 h10 a11 h11 a12 h12 a13 h13 a14 h14 a15 h15 a16 h16 a17 h17 x2 x3 x4 x5 x6 x7 x8 z9 z10 z11 z12 z13 z14 z15 z16 z17).2.2.2.1 (oddRun (F := Ideal) c i hc1 hc2 hc3 hc4 a2 h2 a3 h3 a4 h4 a5 h5 a6 h6 a7 h7 a8 h8 a9 h9 a10 h10 a11 h11 a12 h12 a13 h13 a14 h14 a15 h15 a16 h16 a17 h17 x2 x3 x4 x5 x6 x7 x8 z9 z10 z11 z12 z13 z14 z15 z16 z17).2.2.2.2.2.2.1 (oddRun (F := Ideal) c i hc1 hc2 hc3 hc4 a2 h2 a3 h3 a4 h4 a5 h5 a6 h6 a7 h7 a8 h8 a9 h9 a10 h10 a11 h11 a12 h12 a13 h13 a14 h14 a15 h15 a16 h16 a17 h17 x2 x3 x4 x5 x6 x7 x8 z9 z10 z11 z12 z13 z14 z15 z16 z17).2.2.2.2.2.2.2.1 (oddRun (F := Ideal) c i hc1 hc2 hc3 hc4 a2 h2 a3 h3 a4 h4 a5 h5 a6 h6 a7 h7 a8 h8 a9 h9 a10 h10 a11 h11 a12 h12 a13 h13 a14 h14 a15 h15 a16 h16 a17 h17 x2 x3 x4 x5 x6 x7 x8 z9 z10 z11 z12 z13 z14 z15 z16 z17).2.2.2.2.2.2.2.2.1 := by
  have L := loads_of a4 h4 a5 h5 a6 h6 a7 h7 a8 h8 D (View.readAt (Elt Ideal) a2.view (Rect.unit (s := S1024x1024) ![0, 0] S512x1024.size inb_S1024x1024_S512x1024_0_0).toLoadRect (h2.unread x2)) (View.readAt (Elt Ideal) a17.view (Rect.unit (s := S2x8x704) ![0, 0, 0] S1x8x704.size inb_S2x8x704_S1x8x704_0_0_0).toLoadRect (h17.unread z17)) (oddRun.sl.v153 (F := Ideal) c a17 h17 z17) (odd_x D hb) (odd_c0 p1) (odd_c1 p1)
  unfold oddRun
  dsimp only
  refine ⟨fun r e => ?_, fun s j' k f => ?_, fun s f e => ?_, fun f e => ?_, fun h s f e => ?_, fun h f e => ?_, fun h => ?_, fun h => ?_, fun s r f => ?_⟩
  · unfold oddRun.sl.H9_1
    refine (View.read_writes_cons_unit_of_mem a9.view _ _ _ _ (ix3 0 r e) (ix3 0 r e) rfl (by intro a; fin_cases a <;> first | rfl | exact (Nat.zero_add _).symm)).trans ?_
    simp only [oddRun.sl.r_5, oddRun.sl.r_10, oddRun.sl.r_9, oddRun.sl.r, oddRun.sl.r_1, oddRun.sl.r_2, pay70_eq, pay50_eq, pay62_eq, pay61_eq, pay43_eq, pay44_eq, pay45_eq]
    exact L.dh r e
  · unfold oddRun.sl.H12_6
    refine rows6 I j b a12.view _ w (odd_start12 w w1) ((k0_off7_eq i).trans (congrArg (fun n => ![0, n, 2, 0]) hj)) ((k0_off8_eq i).trans (congrArg (fun n => ![0, n, 1, 0]) hj))
      ((k0_off9_eq i).trans (congrArg (fun n => ![0, n, 0, 0]) hj)) ((k0_off10_eq i).trans (congrArg (fun n => ![1, n, 2, 0]) hj))
      ((k0_off11_eq i).trans (congrArg (fun n => ![1, n, 1, 0]) hj)) ((k0_off12_eq i).trans (congrArg (fun n => ![1, n, 0, 0]) hj))
      _ _ _ _ _ _ _ _ _ _ _ _ (fun f => ?_) (fun f => ?_) (fun f => ?_) (fun f => ?_) (fun f => ?_) (fun f => ?_) s j' k f
    · simp only [oddRun.sl.r, pay53_eq, pay43_eq]
      exact add_wt I j b 0 0 _ _ (fun r f => (L.d0 r f).trans (congrArg _ (Dt_ext I j b 0 r f))) L.a0 _ _ f
        ((load_at a12 _ _ (ix4 0 0 0 f) (ix4 0 j 2 f) ((k0_off7_eq i).trans (congrArg (fun n => ![0, n, 2, 0]) hj)) (by intro a; fin_cases a <;> first | rfl | exact (Nat.zero_add _).symm)).trans (odd_start12 w w1 0 j 2 f))
    · simp only [oddRun.sl.r_3, oddRun.sl.r, pay54_eq, pay22_eq, pay47_eq, pay43_eq]
      exact add_wt I j b 0 1 _ _ L.s01 L.a0 _ _ f (odd_v130 hj w w1 f)
    · simp only [oddRun.sl.r_6, oddRun.sl.r_4, oddRun.sl.r, pay55_eq, pay56_eq, pay24_eq, pay48_eq, pay43_eq]
      exact add_wt I j b 0 2 _ _ L.s02 L.a0 _ _ f (odd_v141 hj w w1 f)
    · simp only [oddRun.sl.r_1, pay65_eq, pay33_eq, pay44_eq]
      exact add_wt I j b 1 0 _ _ (fun r f => (L.d1 r f).trans (congrArg _ (Dt_ext I j b 1 r f))) L.a1 _ _ f (odd_v200 hj w w1 f)
    · simp only [oddRun.sl.r_7, oddRun.sl.r_1, pay66_eq, pay34_eq, pay58_eq, pay44_eq]
      exact add_wt I j b 1 1 _ _ L.s11 L.a1 _ _ f (odd_v211 hj w w1 f)
    · simp only [oddRun.sl.r_11, oddRun.sl.r_12, oddRun.sl.r_8, oddRun.sl.r_1, pay69_eq, pay67_eq, pay68_eq, pay77_eq, pay59_eq, pay44_eq]
      exact add_wt I j b 1 2 _ _ L.s12 L.a1 _ _ f (odd_v222 hj w w1 f)
  · exact odd_15 (h4 := h4) (h6 := h6) D hb p1 q13 gu q15 _ s f e
  · exact odd_16 D hb q14 gd q16 _ f e
  · rw [dif_pos h]
    refine (View.read_writes_cons_unit_of_mem a10.view _ _ _ _ (ix4 s 0 f e) (ix4 s 0 f e) rfl (by intro a; fin_cases a <;> first | rfl | exact (Nat.zero_add _).symm)).trans ?_
    refine (pay3_at _ s f e).trans ?_
    unfold oddRun.sl.v37
    exact (load_at a15 _ _ (ix3 s f e) (ix3 s f e) rfl (by intro a; fin_cases a <;> first | rfl | exact (Nat.zero_add _).symm)).trans (odd_15 (h4 := h4) (h6 := h6) D hb p1 q13 gu q15 _ s f e)
  · rw [dif_pos h]
    refine (View.read_writes_cons_unit_of_mem a11.view _ _ _ _ (ix2 f e) (ix2 f e) rfl (by intro a; fin_cases a <;> first | rfl | exact (Nat.zero_add _).symm)).trans ?_
    refine (pay4_at _ f e).trans ?_
    unfold oddRun.sl.v42
    exact (load_at a16 _ _ (ix2 f e) (ix2 f e) rfl (by intro a; fin_cases a <;> first | rfl | exact (Nat.zero_add _).symm)).trans (odd_16 D hb q14 gd q16 _ f e)
  · rw [dif_neg h]
    exact h10.read_unread z10
  · rw [dif_neg h]
    exact h11.read_unread z11
  · unfold oddRun.sl.H17_2
    obtain ⟨s, hs⟩ := s
    match s, hs with
    | 0, _ =>
      refine (View.read_writes_cons_unit_of_not_mem a17.view _ _ _ _ _ rfl 0 (Or.inl (by decide : 0 < 1))).trans ?_
      refine (View.read_writes_cons_unit_of_mem a17.view _ _ _ _ _ (ix3 0 r f) rfl (by intro a; fin_cases a <;> first | rfl | exact (Nat.zero_add _).symm)).trans ?_
      simp only [oddRun.sl.r, pay49_eq, pay43_eq]
      exact L.c0 r f
    | 1, _ =>
      refine (View.read_writes_cons_unit_of_mem a17.view _ _ _ _ _ (ix3 0 r f) rfl (by intro a; fin_cases a <;> first | rfl | exact (Nat.zero_add _).symm)).trans ?_
      simp only [oddRun.sl.r_1, pay60_eq, pay44_eq]
      exact L.c1 r f

end

end Cert.FfnVal

end
-- ==== Proof.FfnSums.lean ====
module

public import proofs.«01_k».proof.Proof.FfnTile

/-! The feed-forward kernel's running sums over its grid points, and what they come to. -/

@[expose] public section

set_option maxRecDepth 16384

noncomputable section

namespace Cert.FfnVal

open Cert.FfnIdeal Cert.FfnIdeal.Gen Idealize.ShloMosaic Cert.Reals

/-- The chunk and the tile of a grid point: chunks in order, tiles from the last. -/
def jn (n : ℕ) : Fin 4 := ⟨n / 16 % 4, by omega⟩

def bn (n : ℕ) : Fin 16 := ⟨15 - n % 16, by omega⟩

theorem jn_val (n : ℕ) : (jn n).val = n / 16 % 4 := rfl

theorem bn_val (n : ℕ) : (bn n).val = 15 - n % 16 := rfl

theorem jn_succ (n : ℕ) (h : (n + 1) % 16 ≠ 0) : jn (n + 1) = jn n := Fin.ext (by simp only [jn_val]; omega)

variable (I : In)

/-- The taps' gradient after the first `n` points. -/
def tapsAt (n : ℕ) (s : Fin 2) (j : Fin 4) (k : Fin 8) (f : Fin 704) : ℝ :=
  ∑ q ∈ Finset.range n, if j = jn q then wk I (jn q) (bn q) s k f else 0

theorem tapsAt_zero (s : Fin 2) (j : Fin 4) (k : Fin 8) (f : Fin 704) : tapsAt I 0 s j k f = 0 := Finset.sum_range_zero _

theorem tapsAt_succ (n : ℕ) (s : Fin 2) (j : Fin 4) (k : Fin 8) (f : Fin 704) :
    tapsAt I (n + 1) s j k f = tapsAt I n s j k f + (if j = jn n then wk I (jn n) (bn n) s k f else 0) := Finset.sum_range_succ _ _

/-- The two projections' gradients in a chunk after `p` pairs of tiles. -/
def upAt (j : Fin 4) (p : ℕ) (s : Fin 2) (f : Fin 704) (e : Fin 1024) : ℝ :=
  ∑ q ∈ Finset.range p, ∑ r : Fin 1024, I.da s (rowp (bn (2 * q + 1)) r) (ch j f) * I.h (rowp (bn (2 * q + 1)) r) e

def dnAt (j : Fin 4) (p : ℕ) (f : Fin 704) (e : Fin 1024) : ℝ :=
  ∑ q ∈ Finset.range p, ∑ r : Fin 1024, I.u (rowp (bn (2 * q + 1)) r) (ch j f) * I.ct (rowp (bn (2 * q + 1)) r) e

theorem upAt_zero (j : Fin 4) (s : Fin 2) (f : Fin 704) (e : Fin 1024) : upAt I j 0 s f e = 0 := Finset.sum_range_zero _

theorem dnAt_zero (j : Fin 4) (f : Fin 704) (e : Fin 1024) : dnAt I j 0 f e = 0 := Finset.sum_range_zero _

theorem bn_odd (n : ℕ) (h : n % 2 = 1) : bn (2 * (n % 16 / 2) + 1) = bn n := Fin.ext (by simp only [bn_val]; omega)

theorem upAt_next (n : ℕ) (h : n % 2 = 1) (j : Fin 4) (s : Fin 2) (f : Fin 704) (e : Fin 1024) :
    upAt I j (n % 16 / 2 + 1) s f e = upAt I j (n % 16 / 2) s f e + ∑ r : Fin 1024, I.da s (rowp (bn n) r) (ch j f) * I.h (rowp (bn n) r) e := by
  unfold upAt; rw [Finset.sum_range_succ, bn_odd n h]

theorem dnAt_next (n : ℕ) (h : n % 2 = 1) (j : Fin 4) (f : Fin 704) (e : Fin 1024) :
    dnAt I j (n % 16 / 2 + 1) f e = dnAt I j (n % 16 / 2) f e + ∑ r : Fin 1024, I.u (rowp (bn n) r) (ch j f) * I.ct (rowp (bn n) r) e := by
  unfold dnAt; rw [Finset.sum_range_succ, bn_odd n h]

/-- A sum over rows, by the blocks they are in. -/
theorem sum_blocks (m n : ℕ) (F : ℕ → ℝ) : ∑ t : Fin (m * n), F t.val = ∑ p : Fin m, ∑ r : Fin n, F (p.val * n + r.val) := by
  rw [← finProdFinEquiv.sum_comp (fun t : Fin (m * n) => F t.val), Fintype.sum_prod_type]
  exact Finset.sum_congr rfl fun p _ => Finset.sum_congr rfl fun r _ => congrArg F (by
    show r.val + n * p.val = p.val * n + r.val
    rw [Nat.mul_comm, Nat.add_comm])

theorem sum_pairs (F : Fin 8192 → ℝ) : (∑ q ∈ Finset.range 8, ∑ r : Fin 1024, F (rowp (bn (2 * q + 1)) r)) = ∑ t, F t := by
  have h := sum_blocks 8 1024 (ext F)
  have e : (∑ t : Fin 8192, F t) = ∑ p : Fin 8, ∑ r : Fin 1024, ext F (p.val * 1024 + r.val) :=
    (Finset.sum_congr rfl fun t _ => (ext_lt F t).symm).trans h
  rw [e, ← Fin.sum_univ_eq_sum_range (fun q => ∑ r : Fin 1024, F (rowp (bn (2 * q + 1)) r)) 8, ← Equiv.sum_comp Fin.revPerm]
  refine Finset.sum_congr rfl fun p _ => Finset.sum_congr rfl fun r _ => ?_
  refine (ext_lt F _).symm.trans (congrArg (ext F) ?_)
  show (15 - (2 * (Fin.rev p).val + 1) % 16) / 2 * 1024 + r.val = p.val * 1024 + r.val
  rw [Fin.val_rev]
  omega

theorem upAt_last (j : Fin 4) (s : Fin 2) (f : Fin 704) (e : Fin 1024) : upAt I j 8 s f e = I.gup s (ch j f) e :=
  sum_pairs fun t => I.da s t (ch j f) * I.h t e

theorem dnAt_last (j : Fin 4) (f : Fin 704) (e : Fin 1024) : dnAt I j 8 f e = I.gdn (ch j f) e :=
  sum_pairs fun t => I.u t (ch j f) * I.ct t e

/-- The taps' gradient at the end: its three rows, and zero in the other five. -/
theorem tapsAt_tiles (s : Fin 2) (j : Fin 4) (k : Fin 8) (f : Fin 704) : tapsAt I 64 s j k f = ∑ b : Fin 16, wk I j b s k f := by
  unfold tapsAt
  rw [← Fin.sum_univ_eq_sum_range (fun q => if j = jn q then wk I (jn q) (bn q) s k f else 0) 64,
    show (∑ q : Fin 64, if j = jn q.val then wk I (jn q.val) (bn q.val) s k f else 0) = _ from
      sum_blocks 4 16 (fun q => if j = jn q then wk I (jn q) (bn q) s k f else 0)]
  rw [Finset.sum_eq_single j]
  · rw [← Equiv.sum_comp Fin.revPerm]
    refine Finset.sum_congr rfl fun b _ => ?_
    have h1 : jn (j.val * 16 + (Fin.revPerm b).val) = j := Fin.ext (by rw [jn_val, Fin.revPerm_apply, Fin.val_rev]; omega)
    have h2 : bn (j.val * 16 + (Fin.revPerm b).val) = b := Fin.ext (by rw [bn_val, Fin.revPerm_apply, Fin.val_rev]; omega)
    rw [h1, h2, if_pos rfl]
  · intro i _ hi
    refine Finset.sum_eq_zero fun b _ => if_neg fun h => hi ?_
    have h1 : jn (i.val * 16 + b.val) = i := Fin.ext (by rw [jn_val]; omega)
    exact (h.trans h1).symm
  · exact fun h => absurd (Finset.mem_univ j) h

theorem wt_sum (j : Fin 4) (s : Fin 2) (n : ℕ) (f : Fin 704) :
    (∑ b : Fin 16, wt I j b s n f) = ∑ t : Fin 8192, I.a t (col s (ch j f)) * I.d2x s (ch j f) (t.val + n) := by
  have h := sum_blocks 16 512 (fun t => ext (fun t => I.a t (col s (ch j f))) t * I.d2x s (ch j f) (t + n))
  refine Eq.trans ?_ (h.symm.trans (Finset.sum_congr rfl fun t _ => ?_))
  · refine Finset.sum_congr rfl fun b _ => Finset.sum_congr rfl fun r _ => ?_
    exact congrArg (· * I.d2x s (ch j f) (b.val * 512 + r.val + n)) (ext_lt (fun t => I.a t (col s (ch j f))) (rowb b r)).symm
  · exact congrArg (· * I.d2x s (ch j f) (t.val + n)) (ext_lt (fun t => I.a t (col s (ch j f))) t)

theorem tapsAt_last (s : Fin 2) (j : Fin 4) (k : Fin 8) (f : Fin 704) :
    tapsAt I 64 s j k f = if h : k.val < 3 then I.gdw s ⟨k.val, h⟩ (ch j f) else 0 := by
  rw [tapsAt_tiles]
  have z : ∀ b, 3 ≤ k.val → wk I j b s k f = 0 := fun b h => by
    unfold wk; rw [if_neg (by omega), if_neg (by omega), if_neg (by omega)]
  split_ifs with h
  · unfold In.gdw
    rw [← wt_sum]
    refine Finset.sum_congr rfl fun b _ => ?_
    unfold wk
    show _ = wt I j b s (2 - k.val) f
    split_ifs with h0 h1 h2
    · rw [h0]
    · rw [h1]
    · rw [h2]
    · omega
  · exact Finset.sum_eq_zero fun b _ => z b (by omega)

end Cert.FfnVal

end
-- ==== Proof.FfnPoint.lean ====
module

public import proofs.«01_k».proof.Proof.FfnFrame
public import proofs.«01_k».proof.Proof.FfnEven
public import proofs.«01_k».proof.Proof.FfnOdd
public import proofs.«01_k».proof.Proof.FfnSums
public import Idealize.ShloMosaic.Lib.Pipeline.Covers

/-! The feed-forward kernel at a point of its grid, even or odd: the run and what it leaves, as one statement. -/

@[expose] public section

set_option maxRecDepth 16384

noncomputable section

namespace Cert.FfnVal

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

/-! ## What the grid's points decide -/

theorem three_iff : ∀ t : Fin cfg0.N, k0_cond3 (grid0.coords t) = 1#1 ↔ t.val % 2 = 0 :=
  (by decide +kernel : ∀ t : Fin grid0.N, k0_cond3 (grid0.coords t) = 1#1 ↔ t.val % 2 = 0)
theorem four_iff : ∀ t : Fin cfg0.N, k0_cond4 (grid0.coords t) = 1#1 ↔ t.val % 2 = 1 :=
  (by decide +kernel : ∀ t : Fin grid0.N, k0_cond4 (grid0.coords t) = 1#1 ↔ t.val % 2 = 1)
theorem five_iff : ∀ t : Fin cfg0.N, k0_cond5 (grid0.coords t) = 1#1 ↔ t.val % 16 = 15 :=
  (by decide +kernel : ∀ t : Fin grid0.N, k0_cond5 (grid0.coords t) = 1#1 ↔ t.val % 16 = 15)
theorem one_iff : ∀ t : Fin cfg0.N, k0_cond1 (grid0.coords t) = 1#1 ↔ t.val = 0 :=
  (by decide +kernel : ∀ t : Fin grid0.N, k0_cond1 (grid0.coords t) = 1#1 ↔ t.val = 0)
theorem two_iff : ∀ t : Fin cfg0.N, evenRun.sl.v7 (grid0.coords t) = 1#1 ↔ t.val % 16 = 0 :=
  (by decide +kernel : ∀ t : Fin grid0.N, evenRun.sl.v7 (grid0.coords t) = 1#1 ↔ t.val % 16 = 0)
theorem two_iff' : ∀ t : Fin cfg0.N, Scalar.cmpi .ne (Scalar.extui (Scalar.cmpi .eq (BitVec.ofNat 32 (grid0.coords t 1).val) 0#32)) 0#32 = 1#1 ↔ t.val % 16 = 0 :=
  (by decide +kernel : ∀ t : Fin grid0.N, Scalar.cmpi .ne (Scalar.extui (Scalar.cmpi .eq (BitVec.ofNat 32 (grid0.coords t 1).val) 0#32)) 0#32 = 1#1 ↔ t.val % 16 = 0)
theorem chunk_of : ∀ t : Fin cfg0.N, (grid0.coords t 0).val = t.val / 16 :=
  (by decide +kernel : ∀ t : Fin grid0.N, (grid0.coords t 0).val = t.val / 16)
theorem idle7 : ∀ t : Fin cfg0.N, cfg0.idle 7 (cfg0.grid.coords t) = false :=
  (by decide +kernel : ∀ t : Fin grid0.N, idle0 7 (grid0.coords t) = false)
theorem idle8 : ∀ t : Fin cfg0.N, cfg0.idle 8 (cfg0.grid.coords t) = !decide (t.val % 16 = 15) :=
  (by decide +kernel : ∀ t : Fin grid0.N, idle0 8 (grid0.coords t) = !decide (t.val % 16 = 15))
theorem idle9 : ∀ t : Fin cfg0.N, cfg0.idle 9 (cfg0.grid.coords t) = !decide (t.val % 16 = 15) :=
  (by decide +kernel : ∀ t : Fin grid0.N, idle0 9 (grid0.coords t) = !decide (t.val % 16 = 15))
theorem idle10 : ∀ t : Fin cfg0.N, cfg0.idle 10 (cfg0.grid.coords t) = false :=
  (by decide +kernel : ∀ t : Fin grid0.N, idle0 10 (grid0.coords t) = false)
theorem live10 (i : cfg0.grid.Coords) : cfg0.idle 10 i = false := by
  obtain ⟨t, rfl⟩ := cfg0.grid.coords_surjective i
  exact idle10 t

/-! ## The kernel's own buffers -/

abbrev scr0 : Memref sig .tc .vmem S2x1024x704 .bf16 := Memref.whole cc0_scratch0
abbrev scr1 : Memref sig .tc .vmem S1024x704 .bf16 := Memref.whole cc0_scratch1
abbrev scr2 : Memref sig .tc .vmem S2x704x1024 .f32 := Memref.whole cc0_scratch2
abbrev scr3 : Memref sig .tc .vmem S704x1024 .f32 := Memref.whole cc0_scratch3
abbrev scr4 : Memref sig .tc .vmem S2x8x704 .f32 := Memref.whole cc0_scratch4

section
variable {I : In} (c : Dev nD) (t : Fin cfg0.N) {x2 : Vec Ideal S1024x1024 .bf16} {x3 : Vec Ideal S1024x1024 .bf16} {x4 : Vec Ideal S2x1x512x704 .bf16} {x5 : Vec Ideal S2x1x512x704 .bf16} {x6 : Vec Ideal S2x1x704x1024 .bf16} {x7 : Vec Ideal S2x1x8x704 .f32} {x8 : Vec Ideal S704x1024 .bf16}
  (D : At I (jn t.val) (bn t.val) x2 x3 x4 x5 x6 x7 x8)
  (z9 : Vec Ideal S1x512x1024 .bf16) (z10 : Vec Ideal S2x1x704x1024 .bf16) (z11 : Vec Ideal S704x1024 .bf16) (z12 : Vec Ideal S2x4x8x704 .f32) (z13 : Vec Ideal S2x1024x704 .bf16) (z14 : Vec Ideal S1024x704 .bf16) (z15 : Vec Ideal S2x704x1024 .f32) (z16 : Vec Ideal S704x1024 .f32) (z17 : Vec Ideal S2x8x704 .f32)

include D in
theorem even_at (ht : t.val % 2 = 0)
    (w1 : t.val ≠ 0 → ∀ s j k f, z12 (ix4 s j k f) = (tapsAt I t.val s j k f : EReal))
    (p1 : t.val % 16 ≠ 0 → ∀ s (r : Fin 8) f, z17 (ix3 s r f) = (I.d2x s (ch (jn t.val) f) (((bn t.val).val + 1) * 512 + r.val) : EReal)) :
    ∃ (y9 : Vec Ideal S1x512x1024 .bf16) (y12 : Vec Ideal S2x4x8x704 .f32) (y13 : Vec Ideal S2x1024x704 .bf16) (y14 : Vec Ideal S1024x704 .bf16) (y15 : Vec Ideal S2x704x1024 .f32) (y16 : Vec Ideal S704x1024 .f32) (y17 : Vec Ideal S2x8x704 .f32),
      (∀ (E : Set ℕ) (K : PUnit → sProp 𝕄),
        iprop(owns (c : Thread nD τ) (st0_0 t) fullShare x2 ∗ owns (c : Thread nD τ) (st0_1 t) fullShare x3 ∗ owns (c : Thread nD τ) (st0_2 t) fullShare x4 ∗ owns (c : Thread nD τ) (st0_3 t) fullShare x5 ∗ owns (c : Thread nD τ) (st0_4 t) fullShare x6 ∗ owns (c : Thread nD τ) (st0_5 t) fullShare x7 ∗ owns (c : Thread nD τ) (st0_6 t) fullShare x8
            ∗ owns (c : Thread nD τ) (st0_7 t) fullShare z9 ∗ owns (c : Thread nD τ) (st0_8 t) fullShare z10 ∗ owns (c : Thread nD τ) (st0_9 t) fullShare z11 ∗ owns (c : Thread nD τ) (st0_10 t) fullShare z12 ∗ owns (c : Thread nD τ) (scr0) fullShare z13 ∗ owns (c : Thread nD τ) (scr1) fullShare z14 ∗ owns (c : Thread nD τ) (scr2) fullShare z15 ∗ owns (c : Thread nD τ) (scr3) fullShare z16 ∗ owns (c : Thread nD τ) (scr4) fullShare z17
            ∗ (iprop(owns (c : Thread nD τ) (st0_0 t) fullShare x2 ∗ owns (c : Thread nD τ) (st0_1 t) fullShare x3 ∗ owns (c : Thread nD τ) (st0_2 t) fullShare x4 ∗ owns (c : Thread nD τ) (st0_3 t) fullShare x5 ∗ owns (c : Thread nD τ) (st0_4 t) fullShare x6 ∗ owns (c : Thread nD τ) (st0_5 t) fullShare x7 ∗ owns (c : Thread nD τ) (st0_6 t) fullShare x8
                ∗ owns (c : Thread nD τ) (st0_7 t) fullShare y9 ∗ owns (c : Thread nD τ) (st0_8 t) fullShare z10 ∗ owns (c : Thread nD τ) (st0_9 t) fullShare z11 ∗ owns (c : Thread nD τ) (st0_10 t) fullShare y12 ∗ owns (c : Thread nD τ) (scr0) fullShare y13 ∗ owns (c : Thread nD τ) (scr1) fullShare y14 ∗ owns (c : Thread nD τ) (scr2) fullShare y15 ∗ owns (c : Thread nD τ) (scr3) fullShare y16 ∗ owns (c : Thread nD τ) (scr4) fullShare y17) -∗ K ⟨⟩))
          ⊢ wp frame (wpE (defs₀ (F := Ideal)) Variants.none c none) E (bodyAt0 t) K)
      ∧ EvenPost I (jn t.val) (bn t.val) (tapsAt I t.val) (evenRun.sl.v7 (grid0.coords t) = 1#1) y9 y12 y13 y14 z15 y15 z16 y16 y17 := by
  have hN : t.val < 64 := lt_of_lt_of_eq t.isLt (show cfg0.N = 64 from N_0)
  refine ⟨_, _, _, _, _, _, _, (evenRun (F := Ideal) c (grid0.coords t) ((three_iff t).mpr ht) (fun h => by have := (four_iff t).mp h; omega)
    (fun h => by have := (five_iff t).mp h; omega) _ _ _ _ _ _ _ _ _ _ _ _ _ _ _ _ _ _ _ _ _ _ _ _ _ _ _ _ _ _ _ _ x2 x3 x4 x5 x6 x7 x8 z9 z10 z11 z12 z13 z14 z15 z16 z17).2.2.2.2.2.2.2, ?_⟩
  refine even_post D ((chunk_of t).trans (by rw [jn_val]; omega)) (tapsAt I t.val) (fun h s j k f => ?_) (fun h => w1 fun h0 => h ((one_iff t).mpr h0))
    (fun h s r f => ?_) (fun h => p1 fun h0 => h ((two_iff t).mpr h0)) (by rw [bn_val]; omega)
  · rw [(one_iff t).mp h]; exact tapsAt_zero I s j k f
  · have h0 := (two_iff t).mp h
    exact ext_ge _ _ (by rw [bn_val]; omega)

include D in
theorem odd_at (ht : t.val % 2 = 1)
    (w1 : ∀ s j k f, z12 (ix4 s j k f) = (tapsAt I t.val s j k f : EReal))
    (p1 : ∀ s (r : Fin 8) f, z17 (ix3 s r f) = (I.d2x s (ch (jn t.val) f) (((bn t.val).val + 1) * 512 + r.val) : EReal))
    (q13 : ∀ s (r : Fin 1024) f, 512 ≤ r.val → z13 (ix3 s r f) = (I.da s (rowp (bn t.val) r) (ch (jn t.val) f) : EReal))
    (q14 : ∀ (r : Fin 1024) f, 512 ≤ r.val → z14 (ix2 r f) = (I.u (rowp (bn t.val) r) (ch (jn t.val) f) : EReal))
    (q15 : ∀ s f e, z15 (ix3 s f e) = (upAt I (jn t.val) (t.val % 16 / 2) s f e : EReal))
    (q16 : ∀ f e, z16 (ix2 f e) = (dnAt I (jn t.val) (t.val % 16 / 2) f e : EReal)) :
    ∃ (y9 : Vec Ideal S1x512x1024 .bf16) (y10 : Vec Ideal S2x1x704x1024 .bf16) (y11 : Vec Ideal S704x1024 .bf16) (y12 : Vec Ideal S2x4x8x704 .f32) (y13 : Vec Ideal S2x1024x704 .bf16) (y14 : Vec Ideal S1024x704 .bf16) (y15 : Vec Ideal S2x704x1024 .f32) (y16 : Vec Ideal S704x1024 .f32) (y17 : Vec Ideal S2x8x704 .f32),
      (∀ (E : Set ℕ) (K : PUnit → sProp 𝕄),
        iprop(owns (c : Thread nD τ) (st0_0 t) fullShare x2 ∗ owns (c : Thread nD τ) (st0_1 t) fullShare x3 ∗ owns (c : Thread nD τ) (st0_2 t) fullShare x4 ∗ owns (c : Thread nD τ) (st0_3 t) fullShare x5 ∗ owns (c : Thread nD τ) (st0_4 t) fullShare x6 ∗ owns (c : Thread nD τ) (st0_5 t) fullShare x7 ∗ owns (c : Thread nD τ) (st0_6 t) fullShare x8
            ∗ owns (c : Thread nD τ) (st0_7 t) fullShare z9 ∗ owns (c : Thread nD τ) (st0_8 t) fullShare z10 ∗ owns (c : Thread nD τ) (st0_9 t) fullShare z11 ∗ owns (c : Thread nD τ) (st0_10 t) fullShare z12 ∗ owns (c : Thread nD τ) (scr0) fullShare z13 ∗ owns (c : Thread nD τ) (scr1) fullShare z14 ∗ owns (c : Thread nD τ) (scr2) fullShare z15 ∗ owns (c : Thread nD τ) (scr3) fullShare z16 ∗ owns (c : Thread nD τ) (scr4) fullShare z17
            ∗ (iprop(owns (c : Thread nD τ) (st0_0 t) fullShare x2 ∗ owns (c : Thread nD τ) (st0_1 t) fullShare x3 ∗ owns (c : Thread nD τ) (st0_2 t) fullShare x4 ∗ owns (c : Thread nD τ) (st0_3 t) fullShare x5 ∗ owns (c : Thread nD τ) (st0_4 t) fullShare x6 ∗ owns (c : Thread nD τ) (st0_5 t) fullShare x7 ∗ owns (c : Thread nD τ) (st0_6 t) fullShare x8
                ∗ owns (c : Thread nD τ) (st0_7 t) fullShare y9 ∗ owns (c : Thread nD τ) (st0_8 t) fullShare y10 ∗ owns (c : Thread nD τ) (st0_9 t) fullShare y11 ∗ owns (c : Thread nD τ) (st0_10 t) fullShare y12 ∗ owns (c : Thread nD τ) (scr0) fullShare y13 ∗ owns (c : Thread nD τ) (scr1) fullShare y14 ∗ owns (c : Thread nD τ) (scr2) fullShare y15 ∗ owns (c : Thread nD τ) (scr3) fullShare y16 ∗ owns (c : Thread nD τ) (scr4) fullShare y17) -∗ K ⟨⟩))
          ⊢ wp frame (wpE (defs₀ (F := Ideal)) Variants.none c none) E (bodyAt0 t) K)
      ∧ OddPost I (jn t.val) (bn t.val) (tapsAt I t.val) (upAt I (jn t.val) (t.val % 16 / 2)) (dnAt I (jn t.val) (t.val % 16 / 2))
          (k0_cond5 (grid0.coords t) = 1#1) y9 z10 y10 z11 y11 y12 y15 y16 y17 := by
  have hN : t.val < 64 := lt_of_lt_of_eq t.isLt (show cfg0.N = 64 from N_0)
  refine ⟨_, _, _, _, _, _, _, _, _, (oddRun (F := Ideal) c (grid0.coords t) (fun h => by have := (one_iff t).mp h; omega)
    (fun h => by have := (two_iff' t).mp h; omega) (fun h => by have := (three_iff t).mp h; omega) ((four_iff t).mpr ht)
    _ _ _ _ _ _ _ _ _ _ _ _ _ _ _ _ _ _ _ _ _ _ _ _ _ _ _ _ _ _ _ _ x2 x3 x4 x5 x6 x7 x8 z9 z10 z11 z12 z13 z14 z15 z16 z17).2.2.2.2.2.2.2.2.2, ?_⟩
  exact odd_post D ((chunk_of t).trans (by rw [jn_val]; omega)) (by rw [bn_val]; omega) (tapsAt I t.val) w1 p1 q13 q14 _ _ q15 q16

end

end Cert.FfnVal

end
-- ==== Proof.FfnDat.lean ====
module

public import proofs.«01_k».proof.Proof.FfnPoint

/-! The feed-forward kernel over its grid: what the outputs' blocks and the kernel's own buffers hold between points. -/

@[expose] public section

set_option maxRecDepth 16384

noncomputable section

namespace Cert.FfnVal

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

/-! ## What the outputs' blocks are left at -/

def dhV (I : In) (n : ℕ) : Vec Ideal S1x512x1024 .bf16 := fun y => ((I.dhj (jn n) (rowb (bn n) (y 1)) (y 2) : ℝ) : EReal)

def upV (I : In) (n : ℕ) : Vec Ideal S2x1x704x1024 .bf16 := fun y => ((upAt I (jn n) 8 (y 0) (y 2) (y 3) : ℝ) : EReal)

def dnV (I : In) (n : ℕ) : Vec Ideal S704x1024 .bf16 := fun y => ((dnAt I (jn n) 8 (y 0) (y 1) : ℝ) : EReal)

def tapV (I : In) (n : ℕ) : Vec Ideal S2x4x8x704 .f32 := fun y => ((tapsAt I n (y 0) (y 1) (y 2) (y 3) : ℝ) : EReal)

theorem dhV_of (I : In) (n : ℕ) (y : Vec Ideal S1x512x1024 .bf16) (h : ∀ r e, y (ix3 0 r e) = (I.dhj (jn n) (rowb (bn n) r) e : EReal)) : y = dhV I n :=
  funext fun i => by
    have e : i = ix3 (0 : Fin 1) (i 1) (i 2) := by
      funext a; fin_cases a
      · exact Subsingleton.elim (α := Fin 1) _ _
      · rfl
      · rfl
    exact (congrArg y e).trans (h (i 1) (i 2))

theorem upV_of (I : In) (n : ℕ) (y : Vec Ideal S2x1x704x1024 .bf16) (h : ∀ s f e, y (ix4 s 0 f e) = (upAt I (jn n) 8 s f e : EReal)) : y = upV I n :=
  funext fun i => by
    have e : i = ix4 (i 0) (0 : Fin 1) (i 2) (i 3) := by
      funext a; fin_cases a
      · rfl
      · exact Subsingleton.elim (α := Fin 1) _ _
      · rfl
      · rfl
    exact (congrArg y e).trans (h (i 0) (i 2) (i 3))

theorem dnV_of (I : In) (n : ℕ) (y : Vec Ideal S704x1024 .bf16) (h : ∀ f e, y (ix2 f e) = (dnAt I (jn n) 8 f e : EReal)) : y = dnV I n :=
  funext fun i => by
    have e : i = ix2 (i 0) (i 1) := by funext a; fin_cases a <;> rfl
    exact (congrArg y e).trans (h (i 0) (i 1))

theorem tapV_of (I : In) (n : ℕ) (y : Vec Ideal S2x4x8x704 .f32) (h : ∀ s j k f, y (ix4 s j k f) = (tapsAt I n s j k f : EReal)) : y = tapV I n :=
  funext fun i => by
    have e : i = ix4 (i 0) (i 1) (i 2) (i 3) := by funext a; fin_cases a <;> rfl
    exact (congrArg y e).trans (h (i 0) (i 1) (i 2) (i 3))

/-! ## What the kernel's own buffers hold before point `n` -/

def pairDa (I : In) (n : ℕ) (z : Vec Ideal S2x1024x704 .bf16) : Prop :=
  n % 2 = 1 → ∀ s (r : Fin 1024) f, 512 ≤ r.val → z (ix3 s r f) = (I.da s (rowp (bn n) r) (ch (jn n) f) : EReal)

def pairU (I : In) (n : ℕ) (z : Vec Ideal S1024x704 .bf16) : Prop :=
  n % 2 = 1 → ∀ (r : Fin 1024) f, 512 ≤ r.val → z (ix2 r f) = (I.u (rowp (bn n) r) (ch (jn n) f) : EReal)

def sumUp (I : In) (n : ℕ) (z : Vec Ideal S2x704x1024 .f32) : Prop :=
  n % 16 ≠ 0 → ∀ s f e, z (ix3 s f e) = (upAt I (jn n) (n % 16 / 2) s f e : EReal)

def sumDn (I : In) (n : ℕ) (z : Vec Ideal S704x1024 .f32) : Prop :=
  n % 16 ≠ 0 → ∀ f e, z (ix2 f e) = (dnAt I (jn n) (n % 16 / 2) f e : EReal)

def rowsOn (I : In) (n : ℕ) (z : Vec Ideal S2x8x704 .f32) : Prop :=
  n % 16 ≠ 0 → ∀ s (r : Fin 8) f, z (ix3 s r f) = (I.d2x s (ch (jn n) f) (((bn n).val + 1) * 512 + r.val) : EReal)

def between (I : In) (c : Dev nD) (n : ℕ) : sProp 𝕄 :=
  iprop(iprop((∃ z, iprop(⌜pairDa I n z⌝ ∗ owns (c : Thread nD τ) scr0 fullShare z)) ∗ (∃ z, iprop(⌜pairU I n z⌝ ∗ owns (c : Thread nD τ) scr1 fullShare z))
    ∗ (∃ z, iprop(⌜sumUp I n z⌝ ∗ owns (c : Thread nD τ) scr2 fullShare z)) ∗ (∃ z, iprop(⌜sumDn I n z⌝ ∗ owns (c : Thread nD τ) scr3 fullShare z))
    ∗ (∃ z, iprop(⌜rowsOn I n z⌝ ∗ owns (c : Thread nD τ) scr4 fullShare z))) ∗ (∃ r, prngReg c r))

/-- At the ends of the grid they may hold anything. -/
theorem between_of (I : In) (c : Dev nD) (n : ℕ) (h : n % 16 = 0) : (Pipeline.ΦA spec0 c : sProp 𝕄) ⊢ between I c n := by
  rw [scratches]
  unfold between held
  iintro ⟨⟨⟨%z0, H0⟩, ⟨%z1, H1⟩, ⟨%z2, H2⟩, ⟨%z3, H3⟩, ⟨%z4, H4⟩⟩, Hg⟩
  isplitl [H0 H1 H2 H3 H4]
  · isplitl [H0]
    · iexists z0; isplitr; · ipureintro; exact fun h1 => absurd h1 (by omega)
      iexact H0
    isplitl [H1]
    · iexists z1; isplitr; · ipureintro; exact fun h1 => absurd h1 (by omega)
      iexact H1
    isplitl [H2]
    · iexists z2; isplitr; · ipureintro; exact fun h1 => absurd h h1
      iexact H2
    isplitl [H3]
    · iexists z3; isplitr; · ipureintro; exact fun h1 => absurd h h1
      iexact H3
    iexists z4; isplitr; · ipureintro; exact fun h1 => absurd h h1
    iexact H4
  iexact Hg

theorem of_between (I : In) (c : Dev nD) (n : ℕ) : between I c n ⊢ (Pipeline.ΦA spec0 c : sProp 𝕄) := by
  rw [scratches]
  unfold between held
  iintro ⟨⟨⟨%z0, %k0, H0⟩, ⟨%z1, %k1, H1⟩, ⟨%z2, %k2, H2⟩, ⟨%z3, %k3, H3⟩, ⟨%z4, %k4, H4⟩⟩, Hg⟩
  isplitl [H0 H1 H2 H3 H4]
  · isplitl [H0]; · iexists z0; iexact H0
    isplitl [H1]; · iexists z1; iexact H1
    isplitl [H2]; · iexists z2; iexact H2
    isplitl [H3]; · iexists z3; iexact H3
    iexists z4; iexact H4
  iexact Hg

variable (m : (ℓ : Loc nD τ sig) → Buf (Elt Ideal) ℓ) (ρ : Dev nD → PrngReg) (I : Dev nD → In)

def vdat (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dhV (I c) t.val
    | ⟨8, _⟩ => upV (I c) t.val
    | ⟨9, _⟩ => dnV (I c) t.val
    | ⟨10, _⟩ => tapV (I c) (t.val + 1)
  Φ t := between (I c) c t.val
  q w := Pipeline.shareOf spec0 w
  owed _ := 0

theorem vbefore0 (c : Dev nD) (t : Fin cfg0.N) (d) : (vdat m I c).before 0 t d = iblk m c 0 t :=
  before0_0_of m (vdat m I c) (by dsimp only [vdat]) (fun t => by dsimp only [vdat]) t d
theorem vbefore1 (c : Dev nD) (t : Fin cfg0.N) (d) : (vdat m I c).before 1 t d = iblk m c 1 t :=
  before0_1_of m (vdat m I c) (by dsimp only [vdat]) (fun t => by dsimp only [vdat]) t d
theorem vbefore2 (c : Dev nD) (t : Fin cfg0.N) (d) : (vdat m I c).before 2 t d = iblk m c 2 t :=
  before0_2_of m (vdat m I c) (by dsimp only [vdat]) (fun t => by dsimp only [vdat]) t d
theorem vbefore3 (c : Dev nD) (t : Fin cfg0.N) (d) : (vdat m I c).before 3 t d = iblk m c 3 t :=
  before0_3_of m (vdat m I c) (by dsimp only [vdat]) (fun t => by dsimp only [vdat]) t d
theorem vbefore4 (c : Dev nD) (t : Fin cfg0.N) (d) : (vdat m I c).before 4 t d = iblk m c 4 t :=
  before0_4_of m (vdat m I c) (by dsimp only [vdat]) (fun t => by dsimp only [vdat]) t d
theorem vbefore5 (c : Dev nD) (t : Fin cfg0.N) (d) : (vdat m I c).before 5 t d = iblk m c 5 t :=
  before0_5_of m (vdat m I c) (by dsimp only [vdat]) (fun t => by dsimp only [vdat]) t d
theorem vbefore6 (c : Dev nD) (t : Fin cfg0.N) (d) : (vdat m I c).before 6 t d = iblk m c 6 t :=
  before0_6_of m (vdat m I c) (by dsimp only [vdat]) (fun t => by dsimp only [vdat]) t d

theorem vbefore10 (c : Dev nD) (t : Fin cfg0.N) (h0 : t.val ≠ 0) (d) : (vdat m I c).before 10 t d = tapV (I c) t.val := by
  have hN : t.val < 64 := lt_of_lt_of_eq t.isLt (show cfg0.N = 64 from N_0)
  rw [Dat.before_out_kept _ 10 rfl t h0 (Bool.eq_false_iff.mpr fun h => by have := (flush0_10 _).mp h; dsimp only at this; omega)
    live10 (fun _ _ => rfl)]
  show tapV (I c) (t.val - 1 + 1) = _
  rw [Nat.sub_add_cancel (Nat.one_le_iff_ne_zero.2 h0)]

theorem vleaves7 (c : Dev nD) (t : Fin cfg0.N) : (vdat m I c).leavesExact 7 t = owns (c : Thread nD τ) (st0_7 t) fullShare (dhV (I c) t.val) := by
  unfold Dat.leavesExact; rw [idle7 t]; rfl
theorem vleaves10 (c : Dev nD) (t : Fin cfg0.N) : (vdat m I c).leavesExact 10 t = owns (c : Thread nD τ) (st0_10 t) fullShare (tapV (I c) (t.val + 1)) := by
  unfold Dat.leavesExact; rw [idle10 t]; rfl
theorem vleaves8 (c : Dev nD) (t : Fin cfg0.N) (h : t.val % 16 = 15) : (vdat m I c).leavesExact 8 t = owns (c : Thread nD τ) (st0_8 t) fullShare (upV (I c) t.val) := by
  unfold Dat.leavesExact; rw [show cfg0.idle 8 (cfg0.grid.coords t) = false from (idle8 t).trans (by rw [h]; rfl)]; rfl
theorem vkeeps8 (c : Dev nD) (t : Fin cfg0.N) (h : t.val % 16 ≠ 15) :
    (vdat m I c).leavesExact 8 t = iprop(∃ d, owns (c : Thread nD τ) (st0_8 t) fullShare ((vdat m I c).before 8 t d)) :=
  Dat.leavesExact_idle _ 8 t ((idle8 t).trans (by rw [decide_eq_false h]; rfl)) (Bool.eq_false_iff.mpr fun hf => h ((flush0_8 t).mp hf))
theorem vleaves9 (c : Dev nD) (t : Fin cfg0.N) (h : t.val % 16 = 15) : (vdat m I c).leavesExact 9 t = owns (c : Thread nD τ) (st0_9 t) fullShare (dnV (I c) t.val) := by
  unfold Dat.leavesExact; rw [show cfg0.idle 9 (cfg0.grid.coords t) = false from (idle9 t).trans (by rw [h]; rfl)]; rfl
theorem vkeeps9 (c : Dev nD) (t : Fin cfg0.N) (h : t.val % 16 ≠ 15) :
    (vdat m I c).leavesExact 9 t = iprop(∃ d, owns (c : Thread nD τ) (st0_9 t) fullShare ((vdat m I c).before 9 t d)) :=
  Dat.leavesExact_idle _ 9 t ((idle9 t).trans (by rw [decide_eq_false h]; rfl)) (Bool.eq_false_iff.mpr fun hf => h ((flush0_9 t).mp hf))

/-- What the body is handed at a point. -/
def vgiven (c : Dev nD) (t : Fin cfg0.N) : sProp 𝕄 :=
  iprop((vdat m I c).Φ t.castSucc ∗ (vdat m I c).owesAt () t.castSucc
    ∗ (∃ d, owns (c : Thread nD τ) (st0_0 t) fullShare ((vdat m I c).before 0 t d))
    ∗ (∃ d, owns (c : Thread nD τ) (st0_1 t) fullShare ((vdat m I c).before 1 t d))
    ∗ (∃ d, owns (c : Thread nD τ) (st0_2 t) fullShare ((vdat m I c).before 2 t d))
    ∗ (∃ d, owns (c : Thread nD τ) (st0_3 t) fullShare ((vdat m I c).before 3 t d))
    ∗ (∃ d, owns (c : Thread nD τ) (st0_4 t) fullShare ((vdat m I c).before 4 t d))
    ∗ (∃ d, owns (c : Thread nD τ) (st0_5 t) fullShare ((vdat m I c).before 5 t d))
    ∗ (∃ d, owns (c : Thread nD τ) (st0_6 t) fullShare ((vdat m I c).before 6 t d))
    ∗ (∃ d, owns (c : Thread nD τ) (st0_7 t) fullShare ((vdat m I c).before 7 t d))
    ∗ (∃ d, owns (c : Thread nD τ) (st0_8 t) fullShare ((vdat m I c).before 8 t d))
    ∗ (∃ d, owns (c : Thread nD τ) (st0_9 t) fullShare ((vdat m I c).before 9 t d))
    ∗ (∃ d, owns (c : Thread nD τ) (st0_10 t) fullShare ((vdat m I c).before 10 t d)))

/-- What the body hands back at a point. -/
def vleft (c : Dev nD) (t : Fin cfg0.N) : sProp 𝕄 :=
  iprop((vdat m I c).Φ t.succ ∗ (vdat m I c).owesAt () t.succ
    ∗ (vdat m I c).leavesExact 0 t
    ∗ (vdat m I c).leavesExact 1 t
    ∗ (vdat m I c).leavesExact 2 t
    ∗ (vdat m I c).leavesExact 3 t
    ∗ (vdat m I c).leavesExact 4 t
    ∗ (vdat m I c).leavesExact 5 t
    ∗ (vdat m I c).leavesExact 6 t
    ∗ (vdat m I c).leavesExact 7 t
    ∗ (vdat m I c).leavesExact 8 t
    ∗ (vdat m I c).leavesExact 9 t
    ∗ (vdat m I c).leavesExact 10 t)

/-- The input blocks hold the part's inputs at every point. -/
def Blocks (c : Dev nD) : Prop :=
  ∀ t : Fin cfg0.N, At (I c) (jn t.val) (bn t.val) (iblk m c 0 t) (iblk m c 1 t) (iblk m c 2 t) (iblk m c 3 t) (iblk m c 4 t) (iblk m c 5 t) (iblk m c 6 t)

section
variable {m I}

theorem EvenPost.next {J : In} {n : ℕ} {R : Prop} {y9 y12 y13 y14 z15 y15 z16 y16 y17} (P : EvenPost J (jn n) (bn n) (tapsAt J n) R y9 y12 y13 y14 z15 y15 z16 y16 y17)
    (hn : n % 2 = 0) (hR : R ↔ n % 16 = 0) (k15 : sumUp J n z15) (k16 : sumDn J n z16) :
    y9 = dhV J n ∧ y12 = tapV J (n + 1) ∧ pairDa J (n + 1) y13 ∧ pairU J (n + 1) y14 ∧ sumUp J (n + 1) y15 ∧ sumDn J (n + 1) y16 ∧ rowsOn J (n + 1) y17 := by
  have hj : jn (n + 1) = jn n := jn_succ n (by omega)
  have hb : (bn (n + 1)).val + 1 = (bn n).val := by rw [bn_val, bn_val]; omega
  have hr : ∀ (r : Fin 1024) (h : 512 ≤ r.val), rowp (bn (n + 1)) r = rowb (bn n) ⟨r.val - 512, by omega⟩ := fun r h => Fin.ext (by
    show (bn (n + 1)).val / 2 * 1024 + r.val = (bn n).val * 512 + (r.val - 512)
    rw [bn_val, bn_val]; omega)
  have hx : ∀ (r : Fin 1024) (h : 512 ≤ r.val), r = ⟨512 + (⟨r.val - 512, by omega⟩ : Fin 512).val, by omega⟩ := fun r h => Fin.ext (by
    show r.val = 512 + (r.val - 512); omega)
  refine ⟨dhV_of J n _ P.dh, tapV_of J (n + 1) _ fun s j k f => (P.taps s j k f).trans (congrArg _ (tapsAt_succ J n s j k f).symm), ?_, ?_, ?_, ?_, ?_⟩
  · intro _ s r f h
    rw [hj, hr r h]
    exact (congrArg (fun r => y13 (ix3 s r f)) (hx r h)).trans (P.da s ⟨r.val - 512, by omega⟩ f)
  · intro _ r f h
    rw [hj, hr r h]
    exact (congrArg (fun r => y14 (ix2 r f)) (hx r h)).trans (P.u ⟨r.val - 512, by omega⟩ f)
  · intro _ s f e
    have hp : (n + 1) % 16 / 2 = n % 16 / 2 := by omega
    rw [hj, hp]
    by_cases h0 : n % 16 = 0
    · rw [h0, P.up0 (hR.mpr h0) s f e]; exact congrArg _ (upAt_zero J (jn n) s f e).symm
    · rw [P.up1 fun h => h0 (hR.mp h)]; exact k15 h0 s f e
  · intro _ f e
    have hp : (n + 1) % 16 / 2 = n % 16 / 2 := by omega
    rw [hj, hp]
    by_cases h0 : n % 16 = 0
    · rw [h0, P.dn0 (hR.mpr h0) f e]; exact congrArg _ (dnAt_zero J (jn n) f e).symm
    · rw [P.dn1 fun h => h0 (hR.mp h)]; exact k16 h0 f e
  · intro _ s r f
    rw [hj, hb]
    exact P.carry s r f

theorem OddPost.next {J : In} {n : ℕ} {R : Prop} {y9 z10 y10 z11 y11 y12 y15 y16 y17}
    (P : OddPost J (jn n) (bn n) (tapsAt J n) (upAt J (jn n) (n % 16 / 2)) (dnAt J (jn n) (n % 16 / 2)) R y9 z10 y10 z11 y11 y12 y15 y16 y17)
    (hn : n % 2 = 1) (y13 : Vec Ideal S2x1024x704 .bf16) (y14 : Vec Ideal S1024x704 .bf16) :
    y9 = dhV J n ∧ y12 = tapV J (n + 1) ∧ pairDa J (n + 1) y13 ∧ pairU J (n + 1) y14 ∧ sumUp J (n + 1) y15 ∧ sumDn J (n + 1) y16 ∧ rowsOn J (n + 1) y17 := by
  refine ⟨dhV_of J n _ P.dh, tapV_of J (n + 1) _ fun s j k f => (P.taps s j k f).trans (congrArg _ (tapsAt_succ J n s j k f).symm),
    fun h => absurd h (by omega), fun h => absurd h (by omega), ?_, ?_, ?_⟩
  · intro h0 s f e
    rw [jn_succ n h0, show (n + 1) % 16 / 2 = n % 16 / 2 + 1 by omega, upAt_next J n hn]
    exact P.up s f e
  · intro h0 f e
    rw [jn_succ n h0, show (n + 1) % 16 / 2 = n % 16 / 2 + 1 by omega, dnAt_next J n hn]
    exact P.dn f e
  · intro h0 s r f
    rw [jn_succ n h0, show (bn (n + 1)).val + 1 = (bn n).val by rw [bn_val, bn_val]; omega]
    exact P.carry s r f

theorem OddPost.last {J : In} {n : ℕ} {R : Prop} {y9 z10 y10 z11 y11 y12 y15 y16 y17}
    (P : OddPost J (jn n) (bn n) (tapsAt J n) (upAt J (jn n) (n % 16 / 2)) (dnAt J (jn n) (n % 16 / 2)) R y9 z10 y10 z11 y11 y12 y15 y16 y17)
    (hR : R) (h : n % 16 = 15) : y10 = upV J n ∧ y11 = dnV J n := by
  refine ⟨upV_of J n _ fun s f e => ?_, dnV_of J n _ fun f e => ?_⟩
  · refine (P.upo hR s f e).trans (congrArg _ ?_)
    rw [← upAt_next J n (by omega), h]
  · refine (P.dno hR f e).trans (congrArg _ ?_)
    rw [← dnAt_next J n (by omega), h]

end

end Cert.FfnVal

end
-- ==== Proof.FfnRef.lean ====
module

public import proofs.«01_k».proof.Proof.Gen.FfnRefIdeal.Run
public import proofs.«01_k».proof.Proof.FfnSums

/-! The feed-forward reference's terms, from its arrays to their values. -/

@[expose] public section

set_option maxRecDepth 16384

noncomputable section

namespace Cert.FfnVal

open Cert.FfnRefIdeal Cert.FfnRefIdeal.Facts₀ Cert.FfnRefIdeal.Facts Idealize.ShloMosaic Idealize.ShloMosaic.TcCoe Idealize.SL.Sem Cert.Reals

/-! ## The terms -/

section
variable (h : FVec Ideal S8192x1024 .f32) (up : FVec Ideal S1024x5632 .f32) (dw : FVec Ideal S3x5632 .f32) (dn : FVec Ideal S2816x1024 .f32)
  (ct : FVec Ideal S8192x1024 .f32)

/-- The up-projection with two rows of zeros in front. -/
def tA : FVec Ideal S8194x5632 .f32 :=
  concatenate S8194x5632 0 [⟨S2x5632, broadcastInDim S2x5632 ![] bcast_S_S2x5632 (constant S_ .f32 0x00000000#32)⟩,
    ⟨S8192x5632, Host.dotGeneral dot_S8192x1024_S1024x5632_S8192x5632_1_0_0_1_n_n none h up⟩] concatenates_S2x5632_S8192x5632_S8194x5632_d0

def tA0 : FVec Ideal S8192x5632 .f32 := extractStridedSlice S8192x5632 ![0, 0] (tA h up) slices_S8194x5632_S8192x5632_0_0
def tA1 : FVec Ideal S8192x5632 .f32 := extractStridedSlice S8192x5632 ![1, 0] (tA h up) slices_S8194x5632_S8192x5632_1_0
def tA2 : FVec Ideal S8192x5632 .f32 := extractStridedSlice S8192x5632 ![2, 0] (tA h up) slices_S8194x5632_S8192x5632_2_0

/-- A tap's row, and over all rows. -/
def tW0 : FVec Ideal S1x5632 .f32 := broadcastInDim S1x5632 ![1] bcast_S5632_S1x5632_1 (shapeCast _ (extractStridedSlice S1x5632 ![0, 0] dw slices_S3x5632_S1x5632_0_0) shapeCasts_S1x5632_S5632)
def tW1 : FVec Ideal S1x5632 .f32 := broadcastInDim S1x5632 ![1] bcast_S5632_S1x5632_1 (shapeCast _ (extractStridedSlice S1x5632 ![1, 0] dw slices_S3x5632_S1x5632_1_0) shapeCasts_S1x5632_S5632)
def tW2 : FVec Ideal S1x5632 .f32 := broadcastInDim S1x5632 ![1] bcast_S5632_S1x5632_1 (shapeCast _ (extractStridedSlice S1x5632 ![2, 0] dw slices_S3x5632_S1x5632_2_0) shapeCasts_S1x5632_S5632)
def tB (w : FVec Ideal S1x5632 .f32) : FVec Ideal S8192x5632 .f32 := broadcastInDim S8192x5632 ![0, 1] bcast_S1x5632_S8192x5632_0_1 w

/-- The convolution. -/
def tC : FVec Ideal S8192x5632 .f32 :=
  addf (addf (addf (broadcastInDim S8192x5632 ![] bcast_S_S8192x5632 (constant S_ .f32 0x00000000#32)) (mulf (tA0 h up) (tB (tW0 dw)))) (mulf (tA1 h up) (tB (tW1 dw))))
    (mulf (tA2 h up) (tB (tW2 dw)))

def tG : FVec Ideal S8192x2816 .f32 := extractStridedSlice S8192x2816 ![0, 0] (tC h up dw) slices_S8192x5632_S8192x2816_0_0
def tV : FVec Ideal S8192x2816 .f32 := extractStridedSlice S8192x2816 ![0, 2816] (tC h up dw) slices_S8192x5632_S8192x2816_0_2816

def tOne : FVec Ideal S8192x2816 .f32 := broadcastInDim S8192x2816 ![] bcast_S_S8192x2816 (constant S_ .f32 0x3F800000#32)

/-- The gate's logistic. -/
def tS : FVec Ideal S8192x2816 .f32 := Host.divf tOne (addf tOne (Host.exp (Host.negf (tG h up dw))))

def tU : FVec Ideal S8192x2816 .f32 := mulf (mulf (tG h up dw) (tS h up dw)) (tV h up dw)

def tDu : FVec Ideal S8192x2816 .f32 := Host.dotGeneral dot_S8192x1024_S2816x1024_S8192x2816_1_1_0_0_n_n none ct dn

/-- The cotangent of the convolution's output. -/
def tD : FVec Ideal S8192x5632 .f32 :=
  concatenate S8192x5632 1
    [⟨S8192x2816, addf (mulf (mulf (tDu dn ct) (tV h up dw)) (tS h up dw))
      (mulf (mulf (tG h up dw) (mulf (tDu dn ct) (tV h up dw))) (mulf (tS h up dw) (subf tOne (tS h up dw))))⟩,
     ⟨S8192x2816, mulf (mulf (tG h up dw) (tS h up dw)) (tDu dn ct)⟩] concatenates_S8192x2816_S8192x2816_S8192x5632_d1

/-- Of the convolution's input. -/
def tDa : FVec Ideal S8192x5632 .f32 :=
  extractStridedSlice S8192x5632 ![2, 0]
    (addf (addf (pad S8194x5632 ![2, 0] ![0, 0] ![0, 0] (mulf (tD h up dw dn ct) (tB (tW2 dw))) (constant S_ .f32 0x00000000#32) pads_S8192x5632_S8194x5632_200_000 h_S_)
        (pad S8194x5632 ![1, 0] ![1, 0] ![0, 0] (mulf (tD h up dw dn ct) (tB (tW1 dw))) (constant S_ .f32 0x00000000#32) pads_S8192x5632_S8194x5632_110_000 h_S_))
      (pad S8194x5632 ![0, 0] ![2, 0] ![0, 0] (mulf (tD h up dw dn ct) (tB (tW0 dw))) (constant S_ .f32 0x00000000#32) pads_S8192x5632_S8194x5632_020_000 h_S_))
    slices_S8194x5632_S8192x5632_2_0

/-- One tap's gradient as a row. -/
def tK (a d : FVec Ideal S8192x5632 .f32) : FVec Ideal S1x5632 .f32 :=
  broadcastInDim S1x5632 ![1] bcast_S5632_S1x5632_1 (Host.reduceAdd (shapeCast S1x5632
    (Host.reduceAdd (mulf a d) (constant S_ .f32 0x00000000#32) reducesTo_S8192x5632_S5632_d0 h_S_) shapeCasts_S5632_S1x5632) (constant S_ .f32 0x00000000#32)
    reducesTo_S1x5632_S5632_d0 h_S_)

/-- The taps' gradients. -/
def tDw : FVec Ideal S3x5632 .f32 :=
  addf (addf (pad S3x5632 ![2, 0] ![0, 0] ![0, 0] (tK (tA2 h up) (tD h up dw dn ct)) (constant S_ .f32 0x00000000#32) pads_S1x5632_S3x5632_200_000 h_S_)
      (pad S3x5632 ![1, 0] ![1, 0] ![0, 0] (tK (tA1 h up) (tD h up dw dn ct)) (constant S_ .f32 0x00000000#32) pads_S1x5632_S3x5632_110_000 h_S_))
    (pad S3x5632 ![0, 0] ![2, 0] ![0, 0] (tK (tA0 h up) (tD h up dw dn ct)) (constant S_ .f32 0x00000000#32) pads_S1x5632_S3x5632_020_000 h_S_)

end

section
variable (m : (ℓ : Loc nD τ sig) → Buf (Elt Ideal) ℓ) (c : Dev nD)

/-- The arguments as the terms take them. -/
abbrev g0 : FVec Ideal S8192x1024 .f32 := m ((c.tc : Thread nD τ).loc main_arg0)
abbrev g1 : FVec Ideal S1024x5632 .f32 := m ((c.tc : Thread nD τ).loc main_arg1)
abbrev g2 : FVec Ideal S3x5632 .f32 := m ((c.tc : Thread nD τ).loc main_arg2)
abbrev g3 : FVec Ideal S2816x1024 .f32 := m ((c.tc : Thread nD τ).loc main_arg3)
abbrev g4 : FVec Ideal S8192x1024 .f32 := m ((c.tc : Thread nD τ).loc main_arg4)

theorem res81 : Cert.FfnRefIdeal.Value.res_main_v81 m c
    = truncf .bf16 (transpose S2816x1024 [1, 0] (Host.dotGeneral dot_S8192x1024_S8192x2816_S1024x2816_0_0_1_1_n_n none (g4 m c) (tU (g0 m c) (g1 m c) (g2 m c)))
      transposes_S1024x2816_S2816x1024_1_0) bitsLt_bf16_f32 := rfl

theorem res73 : Cert.FfnRefIdeal.Value.res_main_v73 m c
    = Host.dotGeneral dot_S8192x5632_S1024x5632_S8192x1024_1_1_0_0_n_n none (tDa (g0 m c) (g1 m c) (g2 m c) (g3 m c) (g4 m c)) (g1 m c) := rfl

theorem res80 : Cert.FfnRefIdeal.Value.res_main_v80 m c
    = truncf .bf16 (shapeCast _ (transpose S5632x1024 [1, 0] (transpose S1024x5632 [1, 0]
      (Host.dotGeneral dot_S8192x5632_S8192x1024_S5632x1024_0_0_1_1_n_n none (tDa (g0 m c) (g1 m c) (g2 m c) (g3 m c) (g4 m c)) (g0 m c))
      transposes_S5632x1024_S1024x5632_1_0) transposes_S1024x5632_S5632x1024_1_0) shapeCasts_S5632x1024_S2x4x704x1024) bitsLt_bf16_f32 := rfl

theorem res77 : Cert.FfnRefIdeal.Value.res_main_v77 m c
    = transpose S2x4x8x704 [1, 2, 0, 3] (shapeCast _ (concatenate S8x5632 0 [⟨S3x5632, tDw (g0 m c) (g1 m c) (g2 m c) (g3 m c) (g4 m c)⟩,
      ⟨S5x5632, broadcastInDim S5x5632 ![] bcast_S_S5x5632 (constant S_ .f32 0x00000000#32)⟩] concatenates_S3x5632_S5x5632_S8x5632_d0) shapeCasts_S8x5632_S8x2x4x704)
      transposes_S8x2x4x704_S2x4x8x704_1_2_0_3 := rfl

end

/-- The arguments hold the real inputs. -/
structure Args (h : FVec Ideal S8192x1024 .f32) (up : FVec Ideal S1024x5632 .f32) (dw : FVec Ideal S3x5632 .f32) (dn : FVec Ideal S2816x1024 .f32)
    (ct : FVec Ideal S8192x1024 .f32) (I : In) : Prop where
  h : ∀ r k, h (ix2 r k) = (I.h r k : EReal)
  up : ∀ k p, up (ix2 k p) = (I.up k p : EReal)
  dw : ∀ k p, dw (ix2 k p) = (I.dw k p : EReal)
  dn : ∀ q k, dn (ix2 q k) = (I.dn q k : EReal)
  ct : ∀ r k, ct (ix2 r k) = (I.ct r k : EReal)

variable {h : FVec Ideal S8192x1024 .f32} {up : FVec Ideal S1024x5632 .f32} {dw : FVec Ideal S3x5632 .f32} {dn : FVec Ideal S2816x1024 .f32}
  {ct : FVec Ideal S8192x1024 .f32} {I : In} (A : Args h up dw dn ct I)
include A

theorem a_sum (t : Fin 8192) (p : Fin 5632) : ∑ x, h (ix2 t x) * up (ix2 x p) = (I.a t p : EReal) := by
  simp only [A.h, A.up, ← EReal.coe_mul, coe_sum]
  rfl

theorem tA0_at (t : Fin 8192) (p : Fin 5632) : tA0 h up (ix2 t p) = (prev (fun t => I.a t p) 2 t : EReal) := by
  unfold tA0 tA
  pointwise []
  by_cases ht : t.val < 2
  · exact (dif_pos ht).trans (congrArg (fun x : ℝ => (x : EReal)) (if_neg (by omega)).symm)
  · exact (dif_neg ht).trans ((a_sum A _ p).trans (congrArg (fun x : ℝ => (x : EReal)) (if_pos (by omega)).symm))

theorem tA1_at (t : Fin 8192) (p : Fin 5632) : tA1 h up (ix2 t p) = (prev (fun t => I.a t p) 1 t : EReal) := by
  unfold tA1 tA
  pointwise []
  by_cases ht : 1 + t.val < 2
  · exact (dif_pos ht).trans (congrArg (fun x : ℝ => (x : EReal)) (if_neg (by omega)).symm)
  · refine (dif_neg ht).trans ((a_sum A _ p).trans (Eq.trans ?_ (congrArg (fun x : ℝ => (x : EReal)) (if_pos (by omega)).symm)))
    exact congrArg (fun u => (I.a u p : EReal)) (Fin.ext (by show 1 + t.val - 2 = t.val - 1; omega))

theorem tA2_at (t : Fin 8192) (p : Fin 5632) : tA2 h up (ix2 t p) = (I.a t p : EReal) := by
  unfold tA2 tA
  pointwise []
  exact a_sum A t p

theorem tW0_at (p : Fin 5632) : tW0 dw (ix2 0 p) = (I.dw 0 p : EReal) := by
  unfold tW0
  pointwise []
  exact A.dw 0 p

theorem tW1_at (p : Fin 5632) : tW1 dw (ix2 0 p) = (I.dw 1 p : EReal) := by
  unfold tW1
  pointwise []
  exact A.dw 1 p

theorem tW2_at (p : Fin 5632) : tW2 dw (ix2 0 p) = (I.dw 2 p : EReal) := by
  unfold tW2
  pointwise []
  exact A.dw 2 p

omit A in
theorem tB_at (w : FVec Ideal S1x5632 .f32) (t : Fin 8192) (p : Fin 5632) : tB w (ix2 t p) = w (ix2 0 p) := by
  unfold tB
  pointwise []

theorem tC_at (t : Fin 8192) (p : Fin 5632) : tC h up dw (ix2 t p) = (I.cv t p : EReal) := by
  unfold tC
  pointwise []
  rw [tB_at, tB_at, tB_at, tW0_at A, tW1_at A, tW2_at A, tA0_at A, tA1_at A, tA2_at A]
  simp only [← EReal.coe_mul, ← EReal.coe_add]
  rfl

theorem tG_at (t : Fin 8192) (q : Fin 2816) : tG h up dw (ix2 t q) = (I.g t q : EReal) := by
  unfold tG
  pointwise []
  refine Eq.trans (congrArg (fun p => tC h up dw (ix2 t p)) (Fin.ext ?_)) (tC_at A t (col 0 q))
  exact (Nat.zero_add _).symm

theorem tV_at (t : Fin 8192) (q : Fin 2816) : tV h up dw (ix2 t q) = (I.v t q : EReal) := by
  unfold tV
  pointwise []
  refine Eq.trans (congrArg (fun p => tC h up dw (ix2 t p)) (Fin.ext ?_)) (tC_at A t (col 1 q))
  exact congrArg (· + q.val) (Nat.one_mul 2816).symm

omit A in
theorem tOne_at (t : Fin 8192) (q : Fin 2816) : tOne (ix2 t q) = ((1 : ℝ) : EReal) := by
  unfold tOne
  pointwise []
  rfl

theorem tS_at (t : Fin 8192) (q : Fin 2816) : tS h up dw (ix2 t q) = (sgm (I.g t q) : EReal) := by
  unfold tS
  pointwise []
  rw [tG_at A, tOne_at, ← EReal.coe_neg, Ideal.exp_coe, ← EReal.coe_add, div_real _ _ (by positivity)]
  rfl

theorem tU_at (t : Fin 8192) (q : Fin 2816) : tU h up dw (ix2 t q) = (I.u t q : EReal) := by
  unfold tU
  pointwise []
  rw [tG_at A, tS_at A, tV_at A, ← EReal.coe_mul, ← EReal.coe_mul]
  rfl

theorem tDu_at (t : Fin 8192) (q : Fin 2816) : tDu dn ct (ix2 t q) = (I.du t q : EReal) := by
  unfold tDu
  pointwise []
  simp only [A.ct, A.dn, ← EReal.coe_mul, coe_sum]
  rfl

theorem tD_at (s : Fin 2) (t : Fin 8192) (q : Fin 2816) : tD h up dw dn ct (ix2 t (col s q)) = (I.d2 s t q : EReal) := by
  unfold tD
  match s with
  | 0 =>
    pointwise []
    rw [tDu_at A, tV_at A, tS_at A, tG_at A, tOne_at]
    simp only [← EReal.coe_mul, ← EReal.coe_add, ← EReal.coe_sub]
    refine congrArg _ ?_
    show _ = I.du t q * I.v t q * silu' (I.g t q)
    unfold silu'
    ring
  | 1 =>
    pointwise []
    rw [tDu_at A, tS_at A, tG_at A]
    simp only [← EReal.coe_mul]
    refine congrArg _ ?_
    show _ = I.du t q * (I.g t q * sgm (I.g t q))
    ring

/-- A term of the shifted sum: the value where the shifted row exists. -/
theorem shift_at (s : Fin 2) (q : Fin 2816) (w : FVec Ideal S1x5632 .f32) (x : ℝ) (hw : w (ix2 0 (col s q)) = (x : EReal)) (n : ℕ) (hn : n < 8192) :
    tD h up dw dn ct (ix2 ⟨n, hn⟩ (col s q)) * tB w (ix2 ⟨n, hn⟩ (col s q)) = ((x * I.d2x s q n : ℝ) : EReal) := by
  rw [tD_at A, tB_at, hw, ← EReal.coe_mul]
  refine congrArg _ ?_
  rw [mul_comm]
  exact congrArg (x * ·) (ext_lt (fun t => I.d2 s t q) ⟨n, hn⟩).symm

omit A in
theorem add3 {a b c : EReal} {x y z : ℝ} (ha : a = (x : EReal)) (hb : b = (y : EReal)) (hc : c = (z : EReal)) : a + b + c = ((x + y + z : ℝ) : EReal) := by
  rw [ha, hb, hc, EReal.coe_add, EReal.coe_add]

theorem tDa_at (s : Fin 2) (t : Fin 8192) (q : Fin 2816) : tDa h up dw dn ct (ix2 t (col s q)) = (I.da s t q : EReal) := by
  have hp : s.val * 2816 + q.val < 5632 := (col s q).isLt
  have e1 : 2 + t.val - 1 = t.val + 1 := by omega
  have e2 : 2 + t.val = t.val + 2 := by omega
  unfold tDa
  pointwise []
  refine add3 ((dif_pos hp).trans (shift_at A s q (tW2 dw) _ (tW2_at A _) t.val t.isLt)) ?_ ?_
  · by_cases ht : t.val + 1 < 8192
    · refine (dif_pos ⟨⟨by omega, by omega⟩, hp⟩).trans ((shift_at A s q (tW1 dw) _ (tW1_at A _) (2 + t.val - 1) (by omega)).trans ?_)
      rw [e1]
    · refine (dif_neg (by omega)).trans ?_
      rw [In.d2x, ext_ge _ _ (by omega), mul_zero]; rfl
  · by_cases ht : t.val + 2 < 8192
    · refine (dif_pos ⟨by omega, hp⟩).trans ((shift_at A s q (tW0 dw) _ (tW0_at A _) (2 + t.val) (by omega)).trans ?_)
      rw [e2]
    · refine (dif_neg (by omega)).trans ?_
      rw [In.d2x, ext_ge _ _ (by omega), mul_zero]; rfl

omit A in
theorem tK_at (a d : FVec Ideal S8192x5632 .f32) (p : Fin 5632) (f : Fin 8192 → ℝ) (hf : ∀ t, a (ix2 t p) * d (ix2 t p) = (f t : EReal)) :
    tK a d (ix2 0 p) = ((∑ t, f t : ℝ) : EReal) := by
  unfold tK
  pointwise []
  simp only [hf, coe_sum, Finset.univ_unique, Finset.sum_singleton]

omit A in
/-- A column shifted down against another is the other shifted up. -/
theorem sum_shift (a d : Fin 8192 → ℝ) (n : ℕ) : ∑ t, prev a n t * d t = ∑ t, a t * ext d (t.val + n) := by
  have l : ∑ t : Fin 8192, prev a n t * d t = ∑ t ∈ Finset.range 8192, (if n ≤ t then ext a (t - n) else 0) * ext d t := by
    rw [Finset.sum_range]
    refine Finset.sum_congr rfl fun t _ => ?_
    rw [ext_lt]
    unfold prev
    by_cases ht : n ≤ t.val
    · rw [if_pos ht, if_pos ht]; exact congrArg (· * d t) (ext_lt a ⟨t.val - n, by omega⟩).symm
    · rw [if_neg ht, if_neg ht]
  have r : ∑ t : Fin 8192, a t * ext d (t.val + n) = ∑ t ∈ Finset.range 8192, ext a t * ext d (t + n) := by
    rw [Finset.sum_range]
    exact Finset.sum_congr rfl fun t _ => by rw [ext_lt]
  rw [l, r]
  have up : ∑ t ∈ Finset.range 8192, ext a t * ext d (t + n) = ∑ t ∈ Finset.range (8192 - n), ext a t * ext d (t + n) := by
    refine (Finset.sum_subset (fun x hx => by rw [Finset.mem_range] at *; omega) fun x hx hn => ?_).symm
    rw [Finset.mem_range] at hx hn
    rw [ext_ge d _ (by omega), mul_zero]
  rw [up]
  by_cases hn : n ≤ 8192
  · obtain ⟨k, hk⟩ : ∃ k, 8192 = n + k := ⟨8192 - n, by omega⟩
    rw [show Finset.range 8192 = Finset.range (n + k) by rw [← hk], show 8192 - n = k by omega, Finset.sum_range_add]
    rw [Finset.sum_eq_zero (s := Finset.range n) fun x hx => by rw [Finset.mem_range] at hx; rw [if_neg (by omega), zero_mul], zero_add]
    exact Finset.sum_congr rfl fun x _ => by rw [if_pos (by omega), Nat.add_sub_cancel_left, Nat.add_comm]
  · rw [show 8192 - n = 0 by omega, Finset.sum_range_zero]
    exact Finset.sum_eq_zero fun x hx => by rw [Finset.mem_range] at hx; rw [if_neg (by omega), zero_mul]

theorem tK2_at (s : Fin 2) (q : Fin 2816) : tK (tA2 h up) (tD h up dw dn ct) (ix2 0 (col s q)) = (I.gdw s 2 q : EReal) :=
  tK_at _ _ _ (fun t => I.a t (col s q) * I.d2x s q (t.val + (2 - 2))) fun t => by
    rw [tA2_at A, tD_at A, ← EReal.coe_mul]
    exact congrArg _ (congrArg (I.a t (col s q) * ·) (ext_lt (fun t => I.d2 s t q) t).symm)

theorem tK1_at (s : Fin 2) (q : Fin 2816) : tK (tA1 h up) (tD h up dw dn ct) (ix2 0 (col s q)) = (I.gdw s 1 q : EReal) :=
  (tK_at _ _ _ (fun t => prev (fun t => I.a t (col s q)) 1 t * I.d2 s t q) fun t => by
    rw [tA1_at A, tD_at A, ← EReal.coe_mul]).trans (congrArg _ (sum_shift (fun t => I.a t (col s q)) (fun t => I.d2 s t q) 1))

theorem tK0_at (s : Fin 2) (q : Fin 2816) : tK (tA0 h up) (tD h up dw dn ct) (ix2 0 (col s q)) = (I.gdw s 0 q : EReal) :=
  (tK_at _ _ _ (fun t => prev (fun t => I.a t (col s q)) 2 t * I.d2 s t q) fun t => by
    rw [tA0_at A, tD_at A, ← EReal.coe_mul]).trans (congrArg _ (sum_shift (fun t => I.a t (col s q)) (fun t => I.d2 s t q) 2))

theorem tDw_at (s : Fin 2) (k : Fin 3) (q : Fin 2816) : tDw h up dw dn ct (ix2 k (col s q)) = (I.gdw s k q : EReal) := by
  have hp : s.val * 2816 + q.val < 5632 := (col s q).isLt
  have e : I.gdw s k q = (if k.val = 2 then I.gdw s 2 q else 0) + (if k.val = 1 then I.gdw s 1 q else 0) + (if k.val = 0 then I.gdw s 0 q else 0) := by
    match k with
    | 0 => simp
    | 1 => simp
    | 2 => simp
  rw [e]
  unfold tDw
  pointwise []
  refine add3 ?_ ?_ ?_
  · by_cases hk : k.val = 2
    · refine (dif_pos ⟨⟨by omega, by omega⟩, hp⟩).trans (Eq.trans ?_ ((tK2_at A s q).trans (congrArg (fun x : ℝ => (x : EReal)) (if_pos hk).symm)))
      exact congrArg (fun i => tK (tA2 h up) (tD h up dw dn ct) (ix2 i (col s q))) (Subsingleton.elim (α := Fin 1) _ _)
    · exact (dif_neg (by omega)).trans (congrArg (fun x : ℝ => (x : EReal)) (if_neg hk).symm)
  · by_cases hk : k.val = 1
    · refine (dif_pos ⟨⟨by omega, by omega⟩, hp⟩).trans (Eq.trans ?_ ((tK1_at A s q).trans (congrArg (fun x : ℝ => (x : EReal)) (if_pos hk).symm)))
      exact congrArg (fun i => tK (tA1 h up) (tD h up dw dn ct) (ix2 i (col s q))) (Subsingleton.elim (α := Fin 1) _ _)
    · exact (dif_neg (by omega)).trans (congrArg (fun x : ℝ => (x : EReal)) (if_neg hk).symm)
  · by_cases hk : k.val = 0
    · refine (dif_pos ⟨by omega, hp⟩).trans (Eq.trans ?_ ((tK0_at A s q).trans (congrArg (fun x : ℝ => (x : EReal)) (if_pos hk).symm)))
      exact congrArg (fun i => tK (tA0 h up) (tD h up dw dn ct) (ix2 i (col s q))) (Subsingleton.elim (α := Fin 1) _ _)
    · exact (dif_neg (by omega)).trans (congrArg (fun x : ℝ => (x : EReal)) (if_neg hk).symm)

omit A in
/-- A sum over the hidden columns, chunk by chunk. -/
theorem sum_hidden (F : Fin 5632 → ℝ) : ∑ p, F p = ∑ j : Fin 4, ((∑ f, F (col 0 (ch j f))) + ∑ f, F (col 1 (ch j f))) := by
  have h := sum_blocks 2 2816 fun n => if h : n < 5632 then F ⟨n, h⟩ else 0
  have k := fun s : Fin 2 => sum_blocks 4 704 fun n => if h : s.val * 2816 + n < 5632 then F ⟨s.val * 2816 + n, h⟩ else 0
  have e : ∀ p : Fin 5632, F p = if h : p.val < 5632 then F ⟨p.val, h⟩ else 0 := fun p => by rw [dif_pos p.isLt]
  refine (Finset.sum_congr rfl fun p _ => e p).trans (h.trans ((Finset.sum_congr rfl fun s _ => k s).trans ?_))
  rw [Fin.sum_univ_two, ← Finset.sum_add_distrib]
  refine Finset.sum_congr rfl fun j _ => congrArg₂ (· + ·) ?_ ?_
  · exact Finset.sum_congr rfl fun f _ => dif_pos (col 0 (ch j f)).isLt
  · exact Finset.sum_congr rfl fun f _ => dif_pos (col 1 (ch j f)).isLt

/-! ## The results -/

theorem dh_at (t : Fin 8192) (e : Fin 1024) :
    Host.dotGeneral dot_S8192x5632_S1024x5632_S8192x1024_1_1_0_0_n_n none (tDa h up dw dn ct) up (ix2 t e) = ((∑ j, I.dhj j t e : ℝ) : EReal) := by
  have hd : ∀ p : Fin 5632, tDa h up dw dn ct (ix2 t p) = (((tDa h up dw dn ct (ix2 t p)).toReal : ℝ) : EReal) := fun p => by
    obtain ⟨s, q, rfl⟩ : ∃ s q, p = col s q := by
      by_cases hp : p.val < 2816
      · exact ⟨0, ⟨p.val, hp⟩, Fin.ext (by show p.val = 0 * 2816 + p.val; omega)⟩
      · exact ⟨1, ⟨p.val - 2816, by omega⟩, Fin.ext (by show p.val = 1 * 2816 + (p.val - 2816); omega)⟩
    rw [tDa_at A]; rfl
  pointwise []
  refine (Finset.sum_congr rfl fun p _ => congrArg₂ (· * ·) (hd p) (A.up e p)).trans ?_
  simp only [← EReal.coe_mul, coe_sum]
  refine congrArg _ ((sum_hidden _).trans (Finset.sum_congr rfl fun j _ => congrArg₂ (· + ·) ?_ ?_))
  · exact Finset.sum_congr rfl fun f _ => by rw [tDa_at A]; rfl
  · exact Finset.sum_congr rfl fun f _ => by rw [tDa_at A]; rfl

theorem gdn_at (q : Fin 2816) (e : Fin 1024) :
    truncf .bf16 (transpose S2816x1024 [1, 0] (Host.dotGeneral dot_S8192x1024_S8192x2816_S1024x2816_0_0_1_1_n_n none ct (tU h up dw))
      transposes_S1024x2816_S2816x1024_1_0) bitsLt_bf16_f32 (ix2 q e) = (I.gdn q e : EReal) := by
  pointwise []
  simp only [A.ct, tU_at A, ← EReal.coe_mul, coe_sum]
  exact congrArg _ (Finset.sum_congr rfl fun t _ => mul_comm _ _)

omit A in
theorem col_ch (s : Fin 2) (j : Fin 4) (f : Fin 704) (hlt : s.val * 2816 + j.val * 704 + f.val < 5632) :
    (⟨s.val * 2816 + j.val * 704 + f.val, hlt⟩ : Fin 5632) = col s (ch j f) := Fin.ext (Nat.add_assoc ..)

theorem gup_at (s : Fin 2) (j : Fin 4) (f : Fin 704) (e : Fin 1024) :
    truncf .bf16 (shapeCast S2x4x704x1024 (transpose S5632x1024 [1, 0] (transpose S1024x5632 [1, 0]
      (Host.dotGeneral dot_S8192x5632_S8192x1024_S5632x1024_0_0_1_1_n_n none (tDa h up dw dn ct) h)
      transposes_S5632x1024_S1024x5632_1_0) transposes_S1024x5632_S5632x1024_1_0) shapeCasts_S5632x1024_S2x4x704x1024) bitsLt_bf16_f32 (ix4 s j f e)
    = (I.gup s (ch j f) e : EReal) := by
  pointwise []
  rw [col_ch]
  simp only [A.h, tDa_at A, ← EReal.coe_mul, coe_sum]
  rfl

theorem gdw_at (s : Fin 2) (j : Fin 4) (k : Fin 8) (f : Fin 704) :
    transpose S2x4x8x704 [1, 2, 0, 3] (shapeCast S8x2x4x704 (concatenate S8x5632 0 [⟨S3x5632, tDw h up dw dn ct⟩,
      ⟨S5x5632, broadcastInDim S5x5632 ![] bcast_S_S5x5632 (constant S_ .f32 0x00000000#32)⟩] concatenates_S3x5632_S5x5632_S8x5632_d0) shapeCasts_S8x5632_S8x2x4x704)
      transposes_S8x2x4x704_S2x4x8x704_1_2_0_3 (ix4 s j k f) = ((if h : k.val < 3 then I.gdw s ⟨k.val, h⟩ (ch j f) else 0 : ℝ) : EReal) := by
  pointwise []
  by_cases hk : k.val < 3
  · rw [dif_pos hk, dif_pos hk, col_ch]
    exact tDw_at A s ⟨k.val, hk⟩ (ch j f)
  · rw [dif_neg hk, dif_neg hk]; rfl

end Cert.FfnVal

end
-- ==== Proof.FfnReads.lean ====
module

public import proofs.«01_k».proof.Proof.FfnDat
public import proofs.«01_k».proof.Proof.FfnRef
public import Idealize.ShloMosaic.Lib.StableHlo.RunRead

/-! What the feed-forward kernel's input blocks hold at each point, from the arguments. -/

@[expose] public section

set_option maxRecDepth 16384

noncomputable section

namespace Cert.FfnVal

open Cert.FfnIdeal Cert.FfnIdeal.Gen Idealize.ShloMosaic Idealize.ShloMosaic.TcCoe Idealize.SL.Sem Cert.Reals

theorem idx : ∀ t : Fin cfg0.N, win0_0.index t = ![(15 - t.val % 16) / 2, 0] ∧ win0_1.index t = ![(15 - t.val % 16) / 2, 0]
    ∧ win0_2.index t = ![0, t.val / 16 % 4, 15 - t.val % 16, 0] ∧ win0_3.index t = ![0, t.val / 16 % 4, 15 - t.val % 16, 0]
    ∧ win0_4.index t = ![0, t.val / 16 % 4, 0, 0] ∧ win0_5.index t = ![0, t.val / 16 % 4, 0, 0] ∧ win0_6.index t = ![t.val / 16 % 4, 0]
    ∧ win0_7.index t = ![t.val / 16 % 4, 15 - t.val % 16, 0] ∧ win0_8.index t = ![0, t.val / 16 % 4, 0, 0] ∧ win0_9.index t = ![t.val / 16 % 4, 0]
    ∧ win0_10.index t = ![0, 0, 0, 0] ∧ t.val < 64 :=
  (by decide +kernel : ∀ t : Fin grid0.N, _)

variable (m : (ℓ : Loc nD τ sig) → Buf (Elt Ideal) ℓ) (c : Dev nD)

/-- The arguments. -/
abbrev x0 : FVec Ideal S8192x1024 .f32 := m ((c : Thread nD τ).loc main_arg0)
abbrev x1 : FVec Ideal S1024x5632 .f32 := m ((c : Thread nD τ).loc main_arg1)
abbrev x2 : FVec Ideal S3x5632 .f32 := m ((c : Thread nD τ).loc main_arg2)
abbrev x3 : FVec Ideal S2816x1024 .f32 := m ((c : Thread nD τ).loc main_arg3)
abbrev x4 : FVec Ideal S8192x1024 .f32 := m ((c : Thread nD τ).loc main_arg4)

/-- The padded taps at a chunk's entry. -/
def V31 (dw : FVec Ideal S3x5632 .f32) (s : Fin 2) (j : Fin 4) (k : Fin 8) (f : Fin 704) : EReal :=
  (pad S8x5632 ![0, 0] ![5, 0] ![0, 0] dw (sitofp FTy.f32 (constantI S_ 32 0#32) : FVec Ideal S_ .f32) pads_S3x5632_S8x5632_050_000 h_S_ : FVec Ideal S8x5632 .f32)
    (ix2 k ⟨(s.val * 4 + j.val) * 704 + f.val, by omega⟩)

variable {m c} {I : Dev nD → In} (A : Args (x0 m c) (x1 m c) (x2 m c) (x3 m c) (x4 m c) (I c))
include A

theorem blk0 (t : Fin cfg0.N) (r e : Fin 1024) :
    (show FVec Ideal S1024x1024 .bf16 from iblk m c 0 t) (ix2 r e) = ((I c).ct (rowp (bn t.val) r) e : EReal) := by
  refine Eq.trans (b := V m c main_v32 (ix2 (rowp (bn t.val) r) e)) (by blk_ext [iblk, idx t] <;> rfl) ?_
  unfold V
  after_reads_simp
  pointwise []
  exact A.ct _ _

theorem blk1 (t : Fin cfg0.N) (r e : Fin 1024) :
    (show FVec Ideal S1024x1024 .bf16 from iblk m c 1 t) (ix2 r e) = ((I c).h (rowp (bn t.val) r) e : EReal) := by
  refine Eq.trans (b := V m c main_v33 (ix2 (rowp (bn t.val) r) e)) (by blk_ext [iblk, idx t] <;> rfl) ?_
  unfold V
  after_reads_simp
  pointwise []
  exact A.h _ _

theorem blk2 (t : Fin cfg0.N) (s : Fin 2) (r : Fin 512) (f : Fin 704) :
    (show FVec Ideal S2x1x512x704 .bf16 from iblk m c 2 t) (ix4 s 0 r f) = ((I c).a (rowb (bn t.val) r) (col s (ch (jn t.val) f)) : EReal) := by
  refine Eq.trans (b := V m c main_v36 (ix4 s (jn t.val) (rowb (bn t.val) r) f)) (by blk_ext [iblk, idx t] <;> rfl) ?_
  unfold V
  after_reads_simp
  pointwise []
  rw [col_ch]
  exact a_sum A _ _

theorem blk3 (t : Fin cfg0.N) (s : Fin 2) (r : Fin 512) (f : Fin 704) :
    (show FVec Ideal S2x1x512x704 .bf16 from iblk m c 3 t) (ix4 s 0 r f) = ((I c).cv (rowb (bn t.val) r) (col s (ch (jn t.val) f)) : EReal) := by
  refine Eq.trans (b := V m c main_v39 (ix4 s (jn t.val) (rowb (bn t.val) r) f)) (by blk_ext [iblk, idx t] <;> rfl) ?_
  refine Eq.trans (b := tC (x0 m c) (x1 m c) (x2 m c) (ix2 (rowb (bn t.val) r) (col s (ch (jn t.val) f)))) ?_ (tC_at A _ _)
  unfold V
  after_reads_simp
  refine Eq.trans (b := truncf .bf16 (transpose S2x4x8192x704 [1, 2, 0, 3] (shapeCast S8192x2x4x704 (tC (x0 m c) (x1 m c) (x2 m c)) shapeCasts_S8192x5632_S8192x2x4x704)
    transposes_S8192x2x4x704_S2x4x8192x704_1_2_0_3) bitsLt_bf16_f32 (ix4 s (jn t.val) (rowb (bn t.val) r) f)) rfl ?_
  pointwise []
  rw [col_ch]

theorem blk4 (t : Fin cfg0.N) (s : Fin 2) (f : Fin 704) (e : Fin 1024) :
    (show FVec Ideal S2x1x704x1024 .bf16 from iblk m c 4 t) (ix4 s 0 f e) = ((I c).up e (col s (ch (jn t.val) f)) : EReal) := by
  refine Eq.trans (b := V m c main_v27 (ix4 s (jn t.val) f e)) (by blk_ext [iblk, idx t] <;> rfl) ?_
  unfold V
  after_reads_simp
  pointwise []
  rw [col_ch]
  exact A.up _ _

theorem blk5 (t : Fin cfg0.N) (s : Fin 2) (k : Fin 3) (f : Fin 704) :
    (show FVec Ideal S2x1x8x704 .f32 from iblk m c 5 t) (ix4 s 0 (tap k) f) = ((I c).dw k (col s (ch (jn t.val) f)) : EReal) := by
  refine Eq.trans (b := V m c main_v31 (ix4 s (jn t.val) (tap k) f)) (by blk_ext [iblk, idx t] <;> rfl) ?_
  unfold V
  after_reads_simp
  have hp : (s.val * 4 + (jn t.val).val) * 704 + f.val < 5632 := by omega
  refine Eq.trans (b := V31 (x2 m c) s (jn t.val) (tap k) f) (by pointwise []; rfl) ?_
  unfold V31
  pointwise []
  rw [dif_pos hp]
  refine (A.dw _ _).trans (congrArg (fun p => (((I c).dw k p : ℝ) : EReal)) (Fin.ext ?_))
  show (s.val * 4 + (jn t.val).val) * 704 + f.val = s.val * 2816 + ((jn t.val).val * 704 + f.val)
  omega

theorem blk6 (t : Fin cfg0.N) (f : Fin 704) (e : Fin 1024) :
    (show FVec Ideal S704x1024 .bf16 from iblk m c 6 t) (ix2 f e) = ((I c).dn (ch (jn t.val) f) e : EReal) := by
  refine Eq.trans (b := V m c main_v40 (ix2 (ch (jn t.val) f) e)) (by blk_ext [iblk, idx t] <;> rfl) ?_
  unfold V
  after_reads_simp
  pointwise []
  exact A.dn _ _

theorem blocks_of : Blocks m I c := fun t =>
  ⟨blk0 A t, blk1 A t, blk2 A t, blk3 A t, blk4 A t, blk5 A t, blk6 A t⟩

end Cert.FfnVal

end
-- ==== Proof.FfnGrid.lean ====
module

public import proofs.«01_k».proof.Proof.FfnDat

/-! The feed-forward kernel's body at every point of its grid, over the reals, and the run of the whole grid. -/

@[expose] public section

set_option maxRecDepth 16384

noncomputable section

namespace Cert.FfnVal

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

variable {m : (ℓ : Loc nD τ sig) → Buf (Elt Ideal) ℓ} {I : Dev nD → In}

set_option maxHeartbeats 4000000 in
theorem even_point (c : Dev nD) (t : Fin cfg0.N) (D : Blocks m I c) (ht : t.val % 2 = 0) :
    vgiven m I c t ⊢ wp frame (wpE (defs₀ (F := Ideal)) Variants.none c none) Set.univ (bodyAt0 t) (fun _ => vleft m I c t) := by
  unfold vgiven vleft
  simp only [vbefore0, vbefore1, vbefore2, vbefore3, vbefore4, vbefore5, vbefore6]
  rw [show (vdat m I c).owesAt () t.succ = (vdat m I c).owesAt () t.castSucc from rfl]
  rw [show (vdat m I c).Φ t.castSucc = between (I c) c t.val from rfl, show (vdat m I c).Φ t.succ = between (I c) c (t.val + 1) from rfl]
  rw [show (vdat m I c).leavesExact 0 t = owns (c : Thread nD τ) (st0_0 t) fullShare (iblk m c 0 t) from rfl]
  rw [show (vdat m I c).leavesExact 1 t = owns (c : Thread nD τ) (st0_1 t) fullShare (iblk m c 1 t) from rfl]
  rw [show (vdat m I c).leavesExact 2 t = owns (c : Thread nD τ) (st0_2 t) fullShare (iblk m c 2 t) from rfl]
  rw [show (vdat m I c).leavesExact 3 t = owns (c : Thread nD τ) (st0_3 t) fullShare (iblk m c 3 t) from rfl]
  rw [show (vdat m I c).leavesExact 4 t = owns (c : Thread nD τ) (st0_4 t) fullShare (iblk m c 4 t) from rfl]
  rw [show (vdat m I c).leavesExact 5 t = owns (c : Thread nD τ) (st0_5 t) fullShare (iblk m c 5 t) from rfl]
  rw [show (vdat m I c).leavesExact 6 t = owns (c : Thread nD τ) (st0_6 t) fullShare (iblk m c 6 t) from rfl]
  rw [vleaves7, vleaves10, vkeeps8 m I c t (by omega), vkeeps9 m I c t (by omega)]
  unfold between
  iintro ⟨⟨⟨⟨%z13, %k13, S0⟩, ⟨%z14, %k14, S1⟩, ⟨%z15, %k15, S2⟩, ⟨%z16, %k16, S3⟩, ⟨%z17, %k17, S4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain ⟨y9, y12, y13, y14, y15, y16, y17, run, P⟩ := even_at c t (D t) ((vdat m I c).before 7 t d7) ((vdat m I c).before 8 t d8) ((vdat m I c).before 9 t d9)
    ((vdat m I c).before 10 t d10) z13 z14 z15 z16 z17 ht (fun h s j k f => by rw [vbefore10 m I c t h]; rfl) k17
  obtain ⟨e9, e12, n13, n14, n15, n16, n17⟩ := P.next ht (two_iff t) k15 k16
  subst e9 e12
  iapply (run Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, S0, S1, S2, S3, S4⟩
  isplitl [S0 S1 S2 S3 S4 Hg]
  · isplitl [S0 S1 S2 S3 S4]
    · isplitl [S0]
      · iexists _; isplitr; · ipureintro; exact n13
        iexact S0
      isplitl [S1]
      · iexists _; isplitr; · ipureintro; exact n14
        iexact S1
      isplitl [S2]
      · iexists _; isplitr; · ipureintro; exact n15
        iexact S2
      isplitl [S3]
      · iexists _; isplitr; · ipureintro; exact n16
        iexact S3
      iexists _; isplitr; · ipureintro; exact n17
      iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists d8; iexact H8
  isplitl [H9]; · iexists d9; iexact H9
  iexact H10

set_option maxHeartbeats 4000000 in
theorem odd_point (c : Dev nD) (t : Fin cfg0.N) (D : Blocks m I c) (ht : t.val % 2 = 1) (h5 : t.val % 16 ≠ 15) :
    vgiven m I c t ⊢ wp frame (wpE (defs₀ (F := Ideal)) Variants.none c none) Set.univ (bodyAt0 t) (fun _ => vleft m I c t) := by
  unfold vgiven vleft
  simp only [vbefore0, vbefore1, vbefore2, vbefore3, vbefore4, vbefore5, vbefore6]
  rw [show (vdat m I c).owesAt () t.succ = (vdat m I c).owesAt () t.castSucc from rfl]
  rw [show (vdat m I c).Φ t.castSucc = between (I c) c t.val from rfl, show (vdat m I c).Φ t.succ = between (I c) c (t.val + 1) from rfl]
  rw [show (vdat m I c).leavesExact 0 t = owns (c : Thread nD τ) (st0_0 t) fullShare (iblk m c 0 t) from rfl]
  rw [show (vdat m I c).leavesExact 1 t = owns (c : Thread nD τ) (st0_1 t) fullShare (iblk m c 1 t) from rfl]
  rw [show (vdat m I c).leavesExact 2 t = owns (c : Thread nD τ) (st0_2 t) fullShare (iblk m c 2 t) from rfl]
  rw [show (vdat m I c).leavesExact 3 t = owns (c : Thread nD τ) (st0_3 t) fullShare (iblk m c 3 t) from rfl]
  rw [show (vdat m I c).leavesExact 4 t = owns (c : Thread nD τ) (st0_4 t) fullShare (iblk m c 4 t) from rfl]
  rw [show (vdat m I c).leavesExact 5 t = owns (c : Thread nD τ) (st0_5 t) fullShare (iblk m c 5 t) from rfl]
  rw [show (vdat m I c).leavesExact 6 t = owns (c : Thread nD τ) (st0_6 t) fullShare (iblk m c 6 t) from rfl]
  rw [vleaves7, vleaves10, vkeeps8 m I c t h5, vkeeps9 m I c t h5]
  unfold between
  iintro ⟨⟨⟨⟨%z13, %k13, S0⟩, ⟨%z14, %k14, S1⟩, ⟨%z15, %k15, S2⟩, ⟨%z16, %k16, S3⟩, ⟨%z17, %k17, S4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain ⟨y9, y10, y11, y12, y13, y14, y15, y16, y17, run, P⟩ := odd_at c t (D t) ((vdat m I c).before 7 t d7) ((vdat m I c).before 8 t d8) ((vdat m I c).before 9 t d9)
    ((vdat m I c).before 10 t d10) z13 z14 z15 z16 z17 ht (fun s j k f => by rw [vbefore10 m I c t (by omega)]; rfl) (k17 (by omega)) (k13 ht) (k14 ht)
    (k15 (by omega)) (k16 (by omega))
  obtain ⟨e9, e12, n13, n14, n15, n16, n17⟩ := P.next ht y13 y14
  have e10 := P.upk fun h => h5 ((five_iff t).mp h)
  have e11 := P.dnk fun h => h5 ((five_iff t).mp h)
  subst e9 e10 e11 e12
  iapply (run Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, S0, S1, S2, S3, S4⟩
  isplitl [S0 S1 S2 S3 S4 Hg]
  · isplitl [S0 S1 S2 S3 S4]
    · isplitl [S0]
      · iexists _; isplitr; · ipureintro; exact n13
        iexact S0
      isplitl [S1]
      · iexists _; isplitr; · ipureintro; exact n14
        iexact S1
      isplitl [S2]
      · iexists _; isplitr; · ipureintro; exact n15
        iexact S2
      isplitl [S3]
      · iexists _; isplitr; · ipureintro; exact n16
        iexact S3
      iexists _; isplitr; · ipureintro; exact n17
      iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists d8; iexact H8
  isplitl [H9]; · iexists d9; iexact H9
  iexact H10

set_option maxHeartbeats 4000000 in
theorem last_point (c : Dev nD) (t : Fin cfg0.N) (D : Blocks m I c) (ht : t.val % 2 = 1) (h5 : t.val % 16 = 15) :
    vgiven m I c t ⊢ wp frame (wpE (defs₀ (F := Ideal)) Variants.none c none) Set.univ (bodyAt0 t) (fun _ => vleft m I c t) := by
  unfold vgiven vleft
  simp only [vbefore0, vbefore1, vbefore2, vbefore3, vbefore4, vbefore5, vbefore6]
  rw [show (vdat m I c).owesAt () t.succ = (vdat m I c).owesAt () t.castSucc from rfl]
  rw [show (vdat m I c).Φ t.castSucc = between (I c) c t.val from rfl, show (vdat m I c).Φ t.succ = between (I c) c (t.val + 1) from rfl]
  rw [show (vdat m I c).leavesExact 0 t = owns (c : Thread nD τ) (st0_0 t) fullShare (iblk m c 0 t) from rfl]
  rw [show (vdat m I c).leavesExact 1 t = owns (c : Thread nD τ) (st0_1 t) fullShare (iblk m c 1 t) from rfl]
  rw [show (vdat m I c).leavesExact 2 t = owns (c : Thread nD τ) (st0_2 t) fullShare (iblk m c 2 t) from rfl]
  rw [show (vdat m I c).leavesExact 3 t = owns (c : Thread nD τ) (st0_3 t) fullShare (iblk m c 3 t) from rfl]
  rw [show (vdat m I c).leavesExact 4 t = owns (c : Thread nD τ) (st0_4 t) fullShare (iblk m c 4 t) from rfl]
  rw [show (vdat m I c).leavesExact 5 t = owns (c : Thread nD τ) (st0_5 t) fullShare (iblk m c 5 t) from rfl]
  rw [show (vdat m I c).leavesExact 6 t = owns (c : Thread nD τ) (st0_6 t) fullShare (iblk m c 6 t) from rfl]
  rw [vleaves7, vleaves10, vleaves8 m I c t h5, vleaves9 m I c t h5]
  unfold between
  iintro ⟨⟨⟨⟨%z13, %k13, S0⟩, ⟨%z14, %k14, S1⟩, ⟨%z15, %k15, S2⟩, ⟨%z16, %k16, S3⟩, ⟨%z17, %k17, S4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain ⟨y9, y10, y11, y12, y13, y14, y15, y16, y17, run, P⟩ := odd_at c t (D t) ((vdat m I c).before 7 t d7) ((vdat m I c).before 8 t d8) ((vdat m I c).before 9 t d9)
    ((vdat m I c).before 10 t d10) z13 z14 z15 z16 z17 ht (fun s j k f => by rw [vbefore10 m I c t (by omega)]; rfl) (k17 (by omega)) (k13 ht) (k14 ht)
    (k15 (by omega)) (k16 (by omega))
  obtain ⟨e9, e12, n13, n14, n15, n16, n17⟩ := P.next ht y13 y14
  obtain ⟨e10, e11⟩ := P.last ((five_iff t).mpr h5) h5
  subst e9 e10 e11 e12
  iapply (run Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, S0, S1, S2, S3, S4⟩
  isplitl [S0 S1 S2 S3 S4 Hg]
  · isplitl [S0 S1 S2 S3 S4]
    · isplitl [S0]
      · iexists _; isplitr; · ipureintro; exact n13
        iexact S0
      isplitl [S1]
      · iexists _; isplitr; · ipureintro; exact n14
        iexact S1
      isplitl [S2]
      · iexists _; isplitr; · ipureintro; exact n15
        iexact S2
      isplitl [S3]
      · iexists _; isplitr; · ipureintro; exact n16
        iexact S3
      iexists _; isplitr; · ipureintro; exact n17
      iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem point (c : Dev nD) (t : Fin cfg0.N) (D : Blocks m I c) :
    vgiven m I c t ⊢ wp frame (wpE (defs₀ (F := Ideal)) Variants.none c none) Set.univ (bodyAt0 t) (fun _ => vleft m I c t) := by
  by_cases ht : t.val % 2 = 0
  · exact even_point c t D ht
  · by_cases h5 : t.val % 16 = 15
    · exact last_point c t D (by omega) h5
    · exact odd_point c t D (by omega) h5

theorem obligation (c : Dev nD) (D : Blocks m I c) : BodyObligation (vdat m I c) (defs₀ (F := Ideal)) Variants.none () Set.univ := fun t => by
  rw [bigSep_W0, bigSep_W0, row]
  exact triple_restated (point c t D) rfl .rfl fun _ => .rfl

set_option backward.isDefEq.respectTransparency.types false in
theorem run_values (ρ : Dev nD → PrngReg) (D : ∀ c, Blocks m I c) : θ_run defs (onTc (τ := τ) (main (F := Ideal))) (s₀ m ρ)
    (fun r => Pipeline.FramePost cfgs (fun _ => vdat m I) (0 : Fin 1) (Pipeline.afterTail₀ cfgs (fun _ => vdat m I) (0 : Fin 1) (V0 m) [hostOps1]) r ∧ r.2.sem = fun _ => 0) :=
  Pipeline.θ_run_frame_around_track (Q' := _) cfgs (fun _ => vdat m I) (0 : Fin 1) launch0 defs₀ Variants.none m ρ main
    (hbody := fun c => (obligation c (D c)).loose) (hshare := fun _ w => by fin_cases w <;> rfl)
    (howed := fun _ _ => rfl) (V₀ := V0 m) (opss := [hostOps1]) (hsub := sfx_sub) (hfresh := sfx_fresh) (hkeep := sfx_keeps)
    (hmain := hmain m Variants.none) (hA := fun _ _ => by dsimp only [vdat])
    (hin := fun c => between_of (I c) c 0 rfl) (hout := fun c => of_between (I c) c 64)

end Cert.FfnVal

end
-- ==== Proof.FfnOut.lean ====
module

public import proofs.«01_k».proof.Proof.FfnReads
public import proofs.«01_k».proof.Proof.FfnGrid

/-! What the feed-forward kernel's result arrays hold at the end. -/

@[expose] public section

set_option maxRecDepth 16384

noncomputable section

namespace Cert.FfnVal

open Cert.FfnIdeal Cert.FfnIdeal.Gen Idealize.ShloMosaic Idealize.ShloMosaic.TcCoe Idealize.SL.Sem Cert.Reals

variable (m : (ℓ : Loc nD τ sig) → Buf (Elt Ideal) ℓ) (I : Dev nD → In)

/-- The first result's parts, one per chunk. -/
def dhParts (I : In) : FVec Ideal S4x8192x1024 .bf16 := fun y => ((I.dhj (y 0) (y 1) (y 2) : ℝ) : EReal)

theorem final7 (c : Dev nD) : (vdat m I c).arrAt 7 cfg0.N = dhParts (I c) := by
  refine (vdat m I c).arrAt_eq_of_covers 7 _ (by decide +kernel) fun t hf i => ?_
  blk_simp [idx t]
  idx_vars i
  refine Eq.trans (b := dhParts (I c) (ix3 (jn t.val) (rowb (bn t.val) i1) i2)) rfl ?_
  blk_ext [idx t] <;> rfl

theorem final8 (c : Dev nD) (G : FVec Ideal S2x4x704x1024 .bf16) (hG : ∀ s j f e, G (ix4 s j f e) = ((I c).gup s (ch j f) e : EReal)) :
    (vdat m I c).arrAt 8 cfg0.N = G := by
  refine (vdat m I c).arrAt_eq_of_covers 8 _ (by decide +kernel) fun t hf i => ?_
  blk_simp [idx t]
  idx_vars i
  refine (congrArg (fun x : ℝ => (x : EReal)) (upAt_last (I c) (jn t.val) i0 i2 i3)).trans ((hG _ _ _ _).symm.trans ?_)
  blk_ext [idx t] <;> rfl

theorem final9 (c : Dev nD) (G : FVec Ideal S2816x1024 .bf16) (hG : ∀ q e, G (ix2 q e) = ((I c).gdn q e : EReal)) :
    (vdat m I c).arrAt 9 cfg0.N = G := by
  refine (vdat m I c).arrAt_eq_of_covers 9 _ (by decide +kernel) fun t hf i => ?_
  blk_simp [idx t]
  idx_vars i
  refine (congrArg (fun x : ℝ => (x : EReal)) (dnAt_last (I c) (jn t.val) i0 i1)).trans ((hG _ _).symm.trans ?_)
  blk_ext [idx t] <;> rfl

theorem final10 (c : Dev nD) (G : FVec Ideal S2x4x8x704 .f32)
    (hG : ∀ s j k f, G (ix4 s j k f) = ((if h : k.val < 3 then (I c).gdw s ⟨k.val, h⟩ (ch j f) else 0 : ℝ) : EReal)) :
    (vdat m I c).arrAt 10 cfg0.N = G := by
  refine (vdat m I c).arrAt_eq_of_covers 10 _ (by decide +kernel) fun t hf i => ?_
  have h64 : t.val + 1 = 64 := by
    have := (flush0_10 t).mp hf
    have := (idx t).2.2.2.2.2.2.2.2.2.2.2
    omega
  blk_simp [idx t]
  idx_vars i
  refine Eq.trans (b := ((tapsAt (I c) (t.val + 1) i0 i1 i2 i3 : ℝ) : EReal)) rfl ?_
  rw [h64]
  refine (congrArg (fun x : ℝ => (x : EReal)) (tapsAt_last (I c) i0 i1 i2 i3)).trans ((hG _ _ _ _).symm.trans ?_)
  blk_ext [idx t] <;> rfl

/-- The host's sum of the four parts. -/
def dhOf (p : FVec Ideal S4x8192x1024 .bf16) : FVec Ideal S8192x1024 .f32 :=
  Host.reduceAdd (extf .f32 p bitsLt_bf16_f32) (constant S_ .f32 0x00000000#32) reducesTo_S4x8192x1024_S8192x1024_d0 h_S_

theorem tail_dh (c : Dev nD) :
    Pipeline.afterTail₀ cfgs (fun _ => vdat m I) (0 : Fin 1) (V0 m) [hostOps1] c main_v43 = dhOf ((vdat m I c).arrAt 7 cfg0.N) := by
  unfold Pipeline.afterTail₀ hostOps1
  simp only [List.flatten_cons, List.flatten_nil, List.append_nil]
  after_results
  exact congrArg dhOf (Pipeline.withArrays_arr (cfgs 0).spec launch0.win.arr_inj c _ _ 7)

theorem dhOf_at (J : In) (t : Fin 8192) (e : Fin 1024) : dhOf (dhParts J) (ix2 t e) = ((∑ j, J.dhj j t e : ℝ) : EReal) := by
  unfold dhOf
  pointwise []
  exact (coe_sum _ _).trans rfl

variable {m I}

/-- The run with every result named. -/
theorem run_results (ρ : Dev nD → PrngReg) (A : ∀ c, Args (x0 m c) (x1 m c) (x2 m c) (x3 m c) (x4 m c) (I c)) :
    θ_run defs (onTc (τ := τ) (main (F := Ideal))) ⟨m, fun _ => 0, ρ⟩ fun r => ∀ c : Dev nD,
      r.2.mem ((c.tc : Thread nD τ).loc main_v43) = dhOf (dhParts (I c))
      ∧ r.2.mem ((c.tc : Thread nD τ).loc main_v41_1) = (vdat m I c).arrAt 8 cfg0.N
      ∧ r.2.mem ((c.tc : Thread nD τ).loc main_v41_2) = (vdat m I c).arrAt 9 cfg0.N
      ∧ r.2.mem ((c.tc : Thread nD τ).loc main_v41_3) = (vdat m I c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  have R := (θ_run defs _ _).mono (fun _ h => h.1) (run_values (m := m) (I := I) ρ fun c => blocks_of (A c))
  exact (θ_run defs _ _).mono
    (fun _ h c => ⟨((h.2 c).2 main_v43 (Pipeline.mem_restRefs_of main_v43 (by decide) (by decide))).trans
        ((tail_dh m I c).trans (congrArg dhOf (final7 m I c))),
      (h.2 c).1 8, (h.2 c).1 9, (h.2 c).1 10, h.1 c⟩)
    (θ_run_and (frame_of m ρ (fun _ => vdat m I) (fun _ _ => rfl) R) R)

end Cert.FfnVal

end
-- ==== Proof.Ffn.lean ====
module

public import proofs.«01_k».proof.Defs
public import proofs.«01_k».proof.Proof.FfnOut
public import proofs.«01_k».proof.Proof.Gen.Pre_finite_ffn

/-! The feed-forward sub-layer's backward: the kernel's four results are the derivative's. -/

@[expose] public section

set_option maxRecDepth 16384

noncomputable section

namespace Cert.FfnVal

open Cert.FfnIdeal Cert.FfnIdeal.Gen Idealize.ShloMosaic Idealize.ShloMosaic.TcCoe Idealize.SL.Sem Cert.Reals

variable (m : (ℓ : Loc nD τ sig) → Buf (Elt Ideal) ℓ)

theorem finite_args (h : Pre_FfnIdeal_finite_ffn m) (c : Dev nD) :
    (∀ i, x0 m c i = ((x0 m c i).toReal : EReal)) ∧ (∀ i, x1 m c i = ((x1 m c i).toReal : EReal)) ∧ (∀ i, x2 m c i = ((x2 m c i).toReal : EReal))
    ∧ (∀ i, x3 m c i = ((x3 m c i).toReal : EReal)) ∧ (∀ i, x4 m c i = ((x4 m c i).toReal : EReal)) := by
  have h0 := congrFun (h c) (fun q => q.elim0)
  dsimp only [Cert.Pre_finite_ffn.fn, Cert.Pre_finite_ffn.fn_part1] at h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨finite_of_all _ _ (fun _ => rfl) _ _ _ _ rfl h0, finite_of_all _ _ (fun _ => rfl) _ _ _ _ rfl h1,
    finite_of_all _ _ (fun _ => rfl) _ _ _ _ rfl h2, finite_of_all _ _ (fun _ => rfl) _ _ _ _ rfl h3, finite_of_all _ _ (fun _ => rfl) _ _ _ _ rfl h4⟩

/-- The arguments' real values. -/
def ins (c : Dev nD) : In where
  h r k := (x0 m c (ix2 r k)).toReal
  up k p := (x1 m c (ix2 k p)).toReal
  dw k p := (x2 m c (ix2 k p)).toReal
  dn q e := (x3 m c (ix2 q e)).toReal
  ct r k := (x4 m c (ix2 r k)).toReal

theorem args_ins (h : Pre_FfnIdeal_finite_ffn m) (c : Dev nD) : Args (x0 m c) (x1 m c) (x2 m c) (x3 m c) (x4 m c) (ins m c) :=
  have ⟨f0, f1, f2, f3, f4⟩ := finite_args m h c
  ⟨fun _ _ => f0 _, fun _ _ => f1 _, fun _ _ => f2 _, fun _ _ => f3 _, fun _ _ => f4 _⟩

end Cert.FfnVal

namespace Cert.Proof

open Idealize.ShloMosaic Idealize.ShloMosaic.TcCoe Idealize.ShloMosaic.StableHlo Idealize.SL.Sem Cert.Reals Cert.FfnVal

/-- The feed-forward sub-layer's gradient: the four results are the derivative's. -/
theorem algebraic_FfnIdeal_FfnRefIdeal_pre_finite_ffn : Cert.algebraic_FfnIdeal_FfnRefIdeal_pre_finite_ffn := by
  intro m ρ m' ρ' hpre hagree
  refine ⟨_, _, _, _, run_results ρ (args_ins m hpre), ?_⟩
  refine (θ_run Cert.FfnRefIdeal.defs _ _).mono (fun _ h c => ⟨?_, ?_, ?_, ?_, (h c).2.2.2.2⟩) (Cert.FfnRefIdeal.Value.run (F := Ideal) m' ρ')
  all_goals
    obtain ⟨a0, a1, a2, a3, a4⟩ := hagree c
    have A : Args (g0 m' c) (g1 m' c) (g2 m' c) (g3 m' c) (g4 m' c) (ins m c) := by
      have B := args_ins m hpre c
      exact ⟨fun r k => (congrFun a0 _).trans (B.h r k), fun r k => (congrFun a1 _).trans (B.up r k), fun r k => (congrFun a2 _).trans (B.dw r k),
        fun r k => (congrFun a3 _).trans (B.dn r k), fun r k => (congrFun a4 _).trans (B.ct r k)⟩
  · refine (h c).1.trans ((res73 m' c).trans (funext fun i => ?_))
    idx_vars i
    exact (dh_at A i0 i1).trans (dhOf_at (ins m c) i0 i1).symm
  · exact (h c).2.1.trans ((res80 m' c).trans (final8 m (ins m) c _ (gup_at A)).symm)
  · exact (h c).2.2.1.trans ((res81 m' c).trans (final9 m (ins m) c _ (gdn_at A)).symm)
  · exact (h c).2.2.2.1.trans ((res77 m' c).trans (final10 m (ins m) c _ (gdw_at A)).symm)

end Cert.Proof
-- ==== Proof.AdaF.lean ====
module

public import proofs.«01_k».proof.Defs
public import proofs.«01_k».proof.Proof.Gen.AdaFIdeal.Value
public import proofs.«01_k».proof.Proof.Gen.AdaFRefIdeal.Run
public import Idealize.ShloMosaic.Lib.Pipeline.ValueKit
public import Idealize.ShloMosaic.Lib.Pointwise

@[expose] public section

set_option maxRecDepth 16384

noncomputable section

namespace Cert.Proof

open Idealize.ShloMosaic Idealize.ShloMosaic.TcCoe Idealize.SL.Sem

/-- The kernel's activation at an index: `c` times its logistic function, spelt through the exponential. -/
theorem adaf_act (x : FVec Ideal Cert.AdaFIdeal.S8x1024 .f32) (b : Fin 8) (k : Fin 1024) :
    Cert.AdaFIdeal.Gen.k0_pay1 (F := Ideal) x (ix2 b k)
      = x (ix2 b k) * Ideal.div 1 (1 + Ideal.exp (-x (ix2 b k))) := by
  pointwise [Cert.AdaFIdeal.Gen.k0_pay1]
  try rw [zero_sub]

set_option maxHeartbeats 1600000 in
/-- The modulation of every layer: both programs contract the activation's columns with the layer's weight. -/
theorem algebraic_AdaFIdeal_AdaFRefIdeal : algebraic_AdaFIdeal_AdaFRefIdeal := by
  intro m ρ m' ρ' _ hagree
  refine ⟨_, Cert.AdaFIdeal.Value.run (F := Ideal) m ρ, ?_⟩
  refine (θ_run Cert.AdaFRefIdeal.defs _ _).mono (fun _ h c => ⟨?_, (h c).2⟩) (Cert.AdaFRefIdeal.Value.run (F := Ideal) m' ρ')
  rw [(h c).1]
  clear h
  funext i
  idx_vars i
  symm
  canon_tiles y h
  all_goals
    pointwise [Cert.AdaFIdeal.Gen.k0_pay2, Cert.AdaFIdeal.Gen.k0_pay3]
    simp only [ix3_0, ix3_1, ix3_2] at h0 h1 h2
    have e1 : y 1 = i1 := Fin.ext h1.symm
    have e2 : y 2 = i2 := Fin.ext h2.symm
  · rw [dif_neg (by omega)]
    refine Finset.sum_congr rfl fun b _ => ?_
    rw [e1, e2, adaf_act]
    rw [(hagree c).1, (hagree c).2]
  · rw [dif_pos (by omega)]
    refine Finset.sum_congr rfl fun b _ => ?_
    rw [e1, e2, adaf_act]
    rw [(hagree c).1, (hagree c).2]

end Cert.Proof
-- ==== Proof.PoolFPay.lean ====
module

public import proofs.«01_k».proof.Proof.Gen.PoolFIdeal.Frame
public import proofs.«01_k».proof.Proof.PoolBuf

/-! What the forward pooling kernel's vector expressions hold, element by element, where their operands are real. -/

@[expose] public section

set_option maxRecDepth 16384

noncomputable section

namespace Cert.PoolFVal

open Cert.PoolFIdeal Cert.PoolFIdeal.Gen Idealize.ShloMosaic Idealize.ShloMosaic.TcCoe Idealize.SL.Sem Cert.Reals
open Cert.PoolVal (In wn wn_le col grp off grp_col off_col col_grp ext fsum cnt cnt_ne down rowb sum_down pos_at cnt_at slice16_at dn2 dn_step col0)

/-! ## The two norms -/

theorem h_at (v3 : FVec Ideal S512x1024 .f32) (v4 : FVec Ideal S8x1024 .f32) (g s t : Fin 1024 → ℝ) (x : Fin 512 → Fin 1024 → ℝ)
    (g0 : ∀ k, v4 (ix2 0 k) = (g k : EReal)) (g1 : ∀ k, v4 (ix2 1 k) = (s k : EReal)) (g2 : ∀ k, v4 (ix2 2 k) = (t k : EReal))
    (h3 : ∀ r k, v3 (ix2 r k) = (x r k : EReal)) (r : Fin 512) (l : Fin 1024) :
    k0_pay3 (F := Ideal) v3 v4 (ix2 r l) = ((x r l * rinv (x r) * (g l * s l) + t l : ℝ) : EReal) := by
  pointwise [k0_pay3, k0_pay2]
  simp only [h3, g0, g1, g2, ← EReal.coe_mul, ← EReal.coe_add, ← EReal.coe_sub, coe_sum, ofBits_1024, ofBits_eps, div_1024, rsqrt_ms]

theorem xo_at (v3 : FVec Ideal S512x1024 .f32) (v4 : FVec Ideal S8x1024 .f32) (y : FVec Ideal S512x1024 .f32) (sc : FVec Ideal S1x1024 .f32)
    (pg gt s : Fin 1024 → ℝ) (x yp : Fin 512 → Fin 1024 → ℝ)
    (g3 : ∀ k, v4 (ix2 3 k) = (pg k : EReal)) (g4 : ∀ k, v4 (ix2 4 k) = (gt k : EReal)) (hs : ∀ k, sc (ix2 0 k) = (s k : EReal))
    (h3 : ∀ r k, v3 (ix2 r k) = (x r k : EReal)) (hy : ∀ r k, y (ix2 r k) = (yp r k : EReal)) (r : Fin 512) (l : Fin 1024) :
    k0_pay16 (F := Ideal) v3 (k0_pay2 v4) y sc (ix2 r l)
      = ((x r l + gt l * pg l * (yp r l * s l * rinv (fun k => yp r k * s k)) : ℝ) : EReal) := by
  have e : Ideal.rsqrt (((∑ k, yp r k * s k * (yp r k * s k)) / 1024 + eps : ℝ) : EReal) = ((rinv (fun k => yp r k * s k) : ℝ) : EReal) := rsqrt_ms fun k => yp r k * s k
  pointwise [k0_pay16, k0_pay2]
  simp only [h3, hy, hs, g3, g4, ← EReal.coe_mul, ← EReal.coe_add, ← EReal.coe_sub, coe_sum, ofBits_1024, ofBits_eps, div_1024, e]

/-! ## A group's product -/

/-- The group's mean less its own row, against the group's weights. -/
theorem dot_at (p hg : FVec Ideal S512x256 .f32) (cn : FVec Ideal S512x1 .f32) (w : FVec Ideal S1x256x256 .bf16) (r : Fin 512) (e : Fin 256) :
    matmul (F := Ideal) dot_S512x256_S256x256_S512x256_1_0_0_1_n_n none
        (truncf .bf16 (subf (divf p (broadcastTo S512x256 cn broadcasts_S512x1_S512x256)) hg) bitsLt_bf16_f32)
        (shapeCast S256x256 w shapeCasts_S1x256x256_S256x256) (constant S512x256 .f32 0x00000000#32) (ix2 r e)
      = ∑ a, (Ideal.div (p (ix2 r a)) (cn (ix2 r 0)) - hg (ix2 r a)) * w (ix3 0 a e) := by
  pointwise []

variable (I : In) (b : ℕ) (hb : b < 16)

/-- The same over the reals: the group's columns of the mixed rows. -/
theorem dot_real (q : Fin 4) (p hg : FVec Ideal S512x256 .f32) (cn : FVec Ideal S512x1 .f32) (w : FVec Ideal S1x256x256 .bf16) (r : Fin 512) (e : Fin 256)
    (hp : ∀ a, p (ix2 r a) = (fsum (wn q) (fun t => I.h t (col q a)) (b * 512 + r.val) : EReal))
    (hh : ∀ a, hg (ix2 r a) = (I.h (rowb b hb r) (col q a) : EReal)) (hc : cn (ix2 r 0) = (cnt (wn q) (b * 512 + r.val) : EReal))
    (hw : ∀ a, w (ix3 0 a e) = (I.W q a e : EReal)) :
    ∑ a, (Ideal.div (p (ix2 r a)) (cn (ix2 r 0)) - hg (ix2 r a)) * w (ix3 0 a e) = (I.yp (rowb b hb r) (col q e) : EReal) := by
  unfold In.yp
  rw [grp_col, off_col, ← coe_sum]
  refine Finset.sum_congr rfl fun a _ => ?_
  rw [hp, hh, hc, hw, div_real _ _ (cnt_ne q _), ← EReal.coe_sub, ← EReal.coe_mul, mul_comm]
  rfl

section
variable (ti : BitVec 32) (hti : ti = BitVec.ofNat 32 b) (h : FVec Ideal S512x1024 .f32)
  (hh : ∀ r l, h (ix2 r l) = (I.h (rowb b hb r) l : EReal)) (w : FVec Ideal S1x256x256 .bf16) (v : FVec Ideal S528x256 .f32)
  (r : Fin 512) (e : Fin 256)
include hti hh

theorem y0_at (v3 : FVec Ideal S512x1024 .f32) (v4 : FVec Ideal S8x1024 .f32) (i : grid0.Coords) (hi : (i 0).val = b) (hv34 : k0_pay3 v3 v4 = h)
    (hw : ∀ a e, w (ix3 0 a e) = (I.W 0 a e : EReal))
    (hv : ∀ (r : Fin 528) (a : Fin 256), v (ix2 r a) = (down (fun t => I.h t (col 0 a)) (b * 512 + r.val) : EReal)) :
    k0_pay8 (F := Ideal) (k0_pay5 v3 v4) (k0_pay6 v) (k0_pay7 i) w (ix2 r e) = (I.yp (rowb b hb r) (col 0 e) : EReal) :=
  (dot_at _ _ _ w r e).trans (dot_real I b hb 0 _ _ _ w r e
    (fun a => (slice16_at _ r a).trans ((dn2 (fun a n => down (fun t => I.h t (col 0 a)) (b * 512 + n)) v hv _ _ (by show 1 ≤ 16 + r.val; omega)).trans
      (congrArg _ (sum_down 2 (by omega) _ b r.val))))
    (fun a => by unfold k0_pay5; rw [hv34]; pointwise []; rw [col0]; exact hh r _)
    (by pointwise [k0_pay7]; rw [hi, pos_at b hb r]; exact cnt_at _ 2 (by omega) (by omega))
    (fun a => hw a e))

theorem y1_at (hw : ∀ a e, w (ix3 0 a e) = (I.W 1 a e : EReal))
    (hv : ∀ (r : Fin 528) (a : Fin 256), v (ix2 r a) = (down (fun t => I.h t (col 1 a)) (b * 512 + r.val) : EReal)) :
    k0_pay9 (F := Ideal) ti h v w (ix2 r e) = (I.yp (rowb b hb r) (col 1 e) : EReal) :=
  (dot_at _ _ _ w r e).trans (dot_real I b hb 1 _ _ _ w r e
    (fun a => (slice16_at _ r a).trans ((dn_step (fun a n => down (fun t => I.h t (col 1 a)) (b * 512 + n)) 2 1 2#32 rfl (by omega) _ (dn2 (fun a n => down (fun t => I.h t (col 1 a)) (b * 512 + n)) v hv) _ _ (by show 3 ≤ 16 + r.val; omega)).trans
      (congrArg _ (sum_down 4 (by omega) _ b r.val))))
    (fun a => by pointwise []; exact hh r (col 1 a))
    (by pointwise []; rw [hti, pos_at b hb r]; exact cnt_at _ 4 (by omega) (by omega))
    (fun a => hw a e))

theorem y2_at (hw : ∀ a e, w (ix3 0 a e) = (I.W 2 a e : EReal))
    (hv : ∀ (r : Fin 528) (a : Fin 256), v (ix2 r a) = (down (fun t => I.h t (col 2 a)) (b * 512 + r.val) : EReal)) :
    k0_pay11 (F := Ideal) (Scalar.muli ti 512#32) (k0_pay10 h) v w (ix2 r e) = (I.yp (rowb b hb r) (col 2 e) : EReal) :=
  (dot_at _ _ _ w r e).trans (dot_real I b hb 2 _ _ _ w r e
    (fun a => (slice16_at _ r a).trans ((dn_step (fun a n => down (fun t => I.h t (col 2 a)) (b * 512 + n)) 4 3 4#32 rfl (by omega) _ (dn_step (fun a n => down (fun t => I.h t (col 2 a)) (b * 512 + n)) 2 1 2#32 rfl (by omega) _ (dn2 (fun a n => down (fun t => I.h t (col 2 a)) (b * 512 + n)) v hv)) _ _ (by show 7 ≤ 16 + r.val; omega)).trans
      (congrArg _ (sum_down 8 (by omega) _ b r.val))))
    (fun a => by pointwise [k0_pay10]; exact hh r (col 2 a))
    (by pointwise []; rw [hti, pos_at b hb r]; exact cnt_at _ 8 (by omega) (by omega))
    (fun a => hw a e))

theorem y3_at (hw : ∀ a e, w (ix3 0 a e) = (I.W 3 a e : EReal))
    (hv : ∀ (r : Fin 528) (a : Fin 256), v (ix2 r a) = (down (fun t => I.h t (col 3 a)) (b * 512 + r.val) : EReal)) :
    k0_pay15 (F := Ideal) (k0_pay12 h) (k0_pay13 v) (k0_pay14 ti) w (ix2 r e) = (I.yp (rowb b hb r) (col 3 e) : EReal) :=
  (dot_at _ _ _ w r e).trans (dot_real I b hb 3 _ _ _ w r e
    (fun a => (slice16_at _ r a).trans ((dn_step (fun a n => down (fun t => I.h t (col 3 a)) (b * 512 + n)) 8 7 8#32 rfl (by omega) _ (dn_step (fun a n => down (fun t => I.h t (col 3 a)) (b * 512 + n)) 4 3 4#32 rfl (by omega) _ (dn_step (fun a n => down (fun t => I.h t (col 3 a)) (b * 512 + n)) 2 1 2#32 rfl (by omega) _ (dn2 (fun a n => down (fun t => I.h t (col 3 a)) (b * 512 + n)) v hv))) _ _ (by show 15 ≤ 16 + r.val; omega)).trans
      (congrArg _ (sum_down 16 (by omega) _ b r.val))))
    (fun a => by pointwise [k0_pay12]; exact hh r (col 3 a))
    (by pointwise [k0_pay14]; rw [hti, pos_at b hb r]; exact cnt_at _ 16 (by omega) (by omega))
    (fun a => hw a e))

end

end Cert.PoolFVal
-- ==== Proof.PoolFReads.lean ====
module

public import proofs.«01_k».proof.Proof.Gen.PoolFIdeal.Value
public import proofs.«01_k».proof.Proof.PoolSpec
public import Idealize.ShloMosaic.Lib.StableHlo.RunRead
public import Idealize.ShloMosaic.Lib.Pointwise

/-! What the forward pooling kernel's windows hold at each point, in terms of the arguments. -/

@[expose] public section

set_option maxRecDepth 16384

noncomputable section

namespace Cert.PoolFVal

open Cert.PoolFIdeal Cert.PoolFIdeal.Gen Idealize.ShloMosaic Idealize.ShloMosaic.TcCoe Idealize.SL.Sem Cert.Reals

variable (m : (ℓ : Loc nD τ sig) → Buf (Elt Ideal) ℓ)

theorem idx : ∀ t : Fin cfg0.N, win0_0.index t = ![t.val, 0] ∧ win0_1.index t = ![0, 0] ∧ win0_2.index t = ![0, 0, 0] ∧ win0_3.index t = ![0, 0]
    ∧ win0_4.index t = ![t.val, 0] ∧ win0_5.index t = ![t.val, 0] ∧ t.val < 16 ∧ (grid0.coords t 0).val = t.val :=
  (by decide +kernel : ∀ t : Fin grid0.N, _)

theorem lt16 (t : Fin cfg0.N) : t.val < 16 := (idx t).2.2.2.2.2.2.1

/-- The row of the whole array that a point's row is. -/
abbrev row (t : Fin cfg0.N) (r : Fin 512) : Fin 8192 := ⟨t.val * 512 + r.val, by have := lt16 t; omega⟩

theorem blk0 (c : Dev nD) (t : Fin cfg0.N) (r : Fin 512) (k : Fin 1024) :
    (show FVec Ideal S512x1024 .f32 from iblk m c 0 t) (ix2 r k) = m ((c : Thread nD τ).loc main_arg0) (ix2 (row t r) k) := by
  blk_ext [iblk, V, idx t]

theorem blk1 (c : Dev nD) (t : Fin cfg0.N) (r : Fin 8) (k : Fin 1024) :
    (show FVec Ideal S8x1024 .f32 from iblk m c 1 t) (ix2 r k) = V m c main_v9 (ix2 r k) := by
  blk_ext [iblk, idx t]

theorem blk2 (c : Dev nD) (t : Fin cfg0.N) (q : Fin 4) (a e : Fin 256) :
    (show FVec Ideal S4x256x256 .bf16 from iblk m c 2 t) (ix3 q a e) = m ((c : Thread nD τ).loc main_arg6) (ix3 q a e) := by
  refine Eq.trans (b := V m c main_v10 (ix3 q a e)) (by blk_ext [iblk, idx t]) ?_
  unfold V
  after_reads_simp
  pointwise []

theorem blk3 (c : Dev nD) (t : Fin cfg0.N) (k : Fin 1024) :
    (show FVec Ideal S1x1024 .f32 from iblk m c 3 t) (ix2 0 k) = m ((c : Thread nD τ).loc main_arg7) (ix1 k) := by
  refine Eq.trans (b := V m c main_v11 (ix2 0 k)) (by blk_ext [iblk, idx t]) ?_
  unfold V
  after_reads_simp
  pointwise []

theorem pv0 (c : Dev nD) (k : Fin 1024) : V m c main_v9 (ix2 0 k) = m ((c : Thread nD τ).loc main_arg1) (ix1 k) := by
  unfold V
  after_reads_simp
  pointwise []
  after_reads_simp
  pointwise []

theorem pv1 (c : Dev nD) (k : Fin 1024) : V m c main_v9 (ix2 1 k) = (1 + m ((c : Thread nD τ).loc main_arg4) (ix1 k) : EReal) := by
  unfold V
  after_reads_simp
  pointwise []
  after_reads_simp
  pointwise []

theorem pv2 (c : Dev nD) (k : Fin 1024) : V m c main_v9 (ix2 2 k) = (m ((c : Thread nD τ).loc main_arg3) (ix1 k) : EReal) := by
  unfold V
  after_reads_simp
  pointwise []
  after_reads_simp
  pointwise []

theorem pv3 (c : Dev nD) (k : Fin 1024) : V m c main_v9 (ix2 3 k) = (m ((c : Thread nD τ).loc main_arg2) (ix1 k) : EReal) := by
  unfold V
  after_reads_simp
  pointwise []
  after_reads_simp
  pointwise []

theorem pv4 (c : Dev nD) (k : Fin 1024) : V m c main_v9 (ix2 4 k) = (m ((c : Thread nD τ).loc main_arg5) (ix1 k) : EReal) := by
  unfold V
  after_reads_simp
  pointwise []
  after_reads_simp
  pointwise []

end Cert.PoolFVal
-- ==== Proof.PoolFPoint.lean ====
module

public import proofs.«01_k».proof.Proof.PoolFPay
public import proofs.«01_k».proof.Proof.PoolFReads

/-! The forward pooling kernel, point by point: its block of mixed rows, its block of outputs, and the sixteen rows it leaves. -/

@[expose] public section

set_option maxRecDepth 16384

noncomputable section

namespace Cert.PoolFVal

open Cert.PoolFIdeal Cert.PoolFIdeal.Gen Idealize.ShloMosaic Idealize.ShloMosaic.TcCoe Idealize.SL.Sem Cert.Reals
open Cert.PoolVal (In wn col grp off ext ext_lt down rowb)

/-- The sub-layer's output: the rows, and the gated, normed and scaled mixed rows. -/
def xo (I : In) (r : Fin 8192) (l : Fin 1024) : ℝ := I.x r l + I.gt l * I.pg l * (I.y r l * rinv (I.y r))

/-! ## Loads of four groups' columns, and the four groups' stores -/

/-- Rows with the sixteen before them. -/
def Tall (I : In) (b : ℕ) (X : FVec Ideal S528x1024 .f32) : Prop :=
  ∀ (r : Fin 528) (l : Fin 1024), X (ix2 r l) = (down (fun t => I.h t l) (b * 512 + r.val) : EReal)

/-- The buffer's rows after a store of the block's own rows: the block's rows, above them what was there. -/
theorem tall_of (I : In) (b : ℕ) (hb : b < 16) (h : FVec Ideal S512x1024 .f32) (hh : ∀ r l, h (ix2 r l) = (I.h (rowb b hb r) l : EReal))
    (X : FVec Ideal S528x1024 .f32) (hit : ∀ (r : Fin 512) (l : Fin 1024), X (ix2 (⟨16 + r.val, by omega⟩ : Fin 528) l) = h (ix2 r l))
    (hal : ∀ (r : Fin 528) (l : Fin 1024), r.val < 16 → X (ix2 r l) = (down (fun t => I.h t l) (b * 512 + r.val) : EReal)) : Tall I b X := by
  intro r l
  by_cases hr : 16 ≤ r.val
  · have e : r = (⟨16 + (⟨r.val - 16, by omega⟩ : Fin 512).val, by show 16 + (r.val - 16) < 528; omega⟩ : Fin 528) := Fin.ext (by show r.val = 16 + (r.val - 16); omega)
    rw [e, hit, hh]
    refine congrArg _ ?_
    unfold down
    rw [if_pos (by show 16 ≤ b * 512 + (16 + (r.val - 16)); omega)]
    refine (ext_lt (fun t => I.h t l) (rowb b hb ⟨r.val - 16, by omega⟩)).symm.trans (congrArg _ ?_)
    show b * 512 + (r.val - 16) = b * 512 + (16 + (r.val - 16)) - 16
    omega
  · exact hal r l (by omega)

/-- The four groups' stores. -/
abbrev YL (p0 p1 p2 p3 : FVec Ideal S512x256 .f32) : List (View.Piece (Elt Ideal) S512x1024 .f32) :=
  [⟨Rect.unit ![0, 768] ![512, 256] inb_S512x1024_S512x256_0_768, p3⟩, ⟨Rect.unit ![0, 512] ![512, 256] inb_S512x1024_S512x256_0_512, p2⟩,
    ⟨Rect.unit ![0, 256] ![512, 256] inb_S512x1024_S512x256_0_256, p1⟩, ⟨Rect.unit ![0, 0] ![512, 256] inb_S512x1024_S512x256_0_0, p0⟩]

theorem yl_at (I : In) (b : ℕ) (hb : b < 16) (p0 p1 p2 p3 : FVec Ideal S512x256 .f32)
    (h0 : ∀ r e, p0 (ix2 r e) = (I.yp (rowb b hb r) (col 0 e) : EReal)) (h1 : ∀ r e, p1 (ix2 r e) = (I.yp (rowb b hb r) (col 1 e) : EReal))
    (h2 : ∀ r e, p2 (ix2 r e) = (I.yp (rowb b hb r) (col 2 e) : EReal)) (h3 : ∀ r e, p3 (ix2 r e) = (I.yp (rowb b hb r) (col 3 e) : EReal))
    (r : Fin 512) (l : Fin 1024) : View.canon (YL p0 p1 p2 p3) (ix2 r l) = (I.yp (rowb b hb r) l : EReal) := by
  have pick : ∀ (q : Fin 4), l.val / 256 = q.val → (I.yp (rowb b hb r) (col q (off l)) : EReal) = (I.yp (rowb b hb r) l : EReal) := fun q hq =>
    congrArg (fun k => (I.yp (rowb b hb r) k : EReal)) (Fin.ext (by show q.val * 256 + l.val % 256 = l.val; omega))
  by_cases c3 : l.val / 256 = 3
  · exact (Cert.Rows.canon_rect_hit _ _ _ r (off l) r l (by omega) (by show l.val = 768 + l.val % 256; omega)).trans ((h3 r _).trans (pick 3 c3))
  refine (Cert.Rows.canon_rect_miss _ _ _ r l (by omega)).trans ?_
  by_cases c2 : l.val / 256 = 2
  · exact (Cert.Rows.canon_rect_hit _ _ _ r (off l) r l (by omega) (by show l.val = 512 + l.val % 256; omega)).trans ((h2 r _).trans (pick 2 c2))
  refine (Cert.Rows.canon_rect_miss _ _ _ r l (by omega)).trans ?_
  by_cases c1 : l.val / 256 = 1
  · exact (Cert.Rows.canon_rect_hit _ _ _ r (off l) r l (by omega) (by show l.val = 256 + l.val % 256; omega)).trans ((h1 r _).trans (pick 1 c1))
  refine (Cert.Rows.canon_rect_miss _ _ _ r l (by omega)).trans ?_
  exact (Cert.Rows.canon_rect_hit _ _ _ r (off l) r l (by omega) (by show l.val = 0 + l.val % 256; omega)).trans ((h0 r _).trans (pick 0 (by show l.val / 256 = 0; omega)))

theorem pay4_at (v3 : FVec Ideal S512x1024 .f32) (v4 : FVec Ideal S8x1024 .f32) (r : Fin 512) (l : Fin 1024) :
    k0_pay4 (F := Ideal) v3 v4 (ix2 r l) = k0_pay3 v3 v4 (ix2 r l) := by
  pointwise [k0_pay4]

theorem pay17_at (v : FVec Ideal S16x1024 .f32) (r : Fin 16) (l : Fin 1024) : k0_pay17 (F := Ideal) v (ix2 r l) = v (ix2 r l) := by
  pointwise [k0_pay17]

theorem pay1_at (r : Fin 16) (l : Fin 1024) : k0_pay1 (F := Ideal) (ix2 r l) = (0 : EReal) := by
  pointwise [k0_pay1]

variable (m : (ℓ : Loc nD τ sig) → Buf (Elt Ideal) ℓ) (c : Dev nD)

/-- The kernel's arguments are the real inputs. -/
structure Reads (I : In) : Prop where
  a0 : ∀ r k, m ((c : Thread nD τ).loc main_arg0) (ix2 r k) = (I.x r k : EReal)
  a1 : ∀ k, m ((c : Thread nD τ).loc main_arg1) (ix1 k) = (I.g k : EReal)
  a2 : ∀ k, m ((c : Thread nD τ).loc main_arg2) (ix1 k) = (I.pg k : EReal)
  a3 : ∀ k, m ((c : Thread nD τ).loc main_arg3) (ix1 k) = (I.sh k : EReal)
  a4 : ∀ k, m ((c : Thread nD τ).loc main_arg4) (ix1 k) = (I.sc k : EReal)
  a5 : ∀ k, m ((c : Thread nD τ).loc main_arg5) (ix1 k) = (I.gt k : EReal)
  a6 : ∀ q a e, m ((c : Thread nD τ).loc main_arg6) (ix3 q a e) = (I.W q a e : EReal)
  a7 : ∀ k, m ((c : Thread nD τ).loc main_arg7) (ix1 k) = (I.scl k : EReal)

variable {m c} {I : In} (K : Reads m c I) (t : Fin cfg0.N)

include K

theorem g0 (k : Fin 1024) : (show FVec Ideal S8x1024 .f32 from iblk m c 1 t) (ix2 0 k) = (I.g k : EReal) := (blk1 m c t 0 k).trans ((pv0 m c k).trans (K.a1 k))

theorem g1 (k : Fin 1024) : (show FVec Ideal S8x1024 .f32 from iblk m c 1 t) (ix2 1 k) = ((1 + I.sc k : ℝ) : EReal) :=
  (blk1 m c t 1 k).trans ((pv1 m c k).trans (by rw [K.a4, EReal.coe_add, EReal.coe_one]))

theorem g2 (k : Fin 1024) : (show FVec Ideal S8x1024 .f32 from iblk m c 1 t) (ix2 2 k) = (I.sh k : EReal) := (blk1 m c t 2 k).trans ((pv2 m c k).trans (K.a3 k))

theorem g3 (k : Fin 1024) : (show FVec Ideal S8x1024 .f32 from iblk m c 1 t) (ix2 3 k) = (I.pg k : EReal) := (blk1 m c t 3 k).trans ((pv3 m c k).trans (K.a2 k))

theorem g4 (k : Fin 1024) : (show FVec Ideal S8x1024 .f32 from iblk m c 1 t) (ix2 4 k) = (I.gt k : EReal) := (blk1 m c t 4 k).trans ((pv4 m c k).trans (K.a5 k))

theorem x0 (r : Fin 512) (k : Fin 1024) : (show FVec Ideal S512x1024 .f32 from iblk m c 0 t) (ix2 r k) = (I.x (row t r) k : EReal) := (blk0 m c t r k).trans (K.a0 _ k)

theorem s3 (k : Fin 1024) : (show FVec Ideal S1x1024 .f32 from iblk m c 3 t) (ix2 0 k) = (I.scl k : EReal) := (blk3 m c t k).trans (K.a7 k)

theorem wT (q : Fin 4) (inb : ∀ a, (![q.val, 0, 0] : Fin 3 → ℕ) a + S1x256x256.size a ≤ S4x256x256.size a) (a e : Fin 256) :
    (View.ld (iblk m c 2 t) (Rect.unit (s := S4x256x256) ![q.val, 0, 0] ![1, 256, 256] inb) : FVec Ideal S1x256x256 .bf16) (ix3 0 a e) = (I.W q a e : EReal) :=
  (Cert.Rows.ld_slab (iblk m c 2 t) q _ a e).trans ((blk2 m c t q a e).trans (K.a6 q a e))

theorem hT (r : Fin 512) (l : Fin 1024) : k0_pay3 (F := Ideal) (iblk m c 0 t) (iblk m c 1 t) (ix2 r l) = (I.h (row t r) l : EReal) :=
  h_at (iblk m c 0 t) (iblk m c 1 t) I.g (fun k => 1 + I.sc k) I.sh (fun r => I.x (row t r)) (g0 K t) (g1 K t) (g2 K t) (x0 K t) r l

theorem h4T (r : Fin 512) (l : Fin 1024) : k0_pay4 (F := Ideal) (iblk m c 0 t) (iblk m c 1 t) (ix2 r l) = (I.h (row t r) l : EReal) :=
  (pay4_at _ _ r l).trans (hT K t r l)

/-- The sixteen rows a point leaves to the next: its own block's last. -/
theorem carry (r : Fin 528) (l : Fin 1024) (hr : r.val < 16) :
    (outsAt0 m c t.val t.isLt).2.2 (ix2 r l) = (I.h (row t ⟨496 + r.val, by omega⟩) l : EReal) := by
  by_cases hp : t.val % 16 = 0
  · rw [outsAt0_A m c t hp]
    frame_out
    refine (Cert.Rows.canon_rect_hit _ _ _ (⟨r.val, by omega⟩ : Fin 16) l r l (by show r.val = 0 + r.val; omega) (by omega)).trans ?_
    refine (pay17_at _ _ _).trans ((Cert.Rows.readCov_rect _ _ _ (⟨r.val, by omega⟩ : Fin 16) l (⟨512 + r.val, by omega⟩ : Fin 528) l rfl (by omega)).trans ?_)
    exact (Cert.Rows.canon_rect_hit _ _ _ (⟨496 + r.val, by omega⟩ : Fin 512) l _ l (by show 512 + r.val = 16 + (496 + r.val); omega) (by omega)).trans (h4T K t _ l)
  · rw [outsAt0_B m c t hp]
    frame_out
    refine (Cert.Rows.canon_rect_hit _ _ _ (⟨r.val, by omega⟩ : Fin 16) l r l (by show r.val = 0 + r.val; omega) (by omega)).trans ?_
    refine (pay17_at _ _ _).trans ((Cert.Rows.readCov_rect _ _ _ (⟨r.val, by omega⟩ : Fin 16) l (⟨512 + r.val, by omega⟩ : Fin 528) l rfl (by omega)).trans ?_)
    exact (Cert.Rows.canon_rect_hit _ _ _ (⟨496 + r.val, by omega⟩ : Fin 512) l _ l (by show 512 + r.val = 16 + (496 + r.val); omega) (by omega)).trans (h4T K t _ l)

/-- At the first point the sixteen rows are zeros. -/
theorem tallA (hp : t.val % 16 = 0) : Tall I t.val (View.canon [(⟨Rect.unit ![16, 0] ![512, 1024] inb_S528x1024_S512x1024_16_0, k0_pay4 (iblk m c 0 t) (iblk m c 1 t)⟩ : View.Piece (Elt Ideal) S528x1024 .f32),
    ⟨Rect.unit ![0, 0] ![16, 1024] inb_S528x1024_S16x1024_0_0, k0_pay1 (F := Ideal)⟩]) := by
  refine tall_of I t.val (lt16 t) _ (h4T K t) _ (fun r l => Cert.Rows.canon_rect_hit _ _ _ r l _ l rfl (by omega)) fun r l hr => ?_
  have := lt16 t
  refine (Cert.Rows.canon_rect_miss _ _ _ r l (by omega)).trans ((Cert.Rows.canon_rect_hit _ _ _ (⟨r.val, by omega⟩ : Fin 16) l r l (by show r.val = 0 + r.val; omega) (by omega)).trans ?_)
  unfold down
  rw [if_neg (by omega), EReal.coe_zero]
  exact pay1_at _ l

/-- At the others they are the last point's. -/
theorem tallB (hp : ¬ t.val % 16 = 0) (hw : scM0_0.IsWhole) : Tall I t.val (View.read (Elt Ideal) (View.whole cc0_scratch0)
    ((View.whole cc0_scratch0).writes (Elt Ideal) (hw.unread (outsAt0 m c (t.val - 1) (Nat.lt_of_le_of_lt (Nat.sub_le _ _) t.isLt)).2.2)
      [(⟨Rect.unit ![16, 0] ![512, 1024] inb_S528x1024_S512x1024_16_0, k0_pay4 (iblk m c 0 t) (iblk m c 1 t)⟩ : View.Piece (Elt Ideal) S528x1024 .f32)])) := by
  refine tall_of I t.val (lt16 t) _ (h4T K t) _ (fun r l => Cert.Rows.read_rect_hit _ _ _ _ _ r l _ l rfl (by omega)) fun r l hr => ?_
  have := lt16 t
  refine (Cert.Rows.read_rect_miss _ _ _ _ _ r l (by omega)).trans ((congrFun (hw.read_unread _) (ix2 r l)).trans ((carry K ⟨t.val - 1, by omega⟩ r l hr).trans (congrArg _ ?_)))
  unfold down
  rw [if_pos (by omega)]
  refine (ext_lt (fun t => I.h t l) _).symm.trans (congrArg _ ?_)
  show (t.val - 1) * 512 + (496 + r.val) = t.val * 512 + r.val - 16
  omega

/-- The block of mixed rows, from the four loads. -/
theorem yT (q0 q1 q2 q3 : FVec Ideal S528x256 .f32)
    (e0 : ∀ (r : Fin 528) (a : Fin 256), q0 (ix2 r a) = (down (fun t => I.h t (col 0 a)) (t.val * 512 + r.val) : EReal))
    (e1 : ∀ (r : Fin 528) (a : Fin 256), q1 (ix2 r a) = (down (fun t => I.h t (col 1 a)) (t.val * 512 + r.val) : EReal))
    (e2 : ∀ (r : Fin 528) (a : Fin 256), q2 (ix2 r a) = (down (fun t => I.h t (col 2 a)) (t.val * 512 + r.val) : EReal))
    (e3 : ∀ (r : Fin 528) (a : Fin 256), q3 (ix2 r a) = (down (fun t => I.h t (col 3 a)) (t.val * 512 + r.val) : EReal)) (r : Fin 512) (l : Fin 1024) :
    View.canon (YL
      (k0_pay8 (k0_pay5 (iblk m c 0 t) (iblk m c 1 t)) (k0_pay6 q0) (k0_pay7 (grid0.coords t)) (View.ld (iblk m c 2 t) (Rect.unit (s := S4x256x256) ![0, 0, 0] ![1, 256, 256] inb_S4x256x256_S1x256x256_0_0_0)))
      (k0_pay9 (BitVec.ofNat 32 (grid0.coords t 0).val) (k0_pay3 (iblk m c 0 t) (iblk m c 1 t)) q1 (View.ld (iblk m c 2 t) (Rect.unit (s := S4x256x256) ![1, 0, 0] ![1, 256, 256] inb_S4x256x256_S1x256x256_1_0_0)))
      (k0_pay11 (Scalar.muli (BitVec.ofNat 32 (grid0.coords t 0).val) 512#32) (k0_pay10 (k0_pay3 (iblk m c 0 t) (iblk m c 1 t))) q2 (View.ld (iblk m c 2 t) (Rect.unit (s := S4x256x256) ![2, 0, 0] ![1, 256, 256] inb_S4x256x256_S1x256x256_2_0_0)))
      (k0_pay15 (k0_pay12 (k0_pay3 (iblk m c 0 t) (iblk m c 1 t))) (k0_pay13 q3) (k0_pay14 (BitVec.ofNat 32 (grid0.coords t 0).val)) (View.ld (iblk m c 2 t) (Rect.unit (s := S4x256x256) ![3, 0, 0] ![1, 256, 256] inb_S4x256x256_S1x256x256_3_0_0))))
      (ix2 r l) = (I.yp (row t r) l : EReal) := by
  have hi := (idx t).2.2.2.2.2.2.2
  have ht : BitVec.ofNat 32 (grid0.coords t 0).val = BitVec.ofNat 32 t.val := congrArg _ hi
  refine yl_at I t.val (lt16 t) _ _ _ _ (fun r e => ?_) (fun r e => ?_) (fun r e => ?_) (fun r e => ?_) r l
  · exact y0_at I t.val (lt16 t) _ rfl _ (hT K t) _ _ r e _ _ _ hi rfl (wT K t 0 _) e0
  · exact y1_at I t.val (lt16 t) _ ht _ (hT K t) _ _ r e (wT K t 1 _) e1
  · exact y2_at I t.val (lt16 t) _ ht _ (hT K t) _ _ r e (wT K t 2 _) e2
  · exact y3_at I t.val (lt16 t) _ ht _ (hT K t) _ _ r e (wT K t 3 _) e3

/-- The block of outputs. -/
theorem xoT (y : FVec Ideal S512x1024 .f32) (hy : ∀ (r : Fin 512) (l : Fin 1024), y (ix2 r l) = (I.yp (row t r) l : EReal)) (r : Fin 512) (l : Fin 1024) :
    k0_pay16 (F := Ideal) (iblk m c 0 t) (k0_pay2 (iblk m c 1 t)) y (iblk m c 3 t) (ix2 r l) = (xo I (row t r) l : EReal) :=
  xo_at (iblk m c 0 t) (iblk m c 1 t) y (iblk m c 3 t) I.pg I.gt I.scl (fun r => I.x (row t r)) (fun r => I.yp (row t r)) (g3 K t) (g4 K t) (s3 K t) (x0 K t) hy r l

theorem ldA {X : List (View.Piece (Elt Ideal) S528x1024 .f32)} (hX : Tall I t.val (View.canon X)) (g : Fin 4) (o : ℕ) (ho : o = g.val * 256)
    (inb : ∀ q, (![0, o] : Fin 2 → ℕ) q + (![528, 256] : Fin 2 → ℕ) q ≤ S528x1024.size q) (r : Fin 528) (a : Fin 256) :
    ((View.whole cc0_scratch0).readCov X (Rect.unit (s := S528x1024) ![0, o] ![528, 256] inb).toLoadRect : FVec Ideal S528x256 .f32) (ix2 r a)
      = (down (fun t => I.h t (col g a)) (t.val * 512 + r.val) : EReal) :=
  (Cert.Rows.readCov_rect _ _ _ r a r (col g a) (by omega) (by show g.val * 256 + a.val = o + a.val; omega)).trans (hX r (col g a))

theorem ldB {X : Vec Ideal S528x1024 .f32} (hX : Tall I t.val X) (g : Fin 4) (o : ℕ) (ho : o = g.val * 256)
    (inb : ∀ q, (![0, o] : Fin 2 → ℕ) q + (![528, 256] : Fin 2 → ℕ) q ≤ S528x1024.size q) (r : Fin 528) (a : Fin 256) :
    (View.ld (Val := Elt Ideal) X (Rect.unit (s := S528x1024) ![0, o] ![528, 256] inb) : FVec Ideal S528x256 .f32) (ix2 r a)
      = (down (fun t => I.h t (col g a)) (t.val * 512 + r.val) : EReal) :=
  (Cert.Rows.ld_rect _ _ r a r (col g a) (by omega) (by show g.val * 256 + a.val = o + a.val; omega)).trans (hX r (col g a))

theorem final5 (G : FVec Ideal S8192x1024 .f32) (hG : ∀ r l, G (ix2 r l) = (I.yp r l : EReal)) : (dats m 0 c).arrAt 5 (cfgs 0).N = G := by
  refine (dats m 0 c).arrAt_eq_of_covers 5 _ (by decide +kernel) fun t hf i => ?_
  blk_simp [idx t]
  rw [after0_5]
  by_cases hp : t.val % 16 = 0
  · rw [outsAt0_A m c t hp]
    frame_out
    idx_vars i
    have T := tallA K t hp
    refine (yT K t _ _ _ _ (ldA K t T 0 0 rfl _) (ldA K t T 1 256 rfl _) (ldA K t T 2 512 rfl _) (ldA K t T 3 768 rfl _) _ _).trans ((hG _ _).symm.trans ?_)
    blk_ext [idx t]
  · rw [outsAt0_B m c t hp]
    frame_out
    idx_vars i
    have T := tallB K t hp (Memref.isWhole_whole _)
    refine (yT K t _ _ _ _ (ldB K t T 0 0 rfl _) (ldB K t T 1 256 rfl _) (ldB K t T 2 512 rfl _) (ldB K t T 3 768 rfl _) _ _).trans ((hG _ _).symm.trans ?_)
    blk_ext [idx t]

theorem final4 (G : FVec Ideal S8192x1024 .f32) (hG : ∀ r l, G (ix2 r l) = (xo I r l : EReal)) : (dats m 0 c).arrAt 4 (cfgs 0).N = G := by
  refine (dats m 0 c).arrAt_eq_of_covers 4 _ (by decide +kernel) fun t hf i => ?_
  blk_simp [idx t]
  rw [after0_4]
  by_cases hp : t.val % 16 = 0
  · rw [outsAt0_A m c t hp]
    frame_out
    idx_vars i
    have T := tallA K t hp
    refine (xoT K t _ (fun r l => (Cert.Rows.readCov_rect _ _ _ r l r l (by omega) (by omega)).trans
      (yT K t _ _ _ _ (ldA K t T 0 0 rfl _) (ldA K t T 1 256 rfl _) (ldA K t T 2 512 rfl _) (ldA K t T 3 768 rfl _) r l)) _ _).trans ((hG _ _).symm.trans ?_)
    blk_ext [idx t]
  · rw [outsAt0_B m c t hp]
    frame_out
    idx_vars i
    have T := tallB K t hp (Memref.isWhole_whole _)
    refine (xoT K t _ (fun r l => (Cert.Rows.readCov_rect _ _ _ r l r l (by omega) (by omega)).trans
      (yT K t _ _ _ _ (ldB K t T 0 0 rfl _) (ldB K t T 1 256 rfl _) (ldB K t T 2 512 rfl _) (ldB K t T 3 768 rfl _) r l)) _ _).trans ((hG _ _).symm.trans ?_)
    blk_ext [idx t]

end Cert.PoolFVal
-- ==== Proof.PoolFRef.lean ====
module

public import proofs.«01_k».proof.Proof.PoolFPoint
public import proofs.«01_k».proof.Proof.PoolRefA
public import proofs.«01_k».proof.Proof.Gen.PoolFRefIdeal.Run

/-! The forward pooling reference: its two results over the reals.

Its mixed rows are the term the backward's reference differentiates through, so they are read off there. -/

@[expose] public section

set_option maxRecDepth 16384

noncomputable section

namespace Cert.PoolFVal

open Cert.PoolFRefIdeal Cert.PoolFRefIdeal.Value Idealize.ShloMosaic Idealize.ShloMosaic.TcCoe Idealize.SL.Sem Cert.Reals
open Cert.PoolVal (In Args)

local notation "Val0" => Valuation Cert.PoolRefIdeal.τ Cert.PoolRefIdeal.sig (Elt Ideal)

/-- Nine arrays, as the backward's reference takes them. -/
theorem args_exist (x0 : FVec Ideal S8192x1024 .f32) (x1 x2 x3 x4 x5 : FVec Ideal S1024 .f32) (x6 : FVec Ideal S4x256x256 .f32) (x7 : FVec Ideal S1024 .f32)
    (x8 : FVec Ideal S8192x1024 .f32) : ∃ V0 : Val0,
      V0 (Proc.devRef .tc Cert.PoolRefIdeal.main_arg0) = x0 ∧ V0 (Proc.devRef .tc Cert.PoolRefIdeal.main_arg1) = x1
      ∧ V0 (Proc.devRef .tc Cert.PoolRefIdeal.main_arg2) = x2 ∧ V0 (Proc.devRef .tc Cert.PoolRefIdeal.main_arg3) = x3
      ∧ V0 (Proc.devRef .tc Cert.PoolRefIdeal.main_arg4) = x4 ∧ V0 (Proc.devRef .tc Cert.PoolRefIdeal.main_arg5) = x5
      ∧ V0 (Proc.devRef .tc Cert.PoolRefIdeal.main_arg6) = x6 ∧ V0 (Proc.devRef .tc Cert.PoolRefIdeal.main_arg7) = x7
      ∧ V0 (Proc.devRef .tc Cert.PoolRefIdeal.main_arg8) = x8 := by
  classical
  refine ⟨Function.update (Function.update (Function.update (Function.update (Function.update (Function.update (Function.update (Function.update
    (Function.update (fun b _ => default) (Proc.devRef .tc Cert.PoolRefIdeal.main_arg0) x0) (Proc.devRef .tc Cert.PoolRefIdeal.main_arg1) x1)
    (Proc.devRef .tc Cert.PoolRefIdeal.main_arg2) x2) (Proc.devRef .tc Cert.PoolRefIdeal.main_arg3) x3) (Proc.devRef .tc Cert.PoolRefIdeal.main_arg4) x4)
    (Proc.devRef .tc Cert.PoolRefIdeal.main_arg5) x5) (Proc.devRef .tc Cert.PoolRefIdeal.main_arg6) x6) (Proc.devRef .tc Cert.PoolRefIdeal.main_arg7) x7)
    (Proc.devRef .tc Cert.PoolRefIdeal.main_arg8) x8, ?_⟩
  refine ⟨?_, ?_, ?_, ?_, ?_, ?_, ?_, ?_, ?_⟩
  all_goals
    repeat (first | exact Function.update_self _ _ _ | refine (Function.update_of_ne (by decide) _ _).trans ?_)

variable (m : (ℓ : Loc nD τ sig) → Buf (Elt Ideal) ℓ) (c : Dev nD)

set_option maxHeartbeats 4000000 in
/-- The mixed rows, as the backward's reference spells them. -/
theorem y_eq (V0 : Val0)
    (a0 : V0 (Proc.devRef .tc Cert.PoolRefIdeal.main_arg0) = m ((c.tc : Thread nD τ).loc main_arg0))
    (a1 : V0 (Proc.devRef .tc Cert.PoolRefIdeal.main_arg1) = m ((c.tc : Thread nD τ).loc main_arg1))
    (a3 : V0 (Proc.devRef .tc Cert.PoolRefIdeal.main_arg3) = m ((c.tc : Thread nD τ).loc main_arg3))
    (a4 : V0 (Proc.devRef .tc Cert.PoolRefIdeal.main_arg4) = m ((c.tc : Thread nD τ).loc main_arg4))
    (a6 : V0 (Proc.devRef .tc Cert.PoolRefIdeal.main_arg6) = m ((c.tc : Thread nD τ).loc main_arg6)) :
    res_main_v93 m c = Cert.PoolRefIdeal.Value.res_main_v96 V0 := by
  unfold res_main_v93
  unfold Cert.PoolRefIdeal.Value.res_main_v96 Cert.PoolRefIdeal.Value.res_main_v93 Cert.PoolRefIdeal.Value.res_main_v24 Cert.PoolRefIdeal.Value.res_main_v15
    Cert.PoolRefIdeal.Value.res_main_v12 Cert.PoolRefIdeal.Value.res_main_v13 Cert.PoolRefIdeal.Value.res_main_v18 Cert.PoolRefIdeal.Value.res_main_v7 Cert.PoolRefIdeal.Value.res_main_v6
    Cert.PoolRefIdeal.Value.res_main_v35 Cert.PoolRefIdeal.Value.res_main_v51 Cert.PoolRefIdeal.Value.res_main_v67 Cert.PoolRefIdeal.Value.res_main_v83
  rw [a0, a1, a3, a4, a6]
  rfl

/-- The arguments hold the real inputs. -/
structure RArgs (I : In) : Prop where
  a0 : ∀ r k, m ((c.tc : Thread nD τ).loc main_arg0) (ix2 r k) = (I.x r k : EReal)
  a1 : ∀ k, m ((c.tc : Thread nD τ).loc main_arg1) (ix1 k) = (I.g k : EReal)
  a2 : ∀ k, m ((c.tc : Thread nD τ).loc main_arg2) (ix1 k) = (I.pg k : EReal)
  a3 : ∀ k, m ((c.tc : Thread nD τ).loc main_arg3) (ix1 k) = (I.sh k : EReal)
  a4 : ∀ k, m ((c.tc : Thread nD τ).loc main_arg4) (ix1 k) = (I.sc k : EReal)
  a5 : ∀ k, m ((c.tc : Thread nD τ).loc main_arg5) (ix1 k) = (I.gt k : EReal)
  a6 : ∀ q a e, m ((c.tc : Thread nD τ).loc main_arg6) (ix3 q a e) = (I.W q a e : EReal)
  a7 : ∀ k, m ((c.tc : Thread nD τ).loc main_arg7) (ix1 k) = (I.scl k : EReal)

variable {m c} {I : In} (A : RArgs m c I)
include A

theorem y_at (r : Fin 8192) (l : Fin 1024) : res_main_v93 m c (ix2 r l) = (I.yp r l : EReal) := by
  obtain ⟨V0, e0, e1, e2, e3, e4, e5, e6, e7, e8⟩ := args_exist (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (fun i => ((I.ct (i 0) (i 1) : ℝ) : EReal))
  rw [y_eq m c V0 e0 e1 e3 e4 e6]
  refine Cert.PoolVal.v96_at (I := I) ⟨?_, ?_, ?_, ?_, ?_, ?_, ?_, ?_, ?_⟩ r l
  · exact fun r k => (congrFun e0 _).trans (A.a0 r k)
  · exact fun k => (congrFun e1 _).trans (A.a1 k)
  · exact fun k => (congrFun e2 _).trans (A.a2 k)
  · exact fun k => (congrFun e3 _).trans (A.a3 k)
  · exact fun k => (congrFun e4 _).trans (A.a4 k)
  · exact fun k => (congrFun e5 _).trans (A.a5 k)
  · exact fun q a e => (congrFun e6 _).trans (A.a6 q a e)
  · exact fun k => (congrFun e7 _).trans (A.a7 k)
  · exact fun r k => congrFun e8 (ix2 r k)

set_option maxHeartbeats 1600000 in
theorem rxo_at (r : Fin 8192) (l : Fin 1024) : res_main_v113 m c (ix2 r l) = (xo I r l : EReal) := by
  have hy := y_at A
  unfold res_main_v113
  unfold res_main_v93 at hy
  generalize shapeCast S8192x1024 (transpose (s := S4x256x8192) S8192x4x256 [2, 0, 1] _ _) _ = Y at hy ⊢
  pointwise []
  simp only [hy, A.a0, A.a2, A.a5, A.a7, ← EReal.coe_mul, coe_sum, ofBits_1024, ofBits_eps, div_1024, ← EReal.coe_add, rsqrt_ms]
  refine congrArg _ ?_
  show _ = I.x r l + I.gt l * I.pg l * (I.yp r l * I.scl l * rinv (fun k => I.yp r k * I.scl k))
  ring

end Cert.PoolFVal
-- ==== Proof.PoolF.lean ====
module

public import proofs.«01_k».proof.Proof.PoolFRef
public import proofs.«01_k».proof.Proof.Gen.Pre_finite_poolf

/-! The pooling mixer's sub-layer forward: the kernel's two results are the reference's. -/

@[expose] public section

set_option maxRecDepth 16384

noncomputable section

namespace Cert.PoolFVal

open Cert.PoolVal (In)
open Cert.PoolFIdeal Cert.PoolFIdeal.Gen Idealize.ShloMosaic Idealize.ShloMosaic.TcCoe Idealize.SL.Sem Cert.Reals

variable (m : (ℓ : Loc nD τ sig) → Buf (Elt Ideal) ℓ)

theorem finite_args (h : Pre_PoolFIdeal_finite_poolf m) (c : Dev nD) :
    (∀ i, m ((c : Thread nD τ).loc main_arg0) i = ((m ((c : Thread nD τ).loc main_arg0) i).toReal : EReal))
    ∧ (∀ i, m ((c : Thread nD τ).loc main_arg1) i = ((m ((c : Thread nD τ).loc main_arg1) i).toReal : EReal))
    ∧ (∀ i, m ((c : Thread nD τ).loc main_arg2) i = ((m ((c : Thread nD τ).loc main_arg2) i).toReal : EReal))
    ∧ (∀ i, m ((c : Thread nD τ).loc main_arg3) i = ((m ((c : Thread nD τ).loc main_arg3) i).toReal : EReal))
    ∧ (∀ i, m ((c : Thread nD τ).loc main_arg4) i = ((m ((c : Thread nD τ).loc main_arg4) i).toReal : EReal))
    ∧ (∀ i, m ((c : Thread nD τ).loc main_arg5) i = ((m ((c : Thread nD τ).loc main_arg5) i).toReal : EReal))
    ∧ (∀ i, m ((c : Thread nD τ).loc main_arg6) i = ((m ((c : Thread nD τ).loc main_arg6) i).toReal : EReal))
    ∧ (∀ i, m ((c : Thread nD τ).loc main_arg7) i = ((m ((c : Thread nD τ).loc main_arg7) i).toReal : EReal)) := by
  have h1 := congrFun (h c) (fun q => q.elim0)
  dsimp only [Cert.Pre_finite_poolf.fn, Cert.Pre_finite_poolf.fn_part1, Cert.Pre_finite_poolf.fn_part2] at h1
  obtain ⟨h1, h17⟩ := IntOp.andi_eq_one.1 h1
  obtain ⟨h1, h16⟩ := IntOp.andi_eq_one.1 h1
  obtain ⟨h1, h15⟩ := IntOp.andi_eq_one.1 h1
  obtain ⟨h1, h14⟩ := IntOp.andi_eq_one.1 h1
  obtain ⟨h1, h13⟩ := IntOp.andi_eq_one.1 h1
  obtain ⟨h1, h12⟩ := IntOp.andi_eq_one.1 h1
  obtain ⟨h1, h11⟩ := IntOp.andi_eq_one.1 h1
  exact ⟨finite_of_all _ _ (fun _ => rfl) _ _ _ _ rfl h1, finite_of_all _ _ (fun _ => rfl) _ _ _ _ rfl h11, finite_of_all _ _ (fun _ => rfl) _ _ _ _ rfl h12, finite_of_all _ _ (fun _ => rfl) _ _ _ _ rfl h13, finite_of_all _ _ (fun _ => rfl) _ _ _ _ rfl h14, finite_of_all _ _ (fun _ => rfl) _ _ _ _ rfl h15, finite_of_all _ _ (fun _ => rfl) _ _ _ _ rfl h16, finite_of_all _ _ (fun _ => rfl) _ _ _ _ rfl h17⟩

/-- The arguments' real values (the forward takes no cotangent). -/
def ins (c : Dev nD) : In where
  x r k := (m ((c : Thread nD τ).loc main_arg0) (ix2 r k)).toReal
  g k := (m ((c : Thread nD τ).loc main_arg1) (ix1 k)).toReal
  pg k := (m ((c : Thread nD τ).loc main_arg2) (ix1 k)).toReal
  sh k := (m ((c : Thread nD τ).loc main_arg3) (ix1 k)).toReal
  sc k := (m ((c : Thread nD τ).loc main_arg4) (ix1 k)).toReal
  gt k := (m ((c : Thread nD τ).loc main_arg5) (ix1 k)).toReal
  W q a e := (m ((c : Thread nD τ).loc main_arg6) (ix3 q a e)).toReal
  scl k := (m ((c : Thread nD τ).loc main_arg7) (ix1 k)).toReal
  ct _ _ := 0

end Cert.PoolFVal

namespace Cert.Proof

open Idealize.ShloMosaic Idealize.ShloMosaic.TcCoe Idealize.ShloMosaic.StableHlo Idealize.SL.Sem Cert.Reals

/-- The pooling sub-layer, forward: the residual stream after it and the mixed rows it saves. -/
theorem algebraic_PoolFIdeal_PoolFRefIdeal_pre_finite_poolf : Cert.algebraic_PoolFIdeal_PoolFRefIdeal_pre_finite_poolf := by
  intro m ρ m' ρ' hpre hagree
  refine ⟨_, _, Cert.PoolFIdeal.Value.run_blocks (F := Ideal) m ρ, ?_⟩
  refine (θ_run Cert.PoolFRefIdeal.defs _ _).mono (fun _ h c => ⟨?_, ?_, (h c).2.2⟩) (Cert.PoolFRefIdeal.Value.run (F := Ideal) m' ρ')
  all_goals
    obtain ⟨f0, f1, f2, f3, f4, f5, f6, f7⟩ := Cert.PoolFVal.finite_args m hpre c
    obtain ⟨a0, a1, a2, a3, a4, a5, a6, a7⟩ := hagree c
    have A : Cert.PoolFVal.RArgs m' c (Cert.PoolFVal.ins m c) :=
      ⟨fun r k => (congrFun a0 _).trans (f0 (ix2 r k)), fun k => (congrFun a1 _).trans (f1 (ix1 k)), fun k => (congrFun a2 _).trans (f2 (ix1 k)),
        fun k => (congrFun a3 _).trans (f3 (ix1 k)), fun k => (congrFun a4 _).trans (f4 (ix1 k)), fun k => (congrFun a5 _).trans (f5 (ix1 k)),
        fun q a e => (congrFun a6 _).trans (f6 (ix3 q a e)), fun k => (congrFun a7 _).trans (f7 (ix1 k))⟩
    have K : Cert.PoolFVal.Reads m c (Cert.PoolFVal.ins m c) :=
      ⟨fun r k => f0 (ix2 r k), fun k => f1 (ix1 k), fun k => f2 (ix1 k), fun k => f3 (ix1 k), fun k => f4 (ix1 k), fun k => f5 (ix1 k),
        fun q a e => f6 (ix3 q a e), fun k => f7 (ix1 k)⟩
  · exact (h c).1.trans (Cert.PoolFVal.final4 K _ (Cert.PoolFVal.rxo_at A)).symm
  · exact (h c).2.1.trans (Cert.PoolFVal.final5 K _ (Cert.PoolFVal.y_at A)).symm

end Cert.Proof
-- ==== Proof.FfnFRun.lean ====
module

public import proofs.«01_k».proof.Proof.Gen.FfnFIdeal.Frame
public import proofs.«01_k».proof.Proof.Gen.FfnFIdeal.Skeleton
public import proofs.«01_k».proof.Proof.Gen.FfnFIdeal.Points

/-! The feed-forward part's forward kernel at one grid point, run once for every point: what each buffer
it stores into ends with. -/

@[expose] public section

set_option maxRecDepth 16384

noncomputable section

namespace Cert.FfnFVal

open Cert.FfnFIdeal Cert.FfnFIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A point's run. -/
def anyRun (c : Dev nD) (i : grid0.Coords)
    (a2 : Memref sig .tc .vmem S512x1024 .f32) (h2 : a2.IsWhole)
    (a3 : Memref sig .tc .vmem S8x1024 .f32) (h3 : a3.IsWhole)
    (a4 : Memref sig .tc .vmem S2x1x704x1024 .bf16) (h4 : a4.IsWhole)
    (a5 : Memref sig .tc .vmem S2x1x8x704 .f32) (h5 : a5.IsWhole)
    (a6 : Memref sig .tc .vmem S704x1024 .bf16) (h6 : a6.IsWhole)
    (a7 : Memref sig .tc .vmem S512x1024 .f32) (h7 : a7.IsWhole)
    (a8 : Memref sig .tc .vmem S512x1024 .f32) (h8 : a8.IsWhole)
    (a9 : Memref sig .tc .vmem S512x1024 .bf16) (h9 : a9.IsWhole)
    (a10 : Memref sig .tc .vmem S2x1x512x704 .bf16) (h10 : a10.IsWhole)
    (a11 : Memref sig .tc .vmem S2x1x512x704 .bf16) (h11 : a11.IsWhole)
    (a12 : Memref sig .tc .vmem S512x1024 .bf16) (h12 : a12.IsWhole)
    (a13 : Memref sig .tc .vmem S512x1024 .f32) (h13 : a13.IsWhole)
    (a14 : Memref sig .tc .vmem S2x4x8x704 .f32) (h14 : a14.IsWhole)
    (x2 : Vec F S512x1024 .f32) (x3 : Vec F S8x1024 .f32) (x4 : Vec F S2x1x704x1024 .bf16) (x5 : Vec F S2x1x8x704 .f32) (x6 : Vec F S704x1024 .bf16) (z7 : Vec F S512x1024 .f32) (z8 : Vec F S512x1024 .f32) (z9 : Vec F S512x1024 .bf16) (z10 : Vec F S2x1x512x704 .bf16) (z11 : Vec F S2x1x512x704 .bf16) (z12 : Vec F S512x1024 .bf16) (z13 : Vec F S512x1024 .f32) (z14 : Vec F S2x4x8x704 .f32) :
    Σ' (y7 : Vec F S512x1024 .f32), Σ' (y8 : Vec F S512x1024 .f32), Σ' (y9 : Vec F S512x1024 .bf16), Σ' (y10 : Vec F S2x1x512x704 .bf16), Σ' (y11 : Vec F S2x1x512x704 .bf16), Σ' (y12 : Vec F S512x1024 .bf16), Σ' (y13 : Vec F S512x1024 .f32), { y14 : Vec F S2x4x8x704 .f32 //
      ∀ (E : Set ℕ) (K : PUnit → sProp 𝕄),
        iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare z7 ∗ owns (c : Thread nD τ) a8 fullShare z8 ∗ owns (c : Thread nD τ) a9 fullShare z9 ∗ owns (c : Thread nD τ) a10 fullShare z10 ∗ owns (c : Thread nD τ) a11 fullShare z11 ∗ owns (c : Thread nD τ) a12 fullShare z12 ∗ owns (c : Thread nD τ) a13 fullShare z13 ∗ owns (c : Thread nD τ) a14 fullShare z14
            ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare y7 ∗ owns (c : Thread nD τ) a8 fullShare y8 ∗ owns (c : Thread nD τ) a9 fullShare y9 ∗ owns (c : Thread nD τ) a10 fullShare y10 ∗ owns (c : Thread nD τ) a11 fullShare y11 ∗ owns (c : Thread nD τ) a12 fullShare y12 ∗ owns (c : Thread nD τ) a13 fullShare y13 ∗ owns (c : Thread nD τ) a14 fullShare y14) -∗ K ⟨⟩))
          ⊢ wp frame (wpE (defs₀ (F := F)) Variants.none c none) E (cc0_ffn_fwd i a2 h2 a3 h3 a4 h4 a5 h5 a6 h6 a7 h7 a8 h8 a9 h9 a10 h10 a11 h11 a12 h12 a13 h13 a14 h14) K } := by
  refine ⟨?_, ?_, ?_, ?_, ?_, ?_, ?_, ?_, fun E K => ?run⟩
  case run =>
    simp only [cc0_ffn_fwd_eq_skeleton]; unfold cc0_ffn_fwd_skel
    simp only [k0_part1_eq_skeleton, k0_part2_eq_skeleton, k0_part3_eq_skeleton]
    unfold owns
    iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, Hk⟩
    obtain rfl := h2.eq_unread e2
    obtain rfl := h3.eq_unread e3
    obtain rfl := h4.eq_unread e4
    obtain rfl := h5.eq_unread e5
    obtain rfl := h6.eq_unread e6
    obtain rfl := h7.eq_unread e7
    obtain rfl := h8.eq_unread e8
    obtain rfl := h9.eq_unread e9
    obtain rfl := h10.eq_unread e10
    obtain rfl := h11.eq_unread e11
    obtain rfl := h12.eq_unread e12
    obtain rfl := h13.eq_unread e13
    obtain rfl := h14.eq_unread e14
    sl_exec
    sl_step
    iapply Hk
    isplitl [H2]
    · iexists _; isplitr; · ipureintro; exact e2
      iexact H2
    isplitl [H3]
    · iexists _; isplitr; · ipureintro; exact e3
      iexact H3
    isplitl [H4]
    · iexists _; isplitr; · ipureintro; exact e4
      iexact H4
    isplitl [H5]
    · iexists _; isplitr; · ipureintro; exact e5
      iexact H5
    isplitl [H6]
    · iexists _; isplitr; · ipureintro; exact e6
      iexact H6
    isplitl [H7]
    · iexists _; isplitr; swap
      · iexact H7
      ipureintro; rfl
    isplitl [H8]
    · iexists _; isplitr; swap
      · iexact H8
      ipureintro; rfl
    isplitl [H9]
    · iexists _; isplitr; swap
      · iexact H9
      ipureintro; rfl
    isplitl [H10]
    · iexists _; isplitr; swap
      · iexact H10
      ipureintro; rfl
    isplitl [H11]
    · iexists _; isplitr; swap
      · iexact H11
      ipureintro; rfl
    isplitl [H12]
    · iexists _; isplitr; swap
      · iexact H12
      ipureintro; rfl
    isplitl [H13]
    · iexists _; isplitr; swap
      · iexact H13
      ipureintro; rfl
    iexists _; isplitr; swap
    · iexact H14
    ipureintro; rfl

end Cert.FfnFVal

end
-- ==== Proof.FfnFFrame.lean ====
module

public import proofs.«01_k».proof.Proof.FfnFRun

/-! The feed-forward part's forward kernel over its grid, the outputs' contents unnamed: it runs to the end and leaves its
arguments as they were. -/

@[expose] public section

set_option maxRecDepth 16384

noncomputable section

namespace Cert.FfnFVal

open Cert.FfnFIdeal Cert.FfnFIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- A buffer held at some contents. -/
abbrev held (c : Dev nD) {s : Shape} {e : EltTy} (b : Memref sig .tc .vmem s e) : sProp 𝕄 :=
  iprop(∃ d, owns (c : Thread nD τ) b fullShare d)

/-- The kernel's own buffers: the normed rows, the sum over the chunks so far, the rows carried to the next block. -/
abbrev scr0 : Memref sig .tc .vmem S512x1024 .bf16 := Memref.whole cc0_scratch0
abbrev scr1 : Memref sig .tc .vmem S512x1024 .f32 := Memref.whole cc0_scratch1
abbrev scr2 : Memref sig .tc .vmem S2x4x8x704 .f32 := Memref.whole cc0_scratch2

variable (m : (ℓ : Loc nD τ sig) → Buf (Elt F) ℓ) (ρ : Dev nD → PrngReg)

/-- The five output windows, of which the frame names nothing. -/
def unsaid : Fin 10 → Bool := fun w => decide (5 ≤ w.val)

/-- An input window keeps its block; the scratches are at anything between points. -/
def fdat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨n + 5, h⟩ => Pipeline.Dat.unnamed (cfg := cfg0) ⟨n + 5, h⟩ t
  Φ _ := Pipeline.ΦA spec0 c
  q w := Pipeline.shareOf spec0 w
  owed _ := 0

/-- The scratches as buffers held at some contents. -/
theorem scratches (c : Dev nD) :
    (Pipeline.ΦA spec0 c : sProp 𝕄) = iprop(iprop(held c scr0 ∗ held c scr1 ∗ held c scr2) ∗ (∃ r, prngReg c r)) := by
  unfold Pipeline.ΦA; rw [scopedRest0_eq]; simp only [held, owns_whole]; try rfl

theorem fbefore0 (c : Dev nD) (t : Fin cfg0.N) (d) : (fdat m c).before 0 t d = iblk m c 0 t :=
  before0_0_of m (fdat m c) (by dsimp only [fdat]) (fun t => by dsimp only [fdat]) t d
theorem fbefore1 (c : Dev nD) (t : Fin cfg0.N) (d) : (fdat m c).before 1 t d = iblk m c 1 t :=
  before0_1_of m (fdat m c) (by dsimp only [fdat]) (fun t => by dsimp only [fdat]) t d
theorem fbefore2 (c : Dev nD) (t : Fin cfg0.N) (d) : (fdat m c).before 2 t d = iblk m c 2 t :=
  before0_2_of m (fdat m c) (by dsimp only [fdat]) (fun t => by dsimp only [fdat]) t d
theorem fbefore3 (c : Dev nD) (t : Fin cfg0.N) (d) : (fdat m c).before 3 t d = iblk m c 3 t :=
  before0_3_of m (fdat m c) (by dsimp only [fdat]) (fun t => by dsimp only [fdat]) t d
theorem fbefore4 (c : Dev nD) (t : Fin cfg0.N) (d) : (fdat m c).before 4 t d = iblk m c 4 t :=
  before0_4_of m (fdat m c) (by dsimp only [fdat]) (fun t => by dsimp only [fdat]) t d

/-- What the body is handed at a point. -/
def given (c : Dev nD) (t : Fin cfg0.N) : sProp 𝕄 :=
  iprop((fdat m c).Φ t.castSucc ∗ (fdat m c).owesAt () t.castSucc
    ∗ (∃ d, owns (c : Thread nD τ) (st0_0 t) fullShare ((fdat m c).before 0 t d))
    ∗ (∃ d, owns (c : Thread nD τ) (st0_1 t) fullShare ((fdat m c).before 1 t d))
    ∗ (∃ d, owns (c : Thread nD τ) (st0_2 t) fullShare ((fdat m c).before 2 t d))
    ∗ (∃ d, owns (c : Thread nD τ) (st0_3 t) fullShare ((fdat m c).before 3 t d))
    ∗ (∃ d, owns (c : Thread nD τ) (st0_4 t) fullShare ((fdat m c).before 4 t d))
    ∗ (∃ d, owns (c : Thread nD τ) (st0_5 t) fullShare d)
    ∗ (∃ d, owns (c : Thread nD τ) (st0_6 t) fullShare d)
    ∗ (∃ d, owns (c : Thread nD τ) (st0_7 t) fullShare d)
    ∗ (∃ d, owns (c : Thread nD τ) (st0_8 t) fullShare d)
    ∗ (∃ d, owns (c : Thread nD τ) (st0_9 t) fullShare d))

/-- What the body hands back at a point. -/
def left (c : Dev nD) (t : Fin cfg0.N) : sProp 𝕄 :=
  iprop((fdat m c).Φ t.succ ∗ (fdat m c).owesAt () t.succ
    ∗ (fdat m c).leavesExact 0 t
    ∗ (fdat m c).leavesExact 1 t
    ∗ (fdat m c).leavesExact 2 t
    ∗ (fdat m c).leavesExact 3 t
    ∗ (fdat m c).leavesExact 4 t
    ∗ (∃ d, owns (c : Thread nD τ) (st0_5 t) fullShare d)
    ∗ (∃ d, owns (c : Thread nD τ) (st0_6 t) fullShare d)
    ∗ (∃ d, owns (c : Thread nD τ) (st0_7 t) fullShare d)
    ∗ (∃ d, owns (c : Thread nD τ) (st0_8 t) fullShare d)
    ∗ (∃ d, owns (c : Thread nD τ) (st0_9 t) fullShare d))

set_option maxHeartbeats 4000000 in
theorem point_any (c : Dev nD) (t : Fin cfg0.N) :
    given m c t ⊢ wp frame (wpE (defs₀ (F := F)) Variants.none c none) Set.univ (bodyAt0 t) (fun _ => left m c t) := by
  unfold given left bodyAt0
  simp only [fbefore0, fbefore1, fbefore2, fbefore3, fbefore4]
  rw [show (fdat m c).owesAt () t.succ = (fdat m c).owesAt () t.castSucc from rfl]
  rw [show (fdat m c).Φ t.castSucc = Pipeline.ΦA spec0 c from rfl, show (fdat m c).Φ t.succ = Pipeline.ΦA spec0 c from rfl, scratches]
  rw [show (fdat m c).leavesExact 0 t = owns (c : Thread nD τ) (st0_0 t) fullShare (iblk m c 0 t) from rfl]
  rw [show (fdat m c).leavesExact 1 t = owns (c : Thread nD τ) (st0_1 t) fullShare (iblk m c 1 t) from rfl]
  rw [show (fdat m c).leavesExact 2 t = owns (c : Thread nD τ) (st0_2 t) fullShare (iblk m c 2 t) from rfl]
  rw [show (fdat m c).leavesExact 3 t = owns (c : Thread nD τ) (st0_3 t) fullShare (iblk m c 3 t) from rfl]
  rw [show (fdat m c).leavesExact 4 t = owns (c : Thread nD τ) (st0_4 t) fullShare (iblk m c 4 t) from rfl]
  unfold held
  iintro ⟨⟨⟨⟨%z12, S0⟩, ⟨%z13, S1⟩, ⟨%z14, S2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((anyRun c (grid0.coords t) _ _ _ _ _ _ _ _ _ _ _ _ _ _ _ _ _ _ _ _ _ _ _ _ _ _
    (iblk m c 0 t) (iblk m c 1 t) (iblk m c 2 t) (iblk m c 3 t) (iblk m c 4 t) d5 d6 d7 d8 d9 z12 z13 z14).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]; · iexact S0
  isplitl [S1]; · iexact S1
  isplitl [S2]; · iexact S2
  iintro ⟨H0, H1, H2, H3, H4, H5, H6, H7, H8, H9, S0, S1, S2⟩
  isplitl [S0 S1 S2 Hg]
  · isplitl [S0 S1 S2]
    · isplitl [S0]; · iexists _; iexact S0
      isplitl [S1]; · iexists _; iexact S1
      iexists _; iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  iexists _; iexact H9

/-- The body's row of the pipeline's table is the kernel at the point's buffers. -/
theorem row (t : Fin cfg0.N) : defs₀ (F := F) .tc cfg0.body (cfg0.bodyArgs t (cfg0.slots t)) = bodyAt0 t := by
  unfold defs₀; rw [Defs.onTc_tc]

theorem obligation_any (c : Dev nD) :
    BodyObligation (fdat (F := F) m c) (defs₀ (F := F)) Variants.none () Set.univ unsaid := fun t => by
  rw [bigSep_W0, bigSep_W0, row]
  exact triple_restated (point_any m c t) rfl .rfl fun _ => .rfl

set_option backward.isDefEq.respectTransparency.types false in
theorem run_any : θ_run defs (onTc (τ := τ) (main (F := F))) (s₀ m ρ)
    (fun r => Pipeline.RDat.FramePost (cfgs 0) (fun c => (fdat m c).toRForget unsaid) (V m) r ∧ r.2.sem = fun _ => 0) :=
  Pipeline.θ_run_frame_track_forget (Q' := _) cfgs (fun _ => fdat m) (0 : Fin 1) launch0 defs₀ Variants.none unsaid m ρ main
    (hbody := fun c => (obligation_any m c).loose) (hshare := fun _ w => by fin_cases w <;> rfl)
    (howed := fun _ _ => rfl) (V := V m) (hmain := hmain m Variants.none) (hA := fun _ _ => by dsimp only [fdat])
    (hin := fun _ => .rfl) (hout := fun _ => .rfl)

/-- The program leaves its arguments as they were and every counter at zero. -/
theorem ffn_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c =>
    ⟨(Pipeline.RDat.FramePost.arr_in h.1 c 0 rfl).trans (V_main_arg0 m c),
     ((h.1 c).2 main_arg1 (Pipeline.mem_restRefs_of main_arg1 (by decide) (by decide))).trans (V_main_arg1 m c),
     ((h.1 c).2 main_arg2 (Pipeline.mem_restRefs_of main_arg2 (by decide) (by decide))).trans (V_main_arg2 m c),
     ((h.1 c).2 main_arg3 (Pipeline.mem_restRefs_of main_arg3 (by decide) (by decide))).trans (V_main_arg3 m c),
     ((h.1 c).2 main_arg4 (Pipeline.mem_restRefs_of main_arg4 (by decide) (by decide))).trans (V_main_arg4 m c),
     ((h.1 c).2 main_arg5 (Pipeline.mem_restRefs_of main_arg5 (by decide) (by decide))).trans (V_main_arg5 m c),
     ((h.1 c).2 main_arg6 (Pipeline.mem_restRefs_of main_arg6 (by decide) (by decide))).trans (V_main_arg6 m c),
     ((h.1 c).2 main_arg7 (Pipeline.mem_restRefs_of main_arg7 (by decide) (by decide))).trans (V_main_arg7 m c),
     ((h.1 c).2 main_arg8 (Pipeline.mem_restRefs_of main_arg8 (by decide) (by decide))).trans (V_main_arg8 m c)⟩, h.2⟩)
    (run_any m ρ)

end Cert.FfnFVal

end
-- ==== Proof.FfnFPay.lean ====
module

public import proofs.«01_k».proof.Proof.Gen.FfnFIdeal.Skeleton
public import proofs.«01_k».proof.Proof.FfnVals

/-! What the feed-forward part's forward kernel's vector expressions hold, element by element, where their operands are real. -/

@[expose] public section

set_option maxRecDepth 16384

noncomputable section

namespace Cert.FfnFVal

open Cert.FfnFIdeal Cert.FfnFIdeal.Gen Idealize.ShloMosaic Idealize.ShloMosaic.TcCoe Idealize.SL.Sem Cert.Reals
open Cert.FfnVal (tap select_row sgm sgm_real)

/-! ## The two norms -/

theorem h_at (v3 : FVec Ideal S512x1024 .f32) (v4 : FVec Ideal S8x1024 .f32) (g s t : Fin 1024 → ℝ) (x : Fin 512 → Fin 1024 → ℝ)
    (g0 : ∀ k, v4 (ix2 0 k) = (g k : EReal)) (g1 : ∀ k, v4 (ix2 1 k) = (s k : EReal)) (g2 : ∀ k, v4 (ix2 2 k) = (t k : EReal))
    (h3 : ∀ r k, v3 (ix2 r k) = (x r k : EReal)) (r : Fin 512) (l : Fin 1024) :
    k0_pay4 (F := Ideal) v3 v4 (ix2 r l) = ((x r l * rinv (x r) * (g l * s l) + t l : ℝ) : EReal) := by
  pointwise [k0_pay4]
  simp only [h3, g0, g1, g2, ← EReal.coe_mul, ← EReal.coe_add, ← EReal.coe_sub, coe_sum, ofBits_1024, ofBits_eps, div_1024, rsqrt_ms]

theorem pay5_eq (v3 : FVec Ideal S512x1024 .f32) (v4 : FVec Ideal S8x1024 .f32) (r : Fin 512) (l : Fin 1024) :
    k0_pay5 (F := Ideal) v3 v4 (ix2 r l) = k0_pay4 v3 v4 (ix2 r l) := by
  pointwise [k0_pay5]

theorem xo_at (y v3 : FVec Ideal S512x1024 .f32) (v4 : FVec Ideal S8x1024 .f32) (pg gt : Fin 1024 → ℝ) (x yr : Fin 512 → Fin 1024 → ℝ)
    (g3 : ∀ k, v4 (ix2 3 k) = (pg k : EReal)) (g4 : ∀ k, v4 (ix2 4 k) = (gt k : EReal))
    (h3 : ∀ r k, v3 (ix2 r k) = (x r k : EReal)) (hy : ∀ r k, y (ix2 r k) = (yr r k : EReal)) (r : Fin 512) (l : Fin 1024) :
    k0_pay3 (F := Ideal) y v3 v4 (ix2 r l) = ((x r l + gt l * pg l * (yr r l * rinv (yr r)) : ℝ) : EReal) := by
  pointwise [k0_pay3]
  simp only [h3, hy, g3, g4, ← EReal.coe_mul, ← EReal.coe_add, ← EReal.coe_sub, coe_sum, ofBits_1024, ofBits_eps, div_1024, rsqrt_ms]

/-! ## The projection up -/

section
variable (H : Vec Ideal S512x1024 .bf16) (W : Vec Ideal S1x1x704x1024 .bf16) (X : Fin 512 → Fin 1024 → ℝ) (U : Fin 704 → Fin 1024 → ℝ)
  (hH : ∀ r e, H (ix2 r e) = (X r e : EReal)) (hW : ∀ f e, W (ix4 0 0 f e) = (U f e : EReal))
include hH hW

theorem up_at (r : Fin 512) (f : Fin 704) : k0_pay8 (F := Ideal) H W (ix2 r f) = ((∑ e, X r e * U f e : ℝ) : EReal) := by
  pointwise [k0_pay8]
  simp only [hH, hW, ← EReal.coe_mul, coe_sum]

theorem upt_at (r : Fin 512) (f : Fin 704) : k0_pay9 (F := Ideal) H W (ix4 0 0 r f) = ((∑ e, X r e * U f e : ℝ) : EReal) := by
  have e := up_at H W X U hH hW r f
  pointwise [k0_pay9]
  exact e

end

/-! ## The convolution along the rows -/

section
variable (v11 : FVec Ideal S512x704 .f32) (v17 v19 : Vec Ideal S1x1x8x704 .f32)
  (A : Fin 512 → Fin 704 → ℝ) (C : Fin 8 → Fin 704 → ℝ) (T : Fin 3 → Fin 704 → ℝ)

/-- A block's column `n` rows earlier, continued by the last rows of the block before. -/
def bk (A : Fin 512 → Fin 704 → ℝ) (C : Fin 8 → Fin 704 → ℝ) (n : Fin 8) (r : Fin 512) (f : Fin 704) : ℝ :=
  if h : n.val ≤ r.val then A ⟨r.val - n.val, by omega⟩ f else C ⟨8 + r.val - n.val, by omega⟩ f

/-- The convolution on a block. -/
def cvb (T : Fin 3 → Fin 704 → ℝ) (A : Fin 512 → Fin 704 → ℝ) (C : Fin 8 → Fin 704 → ℝ) (r : Fin 512) (f : Fin 704) : ℝ :=
  T 2 f * A r f + T 1 f * bk A C 1 r f + T 0 f * bk A C 2 r f

theorem bk_in (n : Fin 8) (r : Fin 512) (f : Fin 704) (q : Fin 512) (h : q.val + n.val = r.val) : A q f = bk A C n r f := by
  unfold bk
  rw [dif_pos (show n.val ≤ r.val by omega)]
  exact congrFun (congrArg A (Fin.ext (by show q.val = r.val - n.val; omega))) f

theorem bk_out (n : Fin 8) (r : Fin 512) (f : Fin 704) (o : Fin 8) (h : o.val + n.val = 8 + r.val) : C o f = bk A C n r f := by
  unfold bk
  rw [dif_neg (show ¬ n.val ≤ r.val by omega)]
  exact congrFun (congrArg C (Fin.ext (by show o.val = 8 + r.val - n.val; omega))) f

variable (h11 : ∀ r f, v11 (ix2 r f) = (A r f : EReal)) (h17 : ∀ k f, v17 (ix4 0 0 k f) = (C k f : EReal))
  (h19 : ∀ (k : Fin 3) f, v19 (ix4 0 0 (tap k) f) = (T k f : EReal))
include h11 h17 h19

set_option maxHeartbeats 1000000 in
theorem conv_at (r : Fin 512) (f : Fin 704) : k0_pay23 (F := Ideal) v11 v17 v19 (ix2 r f) = ((cvb T A C r f : ℝ) : EReal) := by
  have t0 := h19 0 f; have t1 := h19 1 f; have t2 := h19 2 f
  pointwise [k0_pay23]
  refine (congr (congrArg HAdd.hAdd (congr (congrArg HAdd.hAdd (congr (congrArg HMul.hMul t2) (h11 r f)))
    (congr (congrArg HMul.hMul t1) (?_ : _ = ((bk A C 1 r f : ℝ) : EReal)))))
    (congr (congrArg HMul.hMul t0) (?_ : _ = ((bk A C 2 r f : ℝ) : EReal)))).trans ?_
  · refine (select_row r 0 (by omega) _ _).trans ?_
    split_ifs with h
    · exact (h17 7 f).trans (congrArg _ (bk_out A C 1 r f 7 (by show 7 + 1 = 8 + r.val; omega)))
    · exact (h11 _ f).trans (congrArg _ (bk_in A C 1 r f _ (by show (r.val + 512 - 1) % 512 + 1 = r.val; omega)))
  · refine (select_row r 1 (by omega) _ _).trans ?_
    split_ifs with h
    · exact (h17 7 f).trans (congrArg _ (bk_out A C 2 r f 7 (by show 7 + 2 = 8 + r.val; omega)))
    · refine (select_row r 0 (by omega) _ _).trans ?_
      split_ifs with h'
      · exact (h17 6 f).trans (congrArg _ (bk_out A C 2 r f 6 (by show 6 + 2 = 8 + r.val; omega)))
      · exact (h11 _ f).trans (congrArg _ (bk_in A C 2 r f _ (by show (r.val + 512 - 2) % 512 + 2 = r.val; omega)))
  · simp only [← EReal.coe_mul, ← EReal.coe_add]
    rfl

theorem convt_at (r : Fin 512) (f : Fin 704) : k0_pay24 (F := Ideal) v11 v17 v19 (ix4 0 0 r f) = ((cvb T A C r f : ℝ) : EReal) := by
  have e := conv_at v11 v17 v19 A C T h11 h17 h19 r f
  pointwise [k0_pay24]
  exact e

omit h17 h19 in
theorem last_at (k : Fin 8) (f : Fin 704) : k0_pay1 (F := Ideal) v11 (ix4 0 0 k f) = ((A ⟨504 + k.val, by omega⟩ f : ℝ) : EReal) := by
  pointwise [k0_pay1]
  exact h11 _ f

end

/-- The first half's convolution is the second's. -/
theorem conv_eq (v8 : Vec Ideal S512x1024 .bf16) (v9 : Vec Ideal S1x1x704x1024 .bf16) (v17 v19 : Vec Ideal S1x1x8x704 .f32) :
    k0_pay17 (F := Ideal) (k0_pay8 v8 v9) (k0_pay10 v17) (k0_pay11 v19) (k0_pay12 v8 v9 v19) (k0_pay13 v19) (k0_pay14 v8 v9) k0_pay15 (k0_pay16 v17)
      = k0_pay23 (k0_pay8 v8 v9) v17 v19 := rfl

theorem convt_eq (v8 : Vec Ideal S512x1024 .bf16) (v9 : Vec Ideal S1x1x704x1024 .bf16) (v17 v19 : Vec Ideal S1x1x8x704 .f32) :
    k0_pay18 (F := Ideal) (k0_pay8 v8 v9) (k0_pay10 v17) (k0_pay11 v19) (k0_pay12 v8 v9 v19) (k0_pay13 v19) (k0_pay14 v8 v9) k0_pay15 (k0_pay16 v17)
      = k0_pay24 (k0_pay8 v8 v9) v17 v19 := rfl

theorem up_eq : k0_pay20 (F := Ideal) = k0_pay8 := rfl

theorem upt_eq (v8 : Vec Ideal S512x1024 .bf16) (v9 : Vec Ideal S1x1x704x1024 .bf16) : k0_pay22 (F := Ideal) (k0_pay21 v8 v9) = k0_pay9 v8 v9 := rfl

theorem last_eq : k0_pay19 (F := Ideal) = k0_pay1 := rfl

/-! ## The gate and the projection down -/

theorem down_at (g v : FVec Ideal S512x704 .f32) (y : Vec Ideal S512x1024 .f32) (w : Vec Ideal S704x1024 .bf16)
    (G W : Fin 512 → Fin 704 → ℝ) (Y : Fin 512 → Fin 1024 → ℝ) (D : Fin 704 → Fin 1024 → ℝ)
    (hg : ∀ r f, g (ix2 r f) = (G r f : EReal)) (hv : ∀ r f, v (ix2 r f) = (W r f : EReal)) (hy : ∀ r e, y (ix2 r e) = (Y r e : EReal))
    (hw : ∀ f e, w (ix2 f e) = (D f e : EReal)) (r : Fin 512) (e : Fin 1024) :
    k0_pay2 (F := Ideal) g v y w (ix2 r e) = ((Y r e + ∑ f, G r f * sgm (G r f) * W r f * D f e : ℝ) : EReal) := by
  pointwise [k0_pay2]
  simp only [hg, hv, hy, hw, ofBits_one, sgm_real, ← EReal.coe_mul, coe_sum, ← EReal.coe_add]

theorem zero_at (i : S512x1024.Idx) : k0_pay6 (F := Ideal) i = ((0 : ℝ) : EReal) := by
  pointwise [k0_pay6]
  exact EReal.coe_zero.symm

theorem zero4_at (i : S2x4x8x704.Idx) : k0_pay7 (F := Ideal) i = ((0 : ℝ) : EReal) := by
  pointwise [k0_pay7]
  exact EReal.coe_zero.symm

end Cert.FfnFVal

end
-- ==== Proof.FfnFSpec.lean ====
module

public import proofs.«01_k».proof.Proof.FfnFPay
public import proofs.«01_k».proof.Proof.FfnSums

/-! The feed-forward part's forward pass over the reals: its results, and what a sum or a carried row holds in between. -/

@[expose] public section

noncomputable section

namespace Cert.FfnFVal

open Idealize.ShloMosaic Cert.Reals
open Cert.FfnVal (ch col ext ext_lt prev rowb sgm sum_blocks)

/-- The part's real inputs: the rows, the two norms' weights, shift, scale and gate, the two projections and the taps. -/
structure FIn where
  x : Fin 8192 → Fin 1024 → ℝ
  g : Fin 1024 → ℝ
  pg : Fin 1024 → ℝ
  sh : Fin 1024 → ℝ
  sc : Fin 1024 → ℝ
  gt : Fin 1024 → ℝ
  up : Fin 1024 → Fin 5632 → ℝ
  dw : Fin 3 → Fin 5632 → ℝ
  dn : Fin 2816 → Fin 1024 → ℝ

/-- A point's chunk of hidden units and its block of rows. -/
def jt (n : ℕ) : Fin 4 := ⟨n % 4, Nat.mod_lt _ (by decide)⟩

def bt (n : ℕ) : Fin 16 := ⟨n / 4 % 16, Nat.mod_lt _ (by decide)⟩

/-- A column's value eight rows before row number `q`, zero before the first row. -/
def back (f : Fin 8192 → ℝ) (q : ℕ) : ℝ := if 8 ≤ q then ext f (q - 8) else 0

namespace FIn

variable (I : FIn)

/-- The normed rows with the projections and taps: the part without its residual. -/
def core : FfnVal.In where
  h r k := I.x r k * rinv (I.x r) * (I.g k * (1 + I.sc k)) + I.sh k
  up := I.up
  dw := I.dw
  dn := I.dn
  ct _ _ := 0

def y (r : Fin 8192) (e : Fin 1024) : ℝ := ∑ q, I.core.u r q * I.dn q e

def xo (r : Fin 8192) (l : Fin 1024) : ℝ := I.x r l + I.gt l * I.pg l * (I.y r l * rinv (I.y r))

/-- What a chunk adds to the projection down. -/
def chunk (j : Fin 4) (r : Fin 8192) (e : Fin 1024) : ℝ := ∑ f, I.core.u r (ch j f) * I.dn (ch j f) e

/-- The projection down over the first `n` chunks. -/
def part (n : ℕ) (r : Fin 8192) (e : Fin 1024) : ℝ := ∑ q ∈ Finset.range n, I.chunk (jt q) r e

theorem part_succ (n : ℕ) (r : Fin 8192) (e : Fin 1024) : I.part (n + 1) r e = I.part n r e + I.chunk (jt n) r e := Finset.sum_range_succ _ _

theorem part_four (r : Fin 8192) (e : Fin 1024) : I.part 4 r e = I.y r e := by
  unfold part y
  rw [Finset.sum_range]
  have hs := sum_blocks 4 704 (fun n => if h : n < 2816 then I.core.u r ⟨n, h⟩ * I.dn ⟨n, h⟩ e else 0)
  refine Eq.trans ?_ (hs.symm.trans ?_)
  · refine Finset.sum_congr rfl fun p _ => ?_
    unfold chunk
    refine Finset.sum_congr rfl fun f _ => ?_
    rw [dif_pos (show p.val * 704 + f.val < 2816 by omega)]
    have : jt p.val = p := Fin.ext (Nat.mod_eq_of_lt p.isLt)
    rw [this]
  · exact Finset.sum_congr rfl fun q _ => dif_pos q.isLt

/-- The rows carried before point `n`: the last eight of the chunk's block before. -/
def carry (n : ℕ) (s : Fin 2) (j : Fin 4) (k : Fin 8) (f : Fin 704) : ℝ :=
  back (fun t => I.core.a t (col s (ch j f))) ((if j.val < n % 4 then n / 4 + 1 else n / 4) * 512 + k.val)

end FIn

section
variable (f : Fin 8192 → ℝ) (b : Fin 16) (A : Fin 512 → Fin 704 → ℝ) (C : Fin 8 → Fin 704 → ℝ) (p : Fin 704)
  (hA : ∀ r, A r p = f (rowb b r)) (hC : ∀ k, C k p = back f (b.val * 512 + k.val))
include hA hC

/-- A block's column `n` rows earlier is the whole column's. -/
theorem bk_prev (n : Fin 8) (r : Fin 512) : bk A C n r p = prev f n.val (rowb b r) := by
  unfold bk prev
  by_cases h : n.val ≤ r.val
  · rw [dif_pos h, if_pos (show n.val ≤ b.val * 512 + r.val by omega), hA]
    exact congrArg f (Fin.ext (by show b.val * 512 + (r.val - n.val) = b.val * 512 + r.val - n.val; omega))
  · rw [dif_neg h, hC]
    unfold back
    by_cases hb : b.val = 0
    · rw [if_neg (by show ¬ 8 ≤ b.val * 512 + (8 + r.val - n.val); omega), if_neg (show ¬ n.val ≤ b.val * 512 + r.val by omega)]
    · rw [if_pos (by show 8 ≤ b.val * 512 + (8 + r.val - n.val); omega), if_pos (show n.val ≤ b.val * 512 + r.val by omega)]
      refine Eq.trans (congrArg (ext f) ?_) (ext_lt f _)
      show b.val * 512 + (8 + r.val - n.val) - 8 = b.val * 512 + r.val - n.val
      omega

theorem cvb_prev (T : Fin 3 → Fin 704 → ℝ) (r : Fin 512) :
    cvb T A C r p = prev f 2 (rowb b r) * T 0 p + prev f 1 (rowb b r) * T 1 p + f (rowb b r) * T 2 p := by
  unfold cvb
  rw [bk_prev f b A C p hA hC 1 r, bk_prev f b A C p hA hC 2 r, hA]
  show _ = prev f ((2 : Fin 8) : ℕ) (rowb b r) * T 0 p + prev f ((1 : Fin 8) : ℕ) (rowb b r) * T 1 p + f (rowb b r) * T 2 p
  ring

end

end Cert.FfnFVal

end
-- ==== Proof.FfnFPoint.lean ====
module

public import proofs.«01_k».proof.Proof.FfnFRun
public import proofs.«01_k».proof.Proof.FfnFSpec
public import proofs.«01_k».proof.Proof.Rows

/-! A point of the feed-forward part's forward kernel over the reals: what its run leaves, from what it finds. -/

@[expose] public section

set_option maxRecDepth 16384

noncomputable section

namespace Cert.FfnFVal

open Cert.FfnFIdeal Cert.FfnFIdeal.Gen Idealize.ShloMosaic Idealize.ShloMosaic.TcCoe Idealize.SL.Sem Cert.Reals
open Cert.FfnVal (tap ch col rowb sgm load_at load_held)

/-- The inputs' blocks at a point. -/
structure At (I : FIn) (j : Fin 4) (b : Fin 16) (x2 : Vec Ideal S512x1024 .f32) (x3 : Vec Ideal S8x1024 .f32) (x4 : Vec Ideal S2x1x704x1024 .bf16)
    (x5 : Vec Ideal S2x1x8x704 .f32) (x6 : Vec Ideal S704x1024 .bf16) : Prop where
  x : ∀ r e, x2 (ix2 r e) = (I.x (rowb b r) e : EReal)
  g : ∀ k, x3 (ix2 0 k) = (I.g k : EReal)
  sc : ∀ k, x3 (ix2 1 k) = ((1 + I.sc k : ℝ) : EReal)
  sh : ∀ k, x3 (ix2 2 k) = (I.sh k : EReal)
  pg : ∀ k, x3 (ix2 3 k) = (I.pg k : EReal)
  gt : ∀ k, x3 (ix2 4 k) = (I.gt k : EReal)
  up : ∀ s f e, x4 (ix4 s 0 f e) = (I.up e (col s (ch j f)) : EReal)
  dw : ∀ s k f, x5 (ix4 s 0 (tap k) f) = (I.dw k (col s (ch j f)) : EReal)
  dn : ∀ f e, x6 (ix2 f e) = (I.dn (ch j f) e : EReal)

/-- What the point leaves: `s` is the sum before it, `w` the rows carried before it. -/
structure Post (I : FIn) (j : Fin 4) (b : Fin 16) (s : Fin 512 → Fin 1024 → ℝ) (w : Fin 2 → Fin 4 → Fin 8 → Fin 704 → ℝ) (first last : Prop)
    (z7 y7 z8 y8 : Vec Ideal S512x1024 .f32) (z9 y9 : Vec Ideal S512x1024 .bf16) (y10 y11 : Vec Ideal S2x1x512x704 .bf16)
    (y12 : Vec Ideal S512x1024 .bf16) (y13 : Vec Ideal S512x1024 .f32) (y14 : Vec Ideal S2x4x8x704 .f32) : Prop where
  xo : last → ∀ r l, y7 (ix2 r l) = ((I.x (rowb b r) l + I.gt l * I.pg l * ((s r l + I.chunk j (rowb b r) l) * rinv fun e => s r e + I.chunk j (rowb b r) e) : ℝ) : EReal)
  xok : ¬ last → y7 = z7
  y : last → ∀ r e, y8 (ix2 r e) = ((s r e + I.chunk j (rowb b r) e : ℝ) : EReal)
  yk : ¬ last → y8 = z8
  h : first → ∀ r e, y9 (ix2 r e) = (I.core.h (rowb b r) e : EReal)
  hk : ¬ first → y9 = z9
  a : ∀ s r f, y10 (ix4 s 0 r f) = (I.core.a (rowb b r) (col s (ch j f)) : EReal)
  cv : ∀ s r f, y11 (ix4 s 0 r f) = (I.core.cv (rowb b r) (col s (ch j f)) : EReal)
  rows : ∀ r e, y12 (ix2 r e) = (I.core.h (rowb b r) e : EReal)
  sum : ∀ r e, y13 (ix2 r e) = ((s r e + I.chunk j (rowb b r) e : ℝ) : EReal)
  carry : ∀ s' j' (k : Fin 8) f, y14 (ix4 s' j' k f) = ((if j' = j then I.core.a (rowb b ⟨504 + k.val, by omega⟩) (col s' (ch j f)) else w s' j' k f : ℝ) : EReal)

section
variable {I : FIn} {j : Fin 4} {b : Fin 16} {c : Dev nD} {i : grid0.Coords}
  {a2 : Memref sig .tc .vmem S512x1024 .f32} {h2 : a2.IsWhole}
  {a3 : Memref sig .tc .vmem S8x1024 .f32} {h3 : a3.IsWhole}
  {a4 : Memref sig .tc .vmem S2x1x704x1024 .bf16} {h4 : a4.IsWhole}
  {a5 : Memref sig .tc .vmem S2x1x8x704 .f32} {h5 : a5.IsWhole}
  {a6 : Memref sig .tc .vmem S704x1024 .bf16} {h6 : a6.IsWhole}
  {a7 : Memref sig .tc .vmem S512x1024 .f32} {h7 : a7.IsWhole}
  {a8 : Memref sig .tc .vmem S512x1024 .f32} {h8 : a8.IsWhole}
  {a9 : Memref sig .tc .vmem S512x1024 .bf16} {h9 : a9.IsWhole}
  {a10 : Memref sig .tc .vmem S2x1x512x704 .bf16} {h10 : a10.IsWhole}
  {a11 : Memref sig .tc .vmem S2x1x512x704 .bf16} {h11 : a11.IsWhole}
  {a12 : Memref sig .tc .vmem S512x1024 .bf16} {h12 : a12.IsWhole}
  {a13 : Memref sig .tc .vmem S512x1024 .f32} {h13 : a13.IsWhole}
  {a14 : Memref sig .tc .vmem S2x4x8x704 .f32} {h14 : a14.IsWhole}
  {x2 : Vec Ideal S512x1024 .f32} {x3 : Vec Ideal S8x1024 .f32} {x4 : Vec Ideal S2x1x704x1024 .bf16} {x5 : Vec Ideal S2x1x8x704 .f32} {x6 : Vec Ideal S704x1024 .bf16} {z7 : Vec Ideal S512x1024 .f32} {z8 : Vec Ideal S512x1024 .f32} {z9 : Vec Ideal S512x1024 .bf16} {z10 : Vec Ideal S2x1x512x704 .bf16} {z11 : Vec Ideal S2x1x512x704 .bf16} {z12 : Vec Ideal S512x1024 .bf16} {z13 : Vec Ideal S512x1024 .f32} {z14 : Vec Ideal S2x4x8x704 .f32}
  {s : Fin 512 → Fin 1024 → ℝ} {w : Fin 2 → Fin 4 → Fin 8 → Fin 704 → ℝ}
  (D : At I j b x2 x3 x4 x5 x6)
  (ho1 : k0_off1 i = ![0, j.val, 0, 0]) (ho2 : k0_off2 i = ![1, j.val, 0, 0])
  (h0 : ¬ k0_cond1 i = 1#1 → ∀ r e, z12 (ix2 r e) = (I.core.h (rowb b r) e : EReal))
  (s0 : k0_cond1 i = 1#1 → ∀ r e, s r e = 0)
  (s1 : ¬ k0_cond1 i = 1#1 → ∀ r e, z13 (ix2 r e) = (s r e : EReal))
  (w0 : anyRun.sl.v7 i = 1#1 → ∀ s j k f, w s j k f = 0)
  (w1 : ¬ anyRun.sl.v7 i = 1#1 → ∀ s j k f, z14 (ix4 s j k f) = (w s j k f : EReal))
  (hw : ∀ s k f, w s j k f = back (fun t => I.core.a t (col s (ch j f))) (b.val * 512 + k.val))

include D in
theorem x_v (r : Fin 512) (e : Fin 1024) :
    (View.readAt (Elt Ideal) a2.view (Rect.unit (s := S512x1024) ![0, 0] S512x1024.size inb_S512x1024_S512x1024_0_0).toLoadRect (h2.unread x2)) (ix2 r e) = (I.x (rowb b r) e : EReal) :=
  (load_held a2 h2 x2 _ (ix2 r e) (ix2 r e) (by intro a; fin_cases a <;> first | rfl | exact (Nat.zero_add _).symm)).trans (D.x r e)

theorem pv_v (o : Fin 8) (e : Fin 1024) :
    (View.readAt (Elt Ideal) a3.view (Rect.unit (s := S8x1024) ![0, 0] S8x1024.size inb_S8x1024_S8x1024_0_0).toLoadRect (h3.unread x3)) (ix2 o e) = x3 (ix2 o e) :=
  load_held a3 h3 x3 _ (ix2 o e) (ix2 o e) (by intro a; fin_cases a <;> first | rfl | exact (Nat.zero_add _).symm)

include D in
theorem h_v (r : Fin 512) (e : Fin 1024) :
    k0_pay4 (F := Ideal) (View.readAt (Elt Ideal) a2.view (Rect.unit (s := S512x1024) ![0, 0] S512x1024.size inb_S512x1024_S512x1024_0_0).toLoadRect (h2.unread x2))
      (View.readAt (Elt Ideal) a3.view (Rect.unit (s := S8x1024) ![0, 0] S8x1024.size inb_S8x1024_S8x1024_0_0).toLoadRect (h3.unread x3)) (ix2 r e) = (I.core.h (rowb b r) e : EReal) :=
  h_at _ _ I.g (fun k => 1 + I.sc k) I.sh (fun r k => I.x (rowb b r) k) (fun k => (pv_v 0 k).trans (D.g k)) (fun k => (pv_v 1 k).trans (D.sc k))
    (fun k => (pv_v 2 k).trans (D.sh k)) (x_v D) r e

include D h0 in
theorem rows12 (r : Fin 512) (e : Fin 1024) :
    a12.view.read (Elt Ideal) (if hc : k0_cond1 i = 1#1 then a12.view.writes (Elt Ideal) (h12.unread z12)
      [⟨Rect.unit (s := S512x1024) ![0, 0] S512x1024.size inb_S512x1024_S512x1024_0_0,
        k0_pay5 (F := Ideal) (View.readAt (Elt Ideal) a2.view (Rect.unit (s := S512x1024) ![0, 0] S512x1024.size inb_S512x1024_S512x1024_0_0).toLoadRect (h2.unread x2))
          (View.readAt (Elt Ideal) a3.view (Rect.unit (s := S8x1024) ![0, 0] S8x1024.size inb_S8x1024_S8x1024_0_0).toLoadRect (h3.unread x3))⟩] else h12.unread z12) (ix2 r e)
      = (I.core.h (rowb b r) e : EReal) := by
  split_ifs with h
  · exact (View.read_writes_cons_unit_of_mem a12.view _ _ _ _ (ix2 r e) (ix2 r e) rfl (by intro a; fin_cases a <;> first | rfl | exact (Nat.zero_add _).symm)).trans ((pay5_eq _ _ r e).trans (h_v D r e))
  · exact (congrFun (h12.read_unread z12) _).trans (h0 h r e)

include D h0 in
theorem v8_at (r : Fin 512) (e : Fin 1024) : (anyRun.sl.v8 (F := Ideal) c i a2 h2 a3 h3 a12 h12 x2 x3 z12) (ix2 r e) = (I.core.h (rowb b r) e : EReal) := by
  unfold anyRun.sl.v8
  exact (load_at a12 _ _ (ix2 r e) (ix2 r e) rfl (by intro a; fin_cases a <;> first | rfl | exact (Nat.zero_add _).symm)).trans (rows12 D h0 r e)

include w0 w1 in
theorem start14 (s : Fin 2) (j : Fin 4) (k : Fin 8) (f : Fin 704) :
    a14.view.read (Elt Ideal) (if hc : anyRun.sl.v7 i = 1#1 then a14.view.writes (Elt Ideal) (h14.unread z14)
      [⟨Rect.unit (s := S2x4x8x704) ![0, 0, 0, 0] S2x4x8x704.size inb_S2x4x8x704_S2x4x8x704_0_0_0_0, k0_pay7 (F := Ideal)⟩] else h14.unread z14) (ix4 s j k f) = (w s j k f : EReal) := by
  split_ifs with h
  · refine (View.read_writes_cons_unit_of_mem a14.view _ _ _ _ (ix4 s j k f) (ix4 s j k f) rfl (by intro a; fin_cases a <;> first | rfl | exact (Nat.zero_add _).symm)).trans ?_
    rw [w0 h]; exact zero4_at _
  · exact (congrFun (h14.read_unread z14) _).trans (w1 h s j k f)

include s0 s1 in
theorem sum_v (r : Fin 512) (e : Fin 1024) : anyRun.sl.v126 (F := Ideal) c i a13 h13 z13 (ix2 r e) = (s r e : EReal) := by
  unfold anyRun.sl.v126
  refine (load_at a13 _ _ (ix2 r e) (ix2 r e) rfl (by intro a; fin_cases a <;> first | rfl | exact (Nat.zero_add _).symm)).trans ?_
  split_ifs with h
  · refine (View.read_writes_cons_unit_of_mem a13.view _ _ _ _ (ix2 r e) (ix2 r e) rfl (by intro a; fin_cases a <;> first | rfl | exact (Nat.zero_add _).symm)).trans ?_
    rw [s0 h]; exact zero_at _
  · exact (congrFun (h13.read_unread z13) _).trans (s1 h r e)

include D h0 in
theorem up0_v (r : Fin 512) (f : Fin 704) : k0_pay8 (F := Ideal) (anyRun.sl.v8 (F := Ideal) c i a2 h2 a3 h3 a12 h12 x2 x3 z12) (View.readAt (Elt Ideal) a4.view (Rect.unit (s := S2x1x704x1024) ![0, 0, 0, 0] S1x1x704x1024.size inb_S2x1x704x1024_S1x1x704x1024_0_0_0_0).toLoadRect (h4.unread x4)) (ix2 r f) = (I.core.a (rowb b r) (col 0 (ch j f)) : EReal) :=
  up_at _ _ (fun r e => I.core.h (rowb b r) e) (fun f e => I.up e (col 0 (ch j f))) (v8_at D h0)
    (fun f e => (load_held a4 h4 x4 _ (ix4 0 0 f e) (ix4 0 0 f e) (by intro a; fin_cases a <;> first | rfl | exact (Nat.zero_add _).symm)).trans (D.up 0 f e)) r f

include D h0 in
theorem upt0_v (r : Fin 512) (f : Fin 704) : k0_pay9 (F := Ideal) (anyRun.sl.v8 (F := Ideal) c i a2 h2 a3 h3 a12 h12 x2 x3 z12) (View.readAt (Elt Ideal) a4.view (Rect.unit (s := S2x1x704x1024) ![0, 0, 0, 0] S1x1x704x1024.size inb_S2x1x704x1024_S1x1x704x1024_0_0_0_0).toLoadRect (h4.unread x4)) (ix4 0 0 r f) = (I.core.a (rowb b r) (col 0 (ch j f)) : EReal) :=
  upt_at _ _ (fun r e => I.core.h (rowb b r) e) (fun f e => I.up e (col 0 (ch j f))) (v8_at D h0)
    (fun f e => (load_held a4 h4 x4 _ (ix4 0 0 f e) (ix4 0 0 f e) (by intro a; fin_cases a <;> first | rfl | exact (Nat.zero_add _).symm)).trans (D.up 0 f e)) r f

include ho1 w0 w1 in
theorem carried0 (k : Fin 8) (f : Fin 704) : (anyRun.sl.v17 (F := Ideal) c i a14 h14 z14) (ix4 0 0 k f) = (w 0 j k f : EReal) := by
  unfold anyRun.sl.v17
  exact (load_at a14 _ _ (ix4 0 0 k f) (ix4 0 j k f) ho1 (by intro a; fin_cases a <;> first | rfl | exact (Nat.zero_add _).symm)).trans (start14 w0 w1 0 j k f)

include D in
theorem tap0_v (k : Fin 3) (f : Fin 704) : (View.readAt (Elt Ideal) a5.view (Rect.unit (s := S2x1x8x704) ![0, 0, 0, 0] S1x1x8x704.size inb_S2x1x8x704_S1x1x8x704_0_0_0_0).toLoadRect (h5.unread x5)) (ix4 0 0 (tap k) f) = (I.dw k (col 0 (ch j f)) : EReal) :=
  (load_held a5 h5 x5 _ (ix4 0 0 (tap k) f) (ix4 0 0 (tap k) f) (by intro a; fin_cases a <;> first | rfl | exact (Nat.zero_add _).symm)).trans (D.dw 0 k f)

include hw in
theorem block_cv0 (r : Fin 512) (f : Fin 704) : cvb (fun k f => I.dw k (col 0 (ch j f))) (fun r f => I.core.a (rowb b r) (col 0 (ch j f))) (fun k f => w 0 j k f) r f = I.core.cv (rowb b r) (col 0 (ch j f)) :=
  cvb_prev (fun t => I.core.a t (col 0 (ch j f))) b (fun r f => I.core.a (rowb b r) (col 0 (ch j f))) (fun k f => w 0 j k f) f (fun _ => rfl) (fun k => hw 0 k f) (fun k f => I.dw k (col 0 (ch j f))) r

include D h0 ho1 w0 w1 hw in
theorem conv0_v (r : Fin 512) (f : Fin 704) : k0_pay23 (F := Ideal) (k0_pay8 (anyRun.sl.v8 (F := Ideal) c i a2 h2 a3 h3 a12 h12 x2 x3 z12) (View.readAt (Elt Ideal) a4.view (Rect.unit (s := S2x1x704x1024) ![0, 0, 0, 0] S1x1x704x1024.size inb_S2x1x704x1024_S1x1x704x1024_0_0_0_0).toLoadRect (h4.unread x4))) (anyRun.sl.v17 (F := Ideal) c i a14 h14 z14) (View.readAt (Elt Ideal) a5.view (Rect.unit (s := S2x1x8x704) ![0, 0, 0, 0] S1x1x8x704.size inb_S2x1x8x704_S1x1x8x704_0_0_0_0).toLoadRect (h5.unread x5)) (ix2 r f)
    = (I.core.cv (rowb b r) (col 0 (ch j f)) : EReal) :=
  (conv_at _ _ _ (fun r f => I.core.a (rowb b r) (col 0 (ch j f))) (fun k f => w 0 j k f) (fun k f => I.dw k (col 0 (ch j f))) (up0_v D h0) (carried0 ho1 w0 w1) (tap0_v D) r f).trans (congrArg _ (block_cv0 hw r f))

include D h0 ho1 w0 w1 hw in
theorem convt0_v (r : Fin 512) (f : Fin 704) : k0_pay24 (F := Ideal) (k0_pay8 (anyRun.sl.v8 (F := Ideal) c i a2 h2 a3 h3 a12 h12 x2 x3 z12) (View.readAt (Elt Ideal) a4.view (Rect.unit (s := S2x1x704x1024) ![0, 0, 0, 0] S1x1x704x1024.size inb_S2x1x704x1024_S1x1x704x1024_0_0_0_0).toLoadRect (h4.unread x4))) (anyRun.sl.v17 (F := Ideal) c i a14 h14 z14) (View.readAt (Elt Ideal) a5.view (Rect.unit (s := S2x1x8x704) ![0, 0, 0, 0] S1x1x8x704.size inb_S2x1x8x704_S1x1x8x704_0_0_0_0).toLoadRect (h5.unread x5)) (ix4 0 0 r f)
    = (I.core.cv (rowb b r) (col 0 (ch j f)) : EReal) :=
  (convt_at _ _ _ (fun r f => I.core.a (rowb b r) (col 0 (ch j f))) (fun k f => w 0 j k f) (fun k f => I.dw k (col 0 (ch j f))) (up0_v D h0) (carried0 ho1 w0 w1) (tap0_v D) r f).trans (congrArg _ (block_cv0 hw r f))

include D h0 in
theorem up1_v (r : Fin 512) (f : Fin 704) : k0_pay8 (F := Ideal) (anyRun.sl.v8 (F := Ideal) c i a2 h2 a3 h3 a12 h12 x2 x3 z12) (View.readAt (Elt Ideal) a4.view (Rect.unit (s := S2x1x704x1024) ![1, 0, 0, 0] S1x1x704x1024.size inb_S2x1x704x1024_S1x1x704x1024_1_0_0_0).toLoadRect (h4.unread x4)) (ix2 r f) = (I.core.a (rowb b r) (col 1 (ch j f)) : EReal) :=
  up_at _ _ (fun r e => I.core.h (rowb b r) e) (fun f e => I.up e (col 1 (ch j f))) (v8_at D h0)
    (fun f e => (load_held a4 h4 x4 _ (ix4 0 0 f e) (ix4 1 0 f e) (by intro a; fin_cases a <;> first | rfl | exact (Nat.zero_add _).symm)).trans (D.up 1 f e)) r f

include D h0 in
theorem upt1_v (r : Fin 512) (f : Fin 704) : k0_pay9 (F := Ideal) (anyRun.sl.v8 (F := Ideal) c i a2 h2 a3 h3 a12 h12 x2 x3 z12) (View.readAt (Elt Ideal) a4.view (Rect.unit (s := S2x1x704x1024) ![1, 0, 0, 0] S1x1x704x1024.size inb_S2x1x704x1024_S1x1x704x1024_1_0_0_0).toLoadRect (h4.unread x4)) (ix4 0 0 r f) = (I.core.a (rowb b r) (col 1 (ch j f)) : EReal) :=
  upt_at _ _ (fun r e => I.core.h (rowb b r) e) (fun f e => I.up e (col 1 (ch j f))) (v8_at D h0)
    (fun f e => (load_held a4 h4 x4 _ (ix4 0 0 f e) (ix4 1 0 f e) (by intro a; fin_cases a <;> first | rfl | exact (Nat.zero_add _).symm)).trans (D.up 1 f e)) r f

include ho2 w0 w1 in
theorem carried1 (k : Fin 8) (f : Fin 704) : (anyRun.sl.v71 (F := Ideal) c i a14 h14 z14) (ix4 0 0 k f) = (w 1 j k f : EReal) := by
  unfold anyRun.sl.v71
  exact (load_at a14 _ _ (ix4 0 0 k f) (ix4 1 j k f) ho2 (by intro a; fin_cases a <;> first | rfl | exact (Nat.zero_add _).symm)).trans (start14 w0 w1 1 j k f)

include D in
theorem tap1_v (k : Fin 3) (f : Fin 704) : (View.readAt (Elt Ideal) a5.view (Rect.unit (s := S2x1x8x704) ![1, 0, 0, 0] S1x1x8x704.size inb_S2x1x8x704_S1x1x8x704_1_0_0_0).toLoadRect (h5.unread x5)) (ix4 0 0 (tap k) f) = (I.dw k (col 1 (ch j f)) : EReal) :=
  (load_held a5 h5 x5 _ (ix4 0 0 (tap k) f) (ix4 1 0 (tap k) f) (by intro a; fin_cases a <;> first | rfl | exact (Nat.zero_add _).symm)).trans (D.dw 1 k f)

include hw in
theorem block_cv1 (r : Fin 512) (f : Fin 704) : cvb (fun k f => I.dw k (col 1 (ch j f))) (fun r f => I.core.a (rowb b r) (col 1 (ch j f))) (fun k f => w 1 j k f) r f = I.core.cv (rowb b r) (col 1 (ch j f)) :=
  cvb_prev (fun t => I.core.a t (col 1 (ch j f))) b (fun r f => I.core.a (rowb b r) (col 1 (ch j f))) (fun k f => w 1 j k f) f (fun _ => rfl) (fun k => hw 1 k f) (fun k f => I.dw k (col 1 (ch j f))) r

include D h0 ho2 w0 w1 hw in
theorem conv1_v (r : Fin 512) (f : Fin 704) : k0_pay23 (F := Ideal) (k0_pay8 (anyRun.sl.v8 (F := Ideal) c i a2 h2 a3 h3 a12 h12 x2 x3 z12) (View.readAt (Elt Ideal) a4.view (Rect.unit (s := S2x1x704x1024) ![1, 0, 0, 0] S1x1x704x1024.size inb_S2x1x704x1024_S1x1x704x1024_1_0_0_0).toLoadRect (h4.unread x4))) (anyRun.sl.v71 (F := Ideal) c i a14 h14 z14) (View.readAt (Elt Ideal) a5.view (Rect.unit (s := S2x1x8x704) ![1, 0, 0, 0] S1x1x8x704.size inb_S2x1x8x704_S1x1x8x704_1_0_0_0).toLoadRect (h5.unread x5)) (ix2 r f)
    = (I.core.cv (rowb b r) (col 1 (ch j f)) : EReal) :=
  (conv_at _ _ _ (fun r f => I.core.a (rowb b r) (col 1 (ch j f))) (fun k f => w 1 j k f) (fun k f => I.dw k (col 1 (ch j f))) (up1_v D h0) (carried1 ho2 w0 w1) (tap1_v D) r f).trans (congrArg _ (block_cv1 hw r f))

include D h0 ho2 w0 w1 hw in
theorem convt1_v (r : Fin 512) (f : Fin 704) : k0_pay24 (F := Ideal) (k0_pay8 (anyRun.sl.v8 (F := Ideal) c i a2 h2 a3 h3 a12 h12 x2 x3 z12) (View.readAt (Elt Ideal) a4.view (Rect.unit (s := S2x1x704x1024) ![1, 0, 0, 0] S1x1x704x1024.size inb_S2x1x704x1024_S1x1x704x1024_1_0_0_0).toLoadRect (h4.unread x4))) (anyRun.sl.v71 (F := Ideal) c i a14 h14 z14) (View.readAt (Elt Ideal) a5.view (Rect.unit (s := S2x1x8x704) ![1, 0, 0, 0] S1x1x8x704.size inb_S2x1x8x704_S1x1x8x704_1_0_0_0).toLoadRect (h5.unread x5)) (ix4 0 0 r f)
    = (I.core.cv (rowb b r) (col 1 (ch j f)) : EReal) :=
  (convt_at _ _ _ (fun r f => I.core.a (rowb b r) (col 1 (ch j f))) (fun k f => w 1 j k f) (fun k f => I.dw k (col 1 (ch j f))) (up1_v D h0) (carried1 ho2 w0 w1) (tap1_v D) r f).trans (congrArg _ (block_cv1 hw r f))

include D h0 ho1 ho2 s0 s1 w0 w1 hw in
theorem down_v (r : Fin 512) (e : Fin 1024) :
    k0_pay2 (F := Ideal) (anyRun.sl.r_7 (F := Ideal) c i a2 h2 a3 h3 a4 h4 a5 h5 a12 h12 a14 h14 x2 x3 x4 x5 z12 z14) (anyRun.sl.r_10 (F := Ideal) c i a2 h2 a3 h3 a4 h4 a5 h5 a12 h12 a14 h14 x2 x3 x4 x5 z12 z14) (anyRun.sl.v126 (F := Ideal) c i a13 h13 z13)
      (View.readAt (Elt Ideal) a6.view (Rect.unit (s := S704x1024) ![0, 0] S704x1024.size inb_S704x1024_S704x1024_0_0).toLoadRect (h6.unread x6)) (ix2 r e)
      = ((s r e + I.chunk j (rowb b r) e : ℝ) : EReal) := by
  refine (down_at _ _ _ _ (fun r f => I.core.cv (rowb b r) (col 0 (ch j f))) (fun r f => I.core.cv (rowb b r) (col 1 (ch j f))) s (fun f e => I.dn (ch j f) e)
    (fun r f => ?_) (fun r f => ?_) (sum_v s0 s1) (fun f e => (load_held a6 h6 x6 _ (ix2 f e) (ix2 f e) (by intro a; fin_cases a <;> first | rfl | exact (Nat.zero_add _).symm)).trans (D.dn f e)) r e).trans rfl
  · exact conv0_v D ho1 h0 w0 w1 hw r f
  · exact conv1_v D ho2 h0 w0 w1 hw r f

include D h0 ho1 ho2 s0 s1 w0 w1 hw in
theorem v138_v (r : Fin 512) (e : Fin 1024) :
    anyRun.sl.v138 (F := Ideal) c i a2 h2 a3 h3 a4 h4 a5 h5 a6 h6 a12 h12 a13 h13 a14 h14 x2 x3 x4 x5 x6 z12 z13 z14 (ix2 r e) = ((s r e + I.chunk j (rowb b r) e : ℝ) : EReal) := by
  unfold anyRun.sl.v138
  refine (Rows.readCov_rect a13.view _ _ r e r e (Nat.zero_add _).symm (Nat.zero_add _).symm).trans ?_
  unfold anyRun.sl.H13_1
  exact (Rows.canon_whole _ _ _ r e).trans (down_v D ho1 ho2 h0 s0 s1 w0 w1 hw r e)

include D h0 ho1 ho2 s0 s1 w0 w1 hw in
set_option maxHeartbeats 400000 in
theorem post_any : Post I j b s w (k0_cond1 i = 1#1) (k0_cond3 i = 1#1)
    z7 (anyRun (F := Ideal) c i a2 h2 a3 h3 a4 h4 a5 h5 a6 h6 a7 h7 a8 h8 a9 h9 a10 h10 a11 h11 a12 h12 a13 h13 a14 h14 x2 x3 x4 x5 x6 z7 z8 z9 z10 z11 z12 z13 z14).1 z8 (anyRun (F := Ideal) c i a2 h2 a3 h3 a4 h4 a5 h5 a6 h6 a7 h7 a8 h8 a9 h9 a10 h10 a11 h11 a12 h12 a13 h13 a14 h14 x2 x3 x4 x5 x6 z7 z8 z9 z10 z11 z12 z13 z14).2.1 z9 (anyRun (F := Ideal) c i a2 h2 a3 h3 a4 h4 a5 h5 a6 h6 a7 h7 a8 h8 a9 h9 a10 h10 a11 h11 a12 h12 a13 h13 a14 h14 x2 x3 x4 x5 x6 z7 z8 z9 z10 z11 z12 z13 z14).2.2.1 (anyRun (F := Ideal) c i a2 h2 a3 h3 a4 h4 a5 h5 a6 h6 a7 h7 a8 h8 a9 h9 a10 h10 a11 h11 a12 h12 a13 h13 a14 h14 x2 x3 x4 x5 x6 z7 z8 z9 z10 z11 z12 z13 z14).2.2.2.1 (anyRun (F := Ideal) c i a2 h2 a3 h3 a4 h4 a5 h5 a6 h6 a7 h7 a8 h8 a9 h9 a10 h10 a11 h11 a12 h12 a13 h13 a14 h14 x2 x3 x4 x5 x6 z7 z8 z9 z10 z11 z12 z13 z14).2.2.2.2.1
    (anyRun (F := Ideal) c i a2 h2 a3 h3 a4 h4 a5 h5 a6 h6 a7 h7 a8 h8 a9 h9 a10 h10 a11 h11 a12 h12 a13 h13 a14 h14 x2 x3 x4 x5 x6 z7 z8 z9 z10 z11 z12 z13 z14).2.2.2.2.2.1 (anyRun (F := Ideal) c i a2 h2 a3 h3 a4 h4 a5 h5 a6 h6 a7 h7 a8 h8 a9 h9 a10 h10 a11 h11 a12 h12 a13 h13 a14 h14 x2 x3 x4 x5 x6 z7 z8 z9 z10 z11 z12 z13 z14).2.2.2.2.2.2.1 (anyRun (F := Ideal) c i a2 h2 a3 h3 a4 h4 a5 h5 a6 h6 a7 h7 a8 h8 a9 h9 a10 h10 a11 h11 a12 h12 a13 h13 a14 h14 x2 x3 x4 x5 x6 z7 z8 z9 z10 z11 z12 z13 z14).2.2.2.2.2.2.2.1 := by
  unfold anyRun
  dsimp only
  refine ⟨fun h r l => ?_, fun h => ?_, fun h r e => ?_, fun h => ?_, fun h r e => ?_, fun h => ?_, fun s' r f => ?_, fun s' r f => ?_, fun r e => ?_, fun r e => ?_, fun s' j' k f => ?_⟩
  · rw [dif_pos h]
    refine (View.read_writes_cons_unit_of_mem a7.view _ _ _ _ (ix2 r l) (ix2 r l) rfl (by intro a; fin_cases a <;> first | rfl | exact (Nat.zero_add _).symm)).trans ?_
    exact xo_at _ _ _ I.pg I.gt (fun r k => I.x (rowb b r) k) (fun r e => s r e + I.chunk j (rowb b r) e) (fun k => (pv_v 3 k).trans (D.pg k))
      (fun k => (pv_v 4 k).trans (D.gt k)) (x_v D) (v138_v D ho1 ho2 h0 s0 s1 w0 w1 hw) r l
  · rw [dif_neg h]
    exact h7.read_unread z7
  · rw [dif_pos h]
    exact (View.read_writes_cons_unit_of_mem a8.view _ _ _ _ (ix2 r e) (ix2 r e) rfl (by intro a; fin_cases a <;> first | rfl | exact (Nat.zero_add _).symm)).trans (v138_v D ho1 ho2 h0 s0 s1 w0 w1 hw r e)
  · rw [dif_neg h]
    exact h8.read_unread z8
  · rw [dif_pos h]
    exact (View.read_writes_cons_unit_of_mem a9.view _ _ _ _ (ix2 r e) (ix2 r e) rfl (by intro a; fin_cases a <;> first | rfl | exact (Nat.zero_add _).symm)).trans (h_v D r e)
  · rw [dif_neg h]
    exact h9.read_unread z9
  · unfold anyRun.sl.H10_2
    obtain ⟨s', hs⟩ := s'
    match s', hs with
    | 0, _ =>
      refine (View.read_writes_cons_unit_of_not_mem a10.view _ _ _ _ _ rfl 0 (Or.inl (by decide : 0 < 1))).trans ?_
      exact (View.read_writes_cons_unit_of_mem a10.view _ _ _ _ _ (ix4 0 0 r f) rfl (by intro a; fin_cases a <;> first | rfl | exact (Nat.zero_add _).symm)).trans (upt0_v D h0 r f)
    | 1, _ =>
      exact (View.read_writes_cons_unit_of_mem a10.view _ _ _ _ _ (ix4 0 0 r f) rfl (by intro a; fin_cases a <;> first | rfl | exact (Nat.zero_add _).symm)).trans (upt1_v D h0 r f)
  · unfold anyRun.sl.H11_2
    obtain ⟨s', hs⟩ := s'
    match s', hs with
    | 0, _ =>
      refine (View.read_writes_cons_unit_of_not_mem a11.view _ _ _ _ _ rfl 0 (Or.inl (by decide : 0 < 1))).trans ?_
      exact (View.read_writes_cons_unit_of_mem a11.view _ _ _ _ _ (ix4 0 0 r f) rfl (by intro a; fin_cases a <;> first | rfl | exact (Nat.zero_add _).symm)).trans (convt0_v D ho1 h0 w0 w1 hw r f)
    | 1, _ =>
      exact (View.read_writes_cons_unit_of_mem a11.view _ _ _ _ _ (ix4 0 0 r f) rfl (by intro a; fin_cases a <;> first | rfl | exact (Nat.zero_add _).symm)).trans (convt1_v D ho2 h0 w0 w1 hw r f)
  · exact rows12 D h0 r e
  · unfold anyRun.sl.H13_1
    exact (View.read_writes_cons_unit_of_mem a13.view _ _ _ _ (ix2 r e) (ix2 r e) rfl (by intro a; fin_cases a <;> first | rfl | exact (Nat.zero_add _).symm)).trans (down_v D ho1 ho2 h0 s0 s1 w0 w1 hw r e)
  · unfold anyRun.sl.H14_2
    obtain ⟨s', hs⟩ := s'
    match s', hs with
    | 0, _ =>
      refine (View.read_writes_cons_unit_of_not_mem a14.view _ _ _ _ _ ho2 0 (Or.inl (by decide : 0 < 1))).trans ?_
      by_cases e : j' = j
      · subst e
        rw [if_pos rfl]
        refine (View.read_writes_cons_unit_of_mem a14.view _ _ _ _ _ (ix4 0 0 k f) ho1 (by intro a; fin_cases a <;> first | rfl | exact (Nat.zero_add _).symm)).trans ?_
        exact last_at _ (fun r f => I.core.a (rowb b r) (col 0 (ch j' f))) (up0_v D h0) k f
      · rw [if_neg e]
        refine (View.read_writes_cons_unit_of_not_mem a14.view _ _ _ _ _ ho1 1 ?_).trans (start14 w0 w1 0 j' k f)
        show j'.val < j.val ∨ j.val + 1 ≤ j'.val
        have := Fin.val_ne_of_ne e
        omega
    | 1, _ =>
      by_cases e : j' = j
      · subst e
        rw [if_pos rfl]
        refine (View.read_writes_cons_unit_of_mem a14.view _ _ _ _ _ (ix4 0 0 k f) ho2 (by intro a; fin_cases a <;> first | rfl | exact (Nat.zero_add _).symm)).trans ?_
        exact last_at _ (fun r f => I.core.a (rowb b r) (col 1 (ch j' f))) (up1_v D h0) k f
      · rw [if_neg e]
        refine (View.read_writes_cons_unit_of_not_mem a14.view _ _ _ _ _ ho2 1 ?_).trans ?_
        · show j'.val < j.val ∨ j.val + 1 ≤ j'.val
          have := Fin.val_ne_of_ne e
          omega
        refine (View.read_writes_cons_unit_of_not_mem a14.view _ _ _ _ _ ho1 0 (Or.inr (by decide : 0 + 1 ≤ 1))).trans (start14 w0 w1 1 j' k f)

end

end Cert.FfnFVal

end
-- ==== Proof.FfnFDat.lean ====
module

public import proofs.«01_k».proof.Proof.FfnFFrame
public import proofs.«01_k».proof.Proof.FfnFPoint
public import Idealize.ShloMosaic.Lib.Pipeline.Covers
public import Idealize.ShloMosaic.Lib.Pipeline.TableIdle

/-! The feed-forward part's forward kernel over its grid: what the outputs' blocks and the kernel's own buffers hold between points. -/

@[expose] public section

set_option maxRecDepth 16384

noncomputable section

namespace Cert.FfnFVal

open Cert.FfnFIdeal Cert.FfnFIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.FfnVal (ch col rowb ext ext_lt)

local notation "𝕄" => MT nD τ sig Unit (Elt Ideal) ℕ (UR sig nD τ) ℕ

/-! ## What the grid's points decide -/

theorem first_iff : ∀ t : Fin cfg0.N, k0_cond1 (grid0.coords t) = 1#1 ↔ t.val % 4 = 0 :=
  (by decide +kernel : ∀ t : Fin grid0.N, k0_cond1 (grid0.coords t) = 1#1 ↔ t.val % 4 = 0)
theorem last_iff : ∀ t : Fin cfg0.N, k0_cond3 (grid0.coords t) = 1#1 ↔ t.val % 4 = 3 :=
  (by decide +kernel : ∀ t : Fin grid0.N, k0_cond3 (grid0.coords t) = 1#1 ↔ t.val % 4 = 3)
theorem start_iff : ∀ t : Fin cfg0.N, anyRun.sl.v7 (grid0.coords t) = 1#1 ↔ t.val = 0 :=
  (by decide +kernel : ∀ t : Fin grid0.N, anyRun.sl.v7 (grid0.coords t) = 1#1 ↔ t.val = 0)
theorem off1 : ∀ t : Fin cfg0.N, k0_off1 (grid0.coords t) = ![0, t.val % 4, 0, 0] :=
  (by decide +kernel : ∀ t : Fin grid0.N, k0_off1 (grid0.coords t) = ![0, t.val % 4, 0, 0])
theorem off2 : ∀ t : Fin cfg0.N, k0_off2 (grid0.coords t) = ![1, t.val % 4, 0, 0] :=
  (by decide +kernel : ∀ t : Fin grid0.N, k0_off2 (grid0.coords t) = ![1, t.val % 4, 0, 0])
theorem idle5 : ∀ t : Fin cfg0.N, cfg0.idle 5 (cfg0.grid.coords t) = !decide (t.val % 4 = 3) :=
  (by decide +kernel : ∀ t : Fin grid0.N, idle0 5 (grid0.coords t) = !decide (t.val % 4 = 3))
theorem idle6 : ∀ t : Fin cfg0.N, cfg0.idle 6 (cfg0.grid.coords t) = !decide (t.val % 4 = 3) :=
  (by decide +kernel : ∀ t : Fin grid0.N, idle0 6 (grid0.coords t) = !decide (t.val % 4 = 3))
theorem idle7 : ∀ t : Fin cfg0.N, cfg0.idle 7 (cfg0.grid.coords t) = !decide (t.val % 4 = 0) :=
  (by decide +kernel : ∀ t : Fin grid0.N, idle0 7 (grid0.coords t) = !decide (t.val % 4 = 0))
theorem idle8 : ∀ t : Fin cfg0.N, cfg0.idle 8 (cfg0.grid.coords t) = false :=
  (by decide +kernel : ∀ t : Fin grid0.N, idle0 8 (grid0.coords t) = false)
theorem idle9 : ∀ t : Fin cfg0.N, cfg0.idle 9 (cfg0.grid.coords t) = false :=
  (by decide +kernel : ∀ t : Fin grid0.N, idle0 9 (grid0.coords t) = false)

/-- A point of the grid: the run and what it leaves, as one statement. -/
theorem point_at {I : FIn} (c : Dev nD) (t : Fin cfg0.N) {x2 : Vec Ideal S512x1024 .f32} {x3 : Vec Ideal S8x1024 .f32} {x4 : Vec Ideal S2x1x704x1024 .bf16} {x5 : Vec Ideal S2x1x8x704 .f32} {x6 : Vec Ideal S704x1024 .bf16}
    (D : At I (jt t.val) (bt t.val) x2 x3 x4 x5 x6) (z7 : Vec Ideal S512x1024 .f32) (z8 : Vec Ideal S512x1024 .f32) (z9 : Vec Ideal S512x1024 .bf16) (z10 : Vec Ideal S2x1x512x704 .bf16) (z11 : Vec Ideal S2x1x512x704 .bf16) (z12 : Vec Ideal S512x1024 .bf16) (z13 : Vec Ideal S512x1024 .f32) (z14 : Vec Ideal S2x4x8x704 .f32)
    (s : Fin 512 → Fin 1024 → ℝ) (w : Fin 2 → Fin 4 → Fin 8 → Fin 704 → ℝ)
    (h0 : t.val % 4 ≠ 0 → ∀ r e, z12 (ix2 r e) = (I.core.h (rowb (bt t.val) r) e : EReal))
    (s0 : t.val % 4 = 0 → ∀ r e, s r e = 0) (s1 : t.val % 4 ≠ 0 → ∀ r e, z13 (ix2 r e) = (s r e : EReal))
    (w0 : t.val = 0 → ∀ s j k f, w s j k f = 0) (w1 : t.val ≠ 0 → ∀ s j k f, z14 (ix4 s j k f) = (w s j k f : EReal))
    (hw : ∀ s k f, w s (jt t.val) k f = back (fun r => I.core.a r (col s (ch (jt t.val) f))) ((bt t.val).val * 512 + k.val)) :
    ∃ (y7 : Vec Ideal S512x1024 .f32) (y8 : Vec Ideal S512x1024 .f32) (y9 : Vec Ideal S512x1024 .bf16) (y10 : Vec Ideal S2x1x512x704 .bf16) (y11 : Vec Ideal S2x1x512x704 .bf16) (y12 : Vec Ideal S512x1024 .bf16) (y13 : Vec Ideal S512x1024 .f32) (y14 : Vec Ideal S2x4x8x704 .f32),
      (∀ (E : Set ℕ) (K : PUnit → sProp 𝕄),
        iprop(owns (c : Thread nD τ) (st0_0 t) fullShare x2 ∗ owns (c : Thread nD τ) (st0_1 t) fullShare x3 ∗ owns (c : Thread nD τ) (st0_2 t) fullShare x4 ∗ owns (c : Thread nD τ) (st0_3 t) fullShare x5 ∗ owns (c : Thread nD τ) (st0_4 t) fullShare x6 ∗ owns (c : Thread nD τ) (st0_5 t) fullShare z7 ∗ owns (c : Thread nD τ) (st0_6 t) fullShare z8 ∗ owns (c : Thread nD τ) (st0_7 t) fullShare z9 ∗ owns (c : Thread nD τ) (st0_8 t) fullShare z10 ∗ owns (c : Thread nD τ) (st0_9 t) fullShare z11 ∗ owns (c : Thread nD τ) scr0 fullShare z12 ∗ owns (c : Thread nD τ) scr1 fullShare z13 ∗ owns (c : Thread nD τ) scr2 fullShare z14
            ∗ (iprop(owns (c : Thread nD τ) (st0_0 t) fullShare x2 ∗ owns (c : Thread nD τ) (st0_1 t) fullShare x3 ∗ owns (c : Thread nD τ) (st0_2 t) fullShare x4 ∗ owns (c : Thread nD τ) (st0_3 t) fullShare x5 ∗ owns (c : Thread nD τ) (st0_4 t) fullShare x6 ∗ owns (c : Thread nD τ) (st0_5 t) fullShare y7 ∗ owns (c : Thread nD τ) (st0_6 t) fullShare y8 ∗ owns (c : Thread nD τ) (st0_7 t) fullShare y9 ∗ owns (c : Thread nD τ) (st0_8 t) fullShare y10 ∗ owns (c : Thread nD τ) (st0_9 t) fullShare y11 ∗ owns (c : Thread nD τ) scr0 fullShare y12 ∗ owns (c : Thread nD τ) scr1 fullShare y13 ∗ owns (c : Thread nD τ) scr2 fullShare y14) -∗ K ⟨⟩))
          ⊢ wp frame (wpE (defs₀ (F := Ideal)) Variants.none c none) E (bodyAt0 t) K)
      ∧ Post I (jt t.val) (bt t.val) s w (k0_cond1 (grid0.coords t) = 1#1) (k0_cond3 (grid0.coords t) = 1#1) z7 y7 z8 y8 z9 y9 y10 y11 y12 y13 y14 := by
  refine ⟨_, _, _, _, _, _, _, _, (anyRun (F := Ideal) c (grid0.coords t) _ _ _ _ _ _ _ _ _ _ _ _ _ _ _ _ _ _ _ _ _ _ _ _ _ _ x2 x3 x4 x5 x6 z7 z8 z9 z10 z11 z12 z13 z14).2.2.2.2.2.2.2.2, ?_⟩
  exact post_any D (off1 t) (off2 t) (fun h => h0 fun h' => h ((first_iff t).mpr h')) (fun h => s0 ((first_iff t).mp h))
    (fun h => s1 fun h' => h ((first_iff t).mpr h')) (fun h => w0 ((start_iff t).mp h)) (fun h => w1 fun h' => h ((start_iff t).mpr h')) hw

/-! ## What the outputs' blocks are left at -/

def xoV (I : FIn) (n : ℕ) : Vec Ideal S512x1024 .f32 := fun y => ((I.xo (rowb (bt n) (y 0)) (y 1) : ℝ) : EReal)

def yV (I : FIn) (n : ℕ) : Vec Ideal S512x1024 .f32 := fun y => ((I.y (rowb (bt n) (y 0)) (y 1) : ℝ) : EReal)

def hV (I : FIn) (n : ℕ) : Vec Ideal S512x1024 .bf16 := fun y => ((I.core.h (rowb (bt n) (y 0)) (y 1) : ℝ) : EReal)

def aV (I : FIn) (n : ℕ) : Vec Ideal S2x1x512x704 .bf16 := fun y => ((I.core.a (rowb (bt n) (y 2)) (col (y 0) (ch (jt n) (y 3))) : ℝ) : EReal)

def cV (I : FIn) (n : ℕ) : Vec Ideal S2x1x512x704 .bf16 := fun y => ((I.core.cv (rowb (bt n) (y 2)) (col (y 0) (ch (jt n) (y 3))) : ℝ) : EReal)

theorem block_of (y : S512x1024.Idx → EReal) (G : Fin 512 → Fin 1024 → ℝ) (h : ∀ r e, y (ix2 r e) = (G r e : EReal)) : y = fun i => ((G (i 0) (i 1) : ℝ) : EReal) :=
  funext fun i => by
    have e : i = ix2 (i 0) (i 1) := by funext a; fin_cases a <;> rfl
    exact (congrArg y e).trans (h (i 0) (i 1))

theorem halves_of (y : S2x1x512x704.Idx → EReal) (G : Fin 2 → Fin 512 → Fin 704 → ℝ) (h : ∀ s r f, y (ix4 s 0 r f) = (G s r f : EReal)) :
    y = fun i => ((G (i 0) (i 2) (i 3) : ℝ) : EReal) :=
  funext fun i => by
    have e : i = ix4 (i 0) (0 : Fin 1) (i 2) (i 3) := by
      funext a; fin_cases a
      · rfl
      · exact Subsingleton.elim (α := Fin 1) _ _
      · rfl
      · rfl
    exact (congrArg y e).trans (h (i 0) (i 2) (i 3))

theorem bt_pred (n : ℕ) (h : n % 4 ≠ 0) : bt (n - 1) = bt n := Fin.ext (by
  show (n - 1) / 4 % 16 = n / 4 % 16
  omega)

theorem bt_succ (n : ℕ) (h : (n + 1) % 4 ≠ 0) : bt (n + 1) = bt n := (bt_pred (n + 1) h).symm

theorem hV_pred (I : FIn) (n : ℕ) (h : n % 4 ≠ 0) : hV I (n - 1) = hV I n := by
  unfold hV; rw [bt_pred n h]

/-! ## What the kernel's own buffers hold before point `n` -/

def rowsAt (I : FIn) (n : ℕ) (z : Vec Ideal S512x1024 .bf16) : Prop := n % 4 ≠ 0 → ∀ r e, z (ix2 r e) = (I.core.h (rowb (bt n) r) e : EReal)

def sumAt (I : FIn) (n : ℕ) (z : Vec Ideal S512x1024 .f32) : Prop := n % 4 ≠ 0 → ∀ r e, z (ix2 r e) = (I.part (n % 4) (rowb (bt n) r) e : EReal)

def carryAt (I : FIn) (n : ℕ) (z : Vec Ideal S2x4x8x704 .f32) : Prop := n ≠ 0 → ∀ s j k f, z (ix4 s j k f) = (I.carry n s j k f : EReal)

def between (I : FIn) (c : Dev nD) (n : ℕ) : sProp 𝕄 :=
  iprop(iprop((∃ z, iprop(⌜rowsAt I n z⌝ ∗ owns (c : Thread nD τ) scr0 fullShare z)) ∗ (∃ z, iprop(⌜sumAt I n z⌝ ∗ owns (c : Thread nD τ) scr1 fullShare z))
    ∗ (∃ z, iprop(⌜carryAt I n z⌝ ∗ owns (c : Thread nD τ) scr2 fullShare z))) ∗ (∃ r, prngReg c r))

/-- Before the first point they may hold anything. -/
theorem between_of (I : FIn) (c : Dev nD) : (Pipeline.ΦA spec0 c : sProp 𝕄) ⊢ between I c 0 := by
  rw [scratches]
  unfold between held
  iintro ⟨⟨⟨%z0, H0⟩, ⟨%z1, H1⟩, ⟨%z2, H2⟩⟩, Hg⟩
  isplitl [H0 H1 H2]
  · isplitl [H0]
    · iexists z0; isplitr; · ipureintro; exact fun h => absurd rfl h
      iexact H0
    isplitl [H1]
    · iexists z1; isplitr; · ipureintro; exact fun h => absurd rfl h
      iexact H1
    iexists z2; isplitr; · ipureintro; exact fun h => absurd rfl h
    iexact H2
  iexact Hg

theorem of_between (I : FIn) (c : Dev nD) (n : ℕ) : between I c n ⊢ (Pipeline.ΦA spec0 c : sProp 𝕄) := by
  rw [scratches]
  unfold between held
  iintro ⟨⟨⟨%z0, %k0, H0⟩, ⟨%z1, %k1, H1⟩, ⟨%z2, %k2, H2⟩⟩, Hg⟩
  isplitl [H0 H1 H2]
  · isplitl [H0]; · iexists z0; iexact H0
    isplitl [H1]; · iexists z1; iexact H1
    iexists z2; iexact H2
  iexact Hg

/-! ## From a point to the next -/

theorem carry_here (I : FIn) (n : ℕ) (hn : n < 64) (s : Fin 2) (k : Fin 8) (f : Fin 704) :
    I.carry n s (jt n) k f = back (fun r => I.core.a r (col s (ch (jt n) f))) ((bt n).val * 512 + k.val) := by
  unfold FIn.carry
  rw [if_neg (show ¬ (jt n).val < n % 4 from Nat.lt_irrefl _), show (bt n).val = n / 4 from Nat.mod_eq_of_lt (by omega)]

theorem carry_zero (I : FIn) (s : Fin 2) (j : Fin 4) (k : Fin 8) (f : Fin 704) : I.carry 0 s j k f = 0 := by
  unfold FIn.carry
  rw [if_neg (by omega)]
  exact if_neg (by omega)

theorem carry_succ (I : FIn) (n : ℕ) (hn : n < 64) (s : Fin 2) (j : Fin 4) (k : Fin 8) (f : Fin 704) :
    I.carry (n + 1) s j k f = if j = jt n then I.core.a (rowb (bt n) ⟨504 + k.val, by omega⟩) (col s (ch (jt n) f)) else I.carry n s j k f := by
  have hb : (bt n).val = n / 4 := Nat.mod_eq_of_lt (by omega)
  unfold FIn.carry
  by_cases e : j = jt n
  · rw [if_pos e, e]
    have hj : (jt n).val = n % 4 := rfl
    have hx : (if (jt n).val < (n + 1) % 4 then (n + 1) / 4 + 1 else (n + 1) / 4) = n / 4 + 1 := by
      split_ifs <;> omega
    rw [hx]
    unfold back
    rw [if_pos (by omega)]
    refine Eq.trans (congrArg (ext _) ?_) (ext_lt _ _)
    show (n / 4 + 1) * 512 + k.val - 8 = (bt n).val * 512 + (504 + k.val)
    omega
  · rw [if_neg e]
    have hj : j.val ≠ n % 4 := fun h => e (Fin.ext h)
    have hx : (if j.val < (n + 1) % 4 then (n + 1) / 4 + 1 else (n + 1) / 4) = if j.val < n % 4 then n / 4 + 1 else n / 4 := by
      split_ifs <;> omega
    rw [hx]

theorem part_here (I : FIn) (n : ℕ) (r : Fin 8192) (e : Fin 1024) : I.part (n % 4) r e + I.chunk (jt n) r e = I.part (n % 4 + 1) r e := by
  rw [I.part_succ, show jt (n % 4) = jt n from Fin.ext (Nat.mod_mod n 4)]

/-- What a point leaves, named: the outputs' blocks and what the next point finds. -/
theorem Post.next {J : FIn} {n : ℕ} {first last : Prop} {z7 y7 z8 y8 z9 y9 y10 y11 y12 y13 y14}
    (P : Post J (jt n) (bt n) (fun r e => J.part (n % 4) (rowb (bt n) r) e) (J.carry n) first last z7 y7 z8 y8 z9 y9 y10 y11 y12 y13 y14)
    (hn : n < 64) (hF : first ↔ n % 4 = 0) (hL : last ↔ n % 4 = 3) :
    (n % 4 = 3 → y7 = xoV J n) ∧ (n % 4 ≠ 3 → y7 = z7) ∧ (n % 4 = 3 → y8 = yV J n) ∧ (n % 4 ≠ 3 → y8 = z8) ∧ (n % 4 = 0 → y9 = hV J n) ∧ (n % 4 ≠ 0 → y9 = z9)
      ∧ y10 = aV J n ∧ y11 = cV J n ∧ rowsAt J (n + 1) y12 ∧ sumAt J (n + 1) y13 ∧ carryAt J (n + 1) y14 := by
  have hy : n % 4 = 3 → ∀ r e, J.part (n % 4) r e + J.chunk (jt n) r e = J.y r e := fun h r e => by
    rw [part_here, h]; exact J.part_four r e
  refine ⟨fun h => ?_, fun h => P.xok fun h' => h (hL.mp h'), fun h => ?_, fun h => P.yk fun h' => h (hL.mp h'), fun h => block_of _ _ (P.h (hF.mpr h)),
    fun h => P.hk fun h' => h (hF.mp h'), halves_of _ (fun s r f => J.core.a (rowb (bt n) r) (col s (ch (jt n) f))) P.a,
    halves_of _ (fun s r f => J.core.cv (rowb (bt n) r) (col s (ch (jt n) f))) P.cv, fun h r e => ?_, fun h r e => ?_, fun _ s j k f => ?_⟩
  · refine block_of _ (fun r l => J.xo (rowb (bt n) r) l) fun r l => (P.xo (hL.mpr h) r l).trans (congrArg _ ?_)
    unfold FIn.xo
    simp only [hy h]
  · exact block_of _ (fun r l => J.y (rowb (bt n) r) l) fun r l => (P.y (hL.mpr h) r l).trans (congrArg _ (hy h _ _))
  · rw [bt_succ n h]; exact P.rows r e
  · rw [bt_succ n h, show (n + 1) % 4 = n % 4 + 1 by omega, ← part_here]; exact P.sum r e
  · exact (P.carry s j k f).trans (congrArg _ (carry_succ J n hn s j k f).symm)

/-! ## The proof data -/

variable (m : (ℓ : Loc nD τ sig) → Buf (Elt Ideal) ℓ) (ρ : Dev nD → PrngReg) (I : Dev nD → FIn)

def vdat (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => xoV (I c) t.val
    | ⟨6, _⟩ => yV (I c) t.val
    | ⟨7, _⟩ => hV (I c) t.val
    | ⟨8, _⟩ => aV (I c) t.val
    | ⟨9, _⟩ => cV (I c) t.val
  Φ t := between (I c) c t.val
  q w := Pipeline.shareOf spec0 w
  owed _ := 0

theorem vbefore0 (c : Dev nD) (t : Fin cfg0.N) (d) : (vdat m I c).before 0 t d = iblk m c 0 t :=
  before0_0_of m (vdat m I c) (by dsimp only [vdat]) (fun t => by dsimp only [vdat]) t d
theorem vbefore1 (c : Dev nD) (t : Fin cfg0.N) (d) : (vdat m I c).before 1 t d = iblk m c 1 t :=
  before0_1_of m (vdat m I c) (by dsimp only [vdat]) (fun t => by dsimp only [vdat]) t d
theorem vbefore2 (c : Dev nD) (t : Fin cfg0.N) (d) : (vdat m I c).before 2 t d = iblk m c 2 t :=
  before0_2_of m (vdat m I c) (by dsimp only [vdat]) (fun t => by dsimp only [vdat]) t d
theorem vbefore3 (c : Dev nD) (t : Fin cfg0.N) (d) : (vdat m I c).before 3 t d = iblk m c 3 t :=
  before0_3_of m (vdat m I c) (by dsimp only [vdat]) (fun t => by dsimp only [vdat]) t d
theorem vbefore4 (c : Dev nD) (t : Fin cfg0.N) (d) : (vdat m I c).before 4 t d = iblk m c 4 t :=
  before0_4_of m (vdat m I c) (by dsimp only [vdat]) (fun t => by dsimp only [vdat]) t d

/-- Within a block's chunks the normed rows' buffer is not new. -/
theorem fresh7 : ∀ n : ℕ, n < 64 → n % 4 ≠ 0 → cfg0.fresh 7 n = false
  | 0, _, h => absurd rfl h
  | n + 1, hn, h => by
    have hN : n < cfg0.N := by rw [show cfg0.N = 64 from N_0]; omega
    have hf : (cfg0.win 7).flush ⟨n, hN⟩ = false := Bool.eq_false_iff.mpr fun h' => by
      have := (flush0_7 _).mp h'; dsimp only at this; omega
    rw [Pipeline.Cfg.fresh_succ cfg0 7 n hN, hf]
    by_cases h0 : n % 4 = 0
    · rw [idle7 ⟨n, hN⟩, decide_eq_true h0]; rfl
    · rw [fresh7 n (by omega) h0, Bool.and_false]; rfl

theorem vbefore7 (c : Dev nD) (t : Fin cfg0.N) (h : t.val % 4 ≠ 0) (d) : (vdat m I c).before 7 t d = hV (I c) t.val := by
  have hN : t.val < 64 := lt_of_lt_of_eq t.isLt (show cfg0.N = 64 from N_0)
  rw [Dat.before_out_traj (vdat m I c) 7 rfl (fun _ _ => rfl) (fun t ht hi hf => ?_) t.val t rfl d, fresh7 t.val hN h, if_neg Bool.false_ne_true]
  · exact hV_pred (I c) t.val h
  · rw [idle7] at hi
    have h0 : t.val % 4 ≠ 0 := fun h0 => by rw [decide_eq_true h0] at hi; exact Bool.false_ne_true hi
    exact (hV_pred (I c) t.val h0).symm

theorem leave5 (c : Dev nD) (t : Fin cfg0.N) (d) (y) (h1 : t.val % 4 = 3 → y = xoV (I c) t.val) (h0 : t.val % 4 ≠ 3 → y = (vdat m I c).before 5 t d) :
    owns (c : Thread nD τ) (st0_5 t) fullShare y ⊢ (vdat m I c).leavesExact 5 t := by
  by_cases h : t.val % 4 = 3
  · rw [h1 h]; unfold Dat.leavesExact; rw [show cfg0.idle 5 (cfg0.grid.coords t) = false from (idle5 t).trans (by rw [h]; rfl)]
    exact .rfl
  · rw [h0 h, Dat.leavesExact_idle _ 5 t ((idle5 t).trans (by rw [decide_eq_false h]; rfl)) (Bool.eq_false_iff.mpr fun hf => h ((flush0_5 t).mp hf))]
    iintro H
    iexists d
    iexact H

theorem leave6 (c : Dev nD) (t : Fin cfg0.N) (d) (y) (h1 : t.val % 4 = 3 → y = yV (I c) t.val) (h0 : t.val % 4 ≠ 3 → y = (vdat m I c).before 6 t d) :
    owns (c : Thread nD τ) (st0_6 t) fullShare y ⊢ (vdat m I c).leavesExact 6 t := by
  by_cases h : t.val % 4 = 3
  · rw [h1 h]; unfold Dat.leavesExact; rw [show cfg0.idle 6 (cfg0.grid.coords t) = false from (idle6 t).trans (by rw [h]; rfl)]
    exact .rfl
  · rw [h0 h, Dat.leavesExact_idle _ 6 t ((idle6 t).trans (by rw [decide_eq_false h]; rfl)) (Bool.eq_false_iff.mpr fun hf => h ((flush0_6 t).mp hf))]
    iintro H
    iexists d
    iexact H

theorem leave7 (c : Dev nD) (t : Fin cfg0.N) (d) (y) (h1 : t.val % 4 = 0 → y = hV (I c) t.val) (h0 : t.val % 4 ≠ 0 → y = (vdat m I c).before 7 t d) :
    owns (c : Thread nD τ) (st0_7 t) fullShare y ⊢ (vdat m I c).leavesExact 7 t := by
  by_cases h : t.val % 4 = 0
  · rw [h1 h]; unfold Dat.leavesExact; rw [show cfg0.idle 7 (cfg0.grid.coords t) = false from (idle7 t).trans (by rw [h]; rfl)]
    exact .rfl
  · by_cases hl : t.val % 4 = 3
    · rw [h0 h, vbefore7 m I c t h]; unfold Dat.leavesExact
      rw [show cfg0.idle 7 (cfg0.grid.coords t) = true from (idle7 t).trans (by rw [decide_eq_false h]; rfl), (flush0_7 t).mpr hl]
      exact .rfl
    · rw [h0 h, Dat.leavesExact_idle _ 7 t ((idle7 t).trans (by rw [decide_eq_false h]; rfl)) (Bool.eq_false_iff.mpr fun hf => hl ((flush0_7 t).mp hf))]
      iintro H
      iexists d
      iexact H

theorem vleaves8 (c : Dev nD) (t : Fin cfg0.N) : (vdat m I c).leavesExact 8 t = owns (c : Thread nD τ) (st0_8 t) fullShare (aV (I c) t.val) := by
  unfold Dat.leavesExact; rw [idle8 t]; rfl
theorem vleaves9 (c : Dev nD) (t : Fin cfg0.N) : (vdat m I c).leavesExact 9 t = owns (c : Thread nD τ) (st0_9 t) fullShare (cV (I c) t.val) := by
  unfold Dat.leavesExact; rw [idle9 t]; rfl

/-- What the body is handed at a point. -/
def vgiven (c : Dev nD) (t : Fin cfg0.N) : sProp 𝕄 :=
  iprop((vdat m I c).Φ t.castSucc ∗ (vdat m I c).owesAt () t.castSucc
    ∗ (∃ d, owns (c : Thread nD τ) (st0_0 t) fullShare ((vdat m I c).before 0 t d))
    ∗ (∃ d, owns (c : Thread nD τ) (st0_1 t) fullShare ((vdat m I c).before 1 t d))
    ∗ (∃ d, owns (c : Thread nD τ) (st0_2 t) fullShare ((vdat m I c).before 2 t d))
    ∗ (∃ d, owns (c : Thread nD τ) (st0_3 t) fullShare ((vdat m I c).before 3 t d))
    ∗ (∃ d, owns (c : Thread nD τ) (st0_4 t) fullShare ((vdat m I c).before 4 t d))
    ∗ (∃ d, owns (c : Thread nD τ) (st0_5 t) fullShare ((vdat m I c).before 5 t d))
    ∗ (∃ d, owns (c : Thread nD τ) (st0_6 t) fullShare ((vdat m I c).before 6 t d))
    ∗ (∃ d, owns (c : Thread nD τ) (st0_7 t) fullShare ((vdat m I c).before 7 t d))
    ∗ (∃ d, owns (c : Thread nD τ) (st0_8 t) fullShare ((vdat m I c).before 8 t d))
    ∗ (∃ d, owns (c : Thread nD τ) (st0_9 t) fullShare ((vdat m I c).before 9 t d)))

/-- What the body hands back at a point. -/
def vleft (c : Dev nD) (t : Fin cfg0.N) : sProp 𝕄 :=
  iprop((vdat m I c).Φ t.succ ∗ (vdat m I c).owesAt () t.succ
    ∗ (vdat m I c).leavesExact 0 t
    ∗ (vdat m I c).leavesExact 1 t
    ∗ (vdat m I c).leavesExact 2 t
    ∗ (vdat m I c).leavesExact 3 t
    ∗ (vdat m I c).leavesExact 4 t
    ∗ (vdat m I c).leavesExact 5 t
    ∗ (vdat m I c).leavesExact 6 t
    ∗ (vdat m I c).leavesExact 7 t
    ∗ (vdat m I c).leavesExact 8 t
    ∗ (vdat m I c).leavesExact 9 t)

/-- The input blocks hold the part's inputs at every point. -/
def Blocks (c : Dev nD) : Prop :=
  ∀ t : Fin cfg0.N, At (I c) (jt t.val) (bt t.val) (iblk m c 0 t) (iblk m c 1 t) (iblk m c 2 t) (iblk m c 3 t) (iblk m c 4 t)

end Cert.FfnFVal

end
-- ==== Proof.FfnFGrid.lean ====
module

public import proofs.«01_k».proof.Proof.FfnFDat

/-! The feed-forward part's forward kernel's body at every point of its grid, over the reals, and the run of the whole grid. -/

@[expose] public section

set_option maxRecDepth 16384

noncomputable section

namespace Cert.FfnFVal

open Cert.FfnFIdeal Cert.FfnFIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.FfnVal (ch col rowb ext ext_lt)

local notation "𝕄" => MT nD τ sig Unit (Elt Ideal) ℕ (UR sig nD τ) ℕ

variable {m : (ℓ : Loc nD τ sig) → Buf (Elt Ideal) ℓ} {I : Dev nD → FIn}

set_option maxHeartbeats 4000000 in
theorem point (c : Dev nD) (t : Fin cfg0.N) (D : Blocks m I c) :
    vgiven m I c t ⊢ wp frame (wpE (defs₀ (F := Ideal)) Variants.none c none) Set.univ (bodyAt0 t) (fun _ => vleft m I c t) := by
  have hN : t.val < 64 := lt_of_lt_of_eq t.isLt (show cfg0.N = 64 from N_0)
  unfold vgiven vleft
  simp only [vbefore0, vbefore1, vbefore2, vbefore3, vbefore4]
  rw [show (vdat m I c).owesAt () t.succ = (vdat m I c).owesAt () t.castSucc from rfl]
  rw [show (vdat m I c).Φ t.castSucc = between (I c) c t.val from rfl, show (vdat m I c).Φ t.succ = between (I c) c (t.val + 1) from rfl]
  rw [show (vdat m I c).leavesExact 0 t = owns (c : Thread nD τ) (st0_0 t) fullShare (iblk m c 0 t) from rfl]
  rw [show (vdat m I c).leavesExact 1 t = owns (c : Thread nD τ) (st0_1 t) fullShare (iblk m c 1 t) from rfl]
  rw [show (vdat m I c).leavesExact 2 t = owns (c : Thread nD τ) (st0_2 t) fullShare (iblk m c 2 t) from rfl]
  rw [show (vdat m I c).leavesExact 3 t = owns (c : Thread nD τ) (st0_3 t) fullShare (iblk m c 3 t) from rfl]
  rw [show (vdat m I c).leavesExact 4 t = owns (c : Thread nD τ) (st0_4 t) fullShare (iblk m c 4 t) from rfl]
  rw [vleaves8, vleaves9]
  unfold between
  iintro ⟨⟨⟨⟨%z12, %k12, S0⟩, ⟨%z13, %k13, S1⟩, ⟨%z14, %k14, S2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  obtain ⟨y7, y8, y9, y10, y11, y12, y13, y14, run, P⟩ := point_at c t (D t) ((vdat m I c).before 5 t d5) ((vdat m I c).before 6 t d6) ((vdat m I c).before 7 t d7)
    ((vdat m I c).before 8 t d8) ((vdat m I c).before 9 t d9) z12 z13 z14 (fun r e => (I c).part (t.val % 4) (rowb (bt t.val) r) e) ((I c).carry t.val)
    k12 (fun h r e => by rw [h]; rfl) k13 (fun h s j k f => by rw [h]; exact carry_zero _ s j k f) k14 (carry_here (I c) t.val hN)
  obtain ⟨e7, k7, e8, k8, e9, k9, e10, e11, n12, n13, n14⟩ := P.next hN (first_iff t) (last_iff t)
  subst e10 e11
  iapply (run Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]; · iexact S0
  isplitl [S1]; · iexact S1
  isplitl [S2]; · iexact S2
  iintro ⟨H0, H1, H2, H3, H4, H5, H6, H7, H8, H9, S0, S1, S2⟩
  isplitl [S0 S1 S2 Hg]
  · isplitl [S0 S1 S2]
    · isplitl [S0]
      · iexists _; isplitr; · ipureintro; exact n12
        iexact S0
      isplitl [S1]
      · iexists _; isplitr; · ipureintro; exact n13
        iexact S1
      iexists _; isplitr; · ipureintro; exact n14
      iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iapply (leave5 m I c t d5 _ e7 k7); iexact H5
  isplitl [H6]; · iapply (leave6 m I c t d6 _ e8 k8); iexact H6
  isplitl [H7]; · iapply (leave7 m I c t d7 _ e9 k9); iexact H7
  isplitl [H8]; · iexact H8
  iexact H9

theorem obligation (c : Dev nD) (D : Blocks m I c) : BodyObligation (vdat m I c) (defs₀ (F := Ideal)) Variants.none () Set.univ := fun t => by
  rw [bigSep_W0, bigSep_W0, row]
  exact triple_restated (point c t D) rfl .rfl fun _ => .rfl

set_option backward.isDefEq.respectTransparency.types false in
theorem run_values (ρ : Dev nD → PrngReg) (D : ∀ c, Blocks m I c) : θ_run defs (onTc (τ := τ) (main (F := Ideal))) (s₀ m ρ)
    (fun r => Pipeline.FramePost cfgs (fun _ => vdat m I) (0 : Fin 1) (V m) r ∧ r.2.sem = fun _ => 0) :=
  Pipeline.θ_run_frame_track (Q' := _) cfgs (fun _ => vdat m I) (0 : Fin 1) launch0 defs₀ Variants.none m ρ main
    (hbody := fun c => (obligation c (D c)).loose) (hshare := fun _ w => by fin_cases w <;> rfl)
    (howed := fun _ _ => rfl) (V := V m) (hmain := hmain m Variants.none) (hA := fun _ _ => by dsimp only [vdat])
    (hin := fun c => between_of (I c) c) (hout := fun c => of_between (I c) c 64)

end Cert.FfnFVal

end
-- ==== Proof.FfnFReads.lean ====
module

public import proofs.«01_k».proof.Proof.FfnFGrid
public import proofs.«01_k».proof.Proof.FfnRef
public import Idealize.ShloMosaic.Lib.StableHlo.RunRead
public import Idealize.ShloMosaic.Lib.Pointwise

/-! What the forward feed-forward kernel's input blocks hold at each point, from the arguments. -/

@[expose] public section

set_option maxRecDepth 16384

noncomputable section

namespace Cert.FfnFVal

open Cert.FfnFIdeal Cert.FfnFIdeal.Gen Idealize.ShloMosaic Idealize.ShloMosaic.TcCoe Idealize.SL.Sem Cert.Reals
open Cert.FfnVal (ch col rowb col_ch tap)

theorem idx : ∀ t : Fin cfg0.N, win0_0.index t = ![t.val / 4 % 16, 0] ∧ win0_1.index t = ![0, 0] ∧ win0_2.index t = ![0, t.val % 4, 0, 0]
    ∧ win0_3.index t = ![0, t.val % 4, 0, 0] ∧ win0_4.index t = ![t.val % 4, 0] ∧ win0_5.index t = ![t.val / 4 % 16, 0]
    ∧ win0_6.index t = ![t.val / 4 % 16, 0] ∧ win0_7.index t = ![t.val / 4 % 16, 0] ∧ win0_8.index t = ![0, t.val % 4, t.val / 4 % 16, 0]
    ∧ win0_9.index t = ![0, t.val % 4, t.val / 4 % 16, 0] :=
  (by decide +kernel : ∀ t : Fin grid0.N, _)

variable (m : (ℓ : Loc nD τ sig) → Buf (Elt Ideal) ℓ) (c : Dev nD)

/-- The arguments hold the real inputs. -/
structure Reads (I : FIn) : Prop where
  a0 : ∀ r k, m ((c : Thread nD τ).loc main_arg0) (ix2 r k) = (I.x r k : EReal)
  a1 : ∀ k, m ((c : Thread nD τ).loc main_arg1) (ix1 k) = (I.g k : EReal)
  a2 : ∀ k, m ((c : Thread nD τ).loc main_arg2) (ix1 k) = (I.pg k : EReal)
  a3 : ∀ k, m ((c : Thread nD τ).loc main_arg3) (ix1 k) = (I.sh k : EReal)
  a4 : ∀ k, m ((c : Thread nD τ).loc main_arg4) (ix1 k) = (I.sc k : EReal)
  a5 : ∀ k, m ((c : Thread nD τ).loc main_arg5) (ix1 k) = (I.gt k : EReal)
  a6 : ∀ k p, m ((c : Thread nD τ).loc main_arg6) (ix2 k p) = (I.up k p : EReal)
  a7 : ∀ k p, m ((c : Thread nD τ).loc main_arg7) (ix2 k p) = (I.dw k p : EReal)
  a8 : ∀ q e, m ((c : Thread nD τ).loc main_arg8) (ix2 q e) = (I.dn q e : EReal)

theorem pv0 (k : Fin 1024) : V m c main_v16 (ix2 0 k) = m ((c : Thread nD τ).loc main_arg1) (ix1 k) := by
  unfold V
  after_reads_simp
  pointwise []
  after_reads_simp
  pointwise []

theorem pv1 (k : Fin 1024) : V m c main_v16 (ix2 1 k) = (1 + m ((c : Thread nD τ).loc main_arg4) (ix1 k) : EReal) := by
  unfold V
  after_reads_simp
  pointwise []
  after_reads_simp
  pointwise []

theorem pv2 (k : Fin 1024) : V m c main_v16 (ix2 2 k) = m ((c : Thread nD τ).loc main_arg3) (ix1 k) := by
  unfold V
  after_reads_simp
  pointwise []
  after_reads_simp
  pointwise []

theorem pv3 (k : Fin 1024) : V m c main_v16 (ix2 3 k) = m ((c : Thread nD τ).loc main_arg2) (ix1 k) := by
  unfold V
  after_reads_simp
  pointwise []
  after_reads_simp
  pointwise []

theorem pv4 (k : Fin 1024) : V m c main_v16 (ix2 4 k) = m ((c : Thread nD τ).loc main_arg5) (ix1 k) := by
  unfold V
  after_reads_simp
  pointwise []
  after_reads_simp
  pointwise []

theorem blk1 (t : Fin cfg0.N) (r : Fin 8) (k : Fin 1024) :
    (show FVec Ideal S8x1024 .f32 from iblk m c 1 t) (ix2 r k) = V m c main_v16 (ix2 r k) := by
  blk_ext [iblk, idx t]

/-- The padded taps at a chunk's entry. -/
def V5 (dw : FVec Ideal S3x5632 .f32) (s : Fin 2) (j : Fin 4) (k : Fin 8) (f : Fin 704) : EReal :=
  (pad S8x5632 ![0, 0] ![5, 0] ![0, 0] dw (sitofp FTy.f32 (constantI S_ 32 0#32) : FVec Ideal S_ .f32) pads_S3x5632_S8x5632_050_000 h_S_ : FVec Ideal S8x5632 .f32)
    (ix2 k ⟨(s.val * 4 + j.val) * 704 + f.val, by omega⟩)

variable {m c} {I : FIn} (A : Reads m c I)
include A

theorem blk0 (t : Fin cfg0.N) (r : Fin 512) (k : Fin 1024) :
    (show FVec Ideal S512x1024 .f32 from iblk m c 0 t) (ix2 r k) = (I.x (rowb (bt t.val) r) k : EReal) := by
  refine Eq.trans (b := m ((c : Thread nD τ).loc main_arg0) (ix2 (rowb (bt t.val) r) k)) ?_ (A.a0 _ _)
  refine Eq.trans (b := V m c main_arg0 (ix2 (rowb (bt t.val) r) k)) (by blk_ext [iblk, idx t] <;> rfl) (congrFun (V_main_arg0 m c) _)

theorem blk2 (t : Fin cfg0.N) (s : Fin 2) (f : Fin 704) (e : Fin 1024) :
    (show FVec Ideal S2x1x704x1024 .bf16 from iblk m c 2 t) (ix4 s 0 f e) = (I.up e (col s (ch (jt t.val) f)) : EReal) := by
  refine Eq.trans (b := V m c main_v2 (ix4 s (jt t.val) f e)) (by blk_ext [iblk, idx t] <;> rfl) ?_
  unfold V
  after_reads_simp
  pointwise []
  rw [col_ch]
  exact A.a6 _ _

theorem blk3 (t : Fin cfg0.N) (s : Fin 2) (k : Fin 3) (f : Fin 704) :
    (show FVec Ideal S2x1x8x704 .f32 from iblk m c 3 t) (ix4 s 0 (tap k) f) = (I.dw k (col s (ch (jt t.val) f)) : EReal) := by
  refine Eq.trans (b := V m c main_v6 (ix4 s (jt t.val) (tap k) f)) (by blk_ext [iblk, idx t] <;> rfl) ?_
  unfold V
  after_reads_simp
  have hp : (s.val * 4 + (jt t.val).val) * 704 + f.val < 5632 := by omega
  refine Eq.trans (b := V5 (m ((c : Thread nD τ).loc main_arg7)) s (jt t.val) (tap k) f) (by pointwise []; rfl) ?_
  unfold V5
  pointwise []
  rw [dif_pos hp]
  refine (A.a7 _ _).trans (congrArg (fun p => ((I.dw k p : ℝ) : EReal)) (Fin.ext ?_))
  show (s.val * 4 + (jt t.val).val) * 704 + f.val = s.val * 2816 + ((jt t.val).val * 704 + f.val)
  omega

theorem blk4 (t : Fin cfg0.N) (f : Fin 704) (e : Fin 1024) :
    (show FVec Ideal S704x1024 .bf16 from iblk m c 4 t) (ix2 f e) = (I.dn (ch (jt t.val) f) e : EReal) := by
  refine Eq.trans (b := V m c main_v17 (ix2 (ch (jt t.val) f) e)) (by blk_ext [iblk, idx t] <;> rfl) ?_
  unfold V
  after_reads_simp
  pointwise []
  exact A.a8 _ _

omit A in
theorem blocks_of {J : Dev nD → FIn} (A : Reads m c (J c)) : Blocks m J c := fun t =>
  ⟨blk0 A t, fun k => (blk1 m c t 0 k).trans ((pv0 m c k).trans (A.a1 k)),
    fun k => (blk1 m c t 1 k).trans ((pv1 m c k).trans (by rw [A.a4, EReal.coe_add, EReal.coe_one])),
    fun k => (blk1 m c t 2 k).trans ((pv2 m c k).trans (A.a3 k)), fun k => (blk1 m c t 3 k).trans ((pv3 m c k).trans (A.a2 k)),
    fun k => (blk1 m c t 4 k).trans ((pv4 m c k).trans (A.a5 k)), blk2 A t, blk3 A t, blk4 A t⟩

/-! ## What the result arrays hold at the end -/

section
variable (m : (ℓ : Loc nD τ sig) → Buf (Elt Ideal) ℓ) (I : Dev nD → FIn) (c : Dev nD)
omit A

theorem final5 (G : FVec Ideal S8192x1024 .f32) (hG : ∀ r l, G (ix2 r l) = ((I c).xo r l : EReal)) : (vdat m I c).arrAt 5 cfg0.N = G := by
  refine (vdat m I c).arrAt_eq_of_covers 5 _ (by decide +kernel) fun t hf i => ?_
  blk_simp [idx t]
  idx_vars i
  refine (hG (rowb (bt t.val) i0) i1).symm.trans ?_
  blk_ext [idx t] <;> rfl

theorem final6 (G : FVec Ideal S8192x1024 .f32) (hG : ∀ r l, G (ix2 r l) = ((I c).y r l : EReal)) : (vdat m I c).arrAt 6 cfg0.N = G := by
  refine (vdat m I c).arrAt_eq_of_covers 6 _ (by decide +kernel) fun t hf i => ?_
  blk_simp [idx t]
  idx_vars i
  refine (hG (rowb (bt t.val) i0) i1).symm.trans ?_
  blk_ext [idx t] <;> rfl

theorem final7 (G : FVec Ideal S8192x1024 .bf16) (hG : ∀ r l, G (ix2 r l) = ((I c).core.h r l : EReal)) : (vdat m I c).arrAt 7 cfg0.N = G := by
  refine (vdat m I c).arrAt_eq_of_covers 7 _ (by decide +kernel) fun t hf i => ?_
  blk_simp [idx t]
  idx_vars i
  refine (hG (rowb (bt t.val) i0) i1).symm.trans ?_
  blk_ext [idx t] <;> rfl

theorem final8 (G : FVec Ideal S2x4x8192x704 .bf16) (hG : ∀ s j r f, G (ix4 s j r f) = ((I c).core.a r (col s (ch j f)) : EReal)) :
    (vdat m I c).arrAt 8 cfg0.N = G := by
  refine (vdat m I c).arrAt_eq_of_covers 8 _ (by decide +kernel) fun t hf i => ?_
  blk_simp [idx t]
  idx_vars i
  refine (hG i0 (jt t.val) (rowb (bt t.val) i2) i3).symm.trans ?_
  blk_ext [idx t] <;> rfl

theorem final9 (G : FVec Ideal S2x4x8192x704 .bf16) (hG : ∀ s j r f, G (ix4 s j r f) = ((I c).core.cv r (col s (ch j f)) : EReal)) :
    (vdat m I c).arrAt 9 cfg0.N = G := by
  refine (vdat m I c).arrAt_eq_of_covers 9 _ (by decide +kernel) fun t hf i => ?_
  blk_simp [idx t]
  idx_vars i
  refine (hG i0 (jt t.val) (rowb (bt t.val) i2) i3).symm.trans ?_
  blk_ext [idx t] <;> rfl

end

omit A in
/-- The run with every result named. -/
theorem run_results {J : Dev nD → FIn} (ρ : Dev nD → PrngReg) (A : ∀ c, Reads m c (J c)) :
    θ_run defs (onTc (τ := τ) (main (F := Ideal))) ⟨m, fun _ => 0, ρ⟩ fun r => ∀ c : Dev nD,
      r.2.mem ((c.tc : Thread nD τ).loc main_v18_0) = (vdat m J c).arrAt 5 cfg0.N
      ∧ r.2.mem ((c.tc : Thread nD τ).loc main_v18_1) = (vdat m J c).arrAt 6 cfg0.N
      ∧ r.2.mem ((c.tc : Thread nD τ).loc main_v18_2) = (vdat m J c).arrAt 7 cfg0.N
      ∧ r.2.mem ((c.tc : Thread nD τ).loc main_v18_3) = (vdat m J c).arrAt 8 cfg0.N
      ∧ r.2.mem ((c.tc : Thread nD τ).loc main_v18_4) = (vdat m J c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  have R := (θ_run defs _ _).mono (fun _ h => h.1) (run_values (m := m) (I := J) ρ fun c => blocks_of (A c))
  exact (θ_run defs _ _).mono
    (fun _ h c => ⟨(h.2 c).1 5, (h.2 c).1 6, (h.2 c).1 7, (h.2 c).1 8, (h.2 c).1 9, h.1 c⟩)
    (θ_run_and (frame_of m ρ (fun _ => vdat m J) (fun _ _ => rfl) R) R)

end Cert.FfnFVal

end
-- ==== Proof.FfnFRef.lean ====
module

public import proofs.«01_k».proof.Proof.Gen.FfnFRefIdeal.Run
public import proofs.«01_k».proof.Proof.FfnFSpec
public import proofs.«01_k».proof.Proof.FfnRef

/-! The forward feed-forward reference: its five results over the reals.

Between the two norms it is the term the backward's reference differentiates through, so that much is read off there. -/

@[expose] public section

set_option maxRecDepth 16384

noncomputable section

namespace Cert.FfnFVal

open Cert.FfnFRefIdeal Cert.FfnFRefIdeal.Facts₀ Cert.FfnFRefIdeal.Facts Idealize.ShloMosaic Idealize.ShloMosaic.TcCoe Idealize.SL.Sem Cert.Reals
open Cert.FfnVal (ch col col_ch tU tC tU_at tC_at a_sum Args)

/-- A row's weights over all rows. -/
def tR (v : FVec Ideal S1024 .f32) : FVec Ideal S8192x1024 .f32 :=
  broadcastInDim S8192x1024 ![0, 1] bcast_S1x1024_S8192x1024_0_1 (broadcastInDim S1x1024 ![1] bcast_S1024_S1x1024_1 v)

/-- Rows over their root mean square. -/
def tN (X : FVec Ideal S8192x1024 .f32) : FVec Ideal S8192x1024 .f32 :=
  mulf X (broadcastInDim S8192x1024 ![0, 1] bcast_S8192x1_S8192x1024_0_1 (Host.rsqrt (addf (Host.divf (broadcastInDim S8192x1 ![0] bcast_S8192_S8192x1_0
    (Host.reduceAdd (mulf X X) (constant S_ .f32 0x00000000#32) reducesTo_S8192x1024_S8192_d1 h_S_)) (broadcastInDim S8192x1 ![] bcast_S_S8192x1 (constant S_ .f32 0x44800000#32)))
    (broadcastInDim S8192x1 ![] bcast_S_S8192x1 (constant S_ .f32 0x358637BD#32)))))

/-- The normed rows, scaled and shifted. -/
def tH (x : FVec Ideal S8192x1024 .f32) (g sh sc : FVec Ideal S1024 .f32) : FVec Ideal S8192x1024 .f32 :=
  addf (mulf (mulf (tN x) (tR g)) (broadcastInDim S8192x1024 ![0, 1] bcast_S1x1024_S8192x1024_0_1
    (addf (broadcastInDim S1x1024 ![] bcast_S_S1x1024 (constant S_ .f32 0x3F800000#32)) (broadcastInDim S1x1024 ![1] bcast_S1024_S1x1024_1 sc)))) (tR sh)

/-- The projection down. -/
def tY (h : FVec Ideal S8192x1024 .f32) (up : FVec Ideal S1024x5632 .f32) (dw : FVec Ideal S3x5632 .f32) (dn : FVec Ideal S2816x1024 .f32) : FVec Ideal S8192x1024 .f32 :=
  Host.dotGeneral dot_S8192x2816_S2816x1024_S8192x1024_1_0_0_1_n_n none (tU h up dw) dn

/-- The rows with the gated, normed result added. -/
def tX (x y : FVec Ideal S8192x1024 .f32) (pg gt : FVec Ideal S1024 .f32) : FVec Ideal S8192x1024 .f32 := addf x (mulf (tR gt) (mulf (tN y) (tR pg)))

/-- A hidden array, halves and chunks first. -/
def tT (a : FVec Ideal S8192x5632 .f32) : FVec Ideal S2x4x8192x704 .bf16 :=
  truncf .bf16 (transpose S2x4x8192x704 [1, 2, 0, 3] (shapeCast S8192x2x4x704 a shapeCasts_S8192x5632_S8192x2x4x704) transposes_S8192x2x4x704_S2x4x8192x704_1_2_0_3) bitsLt_bf16_f32

section
variable (m : (ℓ : Loc nD τ sig) → Buf (Elt Ideal) ℓ) (c : Dev nD)

/-- The normed rows of the arguments. -/
abbrev hm : FVec Ideal S8192x1024 .f32 := tH (m ((c.tc : Thread nD τ).loc main_arg0)) (m ((c.tc : Thread nD τ).loc main_arg1)) (m ((c.tc : Thread nD τ).loc main_arg3)) (m ((c.tc : Thread nD τ).loc main_arg4))

/-- Their projection up. -/
abbrev am : FVec Ideal S8192x5632 .f32 := Host.dotGeneral (φ₂ := .f32) dot_S8192x1024_S1024x5632_S8192x5632_1_0_0_1_n_n none (hm m c) (m ((c.tc : Thread nD τ).loc main_arg6))

set_option maxHeartbeats 4000000 in
theorem res50 : Cert.FfnFRefIdeal.Value.res_main_v50 m c
    = tY (hm m c) (m ((c.tc : Thread nD τ).loc main_arg6)) (m ((c.tc : Thread nD τ).loc main_arg7)) (m ((c.tc : Thread nD τ).loc main_arg8)) := rfl

set_option maxHeartbeats 4000000 in
theorem res67 : Cert.FfnFRefIdeal.Value.res_main_v67 m c
    = tX (m ((c.tc : Thread nD τ).loc main_arg0)) (tY (hm m c) (m ((c.tc : Thread nD τ).loc main_arg6)) (m ((c.tc : Thread nD τ).loc main_arg7)) (m ((c.tc : Thread nD τ).loc main_arg8)))
      (m ((c.tc : Thread nD τ).loc main_arg2)) (m ((c.tc : Thread nD τ).loc main_arg5)) := rfl

theorem res74 : Cert.FfnFRefIdeal.Value.res_main_v74 m c = tT (tC (hm m c) (m ((c.tc : Thread nD τ).loc main_arg6)) (m ((c.tc : Thread nD τ).loc main_arg7))) := rfl

/-- The arguments hold the real inputs. -/
structure RArgs (I : FIn) : Prop where
  a0 : ∀ r k, m ((c.tc : Thread nD τ).loc main_arg0) (ix2 r k) = (I.x r k : EReal)
  a1 : ∀ k, m ((c.tc : Thread nD τ).loc main_arg1) (ix1 k) = (I.g k : EReal)
  a2 : ∀ k, m ((c.tc : Thread nD τ).loc main_arg2) (ix1 k) = (I.pg k : EReal)
  a3 : ∀ k, m ((c.tc : Thread nD τ).loc main_arg3) (ix1 k) = (I.sh k : EReal)
  a4 : ∀ k, m ((c.tc : Thread nD τ).loc main_arg4) (ix1 k) = (I.sc k : EReal)
  a5 : ∀ k, m ((c.tc : Thread nD τ).loc main_arg5) (ix1 k) = (I.gt k : EReal)
  a6 : ∀ k p, m ((c.tc : Thread nD τ).loc main_arg6) (ix2 k p) = (I.up k p : EReal)
  a7 : ∀ k p, m ((c.tc : Thread nD τ).loc main_arg7) (ix2 k p) = (I.dw k p : EReal)
  a8 : ∀ q e, m ((c.tc : Thread nD τ).loc main_arg8) (ix2 q e) = (I.dn q e : EReal)

end

theorem tR_at (v : FVec Ideal S1024 .f32) (r : Fin 8192) (k : Fin 1024) : tR v (ix2 r k) = v (ix1 k) := by
  unfold tR
  pointwise []

theorem tN_at (X : FVec Ideal S8192x1024 .f32) (f : Fin 8192 → Fin 1024 → ℝ) (h : ∀ r k, X (ix2 r k) = (f r k : EReal)) (r : Fin 8192) (k : Fin 1024) :
    tN X (ix2 r k) = ((f r k * rinv (f r) : ℝ) : EReal) := by
  unfold tN
  pointwise []
  simp only [h, ← EReal.coe_mul, coe_sum, ofBits_1024, ofBits_eps, div_1024, ← EReal.coe_add, rsqrt_ms]

theorem tT_at (a : FVec Ideal S8192x5632 .f32) (s : Fin 2) (j : Fin 4) (r : Fin 8192) (f : Fin 704) : tT a (ix4 s j r f) = a (ix2 r (col s (ch j f))) := by
  unfold tT
  pointwise []
  rw [col_ch]

variable {m : (ℓ : Loc nD τ sig) → Buf (Elt Ideal) ℓ} {c : Dev nD} {I : FIn} (A : RArgs m c I)
include A

theorem hm_at (r : Fin 8192) (k : Fin 1024) : hm m c (ix2 r k) = (I.core.h r k : EReal) := by
  show tH _ _ _ _ _ = _
  unfold tH
  pointwise []
  rw [tN_at _ I.x A.a0, tR_at, tR_at, A.a1, A.a3, A.a4]
  simp only [← EReal.coe_one, ← EReal.coe_mul, ← EReal.coe_add]
  refine congrArg _ ?_
  show _ = I.x r k * rinv (I.x r) * (I.g k * (1 + I.sc k)) + I.sh k
  ring

theorem core_args : Args (hm m c) (m ((c.tc : Thread nD τ).loc main_arg6)) (m ((c.tc : Thread nD τ).loc main_arg7)) (m ((c.tc : Thread nD τ).loc main_arg8)) (fun _ => (0 : EReal)) I.core :=
  ⟨hm_at A, A.a6, A.a7, A.a8, fun _ _ => EReal.coe_zero.symm⟩

theorem am_at (r : Fin 8192) (p : Fin 5632) : am m c (ix2 r p) = (I.core.a r p : EReal) := by
  unfold am
  pointwise []
  exact a_sum (core_args A) r p

theorem ry_at (r : Fin 8192) (e : Fin 1024) :
    tY (hm m c) (m ((c.tc : Thread nD τ).loc main_arg6)) (m ((c.tc : Thread nD τ).loc main_arg7)) (m ((c.tc : Thread nD τ).loc main_arg8)) (ix2 r e) = (I.y r e : EReal) := by
  unfold tY
  pointwise []
  refine Eq.trans (b := ∑ q : Fin 2816, (I.core.u r q : EReal) * (I.dn q e : EReal)) (Finset.sum_congr rfl fun q _ => congrArg₂ (· * ·) (tU_at (core_args A) r q) (A.a8 q e)) ?_
  simp only [← EReal.coe_mul, coe_sum]
  rfl

theorem rxo_at (r : Fin 8192) (l : Fin 1024) :
    tX (m ((c.tc : Thread nD τ).loc main_arg0)) (tY (hm m c) (m ((c.tc : Thread nD τ).loc main_arg6)) (m ((c.tc : Thread nD τ).loc main_arg7)) (m ((c.tc : Thread nD τ).loc main_arg8)))
      (m ((c.tc : Thread nD τ).loc main_arg2)) (m ((c.tc : Thread nD τ).loc main_arg5)) (ix2 r l) = (I.xo r l : EReal) := by
  have hy := ry_at A
  generalize tY _ _ _ _ = Y at hy ⊢
  unfold tX
  pointwise []
  rw [tN_at _ I.y hy, tR_at, tR_at, A.a0, A.a2, A.a5, ← EReal.coe_mul, ← EReal.coe_mul, ← EReal.coe_add]
  refine congrArg _ ?_
  show _ = I.x r l + I.gt l * I.pg l * (I.y r l * rinv (I.y r))
  ring

theorem a_at (s : Fin 2) (j : Fin 4) (r : Fin 8192) (f : Fin 704) : tT (am m c) (ix4 s j r f) = (I.core.a r (col s (ch j f)) : EReal) :=
  (tT_at _ s j r f).trans (am_at A r _)

theorem cv_at (s : Fin 2) (j : Fin 4) (r : Fin 8192) (f : Fin 704) :
    tT (tC (hm m c) (m ((c.tc : Thread nD τ).loc main_arg6)) (m ((c.tc : Thread nD τ).loc main_arg7))) (ix4 s j r f) = (I.core.cv r (col s (ch j f)) : EReal) :=
  (tT_at _ s j r f).trans (tC_at (core_args A) r _)

end Cert.FfnFVal

end
-- ==== Proof.FfnF.lean ====
module

public import proofs.«01_k».proof.Defs
public import proofs.«01_k».proof.Proof.FfnFReads
public import proofs.«01_k».proof.Proof.FfnFRef
public import proofs.«01_k».proof.Proof.Gen.Pre_finite_ffnf

/-! The feed-forward sub-layer forward: the kernel's five results are the reference's. -/

@[expose] public section

set_option maxRecDepth 16384

noncomputable section

namespace Cert.FfnFVal

open Cert.FfnFIdeal Cert.FfnFIdeal.Gen Idealize.ShloMosaic Idealize.ShloMosaic.TcCoe Idealize.SL.Sem Cert.Reals

variable (m : (ℓ : Loc nD τ sig) → Buf (Elt Ideal) ℓ)

theorem finite_args (h : Pre_FfnFIdeal_finite_ffnf m) (c : Dev nD) :
    (∀ i, m ((c : Thread nD τ).loc main_arg0) i = ((m ((c : Thread nD τ).loc main_arg0) i).toReal : EReal))
    ∧ (∀ i, m ((c : Thread nD τ).loc main_arg1) i = ((m ((c : Thread nD τ).loc main_arg1) i).toReal : EReal))
    ∧ (∀ i, m ((c : Thread nD τ).loc main_arg2) i = ((m ((c : Thread nD τ).loc main_arg2) i).toReal : EReal))
    ∧ (∀ i, m ((c : Thread nD τ).loc main_arg3) i = ((m ((c : Thread nD τ).loc main_arg3) i).toReal : EReal))
    ∧ (∀ i, m ((c : Thread nD τ).loc main_arg4) i = ((m ((c : Thread nD τ).loc main_arg4) i).toReal : EReal))
    ∧ (∀ i, m ((c : Thread nD τ).loc main_arg5) i = ((m ((c : Thread nD τ).loc main_arg5) i).toReal : EReal))
    ∧ (∀ i, m ((c : Thread nD τ).loc main_arg6) i = ((m ((c : Thread nD τ).loc main_arg6) i).toReal : EReal))
    ∧ (∀ i, m ((c : Thread nD τ).loc main_arg7) i = ((m ((c : Thread nD τ).loc main_arg7) i).toReal : EReal))
    ∧ (∀ i, m ((c : Thread nD τ).loc main_arg8) i = ((m ((c : Thread nD τ).loc main_arg8) i).toReal : EReal)) := by
  have h1 := congrFun (h c) (fun q => q.elim0)
  dsimp only [Cert.Pre_finite_ffnf.fn, Cert.Pre_finite_ffnf.fn_part1, Cert.Pre_finite_ffnf.fn_part2] at h1
  obtain ⟨h1, k8⟩ := IntOp.andi_eq_one.1 h1
  obtain ⟨h1, k7⟩ := IntOp.andi_eq_one.1 h1
  obtain ⟨h1, k6⟩ := IntOp.andi_eq_one.1 h1
  obtain ⟨h1, k5⟩ := IntOp.andi_eq_one.1 h1
  obtain ⟨h1, k4⟩ := IntOp.andi_eq_one.1 h1
  obtain ⟨h1, k3⟩ := IntOp.andi_eq_one.1 h1
  obtain ⟨h1, k2⟩ := IntOp.andi_eq_one.1 h1
  obtain ⟨h1, k1⟩ := IntOp.andi_eq_one.1 h1
  exact ⟨finite_of_all _ _ (fun _ => rfl) _ _ _ _ rfl h1, finite_of_all _ _ (fun _ => rfl) _ _ _ _ rfl k1, finite_of_all _ _ (fun _ => rfl) _ _ _ _ rfl k2, finite_of_all _ _ (fun _ => rfl) _ _ _ _ rfl k3, finite_of_all _ _ (fun _ => rfl) _ _ _ _ rfl k4, finite_of_all _ _ (fun _ => rfl) _ _ _ _ rfl k5, finite_of_all _ _ (fun _ => rfl) _ _ _ _ rfl k6, finite_of_all _ _ (fun _ => rfl) _ _ _ _ rfl k7, finite_of_all _ _ (fun _ => rfl) _ _ _ _ rfl k8⟩

/-- The arguments' real values. -/
def ins (c : Dev nD) : FIn where
  x r k := (m ((c : Thread nD τ).loc main_arg0) (ix2 r k)).toReal
  g k := (m ((c : Thread nD τ).loc main_arg1) (ix1 k)).toReal
  pg k := (m ((c : Thread nD τ).loc main_arg2) (ix1 k)).toReal
  sh k := (m ((c : Thread nD τ).loc main_arg3) (ix1 k)).toReal
  sc k := (m ((c : Thread nD τ).loc main_arg4) (ix1 k)).toReal
  gt k := (m ((c : Thread nD τ).loc main_arg5) (ix1 k)).toReal
  up k p := (m ((c : Thread nD τ).loc main_arg6) (ix2 k p)).toReal
  dw k p := (m ((c : Thread nD τ).loc main_arg7) (ix2 k p)).toReal
  dn q e := (m ((c : Thread nD τ).loc main_arg8) (ix2 q e)).toReal

theorem reads_ins (h : Pre_FfnFIdeal_finite_ffnf m) (c : Dev nD) : Reads m c (ins m c) :=
  have ⟨f0, f1, f2, f3, f4, f5, f6, f7, f8⟩ := finite_args m h c
  ⟨fun r k => f0 (ix2 r k), fun k => f1 (ix1 k), fun k => f2 (ix1 k), fun k => f3 (ix1 k), fun k => f4 (ix1 k), fun k => f5 (ix1 k), fun k p => f6 (ix2 k p), fun k p => f7 (ix2 k p), fun q e => f8 (ix2 q e)⟩

end Cert.FfnFVal

namespace Cert.Proof

open Idealize.ShloMosaic Idealize.ShloMosaic.TcCoe Idealize.ShloMosaic.StableHlo Idealize.SL.Sem Cert.Reals Cert.FfnFVal

/-- The feed-forward sub-layer, forward: the residual stream after it, and the four arrays it saves. -/
theorem algebraic_FfnFIdeal_FfnFRefIdeal_pre_finite_ffnf : Cert.algebraic_FfnFIdeal_FfnFRefIdeal_pre_finite_ffnf := by
  intro m ρ m' ρ' hpre hagree
  refine ⟨_, _, _, _, _, run_results ρ (reads_ins m hpre), ?_⟩
  refine (θ_run Cert.FfnFRefIdeal.defs _ _).mono (fun _ h c => ⟨?_, ?_, ?_, ?_, ?_, (h c).2.2.2.2.2⟩) (Cert.FfnFRefIdeal.Value.run (F := Ideal) m' ρ')
  all_goals
    obtain ⟨a0, a1, a2, a3, a4, a5, a6, a7, a8⟩ := hagree c
    have A : RArgs m' c (ins m c) := by
      have B := reads_ins m hpre c
      exact ⟨fun r k => (congrFun a0 _).trans (B.a0 r k), fun k => (congrFun a1 _).trans (B.a1 k), fun k => (congrFun a2 _).trans (B.a2 k), fun k => (congrFun a3 _).trans (B.a3 k), fun k => (congrFun a4 _).trans (B.a4 k), fun k => (congrFun a5 _).trans (B.a5 k), fun k p => (congrFun a6 _).trans (B.a6 k p), fun k p => (congrFun a7 _).trans (B.a7 k p), fun q e => (congrFun a8 _).trans (B.a8 q e)⟩
  · exact (h c).1.trans ((res67 m' c).trans (final5 m (ins m) c _ (rxo_at A)).symm)
  · exact (h c).2.1.trans ((res50 m' c).trans (final6 m (ins m) c _ (ry_at A)).symm)
  · exact (h c).2.2.1.trans (Eq.trans (b := hm m' c) rfl (final7 m (ins m) c _ (hm_at A)).symm)
  · exact (h c).2.2.2.1.trans (Eq.trans (b := tT (am m' c)) rfl (final8 m (ins m) c _ (a_at A)).symm)
  · exact (h c).2.2.2.2.1.trans ((res74 m' c).trans (final9 m (ins m) c _ (cv_at A)).symm)

end Cert.Proof
-- ==== Proof.lean ====
module

public import proofs.«01_k».proof.Defs
public import proofs.«01_k».proof.Proof.Gen.Post.Frame
public import proofs.«01_k».proof.Proof.Gen.PostIdeal.Frame
public import proofs.«01_k».proof.Proof.Gen.PostRefIdeal.Run
public import proofs.«01_k».proof.Proof.Gen.PostIdeal.Value
public import proofs.«01_k».proof.Proof.Gen.Pre_finite_post
public import proofs.«01_k».proof.Proof.Post
public import proofs.«01_k».proof.Proof.Gen.Pre.Frame
public import proofs.«01_k».proof.Proof.Gen.PreIdeal.Frame
public import proofs.«01_k».proof.Proof.Gen.PreRefIdeal.Run
public import proofs.«01_k».proof.Proof.Gen.PreIdeal.Value
public import proofs.«01_k».proof.Proof.Gen.Pre_finite_pre
public import proofs.«01_k».proof.Proof.Pre
public import proofs.«01_k».proof.Proof.Gen.Loss.Frame
public import proofs.«01_k».proof.Proof.Gen.LossIdeal.Frame
public import proofs.«01_k».proof.Proof.Gen.LossRefIdeal.Run
public import proofs.«01_k».proof.Proof.Gen.Pre_finite_loss
public import proofs.«01_k».proof.Proof.Loss
public import proofs.«01_k».proof.Proof.Gen.Ada.Frame
public import proofs.«01_k».proof.Proof.Gen.AdaIdeal.Frame
public import proofs.«01_k».proof.Proof.Gen.AdaRefIdeal.Run
public import proofs.«01_k».proof.Proof.Gen.AdaIdeal.Value
public import proofs.«01_k».proof.Proof.Ada
public import proofs.«01_k».proof.Proof.Gen.Pool.Frame
public import proofs.«01_k».proof.Proof.Gen.PoolIdeal.Frame
public import proofs.«01_k».proof.Proof.Gen.PoolRefIdeal.Run
public import proofs.«01_k».proof.Proof.Gen.PoolIdeal.Value
public import proofs.«01_k».proof.Proof.Gen.Pre_finite_pool
public import proofs.«01_k».proof.Proof.Pool
public import proofs.«01_k».proof.Proof.Gen.Ffn
public import proofs.«01_k».proof.Proof.Gen.FfnRefIdeal.Run
public import proofs.«01_k».proof.Proof.Gen.Pre_finite_ffn
public import proofs.«01_k».proof.Proof.FfnFrame
public import proofs.«01_k».proof.Proof.Ffn
public import proofs.«01_k».proof.Proof.Gen.AdaF.Frame
public import proofs.«01_k».proof.Proof.Gen.AdaFIdeal.Frame
public import proofs.«01_k».proof.Proof.Gen.AdaFRefIdeal.Run
public import proofs.«01_k».proof.Proof.Gen.AdaFIdeal.Value
public import proofs.«01_k».proof.Proof.AdaF
public import proofs.«01_k».proof.Proof.Gen.PoolF.Frame
public import proofs.«01_k».proof.Proof.Gen.PoolFIdeal.Frame
public import proofs.«01_k».proof.Proof.Gen.PoolFRefIdeal.Run
public import proofs.«01_k».proof.Proof.Gen.PoolFIdeal.Value
public import proofs.«01_k».proof.Proof.Gen.Pre_finite_poolf
public import proofs.«01_k».proof.Proof.PoolF
public import proofs.«01_k».proof.Proof.Gen.FfnF
public import proofs.«01_k».proof.Proof.Gen.FfnFRefIdeal.Run
public import proofs.«01_k».proof.Proof.Gen.Pre_finite_ffnf
public import proofs.«01_k».proof.Proof.FfnFFrame
public import proofs.«01_k».proof.Proof.FfnF
public import Idealize.ShloMosaic.Lib.Quiescent
public import Idealize.ShloMosaic.Adequacy
public import Idealize.ShloMosaic.Init

@[expose] public section

noncomputable section

namespace Cert.Proof

open Idealize.ShloMosaic Idealize.SL.Sem

/-- The reference `PostRef` leaves its arguments and its counters as they should be. -/
theorem quiescent_PostRefIdeal : Cert.quiescent_PostRefIdeal := fun m ρ _ =>
  (θ_run Cert.PostRefIdeal.defs _ _).mono (fun r h => ⟨fun c => (h c).2.2, sem_eq_zero_of_no_sems (by decide) r.2⟩)
    (Cert.PostRefIdeal.Value.run (F := Ideal) m ρ)

/-- The reference `PreRef` leaves its arguments and its counters as they should be. -/
theorem quiescent_PreRefIdeal : Cert.quiescent_PreRefIdeal := fun m ρ _ =>
  (θ_run Cert.PreRefIdeal.defs _ _).mono (fun r h => ⟨fun c => (h c).2.2, sem_eq_zero_of_no_sems (by decide) r.2⟩)
    (Cert.PreRefIdeal.Value.run (F := Ideal) m ρ)

/-- The reference `LossRef` leaves its arguments and its counters as they should be. -/
theorem quiescent_LossRefIdeal : Cert.quiescent_LossRefIdeal := fun m ρ _ =>
  (θ_run Cert.LossRefIdeal.defs _ _).mono (fun r h => ⟨fun c => (h c).2.2.2.2, sem_eq_zero_of_no_sems (by decide) r.2⟩)
    (Cert.LossRefIdeal.Value.run (F := Ideal) m ρ)

/-- The reference `AdaRef` leaves its arguments and its counters as they should be. -/
theorem quiescent_AdaRefIdeal : Cert.quiescent_AdaRefIdeal := fun m ρ _ =>
  (θ_run Cert.AdaRefIdeal.defs _ _).mono (fun r h => ⟨fun c => (h c).2, sem_eq_zero_of_no_sems (by decide) r.2⟩)
    (Cert.AdaRefIdeal.Value.run (F := Ideal) m ρ)

/-- The reference `PoolRef` leaves its arguments and its counters as they should be. -/
theorem quiescent_PoolRefIdeal : Cert.quiescent_PoolRefIdeal := fun m ρ _ =>
  (θ_run Cert.PoolRefIdeal.defs _ _).mono (fun r h => ⟨fun c => (h c).2.2.2, sem_eq_zero_of_no_sems (by decide) r.2⟩)
    (Cert.PoolRefIdeal.Value.run (F := Ideal) m ρ)

/-- The reference `FfnRef` leaves its arguments and its counters as they should be. -/
theorem quiescent_FfnRefIdeal : Cert.quiescent_FfnRefIdeal := fun m ρ _ =>
  (θ_run Cert.FfnRefIdeal.defs _ _).mono (fun r h => ⟨fun c => (h c).2.2.2.2, sem_eq_zero_of_no_sems (by decide) r.2⟩)
    (Cert.FfnRefIdeal.Value.run (F := Ideal) m ρ)

/-- The reference `AdaFRef` leaves its arguments and its counters as they should be. -/
theorem quiescent_AdaFRefIdeal : Cert.quiescent_AdaFRefIdeal := fun m ρ _ =>
  (θ_run Cert.AdaFRefIdeal.defs _ _).mono (fun r h => ⟨fun c => (h c).2, sem_eq_zero_of_no_sems (by decide) r.2⟩)
    (Cert.AdaFRefIdeal.Value.run (F := Ideal) m ρ)

/-- The reference `PoolFRef` leaves its arguments and its counters as they should be. -/
theorem quiescent_PoolFRefIdeal : Cert.quiescent_PoolFRefIdeal := fun m ρ _ =>
  (θ_run Cert.PoolFRefIdeal.defs _ _).mono (fun r h => ⟨fun c => (h c).2.2, sem_eq_zero_of_no_sems (by decide) r.2⟩)
    (Cert.PoolFRefIdeal.Value.run (F := Ideal) m ρ)

/-- The reference `FfnFRef` leaves its arguments and its counters as they should be. -/
theorem quiescent_FfnFRefIdeal : Cert.quiescent_FfnFRefIdeal := fun m ρ _ =>
  (θ_run Cert.FfnFRefIdeal.defs _ _).mono (fun r h => ⟨fun c => (h c).2.2.2.2.2, sem_eq_zero_of_no_sems (by decide) r.2⟩)
    (Cert.FfnFRefIdeal.Value.run (F := Ideal) m ρ)

/-- The feed-forward program's text is the same at bits as at the reals, and so is its run. -/
theorem quiescent_Ffn : Cert.quiescent_Ffn := fun m ρ _ => by
  have h := Cert.FfnVal.ffn_frame (F := Bits) m ρ
  exact Eq.mp (by sl_kernel_rfl) h

/-- The same of the forward feed-forward program. -/
theorem quiescent_FfnF : Cert.quiescent_FfnF := fun m ρ _ => by
  have h := Cert.FfnFVal.ffn_frame (F := Bits) m ρ
  exact Eq.mp (by sl_kernel_rfl) h

theorem claim : Cert.Claim :=
  ⟨Cert.Post.Gen.facts, Cert.PostIdeal.Gen.facts, Cert.PostRefIdeal.Gen.facts, Cert.Pre.Gen.facts, Cert.PreIdeal.Gen.facts, Cert.PreRefIdeal.Gen.facts, Cert.Loss.Gen.facts, Cert.LossIdeal.Gen.facts, Cert.LossRefIdeal.Gen.facts, Cert.Ada.Gen.facts, Cert.AdaIdeal.Gen.facts, Cert.AdaRefIdeal.Gen.facts, Cert.Pool.Gen.facts, Cert.PoolIdeal.Gen.facts, Cert.PoolRefIdeal.Gen.facts, Cert.Ffn.Gen.facts, Cert.FfnIdeal.Gen.facts, Cert.FfnRefIdeal.Gen.facts, Cert.AdaF.Gen.facts, Cert.AdaFIdeal.Gen.facts, Cert.AdaFRefIdeal.Gen.facts, Cert.PoolF.Gen.facts, Cert.PoolFIdeal.Gen.facts, Cert.PoolFRefIdeal.Gen.facts, Cert.FfnF.Gen.facts, Cert.FfnFIdeal.Gen.facts, Cert.FfnFRefIdeal.Gen.facts, Cert.Pre_finite_post.Gen.facts, Cert.Pre_finite_pre.Gen.facts, Cert.Pre_finite_loss.Gen.facts, Cert.Pre_finite_pool.Gen.facts, Cert.Pre_finite_ffn.Gen.facts, Cert.Pre_finite_poolf.Gen.facts, Cert.Pre_finite_ffnf.Gen.facts,
    fun m ρ _ => Cert.Post.Gen.frame m ρ,
    fun m ρ _ => Cert.PostIdeal.Gen.frame m ρ,
    fun m ρ _ => Cert.PostIdeal.Gen.frame m ρ,
    quiescent_PostRefIdeal,
    fun m ρ _ => quiescent_PostRefIdeal m ρ trivial,
    fun m ρ _ => Cert.Pre.Gen.frame m ρ,
    fun m ρ _ => Cert.PreIdeal.Gen.frame m ρ,
    fun m ρ _ => Cert.PreIdeal.Gen.frame m ρ,
    quiescent_PreRefIdeal,
    fun m ρ _ => quiescent_PreRefIdeal m ρ trivial,
    fun m ρ _ => Cert.Loss.Gen.frame m ρ,
    fun m ρ _ => Cert.LossIdeal.Gen.frame m ρ,
    fun m ρ _ => Cert.LossIdeal.Gen.frame m ρ,
    quiescent_LossRefIdeal,
    fun m ρ _ => quiescent_LossRefIdeal m ρ trivial,
    fun m ρ _ => Cert.Ada.Gen.frame m ρ,
    fun m ρ _ => Cert.AdaIdeal.Gen.frame m ρ,
    quiescent_AdaRefIdeal,
    fun m ρ _ => Cert.Pool.Gen.frame m ρ,
    fun m ρ _ => Cert.PoolIdeal.Gen.frame m ρ,
    fun m ρ _ => Cert.PoolIdeal.Gen.frame m ρ,
    quiescent_PoolRefIdeal,
    fun m ρ _ => quiescent_PoolRefIdeal m ρ trivial,
    quiescent_Ffn,
    fun m ρ _ => Cert.FfnVal.ffn_frame m ρ,
    fun m ρ _ => Cert.FfnVal.ffn_frame m ρ,
    quiescent_FfnRefIdeal,
    fun m ρ _ => quiescent_FfnRefIdeal m ρ trivial,
    fun m ρ _ => Cert.AdaF.Gen.frame m ρ,
    fun m ρ _ => Cert.AdaFIdeal.Gen.frame m ρ,
    quiescent_AdaFRefIdeal,
    fun m ρ _ => Cert.PoolF.Gen.frame m ρ,
    fun m ρ _ => Cert.PoolFIdeal.Gen.frame m ρ,
    fun m ρ _ => Cert.PoolFIdeal.Gen.frame m ρ,
    quiescent_PoolFRefIdeal,
    fun m ρ _ => quiescent_PoolFRefIdeal m ρ trivial,
    quiescent_FfnF,
    fun m ρ _ => Cert.FfnFVal.ffn_frame m ρ,
    fun m ρ _ => Cert.FfnFVal.ffn_frame m ρ,
    quiescent_FfnFRefIdeal,
    fun m ρ _ => quiescent_FfnFRefIdeal m ρ trivial,
    trivial,
    algebraic_PostIdeal_PostRefIdeal_pre_finite_post,
    trivial,
    algebraic_PreIdeal_PreRefIdeal_pre_finite_pre,
    trivial,
    algebraic_LossIdeal_LossRefIdeal_pre_finite_loss,
    trivial,
    algebraic_AdaIdeal_AdaRefIdeal,
    trivial,
    algebraic_PoolIdeal_PoolRefIdeal_pre_finite_pool,
    trivial,
    algebraic_FfnIdeal_FfnRefIdeal_pre_finite_ffn,
    trivial,
    algebraic_AdaFIdeal_AdaFRefIdeal,
    trivial,
    algebraic_PoolFIdeal_PoolFRefIdeal_pre_finite_poolf,
    trivial,
    algebraic_FfnFIdeal_FfnFRefIdeal_pre_finite_ffnf⟩

end Cert.Proof

end
